-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).2.2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).2.2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_norm [hPre_finite_norm : Cert.Pre_finite_norm.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).2.2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).2.2.2 = (fun _ => 1#1)

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_ScBwd (m : (ℓ : Loc Cert.ScBwd.nD Cert.ScBwd.τ Cert.ScBwd.sig) → Buf (Elt Bits) ℓ) : Prop :=
  True

def Pre_ScBwdIdeal (m : (ℓ : Loc Cert.ScBwdIdeal.nD Cert.ScBwdIdeal.τ Cert.ScBwdIdeal.sig) → Buf (Elt Ideal) ℓ) : Prop :=
  True

def Pre_ScBwdRefIdeal (m : (ℓ : Loc Cert.ScBwdRefIdeal.nD Cert.ScBwdRefIdeal.τ Cert.ScBwdRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_ConfBwd (m : (ℓ : Loc Cert.ConfBwd.nD Cert.ConfBwd.τ Cert.ConfBwd.sig) → Buf (Elt Bits) ℓ) : Prop :=
  True

def Pre_ConfBwdIdeal (m : (ℓ : Loc Cert.ConfBwdIdeal.nD Cert.ConfBwdIdeal.τ Cert.ConfBwdIdeal.sig) → Buf (Elt Ideal) ℓ) : Prop :=
  True

def Pre_ConfBwdIdeal_finite_conf [hPre_finite_conf : Cert.Pre_finite_conf.Facts] (m : (ℓ : Loc Cert.ConfBwdIdeal.nD Cert.ConfBwdIdeal.τ Cert.ConfBwdIdeal.sig) → Buf (Elt Ideal) ℓ) : Prop :=
  ∀ c : Dev Cert.ConfBwdIdeal.nD,
    (Cert.Pre_finite_conf.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6)) (m ((c.tc : Thread Cert.ConfBwdIdeal.nD Cert.ConfBwdIdeal.τ).loc Cert.ConfBwdIdeal.main_arg7))).1 = (fun _ => 1#1)
    ∧ (Cert.Pre_finite_conf.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6)) (m ((c.tc : Thread Cert.ConfBwdIdeal.nD Cert.ConfBwdIdeal.τ).loc Cert.ConfBwdIdeal.main_arg7))).2.1 = (fun _ => 1#1)
    ∧ (Cert.Pre_finite_conf.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6)) (m ((c.tc : Thread Cert.ConfBwdIdeal.nD Cert.ConfBwdIdeal.τ).loc Cert.ConfBwdIdeal.main_arg7))).2.2.1 = (fun _ => 1#1)
    ∧ (Cert.Pre_finite_conf.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6)) (m ((c.tc : Thread Cert.ConfBwdIdeal.nD Cert.ConfBwdIdeal.τ).loc Cert.ConfBwdIdeal.main_arg7))).2.2.2.1 = (fun _ => 1#1)
    ∧ (Cert.Pre_finite_conf.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6)) (m ((c.tc : Thread Cert.ConfBwdIdeal.nD Cert.ConfBwdIdeal.τ).loc Cert.ConfBwdIdeal.main_arg7))).2.2.2.2 = (fun _ => 1#1)

def Pre_ConfBwdRefIdeal (m : (ℓ : Loc Cert.ConfBwdRefIdeal.nD Cert.ConfBwdRefIdeal.τ Cert.ConfBwdRefIdeal.sig) → Buf (Elt Ideal) ℓ) : Prop :=
  True

def Pre_ConfBwdRefIdeal_finite_conf [hPre_finite_conf : Cert.Pre_finite_conf.Facts] (m : (ℓ : Loc Cert.ConfBwdRefIdeal.nD Cert.ConfBwdRefIdeal.τ Cert.ConfBwdRefIdeal.sig) → Buf (Elt Ideal) ℓ) : Prop :=
  ∀ c : Dev Cert.ConfBwdRefIdeal.nD,
    (Cert.Pre_finite_conf.fn (F := Ideal) (m ((c.tc : Thread Cert.ConfBwdRefIdeal.nD Cert.ConfBwdRefIdeal.τ).loc Cert.ConfBwdRefIdeal.main_arg0)) (m ((c.tc : Thread Cert.ConfBwdRefIdeal.nD Cert.ConfBwdRefIdeal.τ).loc Cert.ConfBwdRefIdeal.main_arg1)) (m ((c.tc : Thread Cert.ConfBwdRefIdeal.nD Cert.ConfBwdRefIdeal.τ).loc Cert.ConfBwdRefIdeal.main_arg2)) (m ((c.tc : Thread Cert.ConfBwdRefIdeal.nD Cert.ConfBwdRefIdeal.τ).loc Cert.ConfBwdRefIdeal.main_arg3)) (m ((c.tc : Thread Cert.ConfBwdRefIdeal.nD Cert.ConfBwdRefIdeal.τ).loc Cert.ConfBwdRefIdeal.main_arg4)) (m ((c.tc : Thread Cert.ConfBwdRefIdeal.nD Cert.ConfBwdRefIdeal.τ).loc Cert.ConfBwdRefIdeal.main_arg5)) (m ((c.tc : Thread Cert.ConfBwdRefIdeal.nD Cert.ConfBwdRefIdeal.τ).loc Cert.ConfBwdRefIdeal.main_arg6)) (m ((c.tc : Thread Cert.ConfBwdRefIdeal.nD Cert.ConfBwdRefIdeal.τ).loc Cert.ConfBwdRefIdeal.main_arg7))).1 = (fun _ => 1#1)
    ∧ (Cert.Pre_finite_conf.fn (F := Ideal) (m ((c.tc : Thread Cert.ConfBwdRefIdeal.nD Cert.ConfBwdRefIdeal.τ).loc Cert.ConfBwdRefIdeal.main_arg0)) (m ((c.tc : Thread Cert.ConfBwdRefIdeal.nD Cert.ConfBwdRefIdeal.τ).loc Cert.ConfBwdRefIdeal.main_arg1)) (m ((c.tc : Thread Cert.ConfBwdRefIdeal.nD Cert.ConfBwdRefIdeal.τ).loc Cert.ConfBwdRefIdeal.main_arg2)) (m ((c.tc : Thread Cert.ConfBwdRefIdeal.nD Cert.ConfBwdRefIdeal.τ).loc Cert.ConfBwdRefIdeal.main_arg3)) (m ((c.tc : Thread Cert.ConfBwdRefIdeal.nD Cert.ConfBwdRefIdeal.τ).loc Cert.ConfBwdRefIdeal.main_arg4)) (m ((c.tc : Thread Cert.ConfBwdRefIdeal.nD Cert.ConfBwdRefIdeal.τ).loc Cert.ConfBwdRefIdeal.main_arg5)) (m ((c.tc : Thread Cert.ConfBwdRefIdeal.nD Cert.ConfBwdRefIdeal.τ).loc Cert.ConfBwdRefIdeal.main_arg6)) (m ((c.tc : Thread Cert.ConfBwdRefIdeal.nD Cert.ConfBwdRefIdeal.τ).loc Cert.ConfBwdRefIdeal.main_arg7))).2.1 = (fun _ => 1#1)
    ∧ (Cert.Pre_finite_conf.fn (F := Ideal) (m ((c.tc : Thread Cert.ConfBwdRefIdeal.nD Cert.ConfBwdRefIdeal.τ).loc Cert.ConfBwdRefIdeal.main_arg0)) (m ((c.tc : Thread Cert.ConfBwdRefIdeal.nD Cert.ConfBwdRefIdeal.τ).loc Cert.ConfBwdRefIdeal.main_arg1)) (m ((c.tc : Thread Cert.ConfBwdRefIdeal.nD Cert.ConfBwdRefIdeal.τ).loc Cert.ConfBwdRefIdeal.main_arg2)) (m ((c.tc : Thread Cert.ConfBwdRefIdeal.nD Cert.ConfBwdRefIdeal.τ).loc Cert.ConfBwdRefIdeal.main_arg3)) (m ((c.tc : Thread Cert.ConfBwdRefIdeal.nD Cert.ConfBwdRefIdeal.τ).loc Cert.ConfBwdRefIdeal.main_arg4)) (m ((c.tc : Thread Cert.ConfBwdRefIdeal.nD Cert.ConfBwdRefIdeal.τ).loc Cert.ConfBwdRefIdeal.main_arg5)) (m ((c.tc : Thread Cert.ConfBwdRefIdeal.nD Cert.ConfBwdRefIdeal.τ).loc Cert.ConfBwdRefIdeal.main_arg6)) (m ((c.tc : Thread Cert.ConfBwdRefIdeal.nD Cert.ConfBwdRefIdeal.τ).loc Cert.ConfBwdRefIdeal.main_arg7))).2.2.1 = (fun _ => 1#1)
    ∧ (Cert.Pre_finite_conf.fn (F := Ideal) (m ((c.tc : Thread Cert.ConfBwdRefIdeal.nD Cert.ConfBwdRefIdeal.τ).loc Cert.ConfBwdRefIdeal.main_arg0)) (m ((c.tc : Thread Cert.ConfBwdRefIdeal.nD Cert.ConfBwdRefIdeal.τ).loc Cert.ConfBwdRefIdeal.main_arg1)) (m ((c.tc : Thread Cert.ConfBwdRefIdeal.nD Cert.ConfBwdRefIdeal.τ).loc Cert.ConfBwdRefIdeal.main_arg2)) (m ((c.tc : Thread Cert.ConfBwdRefIdeal.nD Cert.ConfBwdRefIdeal.τ).loc Cert.ConfBwdRefIdeal.main_arg3)) (m ((c.tc : Thread Cert.ConfBwdRefIdeal.nD Cert.ConfBwdRefIdeal.τ).loc Cert.ConfBwdRefIdeal.main_arg4)) (m ((c.tc : Thread Cert.ConfBwdRefIdeal.nD Cert.ConfBwdRefIdeal.τ).loc Cert.ConfBwdRefIdeal.main_arg5)) (m ((c.tc : Thread Cert.ConfBwdRefIdeal.nD Cert.ConfBwdRefIdeal.τ).loc Cert.ConfBwdRefIdeal.main_arg6)) (m ((c.tc : Thread Cert.ConfBwdRefIdeal.nD Cert.ConfBwdRefIdeal.τ).loc Cert.ConfBwdRefIdeal.main_arg7))).2.2.2.1 = (fun _ => 1#1)
    ∧ (Cert.Pre_finite_conf.fn (F := Ideal) (m ((c.tc : Thread Cert.ConfBwdRefIdeal.nD Cert.ConfBwdRefIdeal.τ).loc Cert.ConfBwdRefIdeal.main_arg0)) (m ((c.tc : Thread Cert.ConfBwdRefIdeal.nD Cert.ConfBwdRefIdeal.τ).loc Cert.ConfBwdRefIdeal.main_arg1)) (m ((c.tc : Thread Cert.ConfBwdRefIdeal.nD Cert.ConfBwdRefIdeal.τ).loc Cert.ConfBwdRefIdeal.main_arg2)) (m ((c.tc : Thread Cert.ConfBwdRefIdeal.nD Cert.ConfBwdRefIdeal.τ).loc Cert.ConfBwdRefIdeal.main_arg3)) (m ((c.tc : Thread Cert.ConfBwdRefIdeal.nD Cert.ConfBwdRefIdeal.τ).loc Cert.ConfBwdRefIdeal.main_arg4)) (m ((c.tc : Thread Cert.ConfBwdRefIdeal.nD Cert.ConfBwdRefIdeal.τ).loc Cert.ConfBwdRefIdeal.main_arg5)) (m ((c.tc : Thread Cert.ConfBwdRefIdeal.nD Cert.ConfBwdRefIdeal.τ).loc Cert.ConfBwdRefIdeal.main_arg6)) (m ((c.tc : Thread Cert.ConfBwdRefIdeal.nD Cert.ConfBwdRefIdeal.τ).loc Cert.ConfBwdRefIdeal.main_arg7))).2.2.2.2 = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_ScFwd (m : (ℓ : Loc Cert.ScFwd.nD Cert.ScFwd.τ Cert.ScFwd.sig) → Buf (Elt Bits) ℓ) : Prop :=
  True

def Pre_ScFwdIdeal (m : (ℓ : Loc Cert.ScFwdIdeal.nD Cert.ScFwdIdeal.τ Cert.ScFwdIdeal.sig) → Buf (Elt Ideal) ℓ) : Prop :=
  True

def Pre_ScFwdRefIdeal (m : (ℓ : Loc Cert.ScFwdRefIdeal.nD Cert.ScFwdRefIdeal.τ Cert.ScFwdRefIdeal.sig) → Buf (Elt Ideal) ℓ) : Prop :=
  True

def Pre_SsdPreFwd (m : (ℓ : Loc Cert.SsdPreFwd.nD Cert.SsdPreFwd.τ Cert.SsdPreFwd.sig) → Buf (Elt Bits) ℓ) : Prop :=
  True

def Pre_SsdPreFwdIdeal (m : (ℓ : Loc Cert.SsdPreFwdIdeal.nD Cert.SsdPreFwdIdeal.τ Cert.SsdPreFwdIdeal.sig) → Buf (Elt Ideal) ℓ) : Prop :=
  True

def Pre_SsdPreFwdRefIdeal (m : (ℓ : Loc Cert.SsdPreFwdRefIdeal.nD Cert.SsdPreFwdRefIdeal.τ Cert.SsdPreFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3)
      ∧ r.2.mem ((c.tc : Thread Cert.AdamVec.nD Cert.AdamVec.τ).loc Cert.AdamVec.main_arg4) = m ((c.tc : Thread Cert.AdamVec.nD Cert.AdamVec.τ).loc Cert.AdamVec.main_arg4)
      ∧ r.2.mem ((c.tc : Thread Cert.AdamVec.nD Cert.AdamVec.τ).loc Cert.AdamVec.main_arg5) = m ((c.tc : Thread Cert.AdamVec.nD Cert.AdamVec.τ).loc Cert.AdamVec.main_arg5)
      ∧ r.2.mem ((c.tc : Thread Cert.AdamVec.nD Cert.AdamVec.τ).loc Cert.AdamVec.main_arg6) = m ((c.tc : Thread Cert.AdamVec.nD Cert.AdamVec.τ).loc Cert.AdamVec.main_arg6)
      ∧ r.2.mem ((c.tc : Thread Cert.AdamVec.nD Cert.AdamVec.τ).loc Cert.AdamVec.main_arg7) = m ((c.tc : Thread Cert.AdamVec.nD Cert.AdamVec.τ).loc Cert.AdamVec.main_arg7)
      ∧ r.2.mem ((c.tc : Thread Cert.AdamVec.nD Cert.AdamVec.τ).loc Cert.AdamVec.main_arg8) = m ((c.tc : Thread Cert.AdamVec.nD Cert.AdamVec.τ).loc Cert.AdamVec.main_arg8)
      ∧ r.2.mem ((c.tc : Thread Cert.AdamVec.nD Cert.AdamVec.τ).loc Cert.AdamVec.main_arg9) = m ((c.tc : Thread Cert.AdamVec.nD Cert.AdamVec.τ).loc Cert.AdamVec.main_arg9)
      ∧ r.2.mem ((c.tc : Thread Cert.AdamVec.nD Cert.AdamVec.τ).loc Cert.AdamVec.main_arg10) = m ((c.tc : Thread Cert.AdamVec.nD Cert.AdamVec.τ).loc Cert.AdamVec.main_arg10)
      ∧ r.2.mem ((c.tc : Thread Cert.AdamVec.nD Cert.AdamVec.τ).loc Cert.AdamVec.main_arg11) = m ((c.tc : Thread Cert.AdamVec.nD Cert.AdamVec.τ).loc Cert.AdamVec.main_arg11)
      ∧ r.2.mem ((c.tc : Thread Cert.AdamVec.nD Cert.AdamVec.τ).loc Cert.AdamVec.main_arg12) = m ((c.tc : Thread Cert.AdamVec.nD Cert.AdamVec.τ).loc Cert.AdamVec.main_arg12)
      ∧ r.2.mem ((c.tc : Thread Cert.AdamVec.nD Cert.AdamVec.τ).loc Cert.AdamVec.main_arg13) = m ((c.tc : Thread Cert.AdamVec.nD Cert.AdamVec.τ).loc Cert.AdamVec.main_arg13)
      ∧ r.2.mem ((c.tc : Thread Cert.AdamVec.nD Cert.AdamVec.τ).loc Cert.AdamVec.main_arg14) = m ((c.tc : Thread Cert.AdamVec.nD Cert.AdamVec.τ).loc Cert.AdamVec.main_arg14)
      ∧ r.2.mem ((c.tc : Thread Cert.AdamVec.nD Cert.AdamVec.τ).loc Cert.AdamVec.main_arg15) = m ((c.tc : Thread Cert.AdamVec.nD Cert.AdamVec.τ).loc Cert.AdamVec.main_arg15))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3)
      ∧ r.2.mem ((c.tc : Thread Cert.AdamVecIdeal.nD Cert.AdamVecIdeal.τ).loc Cert.AdamVecIdeal.main_arg4) = m ((c.tc : Thread Cert.AdamVecIdeal.nD Cert.AdamVecIdeal.τ).loc Cert.AdamVecIdeal.main_arg4)
      ∧ r.2.mem ((c.tc : Thread Cert.AdamVecIdeal.nD Cert.AdamVecIdeal.τ).loc Cert.AdamVecIdeal.main_arg5) = m ((c.tc : Thread Cert.AdamVecIdeal.nD Cert.AdamVecIdeal.τ).loc Cert.AdamVecIdeal.main_arg5)
      ∧ r.2.mem ((c.tc : Thread Cert.AdamVecIdeal.nD Cert.AdamVecIdeal.τ).loc Cert.AdamVecIdeal.main_arg6) = m ((c.tc : Thread Cert.AdamVecIdeal.nD Cert.AdamVecIdeal.τ).loc Cert.AdamVecIdeal.main_arg6)
      ∧ r.2.mem ((c.tc : Thread Cert.AdamVecIdeal.nD Cert.AdamVecIdeal.τ).loc Cert.AdamVecIdeal.main_arg7) = m ((c.tc : Thread Cert.AdamVecIdeal.nD Cert.AdamVecIdeal.τ).loc Cert.AdamVecIdeal.main_arg7)
      ∧ r.2.mem ((c.tc : Thread Cert.AdamVecIdeal.nD Cert.AdamVecIdeal.τ).loc Cert.AdamVecIdeal.main_arg8) = m ((c.tc : Thread Cert.AdamVecIdeal.nD Cert.AdamVecIdeal.τ).loc Cert.AdamVecIdeal.main_arg8)
      ∧ r.2.mem ((c.tc : Thread Cert.AdamVecIdeal.nD Cert.AdamVecIdeal.τ).loc Cert.AdamVecIdeal.main_arg9) = m ((c.tc : Thread Cert.AdamVecIdeal.nD Cert.AdamVecIdeal.τ).loc Cert.AdamVecIdeal.main_arg9)
      ∧ r.2.mem ((c.tc : Thread Cert.AdamVecIdeal.nD Cert.AdamVecIdeal.τ).loc Cert.AdamVecIdeal.main_arg10) = m ((c.tc : Thread Cert.AdamVecIdeal.nD Cert.AdamVecIdeal.τ).loc Cert.AdamVecIdeal.main_arg10)
      ∧ r.2.mem ((c.tc : Thread Cert.AdamVecIdeal.nD Cert.AdamVecIdeal.τ).loc Cert.AdamVecIdeal.main_arg11) = m ((c.tc : Thread Cert.AdamVecIdeal.nD Cert.AdamVecIdeal.τ).loc Cert.AdamVecIdeal.main_arg11)
      ∧ r.2.mem ((c.tc : Thread Cert.AdamVecIdeal.nD Cert.AdamVecIdeal.τ).loc Cert.AdamVecIdeal.main_arg12) = m ((c.tc : Thread Cert.AdamVecIdeal.nD Cert.AdamVecIdeal.τ).loc Cert.AdamVecIdeal.main_arg12)
      ∧ r.2.mem ((c.tc : Thread Cert.AdamVecIdeal.nD Cert.AdamVecIdeal.τ).loc Cert.AdamVecIdeal.main_arg13) = m ((c.tc : Thread Cert.AdamVecIdeal.nD Cert.AdamVecIdeal.τ).loc Cert.AdamVecIdeal.main_arg13)
      ∧ r.2.mem ((c.tc : Thread Cert.AdamVecIdeal.nD Cert.AdamVecIdeal.τ).loc Cert.AdamVecIdeal.main_arg14) = m ((c.tc : Thread Cert.AdamVecIdeal.nD Cert.AdamVecIdeal.τ).loc Cert.AdamVecIdeal.main_arg14)
      ∧ r.2.mem ((c.tc : Thread Cert.AdamVecIdeal.nD Cert.AdamVecIdeal.τ).loc Cert.AdamVecIdeal.main_arg15) = m ((c.tc : Thread Cert.AdamVecIdeal.nD Cert.AdamVecIdeal.τ).loc Cert.AdamVecIdeal.main_arg15))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3)
      ∧ r.2.mem ((c.tc : Thread Cert.AdamVecRefIdeal.nD Cert.AdamVecRefIdeal.τ).loc Cert.AdamVecRefIdeal.main_arg4) = m ((c.tc : Thread Cert.AdamVecRefIdeal.nD Cert.AdamVecRefIdeal.τ).loc Cert.AdamVecRefIdeal.main_arg4)
      ∧ r.2.mem ((c.tc : Thread Cert.AdamVecRefIdeal.nD Cert.AdamVecRefIdeal.τ).loc Cert.AdamVecRefIdeal.main_arg5) = m ((c.tc : Thread Cert.AdamVecRefIdeal.nD Cert.AdamVecRefIdeal.τ).loc Cert.AdamVecRefIdeal.main_arg5)
      ∧ r.2.mem ((c.tc : Thread Cert.AdamVecRefIdeal.nD Cert.AdamVecRefIdeal.τ).loc Cert.AdamVecRefIdeal.main_arg6) = m ((c.tc : Thread Cert.AdamVecRefIdeal.nD Cert.AdamVecRefIdeal.τ).loc Cert.AdamVecRefIdeal.main_arg6)
      ∧ r.2.mem ((c.tc : Thread Cert.AdamVecRefIdeal.nD Cert.AdamVecRefIdeal.τ).loc Cert.AdamVecRefIdeal.main_arg7) = m ((c.tc : Thread Cert.AdamVecRefIdeal.nD Cert.AdamVecRefIdeal.τ).loc Cert.AdamVecRefIdeal.main_arg7)
      ∧ r.2.mem ((c.tc : Thread Cert.AdamVecRefIdeal.nD Cert.AdamVecRefIdeal.τ).loc Cert.AdamVecRefIdeal.main_arg8) = m ((c.tc : Thread Cert.AdamVecRefIdeal.nD Cert.AdamVecRefIdeal.τ).loc Cert.AdamVecRefIdeal.main_arg8)
      ∧ r.2.mem ((c.tc : Thread Cert.AdamVecRefIdeal.nD Cert.AdamVecRefIdeal.τ).loc Cert.AdamVecRefIdeal.main_arg9) = m ((c.tc : Thread Cert.AdamVecRefIdeal.nD Cert.AdamVecRefIdeal.τ).loc Cert.AdamVecRefIdeal.main_arg9)
      ∧ r.2.mem ((c.tc : Thread Cert.AdamVecRefIdeal.nD Cert.AdamVecRefIdeal.τ).loc Cert.AdamVecRefIdeal.main_arg10) = m ((c.tc : Thread Cert.AdamVecRefIdeal.nD Cert.AdamVecRefIdeal.τ).loc Cert.AdamVecRefIdeal.main_arg10)
      ∧ r.2.mem ((c.tc : Thread Cert.AdamVecRefIdeal.nD Cert.AdamVecRefIdeal.τ).loc Cert.AdamVecRefIdeal.main_arg11) = m ((c.tc : Thread Cert.AdamVecRefIdeal.nD Cert.AdamVecRefIdeal.τ).loc Cert.AdamVecRefIdeal.main_arg11)
      ∧ r.2.mem ((c.tc : Thread Cert.AdamVecRefIdeal.nD Cert.AdamVecRefIdeal.τ).loc Cert.AdamVecRefIdeal.main_arg12) = m ((c.tc : Thread Cert.AdamVecRefIdeal.nD Cert.AdamVecRefIdeal.τ).loc Cert.AdamVecRefIdeal.main_arg12)
      ∧ r.2.mem ((c.tc : Thread Cert.AdamVecRefIdeal.nD Cert.AdamVecRefIdeal.τ).loc Cert.AdamVecRefIdeal.main_arg13) = m ((c.tc : Thread Cert.AdamVecRefIdeal.nD Cert.AdamVecRefIdeal.τ).loc Cert.AdamVecRefIdeal.main_arg13)
      ∧ r.2.mem ((c.tc : Thread Cert.AdamVecRefIdeal.nD Cert.AdamVecRefIdeal.τ).loc Cert.AdamVecRefIdeal.main_arg14) = m ((c.tc : Thread Cert.AdamVecRefIdeal.nD Cert.AdamVecRefIdeal.τ).loc Cert.AdamVecRefIdeal.main_arg14)
      ∧ r.2.mem ((c.tc : Thread Cert.AdamVecRefIdeal.nD Cert.AdamVecRefIdeal.τ).loc Cert.AdamVecRefIdeal.main_arg15) = m ((c.tc : Thread Cert.AdamVecRefIdeal.nD Cert.AdamVecRefIdeal.τ).loc Cert.AdamVecRefIdeal.main_arg15))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3)
      ∧ r.2.mem ((c.tc : Thread Cert.AdamBias.nD Cert.AdamBias.τ).loc Cert.AdamBias.main_arg4) = m ((c.tc : Thread Cert.AdamBias.nD Cert.AdamBias.τ).loc Cert.AdamBias.main_arg4)
      ∧ r.2.mem ((c.tc : Thread Cert.AdamBias.nD Cert.AdamBias.τ).loc Cert.AdamBias.main_arg5) = m ((c.tc : Thread Cert.AdamBias.nD Cert.AdamBias.τ).loc Cert.AdamBias.main_arg5)
      ∧ r.2.mem ((c.tc : Thread Cert.AdamBias.nD Cert.AdamBias.τ).loc Cert.AdamBias.main_arg6) = m ((c.tc : Thread Cert.AdamBias.nD Cert.AdamBias.τ).loc Cert.AdamBias.main_arg6)
      ∧ r.2.mem ((c.tc : Thread Cert.AdamBias.nD Cert.AdamBias.τ).loc Cert.AdamBias.main_arg7) = m ((c.tc : Thread Cert.AdamBias.nD Cert.AdamBias.τ).loc Cert.AdamBias.main_arg7)
      ∧ r.2.mem ((c.tc : Thread Cert.AdamBias.nD Cert.AdamBias.τ).loc Cert.AdamBias.main_arg8) = m ((c.tc : Thread Cert.AdamBias.nD Cert.AdamBias.τ).loc Cert.AdamBias.main_arg8)
      ∧ r.2.mem ((c.tc : Thread Cert.AdamBias.nD Cert.AdamBias.τ).loc Cert.AdamBias.main_arg9) = m ((c.tc : Thread Cert.AdamBias.nD Cert.AdamBias.τ).loc Cert.AdamBias.main_arg9)
      ∧ r.2.mem ((c.tc : Thread Cert.AdamBias.nD Cert.AdamBias.τ).loc Cert.AdamBias.main_arg10) = m ((c.tc : Thread Cert.AdamBias.nD Cert.AdamBias.τ).loc Cert.AdamBias.main_arg10)
      ∧ r.2.mem ((c.tc : Thread Cert.AdamBias.nD Cert.AdamBias.τ).loc Cert.AdamBias.main_arg11) = m ((c.tc : Thread Cert.AdamBias.nD Cert.AdamBias.τ).loc Cert.AdamBias.main_arg11))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3)
      ∧ r.2.mem ((c.tc : Thread Cert.AdamBiasIdeal.nD Cert.AdamBiasIdeal.τ).loc Cert.AdamBiasIdeal.main_arg4) = m ((c.tc : Thread Cert.AdamBiasIdeal.nD Cert.AdamBiasIdeal.τ).loc Cert.AdamBiasIdeal.main_arg4)
      ∧ r.2.mem ((c.tc : Thread Cert.AdamBiasIdeal.nD Cert.AdamBiasIdeal.τ).loc Cert.AdamBiasIdeal.main_arg5) = m ((c.tc : Thread Cert.AdamBiasIdeal.nD Cert.AdamBiasIdeal.τ).loc Cert.AdamBiasIdeal.main_arg5)
      ∧ r.2.mem ((c.tc : Thread Cert.AdamBiasIdeal.nD Cert.AdamBiasIdeal.τ).loc Cert.AdamBiasIdeal.main_arg6) = m ((c.tc : Thread Cert.AdamBiasIdeal.nD Cert.AdamBiasIdeal.τ).loc Cert.AdamBiasIdeal.main_arg6)
      ∧ r.2.mem ((c.tc : Thread Cert.AdamBiasIdeal.nD Cert.AdamBiasIdeal.τ).loc Cert.AdamBiasIdeal.main_arg7) = m ((c.tc : Thread Cert.AdamBiasIdeal.nD Cert.AdamBiasIdeal.τ).loc Cert.AdamBiasIdeal.main_arg7)
      ∧ r.2.mem ((c.tc : Thread Cert.AdamBiasIdeal.nD Cert.AdamBiasIdeal.τ).loc Cert.AdamBiasIdeal.main_arg8) = m ((c.tc : Thread Cert.AdamBiasIdeal.nD Cert.AdamBiasIdeal.τ).loc Cert.AdamBiasIdeal.main_arg8)
      ∧ r.2.mem ((c.tc : Thread Cert.AdamBiasIdeal.nD Cert.AdamBiasIdeal.τ).loc Cert.AdamBiasIdeal.main_arg9) = m ((c.tc : Thread Cert.AdamBiasIdeal.nD Cert.AdamBiasIdeal.τ).loc Cert.AdamBiasIdeal.main_arg9)
      ∧ r.2.mem ((c.tc : Thread Cert.AdamBiasIdeal.nD Cert.AdamBiasIdeal.τ).loc Cert.AdamBiasIdeal.main_arg10) = m ((c.tc : Thread Cert.AdamBiasIdeal.nD Cert.AdamBiasIdeal.τ).loc Cert.AdamBiasIdeal.main_arg10)
      ∧ r.2.mem ((c.tc : Thread Cert.AdamBiasIdeal.nD Cert.AdamBiasIdeal.τ).loc Cert.AdamBiasIdeal.main_arg11) = m ((c.tc : Thread Cert.AdamBiasIdeal.nD Cert.AdamBiasIdeal.τ).loc Cert.AdamBiasIdeal.main_arg11))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3)
      ∧ r.2.mem ((c.tc : Thread Cert.AdamBiasRefIdeal.nD Cert.AdamBiasRefIdeal.τ).loc Cert.AdamBiasRefIdeal.main_arg4) = m ((c.tc : Thread Cert.AdamBiasRefIdeal.nD Cert.AdamBiasRefIdeal.τ).loc Cert.AdamBiasRefIdeal.main_arg4)
      ∧ r.2.mem ((c.tc : Thread Cert.AdamBiasRefIdeal.nD Cert.AdamBiasRefIdeal.τ).loc Cert.AdamBiasRefIdeal.main_arg5) = m ((c.tc : Thread Cert.AdamBiasRefIdeal.nD Cert.AdamBiasRefIdeal.τ).loc Cert.AdamBiasRefIdeal.main_arg5)
      ∧ r.2.mem ((c.tc : Thread Cert.AdamBiasRefIdeal.nD Cert.AdamBiasRefIdeal.τ).loc Cert.AdamBiasRefIdeal.main_arg6) = m ((c.tc : Thread Cert.AdamBiasRefIdeal.nD Cert.AdamBiasRefIdeal.τ).loc Cert.AdamBiasRefIdeal.main_arg6)
      ∧ r.2.mem ((c.tc : Thread Cert.AdamBiasRefIdeal.nD Cert.AdamBiasRefIdeal.τ).loc Cert.AdamBiasRefIdeal.main_arg7) = m ((c.tc : Thread Cert.AdamBiasRefIdeal.nD Cert.AdamBiasRefIdeal.τ).loc Cert.AdamBiasRefIdeal.main_arg7)
      ∧ r.2.mem ((c.tc : Thread Cert.AdamBiasRefIdeal.nD Cert.AdamBiasRefIdeal.τ).loc Cert.AdamBiasRefIdeal.main_arg8) = m ((c.tc : Thread Cert.AdamBiasRefIdeal.nD Cert.AdamBiasRefIdeal.τ).loc Cert.AdamBiasRefIdeal.main_arg8)
      ∧ r.2.mem ((c.tc : Thread Cert.AdamBiasRefIdeal.nD Cert.AdamBiasRefIdeal.τ).loc Cert.AdamBiasRefIdeal.main_arg9) = m ((c.tc : Thread Cert.AdamBiasRefIdeal.nD Cert.AdamBiasRefIdeal.τ).loc Cert.AdamBiasRefIdeal.main_arg9)
      ∧ r.2.mem ((c.tc : Thread Cert.AdamBiasRefIdeal.nD Cert.AdamBiasRefIdeal.τ).loc Cert.AdamBiasRefIdeal.main_arg10) = m ((c.tc : Thread Cert.AdamBiasRefIdeal.nD Cert.AdamBiasRefIdeal.τ).loc Cert.AdamBiasRefIdeal.main_arg10)
      ∧ r.2.mem ((c.tc : Thread Cert.AdamBiasRefIdeal.nD Cert.AdamBiasRefIdeal.τ).loc Cert.AdamBiasRefIdeal.main_arg11) = m ((c.tc : Thread Cert.AdamBiasRefIdeal.nD Cert.AdamBiasRefIdeal.τ).loc Cert.AdamBiasRefIdeal.main_arg11))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4)
      ∧ r.2.mem ((c.tc : Thread Cert.AdamConv.nD Cert.AdamConv.τ).loc Cert.AdamConv.main_arg5) = m ((c.tc : Thread Cert.AdamConv.nD Cert.AdamConv.τ).loc Cert.AdamConv.main_arg5)
      ∧ r.2.mem ((c.tc : Thread Cert.AdamConv.nD Cert.AdamConv.τ).loc Cert.AdamConv.main_arg6) = m ((c.tc : Thread Cert.AdamConv.nD Cert.AdamConv.τ).loc Cert.AdamConv.main_arg6)
      ∧ r.2.mem ((c.tc : Thread Cert.AdamConv.nD Cert.AdamConv.τ).loc Cert.AdamConv.main_arg7) = m ((c.tc : Thread Cert.AdamConv.nD Cert.AdamConv.τ).loc Cert.AdamConv.main_arg7)
      ∧ r.2.mem ((c.tc : Thread Cert.AdamConv.nD Cert.AdamConv.τ).loc Cert.AdamConv.main_arg8) = m ((c.tc : Thread Cert.AdamConv.nD Cert.AdamConv.τ).loc Cert.AdamConv.main_arg8)
      ∧ r.2.mem ((c.tc : Thread Cert.AdamConv.nD Cert.AdamConv.τ).loc Cert.AdamConv.main_arg9) = m ((c.tc : Thread Cert.AdamConv.nD Cert.AdamConv.τ).loc Cert.AdamConv.main_arg9)
      ∧ r.2.mem ((c.tc : Thread Cert.AdamConv.nD Cert.AdamConv.τ).loc Cert.AdamConv.main_arg10) = m ((c.tc : Thread Cert.AdamConv.nD Cert.AdamConv.τ).loc Cert.AdamConv.main_arg10)
      ∧ r.2.mem ((c.tc : Thread Cert.AdamConv.nD Cert.AdamConv.τ).loc Cert.AdamConv.main_arg11) = m ((c.tc : Thread Cert.AdamConv.nD Cert.AdamConv.τ).loc Cert.AdamConv.main_arg11)
      ∧ r.2.mem ((c.tc : Thread Cert.AdamConv.nD Cert.AdamConv.τ).loc Cert.AdamConv.main_arg12) = m ((c.tc : Thread Cert.AdamConv.nD Cert.AdamConv.τ).loc Cert.AdamConv.main_arg12)
      ∧ r.2.mem ((c.tc : Thread Cert.AdamConv.nD Cert.AdamConv.τ).loc Cert.AdamConv.main_arg13) = m ((c.tc : Thread Cert.AdamConv.nD Cert.AdamConv.τ).loc Cert.AdamConv.main_arg13)
      ∧ r.2.mem ((c.tc : Thread Cert.AdamConv.nD Cert.AdamConv.τ).loc Cert.AdamConv.main_arg14) = m ((c.tc : Thread Cert.AdamConv.nD Cert.AdamConv.τ).loc Cert.AdamConv.main_arg14)
      ∧ r.2.mem ((c.tc : Thread Cert.AdamConv.nD Cert.AdamConv.τ).loc Cert.AdamConv.main_arg15) = m ((c.tc : Thread Cert.AdamConv.nD Cert.AdamConv.τ).loc Cert.AdamConv.main_arg15))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4)
      ∧ r.2.mem ((c.tc : Thread Cert.AdamConvIdeal.nD Cert.AdamConvIdeal.τ).loc Cert.AdamConvIdeal.main_arg5) = m ((c.tc : Thread Cert.AdamConvIdeal.nD Cert.AdamConvIdeal.τ).loc Cert.AdamConvIdeal.main_arg5)
      ∧ r.2.mem ((c.tc : Thread Cert.AdamConvIdeal.nD Cert.AdamConvIdeal.τ).loc Cert.AdamConvIdeal.main_arg6) = m ((c.tc : Thread Cert.AdamConvIdeal.nD Cert.AdamConvIdeal.τ).loc Cert.AdamConvIdeal.main_arg6)
      ∧ r.2.mem ((c.tc : Thread Cert.AdamConvIdeal.nD Cert.AdamConvIdeal.τ).loc Cert.AdamConvIdeal.main_arg7) = m ((c.tc : Thread Cert.AdamConvIdeal.nD Cert.AdamConvIdeal.τ).loc Cert.AdamConvIdeal.main_arg7)
      ∧ r.2.mem ((c.tc : Thread Cert.AdamConvIdeal.nD Cert.AdamConvIdeal.τ).loc Cert.AdamConvIdeal.main_arg8) = m ((c.tc : Thread Cert.AdamConvIdeal.nD Cert.AdamConvIdeal.τ).loc Cert.AdamConvIdeal.main_arg8)
      ∧ r.2.mem ((c.tc : Thread Cert.AdamConvIdeal.nD Cert.AdamConvIdeal.τ).loc Cert.AdamConvIdeal.main_arg9) = m ((c.tc : Thread Cert.AdamConvIdeal.nD Cert.AdamConvIdeal.τ).loc Cert.AdamConvIdeal.main_arg9)
      ∧ r.2.mem ((c.tc : Thread Cert.AdamConvIdeal.nD Cert.AdamConvIdeal.τ).loc Cert.AdamConvIdeal.main_arg10) = m ((c.tc : Thread Cert.AdamConvIdeal.nD Cert.AdamConvIdeal.τ).loc Cert.AdamConvIdeal.main_arg10)
      ∧ r.2.mem ((c.tc : Thread Cert.AdamConvIdeal.nD Cert.AdamConvIdeal.τ).loc Cert.AdamConvIdeal.main_arg11) = m ((c.tc : Thread Cert.AdamConvIdeal.nD Cert.AdamConvIdeal.τ).loc Cert.AdamConvIdeal.main_arg11)
      ∧ r.2.mem ((c.tc : Thread Cert.AdamConvIdeal.nD Cert.AdamConvIdeal.τ).loc Cert.AdamConvIdeal.main_arg12) = m ((c.tc : Thread Cert.AdamConvIdeal.nD Cert.AdamConvIdeal.τ).loc Cert.AdamConvIdeal.main_arg12)
      ∧ r.2.mem ((c.tc : Thread Cert.AdamConvIdeal.nD Cert.AdamConvIdeal.τ).loc Cert.AdamConvIdeal.main_arg13) = m ((c.tc : Thread Cert.AdamConvIdeal.nD Cert.AdamConvIdeal.τ).loc Cert.AdamConvIdeal.main_arg13)
      ∧ r.2.mem ((c.tc : Thread Cert.AdamConvIdeal.nD Cert.AdamConvIdeal.τ).loc Cert.AdamConvIdeal.main_arg14) = m ((c.tc : Thread Cert.AdamConvIdeal.nD Cert.AdamConvIdeal.τ).loc Cert.AdamConvIdeal.main_arg14)
      ∧ r.2.mem ((c.tc : Thread Cert.AdamConvIdeal.nD Cert.AdamConvIdeal.τ).loc Cert.AdamConvIdeal.main_arg15) = m ((c.tc : Thread Cert.AdamConvIdeal.nD Cert.AdamConvIdeal.τ).loc Cert.AdamConvIdeal.main_arg15))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4)
      ∧ r.2.mem ((c.tc : Thread Cert.AdamConvRefIdeal.nD Cert.AdamConvRefIdeal.τ).loc Cert.AdamConvRefIdeal.main_arg5) = m ((c.tc : Thread Cert.AdamConvRefIdeal.nD Cert.AdamConvRefIdeal.τ).loc Cert.AdamConvRefIdeal.main_arg5)
      ∧ r.2.mem ((c.tc : Thread Cert.AdamConvRefIdeal.nD Cert.AdamConvRefIdeal.τ).loc Cert.AdamConvRefIdeal.main_arg6) = m ((c.tc : Thread Cert.AdamConvRefIdeal.nD Cert.AdamConvRefIdeal.τ).loc Cert.AdamConvRefIdeal.main_arg6)
      ∧ r.2.mem ((c.tc : Thread Cert.AdamConvRefIdeal.nD Cert.AdamConvRefIdeal.τ).loc Cert.AdamConvRefIdeal.main_arg7) = m ((c.tc : Thread Cert.AdamConvRefIdeal.nD Cert.AdamConvRefIdeal.τ).loc Cert.AdamConvRefIdeal.main_arg7)
      ∧ r.2.mem ((c.tc : Thread Cert.AdamConvRefIdeal.nD Cert.AdamConvRefIdeal.τ).loc Cert.AdamConvRefIdeal.main_arg8) = m ((c.tc : Thread Cert.AdamConvRefIdeal.nD Cert.AdamConvRefIdeal.τ).loc Cert.AdamConvRefIdeal.main_arg8)
      ∧ r.2.mem ((c.tc : Thread Cert.AdamConvRefIdeal.nD Cert.AdamConvRefIdeal.τ).loc Cert.AdamConvRefIdeal.main_arg9) = m ((c.tc : Thread Cert.AdamConvRefIdeal.nD Cert.AdamConvRefIdeal.τ).loc Cert.AdamConvRefIdeal.main_arg9)
      ∧ r.2.mem ((c.tc : Thread Cert.AdamConvRefIdeal.nD Cert.AdamConvRefIdeal.τ).loc Cert.AdamConvRefIdeal.main_arg10) = m ((c.tc : Thread Cert.AdamConvRefIdeal.nD Cert.AdamConvRefIdeal.τ).loc Cert.AdamConvRefIdeal.main_arg10)
      ∧ r.2.mem ((c.tc : Thread Cert.AdamConvRefIdeal.nD Cert.AdamConvRefIdeal.τ).loc Cert.AdamConvRefIdeal.main_arg11) = m ((c.tc : Thread Cert.AdamConvRefIdeal.nD Cert.AdamConvRefIdeal.τ).loc Cert.AdamConvRefIdeal.main_arg11)
      ∧ r.2.mem ((c.tc : Thread Cert.AdamConvRefIdeal.nD Cert.AdamConvRefIdeal.τ).loc Cert.AdamConvRefIdeal.main_arg12) = m ((c.tc : Thread Cert.AdamConvRefIdeal.nD Cert.AdamConvRefIdeal.τ).loc Cert.AdamConvRefIdeal.main_arg12)
      ∧ r.2.mem ((c.tc : Thread Cert.AdamConvRefIdeal.nD Cert.AdamConvRefIdeal.τ).loc Cert.AdamConvRefIdeal.main_arg13) = m ((c.tc : Thread Cert.AdamConvRefIdeal.nD Cert.AdamConvRefIdeal.τ).loc Cert.AdamConvRefIdeal.main_arg13)
      ∧ r.2.mem ((c.tc : Thread Cert.AdamConvRefIdeal.nD Cert.AdamConvRefIdeal.τ).loc Cert.AdamConvRefIdeal.main_arg14) = m ((c.tc : Thread Cert.AdamConvRefIdeal.nD Cert.AdamConvRefIdeal.τ).loc Cert.AdamConvRefIdeal.main_arg14)
      ∧ r.2.mem ((c.tc : Thread Cert.AdamConvRefIdeal.nD Cert.AdamConvRefIdeal.τ).loc Cert.AdamConvRefIdeal.main_arg15) = m ((c.tc : Thread Cert.AdamConvRefIdeal.nD Cert.AdamConvRefIdeal.τ).loc Cert.AdamConvRefIdeal.main_arg15))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_NormBwdRefIdeal_pre_finite_norm [hNormBwdRefIdeal : Cert.NormBwdRefIdeal.Facts] [hPre_finite_norm : Cert.Pre_finite_norm.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_norm m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_ScBwd [hScBwd : Cert.ScBwd.Facts] : Prop :=
  ∀ (m : (ℓ : Loc Cert.ScBwd.nD Cert.ScBwd.τ Cert.ScBwd.sig) → Buf (Elt Bits) ℓ) (g : Dev Cert.ScBwd.nD → PrngReg), Pre_ScBwd m →
    θ_run (Cert.ScBwd.defs (F := Bits)) (onTc (τ := Cert.ScBwd.τ) (Cert.ScBwd.main (F := Bits))) ⟨m, fun _ => 0, g⟩ (fun r => (∀ c : Dev Cert.ScBwd.nD,
      r.2.mem ((c.tc : Thread Cert.ScBwd.nD Cert.ScBwd.τ).loc Cert.ScBwd.main_arg0) = m ((c.tc : Thread Cert.ScBwd.nD Cert.ScBwd.τ).loc Cert.ScBwd.main_arg0)
      ∧ r.2.mem ((c.tc : Thread Cert.ScBwd.nD Cert.ScBwd.τ).loc Cert.ScBwd.main_arg1) = m ((c.tc : Thread Cert.ScBwd.nD Cert.ScBwd.τ).loc Cert.ScBwd.main_arg1)
      ∧ r.2.mem ((c.tc : Thread Cert.ScBwd.nD Cert.ScBwd.τ).loc Cert.ScBwd.main_arg2) = m ((c.tc : Thread Cert.ScBwd.nD Cert.ScBwd.τ).loc Cert.ScBwd.main_arg2)
      ∧ r.2.mem ((c.tc : Thread Cert.ScBwd.nD Cert.ScBwd.τ).loc Cert.ScBwd.main_arg3) = m ((c.tc : Thread Cert.ScBwd.nD Cert.ScBwd.τ).loc Cert.ScBwd.main_arg3))
      ∧ r.2.sem = fun _ => 0)

def quiescent_ScBwdIdeal [hScBwdIdeal : Cert.ScBwdIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
      ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3))
      ∧ r.2.sem = fun _ => 0)

def quiescent_ScBwdRefIdeal [hScBwdRefIdeal : Cert.ScBwdRefIdeal.Facts] : Prop :=
  ∀ (m : (ℓ : Loc Cert.ScBwdRefIdeal.nD Cert.ScBwdRefIdeal.τ Cert.ScBwdRefIdeal.sig) → Buf (Elt Ideal) ℓ) (g : Dev Cert.ScBwdRefIdeal.nD → PrngReg), Pre_ScBwdRefIdeal m →
    θ_run (Cert.ScBwdRefIdeal.defs (F := Ideal)) (onTc (τ := Cert.ScBwdRefIdeal.τ) (Cert.ScBwdRefIdeal.main (F := Ideal))) ⟨m, fun _ => 0, g⟩ (fun r => (∀ c : Dev Cert.ScBwdRefIdeal.nD,
      r.2.mem ((c.tc : Thread Cert.ScBwdRefIdeal.nD Cert.ScBwdRefIdeal.τ).loc Cert.ScBwdRefIdeal.main_arg0) = m ((c.tc : Thread Cert.ScBwdRefIdeal.nD Cert.ScBwdRefIdeal.τ).loc Cert.ScBwdRefIdeal.main_arg0)
      ∧ r.2.mem ((c.tc : Thread Cert.ScBwdRefIdeal.nD Cert.ScBwdRefIdeal.τ).loc Cert.ScBwdRefIdeal.main_arg1) = m ((c.tc : Thread Cert.ScBwdRefIdeal.nD Cert.ScBwdRefIdeal.τ).loc Cert.ScBwdRefIdeal.main_arg1)
      ∧ r.2.mem ((c.tc : Thread Cert.ScBwdRefIdeal.nD Cert.ScBwdRefIdeal.τ).loc Cert.ScBwdRefIdeal.main_arg2) = m ((c.tc : Thread Cert.ScBwdRefIdeal.nD Cert.ScBwdRefIdeal.τ).loc Cert.ScBwdRefIdeal.main_arg2)
      ∧ r.2.mem ((c.tc : Thread Cert.ScBwdRefIdeal.nD Cert.ScBwdRefIdeal.τ).loc Cert.ScBwdRefIdeal.main_arg3) = m ((c.tc : Thread Cert.ScBwdRefIdeal.nD Cert.ScBwdRefIdeal.τ).loc Cert.ScBwdRefIdeal.main_arg3))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_ConfBwd [hConfBwd : Cert.ConfBwd.Facts] : Prop :=
  ∀ (m : (ℓ : Loc Cert.ConfBwd.nD Cert.ConfBwd.τ Cert.ConfBwd.sig) → Buf (Elt Bits) ℓ) (g : Dev Cert.ConfBwd.nD → PrngReg), Pre_ConfBwd m →
    θ_run (Cert.ConfBwd.defs (F := Bits)) (onTc (τ := Cert.ConfBwd.τ) (Cert.ConfBwd.main (F := Bits))) ⟨m, fun _ => 0, g⟩ (fun r => (∀ c : Dev Cert.ConfBwd.nD,
      r.2.mem ((c.tc : Thread Cert.ConfBwd.nD Cert.ConfBwd.τ).loc Cert.ConfBwd.main_arg0) = m ((c.tc : Thread Cert.ConfBwd.nD Cert.ConfBwd.τ).loc Cert.ConfBwd.main_arg0)
      ∧ r.2.mem ((c.tc : Thread Cert.ConfBwd.nD Cert.ConfBwd.τ).loc Cert.ConfBwd.main_arg1) = m ((c.tc : Thread Cert.ConfBwd.nD Cert.ConfBwd.τ).loc Cert.ConfBwd.main_arg1)
      ∧ r.2.mem ((c.tc : Thread Cert.ConfBwd.nD Cert.ConfBwd.τ).loc Cert.ConfBwd.main_arg2) = m ((c.tc : Thread Cert.ConfBwd.nD Cert.ConfBwd.τ).loc Cert.ConfBwd.main_arg2)
      ∧ r.2.mem ((c.tc : Thread Cert.ConfBwd.nD Cert.ConfBwd.τ).loc Cert.ConfBwd.main_arg3) = m ((c.tc : Thread Cert.ConfBwd.nD Cert.ConfBwd.τ).loc Cert.ConfBwd.main_arg3)
      ∧ r.2.mem ((c.tc : Thread Cert.ConfBwd.nD Cert.ConfBwd.τ).loc Cert.ConfBwd.main_arg4) = m ((c.tc : Thread Cert.ConfBwd.nD Cert.ConfBwd.τ).loc Cert.ConfBwd.main_arg4)
      ∧ r.2.mem ((c.tc : Thread Cert.ConfBwd.nD Cert.ConfBwd.τ).loc Cert.ConfBwd.main_arg5) = m ((c.tc : Thread Cert.ConfBwd.nD Cert.ConfBwd.τ).loc Cert.ConfBwd.main_arg5)
      ∧ r.2.mem ((c.tc : Thread Cert.ConfBwd.nD Cert.ConfBwd.τ).loc Cert.ConfBwd.main_arg6) = m ((c.tc : Thread Cert.ConfBwd.nD Cert.ConfBwd.τ).loc Cert.ConfBwd.main_arg6)
      ∧ r.2.mem ((c.tc : Thread Cert.ConfBwd.nD Cert.ConfBwd.τ).loc Cert.ConfBwd.main_arg7) = m ((c.tc : Thread Cert.ConfBwd.nD Cert.ConfBwd.τ).loc Cert.ConfBwd.main_arg7))
      ∧ r.2.sem = fun _ => 0)

def quiescent_ConfBwdIdeal [hConfBwdIdeal : Cert.ConfBwdIdeal.Facts] : Prop :=
  ∀ (m : (ℓ : Loc Cert.ConfBwdIdeal.nD Cert.ConfBwdIdeal.τ Cert.ConfBwdIdeal.sig) → Buf (Elt Ideal) ℓ) (g : Dev Cert.ConfBwdIdeal.nD → PrngReg), Pre_ConfBwdIdeal m →
    θ_run (Cert.ConfBwdIdeal.defs (F := Ideal)) (onTc (τ := Cert.ConfBwdIdeal.τ) (Cert.ConfBwdIdeal.main (F := Ideal))) ⟨m, fun _ => 0, g⟩ (fun r => (∀ c : Dev Cert.ConfBwdIdeal.nD,
      r.2.mem ((c.tc : Thread Cert.ConfBwdIdeal.nD Cert.ConfBwdIdeal.τ).loc Cert.ConfBwdIdeal.main_arg0) = m ((c.tc : Thread Cert.ConfBwdIdeal.nD Cert.ConfBwdIdeal.τ).loc Cert.ConfBwdIdeal.main_arg0)
      ∧ r.2.mem ((c.tc : Thread Cert.ConfBwdIdeal.nD Cert.ConfBwdIdeal.τ).loc Cert.ConfBwdIdeal.main_arg1) = m ((c.tc : Thread Cert.ConfBwdIdeal.nD Cert.ConfBwdIdeal.τ).loc Cert.ConfBwdIdeal.main_arg1)
      ∧ r.2.mem ((c.tc : Thread Cert.ConfBwdIdeal.nD Cert.ConfBwdIdeal.τ).loc Cert.ConfBwdIdeal.main_arg2) = m ((c.tc : Thread Cert.ConfBwdIdeal.nD Cert.ConfBwdIdeal.τ).loc Cert.ConfBwdIdeal.main_arg2)
      ∧ r.2.mem ((c.tc : Thread Cert.ConfBwdIdeal.nD Cert.ConfBwdIdeal.τ).loc Cert.ConfBwdIdeal.main_arg3) = m ((c.tc : Thread Cert.ConfBwdIdeal.nD Cert.ConfBwdIdeal.τ).loc Cert.ConfBwdIdeal.main_arg3)
      ∧ r.2.mem ((c.tc : Thread Cert.ConfBwdIdeal.nD Cert.ConfBwdIdeal.τ).loc Cert.ConfBwdIdeal.main_arg4) = m ((c.tc : Thread Cert.ConfBwdIdeal.nD Cert.ConfBwdIdeal.τ).loc Cert.ConfBwdIdeal.main_arg4)
      ∧ r.2.mem ((c.tc : Thread Cert.ConfBwdIdeal.nD Cert.ConfBwdIdeal.τ).loc Cert.ConfBwdIdeal.main_arg5) = m ((c.tc : Thread Cert.ConfBwdIdeal.nD Cert.ConfBwdIdeal.τ).loc Cert.ConfBwdIdeal.main_arg5)
      ∧ r.2.mem ((c.tc : Thread Cert.ConfBwdIdeal.nD Cert.ConfBwdIdeal.τ).loc Cert.ConfBwdIdeal.main_arg6) = m ((c.tc : Thread Cert.ConfBwdIdeal.nD Cert.ConfBwdIdeal.τ).loc Cert.ConfBwdIdeal.main_arg6)
      ∧ r.2.mem ((c.tc : Thread Cert.ConfBwdIdeal.nD Cert.ConfBwdIdeal.τ).loc Cert.ConfBwdIdeal.main_arg7) = m ((c.tc : Thread Cert.ConfBwdIdeal.nD Cert.ConfBwdIdeal.τ).loc Cert.ConfBwdIdeal.main_arg7))
      ∧ r.2.sem = fun _ => 0)

def quiescent_ConfBwdIdeal_pre_finite_conf [hConfBwdIdeal : Cert.ConfBwdIdeal.Facts] [hPre_finite_conf : Cert.Pre_finite_conf.Facts] : Prop :=
  ∀ (m : (ℓ : Loc Cert.ConfBwdIdeal.nD Cert.ConfBwdIdeal.τ Cert.ConfBwdIdeal.sig) → Buf (Elt Ideal) ℓ) (g : Dev Cert.ConfBwdIdeal.nD → PrngReg), Pre_ConfBwdIdeal_finite_conf m →
    θ_run (Cert.ConfBwdIdeal.defs (F := Ideal)) (onTc (τ := Cert.ConfBwdIdeal.τ) (Cert.ConfBwdIdeal.main (F := Ideal))) ⟨m, fun _ => 0, g⟩ (fun r => (∀ c : Dev Cert.ConfBwdIdeal.nD,
      r.2.mem ((c.tc : Thread Cert.ConfBwdIdeal.nD Cert.ConfBwdIdeal.τ).loc Cert.ConfBwdIdeal.main_arg0) = m ((c.tc : Thread Cert.ConfBwdIdeal.nD Cert.ConfBwdIdeal.τ).loc Cert.ConfBwdIdeal.main_arg0)
      ∧ r.2.mem ((c.tc : Thread Cert.ConfBwdIdeal.nD Cert.ConfBwdIdeal.τ).loc Cert.ConfBwdIdeal.main_arg1) = m ((c.tc : Thread Cert.ConfBwdIdeal.nD Cert.ConfBwdIdeal.τ).loc Cert.ConfBwdIdeal.main_arg1)
      ∧ r.2.mem ((c.tc : Thread Cert.ConfBwdIdeal.nD Cert.ConfBwdIdeal.τ).loc Cert.ConfBwdIdeal.main_arg2) = m ((c.tc : Thread Cert.ConfBwdIdeal.nD Cert.ConfBwdIdeal.τ).loc Cert.ConfBwdIdeal.main_arg2)
      ∧ r.2.mem ((c.tc : Thread Cert.ConfBwdIdeal.nD Cert.ConfBwdIdeal.τ).loc Cert.ConfBwdIdeal.main_arg3) = m ((c.tc : Thread Cert.ConfBwdIdeal.nD Cert.ConfBwdIdeal.τ).loc Cert.ConfBwdIdeal.main_arg3)
      ∧ r.2.mem ((c.tc : Thread Cert.ConfBwdIdeal.nD Cert.ConfBwdIdeal.τ).loc Cert.ConfBwdIdeal.main_arg4) = m ((c.tc : Thread Cert.ConfBwdIdeal.nD Cert.ConfBwdIdeal.τ).loc Cert.ConfBwdIdeal.main_arg4)
      ∧ r.2.mem ((c.tc : Thread Cert.ConfBwdIdeal.nD Cert.ConfBwdIdeal.τ).loc Cert.ConfBwdIdeal.main_arg5) = m ((c.tc : Thread Cert.ConfBwdIdeal.nD Cert.ConfBwdIdeal.τ).loc Cert.ConfBwdIdeal.main_arg5)
      ∧ r.2.mem ((c.tc : Thread Cert.ConfBwdIdeal.nD Cert.ConfBwdIdeal.τ).loc Cert.ConfBwdIdeal.main_arg6) = m ((c.tc : Thread Cert.ConfBwdIdeal.nD Cert.ConfBwdIdeal.τ).loc Cert.ConfBwdIdeal.main_arg6)
      ∧ r.2.mem ((c.tc : Thread Cert.ConfBwdIdeal.nD Cert.ConfBwdIdeal.τ).loc Cert.ConfBwdIdeal.main_arg7) = m ((c.tc : Thread Cert.ConfBwdIdeal.nD Cert.ConfBwdIdeal.τ).loc Cert.ConfBwdIdeal.main_arg7))
      ∧ r.2.sem = fun _ => 0)

def quiescent_ConfBwdRefIdeal [hConfBwdRefIdeal : Cert.ConfBwdRefIdeal.Facts] : Prop :=
  ∀ (m : (ℓ : Loc Cert.ConfBwdRefIdeal.nD Cert.ConfBwdRefIdeal.τ Cert.ConfBwdRefIdeal.sig) → Buf (Elt Ideal) ℓ) (g : Dev Cert.ConfBwdRefIdeal.nD → PrngReg), Pre_ConfBwdRefIdeal m →
    θ_run (Cert.ConfBwdRefIdeal.defs (F := Ideal)) (onTc (τ := Cert.ConfBwdRefIdeal.τ) (Cert.ConfBwdRefIdeal.main (F := Ideal))) ⟨m, fun _ => 0, g⟩ (fun r => (∀ c : Dev Cert.ConfBwdRefIdeal.nD,
      r.2.mem ((c.tc : Thread Cert.ConfBwdRefIdeal.nD Cert.ConfBwdRefIdeal.τ).loc Cert.ConfBwdRefIdeal.main_arg0) = m ((c.tc : Thread Cert.ConfBwdRefIdeal.nD Cert.ConfBwdRefIdeal.τ).loc Cert.ConfBwdRefIdeal.main_arg0)
      ∧ r.2.mem ((c.tc : Thread Cert.ConfBwdRefIdeal.nD Cert.ConfBwdRefIdeal.τ).loc Cert.ConfBwdRefIdeal.main_arg1) = m ((c.tc : Thread Cert.ConfBwdRefIdeal.nD Cert.ConfBwdRefIdeal.τ).loc Cert.ConfBwdRefIdeal.main_arg1)
      ∧ r.2.mem ((c.tc : Thread Cert.ConfBwdRefIdeal.nD Cert.ConfBwdRefIdeal.τ).loc Cert.ConfBwdRefIdeal.main_arg2) = m ((c.tc : Thread Cert.ConfBwdRefIdeal.nD Cert.ConfBwdRefIdeal.τ).loc Cert.ConfBwdRefIdeal.main_arg2)
      ∧ r.2.mem ((c.tc : Thread Cert.ConfBwdRefIdeal.nD Cert.ConfBwdRefIdeal.τ).loc Cert.ConfBwdRefIdeal.main_arg3) = m ((c.tc : Thread Cert.ConfBwdRefIdeal.nD Cert.ConfBwdRefIdeal.τ).loc Cert.ConfBwdRefIdeal.main_arg3)
      ∧ r.2.mem ((c.tc : Thread Cert.ConfBwdRefIdeal.nD Cert.ConfBwdRefIdeal.τ).loc Cert.ConfBwdRefIdeal.main_arg4) = m ((c.tc : Thread Cert.ConfBwdRefIdeal.nD Cert.ConfBwdRefIdeal.τ).loc Cert.ConfBwdRefIdeal.main_arg4)
      ∧ r.2.mem ((c.tc : Thread Cert.ConfBwdRefIdeal.nD Cert.ConfBwdRefIdeal.τ).loc Cert.ConfBwdRefIdeal.main_arg5) = m ((c.tc : Thread Cert.ConfBwdRefIdeal.nD Cert.ConfBwdRefIdeal.τ).loc Cert.ConfBwdRefIdeal.main_arg5)
      ∧ r.2.mem ((c.tc : Thread Cert.ConfBwdRefIdeal.nD Cert.ConfBwdRefIdeal.τ).loc Cert.ConfBwdRefIdeal.main_arg6) = m ((c.tc : Thread Cert.ConfBwdRefIdeal.nD Cert.ConfBwdRefIdeal.τ).loc Cert.ConfBwdRefIdeal.main_arg6)
      ∧ r.2.mem ((c.tc : Thread Cert.ConfBwdRefIdeal.nD Cert.ConfBwdRefIdeal.τ).loc Cert.ConfBwdRefIdeal.main_arg7) = m ((c.tc : Thread Cert.ConfBwdRefIdeal.nD Cert.ConfBwdRefIdeal.τ).loc Cert.ConfBwdRefIdeal.main_arg7))
      ∧ r.2.sem = fun _ => 0)

def quiescent_ConfBwdRefIdeal_pre_finite_conf [hConfBwdRefIdeal : Cert.ConfBwdRefIdeal.Facts] [hPre_finite_conf : Cert.Pre_finite_conf.Facts] : Prop :=
  ∀ (m : (ℓ : Loc Cert.ConfBwdRefIdeal.nD Cert.ConfBwdRefIdeal.τ Cert.ConfBwdRefIdeal.sig) → Buf (Elt Ideal) ℓ) (g : Dev Cert.ConfBwdRefIdeal.nD → PrngReg), Pre_ConfBwdRefIdeal_finite_conf m →
    θ_run (Cert.ConfBwdRefIdeal.defs (F := Ideal)) (onTc (τ := Cert.ConfBwdRefIdeal.τ) (Cert.ConfBwdRefIdeal.main (F := Ideal))) ⟨m, fun _ => 0, g⟩ (fun r => (∀ c : Dev Cert.ConfBwdRefIdeal.nD,
      r.2.mem ((c.tc : Thread Cert.ConfBwdRefIdeal.nD Cert.ConfBwdRefIdeal.τ).loc Cert.ConfBwdRefIdeal.main_arg0) = m ((c.tc : Thread Cert.ConfBwdRefIdeal.nD Cert.ConfBwdRefIdeal.τ).loc Cert.ConfBwdRefIdeal.main_arg0)
      ∧ r.2.mem ((c.tc : Thread Cert.ConfBwdRefIdeal.nD Cert.ConfBwdRefIdeal.τ).loc Cert.ConfBwdRefIdeal.main_arg1) = m ((c.tc : Thread Cert.ConfBwdRefIdeal.nD Cert.ConfBwdRefIdeal.τ).loc Cert.ConfBwdRefIdeal.main_arg1)
      ∧ r.2.mem ((c.tc : Thread Cert.ConfBwdRefIdeal.nD Cert.ConfBwdRefIdeal.τ).loc Cert.ConfBwdRefIdeal.main_arg2) = m ((c.tc : Thread Cert.ConfBwdRefIdeal.nD Cert.ConfBwdRefIdeal.τ).loc Cert.ConfBwdRefIdeal.main_arg2)
      ∧ r.2.mem ((c.tc : Thread Cert.ConfBwdRefIdeal.nD Cert.ConfBwdRefIdeal.τ).loc Cert.ConfBwdRefIdeal.main_arg3) = m ((c.tc : Thread Cert.ConfBwdRefIdeal.nD Cert.ConfBwdRefIdeal.τ).loc Cert.ConfBwdRefIdeal.main_arg3)
      ∧ r.2.mem ((c.tc : Thread Cert.ConfBwdRefIdeal.nD Cert.ConfBwdRefIdeal.τ).loc Cert.ConfBwdRefIdeal.main_arg4) = m ((c.tc : Thread Cert.ConfBwdRefIdeal.nD Cert.ConfBwdRefIdeal.τ).loc Cert.ConfBwdRefIdeal.main_arg4)
      ∧ r.2.mem ((c.tc : Thread Cert.ConfBwdRefIdeal.nD Cert.ConfBwdRefIdeal.τ).loc Cert.ConfBwdRefIdeal.main_arg5) = m ((c.tc : Thread Cert.ConfBwdRefIdeal.nD Cert.ConfBwdRefIdeal.τ).loc Cert.ConfBwdRefIdeal.main_arg5)
      ∧ r.2.mem ((c.tc : Thread Cert.ConfBwdRefIdeal.nD Cert.ConfBwdRefIdeal.τ).loc Cert.ConfBwdRefIdeal.main_arg6) = m ((c.tc : Thread Cert.ConfBwdRefIdeal.nD Cert.ConfBwdRefIdeal.τ).loc Cert.ConfBwdRefIdeal.main_arg6)
      ∧ r.2.mem ((c.tc : Thread Cert.ConfBwdRefIdeal.nD Cert.ConfBwdRefIdeal.τ).loc Cert.ConfBwdRefIdeal.main_arg7) = m ((c.tc : Thread Cert.ConfBwdRefIdeal.nD Cert.ConfBwdRefIdeal.τ).loc Cert.ConfBwdRefIdeal.main_arg7))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10))
      ∧ r.2.sem = fun _ => 0)

def quiescent_ScFwd [hScFwd : Cert.ScFwd.Facts] : Prop :=
  ∀ (m : (ℓ : Loc Cert.ScFwd.nD Cert.ScFwd.τ Cert.ScFwd.sig) → Buf (Elt Bits) ℓ) (g : Dev Cert.ScFwd.nD → PrngReg), Pre_ScFwd m →
    θ_run (Cert.ScFwd.defs (F := Bits)) (onTc (τ := Cert.ScFwd.τ) (Cert.ScFwd.main (F := Bits))) ⟨m, fun _ => 0, g⟩ (fun r => (∀ c : Dev Cert.ScFwd.nD,
      r.2.mem ((c.tc : Thread Cert.ScFwd.nD Cert.ScFwd.τ).loc Cert.ScFwd.main_arg0) = m ((c.tc : Thread Cert.ScFwd.nD Cert.ScFwd.τ).loc Cert.ScFwd.main_arg0)
      ∧ r.2.mem ((c.tc : Thread Cert.ScFwd.nD Cert.ScFwd.τ).loc Cert.ScFwd.main_arg1) = m ((c.tc : Thread Cert.ScFwd.nD Cert.ScFwd.τ).loc Cert.ScFwd.main_arg1))
      ∧ r.2.sem = fun _ => 0)

def quiescent_ScFwdIdeal [hScFwdIdeal : Cert.ScFwdIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg), Pre_ScFwdIdeal m →
    θ_run (Cert.ScFwdIdeal.defs (F := Ideal)) (onTc (τ := Cert.ScFwdIdeal.τ) (Cert.ScFwdIdeal.main (F := Ideal))) ⟨m, fun _ => 0, g⟩ (fun r => (∀ c : Dev Cert.ScFwdIdeal.nD,
      r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
      ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ r.2.sem = fun _ => 0)

def quiescent_ScFwdRefIdeal [hScFwdRefIdeal : Cert.ScFwdRefIdeal.Facts] : Prop :=
  ∀ (m : (ℓ : Loc Cert.ScFwdRefIdeal.nD Cert.ScFwdRefIdeal.τ Cert.ScFwdRefIdeal.sig) → Buf (Elt Ideal) ℓ) (g : Dev Cert.ScFwdRefIdeal.nD → PrngReg), Pre_ScFwdRefIdeal m →
    θ_run (Cert.ScFwdRefIdeal.defs (F := Ideal)) (onTc (τ := Cert.ScFwdRefIdeal.τ) (Cert.ScFwdRefIdeal.main (F := Ideal))) ⟨m, fun _ => 0, g⟩ (fun r => (∀ c : Dev Cert.ScFwdRefIdeal.nD,
      r.2.mem ((c.tc : Thread Cert.ScFwdRefIdeal.nD Cert.ScFwdRefIdeal.τ).loc Cert.ScFwdRefIdeal.main_arg0) = m ((c.tc : Thread Cert.ScFwdRefIdeal.nD Cert.ScFwdRefIdeal.τ).loc Cert.ScFwdRefIdeal.main_arg0)
      ∧ r.2.mem ((c.tc : Thread Cert.ScFwdRefIdeal.nD Cert.ScFwdRefIdeal.τ).loc Cert.ScFwdRefIdeal.main_arg1) = m ((c.tc : Thread Cert.ScFwdRefIdeal.nD Cert.ScFwdRefIdeal.τ).loc Cert.ScFwdRefIdeal.main_arg1))
      ∧ r.2.sem = fun _ => 0)

def quiescent_SsdPreFwd [hSsdPreFwd : Cert.SsdPreFwd.Facts] : Prop :=
  ∀ (m : (ℓ : Loc Cert.SsdPreFwd.nD Cert.SsdPreFwd.τ Cert.SsdPreFwd.sig) → Buf (Elt Bits) ℓ) (g : Dev Cert.SsdPreFwd.nD → PrngReg), Pre_SsdPreFwd m →
    θ_run (Cert.SsdPreFwd.defs (F := Bits)) (onTc (τ := Cert.SsdPreFwd.τ) (Cert.SsdPreFwd.main (F := Bits))) ⟨m, fun _ => 0, g⟩ (fun r => (∀ c : Dev Cert.SsdPreFwd.nD,
      r.2.mem ((c.tc : Thread Cert.SsdPreFwd.nD Cert.SsdPreFwd.τ).loc Cert.SsdPreFwd.main_arg0) = m ((c.tc : Thread Cert.SsdPreFwd.nD Cert.SsdPreFwd.τ).loc Cert.SsdPreFwd.main_arg0)
      ∧ r.2.mem ((c.tc : Thread Cert.SsdPreFwd.nD Cert.SsdPreFwd.τ).loc Cert.SsdPreFwd.main_arg1) = m ((c.tc : Thread Cert.SsdPreFwd.nD Cert.SsdPreFwd.τ).loc Cert.SsdPreFwd.main_arg1)
      ∧ r.2.mem ((c.tc : Thread Cert.SsdPreFwd.nD Cert.SsdPreFwd.τ).loc Cert.SsdPreFwd.main_arg2) = m ((c.tc : Thread Cert.SsdPreFwd.nD Cert.SsdPreFwd.τ).loc Cert.SsdPreFwd.main_arg2))
      ∧ r.2.sem = fun _ => 0)

def quiescent_SsdPreFwdIdeal [hSsdPreFwdIdeal : Cert.SsdPreFwdIdeal.Facts] : Prop :=
  ∀ (m : (ℓ : Loc Cert.SsdPreFwdIdeal.nD Cert.SsdPreFwdIdeal.τ Cert.SsdPreFwdIdeal.sig) → Buf (Elt Ideal) ℓ) (g : Dev Cert.SsdPreFwdIdeal.nD → PrngReg), Pre_SsdPreFwdIdeal m →
    θ_run (Cert.SsdPreFwdIdeal.defs (F := Ideal)) (onTc (τ := Cert.SsdPreFwdIdeal.τ) (Cert.SsdPreFwdIdeal.main (F := Ideal))) ⟨m, fun _ => 0, g⟩ (fun r => (∀ c : Dev Cert.SsdPreFwdIdeal.nD,
      r.2.mem ((c.tc : Thread Cert.SsdPreFwdIdeal.nD Cert.SsdPreFwdIdeal.τ).loc Cert.SsdPreFwdIdeal.main_arg0) = m ((c.tc : Thread Cert.SsdPreFwdIdeal.nD Cert.SsdPreFwdIdeal.τ).loc Cert.SsdPreFwdIdeal.main_arg0)
      ∧ r.2.mem ((c.tc : Thread Cert.SsdPreFwdIdeal.nD Cert.SsdPreFwdIdeal.τ).loc Cert.SsdPreFwdIdeal.main_arg1) = m ((c.tc : Thread Cert.SsdPreFwdIdeal.nD Cert.SsdPreFwdIdeal.τ).loc Cert.SsdPreFwdIdeal.main_arg1)
      ∧ r.2.mem ((c.tc : Thread Cert.SsdPreFwdIdeal.nD Cert.SsdPreFwdIdeal.τ).loc Cert.SsdPreFwdIdeal.main_arg2) = m ((c.tc : Thread Cert.SsdPreFwdIdeal.nD Cert.SsdPreFwdIdeal.τ).loc Cert.SsdPreFwdIdeal.main_arg2))
      ∧ r.2.sem = fun _ => 0)

def quiescent_SsdPreFwdRefIdeal [hSsdPreFwdRefIdeal : Cert.SsdPreFwdRefIdeal.Facts] : Prop :=
  ∀ (m : (ℓ : Loc Cert.SsdPreFwdRefIdeal.nD Cert.SsdPreFwdRefIdeal.τ Cert.SsdPreFwdRefIdeal.sig) → Buf (Elt Ideal) ℓ) (g : Dev Cert.SsdPreFwdRefIdeal.nD → PrngReg), Pre_SsdPreFwdRefIdeal m →
    θ_run (Cert.SsdPreFwdRefIdeal.defs (F := Ideal)) (onTc (τ := Cert.SsdPreFwdRefIdeal.τ) (Cert.SsdPreFwdRefIdeal.main (F := Ideal))) ⟨m, fun _ => 0, g⟩ (fun r => (∀ c : Dev Cert.SsdPreFwdRefIdeal.nD,
      r.2.mem ((c.tc : Thread Cert.SsdPreFwdRefIdeal.nD Cert.SsdPreFwdRefIdeal.τ).loc Cert.SsdPreFwdRefIdeal.main_arg0) = m ((c.tc : Thread Cert.SsdPreFwdRefIdeal.nD Cert.SsdPreFwdRefIdeal.τ).loc Cert.SsdPreFwdRefIdeal.main_arg0)
      ∧ r.2.mem ((c.tc : Thread Cert.SsdPreFwdRefIdeal.nD Cert.SsdPreFwdRefIdeal.τ).loc Cert.SsdPreFwdRefIdeal.main_arg1) = m ((c.tc : Thread Cert.SsdPreFwdRefIdeal.nD Cert.SsdPreFwdRefIdeal.τ).loc Cert.SsdPreFwdRefIdeal.main_arg1)
      ∧ r.2.mem ((c.tc : Thread Cert.SsdPreFwdRefIdeal.nD Cert.SsdPreFwdRefIdeal.τ).loc Cert.SsdPreFwdRefIdeal.main_arg2) = m ((c.tc : Thread Cert.SsdPreFwdRefIdeal.nD Cert.SsdPreFwdRefIdeal.τ).loc Cert.SsdPreFwdRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v104_0)) (v1 : (c : Dev Cert.KernelIdeal.nD) → Buf (Elt Ideal) ((c.tc : Thread Cert.KernelIdeal.nD Cert.KernelIdeal.τ).loc Cert.KernelIdeal.main_v104_3)) (v2 : (c : Dev Cert.KernelIdeal.nD) → Buf (Elt Ideal) ((c.tc : Thread Cert.KernelIdeal.nD Cert.KernelIdeal.τ).loc Cert.KernelIdeal.main_v104_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104_0) = v0 c
          ∧ r.2.mem ((c.tc : Thread Cert.KernelIdeal.nD Cert.KernelIdeal.τ).loc Cert.KernelIdeal.main_v104_3) = v1 c
          ∧ r.2.mem ((c.tc : Thread Cert.KernelIdeal.nD Cert.KernelIdeal.τ).loc Cert.KernelIdeal.main_v104_6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v2)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v2) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v1) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v2)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v2) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v3) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v4) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v4)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v4) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v1) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v4)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v4) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)) →
    ∃ (v0 : (c : Dev Cert.DownFwdIdeal.nD) → Buf (Elt Ideal) ((c.tc : Thread Cert.DownFwdIdeal.nD Cert.DownFwdIdeal.τ).loc Cert.DownFwdIdeal.main_v2_0)) (v1 : (c : Dev Cert.DownFwdIdeal.nD) → Buf (Elt Ideal) ((c.tc : Thread Cert.DownFwdIdeal.nD Cert.DownFwdIdeal.τ).loc Cert.DownFwdIdeal.main_v2_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2_0) = v0 c
          ∧ r.2.mem ((c.tc : Thread Cert.DownFwdIdeal.nD Cert.DownFwdIdeal.τ).loc Cert.DownFwdIdeal.main_v2_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v1) = v0 c
          ∧ r.2.mem ((c.tc : Thread Cert.DownFwdRefIdeal.nD Cert.DownFwdRefIdeal.τ).loc Cert.DownFwdRefIdeal.main_v7) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v2)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v2) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v4) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_AdamAda_AdamAdaIdeal : Prop :=
  IdealRules.named_const.Statement Cert.AdamAdaIdeal.κ "c1" .f32 0x3FC48605#32 ((8388608 / 5463681 : ℝ) : EReal)
  ∧ IdealRules.named_const.Statement Cert.AdamAdaIdeal.κ "c2" .f32 0x42C8E6D3#32 ((268435456 / 2672307 : ℝ) : EReal)

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v4_0)) (v1 : (c : Dev Cert.AdamAdaIdeal.nD) → Buf (Elt Ideal) ((c.tc : Thread Cert.AdamAdaIdeal.nD Cert.AdamAdaIdeal.τ).loc Cert.AdamAdaIdeal.main_v4_1)) (v2 : (c : Dev Cert.AdamAdaIdeal.nD) → Buf (Elt Ideal) ((c.tc : Thread Cert.AdamAdaIdeal.nD Cert.AdamAdaIdeal.τ).loc Cert.AdamAdaIdeal.main_v4_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v4_0) = v0 c
          ∧ r.2.mem ((c.tc : Thread Cert.AdamAdaIdeal.nD Cert.AdamAdaIdeal.τ).loc Cert.AdamAdaIdeal.main_v4_1) = v1 c
          ∧ r.2.mem ((c.tc : Thread Cert.AdamAdaIdeal.nD Cert.AdamAdaIdeal.τ).loc Cert.AdamAdaIdeal.main_v4_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v24) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v26) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamUp_AdamUpIdeal : Prop :=
  IdealRules.named_const.Statement Cert.AdamUpIdeal.κ "c1" .f32 0x3FC48605#32 ((8388608 / 5463681 : ℝ) : EReal)
  ∧ IdealRules.named_const.Statement Cert.AdamUpIdeal.κ "c2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamBranch_AdamBranchIdeal : Prop :=
  IdealRules.named_const.Statement Cert.AdamBranchIdeal.κ "c1" .f32 0x3FC48605#32 ((8388608 / 5463681 : ℝ) : EReal)
  ∧ IdealRules.named_const.Statement Cert.AdamBranchIdeal.κ "c2" .f32 0x42C8E6D3#32 ((268435456 / 2672307 : ℝ) : EReal)

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v4_0)) (v1 : (c : Dev Cert.AdamBranchIdeal.nD) → Buf (Elt Ideal) ((c.tc : Thread Cert.AdamBranchIdeal.nD Cert.AdamBranchIdeal.τ).loc Cert.AdamBranchIdeal.main_v4_1)) (v2 : (c : Dev Cert.AdamBranchIdeal.nD) → Buf (Elt Ideal) ((c.tc : Thread Cert.AdamBranchIdeal.nD Cert.AdamBranchIdeal.τ).loc Cert.AdamBranchIdeal.main_v4_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v4_0) = v0 c
          ∧ r.2.mem ((c.tc : Thread Cert.AdamBranchIdeal.nD Cert.AdamBranchIdeal.τ).loc Cert.AdamBranchIdeal.main_v4_1) = v1 c
          ∧ r.2.mem ((c.tc : Thread Cert.AdamBranchIdeal.nD Cert.AdamBranchIdeal.τ).loc Cert.AdamBranchIdeal.main_v4_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v24) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v26) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamOut_AdamOutIdeal : Prop :=
  IdealRules.named_const.Statement Cert.AdamOutIdeal.κ "c1" .f32 0x3FC48605#32 ((8388608 / 5463681 : ℝ) : EReal)
  ∧ IdealRules.named_const.Statement Cert.AdamOutIdeal.κ "c2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamDown_AdamDownIdeal : Prop :=
  IdealRules.named_const.Statement Cert.AdamDownIdeal.κ "c1" .f32 0x3FC48605#32 ((8388608 / 5463681 : ℝ) : EReal)
  ∧ IdealRules.named_const.Statement Cert.AdamDownIdeal.κ "c2" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamVec_AdamVecIdeal : Prop :=
  IdealRules.named_const.Statement Cert.AdamVecIdeal.κ "c1" .f32 0x3FC48605#32 ((8388608 / 5463681 : ℝ) : EReal)
  ∧ IdealRules.named_const.Statement Cert.AdamVecIdeal.κ "c2" .f32 0x42C8E6D3#32 ((268435456 / 2672307 : ℝ) : EReal)

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)
      ∧ m' ((c.tc : Thread Cert.AdamVecRefIdeal.nD Cert.AdamVecRefIdeal.τ).loc Cert.AdamVecRefIdeal.main_arg4) = m ((c.tc : Thread Cert.AdamVecIdeal.nD Cert.AdamVecIdeal.τ).loc Cert.AdamVecIdeal.main_arg4)
      ∧ m' ((c.tc : Thread Cert.AdamVecRefIdeal.nD Cert.AdamVecRefIdeal.τ).loc Cert.AdamVecRefIdeal.main_arg5) = m ((c.tc : Thread Cert.AdamVecIdeal.nD Cert.AdamVecIdeal.τ).loc Cert.AdamVecIdeal.main_arg5)
      ∧ m' ((c.tc : Thread Cert.AdamVecRefIdeal.nD Cert.AdamVecRefIdeal.τ).loc Cert.AdamVecRefIdeal.main_arg6) = m ((c.tc : Thread Cert.AdamVecIdeal.nD Cert.AdamVecIdeal.τ).loc Cert.AdamVecIdeal.main_arg6)
      ∧ m' ((c.tc : Thread Cert.AdamVecRefIdeal.nD Cert.AdamVecRefIdeal.τ).loc Cert.AdamVecRefIdeal.main_arg7) = m ((c.tc : Thread Cert.AdamVecIdeal.nD Cert.AdamVecIdeal.τ).loc Cert.AdamVecIdeal.main_arg7)
      ∧ m' ((c.tc : Thread Cert.AdamVecRefIdeal.nD Cert.AdamVecRefIdeal.τ).loc Cert.AdamVecRefIdeal.main_arg8) = m ((c.tc : Thread Cert.AdamVecIdeal.nD Cert.AdamVecIdeal.τ).loc Cert.AdamVecIdeal.main_arg8)
      ∧ m' ((c.tc : Thread Cert.AdamVecRefIdeal.nD Cert.AdamVecRefIdeal.τ).loc Cert.AdamVecRefIdeal.main_arg9) = m ((c.tc : Thread Cert.AdamVecIdeal.nD Cert.AdamVecIdeal.τ).loc Cert.AdamVecIdeal.main_arg9)
      ∧ m' ((c.tc : Thread Cert.AdamVecRefIdeal.nD Cert.AdamVecRefIdeal.τ).loc Cert.AdamVecRefIdeal.main_arg10) = m ((c.tc : Thread Cert.AdamVecIdeal.nD Cert.AdamVecIdeal.τ).loc Cert.AdamVecIdeal.main_arg10)
      ∧ m' ((c.tc : Thread Cert.AdamVecRefIdeal.nD Cert.AdamVecRefIdeal.τ).loc Cert.AdamVecRefIdeal.main_arg11) = m ((c.tc : Thread Cert.AdamVecIdeal.nD Cert.AdamVecIdeal.τ).loc Cert.AdamVecIdeal.main_arg11)
      ∧ m' ((c.tc : Thread Cert.AdamVecRefIdeal.nD Cert.AdamVecRefIdeal.τ).loc Cert.AdamVecRefIdeal.main_arg12) = m ((c.tc : Thread Cert.AdamVecIdeal.nD Cert.AdamVecIdeal.τ).loc Cert.AdamVecIdeal.main_arg12)
      ∧ m' ((c.tc : Thread Cert.AdamVecRefIdeal.nD Cert.AdamVecRefIdeal.τ).loc Cert.AdamVecRefIdeal.main_arg13) = m ((c.tc : Thread Cert.AdamVecIdeal.nD Cert.AdamVecIdeal.τ).loc Cert.AdamVecIdeal.main_arg13)
      ∧ m' ((c.tc : Thread Cert.AdamVecRefIdeal.nD Cert.AdamVecRefIdeal.τ).loc Cert.AdamVecRefIdeal.main_arg14) = m ((c.tc : Thread Cert.AdamVecIdeal.nD Cert.AdamVecIdeal.τ).loc Cert.AdamVecIdeal.main_arg14)
      ∧ m' ((c.tc : Thread Cert.AdamVecRefIdeal.nD Cert.AdamVecRefIdeal.τ).loc Cert.AdamVecRefIdeal.main_arg15) = m ((c.tc : Thread Cert.AdamVecIdeal.nD Cert.AdamVecIdeal.τ).loc Cert.AdamVecIdeal.main_arg15)) →
    ∃ (v0 : (c : Dev Cert.AdamVecIdeal.nD) → Buf (Elt Ideal) ((c.tc : Thread Cert.AdamVecIdeal.nD Cert.AdamVecIdeal.τ).loc Cert.AdamVecIdeal.main_v4_0)) (v1 : (c : Dev Cert.AdamVecIdeal.nD) → Buf (Elt Ideal) ((c.tc : Thread Cert.AdamVecIdeal.nD Cert.AdamVecIdeal.τ).loc Cert.AdamVecIdeal.main_v4_1)) (v2 : (c : Dev Cert.AdamVecIdeal.nD) → Buf (Elt Ideal) ((c.tc : Thread Cert.AdamVecIdeal.nD Cert.AdamVecIdeal.τ).loc Cert.AdamVecIdeal.main_v4_2)) (v3 : (c : Dev Cert.AdamVecIdeal.nD) → Buf (Elt Ideal) ((c.tc : Thread Cert.AdamVecIdeal.nD Cert.AdamVecIdeal.τ).loc Cert.AdamVecIdeal.main_v4_3)) (v4 : (c : Dev Cert.AdamVecIdeal.nD) → Buf (Elt Ideal) ((c.tc : Thread Cert.AdamVecIdeal.nD Cert.AdamVecIdeal.τ).loc Cert.AdamVecIdeal.main_v4_4)) (v5 : (c : Dev Cert.AdamVecIdeal.nD) → Buf (Elt Ideal) ((c.tc : Thread Cert.AdamVecIdeal.nD Cert.AdamVecIdeal.τ).loc Cert.AdamVecIdeal.main_v4_5)) (v6 : (c : Dev Cert.AdamVecIdeal.nD) → Buf (Elt Ideal) ((c.tc : Thread Cert.AdamVecIdeal.nD Cert.AdamVecIdeal.τ).loc Cert.AdamVecIdeal.main_v4_6)) (v7 : (c : Dev Cert.AdamVecIdeal.nD) → Buf (Elt Ideal) ((c.tc : Thread Cert.AdamVecIdeal.nD Cert.AdamVecIdeal.τ).loc Cert.AdamVecIdeal.main_v4_7)) (v8 : (c : Dev Cert.AdamVecIdeal.nD) → Buf (Elt Ideal) ((c.tc : Thread Cert.AdamVecIdeal.nD Cert.AdamVecIdeal.τ).loc Cert.AdamVecIdeal.main_v4_8)) (v9 : (c : Dev Cert.AdamVecIdeal.nD) → Buf (Elt Ideal) ((c.tc : Thread Cert.AdamVecIdeal.nD Cert.AdamVecIdeal.τ).loc Cert.AdamVecIdeal.main_v4_9)) (v10 : (c : Dev Cert.AdamVecIdeal.nD) → Buf (Elt Ideal) ((c.tc : Thread Cert.AdamVecIdeal.nD Cert.AdamVecIdeal.τ).loc Cert.AdamVecIdeal.main_v4_10)) (v11 : (c : Dev Cert.AdamVecIdeal.nD) → Buf (Elt Ideal) ((c.tc : Thread Cert.AdamVecIdeal.nD Cert.AdamVecIdeal.τ).loc Cert.AdamVecIdeal.main_v4_11)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v4_0) = v0 c
          ∧ r.2.mem ((c.tc : Thread Cert.AdamVecIdeal.nD Cert.AdamVecIdeal.τ).loc Cert.AdamVecIdeal.main_v4_1) = v1 c
          ∧ r.2.mem ((c.tc : Thread Cert.AdamVecIdeal.nD Cert.AdamVecIdeal.τ).loc Cert.AdamVecIdeal.main_v4_2) = v2 c
          ∧ r.2.mem ((c.tc : Thread Cert.AdamVecIdeal.nD Cert.AdamVecIdeal.τ).loc Cert.AdamVecIdeal.main_v4_3) = v3 c
          ∧ r.2.mem ((c.tc : Thread Cert.AdamVecIdeal.nD Cert.AdamVecIdeal.τ).loc Cert.AdamVecIdeal.main_v4_4) = v4 c
          ∧ r.2.mem ((c.tc : Thread Cert.AdamVecIdeal.nD Cert.AdamVecIdeal.τ).loc Cert.AdamVecIdeal.main_v4_5) = v5 c
          ∧ r.2.mem ((c.tc : Thread Cert.AdamVecIdeal.nD Cert.AdamVecIdeal.τ).loc Cert.AdamVecIdeal.main_v4_6) = v6 c
          ∧ r.2.mem ((c.tc : Thread Cert.AdamVecIdeal.nD Cert.AdamVecIdeal.τ).loc Cert.AdamVecIdeal.main_v4_7) = v7 c
          ∧ r.2.mem ((c.tc : Thread Cert.AdamVecIdeal.nD Cert.AdamVecIdeal.τ).loc Cert.AdamVecIdeal.main_v4_8) = v8 c
          ∧ r.2.mem ((c.tc : Thread Cert.AdamVecIdeal.nD Cert.AdamVecIdeal.τ).loc Cert.AdamVecIdeal.main_v4_9) = v9 c
          ∧ r.2.mem ((c.tc : Thread Cert.AdamVecIdeal.nD Cert.AdamVecIdeal.τ).loc Cert.AdamVecIdeal.main_v4_10) = v10 c
          ∧ r.2.mem ((c.tc : Thread Cert.AdamVecIdeal.nD Cert.AdamVecIdeal.τ).loc Cert.AdamVecIdeal.main_v4_11) = v11 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3)
          ∧ r.2.mem ((c.tc : Thread Cert.AdamVecIdeal.nD Cert.AdamVecIdeal.τ).loc Cert.AdamVecIdeal.main_arg4) = m ((c.tc : Thread Cert.AdamVecIdeal.nD Cert.AdamVecIdeal.τ).loc Cert.AdamVecIdeal.main_arg4)
          ∧ r.2.mem ((c.tc : Thread Cert.AdamVecIdeal.nD Cert.AdamVecIdeal.τ).loc Cert.AdamVecIdeal.main_arg5) = m ((c.tc : Thread Cert.AdamVecIdeal.nD Cert.AdamVecIdeal.τ).loc Cert.AdamVecIdeal.main_arg5)
          ∧ r.2.mem ((c.tc : Thread Cert.AdamVecIdeal.nD Cert.AdamVecIdeal.τ).loc Cert.AdamVecIdeal.main_arg6) = m ((c.tc : Thread Cert.AdamVecIdeal.nD Cert.AdamVecIdeal.τ).loc Cert.AdamVecIdeal.main_arg6)
          ∧ r.2.mem ((c.tc : Thread Cert.AdamVecIdeal.nD Cert.AdamVecIdeal.τ).loc Cert.AdamVecIdeal.main_arg7) = m ((c.tc : Thread Cert.AdamVecIdeal.nD Cert.AdamVecIdeal.τ).loc Cert.AdamVecIdeal.main_arg7)
          ∧ r.2.mem ((c.tc : Thread Cert.AdamVecIdeal.nD Cert.AdamVecIdeal.τ).loc Cert.AdamVecIdeal.main_arg8) = m ((c.tc : Thread Cert.AdamVecIdeal.nD Cert.AdamVecIdeal.τ).loc Cert.AdamVecIdeal.main_arg8)
          ∧ r.2.mem ((c.tc : Thread Cert.AdamVecIdeal.nD Cert.AdamVecIdeal.τ).loc Cert.AdamVecIdeal.main_arg9) = m ((c.tc : Thread Cert.AdamVecIdeal.nD Cert.AdamVecIdeal.τ).loc Cert.AdamVecIdeal.main_arg9)
          ∧ r.2.mem ((c.tc : Thread Cert.AdamVecIdeal.nD Cert.AdamVecIdeal.τ).loc Cert.AdamVecIdeal.main_arg10) = m ((c.tc : Thread Cert.AdamVecIdeal.nD Cert.AdamVecIdeal.τ).loc Cert.AdamVecIdeal.main_arg10)
          ∧ r.2.mem ((c.tc : Thread Cert.AdamVecIdeal.nD Cert.AdamVecIdeal.τ).loc Cert.AdamVecIdeal.main_arg11) = m ((c.tc : Thread Cert.AdamVecIdeal.nD Cert.AdamVecIdeal.τ).loc Cert.AdamVecIdeal.main_arg11)
          ∧ r.2.mem ((c.tc : Thread Cert.AdamVecIdeal.nD Cert.AdamVecIdeal.τ).loc Cert.AdamVecIdeal.main_arg12) = m ((c.tc : Thread Cert.AdamVecIdeal.nD Cert.AdamVecIdeal.τ).loc Cert.AdamVecIdeal.main_arg12)
          ∧ r.2.mem ((c.tc : Thread Cert.AdamVecIdeal.nD Cert.AdamVecIdeal.τ).loc Cert.AdamVecIdeal.main_arg13) = m ((c.tc : Thread Cert.AdamVecIdeal.nD Cert.AdamVecIdeal.τ).loc Cert.AdamVecIdeal.main_arg13)
          ∧ r.2.mem ((c.tc : Thread Cert.AdamVecIdeal.nD Cert.AdamVecIdeal.τ).loc Cert.AdamVecIdeal.main_arg14) = m ((c.tc : Thread Cert.AdamVecIdeal.nD Cert.AdamVecIdeal.τ).loc Cert.AdamVecIdeal.main_arg14)
          ∧ r.2.mem ((c.tc : Thread Cert.AdamVecIdeal.nD Cert.AdamVecIdeal.τ).loc Cert.AdamVecIdeal.main_arg15) = m ((c.tc : Thread Cert.AdamVecIdeal.nD Cert.AdamVecIdeal.τ).loc Cert.AdamVecIdeal.main_arg15))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v23) = v0 c
          ∧ r.2.mem ((c.tc : Thread Cert.AdamVecRefIdeal.nD Cert.AdamVecRefIdeal.τ).loc Cert.AdamVecRefIdeal.main_v47) = v1 c
          ∧ r.2.mem ((c.tc : Thread Cert.AdamVecRefIdeal.nD Cert.AdamVecRefIdeal.τ).loc Cert.AdamVecRefIdeal.main_v71) = v2 c
          ∧ r.2.mem ((c.tc : Thread Cert.AdamVecRefIdeal.nD Cert.AdamVecRefIdeal.τ).loc Cert.AdamVecRefIdeal.main_v96) = v3 c
          ∧ r.2.mem ((c.tc : Thread Cert.AdamVecRefIdeal.nD Cert.AdamVecRefIdeal.τ).loc Cert.AdamVecRefIdeal.main_v4) = v4 c
          ∧ r.2.mem ((c.tc : Thread Cert.AdamVecRefIdeal.nD Cert.AdamVecRefIdeal.τ).loc Cert.AdamVecRefIdeal.main_v28) = v5 c
          ∧ r.2.mem ((c.tc : Thread Cert.AdamVecRefIdeal.nD Cert.AdamVecRefIdeal.τ).loc Cert.AdamVecRefIdeal.main_v52) = v6 c
          ∧ r.2.mem ((c.tc : Thread Cert.AdamVecRefIdeal.nD Cert.AdamVecRefIdeal.τ).loc Cert.AdamVecRefIdeal.main_v97) = v7 c
          ∧ r.2.mem ((c.tc : Thread Cert.AdamVecRefIdeal.nD Cert.AdamVecRefIdeal.τ).loc Cert.AdamVecRefIdeal.main_v10) = v8 c
          ∧ r.2.mem ((c.tc : Thread Cert.AdamVecRefIdeal.nD Cert.AdamVecRefIdeal.τ).loc Cert.AdamVecRefIdeal.main_v34) = v9 c
          ∧ r.2.mem ((c.tc : Thread Cert.AdamVecRefIdeal.nD Cert.AdamVecRefIdeal.τ).loc Cert.AdamVecRefIdeal.main_v58) = v10 c
          ∧ r.2.mem ((c.tc : Thread Cert.AdamVecRefIdeal.nD Cert.AdamVecRefIdeal.τ).loc Cert.AdamVecRefIdeal.main_v98) = v11 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3)
          ∧ r.2.mem ((c.tc : Thread Cert.AdamVecRefIdeal.nD Cert.AdamVecRefIdeal.τ).loc Cert.AdamVecRefIdeal.main_arg4) = m' ((c.tc : Thread Cert.AdamVecRefIdeal.nD Cert.AdamVecRefIdeal.τ).loc Cert.AdamVecRefIdeal.main_arg4)
          ∧ r.2.mem ((c.tc : Thread Cert.AdamVecRefIdeal.nD Cert.AdamVecRefIdeal.τ).loc Cert.AdamVecRefIdeal.main_arg5) = m' ((c.tc : Thread Cert.AdamVecRefIdeal.nD Cert.AdamVecRefIdeal.τ).loc Cert.AdamVecRefIdeal.main_arg5)
          ∧ r.2.mem ((c.tc : Thread Cert.AdamVecRefIdeal.nD Cert.AdamVecRefIdeal.τ).loc Cert.AdamVecRefIdeal.main_arg6) = m' ((c.tc : Thread Cert.AdamVecRefIdeal.nD Cert.AdamVecRefIdeal.τ).loc Cert.AdamVecRefIdeal.main_arg6)
          ∧ r.2.mem ((c.tc : Thread Cert.AdamVecRefIdeal.nD Cert.AdamVecRefIdeal.τ).loc Cert.AdamVecRefIdeal.main_arg7) = m' ((c.tc : Thread Cert.AdamVecRefIdeal.nD Cert.AdamVecRefIdeal.τ).loc Cert.AdamVecRefIdeal.main_arg7)
          ∧ r.2.mem ((c.tc : Thread Cert.AdamVecRefIdeal.nD Cert.AdamVecRefIdeal.τ).loc Cert.AdamVecRefIdeal.main_arg8) = m' ((c.tc : Thread Cert.AdamVecRefIdeal.nD Cert.AdamVecRefIdeal.τ).loc Cert.AdamVecRefIdeal.main_arg8)
          ∧ r.2.mem ((c.tc : Thread Cert.AdamVecRefIdeal.nD Cert.AdamVecRefIdeal.τ).loc Cert.AdamVecRefIdeal.main_arg9) = m' ((c.tc : Thread Cert.AdamVecRefIdeal.nD Cert.AdamVecRefIdeal.τ).loc Cert.AdamVecRefIdeal.main_arg9)
          ∧ r.2.mem ((c.tc : Thread Cert.AdamVecRefIdeal.nD Cert.AdamVecRefIdeal.τ).loc Cert.AdamVecRefIdeal.main_arg10) = m' ((c.tc : Thread Cert.AdamVecRefIdeal.nD Cert.AdamVecRefIdeal.τ).loc Cert.AdamVecRefIdeal.main_arg10)
          ∧ r.2.mem ((c.tc : Thread Cert.AdamVecRefIdeal.nD Cert.AdamVecRefIdeal.τ).loc Cert.AdamVecRefIdeal.main_arg11) = m' ((c.tc : Thread Cert.AdamVecRefIdeal.nD Cert.AdamVecRefIdeal.τ).loc Cert.AdamVecRefIdeal.main_arg11)
          ∧ r.2.mem ((c.tc : Thread Cert.AdamVecRefIdeal.nD Cert.AdamVecRefIdeal.τ).loc Cert.AdamVecRefIdeal.main_arg12) = m' ((c.tc : Thread Cert.AdamVecRefIdeal.nD Cert.AdamVecRefIdeal.τ).loc Cert.AdamVecRefIdeal.main_arg12)
          ∧ r.2.mem ((c.tc : Thread Cert.AdamVecRefIdeal.nD Cert.AdamVecRefIdeal.τ).loc Cert.AdamVecRefIdeal.main_arg13) = m' ((c.tc : Thread Cert.AdamVecRefIdeal.nD Cert.AdamVecRefIdeal.τ).loc Cert.AdamVecRefIdeal.main_arg13)
          ∧ r.2.mem ((c.tc : Thread Cert.AdamVecRefIdeal.nD Cert.AdamVecRefIdeal.τ).loc Cert.AdamVecRefIdeal.main_arg14) = m' ((c.tc : Thread Cert.AdamVecRefIdeal.nD Cert.AdamVecRefIdeal.τ).loc Cert.AdamVecRefIdeal.main_arg14)
          ∧ r.2.mem ((c.tc : Thread Cert.AdamVecRefIdeal.nD Cert.AdamVecRefIdeal.τ).loc Cert.AdamVecRefIdeal.main_arg15) = m' ((c.tc : Thread Cert.AdamVecRefIdeal.nD Cert.AdamVecRefIdeal.τ).loc Cert.AdamVecRefIdeal.main_arg15))

def preserves_AdamBias_AdamBiasIdeal : Prop :=
  IdealRules.named_const.Statement Cert.AdamBiasIdeal.κ "c1" .f32 0x3FC48605#32 ((8388608 / 5463681 : ℝ) : EReal)
  ∧ IdealRules.named_const.Statement Cert.AdamBiasIdeal.κ "c2" .f32 0x42C8E6D3#32 ((268435456 / 2672307 : ℝ) : EReal)

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)
      ∧ m' ((c.tc : Thread Cert.AdamBiasRefIdeal.nD Cert.AdamBiasRefIdeal.τ).loc Cert.AdamBiasRefIdeal.main_arg4) = m ((c.tc : Thread Cert.AdamBiasIdeal.nD Cert.AdamBiasIdeal.τ).loc Cert.AdamBiasIdeal.main_arg4)
      ∧ m' ((c.tc : Thread Cert.AdamBiasRefIdeal.nD Cert.AdamBiasRefIdeal.τ).loc Cert.AdamBiasRefIdeal.main_arg5) = m ((c.tc : Thread Cert.AdamBiasIdeal.nD Cert.AdamBiasIdeal.τ).loc Cert.AdamBiasIdeal.main_arg5)
      ∧ m' ((c.tc : Thread Cert.AdamBiasRefIdeal.nD Cert.AdamBiasRefIdeal.τ).loc Cert.AdamBiasRefIdeal.main_arg6) = m ((c.tc : Thread Cert.AdamBiasIdeal.nD Cert.AdamBiasIdeal.τ).loc Cert.AdamBiasIdeal.main_arg6)
      ∧ m' ((c.tc : Thread Cert.AdamBiasRefIdeal.nD Cert.AdamBiasRefIdeal.τ).loc Cert.AdamBiasRefIdeal.main_arg7) = m ((c.tc : Thread Cert.AdamBiasIdeal.nD Cert.AdamBiasIdeal.τ).loc Cert.AdamBiasIdeal.main_arg7)
      ∧ m' ((c.tc : Thread Cert.AdamBiasRefIdeal.nD Cert.AdamBiasRefIdeal.τ).loc Cert.AdamBiasRefIdeal.main_arg8) = m ((c.tc : Thread Cert.AdamBiasIdeal.nD Cert.AdamBiasIdeal.τ).loc Cert.AdamBiasIdeal.main_arg8)
      ∧ m' ((c.tc : Thread Cert.AdamBiasRefIdeal.nD Cert.AdamBiasRefIdeal.τ).loc Cert.AdamBiasRefIdeal.main_arg9) = m ((c.tc : Thread Cert.AdamBiasIdeal.nD Cert.AdamBiasIdeal.τ).loc Cert.AdamBiasIdeal.main_arg9)
      ∧ m' ((c.tc : Thread Cert.AdamBiasRefIdeal.nD Cert.AdamBiasRefIdeal.τ).loc Cert.AdamBiasRefIdeal.main_arg10) = m ((c.tc : Thread Cert.AdamBiasIdeal.nD Cert.AdamBiasIdeal.τ).loc Cert.AdamBiasIdeal.main_arg10)
      ∧ m' ((c.tc : Thread Cert.AdamBiasRefIdeal.nD Cert.AdamBiasRefIdeal.τ).loc Cert.AdamBiasRefIdeal.main_arg11) = m ((c.tc : Thread Cert.AdamBiasIdeal.nD Cert.AdamBiasIdeal.τ).loc Cert.AdamBiasIdeal.main_arg11)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)) (v3 : (c : Dev Cert.AdamBiasIdeal.nD) → Buf (Elt Ideal) ((c.tc : Thread Cert.AdamBiasIdeal.nD Cert.AdamBiasIdeal.τ).loc Cert.AdamBiasIdeal.main_v0_3)) (v4 : (c : Dev Cert.AdamBiasIdeal.nD) → Buf (Elt Ideal) ((c.tc : Thread Cert.AdamBiasIdeal.nD Cert.AdamBiasIdeal.τ).loc Cert.AdamBiasIdeal.main_v0_4)) (v5 : (c : Dev Cert.AdamBiasIdeal.nD) → Buf (Elt Ideal) ((c.tc : Thread Cert.AdamBiasIdeal.nD Cert.AdamBiasIdeal.τ).loc Cert.AdamBiasIdeal.main_v0_5)) (v6 : (c : Dev Cert.AdamBiasIdeal.nD) → Buf (Elt Ideal) ((c.tc : Thread Cert.AdamBiasIdeal.nD Cert.AdamBiasIdeal.τ).loc Cert.AdamBiasIdeal.main_v0_6)) (v7 : (c : Dev Cert.AdamBiasIdeal.nD) → Buf (Elt Ideal) ((c.tc : Thread Cert.AdamBiasIdeal.nD Cert.AdamBiasIdeal.τ).loc Cert.AdamBiasIdeal.main_v0_7)) (v8 : (c : Dev Cert.AdamBiasIdeal.nD) → Buf (Elt Ideal) ((c.tc : Thread Cert.AdamBiasIdeal.nD Cert.AdamBiasIdeal.τ).loc Cert.AdamBiasIdeal.main_v0_8)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_v0_3) = v3 c
          ∧ r.2.mem ((c.tc : Thread Cert.AdamBiasIdeal.nD Cert.AdamBiasIdeal.τ).loc Cert.AdamBiasIdeal.main_v0_4) = v4 c
          ∧ r.2.mem ((c.tc : Thread Cert.AdamBiasIdeal.nD Cert.AdamBiasIdeal.τ).loc Cert.AdamBiasIdeal.main_v0_5) = v5 c
          ∧ r.2.mem ((c.tc : Thread Cert.AdamBiasIdeal.nD Cert.AdamBiasIdeal.τ).loc Cert.AdamBiasIdeal.main_v0_6) = v6 c
          ∧ r.2.mem ((c.tc : Thread Cert.AdamBiasIdeal.nD Cert.AdamBiasIdeal.τ).loc Cert.AdamBiasIdeal.main_v0_7) = v7 c
          ∧ r.2.mem ((c.tc : Thread Cert.AdamBiasIdeal.nD Cert.AdamBiasIdeal.τ).loc Cert.AdamBiasIdeal.main_v0_8) = v8 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3)
          ∧ r.2.mem ((c.tc : Thread Cert.AdamBiasIdeal.nD Cert.AdamBiasIdeal.τ).loc Cert.AdamBiasIdeal.main_arg4) = m ((c.tc : Thread Cert.AdamBiasIdeal.nD Cert.AdamBiasIdeal.τ).loc Cert.AdamBiasIdeal.main_arg4)
          ∧ r.2.mem ((c.tc : Thread Cert.AdamBiasIdeal.nD Cert.AdamBiasIdeal.τ).loc Cert.AdamBiasIdeal.main_arg5) = m ((c.tc : Thread Cert.AdamBiasIdeal.nD Cert.AdamBiasIdeal.τ).loc Cert.AdamBiasIdeal.main_arg5)
          ∧ r.2.mem ((c.tc : Thread Cert.AdamBiasIdeal.nD Cert.AdamBiasIdeal.τ).loc Cert.AdamBiasIdeal.main_arg6) = m ((c.tc : Thread Cert.AdamBiasIdeal.nD Cert.AdamBiasIdeal.τ).loc Cert.AdamBiasIdeal.main_arg6)
          ∧ r.2.mem ((c.tc : Thread Cert.AdamBiasIdeal.nD Cert.AdamBiasIdeal.τ).loc Cert.AdamBiasIdeal.main_arg7) = m ((c.tc : Thread Cert.AdamBiasIdeal.nD Cert.AdamBiasIdeal.τ).loc Cert.AdamBiasIdeal.main_arg7)
          ∧ r.2.mem ((c.tc : Thread Cert.AdamBiasIdeal.nD Cert.AdamBiasIdeal.τ).loc Cert.AdamBiasIdeal.main_arg8) = m ((c.tc : Thread Cert.AdamBiasIdeal.nD Cert.AdamBiasIdeal.τ).loc Cert.AdamBiasIdeal.main_arg8)
          ∧ r.2.mem ((c.tc : Thread Cert.AdamBiasIdeal.nD Cert.AdamBiasIdeal.τ).loc Cert.AdamBiasIdeal.main_arg9) = m ((c.tc : Thread Cert.AdamBiasIdeal.nD Cert.AdamBiasIdeal.τ).loc Cert.AdamBiasIdeal.main_arg9)
          ∧ r.2.mem ((c.tc : Thread Cert.AdamBiasIdeal.nD Cert.AdamBiasIdeal.τ).loc Cert.AdamBiasIdeal.main_arg10) = m ((c.tc : Thread Cert.AdamBiasIdeal.nD Cert.AdamBiasIdeal.τ).loc Cert.AdamBiasIdeal.main_arg10)
          ∧ r.2.mem ((c.tc : Thread Cert.AdamBiasIdeal.nD Cert.AdamBiasIdeal.τ).loc Cert.AdamBiasIdeal.main_arg11) = m ((c.tc : Thread Cert.AdamBiasIdeal.nD Cert.AdamBiasIdeal.τ).loc Cert.AdamBiasIdeal.main_arg11))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v23) = v0 c
          ∧ r.2.mem ((c.tc : Thread Cert.AdamBiasRefIdeal.nD Cert.AdamBiasRefIdeal.τ).loc Cert.AdamBiasRefIdeal.main_v47) = v1 c
          ∧ r.2.mem ((c.tc : Thread Cert.AdamBiasRefIdeal.nD Cert.AdamBiasRefIdeal.τ).loc Cert.AdamBiasRefIdeal.main_v71) = v2 c
          ∧ r.2.mem ((c.tc : Thread Cert.AdamBiasRefIdeal.nD Cert.AdamBiasRefIdeal.τ).loc Cert.AdamBiasRefIdeal.main_v4) = v3 c
          ∧ r.2.mem ((c.tc : Thread Cert.AdamBiasRefIdeal.nD Cert.AdamBiasRefIdeal.τ).loc Cert.AdamBiasRefIdeal.main_v28) = v4 c
          ∧ r.2.mem ((c.tc : Thread Cert.AdamBiasRefIdeal.nD Cert.AdamBiasRefIdeal.τ).loc Cert.AdamBiasRefIdeal.main_v52) = v5 c
          ∧ r.2.mem ((c.tc : Thread Cert.AdamBiasRefIdeal.nD Cert.AdamBiasRefIdeal.τ).loc Cert.AdamBiasRefIdeal.main_v10) = v6 c
          ∧ r.2.mem ((c.tc : Thread Cert.AdamBiasRefIdeal.nD Cert.AdamBiasRefIdeal.τ).loc Cert.AdamBiasRefIdeal.main_v34) = v7 c
          ∧ r.2.mem ((c.tc : Thread Cert.AdamBiasRefIdeal.nD Cert.AdamBiasRefIdeal.τ).loc Cert.AdamBiasRefIdeal.main_v58) = v8 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3)
          ∧ r.2.mem ((c.tc : Thread Cert.AdamBiasRefIdeal.nD Cert.AdamBiasRefIdeal.τ).loc Cert.AdamBiasRefIdeal.main_arg4) = m' ((c.tc : Thread Cert.AdamBiasRefIdeal.nD Cert.AdamBiasRefIdeal.τ).loc Cert.AdamBiasRefIdeal.main_arg4)
          ∧ r.2.mem ((c.tc : Thread Cert.AdamBiasRefIdeal.nD Cert.AdamBiasRefIdeal.τ).loc Cert.AdamBiasRefIdeal.main_arg5) = m' ((c.tc : Thread Cert.AdamBiasRefIdeal.nD Cert.AdamBiasRefIdeal.τ).loc Cert.AdamBiasRefIdeal.main_arg5)
          ∧ r.2.mem ((c.tc : Thread Cert.AdamBiasRefIdeal.nD Cert.AdamBiasRefIdeal.τ).loc Cert.AdamBiasRefIdeal.main_arg6) = m' ((c.tc : Thread Cert.AdamBiasRefIdeal.nD Cert.AdamBiasRefIdeal.τ).loc Cert.AdamBiasRefIdeal.main_arg6)
          ∧ r.2.mem ((c.tc : Thread Cert.AdamBiasRefIdeal.nD Cert.AdamBiasRefIdeal.τ).loc Cert.AdamBiasRefIdeal.main_arg7) = m' ((c.tc : Thread Cert.AdamBiasRefIdeal.nD Cert.AdamBiasRefIdeal.τ).loc Cert.AdamBiasRefIdeal.main_arg7)
          ∧ r.2.mem ((c.tc : Thread Cert.AdamBiasRefIdeal.nD Cert.AdamBiasRefIdeal.τ).loc Cert.AdamBiasRefIdeal.main_arg8) = m' ((c.tc : Thread Cert.AdamBiasRefIdeal.nD Cert.AdamBiasRefIdeal.τ).loc Cert.AdamBiasRefIdeal.main_arg8)
          ∧ r.2.mem ((c.tc : Thread Cert.AdamBiasRefIdeal.nD Cert.AdamBiasRefIdeal.τ).loc Cert.AdamBiasRefIdeal.main_arg9) = m' ((c.tc : Thread Cert.AdamBiasRefIdeal.nD Cert.AdamBiasRefIdeal.τ).loc Cert.AdamBiasRefIdeal.main_arg9)
          ∧ r.2.mem ((c.tc : Thread Cert.AdamBiasRefIdeal.nD Cert.AdamBiasRefIdeal.τ).loc Cert.AdamBiasRefIdeal.main_arg10) = m' ((c.tc : Thread Cert.AdamBiasRefIdeal.nD Cert.AdamBiasRefIdeal.τ).loc Cert.AdamBiasRefIdeal.main_arg10)
          ∧ r.2.mem ((c.tc : Thread Cert.AdamBiasRefIdeal.nD Cert.AdamBiasRefIdeal.τ).loc Cert.AdamBiasRefIdeal.main_arg11) = m' ((c.tc : Thread Cert.AdamBiasRefIdeal.nD Cert.AdamBiasRefIdeal.τ).loc Cert.AdamBiasRefIdeal.main_arg11))

def preserves_AdamConv_AdamConvIdeal : Prop :=
  IdealRules.named_const.Statement Cert.AdamConvIdeal.κ "c1" .f32 0x3FC48605#32 ((8388608 / 5463681 : ℝ) : EReal)
  ∧ IdealRules.named_const.Statement Cert.AdamConvIdeal.κ "c2" .f32 0x42C8E6D3#32 ((268435456 / 2672307 : ℝ) : EReal)

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)
      ∧ m' ((c.tc : Thread Cert.AdamConvRefIdeal.nD Cert.AdamConvRefIdeal.τ).loc Cert.AdamConvRefIdeal.main_arg5) = m ((c.tc : Thread Cert.AdamConvIdeal.nD Cert.AdamConvIdeal.τ).loc Cert.AdamConvIdeal.main_arg5)
      ∧ m' ((c.tc : Thread Cert.AdamConvRefIdeal.nD Cert.AdamConvRefIdeal.τ).loc Cert.AdamConvRefIdeal.main_arg6) = m ((c.tc : Thread Cert.AdamConvIdeal.nD Cert.AdamConvIdeal.τ).loc Cert.AdamConvIdeal.main_arg6)
      ∧ m' ((c.tc : Thread Cert.AdamConvRefIdeal.nD Cert.AdamConvRefIdeal.τ).loc Cert.AdamConvRefIdeal.main_arg7) = m ((c.tc : Thread Cert.AdamConvIdeal.nD Cert.AdamConvIdeal.τ).loc Cert.AdamConvIdeal.main_arg7)
      ∧ m' ((c.tc : Thread Cert.AdamConvRefIdeal.nD Cert.AdamConvRefIdeal.τ).loc Cert.AdamConvRefIdeal.main_arg8) = m ((c.tc : Thread Cert.AdamConvIdeal.nD Cert.AdamConvIdeal.τ).loc Cert.AdamConvIdeal.main_arg8)
      ∧ m' ((c.tc : Thread Cert.AdamConvRefIdeal.nD Cert.AdamConvRefIdeal.τ).loc Cert.AdamConvRefIdeal.main_arg9) = m ((c.tc : Thread Cert.AdamConvIdeal.nD Cert.AdamConvIdeal.τ).loc Cert.AdamConvIdeal.main_arg9)
      ∧ m' ((c.tc : Thread Cert.AdamConvRefIdeal.nD Cert.AdamConvRefIdeal.τ).loc Cert.AdamConvRefIdeal.main_arg10) = m ((c.tc : Thread Cert.AdamConvIdeal.nD Cert.AdamConvIdeal.τ).loc Cert.AdamConvIdeal.main_arg10)
      ∧ m' ((c.tc : Thread Cert.AdamConvRefIdeal.nD Cert.AdamConvRefIdeal.τ).loc Cert.AdamConvRefIdeal.main_arg11) = m ((c.tc : Thread Cert.AdamConvIdeal.nD Cert.AdamConvIdeal.τ).loc Cert.AdamConvIdeal.main_arg11)
      ∧ m' ((c.tc : Thread Cert.AdamConvRefIdeal.nD Cert.AdamConvRefIdeal.τ).loc Cert.AdamConvRefIdeal.main_arg12) = m ((c.tc : Thread Cert.AdamConvIdeal.nD Cert.AdamConvIdeal.τ).loc Cert.AdamConvIdeal.main_arg12)
      ∧ m' ((c.tc : Thread Cert.AdamConvRefIdeal.nD Cert.AdamConvRefIdeal.τ).loc Cert.AdamConvRefIdeal.main_arg13) = m ((c.tc : Thread Cert.AdamConvIdeal.nD Cert.AdamConvIdeal.τ).loc Cert.AdamConvIdeal.main_arg13)
      ∧ m' ((c.tc : Thread Cert.AdamConvRefIdeal.nD Cert.AdamConvRefIdeal.τ).loc Cert.AdamConvRefIdeal.main_arg14) = m ((c.tc : Thread Cert.AdamConvIdeal.nD Cert.AdamConvIdeal.τ).loc Cert.AdamConvIdeal.main_arg14)
      ∧ m' ((c.tc : Thread Cert.AdamConvRefIdeal.nD Cert.AdamConvRefIdeal.τ).loc Cert.AdamConvRefIdeal.main_arg15) = m ((c.tc : Thread Cert.AdamConvIdeal.nD Cert.AdamConvIdeal.τ).loc Cert.AdamConvIdeal.main_arg15)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)) (v4 : (c : Dev Cert.AdamConvIdeal.nD) → Buf (Elt Ideal) ((c.tc : Thread Cert.AdamConvIdeal.nD Cert.AdamConvIdeal.τ).loc Cert.AdamConvIdeal.main_v0_4)) (v5 : (c : Dev Cert.AdamConvIdeal.nD) → Buf (Elt Ideal) ((c.tc : Thread Cert.AdamConvIdeal.nD Cert.AdamConvIdeal.τ).loc Cert.AdamConvIdeal.main_v0_5)) (v6 : (c : Dev Cert.AdamConvIdeal.nD) → Buf (Elt Ideal) ((c.tc : Thread Cert.AdamConvIdeal.nD Cert.AdamConvIdeal.τ).loc Cert.AdamConvIdeal.main_v0_6)) (v7 : (c : Dev Cert.AdamConvIdeal.nD) → Buf (Elt Ideal) ((c.tc : Thread Cert.AdamConvIdeal.nD Cert.AdamConvIdeal.τ).loc Cert.AdamConvIdeal.main_v0_7)) (v8 : (c : Dev Cert.AdamConvIdeal.nD) → Buf (Elt Ideal) ((c.tc : Thread Cert.AdamConvIdeal.nD Cert.AdamConvIdeal.τ).loc Cert.AdamConvIdeal.main_v0_8)) (v9 : (c : Dev Cert.AdamConvIdeal.nD) → Buf (Elt Ideal) ((c.tc : Thread Cert.AdamConvIdeal.nD Cert.AdamConvIdeal.τ).loc Cert.AdamConvIdeal.main_v0_9)) (v10 : (c : Dev Cert.AdamConvIdeal.nD) → Buf (Elt Ideal) ((c.tc : Thread Cert.AdamConvIdeal.nD Cert.AdamConvIdeal.τ).loc Cert.AdamConvIdeal.main_v0_10)) (v11 : (c : Dev Cert.AdamConvIdeal.nD) → Buf (Elt Ideal) ((c.tc : Thread Cert.AdamConvIdeal.nD Cert.AdamConvIdeal.τ).loc Cert.AdamConvIdeal.main_v0_11)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_v0_4) = v4 c
          ∧ r.2.mem ((c.tc : Thread Cert.AdamConvIdeal.nD Cert.AdamConvIdeal.τ).loc Cert.AdamConvIdeal.main_v0_5) = v5 c
          ∧ r.2.mem ((c.tc : Thread Cert.AdamConvIdeal.nD Cert.AdamConvIdeal.τ).loc Cert.AdamConvIdeal.main_v0_6) = v6 c
          ∧ r.2.mem ((c.tc : Thread Cert.AdamConvIdeal.nD Cert.AdamConvIdeal.τ).loc Cert.AdamConvIdeal.main_v0_7) = v7 c
          ∧ r.2.mem ((c.tc : Thread Cert.AdamConvIdeal.nD Cert.AdamConvIdeal.τ).loc Cert.AdamConvIdeal.main_v0_8) = v8 c
          ∧ r.2.mem ((c.tc : Thread Cert.AdamConvIdeal.nD Cert.AdamConvIdeal.τ).loc Cert.AdamConvIdeal.main_v0_9) = v9 c
          ∧ r.2.mem ((c.tc : Thread Cert.AdamConvIdeal.nD Cert.AdamConvIdeal.τ).loc Cert.AdamConvIdeal.main_v0_10) = v10 c
          ∧ r.2.mem ((c.tc : Thread Cert.AdamConvIdeal.nD Cert.AdamConvIdeal.τ).loc Cert.AdamConvIdeal.main_v0_11) = v11 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4)
          ∧ r.2.mem ((c.tc : Thread Cert.AdamConvIdeal.nD Cert.AdamConvIdeal.τ).loc Cert.AdamConvIdeal.main_arg5) = m ((c.tc : Thread Cert.AdamConvIdeal.nD Cert.AdamConvIdeal.τ).loc Cert.AdamConvIdeal.main_arg5)
          ∧ r.2.mem ((c.tc : Thread Cert.AdamConvIdeal.nD Cert.AdamConvIdeal.τ).loc Cert.AdamConvIdeal.main_arg6) = m ((c.tc : Thread Cert.AdamConvIdeal.nD Cert.AdamConvIdeal.τ).loc Cert.AdamConvIdeal.main_arg6)
          ∧ r.2.mem ((c.tc : Thread Cert.AdamConvIdeal.nD Cert.AdamConvIdeal.τ).loc Cert.AdamConvIdeal.main_arg7) = m ((c.tc : Thread Cert.AdamConvIdeal.nD Cert.AdamConvIdeal.τ).loc Cert.AdamConvIdeal.main_arg7)
          ∧ r.2.mem ((c.tc : Thread Cert.AdamConvIdeal.nD Cert.AdamConvIdeal.τ).loc Cert.AdamConvIdeal.main_arg8) = m ((c.tc : Thread Cert.AdamConvIdeal.nD Cert.AdamConvIdeal.τ).loc Cert.AdamConvIdeal.main_arg8)
          ∧ r.2.mem ((c.tc : Thread Cert.AdamConvIdeal.nD Cert.AdamConvIdeal.τ).loc Cert.AdamConvIdeal.main_arg9) = m ((c.tc : Thread Cert.AdamConvIdeal.nD Cert.AdamConvIdeal.τ).loc Cert.AdamConvIdeal.main_arg9)
          ∧ r.2.mem ((c.tc : Thread Cert.AdamConvIdeal.nD Cert.AdamConvIdeal.τ).loc Cert.AdamConvIdeal.main_arg10) = m ((c.tc : Thread Cert.AdamConvIdeal.nD Cert.AdamConvIdeal.τ).loc Cert.AdamConvIdeal.main_arg10)
          ∧ r.2.mem ((c.tc : Thread Cert.AdamConvIdeal.nD Cert.AdamConvIdeal.τ).loc Cert.AdamConvIdeal.main_arg11) = m ((c.tc : Thread Cert.AdamConvIdeal.nD Cert.AdamConvIdeal.τ).loc Cert.AdamConvIdeal.main_arg11)
          ∧ r.2.mem ((c.tc : Thread Cert.AdamConvIdeal.nD Cert.AdamConvIdeal.τ).loc Cert.AdamConvIdeal.main_arg12) = m ((c.tc : Thread Cert.AdamConvIdeal.nD Cert.AdamConvIdeal.τ).loc Cert.AdamConvIdeal.main_arg12)
          ∧ r.2.mem ((c.tc : Thread Cert.AdamConvIdeal.nD Cert.AdamConvIdeal.τ).loc Cert.AdamConvIdeal.main_arg13) = m ((c.tc : Thread Cert.AdamConvIdeal.nD Cert.AdamConvIdeal.τ).loc Cert.AdamConvIdeal.main_arg13)
          ∧ r.2.mem ((c.tc : Thread Cert.AdamConvIdeal.nD Cert.AdamConvIdeal.τ).loc Cert.AdamConvIdeal.main_arg14) = m ((c.tc : Thread Cert.AdamConvIdeal.nD Cert.AdamConvIdeal.τ).loc Cert.AdamConvIdeal.main_arg14)
          ∧ r.2.mem ((c.tc : Thread Cert.AdamConvIdeal.nD Cert.AdamConvIdeal.τ).loc Cert.AdamConvIdeal.main_arg15) = m ((c.tc : Thread Cert.AdamConvIdeal.nD Cert.AdamConvIdeal.τ).loc Cert.AdamConvIdeal.main_arg15))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v47) = v1 c
          ∧ r.2.mem ((c.tc : Thread Cert.AdamConvRefIdeal.nD Cert.AdamConvRefIdeal.τ).loc Cert.AdamConvRefIdeal.main_v71) = v2 c
          ∧ r.2.mem ((c.tc : Thread Cert.AdamConvRefIdeal.nD Cert.AdamConvRefIdeal.τ).loc Cert.AdamConvRefIdeal.main_v95) = v3 c
          ∧ r.2.mem ((c.tc : Thread Cert.AdamConvRefIdeal.nD Cert.AdamConvRefIdeal.τ).loc Cert.AdamConvRefIdeal.main_v4) = v4 c
          ∧ r.2.mem ((c.tc : Thread Cert.AdamConvRefIdeal.nD Cert.AdamConvRefIdeal.τ).loc Cert.AdamConvRefIdeal.main_v28) = v5 c
          ∧ r.2.mem ((c.tc : Thread Cert.AdamConvRefIdeal.nD Cert.AdamConvRefIdeal.τ).loc Cert.AdamConvRefIdeal.main_v52) = v6 c
          ∧ r.2.mem ((c.tc : Thread Cert.AdamConvRefIdeal.nD Cert.AdamConvRefIdeal.τ).loc Cert.AdamConvRefIdeal.main_v76) = v7 c
          ∧ r.2.mem ((c.tc : Thread Cert.AdamConvRefIdeal.nD Cert.AdamConvRefIdeal.τ).loc Cert.AdamConvRefIdeal.main_v10) = v8 c
          ∧ r.2.mem ((c.tc : Thread Cert.AdamConvRefIdeal.nD Cert.AdamConvRefIdeal.τ).loc Cert.AdamConvRefIdeal.main_v34) = v9 c
          ∧ r.2.mem ((c.tc : Thread Cert.AdamConvRefIdeal.nD Cert.AdamConvRefIdeal.τ).loc Cert.AdamConvRefIdeal.main_v58) = v10 c
          ∧ r.2.mem ((c.tc : Thread Cert.AdamConvRefIdeal.nD Cert.AdamConvRefIdeal.τ).loc Cert.AdamConvRefIdeal.main_v82) = v11 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4)
          ∧ r.2.mem ((c.tc : Thread Cert.AdamConvRefIdeal.nD Cert.AdamConvRefIdeal.τ).loc Cert.AdamConvRefIdeal.main_arg5) = m' ((c.tc : Thread Cert.AdamConvRefIdeal.nD Cert.AdamConvRefIdeal.τ).loc Cert.AdamConvRefIdeal.main_arg5)
          ∧ r.2.mem ((c.tc : Thread Cert.AdamConvRefIdeal.nD Cert.AdamConvRefIdeal.τ).loc Cert.AdamConvRefIdeal.main_arg6) = m' ((c.tc : Thread Cert.AdamConvRefIdeal.nD Cert.AdamConvRefIdeal.τ).loc Cert.AdamConvRefIdeal.main_arg6)
          ∧ r.2.mem ((c.tc : Thread Cert.AdamConvRefIdeal.nD Cert.AdamConvRefIdeal.τ).loc Cert.AdamConvRefIdeal.main_arg7) = m' ((c.tc : Thread Cert.AdamConvRefIdeal.nD Cert.AdamConvRefIdeal.τ).loc Cert.AdamConvRefIdeal.main_arg7)
          ∧ r.2.mem ((c.tc : Thread Cert.AdamConvRefIdeal.nD Cert.AdamConvRefIdeal.τ).loc Cert.AdamConvRefIdeal.main_arg8) = m' ((c.tc : Thread Cert.AdamConvRefIdeal.nD Cert.AdamConvRefIdeal.τ).loc Cert.AdamConvRefIdeal.main_arg8)
          ∧ r.2.mem ((c.tc : Thread Cert.AdamConvRefIdeal.nD Cert.AdamConvRefIdeal.τ).loc Cert.AdamConvRefIdeal.main_arg9) = m' ((c.tc : Thread Cert.AdamConvRefIdeal.nD Cert.AdamConvRefIdeal.τ).loc Cert.AdamConvRefIdeal.main_arg9)
          ∧ r.2.mem ((c.tc : Thread Cert.AdamConvRefIdeal.nD Cert.AdamConvRefIdeal.τ).loc Cert.AdamConvRefIdeal.main_arg10) = m' ((c.tc : Thread Cert.AdamConvRefIdeal.nD Cert.AdamConvRefIdeal.τ).loc Cert.AdamConvRefIdeal.main_arg10)
          ∧ r.2.mem ((c.tc : Thread Cert.AdamConvRefIdeal.nD Cert.AdamConvRefIdeal.τ).loc Cert.AdamConvRefIdeal.main_arg11) = m' ((c.tc : Thread Cert.AdamConvRefIdeal.nD Cert.AdamConvRefIdeal.τ).loc Cert.AdamConvRefIdeal.main_arg11)
          ∧ r.2.mem ((c.tc : Thread Cert.AdamConvRefIdeal.nD Cert.AdamConvRefIdeal.τ).loc Cert.AdamConvRefIdeal.main_arg12) = m' ((c.tc : Thread Cert.AdamConvRefIdeal.nD Cert.AdamConvRefIdeal.τ).loc Cert.AdamConvRefIdeal.main_arg12)
          ∧ r.2.mem ((c.tc : Thread Cert.AdamConvRefIdeal.nD Cert.AdamConvRefIdeal.τ).loc Cert.AdamConvRefIdeal.main_arg13) = m' ((c.tc : Thread Cert.AdamConvRefIdeal.nD Cert.AdamConvRefIdeal.τ).loc Cert.AdamConvRefIdeal.main_arg13)
          ∧ r.2.mem ((c.tc : Thread Cert.AdamConvRefIdeal.nD Cert.AdamConvRefIdeal.τ).loc Cert.AdamConvRefIdeal.main_arg14) = m' ((c.tc : Thread Cert.AdamConvRefIdeal.nD Cert.AdamConvRefIdeal.τ).loc Cert.AdamConvRefIdeal.main_arg14)
          ∧ r.2.mem ((c.tc : Thread Cert.AdamConvRefIdeal.nD Cert.AdamConvRefIdeal.τ).loc Cert.AdamConvRefIdeal.main_arg15) = m' ((c.tc : Thread Cert.AdamConvRefIdeal.nD Cert.AdamConvRefIdeal.τ).loc Cert.AdamConvRefIdeal.main_arg15))

def preserves_NormBwd_NormBwdIdeal : Prop :=
  True

def algebraic_NormBwdIdeal_NormBwdRefIdeal_pre_finite_norm [hNormBwdIdeal : Cert.NormBwdIdeal.Facts] [hNormBwdRefIdeal : Cert.NormBwdRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_norm m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)) (v2 : (c : Dev Cert.NormBwdIdeal.nD) → Buf (Elt Ideal) ((c.tc : Thread Cert.NormBwdIdeal.nD Cert.NormBwdIdeal.τ).loc Cert.NormBwdIdeal.main_v2_2)) (v3 : (c : Dev Cert.NormBwdIdeal.nD) → Buf (Elt Ideal) ((c.tc : Thread Cert.NormBwdIdeal.nD Cert.NormBwdIdeal.τ).loc Cert.NormBwdIdeal.main_v2_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_v2_2) = v2 c
          ∧ r.2.mem ((c.tc : Thread Cert.NormBwdIdeal.nD Cert.NormBwdIdeal.τ).loc Cert.NormBwdIdeal.main_v2_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v58) = v0 c
          ∧ r.2.mem ((c.tc : Thread Cert.NormBwdRefIdeal.nD Cert.NormBwdRefIdeal.τ).loc Cert.NormBwdRefIdeal.main_v59) = v1 c
          ∧ r.2.mem ((c.tc : Thread Cert.NormBwdRefIdeal.nD Cert.NormBwdRefIdeal.τ).loc Cert.NormBwdRefIdeal.main_v60) = v2 c
          ∧ r.2.mem ((c.tc : Thread Cert.NormBwdRefIdeal.nD Cert.NormBwdRefIdeal.τ).loc Cert.NormBwdRefIdeal.main_v61) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v1_0)) (v1 : (c : Dev Cert.GateBwdIdeal.nD) → Buf (Elt Ideal) ((c.tc : Thread Cert.GateBwdIdeal.nD Cert.GateBwdIdeal.τ).loc Cert.GateBwdIdeal.main_v1_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v1_0) = v0 c
          ∧ r.2.mem ((c.tc : Thread Cert.GateBwdIdeal.nD Cert.GateBwdIdeal.τ).loc Cert.GateBwdIdeal.main_v1_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v11) = v0 c
          ∧ r.2.mem ((c.tc : Thread Cert.GateBwdRefIdeal.nD Cert.GateBwdRefIdeal.τ).loc Cert.GateBwdRefIdeal.main_v12) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_ScBwd_ScBwdIdeal : Prop :=
  True

def algebraic_ScBwdIdeal_ScBwdRefIdeal [hScBwdIdeal : Cert.ScBwdIdeal.Facts] [hScBwdRefIdeal : Cert.ScBwdRefIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg)
    (m' : (ℓ : Loc Cert.ScBwdRefIdeal.nD Cert.ScBwdRefIdeal.τ Cert.ScBwdRefIdeal.sig) → Buf (Elt Ideal) ℓ) (g' : Dev Cert.ScBwdRefIdeal.nD → PrngReg), Pre_ScBwdIdeal m →
    (∀ c : Dev Cert.ScBwdIdeal.nD,
      m' ((c.tc : Thread Cert.ScBwdRefIdeal.nD Cert.ScBwdRefIdeal.τ).loc Cert.ScBwdRefIdeal.main_arg0) = m ((c.tc : Thread Cert.ScBwdIdeal.nD Cert.ScBwdIdeal.τ).loc Cert.ScBwdIdeal.main_arg0)
      ∧ m' ((c.tc : Thread Cert.ScBwdRefIdeal.nD Cert.ScBwdRefIdeal.τ).loc Cert.ScBwdRefIdeal.main_arg1) = m ((c.tc : Thread Cert.ScBwdIdeal.nD Cert.ScBwdIdeal.τ).loc Cert.ScBwdIdeal.main_arg1)
      ∧ m' ((c.tc : Thread Cert.ScBwdRefIdeal.nD Cert.ScBwdRefIdeal.τ).loc Cert.ScBwdRefIdeal.main_arg2) = m ((c.tc : Thread Cert.ScBwdIdeal.nD Cert.ScBwdIdeal.τ).loc Cert.ScBwdIdeal.main_arg2)
      ∧ m' ((c.tc : Thread Cert.ScBwdRefIdeal.nD Cert.ScBwdRefIdeal.τ).loc Cert.ScBwdRefIdeal.main_arg3) = m ((c.tc : Thread Cert.ScBwdIdeal.nD Cert.ScBwdIdeal.τ).loc Cert.ScBwdIdeal.main_arg3)) →
    ∃ (v0 : (c : Dev Cert.ScBwdIdeal.nD) → Buf (Elt Ideal) ((c.tc : Thread Cert.ScBwdIdeal.nD Cert.ScBwdIdeal.τ).loc Cert.ScBwdIdeal.main_v5_0)) (v1 : (c : Dev Cert.ScBwdIdeal.nD) → Buf (Elt Ideal) ((c.tc : Thread Cert.ScBwdIdeal.nD Cert.ScBwdIdeal.τ).loc Cert.ScBwdIdeal.main_v5_1)),
      θ_run (Cert.ScBwdIdeal.defs (F := Ideal)) (onTc (τ := Cert.ScBwdIdeal.τ) (Cert.ScBwdIdeal.main (F := Ideal))) ⟨m, fun _ => 0, g⟩ (fun r => ∀ c : Dev Cert.ScBwdIdeal.nD,
          r.2.mem ((c.tc : Thread Cert.ScBwdIdeal.nD Cert.ScBwdIdeal.τ).loc Cert.ScBwdIdeal.main_v5_0) = v0 c
          ∧ r.2.mem ((c.tc : Thread Cert.ScBwdIdeal.nD Cert.ScBwdIdeal.τ).loc Cert.ScBwdIdeal.main_v5_1) = v1 c
          ∧ r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
          ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
          ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
          ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3))
      ∧ θ_run (Cert.ScBwdRefIdeal.defs (F := Ideal)) (onTc (τ := Cert.ScBwdRefIdeal.τ) (Cert.ScBwdRefIdeal.main (F := Ideal))) ⟨m', fun _ => 0, g'⟩ (fun r => ∀ c : Dev Cert.ScBwdRefIdeal.nD,
          r.2.mem ((c.tc : Thread Cert.ScBwdRefIdeal.nD Cert.ScBwdRefIdeal.τ).loc Cert.ScBwdRefIdeal.main_v74) = v0 c
          ∧ r.2.mem ((c.tc : Thread Cert.ScBwdRefIdeal.nD Cert.ScBwdRefIdeal.τ).loc Cert.ScBwdRefIdeal.main_v67) = v1 c
          ∧ r.2.mem ((c.tc : Thread Cert.ScBwdRefIdeal.nD Cert.ScBwdRefIdeal.τ).loc Cert.ScBwdRefIdeal.main_arg0) = m' ((c.tc : Thread Cert.ScBwdRefIdeal.nD Cert.ScBwdRefIdeal.τ).loc Cert.ScBwdRefIdeal.main_arg0)
          ∧ r.2.mem ((c.tc : Thread Cert.ScBwdRefIdeal.nD Cert.ScBwdRefIdeal.τ).loc Cert.ScBwdRefIdeal.main_arg1) = m' ((c.tc : Thread Cert.ScBwdRefIdeal.nD Cert.ScBwdRefIdeal.τ).loc Cert.ScBwdRefIdeal.main_arg1)
          ∧ r.2.mem ((c.tc : Thread Cert.ScBwdRefIdeal.nD Cert.ScBwdRefIdeal.τ).loc Cert.ScBwdRefIdeal.main_arg2) = m' ((c.tc : Thread Cert.ScBwdRefIdeal.nD Cert.ScBwdRefIdeal.τ).loc Cert.ScBwdRefIdeal.main_arg2)
          ∧ r.2.mem ((c.tc : Thread Cert.ScBwdRefIdeal.nD Cert.ScBwdRefIdeal.τ).loc Cert.ScBwdRefIdeal.main_arg3) = m' ((c.tc : Thread Cert.ScBwdRefIdeal.nD Cert.ScBwdRefIdeal.τ).loc Cert.ScBwdRefIdeal.main_arg3))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v3)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v3) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v22) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_ConfBwd_ConfBwdIdeal : Prop :=
  True

def algebraic_ConfBwdIdeal_ConfBwdRefIdeal_pre_finite_conf [hConfBwdIdeal : Cert.ConfBwdIdeal.Facts] [hConfBwdRefIdeal : Cert.ConfBwdRefIdeal.Facts] [hPre_finite_conf : Cert.Pre_finite_conf.Facts] : Prop :=
  ∀ (m : (ℓ : Loc Cert.ConfBwdIdeal.nD Cert.ConfBwdIdeal.τ Cert.ConfBwdIdeal.sig) → Buf (Elt Ideal) ℓ) (g : Dev Cert.ConfBwdIdeal.nD → PrngReg)
    (m' : (ℓ : Loc Cert.ConfBwdRefIdeal.nD Cert.ConfBwdRefIdeal.τ Cert.ConfBwdRefIdeal.sig) → Buf (Elt Ideal) ℓ) (g' : Dev Cert.ConfBwdRefIdeal.nD → PrngReg), Pre_ConfBwdIdeal_finite_conf m →
    (∀ c : Dev Cert.ConfBwdIdeal.nD,
      m' ((c.tc : Thread Cert.ConfBwdRefIdeal.nD Cert.ConfBwdRefIdeal.τ).loc Cert.ConfBwdRefIdeal.main_arg0) = m ((c.tc : Thread Cert.ConfBwdIdeal.nD Cert.ConfBwdIdeal.τ).loc Cert.ConfBwdIdeal.main_arg0)
      ∧ m' ((c.tc : Thread Cert.ConfBwdRefIdeal.nD Cert.ConfBwdRefIdeal.τ).loc Cert.ConfBwdRefIdeal.main_arg1) = m ((c.tc : Thread Cert.ConfBwdIdeal.nD Cert.ConfBwdIdeal.τ).loc Cert.ConfBwdIdeal.main_arg1)
      ∧ m' ((c.tc : Thread Cert.ConfBwdRefIdeal.nD Cert.ConfBwdRefIdeal.τ).loc Cert.ConfBwdRefIdeal.main_arg2) = m ((c.tc : Thread Cert.ConfBwdIdeal.nD Cert.ConfBwdIdeal.τ).loc Cert.ConfBwdIdeal.main_arg2)
      ∧ m' ((c.tc : Thread Cert.ConfBwdRefIdeal.nD Cert.ConfBwdRefIdeal.τ).loc Cert.ConfBwdRefIdeal.main_arg3) = m ((c.tc : Thread Cert.ConfBwdIdeal.nD Cert.ConfBwdIdeal.τ).loc Cert.ConfBwdIdeal.main_arg3)
      ∧ m' ((c.tc : Thread Cert.ConfBwdRefIdeal.nD Cert.ConfBwdRefIdeal.τ).loc Cert.ConfBwdRefIdeal.main_arg4) = m ((c.tc : Thread Cert.ConfBwdIdeal.nD Cert.ConfBwdIdeal.τ).loc Cert.ConfBwdIdeal.main_arg4)
      ∧ m' ((c.tc : Thread Cert.ConfBwdRefIdeal.nD Cert.ConfBwdRefIdeal.τ).loc Cert.ConfBwdRefIdeal.main_arg5) = m ((c.tc : Thread Cert.ConfBwdIdeal.nD Cert.ConfBwdIdeal.τ).loc Cert.ConfBwdIdeal.main_arg5)
      ∧ m' ((c.tc : Thread Cert.ConfBwdRefIdeal.nD Cert.ConfBwdRefIdeal.τ).loc Cert.ConfBwdRefIdeal.main_arg6) = m ((c.tc : Thread Cert.ConfBwdIdeal.nD Cert.ConfBwdIdeal.τ).loc Cert.ConfBwdIdeal.main_arg6)
      ∧ m' ((c.tc : Thread Cert.ConfBwdRefIdeal.nD Cert.ConfBwdRefIdeal.τ).loc Cert.ConfBwdRefIdeal.main_arg7) = m ((c.tc : Thread Cert.ConfBwdIdeal.nD Cert.ConfBwdIdeal.τ).loc Cert.ConfBwdIdeal.main_arg7)) →
    ∃ (v0 : (c : Dev Cert.ConfBwdIdeal.nD) → Buf (Elt Ideal) ((c.tc : Thread Cert.ConfBwdIdeal.nD Cert.ConfBwdIdeal.τ).loc Cert.ConfBwdIdeal.main_v7_2)) (v1 : (c : Dev Cert.ConfBwdIdeal.nD) → Buf (Elt Ideal) ((c.tc : Thread Cert.ConfBwdIdeal.nD Cert.ConfBwdIdeal.τ).loc Cert.ConfBwdIdeal.main_v7_3)) (v2 : (c : Dev Cert.ConfBwdIdeal.nD) → Buf (Elt Ideal) ((c.tc : Thread Cert.ConfBwdIdeal.nD Cert.ConfBwdIdeal.τ).loc Cert.ConfBwdIdeal.main_v7_4)),
      θ_run (Cert.ConfBwdIdeal.defs (F := Ideal)) (onTc (τ := Cert.ConfBwdIdeal.τ) (Cert.ConfBwdIdeal.main (F := Ideal))) ⟨m, fun _ => 0, g⟩ (fun r => ∀ c : Dev Cert.ConfBwdIdeal.nD,
          r.2.mem ((c.tc : Thread Cert.ConfBwdIdeal.nD Cert.ConfBwdIdeal.τ).loc Cert.ConfBwdIdeal.main_v7_2) = v0 c
          ∧ r.2.mem ((c.tc : Thread Cert.ConfBwdIdeal.nD Cert.ConfBwdIdeal.τ).loc Cert.ConfBwdIdeal.main_v7_3) = v1 c
          ∧ r.2.mem ((c.tc : Thread Cert.ConfBwdIdeal.nD Cert.ConfBwdIdeal.τ).loc Cert.ConfBwdIdeal.main_v7_4) = v2 c
          ∧ r.2.mem ((c.tc : Thread Cert.ConfBwdIdeal.nD Cert.ConfBwdIdeal.τ).loc Cert.ConfBwdIdeal.main_arg0) = m ((c.tc : Thread Cert.ConfBwdIdeal.nD Cert.ConfBwdIdeal.τ).loc Cert.ConfBwdIdeal.main_arg0)
          ∧ r.2.mem ((c.tc : Thread Cert.ConfBwdIdeal.nD Cert.ConfBwdIdeal.τ).loc Cert.ConfBwdIdeal.main_arg1) = m ((c.tc : Thread Cert.ConfBwdIdeal.nD Cert.ConfBwdIdeal.τ).loc Cert.ConfBwdIdeal.main_arg1)
          ∧ r.2.mem ((c.tc : Thread Cert.ConfBwdIdeal.nD Cert.ConfBwdIdeal.τ).loc Cert.ConfBwdIdeal.main_arg2) = m ((c.tc : Thread Cert.ConfBwdIdeal.nD Cert.ConfBwdIdeal.τ).loc Cert.ConfBwdIdeal.main_arg2)
          ∧ r.2.mem ((c.tc : Thread Cert.ConfBwdIdeal.nD Cert.ConfBwdIdeal.τ).loc Cert.ConfBwdIdeal.main_arg3) = m ((c.tc : Thread Cert.ConfBwdIdeal.nD Cert.ConfBwdIdeal.τ).loc Cert.ConfBwdIdeal.main_arg3)
          ∧ r.2.mem ((c.tc : Thread Cert.ConfBwdIdeal.nD Cert.ConfBwdIdeal.τ).loc Cert.ConfBwdIdeal.main_arg4) = m ((c.tc : Thread Cert.ConfBwdIdeal.nD Cert.ConfBwdIdeal.τ).loc Cert.ConfBwdIdeal.main_arg4)
          ∧ r.2.mem ((c.tc : Thread Cert.ConfBwdIdeal.nD Cert.ConfBwdIdeal.τ).loc Cert.ConfBwdIdeal.main_arg5) = m ((c.tc : Thread Cert.ConfBwdIdeal.nD Cert.ConfBwdIdeal.τ).loc Cert.ConfBwdIdeal.main_arg5)
          ∧ r.2.mem ((c.tc : Thread Cert.ConfBwdIdeal.nD Cert.ConfBwdIdeal.τ).loc Cert.ConfBwdIdeal.main_arg6) = m ((c.tc : Thread Cert.ConfBwdIdeal.nD Cert.ConfBwdIdeal.τ).loc Cert.ConfBwdIdeal.main_arg6)
          ∧ r.2.mem ((c.tc : Thread Cert.ConfBwdIdeal.nD Cert.ConfBwdIdeal.τ).loc Cert.ConfBwdIdeal.main_arg7) = m ((c.tc : Thread Cert.ConfBwdIdeal.nD Cert.ConfBwdIdeal.τ).loc Cert.ConfBwdIdeal.main_arg7))
      ∧ θ_run (Cert.ConfBwdRefIdeal.defs (F := Ideal)) (onTc (τ := Cert.ConfBwdRefIdeal.τ) (Cert.ConfBwdRefIdeal.main (F := Ideal))) ⟨m', fun _ => 0, g'⟩ (fun r => ∀ c : Dev Cert.ConfBwdRefIdeal.nD,
          r.2.mem ((c.tc : Thread Cert.ConfBwdRefIdeal.nD Cert.ConfBwdRefIdeal.τ).loc Cert.ConfBwdRefIdeal.main_v64) = v0 c
          ∧ r.2.mem ((c.tc : Thread Cert.ConfBwdRefIdeal.nD Cert.ConfBwdRefIdeal.τ).loc Cert.ConfBwdRefIdeal.main_v65) = v1 c
          ∧ r.2.mem ((c.tc : Thread Cert.ConfBwdRefIdeal.nD Cert.ConfBwdRefIdeal.τ).loc Cert.ConfBwdRefIdeal.main_v66) = v2 c
          ∧ r.2.mem ((c.tc : Thread Cert.ConfBwdRefIdeal.nD Cert.ConfBwdRefIdeal.τ).loc Cert.ConfBwdRefIdeal.main_arg0) = m' ((c.tc : Thread Cert.ConfBwdRefIdeal.nD Cert.ConfBwdRefIdeal.τ).loc Cert.ConfBwdRefIdeal.main_arg0)
          ∧ r.2.mem ((c.tc : Thread Cert.ConfBwdRefIdeal.nD Cert.ConfBwdRefIdeal.τ).loc Cert.ConfBwdRefIdeal.main_arg1) = m' ((c.tc : Thread Cert.ConfBwdRefIdeal.nD Cert.ConfBwdRefIdeal.τ).loc Cert.ConfBwdRefIdeal.main_arg1)
          ∧ r.2.mem ((c.tc : Thread Cert.ConfBwdRefIdeal.nD Cert.ConfBwdRefIdeal.τ).loc Cert.ConfBwdRefIdeal.main_arg2) = m' ((c.tc : Thread Cert.ConfBwdRefIdeal.nD Cert.ConfBwdRefIdeal.τ).loc Cert.ConfBwdRefIdeal.main_arg2)
          ∧ r.2.mem ((c.tc : Thread Cert.ConfBwdRefIdeal.nD Cert.ConfBwdRefIdeal.τ).loc Cert.ConfBwdRefIdeal.main_arg3) = m' ((c.tc : Thread Cert.ConfBwdRefIdeal.nD Cert.ConfBwdRefIdeal.τ).loc Cert.ConfBwdRefIdeal.main_arg3)
          ∧ r.2.mem ((c.tc : Thread Cert.ConfBwdRefIdeal.nD Cert.ConfBwdRefIdeal.τ).loc Cert.ConfBwdRefIdeal.main_arg4) = m' ((c.tc : Thread Cert.ConfBwdRefIdeal.nD Cert.ConfBwdRefIdeal.τ).loc Cert.ConfBwdRefIdeal.main_arg4)
          ∧ r.2.mem ((c.tc : Thread Cert.ConfBwdRefIdeal.nD Cert.ConfBwdRefIdeal.τ).loc Cert.ConfBwdRefIdeal.main_arg5) = m' ((c.tc : Thread Cert.ConfBwdRefIdeal.nD Cert.ConfBwdRefIdeal.τ).loc Cert.ConfBwdRefIdeal.main_arg5)
          ∧ r.2.mem ((c.tc : Thread Cert.ConfBwdRefIdeal.nD Cert.ConfBwdRefIdeal.τ).loc Cert.ConfBwdRefIdeal.main_arg6) = m' ((c.tc : Thread Cert.ConfBwdRefIdeal.nD Cert.ConfBwdRefIdeal.τ).loc Cert.ConfBwdRefIdeal.main_arg6)
          ∧ r.2.mem ((c.tc : Thread Cert.ConfBwdRefIdeal.nD Cert.ConfBwdRefIdeal.τ).loc Cert.ConfBwdRefIdeal.main_arg7) = m' ((c.tc : Thread Cert.ConfBwdRefIdeal.nD Cert.ConfBwdRefIdeal.τ).loc Cert.ConfBwdRefIdeal.main_arg7))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v25) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)) →
    ∃ (v0 : (c : Dev Cert.MixFwdIdeal.nD) → Buf (Elt Ideal) ((c.tc : Thread Cert.MixFwdIdeal.nD Cert.MixFwdIdeal.τ).loc Cert.MixFwdIdeal.main_v11_0)) (v1 : (c : Dev Cert.MixFwdIdeal.nD) → Buf (Elt Ideal) ((c.tc : Thread Cert.MixFwdIdeal.nD Cert.MixFwdIdeal.τ).loc Cert.MixFwdIdeal.main_v11_1)) (v2 : (c : Dev Cert.MixFwdIdeal.nD) → Buf (Elt Ideal) ((c.tc : Thread Cert.MixFwdIdeal.nD Cert.MixFwdIdeal.τ).loc Cert.MixFwdIdeal.main_v11_2)) (v3 : (c : Dev Cert.MixFwdIdeal.nD) → Buf (Elt Ideal) ((c.tc : Thread Cert.MixFwdIdeal.nD Cert.MixFwdIdeal.τ).loc Cert.MixFwdIdeal.main_v11_3)) (v4 : (c : Dev Cert.MixFwdIdeal.nD) → Buf (Elt Ideal) ((c.tc : Thread Cert.MixFwdIdeal.nD Cert.MixFwdIdeal.τ).loc Cert.MixFwdIdeal.main_v11_4)) (v5 : (c : Dev Cert.MixFwdIdeal.nD) → Buf (Elt Ideal) ((c.tc : Thread Cert.MixFwdIdeal.nD Cert.MixFwdIdeal.τ).loc Cert.MixFwdIdeal.main_v11_5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v11_0) = v0 c
          ∧ r.2.mem ((c.tc : Thread Cert.MixFwdIdeal.nD Cert.MixFwdIdeal.τ).loc Cert.MixFwdIdeal.main_v11_1) = v1 c
          ∧ r.2.mem ((c.tc : Thread Cert.MixFwdIdeal.nD Cert.MixFwdIdeal.τ).loc Cert.MixFwdIdeal.main_v11_2) = v2 c
          ∧ r.2.mem ((c.tc : Thread Cert.MixFwdIdeal.nD Cert.MixFwdIdeal.τ).loc Cert.MixFwdIdeal.main_v11_3) = v3 c
          ∧ r.2.mem ((c.tc : Thread Cert.MixFwdIdeal.nD Cert.MixFwdIdeal.τ).loc Cert.MixFwdIdeal.main_v11_4) = v4 c
          ∧ r.2.mem ((c.tc : Thread Cert.MixFwdIdeal.nD Cert.MixFwdIdeal.τ).loc Cert.MixFwdIdeal.main_v11_5) = v5 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v21) = v0 c
          ∧ r.2.mem ((c.tc : Thread Cert.MixFwdRefIdeal.nD Cert.MixFwdRefIdeal.τ).loc Cert.MixFwdRefIdeal.main_v22) = v1 c
          ∧ r.2.mem ((c.tc : Thread Cert.MixFwdRefIdeal.nD Cert.MixFwdRefIdeal.τ).loc Cert.MixFwdRefIdeal.main_v23) = v2 c
          ∧ r.2.mem ((c.tc : Thread Cert.MixFwdRefIdeal.nD Cert.MixFwdRefIdeal.τ).loc Cert.MixFwdRefIdeal.main_v24) = v3 c
          ∧ r.2.mem ((c.tc : Thread Cert.MixFwdRefIdeal.nD Cert.MixFwdRefIdeal.τ).loc Cert.MixFwdRefIdeal.main_v25) = v4 c
          ∧ r.2.mem ((c.tc : Thread Cert.MixFwdRefIdeal.nD Cert.MixFwdRefIdeal.τ).loc Cert.MixFwdRefIdeal.main_v31) = v5 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10))

def preserves_ScFwd_ScFwdIdeal : Prop :=
  True

def algebraic_ScFwdIdeal_ScFwdRefIdeal [hScFwdIdeal : Cert.ScFwdIdeal.Facts] [hScFwdRefIdeal : Cert.ScFwdRefIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg)
    (m' : (ℓ : Loc Cert.ScFwdRefIdeal.nD Cert.ScFwdRefIdeal.τ Cert.ScFwdRefIdeal.sig) → Buf (Elt Ideal) ℓ) (g' : Dev Cert.ScFwdRefIdeal.nD → PrngReg), Pre_ScFwdIdeal m →
    (∀ c : Dev Cert.ScFwdIdeal.nD,
      m' ((c.tc : Thread Cert.ScFwdRefIdeal.nD Cert.ScFwdRefIdeal.τ).loc Cert.ScFwdRefIdeal.main_arg0) = m ((c.tc : Thread Cert.ScFwdIdeal.nD Cert.ScFwdIdeal.τ).loc Cert.ScFwdIdeal.main_arg0)
      ∧ m' ((c.tc : Thread Cert.ScFwdRefIdeal.nD Cert.ScFwdRefIdeal.τ).loc Cert.ScFwdRefIdeal.main_arg1) = m ((c.tc : Thread Cert.ScFwdIdeal.nD Cert.ScFwdIdeal.τ).loc Cert.ScFwdIdeal.main_arg1)) →
    ∃ (v0 : (c : Dev Cert.ScFwdIdeal.nD) → Buf (Elt Ideal) ((c.tc : Thread Cert.ScFwdIdeal.nD Cert.ScFwdIdeal.τ).loc Cert.ScFwdIdeal.main_v4)),
      θ_run (Cert.ScFwdIdeal.defs (F := Ideal)) (onTc (τ := Cert.ScFwdIdeal.τ) (Cert.ScFwdIdeal.main (F := Ideal))) ⟨m, fun _ => 0, g⟩ (fun r => ∀ c : Dev Cert.ScFwdIdeal.nD,
          r.2.mem ((c.tc : Thread Cert.ScFwdIdeal.nD Cert.ScFwdIdeal.τ).loc Cert.ScFwdIdeal.main_v4) = v0 c
          ∧ r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
          ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ θ_run (Cert.ScFwdRefIdeal.defs (F := Ideal)) (onTc (τ := Cert.ScFwdRefIdeal.τ) (Cert.ScFwdRefIdeal.main (F := Ideal))) ⟨m', fun _ => 0, g'⟩ (fun r => ∀ c : Dev Cert.ScFwdRefIdeal.nD,
          r.2.mem ((c.tc : Thread Cert.ScFwdRefIdeal.nD Cert.ScFwdRefIdeal.τ).loc Cert.ScFwdRefIdeal.main_v30) = v0 c
          ∧ r.2.mem ((c.tc : Thread Cert.ScFwdRefIdeal.nD Cert.ScFwdRefIdeal.τ).loc Cert.ScFwdRefIdeal.main_arg0) = m' ((c.tc : Thread Cert.ScFwdRefIdeal.nD Cert.ScFwdRefIdeal.τ).loc Cert.ScFwdRefIdeal.main_arg0)
          ∧ r.2.mem ((c.tc : Thread Cert.ScFwdRefIdeal.nD Cert.ScFwdRefIdeal.τ).loc Cert.ScFwdRefIdeal.main_arg1) = m' ((c.tc : Thread Cert.ScFwdRefIdeal.nD Cert.ScFwdRefIdeal.τ).loc Cert.ScFwdRefIdeal.main_arg1))

def preserves_SsdPreFwd_SsdPreFwdIdeal : Prop :=
  True

def algebraic_SsdPreFwdIdeal_SsdPreFwdRefIdeal [hSsdPreFwdIdeal : Cert.SsdPreFwdIdeal.Facts] [hSsdPreFwdRefIdeal : Cert.SsdPreFwdRefIdeal.Facts] : Prop :=
  ∀ (m : (ℓ : Loc Cert.SsdPreFwdIdeal.nD Cert.SsdPreFwdIdeal.τ Cert.SsdPreFwdIdeal.sig) → Buf (Elt Ideal) ℓ) (g : Dev Cert.SsdPreFwdIdeal.nD → PrngReg)
    (m' : (ℓ : Loc Cert.SsdPreFwdRefIdeal.nD Cert.SsdPreFwdRefIdeal.τ Cert.SsdPreFwdRefIdeal.sig) → Buf (Elt Ideal) ℓ) (g' : Dev Cert.SsdPreFwdRefIdeal.nD → PrngReg), Pre_SsdPreFwdIdeal m →
    (∀ c : Dev Cert.SsdPreFwdIdeal.nD,
      m' ((c.tc : Thread Cert.SsdPreFwdRefIdeal.nD Cert.SsdPreFwdRefIdeal.τ).loc Cert.SsdPreFwdRefIdeal.main_arg0) = m ((c.tc : Thread Cert.SsdPreFwdIdeal.nD Cert.SsdPreFwdIdeal.τ).loc Cert.SsdPreFwdIdeal.main_arg0)
      ∧ m' ((c.tc : Thread Cert.SsdPreFwdRefIdeal.nD Cert.SsdPreFwdRefIdeal.τ).loc Cert.SsdPreFwdRefIdeal.main_arg1) = m ((c.tc : Thread Cert.SsdPreFwdIdeal.nD Cert.SsdPreFwdIdeal.τ).loc Cert.SsdPreFwdIdeal.main_arg1)
      ∧ m' ((c.tc : Thread Cert.SsdPreFwdRefIdeal.nD Cert.SsdPreFwdRefIdeal.τ).loc Cert.SsdPreFwdRefIdeal.main_arg2) = m ((c.tc : Thread Cert.SsdPreFwdIdeal.nD Cert.SsdPreFwdIdeal.τ).loc Cert.SsdPreFwdIdeal.main_arg2)) →
    ∃ (v0 : (c : Dev Cert.SsdPreFwdIdeal.nD) → Buf (Elt Ideal) ((c.tc : Thread Cert.SsdPreFwdIdeal.nD Cert.SsdPreFwdIdeal.τ).loc Cert.SsdPreFwdIdeal.main_v5_0)) (v1 : (c : Dev Cert.SsdPreFwdIdeal.nD) → Buf (Elt Ideal) ((c.tc : Thread Cert.SsdPreFwdIdeal.nD Cert.SsdPreFwdIdeal.τ).loc Cert.SsdPreFwdIdeal.main_v5_1)),
      θ_run (Cert.SsdPreFwdIdeal.defs (F := Ideal)) (onTc (τ := Cert.SsdPreFwdIdeal.τ) (Cert.SsdPreFwdIdeal.main (F := Ideal))) ⟨m, fun _ => 0, g⟩ (fun r => ∀ c : Dev Cert.SsdPreFwdIdeal.nD,
          r.2.mem ((c.tc : Thread Cert.SsdPreFwdIdeal.nD Cert.SsdPreFwdIdeal.τ).loc Cert.SsdPreFwdIdeal.main_v5_0) = v0 c
          ∧ r.2.mem ((c.tc : Thread Cert.SsdPreFwdIdeal.nD Cert.SsdPreFwdIdeal.τ).loc Cert.SsdPreFwdIdeal.main_v5_1) = v1 c
          ∧ r.2.mem ((c.tc : Thread Cert.SsdPreFwdIdeal.nD Cert.SsdPreFwdIdeal.τ).loc Cert.SsdPreFwdIdeal.main_arg0) = m ((c.tc : Thread Cert.SsdPreFwdIdeal.nD Cert.SsdPreFwdIdeal.τ).loc Cert.SsdPreFwdIdeal.main_arg0)
          ∧ r.2.mem ((c.tc : Thread Cert.SsdPreFwdIdeal.nD Cert.SsdPreFwdIdeal.τ).loc Cert.SsdPreFwdIdeal.main_arg1) = m ((c.tc : Thread Cert.SsdPreFwdIdeal.nD Cert.SsdPreFwdIdeal.τ).loc Cert.SsdPreFwdIdeal.main_arg1)
          ∧ r.2.mem ((c.tc : Thread Cert.SsdPreFwdIdeal.nD Cert.SsdPreFwdIdeal.τ).loc Cert.SsdPreFwdIdeal.main_arg2) = m ((c.tc : Thread Cert.SsdPreFwdIdeal.nD Cert.SsdPreFwdIdeal.τ).loc Cert.SsdPreFwdIdeal.main_arg2))
      ∧ θ_run (Cert.SsdPreFwdRefIdeal.defs (F := Ideal)) (onTc (τ := Cert.SsdPreFwdRefIdeal.τ) (Cert.SsdPreFwdRefIdeal.main (F := Ideal))) ⟨m', fun _ => 0, g'⟩ (fun r => ∀ c : Dev Cert.SsdPreFwdRefIdeal.nD,
          r.2.mem ((c.tc : Thread Cert.SsdPreFwdRefIdeal.nD Cert.SsdPreFwdRefIdeal.τ).loc Cert.SsdPreFwdRefIdeal.main_v38) = v0 c
          ∧ r.2.mem ((c.tc : Thread Cert.SsdPreFwdRefIdeal.nD Cert.SsdPreFwdRefIdeal.τ).loc Cert.SsdPreFwdRefIdeal.main_v39) = v1 c
          ∧ r.2.mem ((c.tc : Thread Cert.SsdPreFwdRefIdeal.nD Cert.SsdPreFwdRefIdeal.τ).loc Cert.SsdPreFwdRefIdeal.main_arg0) = m' ((c.tc : Thread Cert.SsdPreFwdRefIdeal.nD Cert.SsdPreFwdRefIdeal.τ).loc Cert.SsdPreFwdRefIdeal.main_arg0)
          ∧ r.2.mem ((c.tc : Thread Cert.SsdPreFwdRefIdeal.nD Cert.SsdPreFwdRefIdeal.τ).loc Cert.SsdPreFwdRefIdeal.main_arg1) = m' ((c.tc : Thread Cert.SsdPreFwdRefIdeal.nD Cert.SsdPreFwdRefIdeal.τ).loc Cert.SsdPreFwdRefIdeal.main_arg1)
          ∧ r.2.mem ((c.tc : Thread Cert.SsdPreFwdRefIdeal.nD Cert.SsdPreFwdRefIdeal.τ).loc Cert.SsdPreFwdRefIdeal.main_arg2) = m' ((c.tc : Thread Cert.SsdPreFwdRefIdeal.nD Cert.SsdPreFwdRefIdeal.τ).loc Cert.SsdPreFwdRefIdeal.main_arg2))

def Claim : Prop :=
  ∃ (hKernel : Cert.Kernel.Facts) (hKernelIdeal : Cert.KernelIdeal.Facts) (hReferenceIdeal : Cert.ReferenceIdeal.Facts) (hProjFwd : Cert.ProjFwd.Facts) (hProjFwdIdeal : Cert.ProjFwdIdeal.Facts) (hProjFwdRefIdeal : Cert.ProjFwdRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hUpFwd : Cert.UpFwd.Facts) (hUpFwdIdeal : Cert.UpFwdIdeal.Facts) (hUpFwdRefIdeal : Cert.UpFwdRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownFwd : Cert.DownFwd.Facts) (hDownFwdIdeal : Cert.DownFwdIdeal.Facts) (hDownFwdRefIdeal : Cert.DownFwdRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hBranchDw : Cert.BranchDw.Facts) (hBranchDwIdeal : Cert.BranchDwIdeal.Facts) (hBranchDwRefIdeal : Cert.BranchDwRefIdeal.Facts) (hAdamAda : Cert.AdamAda.Facts) (hAdamAdaIdeal : Cert.AdamAdaIdeal.Facts) (hAdamAdaRefIdeal : Cert.AdamAdaRefIdeal.Facts) (hAdamUp : Cert.AdamUp.Facts) (hAdamUpIdeal : Cert.AdamUpIdeal.Facts) (hAdamUpRefIdeal : Cert.AdamUpRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamVec : Cert.AdamVec.Facts) (hAdamVecIdeal : Cert.AdamVecIdeal.Facts) (hAdamVecRefIdeal : Cert.AdamVecRefIdeal.Facts) (hAdamBias : Cert.AdamBias.Facts) (hAdamBiasIdeal : Cert.AdamBiasIdeal.Facts) (hAdamBiasRefIdeal : Cert.AdamBiasRefIdeal.Facts) (hAdamConv : Cert.AdamConv.Facts) (hAdamConvIdeal : Cert.AdamConvIdeal.Facts) (hAdamConvRefIdeal : Cert.AdamConvRefIdeal.Facts) (hNormBwd : Cert.NormBwd.Facts) (hNormBwdIdeal : Cert.NormBwdIdeal.Facts) (hNormBwdRefIdeal : Cert.NormBwdRefIdeal.Facts) (hGateBwd : Cert.GateBwd.Facts) (hGateBwdIdeal : Cert.GateBwdIdeal.Facts) (hGateBwdRefIdeal : Cert.GateBwdRefIdeal.Facts) (hLoss : Cert.Loss.Facts) (hLossIdeal : Cert.LossIdeal.Facts) (hLossRefIdeal : Cert.LossRefIdeal.Facts) (hScBwd : Cert.ScBwd.Facts) (hScBwdIdeal : Cert.ScBwdIdeal.Facts) (hScBwdRefIdeal : Cert.ScBwdRefIdeal.Facts) (hAdaDw : Cert.AdaDw.Facts) (hAdaDwIdeal : Cert.AdaDwIdeal.Facts) (hAdaDwRefIdeal : Cert.AdaDwRefIdeal.Facts) (hConfBwd : Cert.ConfBwd.Facts) (hConfBwdIdeal : Cert.ConfBwdIdeal.Facts) (hConfBwdRefIdeal : Cert.ConfBwdRefIdeal.Facts) (hNormFwd : Cert.NormFwd.Facts) (hNormFwdIdeal : Cert.NormFwdIdeal.Facts) (hNormFwdRefIdeal : Cert.NormFwdRefIdeal.Facts) (hMixFwd : Cert.MixFwd.Facts) (hMixFwdIdeal : Cert.MixFwdIdeal.Facts) (hMixFwdRefIdeal : Cert.MixFwdRefIdeal.Facts) (hScFwd : Cert.ScFwd.Facts) (hScFwdIdeal : Cert.ScFwdIdeal.Facts) (hScFwdRefIdeal : Cert.ScFwdRefIdeal.Facts) (hSsdPreFwd : Cert.SsdPreFwd.Facts) (hSsdPreFwdIdeal : Cert.SsdPreFwdIdeal.Facts) (hSsdPreFwdRefIdeal : Cert.SsdPreFwdRefIdeal.Facts) (hPre_finite : Cert.Pre_finite.Facts) (hPre_finite_norm : Cert.Pre_finite_norm.Facts) (hPre_finite_loss : Cert.Pre_finite_loss.Facts) (hPre_finite_conf : Cert.Pre_finite_conf.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormBwdRefIdeal (hNormBwdRefIdeal := hNormBwdRefIdeal)
    ∧ quiescent_NormBwdRefIdeal_pre_finite_norm (hNormBwdRefIdeal := hNormBwdRefIdeal) (hPre_finite_norm := hPre_finite_norm)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_ScBwd (hScBwd := hScBwd)
    ∧ quiescent_ScBwdIdeal (hScBwdIdeal := hScBwdIdeal)
    ∧ quiescent_ScBwdRefIdeal (hScBwdRefIdeal := hScBwdRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_ConfBwd (hConfBwd := hConfBwd)
    ∧ quiescent_ConfBwdIdeal (hConfBwdIdeal := hConfBwdIdeal)
    ∧ quiescent_ConfBwdIdeal_pre_finite_conf (hConfBwdIdeal := hConfBwdIdeal) (hPre_finite_conf := hPre_finite_conf)
    ∧ quiescent_ConfBwdRefIdeal (hConfBwdRefIdeal := hConfBwdRefIdeal)
    ∧ quiescent_ConfBwdRefIdeal_pre_finite_conf (hConfBwdRefIdeal := hConfBwdRefIdeal) (hPre_finite_conf := hPre_finite_conf)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_ScFwd (hScFwd := hScFwd)
    ∧ quiescent_ScFwdIdeal (hScFwdIdeal := hScFwdIdeal)
    ∧ quiescent_ScFwdRefIdeal (hScFwdRefIdeal := hScFwdRefIdeal)
    ∧ quiescent_SsdPreFwd (hSsdPreFwd := hSsdPreFwd)
    ∧ quiescent_SsdPreFwdIdeal (hSsdPreFwdIdeal := hSsdPreFwdIdeal)
    ∧ quiescent_SsdPreFwdRefIdeal (hSsdPreFwdRefIdeal := hSsdPreFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjFwd_ProjFwdIdeal
    ∧ algebraic_ProjFwdIdeal_ProjFwdRefIdeal (hProjFwdIdeal := hProjFwdIdeal) (hProjFwdRefIdeal := hProjFwdRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_UpFwd_UpFwdIdeal
    ∧ algebraic_UpFwdIdeal_UpFwdRefIdeal (hUpFwdIdeal := hUpFwdIdeal) (hUpFwdRefIdeal := hUpFwdRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownFwd_DownFwdIdeal
    ∧ algebraic_DownFwdIdeal_DownFwdRefIdeal (hDownFwdIdeal := hDownFwdIdeal) (hDownFwdRefIdeal := hDownFwdRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_BranchDw_BranchDwIdeal
    ∧ algebraic_BranchDwIdeal_BranchDwRefIdeal (hBranchDwIdeal := hBranchDwIdeal) (hBranchDwRefIdeal := hBranchDwRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamConv_AdamConvIdeal
    ∧ algebraic_AdamConvIdeal_AdamConvRefIdeal (hAdamConvIdeal := hAdamConvIdeal) (hAdamConvRefIdeal := hAdamConvRefIdeal)
    ∧ preserves_NormBwd_NormBwdIdeal
    ∧ algebraic_NormBwdIdeal_NormBwdRefIdeal_pre_finite_norm (hNormBwdIdeal := hNormBwdIdeal) (hNormBwdRefIdeal := hNormBwdRefIdeal) (hPre_finite_norm := hPre_finite_norm)
    ∧ preserves_GateBwd_GateBwdIdeal
    ∧ algebraic_GateBwdIdeal_GateBwdRefIdeal (hGateBwdIdeal := hGateBwdIdeal) (hGateBwdRefIdeal := hGateBwdRefIdeal)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_ScBwd_ScBwdIdeal
    ∧ algebraic_ScBwdIdeal_ScBwdRefIdeal (hScBwdIdeal := hScBwdIdeal) (hScBwdRefIdeal := hScBwdRefIdeal)
    ∧ preserves_AdaDw_AdaDwIdeal
    ∧ algebraic_AdaDwIdeal_AdaDwRefIdeal (hAdaDwIdeal := hAdaDwIdeal) (hAdaDwRefIdeal := hAdaDwRefIdeal)
    ∧ preserves_ConfBwd_ConfBwdIdeal
    ∧ algebraic_ConfBwdIdeal_ConfBwdRefIdeal_pre_finite_conf (hConfBwdIdeal := hConfBwdIdeal) (hConfBwdRefIdeal := hConfBwdRefIdeal) (hPre_finite_conf := hPre_finite_conf)
    ∧ preserves_NormFwd_NormFwdIdeal
    ∧ algebraic_NormFwdIdeal_NormFwdRefIdeal (hNormFwdIdeal := hNormFwdIdeal) (hNormFwdRefIdeal := hNormFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_ScFwd_ScFwdIdeal
    ∧ algebraic_ScFwdIdeal_ScFwdRefIdeal (hScFwdIdeal := hScFwdIdeal) (hScFwdRefIdeal := hScFwdRefIdeal)
    ∧ preserves_SsdPreFwd_SsdPreFwdIdeal
    ∧ algebraic_SsdPreFwdIdeal_SsdPreFwdRefIdeal (hSsdPreFwdIdeal := hSsdPreFwdIdeal) (hSsdPreFwdRefIdeal := hSsdPreFwdRefIdeal)
-- ==== Pre_finite.lean ====
abbrev S8192x1280 : Shape := ⟨2, ![8192, 1280]⟩
abbrev S8192x1024 : Shape := ⟨2, ![8192, 1024]⟩
abbrev S8192x16 : Shape := ⟨2, ![8192, 16]⟩
abbrev S8192x8192 : Shape := ⟨2, ![8192, 8192]⟩
abbrev S16 : Shape := ⟨1, ![16]⟩
abbrev S1024 : Shape := ⟨1, ![1024]⟩
abbrev S_ : Shape := ⟨0, ![]⟩

class Facts : Prop where
  bcast_S_S8192x1280 : S_.BroadcastsInDim S8192x1280 (![] : Fin 0 → Fin S8192x1280.rank)
  bcast_S_S8192x1024 : S_.BroadcastsInDim S8192x1024 (![] : Fin 0 → Fin S8192x1024.rank)
  bcast_S_S8192x16 : S_.BroadcastsInDim S8192x16 (![] : Fin 0 → Fin S8192x16.rank)
  bcast_S_S16 : S_.BroadcastsInDim S16 (![] : Fin 0 → Fin S16.rank)
  bcast_S_S1024 : S_.BroadcastsInDim S1024 (![] : Fin 0 → Fin S1024.rank)

variable [Facts]

def fn_part1 {F : FTy → Type} [FloatOps F] (main_arg7 : FVec F S16 .f32) (main_arg8 : FVec F S1024 .f32) (main_v2 : IVec S8192x1280 1) (main_v5 : IVec S8192x1024 1) (main_v8 : IVec S8192x16 1) (main_v11 : IVec S8192x1024 1) (main_v14 : IVec S16 1) (main_v17 : IVec S16 1) : IVec S8192x1280 1 × IVec S8192x1024 1 × IVec S8192x16 1 × IVec S8192x1024 1 × IVec S16 1 × IVec S16 1 × IVec S16 1 × IVec S1024 1 :=
  let main_v18 : FVec F S16 .f32 := subf main_arg7 main_arg7
  let main_cst_5 : FVec F S_ .f32 := constant S_ .f32 0x00000000#32
  let main_v19 : FVec F S16 .f32 := broadcastInDim S16 ![] bcast_S_S16 main_cst_5
  let main_v20 : IVec S16 1 := cmpf .oeq main_v18 main_v19
  let main_v21 : FVec F S1024 .f32 := subf main_arg8 main_arg8
  let main_cst_6 : FVec F S_ .f32 := constant S_ .f32 0x00000000#32
  let main_v22 : FVec F S1024 .f32 := broadcastInDim S1024 ![] bcast_S_S1024 main_cst_6
  let main_v23 : IVec S1024 1 := cmpf .oeq main_v21 main_v22
  (main_v2, main_v5, main_v8, main_v11, main_v14, main_v17, main_v20, main_v23)

def fn {F : FTy → Type} [FloatOps F] (main_arg0 : FVec F S8192x1280 .f32) (main_arg1 : FVec F S8192x1024 .f32) (main_arg2 : FVec F S8192x16 .f32) (main_arg3 : FVec F S8192x1024 .f32) (main_arg4 : FVec F S8192x8192 .bf16) (main_arg5 : FVec F S16 .f32) (main_arg6 : FVec F S16 .f32) (main_arg7 : FVec F S16 .f32) (main_arg8 : FVec F S1024 .f32) : IVec S8192x1280 1 × IVec S8192x1024 1 × IVec S8192x16 1 × IVec S8192x1024 1 × IVec S16 1 × IVec S16 1 × IVec S16 1 × IVec S1024 1 :=
  let main_v0 : FVec F S8192x1280 .f32 := subf main_arg0 main_arg0
  let main_cst : FVec F S_ .f32 := constant S_ .f32 0x00000000#32
  let main_v1 : FVec F S8192x1280 .f32 := broadcastInDim S8192x1280 ![] bcast_S_S8192x1280 main_cst
  let main_v2 : IVec S8192x1280 1 := cmpf .oeq main_v0 main_v1
  let main_v3 : FVec F S8192x1024 .f32 := subf main_arg1 main_arg1
  let main_cst_0 : FVec F S_ .f32 := constant S_ .f32 0x00000000#32
  let main_v4 : FVec F S8192x1024 .f32 := broadcastInDim S8192x1024 ![] bcast_S_S8192x1024 main_cst_0
  let main_v5 : IVec S8192x1024 1 := cmpf .oeq main_v3 main_v4
  let main_v6 : FVec F S8192x16 .f32 := subf main_arg2 main_arg2
  let main_cst_1 : FVec F S_ .f32 := constant S_ .f32 0x00000000#32
  let main_v7 : FVec F S8192x16 .f32 := broadcastInDim S8192x16 ![] bcast_S_S8192x16 main_cst_1
  let main_v8 : IVec S8192x16 1 := cmpf .oeq main_v6 main_v7
  let main_v9 : FVec F S8192x1024 .f32 := subf main_arg3 main_arg3
  let main_cst_2 : FVec F S_ .f32 := constant S_ .f32 0x00000000#32
  let main_v10 : FVec F S8192x1024 .f32 := broadcastInDim S8192x1024 ![] bcast_S_S8192x1024 main_cst_2
  let main_v11 : IVec S8192x1024 1 := cmpf .oeq main_v9 main_v10
  let main_v12 : FVec F S16 .f32 := subf main_arg5 main_arg5
  let main_cst_3 : FVec F S_ .f32 := constant S_ .f32 0x00000000#32
  let main_v13 : FVec F S16 .f32 := broadcastInDim S16 ![] bcast_S_S16 main_cst_3
  let main_v14 : IVec S16 1 := cmpf .oeq main_v12 main_v13
  let main_v15 : FVec F S16 .f32 := subf main_arg6 main_arg6
  let main_cst_4 : FVec F S_ .f32 := constant S_ .f32 0x00000000#32
  let main_v16 : FVec F S16 .f32 := broadcastInDim S16 ![] bcast_S_S16 main_cst_4
  let main_v17 : IVec S16 1 := cmpf .oeq main_v15 main_v16
  fn_part1 (F := F) main_arg7 main_arg8 main_v2 main_v5 main_v8 main_v11 main_v14 main_v17
-- ==== Pre_finite_conf.lean ====
abbrev S8192x512 : Shape := ⟨2, ![8192, 512]⟩
abbrev S512 : Shape := ⟨1, ![512]⟩
abbrev S8192x8192 : Shape := ⟨2, ![8192, 8192]⟩
abbrev S31x512 : Shape := ⟨2, ![31, 512]⟩
abbrev S_ : Shape := ⟨0, ![]⟩

class Facts : Prop where
  bcast_S_S8192x512 : S_.BroadcastsInDim S8192x512 (![] : Fin 0 → Fin S8192x512.rank)
  bcast_S_S512 : S_.BroadcastsInDim S512 (![] : Fin 0 → Fin S512.rank)

variable [Facts]

def fn {F : FTy → Type} [FloatOps F] (main_arg0 : FVec F S8192x512 .f32) (main_arg1 : FVec F S512 .f32) (main_arg2 : FVec F S512 .f32) (main_arg3 : FVec F S512 .f32) (main_arg4 : FVec F S8192x512 .f32) (main_arg5 : FVec F S8192x8192 .bf16) (main_arg6 : FVec F S8192x8192 .bf16) (main_arg7 : FVec F S31x512 .f32) : IVec S8192x512 1 × IVec S512 1 × IVec S512 1 × IVec S512 1 × IVec S8192x512 1 :=
  let main_v0 : FVec F S8192x512 .f32 := subf main_arg0 main_arg0
  let main_cst : FVec F S_ .f32 := constant S_ .f32 0x00000000#32
  let main_v1 : FVec F S8192x512 .f32 := broadcastInDim S8192x512 ![] bcast_S_S8192x512 main_cst
  let main_v2 : IVec S8192x512 1 := cmpf .oeq main_v0 main_v1
  let main_v3 : FVec F S512 .f32 := subf main_arg1 main_arg1
  let main_cst_0 : FVec F S_ .f32 := constant S_ .f32 0x00000000#32
  let main_v4 : FVec F S512 .f32 := broadcastInDim S512 ![] bcast_S_S512 main_cst_0
  let main_v5 : IVec S512 1 := cmpf .oeq main_v3 main_v4
  let main_v6 : FVec F S512 .f32 := subf main_arg2 main_arg2
  let main_cst_1 : FVec F S_ .f32 := constant S_ .f32 0x00000000#32
  let main_v7 : FVec F S512 .f32 := broadcastInDim S512 ![] bcast_S_S512 main_cst_1
  let main_v8 : IVec S512 1 := cmpf .oeq main_v6 main_v7
  let main_v9 : FVec F S512 .f32 := subf main_arg3 main_arg3
  let main_cst_2 : FVec F S_ .f32 := constant S_ .f32 0x00000000#32
  let main_v10 : FVec F S512 .f32 := broadcastInDim S512 ![] bcast_S_S512 main_cst_2
  let main_v11 : IVec S512 1 := cmpf .oeq main_v9 main_v10
  let main_v12 : FVec F S8192x512 .f32 := subf main_arg4 main_arg4
  let main_cst_3 : FVec F S_ .f32 := constant S_ .f32 0x00000000#32
  let main_v13 : FVec F S8192x512 .f32 := broadcastInDim S8192x512 ![] bcast_S_S8192x512 main_cst_3
  let main_v14 : IVec S8192x512 1 := cmpf .oeq main_v12 main_v13
  (main_v2, main_v5, main_v8, main_v11, main_v14)
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S1024 1 × IVec S8192x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S1024 .f32 := subf main_arg1 main_arg1
  let main_cst_0 : FVec F S_ .f32 := constant S_ .f32 0x00000000#32
  let main_v4 : FVec F S1024 .f32 := broadcastInDim S1024 ![] bcast_S_S1024 main_cst_0
  let main_v5 : IVec S1024 1 := cmpf .oeq main_v3 main_v4
  let main_v6 : FVec F S8192x1024 .f32 := subf main_arg2 main_arg2
  let main_cst_1 : FVec F S_ .f32 := constant S_ .f32 0x00000000#32
  let main_v7 : FVec F S8192x1024 .f32 := broadcastInDim S8192x1024 ![] bcast_S_S8192x1024 main_cst_1
  let main_v8 : IVec S8192x1024 1 := cmpf .oeq main_v6 main_v7
  (main_v2, main_v5, main_v8)
-- ==== Pre_finite_norm.lean ====
abbrev S8192x1024 : Shape := ⟨2, ![8192, 1024]⟩
abbrev S1024 : Shape := ⟨1, ![1024]⟩
abbrev S3x1024 : Shape := ⟨2, ![3, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S3x1024 : S_.BroadcastsInDim S3x1024 (![] : Fin 0 → Fin S3x1024.rank)

variable [Facts]

def fn {F : FTy → Type} [FloatOps F] (main_arg0 : FVec F S8192x1024 .f32) (main_arg1 : FVec F S8192x1024 .f32) (main_arg2 : FVec F S8192x1024 .f32) (main_arg3 : FVec F S1024 .f32) (main_arg4 : FVec F S3x1024 .f32) : IVec S8192x1024 1 × IVec S8192x1024 1 × IVec S1024 1 × IVec S3x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S8192x1024 .f32 := subf main_arg1 main_arg1
  let main_cst_0 : FVec F S_ .f32 := constant S_ .f32 0x00000000#32
  let main_v4 : FVec F S8192x1024 .f32 := broadcastInDim S8192x1024 ![] bcast_S_S8192x1024 main_cst_0
  let main_v5 : IVec S8192x1024 1 := cmpf .oeq main_v3 main_v4
  let main_v6 : FVec F S1024 .f32 := subf main_arg3 main_arg3
  let main_cst_1 : FVec F S_ .f32 := constant S_ .f32 0x00000000#32
  let main_v7 : FVec F S1024 .f32 := broadcastInDim S1024 ![] bcast_S_S1024 main_cst_1
  let main_v8 : IVec S1024 1 := cmpf .oeq main_v6 main_v7
  let main_v9 : FVec F S3x1024 .f32 := subf main_arg4 main_arg4
  let main_cst_2 : FVec F S_ .f32 := constant S_ .f32 0x00000000#32
  let main_v10 : FVec F S3x1024 .f32 := broadcastInDim S3x1024 ![] bcast_S_S3x1024 main_cst_2
  let main_v11 : IVec S3x1024 1 := cmpf .oeq main_v9 main_v10
  (main_v2, main_v5, main_v8, main_v11)
-- ==== Kernel.lean ====
abbrev S8192x1280 : Shape := ⟨2, ![8192, 1280]⟩
abbrev S8192x1024 : Shape := ⟨2, ![8192, 1024]⟩
abbrev S8192x16 : Shape := ⟨2, ![8192, 16]⟩
abbrev S8192x8192 : Shape := ⟨2, ![8192, 8192]⟩
abbrev S16 : Shape := ⟨1, ![16]⟩
abbrev S1024 : Shape := ⟨1, ![1024]⟩
abbrev S8192x16x64 : Shape := ⟨3, ![8192, 16, 64]⟩
abbrev S8192x128 : Shape := ⟨2, ![8192, 128]⟩
abbrev S8192x2x64 : Shape := ⟨3, ![8192, 2, 64]⟩
abbrev S1x16 : Shape := ⟨2, ![1, 16]⟩
abbrev S_ : Shape := ⟨0, ![]⟩
abbrev S8192x8192x1 : Shape := ⟨3, ![8192, 8192, 1]⟩
abbrev S1x8192x16 : Shape := ⟨3, ![1, 8192, 16]⟩
abbrev S8192x8192x16 : Shape := ⟨3, ![8192, 8192, 16]⟩
abbrev S8192x16x1 : Shape := ⟨3, ![8192, 16, 1]⟩
abbrev S8192x1x16 : Shape := ⟨3, ![8192, 1, 16]⟩
abbrev S8192x8192x2x8 : Shape := ⟨4, ![8192, 8192, 2, 8]⟩
abbrev S8192x8192x1x1 : Shape := ⟨4, ![8192, 8192, 1, 1]⟩
abbrev S2x8192x8192 : Shape := ⟨3, ![2, 8192, 8192]⟩
abbrev S8192x8192x2 : Shape := ⟨3, ![8192, 8192, 2]⟩
abbrev S8192x8192x2x1 : Shape := ⟨4, ![8192, 8192, 2, 1]⟩
abbrev S8192x2x8x64 : Shape := ⟨4, ![8192, 2, 8, 64]⟩
abbrev S2x8x64x8192 : Shape := ⟨4, ![2, 8, 64, 8192]⟩
abbrev S16x1 : Shape := ⟨2, ![16, 1]⟩
abbrev S1x16x1 : Shape := ⟨3, ![1, 16, 1]⟩
abbrev S64x128x16 : Shape := ⟨3, ![64, 128, 16]⟩
abbrev S64x1x16 : Shape := ⟨3, ![64, 1, 16]⟩
abbrev S64x16 : Shape := ⟨2, ![64, 16]⟩
abbrev S63x16 : Shape := ⟨2, ![63, 16]⟩
abbrev S64x8192 : Shape := ⟨2, ![64, 8192]⟩
abbrev S64x8192x1 : Shape := ⟨3, ![64, 8192, 1]⟩
abbrev S64x8192x16 : Shape := ⟨3, ![64, 8192, 16]⟩
abbrev S64x8192x16x1 : Shape := ⟨4, ![64, 8192, 16, 1]⟩
abbrev S1x8192x16x64 : Shape := ⟨4, ![1, 8192, 16, 64]⟩
abbrev S64x8192x16x64 : Shape := ⟨4, ![64, 8192, 16, 64]⟩
abbrev S64x8192x2x512 : Shape := ⟨4, ![64, 8192, 2, 512]⟩
abbrev S2x64x64x512 : Shape := ⟨4, ![2, 64, 64, 512]⟩
abbrev S64x64x2x512 : Shape := ⟨4, ![64, 64, 2, 512]⟩
abbrev S64x64x1024 : Shape := ⟨3, ![64, 64, 1024]⟩
abbrev S8192x5888 : Shape := ⟨2, ![8192, 5888]⟩
abbrev S8192x240 : Shape := ⟨2, ![8192, 240]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S128x1 : Shape := ⟨2, ![128, 1]⟩
abbrev S128x1024 : Shape := ⟨2, ![128, 1024]⟩
abbrev S1024x128 : Shape := ⟨2, ![1024, 128]⟩
abbrev S128x256 : Shape := ⟨2, ![128, 256]⟩
abbrev S128x128 : Shape := ⟨2, ![128, 128]⟩
abbrev S1x64x1024 : Shape := ⟨3, ![1, 64, 1024]⟩
abbrev S128x1280 : Shape := ⟨2, ![128, 1280]⟩
abbrev S64x1024 : Shape := ⟨2, ![64, 1024]⟩
abbrev S128x512 : Shape := ⟨2, ![128, 512]⟩
abbrev S1x512 : Shape := ⟨2, ![1, 512]⟩
abbrev S512 : Shape := ⟨1, ![512]⟩
abbrev S8x128 : Shape := ⟨2, ![8, 128]⟩
abbrev S392x128 : Shape := ⟨2, ![392, 128]⟩
abbrev S392x1024 : Shape := ⟨2, ![392, 1024]⟩
abbrev S128x64 : Shape := ⟨2, ![128, 64]⟩
abbrev S64x512 : Shape := ⟨2, ![64, 512]⟩
abbrev S256x128 : Shape := ⟨2, ![256, 128]⟩
abbrev S384x1024 : Shape := ⟨2, ![384, 1024]⟩
abbrev S384x128 : Shape := ⟨2, ![384, 128]⟩
abbrev S8x1024 : Shape := ⟨2, ![8, 1024]⟩
abbrev S16x1024 : Shape := ⟨2, ![16, 1024]⟩
abbrev S16x128 : Shape := ⟨2, ![16, 128]⟩

abbrev nBuf : Space → Nat
  | .hbm => 173
  | .vmem => 40
  | .smem => 0
  | _ => 0

abbrev hbmTy0_0 (i : Nat) : BufTy := match i % 128 with
  | 0 => ⟨S8192x1280, .f32⟩
  | 1 => ⟨S8192x1024, .f32⟩
  | 2 => ⟨S8192x16, .f32⟩
  | 3 => ⟨S8192x1024, .f32⟩
  | 4 => ⟨S8192x8192, .bf16⟩
  | 5 => ⟨S16, .f32⟩
  | 6 => ⟨S16, .f32⟩
  | 7 => ⟨S16, .f32⟩
  | 8 => ⟨S1024, .f32⟩
  | 9 => ⟨S8192x1024, .f32⟩
  | 10 => ⟨S8192x16x64, .f32⟩
  | 11 => ⟨S8192x128, .f32⟩
  | 12 => ⟨S8192x2x64, .f32⟩
  | 13 => ⟨S8192x128, .f32⟩
  | 14 => ⟨S8192x2x64, .f32⟩
  | 15 => ⟨S1x16, .f32⟩
  | 16 => ⟨S8192x16, .f32⟩
  | 17 => ⟨S8192x16, .f32⟩
  | 18 => ⟨S_, .f32⟩
  | 19 => ⟨S8192x16, .f32⟩
  | 20 => ⟨S8192x16, .f32⟩
  | 21 => ⟨S8192x16, .f32⟩
  | 22 => ⟨S8192x16, .f32⟩
  | 23 => ⟨S8192x16, .i1⟩
  | 24 => ⟨S8192x16, .f32⟩
  | 25 => ⟨S8192x16, .f32⟩
  | 26 => ⟨S8192x16, .f32⟩
  | 27 => ⟨S8192x16, .f32⟩
  | 28 => ⟨S8192x16, .f32⟩
  | 29 => ⟨S8192x16, .f32⟩
  | 30 => ⟨S8192x16, .f32⟩
  | 31 => ⟨S8192x16, .f32⟩
  | 32 => ⟨S16, .f32⟩
  | 33 => ⟨S16, .f32⟩
  | 34 => ⟨S8192x8192, .i32⟩
  | 35 => ⟨S8192x8192, .i32⟩
  | 36 => ⟨S8192x8192, .i1⟩
  | 37 => ⟨S8192x8192x1, .i1⟩
  | 38 => ⟨S1x16, .f32⟩
  | 39 => ⟨S8192x16, .f32⟩
  | 40 => ⟨S8192x16, .f32⟩
  | 41 => ⟨S1x8192x16, .f32⟩
  | 42 => ⟨S_, .f32⟩
  | 43 => ⟨S_, .f32⟩
  | 44 => ⟨S8192x8192x16, .i1⟩
  | 45 => ⟨S8192x8192x16, .f32⟩
  | 46 => ⟨S8192x8192x16, .f32⟩
  | 47 => ⟨S8192x8192x16, .f32⟩
  | 48 => ⟨S_, .f32⟩
  | 49 => ⟨S8192x16, .f32⟩
  | 50 => ⟨S8192x16x1, .f32⟩
  | 51 => ⟨S8192x16x64, .f32⟩
  | 52 => ⟨S8192x16x64, .f32⟩
  | 53 => ⟨S8192x1x16, .f32⟩
  | 54 => ⟨S1x8192x16, .f32⟩
  | 55 => ⟨S8192x8192x16, .f32⟩
  | 56 => ⟨S8192x8192x16, .f32⟩
  | 57 => ⟨S8192x8192x16, .f32⟩
  | 58 => ⟨S8192x8192x2x8, .f32⟩
  | 59 => ⟨S8192x8192, .i1⟩
  | 60 => ⟨S8192x8192x1x1, .i1⟩
  | 61 => ⟨S_, .f32⟩
  | 62 => ⟨S_, .f32⟩
  | 63 => ⟨S8192x8192x2x8, .i1⟩
  | 64 => ⟨S8192x8192x2x8, .f32⟩
  | 65 => ⟨S8192x8192x2x8, .f32⟩
  | 66 => ⟨S8192x8192x2x8, .f32⟩
  | 67 => ⟨S2x8192x8192, .f32⟩
  | 68 => ⟨S8192x8192x2, .f32⟩
  | 69 => ⟨S8192x8192x2x1, .f32⟩
  | 70 => ⟨S8192x8192x2x8, .f32⟩
  | 71 => ⟨S8192x8192x2x8, .f32⟩
  | 72 => ⟨S8192x2x8x64, .f32⟩
  | 73 => ⟨S2x8x64x8192, .f32⟩
  | 74 => ⟨S8192x2x8x64, .f32⟩
  | 75 => ⟨S8192x16x64, .f32⟩
  | 76 => ⟨S16x1, .f32⟩
  | 77 => ⟨S1x16x1, .f32⟩
  | 78 => ⟨S8192x16x64, .f32⟩
  | 79 => ⟨S8192x16x64, .f32⟩
  | 80 => ⟨S8192x16x64, .f32⟩
  | 81 => ⟨S8192x1024, .f32⟩
  | 82 => ⟨S64x128x16, .f32⟩
  | 83 => ⟨S64x1x16, .f32⟩
  | 84 => ⟨S64x16, .f32⟩
  | 85 => ⟨S_, .f32⟩
  | 86 => ⟨S1x16, .f32⟩
  | 87 => ⟨S63x16, .f32⟩
  | 88 => ⟨S64x16, .f32⟩
  | 89 => ⟨S64x8192, .i32⟩
  | 90 => ⟨S64x8192, .i32⟩
  | 91 => ⟨S_, .i32⟩
  | 92 => ⟨S64x8192, .i32⟩
  | 93 => ⟨S64x8192, .i32⟩
  | 94 => ⟨S64x8192, .i1⟩
  | 95 => ⟨S64x8192x1, .i1⟩
  | 96 => ⟨S64x1x16, .f32⟩
  | 97 => ⟨S1x8192x16, .f32⟩
  | 98 => ⟨S64x8192x16, .f32⟩
  | 99 => ⟨S64x8192x16, .f32⟩
  | 100 => ⟨S64x8192x16, .f32⟩
  | 101 => ⟨S_, .f32⟩
  | 102 => ⟨S_, .f32⟩
  | 103 => ⟨S64x8192x16, .i1⟩
  | 104 => ⟨S64x8192x16, .f32⟩
  | 105 => ⟨S64x8192x16, .f32⟩
  | 106 => ⟨S64x8192x16, .f32⟩
  | 107 => ⟨S64x8192x16x1, .f32⟩
  | 108 => ⟨S1x8192x16x64, .f32⟩
  | 109 => ⟨S64x8192x16x64, .f32⟩
  | 110 => ⟨S64x8192x16x64, .f32⟩
  | 111 => ⟨S64x8192x16x64, .f32⟩
  | 112 => ⟨S64x8192x2x512, .f32⟩
  | 113 => ⟨S2x64x64x512, .f32⟩
  | 114 => ⟨S64x64x2x512, .f32⟩
  | 115 => ⟨S64x64x1024, .f32⟩
  | 116 => ⟨S_, .f32⟩
  | 117 => ⟨S8192x5888, .f32⟩
  | 118 => ⟨S_, .f32⟩
  | 119 => ⟨S8192x240, .f32⟩
  | 120 => ⟨S_, .f32⟩
  | 121 => ⟨S8192x1024, .f32⟩
  | 122 => ⟨S8192x8192, .f32⟩
  | 123 => ⟨S8192x1280, .bf16⟩
  | 124 => ⟨S8192x8192, .bf16⟩
  | 125 => ⟨S8192x1024, .bf16⟩
  | 126 => ⟨S8192x1024, .bf16⟩
  | 127 => ⟨S_, .i32⟩
  | _ => ⟨S8192x1280, .f32⟩

abbrev hbmTy0_1 (i : Nat) : BufTy := match i % 128 with
  | 0 => ⟨S_, .f32⟩
  | 1 => ⟨S128, .f32⟩
  | 2 => ⟨S1x128, .f32⟩
  | 3 => ⟨S_, .i32⟩
  | 4 => ⟨S_, .f32⟩
  | 5 => ⟨S128, .f32⟩
  | 6 => ⟨S1x128, .f32⟩
  | 7 => ⟨S16x64, .f32⟩
  | 8 => ⟨S1024, .f32⟩
  | 9 => ⟨S1x1024, .f32⟩
  | 10 => ⟨S1x1024, .f32⟩
  | 11 => ⟨S1024, .i32⟩
  | 12 => ⟨S_, .i32⟩
  | 13 => ⟨S_, .i32⟩
  | 14 => ⟨S1024, .i32⟩
  | 15 => ⟨S1024, .i32⟩
  | 16 => ⟨S1024, .i32⟩
  | 17 => ⟨S_, .i32⟩
  | 18 => ⟨S1024, .i32⟩
  | 19 => ⟨S1024, .i1⟩
  | 20 => ⟨S1024, .i32⟩
  | 21 => ⟨S1024, .i32⟩
  | 22 => ⟨S_, .i32⟩
  | 23 => ⟨S1024, .i32⟩
  | 24 => ⟨S1024, .i1⟩
  | 25 => ⟨S1024, .i1⟩
  | 26 => ⟨S_, .i32⟩
  | 27 => ⟨S1024, .i32⟩
  | 28 => ⟨S1024, .i32⟩
  | 29 => ⟨S1024, .i32⟩
  | 30 => ⟨S128, .i32⟩
  | 31 => ⟨S128x1, .i32⟩
  | 32 => ⟨S1x1024, .i32⟩
  | 33 => ⟨S128x1024, .i32⟩
  | 34 => ⟨S128x1024, .i32⟩
  | 35 => ⟨S128x1024, .i1⟩
  | 36 => ⟨S128x1024, .bf16⟩
  | 37 => ⟨S1024x128, .bf16⟩
  | 38 => ⟨S8192x8192, .bf16⟩
  | 39 => ⟨S8192x128, .bf16⟩
  | 40 => ⟨S8192x1280, .bf16⟩
  | 41 => ⟨S1x1024, .f32⟩
  | 42 => ⟨S1x128, .f32⟩
  | 43 => ⟨S1x128, .f32⟩
  | 44 => ⟨S1x128, .f32⟩
  | _ => ⟨S8192x1280, .f32⟩

abbrev hbmTy (i : Nat) : BufTy := match i / 128 with
  | 0 => hbmTy0_0 i
  | 1 => hbmTy0_1 i
  | _ => ⟨S8192x1280, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x128, .bf16⟩
  | .local _ .vmem, ⟨5, _⟩ => ⟨S128x128, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S1x64x1024, .f32⟩
  | .local _ .vmem, ⟨13, _⟩ => ⟨S1x64x1024, .f32⟩
  | .local _ .vmem, ⟨14, _⟩ => ⟨S1x128, .f32⟩
  | .local _ .vmem, ⟨15, _⟩ => ⟨S1x128, .f32⟩
  | .local _ .vmem, ⟨16, _⟩ => ⟨S1x1024, .f32⟩
  | .local _ .vmem, ⟨17, _⟩ => ⟨S1x1024, .f32⟩
  | .local _ .vmem, ⟨18, _⟩ => ⟨S128x1024, .bf16⟩
  | .local _ .vmem, ⟨19, _⟩ => ⟨S1024x128, .bf16⟩
  | .local _ .vmem, ⟨20, _⟩ => ⟨S128x1024, .bf16⟩
  | .local _ .vmem, ⟨21, _⟩ => ⟨S128x1024, .bf16⟩
  | .local _ .vmem, ⟨22, _⟩ => ⟨S128x128, .bf16⟩
  | .local _ .vmem, ⟨23, _⟩ => ⟨S128x128, .bf16⟩
  | .local _ .vmem, ⟨24, _⟩ => ⟨S128x1280, .bf16⟩
  | .local _ .vmem, ⟨25, _⟩ => ⟨S128x1280, .bf16⟩
  | .local _ .vmem, ⟨26, _⟩ => ⟨S1x1024, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S64x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x128, .f32⟩
  | .local _ .vmem, ⟨35, _⟩ => ⟨S128x128, .f32⟩
  | .local _ .vmem, ⟨36, _⟩ => ⟨S1x1024, .f32⟩
  | .local _ .vmem, ⟨37, _⟩ => ⟨S1x128, .f32⟩
  | .local _ .vmem, ⟨38, _⟩ => ⟨S1x128, .f32⟩
  | .local _ .vmem, ⟨39, _⟩ => ⟨S1x1024, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_v20 : Ref sig .tc := ⟨.hbm, 47, rfl⟩
abbrev main_cst_0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_2 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_3 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_4 : Ref sig .tc := ⟨.hbm, 116, rfl⟩
abbrev main_v78 : Ref sig .tc := ⟨.hbm, 117, rfl⟩
abbrev main_cst_5 : Ref sig .tc := ⟨.hbm, 118, rfl⟩
abbrev main_v79 : Ref sig .tc := ⟨.hbm, 119, rfl⟩
abbrev main_cst_6 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_7 : Ref sig .tc := ⟨.hbm, 127, rfl⟩
abbrev main_call4_v0 : Ref sig .tc := ⟨.hbm, 128, rfl⟩
abbrev main_v86 : Ref sig .tc := ⟨.hbm, 129, rfl⟩
abbrev main_v87 : Ref sig .tc := ⟨.hbm, 130, rfl⟩
abbrev main_c_8 : Ref sig .tc := ⟨.hbm, 131, rfl⟩
abbrev main_call5_v0 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_c_9 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_call6_v5 : Ref sig .tc := ⟨.hbm, 146, rfl⟩
abbrev main_call6_v6 : Ref sig .tc := ⟨.hbm, 147, rfl⟩
abbrev main_call6_v7 : Ref sig .tc := ⟨.hbm, 148, rfl⟩
abbrev main_call6_v8 : Ref sig .tc := ⟨.hbm, 149, rfl⟩
abbrev main_call6_c : Ref sig .tc := ⟨.hbm, 150, rfl⟩
abbrev main_call6_v9 : Ref sig .tc := ⟨.hbm, 151, rfl⟩
abbrev main_call6_v10 : Ref sig .tc := ⟨.hbm, 152, rfl⟩
abbrev main_call6_v11 : Ref sig .tc := ⟨.hbm, 153, rfl⟩
abbrev main_call6_c_0 : Ref sig .tc := ⟨.hbm, 154, rfl⟩
abbrev main_call6_v12 : Ref sig .tc := ⟨.hbm, 155, rfl⟩
abbrev main_call6_v13 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104_0 : Ref sig .tc := ⟨.hbm, 166, rfl⟩
abbrev main_v104_1 : Ref sig .tc := ⟨.hbm, 167, rfl⟩
abbrev main_v104_2 : Ref sig .tc := ⟨.hbm, 168, rfl⟩
abbrev main_v104_3 : Ref sig .tc := ⟨.hbm, 169, rfl⟩
abbrev main_v104_4 : Ref sig .tc := ⟨.hbm, 170, rfl⟩
abbrev main_v104_5 : Ref sig .tc := ⟨.hbm, 171, rfl⟩
abbrev main_v104_6 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v985 : BitVec 1 := Scalar.cmpi .eq arg0 c63_i32
  let v986 : BitVec 32 := Scalar.extui v985
  let c0_i32_312 : BitVec 32 := 0#32
  let v987 : BitVec 1 := Scalar.cmpi .ne v986 c0_i32_312
  v987

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c46_i32 : BitVec 32 := 46#32
  let c0_i32 : BitVec 32 := 0#32
  ![v0.toNat, c46_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c6_i32 : BitVec 32 := 6#32
  let c0_i32 : BitVec 32 := 0#32
  ![v0.toNat, c6_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c6_i32 : BitVec 32 := 6#32
  let c0_i32 : BitVec 32 := 0#32
  ![v0.toNat, c6_i32.toNat]

def cc0_transform_15 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1280 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x1280 : Shape := ⟨2, ![8192, 1280]⟩
abbrev S8192x1024 : Shape := ⟨2, ![8192, 1024]⟩
abbrev S8192x16 : Shape := ⟨2, ![8192, 16]⟩
abbrev S8192x8192 : Shape := ⟨2, ![8192, 8192]⟩
abbrev S16 : Shape := ⟨1, ![16]⟩
abbrev S1024 : Shape := ⟨1, ![1024]⟩
abbrev S8192x16x64 : Shape := ⟨3, ![8192, 16, 64]⟩
abbrev S8192x128 : Shape := ⟨2, ![8192, 128]⟩
abbrev S8192x2x64 : Shape := ⟨3, ![8192, 2, 64]⟩
abbrev S1x16 : Shape := ⟨2, ![1, 16]⟩
abbrev S_ : Shape := ⟨0, ![]⟩
abbrev S8192x8192x1 : Shape := ⟨3, ![8192, 8192, 1]⟩
abbrev S1x8192x16 : Shape := ⟨3, ![1, 8192, 16]⟩
abbrev S8192x8192x16 : Shape := ⟨3, ![8192, 8192, 16]⟩
abbrev S8192x16x1 : Shape := ⟨3, ![8192, 16, 1]⟩
abbrev S8192x1x16 : Shape := ⟨3, ![8192, 1, 16]⟩
abbrev S8192x8192x2x8 : Shape := ⟨4, ![8192, 8192, 2, 8]⟩
abbrev S8192x8192x1x1 : Shape := ⟨4, ![8192, 8192, 1, 1]⟩
abbrev S2x8192x8192 : Shape := ⟨3, ![2, 8192, 8192]⟩
abbrev S8192x8192x2 : Shape := ⟨3, ![8192, 8192, 2]⟩
abbrev S8192x8192x2x1 : Shape := ⟨4, ![8192, 8192, 2, 1]⟩
abbrev S8192x2x8x64 : Shape := ⟨4, ![8192, 2, 8, 64]⟩
abbrev S2x8x64x8192 : Shape := ⟨4, ![2, 8, 64, 8192]⟩
abbrev S16x1 : Shape := ⟨2, ![16, 1]⟩
abbrev S1x16x1 : Shape := ⟨3, ![1, 16, 1]⟩
abbrev S8192x2x512 : Shape := ⟨3, ![8192, 2, 512]⟩
abbrev S8192x2 : Shape := ⟨2, ![8192, 2]⟩
abbrev S8192x2x1 : Shape := ⟨3, ![8192, 2, 1]⟩
abbrev S1x1024 : Shape := ⟨2, ![1, 1024]⟩
abbrev S8192x6144 : Shape := ⟨2, ![8192, 6144]⟩
abbrev S128 : Shape := ⟨1, ![128]⟩
abbrev S1x128 : Shape := ⟨2, ![1, 128]⟩

abbrev nBuf : Space → Nat
  | .hbm => 170
  | .vmem => 0
  | .smem => 0
  | _ => 0

abbrev hbmTy0_0 (i : Nat) : BufTy := match i % 128 with
  | 0 => ⟨S8192x1280, .f32⟩
  | 1 => ⟨S8192x1024, .f32⟩
  | 2 => ⟨S8192x16, .f32⟩
  | 3 => ⟨S8192x1024, .f32⟩
  | 4 => ⟨S8192x8192, .bf16⟩
  | 5 => ⟨S16, .f32⟩
  | 6 => ⟨S16, .f32⟩
  | 7 => ⟨S16, .f32⟩
  | 8 => ⟨S1024, .f32⟩
  | 9 => ⟨S8192x1024, .f32⟩
  | 10 => ⟨S8192x16x64, .f32⟩
  | 11 => ⟨S8192x128, .f32⟩
  | 12 => ⟨S8192x2x64, .f32⟩
  | 13 => ⟨S8192x128, .f32⟩
  | 14 => ⟨S8192x2x64, .f32⟩
  | 15 => ⟨S1x16, .f32⟩
  | 16 => ⟨S8192x16, .f32⟩
  | 17 => ⟨S8192x16, .f32⟩
  | 18 => ⟨S_, .f32⟩
  | 19 => ⟨S8192x16, .f32⟩
  | 20 => ⟨S8192x16, .f32⟩
  | 21 => ⟨S8192x16, .f32⟩
  | 22 => ⟨S8192x16, .f32⟩
  | 23 => ⟨S8192x16, .i1⟩
  | 24 => ⟨S8192x16, .f32⟩
  | 25 => ⟨S8192x16, .f32⟩
  | 26 => ⟨S8192x16, .f32⟩
  | 27 => ⟨S8192x16, .f32⟩
  | 28 => ⟨S8192x16, .f32⟩
  | 29 => ⟨S8192x16, .f32⟩
  | 30 => ⟨S8192x16, .f32⟩
  | 31 => ⟨S8192x16, .f32⟩
  | 32 => ⟨S16, .f32⟩
  | 33 => ⟨S16, .f32⟩
  | 34 => ⟨S8192x8192, .i32⟩
  | 35 => ⟨S8192x8192, .i32⟩
  | 36 => ⟨S8192x8192, .i1⟩
  | 37 => ⟨S8192x8192x1, .i1⟩
  | 38 => ⟨S1x16, .f32⟩
  | 39 => ⟨S8192x16, .f32⟩
  | 40 => ⟨S8192x16, .f32⟩
  | 41 => ⟨S1x8192x16, .f32⟩
  | 42 => ⟨S_, .f32⟩
  | 43 => ⟨S_, .f32⟩
  | 44 => ⟨S8192x8192x16, .i1⟩
  | 45 => ⟨S8192x8192x16, .f32⟩
  | 46 => ⟨S8192x8192x16, .f32⟩
  | 47 => ⟨S8192x8192x16, .f32⟩
  | 48 => ⟨S_, .f32⟩
  | 49 => ⟨S8192x16, .f32⟩
  | 50 => ⟨S8192x16x1, .f32⟩
  | 51 => ⟨S8192x16x64, .f32⟩
  | 52 => ⟨S8192x16x64, .f32⟩
  | 53 => ⟨S8192x1x16, .f32⟩
  | 54 => ⟨S1x8192x16, .f32⟩
  | 55 => ⟨S8192x8192x16, .f32⟩
  | 56 => ⟨S8192x8192x16, .f32⟩
  | 57 => ⟨S8192x8192x16, .f32⟩
  | 58 => ⟨S8192x8192x2x8, .f32⟩
  | 59 => ⟨S8192x8192, .i1⟩
  | 60 => ⟨S8192x8192x1x1, .i1⟩
  | 61 => ⟨S_, .f32⟩
  | 62 => ⟨S_, .f32⟩
  | 63 => ⟨S8192x8192x2x8, .i1⟩
  | 64 => ⟨S8192x8192x2x8, .f32⟩
  | 65 => ⟨S8192x8192x2x8, .f32⟩
  | 66 => ⟨S8192x8192x2x8, .f32⟩
  | 67 => ⟨S2x8192x8192, .f32⟩
  | 68 => ⟨S8192x8192x2, .f32⟩
  | 69 => ⟨S8192x8192x2x1, .f32⟩
  | 70 => ⟨S8192x8192x2x8, .f32⟩
  | 71 => ⟨S8192x8192x2x8, .f32⟩
  | 72 => ⟨S8192x2x8x64, .f32⟩
  | 73 => ⟨S2x8x64x8192, .f32⟩
  | 74 => ⟨S8192x2x8x64, .f32⟩
  | 75 => ⟨S8192x16x64, .f32⟩
  | 76 => ⟨S16x1, .f32⟩
  | 77 => ⟨S1x16x1, .f32⟩
  | 78 => ⟨S8192x16x64, .f32⟩
  | 79 => ⟨S8192x16x64, .f32⟩
  | 80 => ⟨S8192x16x64, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x2x512, .f32⟩
  | 97 => ⟨S8192x2x512, .f32⟩
  | 98 => ⟨S_, .f32⟩
  | 99 => ⟨S8192x2, .f32⟩
  | 100 => ⟨S8192x2x1, .f32⟩
  | 101 => ⟨S_, .f32⟩
  | 102 => ⟨S8192x2x1, .f32⟩
  | 103 => ⟨S8192x2x1, .f32⟩
  | 104 => ⟨S_, .f32⟩
  | 105 => ⟨S8192x2x1, .f32⟩
  | 106 => ⟨S8192x2x1, .f32⟩
  | 107 => ⟨S8192x2x1, .f32⟩
  | 108 => ⟨S8192x2x1, .f32⟩
  | 109 => ⟨S_, .f32⟩
  | 110 => ⟨S8192x2x1, .f32⟩
  | 111 => ⟨S8192x2x1, .f32⟩
  | 112 => ⟨S8192x2x512, .f32⟩
  | 113 => ⟨S8192x2x512, .f32⟩
  | 114 => ⟨S8192x1024, .f32⟩
  | 115 => ⟨S1x1024, .f32⟩
  | 116 => ⟨S8192x1024, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S_, .f32⟩
  | 125 => ⟨S1024, .f32⟩
  | 126 => ⟨S8192x2x512, .f32⟩
  | 127 => ⟨S8192x2x512, .f32⟩
  | _ => ⟨S8192x1280, .f32⟩

abbrev hbmTy0_1 (i : Nat) : BufTy := match i % 128 with
  | 0 => ⟨S_, .f32⟩
  | 1 => ⟨S8192x2, .f32⟩
  | 2 => ⟨S8192x2x1, .f32⟩
  | 3 => ⟨S8192x2x512, .f32⟩
  | 4 => ⟨S8192x2x512, .f32⟩
  | 5 => ⟨S8192x2x1, .f32⟩
  | 6 => ⟨S_, .f32⟩
  | 7 => ⟨S8192x2x1, .f32⟩
  | 8 => ⟨S8192x2x1, .f32⟩
  | 9 => ⟨S_, .f32⟩
  | 10 => ⟨S8192x2, .f32⟩
  | 11 => ⟨S8192x2x512, .f32⟩
  | 12 => ⟨S8192x2x512, .f32⟩
  | 13 => ⟨S8192x2x512, .f32⟩
  | 14 => ⟨S8192x2x512, .f32⟩
  | 15 => ⟨S8192x2x512, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x16x64, .f32⟩
  | 24 => ⟨S8192x16x64, .f32⟩
  | 25 => ⟨S_, .f32⟩
  | 26 => ⟨S16, .f32⟩
  | 27 => ⟨S1x16x1, .f32⟩
  | 28 => ⟨S_, .f32⟩
  | 29 => ⟨S16, .f32⟩
  | 30 => ⟨S16x1, .f32⟩
  | 31 => ⟨S_, .f32⟩
  | 32 => ⟨S16, .f32⟩
  | 33 => ⟨S8192x6144, .bf16⟩
  | 34 => ⟨S8192x1024, .bf16⟩
  | 35 => ⟨S8192x1024, .bf16⟩
  | 36 => ⟨S8192x8192, .bf16⟩
  | 37 => ⟨S1x1024, .f32⟩
  | 38 => ⟨S_, .i32⟩
  | 39 => ⟨S_, .f32⟩
  | 40 => ⟨S128, .f32⟩
  | 41 => ⟨S1x128, .f32⟩
  | _ => ⟨S8192x1280, .f32⟩

abbrev hbmTy (i : Nat) : BufTy := match i / 128 with
  | 0 => hbmTy0_0 i
  | 1 => hbmTy0_1 i
  | _ => ⟨S8192x1280, .f32⟩

abbrev bufTy : (tb : Table) → Fin (tcTables nBuf tb) → BufTy
  | .hbm, ⟨i, _⟩ => hbmTy i
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_v20 : Ref sig .tc := ⟨.hbm, 47, rfl⟩
abbrev main_cst_0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_v50_2 : Ref sig .tc := ⟨.hbm, 89, rfl⟩
abbrev main_call3_cst_1 : Ref sig .tc := ⟨.hbm, 90, rfl⟩
abbrev main_call3_v6 : Ref sig .tc := ⟨.hbm, 91, rfl⟩
abbrev main_call3_v7 : Ref sig .tc := ⟨.hbm, 92, rfl⟩
abbrev main_v50_1 : Ref sig .tc := ⟨.hbm, 93, rfl⟩
abbrev main_v50_0 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_2 : Ref sig .tc := ⟨.hbm, 98, rfl⟩
abbrev main_v54 : Ref sig .tc := ⟨.hbm, 99, rfl⟩
abbrev main_v55 : Ref sig .tc := ⟨.hbm, 100, rfl⟩
abbrev main_cst_3 : Ref sig .tc := ⟨.hbm, 101, rfl⟩
abbrev main_v56 : Ref sig .tc := ⟨.hbm, 102, rfl⟩
abbrev main_v57 : Ref sig .tc := ⟨.hbm, 103, rfl⟩
abbrev main_cst_4 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_5 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_6 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_7 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_8 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_9 : Ref sig .tc := ⟨.hbm, 134, rfl⟩
abbrev main_v83 : Ref sig .tc := ⟨.hbm, 135, rfl⟩
abbrev main_v84 : Ref sig .tc := ⟨.hbm, 136, rfl⟩
abbrev main_cst_10 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_11 : Ref sig .tc := ⟨.hbm, 153, rfl⟩
abbrev main_v97 : Ref sig .tc := ⟨.hbm, 154, rfl⟩
abbrev main_v98 : Ref sig .tc := ⟨.hbm, 155, rfl⟩
abbrev main_cst_12 : Ref sig .tc := ⟨.hbm, 156, rfl⟩
abbrev main_v99 : Ref sig .tc := ⟨.hbm, 157, rfl⟩
abbrev main_v100 : Ref sig .tc := ⟨.hbm, 158, rfl⟩
abbrev main_cst_13 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_c : Ref sig .tc := ⟨.hbm, 166, rfl⟩
abbrev main_call5_v0 : Ref sig .tc := ⟨.hbm, 167, rfl⟩
abbrev main_v107 : Ref sig .tc := ⟨.hbm, 168, rfl⟩
abbrev main_v108 : Ref sig .tc := ⟨.hbm, 169, rfl⟩

abbrev nD : Nat := 1
abbrev τ : Topo := Topo.v7x

variable {F : FTy → Type} [FloatOps F]
-- ==== ProjFwd.lean ====
abbrev S8192x1024 : Shape := ⟨2, ![8192, 1024]⟩
abbrev S1024x8192 : Shape := ⟨2, ![1024, 8192]⟩
abbrev S8192x8192 : Shape := ⟨2, ![8192, 8192]⟩
abbrev S1024x1024 : Shape := ⟨2, ![1024, 1024]⟩
abbrev S1024x2048 : Shape := ⟨2, ![1024, 2048]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x8192, .f32⟩
  | .hbm, ⟨2, _⟩ => ⟨S8192x1024, .bf16⟩
  | .hbm, ⟨3, _⟩ => ⟨S1024x8192, .bf16⟩
  | .hbm, ⟨4, _⟩ => ⟨S8192x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwdRefIdeal.lean ====
abbrev S8192x1024 : Shape := ⟨2, ![8192, 1024]⟩
abbrev S1024x8192 : Shape := ⟨2, ![1024, 8192]⟩
abbrev S8192x8192 : Shape := ⟨2, ![8192, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8192, .f32⟩
  | .hbm, ⟨2, _⟩ => ⟨S8192x8192, .f32⟩
  | .hbm, ⟨3, _⟩ => ⟨S8192x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDx.lean ====
abbrev S8192x8192 : Shape := ⟨2, ![8192, 8192]⟩
abbrev S1024x8192 : Shape := ⟨2, ![1024, 8192]⟩
abbrev S8192x1024 : Shape := ⟨2, ![8192, 1024]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S1024x8192, .f32⟩
  | .hbm, ⟨2, _⟩ => ⟨S8192x8192, .bf16⟩
  | .hbm, ⟨3, _⟩ => ⟨S1024x8192, .bf16⟩
  | .hbm, ⟨4, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ProjDxRefIdeal.lean ====
abbrev S8192x8192 : Shape := ⟨2, ![8192, 8192]⟩
abbrev S1024x8192 : Shape := ⟨2, ![1024, 8192]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1024x8192, .f32⟩
  | .hbm, ⟨2, _⟩ => ⟨S_, .f32⟩
  | .hbm, ⟨3, _⟩ => ⟨S8192x1024, .f32⟩
  | .hbm, ⟨4, _⟩ => ⟨S8192x8192, .f32⟩
  | .hbm, ⟨5, _⟩ => ⟨S8192x1024, .f32⟩
  | .hbm, ⟨6, _⟩ => ⟨S8192x1024, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDw.lean ====
abbrev S8192x1024 : Shape := ⟨2, ![8192, 1024]⟩
abbrev S8192x8192 : Shape := ⟨2, ![8192, 8192]⟩
abbrev S1024x8192 : Shape := ⟨2, ![1024, 8192]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x1024, .bf16⟩
  | .hbm, ⟨3, _⟩ => ⟨S8192x8192, .bf16⟩
  | .hbm, ⟨4, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ProjDwRefIdeal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S_, .f32⟩
  | .hbm, ⟨3, _⟩ => ⟨S1024x8192, .f32⟩
  | .hbm, ⟨4, _⟩ => ⟨S8192x8192, .f32⟩
  | .hbm, ⟨5, _⟩ => ⟨S8192x1024, .f32⟩
  | .hbm, ⟨6, _⟩ => ⟨S1024x8192, .f32⟩
  | .hbm, ⟨7, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpFwd.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x5632, .bf16⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== UpDxRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | .hbm, ⟨6, _⟩ => ⟨S8192x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpDwRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | .hbm, ⟨8, _⟩ => ⟨S1024x4x1408, .bf16⟩
  | .hbm, ⟨9, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S3x1024 : Shape := ⟨2, ![3, 1024]⟩
abbrev S512x2816 : Shape := ⟨2, ![512, 2816]⟩
abbrev S512x1024 : Shape := ⟨2, ![512, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S3x1024, .f32⟩
  | .hbm, ⟨4, _⟩ => ⟨S8192x2816, .bf16⟩
  | .hbm, ⟨5, _⟩ => ⟨S2816x1024, .bf16⟩
  | .hbm, ⟨6, _⟩ => ⟨S8192x1024, .bf16⟩
  | .hbm, ⟨7, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S3x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownFwdRefIdeal.lean ====
abbrev S8192x2816 : Shape := ⟨2, ![8192, 2816]⟩
abbrev S2816x1024 : Shape := ⟨2, ![2816, 1024]⟩
abbrev S8192x1024 : Shape := ⟨2, ![8192, 1024]⟩
abbrev S3x1024 : Shape := ⟨2, ![3, 1024]⟩
abbrev S1x1024 : Shape := ⟨2, ![1, 1024]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S3x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x1024, .bf16⟩
  | .hbm, ⟨3, _⟩ => ⟨S2816x1024, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDw.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== BranchDwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamAda.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUp.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBranch.lean ====
abbrev S2x512x256 : Shape := ⟨3, ![2, 512, 256]⟩
abbrev S1024x256 : Shape := ⟨2, ![1024, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBranchIdeal.lean ====
abbrev S2x512x256 : Shape := ⟨3, ![2, 512, 256]⟩
abbrev S1024x256 : Shape := ⟨2, ![1024, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBranchRefIdeal.lean ====
abbrev S2x512x256 : Shape := ⟨3, ![2, 512, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S1024x256, .f32⟩
  | .hbm, ⟨38, _⟩ => ⟨S1024x256, .f32⟩
  | .hbm, ⟨39, _⟩ => ⟨S1024x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamIn.lean ====
abbrev S2x1024x1988 : Shape := ⟨3, ![2, 1024, 1988]⟩
abbrev S1988x2x1024 : Shape := ⟨3, ![1988, 2, 1024]⟩
abbrev S284x2x1024 : Shape := ⟨3, ![284, 2, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1988, .f32⟩
  | .hbm, ⟨1, _⟩ => ⟨S2x1024x1988, .f32⟩
  | .hbm, ⟨2, _⟩ => ⟨S2x1024x1988, .f32⟩
  | .hbm, ⟨3, _⟩ => ⟨S2x1024x1988, .f32⟩
  | .hbm, ⟨4, _⟩ => ⟨S1988x2x1024, .f32⟩
  | .hbm, ⟨5, _⟩ => ⟨S1988x2x1024, .f32⟩
  | .hbm, ⟨6, _⟩ => ⟨S1988x2x1024, .f32⟩
  | .hbm, ⟨7, _⟩ => ⟨S1988x2x1024, .f32⟩
  | .hbm, ⟨8, _⟩ => ⟨S1988x2x1024, .f32⟩
  | .hbm, ⟨9, _⟩ => ⟨S1988x2x1024, .f32⟩
  | .hbm, ⟨10, _⟩ => ⟨S1988x2x1024, .f32⟩
  | .local _ .vmem, ⟨0, _⟩ => ⟨S284x2x1024, .f32⟩
  | .local _ .vmem, ⟨1, _⟩ => ⟨S284x2x1024, .f32⟩
  | .local _ .vmem, ⟨2, _⟩ => ⟨S284x2x1024, .f32⟩
  | .local _ .vmem, ⟨3, _⟩ => ⟨S284x2x1024, .f32⟩
  | .local _ .vmem, ⟨4, _⟩ => ⟨S284x2x1024, .f32⟩
  | .local _ .vmem, ⟨5, _⟩ => ⟨S284x2x1024, .f32⟩
  | .local _ .vmem, ⟨6, _⟩ => ⟨S284x2x1024, .f32⟩
  | .local _ .vmem, ⟨7, _⟩ => ⟨S284x2x1024, .f32⟩
  | .local _ .vmem, ⟨8, _⟩ => ⟨S284x2x1024, .f32⟩
  | .local _ .vmem, ⟨9, _⟩ => ⟨S284x2x1024, .f32⟩
  | .local _ .vmem, ⟨10, _⟩ => ⟨S284x2x1024, .f32⟩
  | .local _ .vmem, ⟨11, _⟩ => ⟨S284x2x1024, .f32⟩
  | .local _ .vmem, ⟨12, _⟩ => ⟨S284x2x1024, .f32⟩
  | .local _ .vmem, ⟨13, _⟩ => ⟨S284x2x1024, .f32⟩
  | _, _ => ⟨S2x1024x1988, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S284x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S284x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S284x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S284x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S284x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S284x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S284x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamInRefIdeal.lean ====
abbrev S2x1024x1988 : Shape := ⟨3, ![2, 1024, 1988]⟩
abbrev S_ : Shape := ⟨0, ![]⟩
abbrev S1988x2x1024 : Shape := ⟨3, ![1988, 2, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1988, .f32⟩
  | .hbm, ⟨1, _⟩ => ⟨S2x1024x1988, .f32⟩
  | .hbm, ⟨2, _⟩ => ⟨S2x1024x1988, .f32⟩
  | .hbm, ⟨3, _⟩ => ⟨S2x1024x1988, .f32⟩
  | .hbm, ⟨4, _⟩ => ⟨S_, .f32⟩
  | .hbm, ⟨5, _⟩ => ⟨S2x1024x1988, .f32⟩
  | .hbm, ⟨6, _⟩ => ⟨S2x1024x1988, .f32⟩
  | .hbm, ⟨7, _⟩ => ⟨S_, .f32⟩
  | .hbm, ⟨8, _⟩ => ⟨S2x1024x1988, .f32⟩
  | .hbm, ⟨9, _⟩ => ⟨S2x1024x1988, .f32⟩
  | .hbm, ⟨10, _⟩ => ⟨S2x1024x1988, .f32⟩
  | .hbm, ⟨11, _⟩ => ⟨S_, .f32⟩
  | .hbm, ⟨12, _⟩ => ⟨S2x1024x1988, .f32⟩
  | .hbm, ⟨13, _⟩ => ⟨S2x1024x1988, .f32⟩
  | .hbm, ⟨14, _⟩ => ⟨S2x1024x1988, .f32⟩
  | .hbm, ⟨15, _⟩ => ⟨S_, .f32⟩
  | .hbm, ⟨16, _⟩ => ⟨S2x1024x1988, .f32⟩
  | .hbm, ⟨17, _⟩ => ⟨S2x1024x1988, .f32⟩
  | .hbm, ⟨18, _⟩ => ⟨S2x1024x1988, .f32⟩
  | .hbm, ⟨19, _⟩ => ⟨S_, .f32⟩
  | .hbm, ⟨20, _⟩ => ⟨S2x1024x1988, .f32⟩
  | .hbm, ⟨21, _⟩ => ⟨S2x1024x1988, .f32⟩
  | .hbm, ⟨22, _⟩ => ⟨S_, .f32⟩
  | .hbm, ⟨23, _⟩ => ⟨S2x1024x1988, .f32⟩
  | .hbm, ⟨24, _⟩ => ⟨S2x1024x1988, .f32⟩
  | .hbm, ⟨25, _⟩ => ⟨S2x1024x1988, .f32⟩
  | .hbm, ⟨26, _⟩ => ⟨S_, .f32⟩
  | .hbm, ⟨27, _⟩ => ⟨S2x1024x1988, .f32⟩
  | .hbm, ⟨28, _⟩ => ⟨S2x1024x1988, .f32⟩
  | .hbm, ⟨29, _⟩ => ⟨S2x1024x1988, .f32⟩
  | .hbm, ⟨30, _⟩ => ⟨S_, .f32⟩
  | .hbm, ⟨31, _⟩ => ⟨S2x1024x1988, .f32⟩
  | .hbm, ⟨32, _⟩ => ⟨S2x1024x1988, .f32⟩
  | .hbm, ⟨33, _⟩ => ⟨S2x1024x1988, .f32⟩
  | .hbm, ⟨34, _⟩ => ⟨S_, .f32⟩
  | .hbm, ⟨35, _⟩ => ⟨S2x1024x1988, .f32⟩
  | .hbm, ⟨36, _⟩ => ⟨S2x1024x1988, .f32⟩
  | .hbm, ⟨37, _⟩ => ⟨S1988x2x1024, .f32⟩
  | .hbm, ⟨38, _⟩ => ⟨S1988x2x1024, .f32⟩
  | .hbm, ⟨39, _⟩ => ⟨S1988x2x1024, .f32⟩
  | _, _ => ⟨S2x1024x1988, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamVec.lean ====
abbrev S2x3072 : Shape := ⟨2, ![2, 3072]⟩
abbrev S2x1024 : Shape := ⟨2, ![2, 1024]⟩
abbrev S2x1280 : Shape := ⟨2, ![2, 1280]⟩
abbrev S1024 : Shape := ⟨1, ![1024]⟩
abbrev S1x1024 : Shape := ⟨2, ![1, 1024]⟩

abbrev nBuf : Space → Nat
  | .hbm => 32
  | .vmem => 28
  | .smem => 0
  | _ => 0

abbrev bufTy : (tb : Table) → Fin (tcTables nBuf tb) → BufTy
  | .hbm, ⟨0, _⟩ => ⟨S2x3072, .f32⟩
  | .hbm, ⟨1, _⟩ => ⟨S2x1024, .f32⟩
  | .hbm, ⟨2, _⟩ => ⟨S2x1280, .f32⟩
  | .hbm, ⟨3, _⟩ => ⟨S1024, .f32⟩
  | .hbm, ⟨4, _⟩ => ⟨S2x3072, .f32⟩
  | .hbm, ⟨5, _⟩ => ⟨S2x1024, .f32⟩
  | .hbm, ⟨6, _⟩ => ⟨S2x1280, .f32⟩
  | .hbm, ⟨7, _⟩ => ⟨S1024, .f32⟩
  | .hbm, ⟨8, _⟩ => ⟨S2x3072, .f32⟩
  | .hbm, ⟨9, _⟩ => ⟨S2x1024, .f32⟩
  | .hbm, ⟨10, _⟩ => ⟨S2x1280, .f32⟩
  | .hbm, ⟨11, _⟩ => ⟨S1024, .f32⟩
  | .hbm, ⟨12, _⟩ => ⟨S2x3072, .f32⟩
  | .hbm, ⟨13, _⟩ => ⟨S2x1024, .f32⟩
  | .hbm, ⟨14, _⟩ => ⟨S2x1280, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S2x3072, .f32⟩
  | .hbm, ⟨21, _⟩ => ⟨S2x1024, .f32⟩
  | .hbm, ⟨22, _⟩ => ⟨S2x1280, .f32⟩
  | .hbm, ⟨23, _⟩ => ⟨S1x1024, .f32⟩
  | .hbm, ⟨24, _⟩ => ⟨S2x3072, .f32⟩
  | .hbm, ⟨25, _⟩ => ⟨S2x1024, .f32⟩
  | .hbm, ⟨26, _⟩ => ⟨S2x1280, .f32⟩
  | .hbm, ⟨27, _⟩ => ⟨S1x1024, .f32⟩
  | .hbm, ⟨28, _⟩ => ⟨S2x3072, .f32⟩
  | .hbm, ⟨29, _⟩ => ⟨S2x1024, .f32⟩
  | .hbm, ⟨30, _⟩ => ⟨S2x1280, .f32⟩
  | .hbm, ⟨31, _⟩ => ⟨S1x1024, .f32⟩
  | .local _ .vmem, ⟨0, _⟩ => ⟨S2x3072, .f32⟩
  | .local _ .vmem, ⟨1, _⟩ => ⟨S2x1024, .f32⟩
  | .local _ .vmem, ⟨2, _⟩ => ⟨S2x1280, .f32⟩
  | .local _ .vmem, ⟨3, _⟩ => ⟨S1x1024, .f32⟩
  | .local _ .vmem, ⟨4, _⟩ => ⟨S2x3072, .f32⟩
  | .local _ .vmem, ⟨5, _⟩ => ⟨S2x1024, .f32⟩
  | .local _ .vmem, ⟨6, _⟩ => ⟨S2x1280, .f32⟩
  | .local _ .vmem, ⟨7, _⟩ => ⟨S1x1024, .f32⟩
  | .local _ .vmem, ⟨8, _⟩ => ⟨S2x3072, .f32⟩
  | .local _ .vmem, ⟨9, _⟩ => ⟨S2x1024, .f32⟩
  | .local _ .vmem, ⟨10, _⟩ => ⟨S2x1280, .f32⟩
  | .local _ .vmem, ⟨11, _⟩ => ⟨S1x1024, .f32⟩
  | .local _ .vmem, ⟨12, _⟩ => ⟨S2x3072, .f32⟩
  | .local _ .vmem, ⟨13, _⟩ => ⟨S2x1024, .f32⟩
  | .local _ .vmem, ⟨14, _⟩ => ⟨S2x1280, .f32⟩
  | .local _ .vmem, ⟨15, _⟩ => ⟨S1x1024, .f32⟩
  | .local _ .vmem, ⟨16, _⟩ => ⟨S2x3072, .f32⟩
  | .local _ .vmem, ⟨17, _⟩ => ⟨S2x1024, .f32⟩
  | .local _ .vmem, ⟨18, _⟩ => ⟨S2x1280, .f32⟩
  | .local _ .vmem, ⟨19, _⟩ => ⟨S1x1024, .f32⟩
  | .local _ .vmem, ⟨20, _⟩ => ⟨S2x3072, .f32⟩
  | .local _ .vmem, ⟨21, _⟩ => ⟨S2x1024, .f32⟩
  | .local _ .vmem, ⟨22, _⟩ => ⟨S2x1280, .f32⟩
  | .local _ .vmem, ⟨23, _⟩ => ⟨S1x1024, .f32⟩
  | .local _ .vmem, ⟨24, _⟩ => ⟨S2x3072, .f32⟩
  | .local _ .vmem, ⟨25, _⟩ => ⟨S2x1024, .f32⟩
  | .local _ .vmem, ⟨26, _⟩ => ⟨S2x1280, .f32⟩
  | .local _ .vmem, ⟨27, _⟩ => ⟨S1x1024, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev main_v4_8 : Ref sig .tc := ⟨.hbm, 28, rfl⟩
abbrev main_v4_9 : Ref sig .tc := ⟨.hbm, 29, rfl⟩
abbrev main_v4_10 : Ref sig .tc := ⟨.hbm, 30, rfl⟩
abbrev main_v4_11 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1280 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x3072 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1280 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x3072 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x1280 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamVecIdeal.lean ====
abbrev S2x3072 : Shape := ⟨2, ![2, 3072]⟩
abbrev S2x1024 : Shape := ⟨2, ![2, 1024]⟩
abbrev S2x1280 : Shape := ⟨2, ![2, 1280]⟩
abbrev S1024 : Shape := ⟨1, ![1024]⟩
abbrev S1x1024 : Shape := ⟨2, ![1, 1024]⟩

abbrev nBuf : Space → Nat
  | .hbm => 32
  | .vmem => 28
  | .smem => 0
  | _ => 0

abbrev bufTy : (tb : Table) → Fin (tcTables nBuf tb) → BufTy
  | .hbm, ⟨0, _⟩ => ⟨S2x3072, .f32⟩
  | .hbm, ⟨1, _⟩ => ⟨S2x1024, .f32⟩
  | .hbm, ⟨2, _⟩ => ⟨S2x1280, .f32⟩
  | .hbm, ⟨3, _⟩ => ⟨S1024, .f32⟩
  | .hbm, ⟨4, _⟩ => ⟨S2x3072, .f32⟩
  | .hbm, ⟨5, _⟩ => ⟨S2x1024, .f32⟩
  | .hbm, ⟨6, _⟩ => ⟨S2x1280, .f32⟩
  | .hbm, ⟨7, _⟩ => ⟨S1024, .f32⟩
  | .hbm, ⟨8, _⟩ => ⟨S2x3072, .f32⟩
  | .hbm, ⟨9, _⟩ => ⟨S2x1024, .f32⟩
  | .hbm, ⟨10, _⟩ => ⟨S2x1280, .f32⟩
  | .hbm, ⟨11, _⟩ => ⟨S1024, .f32⟩
  | .hbm, ⟨12, _⟩ => ⟨S2x3072, .f32⟩
  | .hbm, ⟨13, _⟩ => ⟨S2x1024, .f32⟩
  | .hbm, ⟨14, _⟩ => ⟨S2x1280, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S2x3072, .f32⟩
  | .hbm, ⟨21, _⟩ => ⟨S2x1024, .f32⟩
  | .hbm, ⟨22, _⟩ => ⟨S2x1280, .f32⟩
  | .hbm, ⟨23, _⟩ => ⟨S1x1024, .f32⟩
  | .hbm, ⟨24, _⟩ => ⟨S2x3072, .f32⟩
  | .hbm, ⟨25, _⟩ => ⟨S2x1024, .f32⟩
  | .hbm, ⟨26, _⟩ => ⟨S2x1280, .f32⟩
  | .hbm, ⟨27, _⟩ => ⟨S1x1024, .f32⟩
  | .hbm, ⟨28, _⟩ => ⟨S2x3072, .f32⟩
  | .hbm, ⟨29, _⟩ => ⟨S2x1024, .f32⟩
  | .hbm, ⟨30, _⟩ => ⟨S2x1280, .f32⟩
  | .hbm, ⟨31, _⟩ => ⟨S1x1024, .f32⟩
  | .local _ .vmem, ⟨0, _⟩ => ⟨S2x3072, .f32⟩
  | .local _ .vmem, ⟨1, _⟩ => ⟨S2x1024, .f32⟩
  | .local _ .vmem, ⟨2, _⟩ => ⟨S2x1280, .f32⟩
  | .local _ .vmem, ⟨3, _⟩ => ⟨S1x1024, .f32⟩
  | .local _ .vmem, ⟨4, _⟩ => ⟨S2x3072, .f32⟩
  | .local _ .vmem, ⟨5, _⟩ => ⟨S2x1024, .f32⟩
  | .local _ .vmem, ⟨6, _⟩ => ⟨S2x1280, .f32⟩
  | .local _ .vmem, ⟨7, _⟩ => ⟨S1x1024, .f32⟩
  | .local _ .vmem, ⟨8, _⟩ => ⟨S2x3072, .f32⟩
  | .local _ .vmem, ⟨9, _⟩ => ⟨S2x1024, .f32⟩
  | .local _ .vmem, ⟨10, _⟩ => ⟨S2x1280, .f32⟩
  | .local _ .vmem, ⟨11, _⟩ => ⟨S1x1024, .f32⟩
  | .local _ .vmem, ⟨12, _⟩ => ⟨S2x3072, .f32⟩
  | .local _ .vmem, ⟨13, _⟩ => ⟨S2x1024, .f32⟩
  | .local _ .vmem, ⟨14, _⟩ => ⟨S2x1280, .f32⟩
  | .local _ .vmem, ⟨15, _⟩ => ⟨S1x1024, .f32⟩
  | .local _ .vmem, ⟨16, _⟩ => ⟨S2x3072, .f32⟩
  | .local _ .vmem, ⟨17, _⟩ => ⟨S2x1024, .f32⟩
  | .local _ .vmem, ⟨18, _⟩ => ⟨S2x1280, .f32⟩
  | .local _ .vmem, ⟨19, _⟩ => ⟨S1x1024, .f32⟩
  | .local _ .vmem, ⟨20, _⟩ => ⟨S2x3072, .f32⟩
  | .local _ .vmem, ⟨21, _⟩ => ⟨S2x1024, .f32⟩
  | .local _ .vmem, ⟨22, _⟩ => ⟨S2x1280, .f32⟩
  | .local _ .vmem, ⟨23, _⟩ => ⟨S1x1024, .f32⟩
  | .local _ .vmem, ⟨24, _⟩ => ⟨S2x3072, .f32⟩
  | .local _ .vmem, ⟨25, _⟩ => ⟨S2x1024, .f32⟩
  | .local _ .vmem, ⟨26, _⟩ => ⟨S2x1280, .f32⟩
  | .local _ .vmem, ⟨27, _⟩ => ⟨S1x1024, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev main_v4_8 : Ref sig .tc := ⟨.hbm, 28, rfl⟩
abbrev main_v4_9 : Ref sig .tc := ⟨.hbm, 29, rfl⟩
abbrev main_v4_10 : Ref sig .tc := ⟨.hbm, 30, rfl⟩
abbrev main_v4_11 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := .none

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1280 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x3072 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1280 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x3072 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x1280 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamVecRefIdeal.lean ====
abbrev S2x3072 : Shape := ⟨2, ![2, 3072]⟩
abbrev S2x1024 : Shape := ⟨2, ![2, 1024]⟩
abbrev S2x1280 : Shape := ⟨2, ![2, 1280]⟩
abbrev S1024 : Shape := ⟨1, ![1024]⟩
abbrev S_ : Shape := ⟨0, ![]⟩
abbrev S1x1024 : Shape := ⟨2, ![1, 1024]⟩

abbrev nBuf : Space → Nat
  | .hbm => 151
  | .vmem => 0
  | .smem => 0
  | _ => 0

abbrev hbmTy0_0 (i : Nat) : BufTy := match i % 128 with
  | 0 => ⟨S2x3072, .f32⟩
  | 1 => ⟨S2x1024, .f32⟩
  | 2 => ⟨S2x1280, .f32⟩
  | 3 => ⟨S1024, .f32⟩
  | 4 => ⟨S2x3072, .f32⟩
  | 5 => ⟨S2x1024, .f32⟩
  | 6 => ⟨S2x1280, .f32⟩
  | 7 => ⟨S1024, .f32⟩
  | 8 => ⟨S2x3072, .f32⟩
  | 9 => ⟨S2x1024, .f32⟩
  | 10 => ⟨S2x1280, .f32⟩
  | 11 => ⟨S1024, .f32⟩
  | 12 => ⟨S2x3072, .f32⟩
  | 13 => ⟨S2x1024, .f32⟩
  | 14 => ⟨S2x1280, .f32⟩
  | 15 => ⟨S1024, .f32⟩
  | 16 => ⟨S_, .f32⟩
  | 17 => ⟨S2x3072, .f32⟩
  | 18 => ⟨S2x3072, .f32⟩
  | 19 => ⟨S_, .f32⟩
  | 20 => ⟨S2x3072, .f32⟩
  | 21 => ⟨S2x3072, .f32⟩
  | 22 => ⟨S2x3072, .f32⟩
  | 23 => ⟨S_, .f32⟩
  | 24 => ⟨S2x3072, .f32⟩
  | 25 => ⟨S2x3072, .f32⟩
  | 26 => ⟨S2x3072, .f32⟩
  | 27 => ⟨S_, .f32⟩
  | 28 => ⟨S2x3072, .f32⟩
  | 29 => ⟨S2x3072, .f32⟩
  | 30 => ⟨S2x3072, .f32⟩
  | 31 => ⟨S_, .f32⟩
  | 32 => ⟨S2x3072, .f32⟩
  | 33 => ⟨S2x3072, .f32⟩
  | 34 => ⟨S_, .f32⟩
  | 35 => ⟨S2x3072, .f32⟩
  | 36 => ⟨S2x3072, .f32⟩
  | 37 => ⟨S2x3072, .f32⟩
  | 38 => ⟨S_, .f32⟩
  | 39 => ⟨S2x3072, .f32⟩
  | 40 => ⟨S2x3072, .f32⟩
  | 41 => ⟨S2x3072, .f32⟩
  | 42 => ⟨S_, .f32⟩
  | 43 => ⟨S2x3072, .f32⟩
  | 44 => ⟨S2x3072, .f32⟩
  | 45 => ⟨S2x3072, .f32⟩
  | 46 => ⟨S_, .f32⟩
  | 47 => ⟨S2x3072, .f32⟩
  | 48 => ⟨S2x3072, .f32⟩
  | 49 => ⟨S_, .f32⟩
  | 50 => ⟨S2x1024, .f32⟩
  | 51 => ⟨S2x1024, .f32⟩
  | 52 => ⟨S_, .f32⟩
  | 53 => ⟨S2x1024, .f32⟩
  | 54 => ⟨S2x1024, .f32⟩
  | 55 => ⟨S2x1024, .f32⟩
  | 56 => ⟨S_, .f32⟩
  | 57 => ⟨S2x1024, .f32⟩
  | 58 => ⟨S2x1024, .f32⟩
  | 59 => ⟨S2x1024, .f32⟩
  | 60 => ⟨S_, .f32⟩
  | 61 => ⟨S2x1024, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S2x1024, .f32⟩
  | 79 => ⟨S_, .f32⟩
  | 80 => ⟨S2x1024, .f32⟩
  | 81 => ⟨S2x1024, .f32⟩
  | 82 => ⟨S_, .f32⟩
  | 83 => ⟨S2x1280, .f32⟩
  | 84 => ⟨S2x1280, .f32⟩
  | 85 => ⟨S_, .f32⟩
  | 86 => ⟨S2x1280, .f32⟩
  | 87 => ⟨S2x1280, .f32⟩
  | 88 => ⟨S2x1280, .f32⟩
  | 89 => ⟨S_, .f32⟩
  | 90 => ⟨S2x1280, .f32⟩
  | 91 => ⟨S2x1280, .f32⟩
  | 92 => ⟨S2x1280, .f32⟩
  | 93 => ⟨S_, .f32⟩
  | 94 => ⟨S2x1280, .f32⟩
  | 95 => ⟨S2x1280, .f32⟩
  | 96 => ⟨S2x1280, .f32⟩
  | 97 => ⟨S_, .f32⟩
  | 98 => ⟨S2x1280, .f32⟩
  | 99 => ⟨S2x1280, .f32⟩
  | 100 => ⟨S_, .f32⟩
  | 101 => ⟨S2x1280, .f32⟩
  | 102 => ⟨S2x1280, .f32⟩
  | 103 => ⟨S2x1280, .f32⟩
  | 104 => ⟨S_, .f32⟩
  | 105 => ⟨S2x1280, .f32⟩
  | 106 => ⟨S2x1280, .f32⟩
  | 107 => ⟨S2x1280, .f32⟩
  | 108 => ⟨S_, .f32⟩
  | 109 => ⟨S2x1280, .f32⟩
  | 110 => ⟨S2x1280, .f32⟩
  | 111 => ⟨S2x1280, .f32⟩
  | 112 => ⟨S_, .f32⟩
  | 113 => ⟨S2x1280, .f32⟩
  | 114 => ⟨S2x1280, .f32⟩
  | 115 => ⟨S_, .f32⟩
  | 116 => ⟨S1024, .f32⟩
  | 117 => ⟨S1024, .f32⟩
  | 118 => ⟨S_, .f32⟩
  | 119 => ⟨S1024, .f32⟩
  | 120 => ⟨S1024, .f32⟩
  | 121 => ⟨S1024, .f32⟩
  | 122 => ⟨S_, .f32⟩
  | 123 => ⟨S1024, .f32⟩
  | 124 => ⟨S1024, .f32⟩
  | 125 => ⟨S1024, .f32⟩
  | 126 => ⟨S_, .f32⟩
  | 127 => ⟨S1024, .f32⟩
  | _ => ⟨S2x3072, .f32⟩

abbrev hbmTy0_1 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S_, .f32⟩
  | 6 => ⟨S1024, .f32⟩
  | 7 => ⟨S1024, .f32⟩
  | 8 => ⟨S1024, .f32⟩
  | 9 => ⟨S_, .f32⟩
  | 10 => ⟨S1024, .f32⟩
  | 11 => ⟨S1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S_, .f32⟩
  | 18 => ⟨S1024, .f32⟩
  | 19 => ⟨S1024, .f32⟩
  | 20 => ⟨S1x1024, .f32⟩
  | 21 => ⟨S1x1024, .f32⟩
  | 22 => ⟨S1x1024, .f32⟩
  | _ => ⟨S2x3072, .f32⟩

abbrev hbmTy (i : Nat) : BufTy := match i / 128 with
  | 0 => hbmTy0_0 i
  | 1 => hbmTy0_1 i
  | _ => ⟨S2x3072, .f32⟩

abbrev bufTy : (tb : Table) → Fin (tcTables nBuf tb) → BufTy
  | .hbm, ⟨i, _⟩ => hbmTy i
  | _, _ => ⟨S2x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩

abbrev nD : Nat := 1
abbrev τ : Topo := Topo.v7x

variable {F : FTy → Type} [FloatOps F]
-- ==== AdamBias.lean ====
abbrev S2x16 : Shape := ⟨2, ![2, 16]⟩
abbrev S2x512 : Shape := ⟨2, ![2, 512]⟩
abbrev S2x5632 : Shape := ⟨2, ![2, 5632]⟩

abbrev nBuf : Space → Nat
  | .hbm => 21
  | .vmem => 21
  | .smem => 0
  | _ => 0

abbrev bufTy : (tb : Table) → Fin (tcTables nBuf tb) → BufTy
  | .hbm, ⟨0, _⟩ => ⟨S2x16, .f32⟩
  | .hbm, ⟨1, _⟩ => ⟨S2x512, .f32⟩
  | .hbm, ⟨2, _⟩ => ⟨S2x5632, .f32⟩
  | .hbm, ⟨3, _⟩ => ⟨S2x16, .f32⟩
  | .hbm, ⟨4, _⟩ => ⟨S2x512, .f32⟩
  | .hbm, ⟨5, _⟩ => ⟨S2x5632, .f32⟩
  | .hbm, ⟨6, _⟩ => ⟨S2x16, .f32⟩
  | .hbm, ⟨7, _⟩ => ⟨S2x512, .f32⟩
  | .hbm, ⟨8, _⟩ => ⟨S2x5632, .f32⟩
  | .hbm, ⟨9, _⟩ => ⟨S2x16, .f32⟩
  | .hbm, ⟨10, _⟩ => ⟨S2x512, .f32⟩
  | .hbm, ⟨11, _⟩ => ⟨S2x5632, .f32⟩
  | .hbm, ⟨12, _⟩ => ⟨S2x16, .f32⟩
  | .hbm, ⟨13, _⟩ => ⟨S2x512, .f32⟩
  | .hbm, ⟨14, _⟩ => ⟨S2x5632, .f32⟩
  | .hbm, ⟨15, _⟩ => ⟨S2x16, .f32⟩
  | .hbm, ⟨16, _⟩ => ⟨S2x512, .f32⟩
  | .hbm, ⟨17, _⟩ => ⟨S2x5632, .f32⟩
  | .hbm, ⟨18, _⟩ => ⟨S2x16, .f32⟩
  | .hbm, ⟨19, _⟩ => ⟨S2x512, .f32⟩
  | .hbm, ⟨20, _⟩ => ⟨S2x5632, .f32⟩
  | .local _ .vmem, ⟨0, _⟩ => ⟨S2x16, .f32⟩
  | .local _ .vmem, ⟨1, _⟩ => ⟨S2x512, .f32⟩
  | .local _ .vmem, ⟨2, _⟩ => ⟨S2x5632, .f32⟩
  | .local _ .vmem, ⟨3, _⟩ => ⟨S2x16, .f32⟩
  | .local _ .vmem, ⟨4, _⟩ => ⟨S2x512, .f32⟩
  | .local _ .vmem, ⟨5, _⟩ => ⟨S2x5632, .f32⟩
  | .local _ .vmem, ⟨6, _⟩ => ⟨S2x16, .f32⟩
  | .local _ .vmem, ⟨7, _⟩ => ⟨S2x512, .f32⟩
  | .local _ .vmem, ⟨8, _⟩ => ⟨S2x5632, .f32⟩
  | .local _ .vmem, ⟨9, _⟩ => ⟨S2x16, .f32⟩
  | .local _ .vmem, ⟨10, _⟩ => ⟨S2x512, .f32⟩
  | .local _ .vmem, ⟨11, _⟩ => ⟨S2x5632, .f32⟩
  | .local _ .vmem, ⟨12, _⟩ => ⟨S2x16, .f32⟩
  | .local _ .vmem, ⟨13, _⟩ => ⟨S2x512, .f32⟩
  | .local _ .vmem, ⟨14, _⟩ => ⟨S2x5632, .f32⟩
  | .local _ .vmem, ⟨15, _⟩ => ⟨S2x16, .f32⟩
  | .local _ .vmem, ⟨16, _⟩ => ⟨S2x512, .f32⟩
  | .local _ .vmem, ⟨17, _⟩ => ⟨S2x5632, .f32⟩
  | .local _ .vmem, ⟨18, _⟩ => ⟨S2x16, .f32⟩
  | .local _ .vmem, ⟨19, _⟩ => ⟨S2x512, .f32⟩
  | .local _ .vmem, ⟨20, _⟩ => ⟨S2x5632, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x5632 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamBiasIdeal.lean ====
abbrev S2x16 : Shape := ⟨2, ![2, 16]⟩
abbrev S2x512 : Shape := ⟨2, ![2, 512]⟩
abbrev S2x5632 : Shape := ⟨2, ![2, 5632]⟩

abbrev nBuf : Space → Nat
  | .hbm => 21
  | .vmem => 21
  | .smem => 0
  | _ => 0

abbrev bufTy : (tb : Table) → Fin (tcTables nBuf tb) → BufTy
  | .hbm, ⟨0, _⟩ => ⟨S2x16, .f32⟩
  | .hbm, ⟨1, _⟩ => ⟨S2x512, .f32⟩
  | .hbm, ⟨2, _⟩ => ⟨S2x5632, .f32⟩
  | .hbm, ⟨3, _⟩ => ⟨S2x16, .f32⟩
  | .hbm, ⟨4, _⟩ => ⟨S2x512, .f32⟩
  | .hbm, ⟨5, _⟩ => ⟨S2x5632, .f32⟩
  | .hbm, ⟨6, _⟩ => ⟨S2x16, .f32⟩
  | .hbm, ⟨7, _⟩ => ⟨S2x512, .f32⟩
  | .hbm, ⟨8, _⟩ => ⟨S2x5632, .f32⟩
  | .hbm, ⟨9, _⟩ => ⟨S2x16, .f32⟩
  | .hbm, ⟨10, _⟩ => ⟨S2x512, .f32⟩
  | .hbm, ⟨11, _⟩ => ⟨S2x5632, .f32⟩
  | .hbm, ⟨12, _⟩ => ⟨S2x16, .f32⟩
  | .hbm, ⟨13, _⟩ => ⟨S2x512, .f32⟩
  | .hbm, ⟨14, _⟩ => ⟨S2x5632, .f32⟩
  | .hbm, ⟨15, _⟩ => ⟨S2x16, .f32⟩
  | .hbm, ⟨16, _⟩ => ⟨S2x512, .f32⟩
  | .hbm, ⟨17, _⟩ => ⟨S2x5632, .f32⟩
  | .hbm, ⟨18, _⟩ => ⟨S2x16, .f32⟩
  | .hbm, ⟨19, _⟩ => ⟨S2x512, .f32⟩
  | .hbm, ⟨20, _⟩ => ⟨S2x5632, .f32⟩
  | .local _ .vmem, ⟨0, _⟩ => ⟨S2x16, .f32⟩
  | .local _ .vmem, ⟨1, _⟩ => ⟨S2x512, .f32⟩
  | .local _ .vmem, ⟨2, _⟩ => ⟨S2x5632, .f32⟩
  | .local _ .vmem, ⟨3, _⟩ => ⟨S2x16, .f32⟩
  | .local _ .vmem, ⟨4, _⟩ => ⟨S2x512, .f32⟩
  | .local _ .vmem, ⟨5, _⟩ => ⟨S2x5632, .f32⟩
  | .local _ .vmem, ⟨6, _⟩ => ⟨S2x16, .f32⟩
  | .local _ .vmem, ⟨7, _⟩ => ⟨S2x512, .f32⟩
  | .local _ .vmem, ⟨8, _⟩ => ⟨S2x5632, .f32⟩
  | .local _ .vmem, ⟨9, _⟩ => ⟨S2x16, .f32⟩
  | .local _ .vmem, ⟨10, _⟩ => ⟨S2x512, .f32⟩
  | .local _ .vmem, ⟨11, _⟩ => ⟨S2x5632, .f32⟩
  | .local _ .vmem, ⟨12, _⟩ => ⟨S2x16, .f32⟩
  | .local _ .vmem, ⟨13, _⟩ => ⟨S2x512, .f32⟩
  | .local _ .vmem, ⟨14, _⟩ => ⟨S2x5632, .f32⟩
  | .local _ .vmem, ⟨15, _⟩ => ⟨S2x16, .f32⟩
  | .local _ .vmem, ⟨16, _⟩ => ⟨S2x512, .f32⟩
  | .local _ .vmem, ⟨17, _⟩ => ⟨S2x5632, .f32⟩
  | .local _ .vmem, ⟨18, _⟩ => ⟨S2x16, .f32⟩
  | .local _ .vmem, ⟨19, _⟩ => ⟨S2x512, .f32⟩
  | .local _ .vmem, ⟨20, _⟩ => ⟨S2x5632, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := .none

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x5632 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamBiasRefIdeal.lean ====
abbrev S2x16 : Shape := ⟨2, ![2, 16]⟩
abbrev S2x512 : Shape := ⟨2, ![2, 512]⟩
abbrev S2x5632 : Shape := ⟨2, ![2, 5632]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x512, .f32⟩
  | .hbm, ⟨2, _⟩ => ⟨S2x5632, .f32⟩
  | .hbm, ⟨3, _⟩ => ⟨S2x16, .f32⟩
  | .hbm, ⟨4, _⟩ => ⟨S2x512, .f32⟩
  | .hbm, ⟨5, _⟩ => ⟨S2x5632, .f32⟩
  | .hbm, ⟨6, _⟩ => ⟨S2x16, .f32⟩
  | .hbm, ⟨7, _⟩ => ⟨S2x512, .f32⟩
  | .hbm, ⟨8, _⟩ => ⟨S2x5632, .f32⟩
  | .hbm, ⟨9, _⟩ => ⟨S2x16, .f32⟩
  | .hbm, ⟨10, _⟩ => ⟨S2x512, .f32⟩
  | .hbm, ⟨11, _⟩ => ⟨S2x5632, .f32⟩
  | .hbm, ⟨12, _⟩ => ⟨S_, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S2x16, .f32⟩
  | .hbm, ⟨23, _⟩ => ⟨S_, .f32⟩
  | .hbm, ⟨24, _⟩ => ⟨S2x16, .f32⟩
  | .hbm, ⟨25, _⟩ => ⟨S2x16, .f32⟩
  | .hbm, ⟨26, _⟩ => ⟨S2x16, .f32⟩
  | .hbm, ⟨27, _⟩ => ⟨S_, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | .hbm, ⟨37, _⟩ => ⟨S2x16, .f32⟩
  | .hbm, ⟨38, _⟩ => ⟨S_, .f32⟩
  | .hbm, ⟨39, _⟩ => ⟨S2x16, .f32⟩
  | .hbm, ⟨40, _⟩ => ⟨S2x16, .f32⟩
  | .hbm, ⟨41, _⟩ => ⟨S2x16, .f32⟩
  | .hbm, ⟨42, _⟩ => ⟨S_, .f32⟩
  | .hbm, ⟨43, _⟩ => ⟨S2x16, .f32⟩
  | .hbm, ⟨44, _⟩ => ⟨S2x16, .f32⟩
  | .hbm, ⟨45, _⟩ => ⟨S_, .f32⟩
  | .hbm, ⟨46, _⟩ => ⟨S2x512, .f32⟩
  | .hbm, ⟨47, _⟩ => ⟨S2x512, .f32⟩
  | .hbm, ⟨48, _⟩ => ⟨S_, .f32⟩
  | .hbm, ⟨49, _⟩ => ⟨S2x512, .f32⟩
  | .hbm, ⟨50, _⟩ => ⟨S2x512, .f32⟩
  | .hbm, ⟨51, _⟩ => ⟨S2x512, .f32⟩
  | .hbm, ⟨52, _⟩ => ⟨S_, .f32⟩
  | .hbm, ⟨53, _⟩ => ⟨S2x512, .f32⟩
  | .hbm, ⟨54, _⟩ => ⟨S2x512, .f32⟩
  | .hbm, ⟨55, _⟩ => ⟨S2x512, .f32⟩
  | .hbm, ⟨56, _⟩ => ⟨S_, .f32⟩
  | .hbm, ⟨57, _⟩ => ⟨S2x512, .f32⟩
  | .hbm, ⟨58, _⟩ => ⟨S2x512, .f32⟩
  | .hbm, ⟨59, _⟩ => ⟨S2x512, .f32⟩
  | .hbm, ⟨60, _⟩ => ⟨S_, .f32⟩
  | .hbm, ⟨61, _⟩ => ⟨S2x512, .f32⟩
  | .hbm, ⟨62, _⟩ => ⟨S2x512, .f32⟩
  | .hbm, ⟨63, _⟩ => ⟨S_, .f32⟩
  | .hbm, ⟨64, _⟩ => ⟨S2x512, .f32⟩
  | .hbm, ⟨65, _⟩ => ⟨S2x512, .f32⟩
  | .hbm, ⟨66, _⟩ => ⟨S2x512, .f32⟩
  | .hbm, ⟨67, _⟩ => ⟨S_, .f32⟩
  | .hbm, ⟨68, _⟩ => ⟨S2x512, .f32⟩
  | .hbm, ⟨69, _⟩ => ⟨S2x512, .f32⟩
  | .hbm, ⟨70, _⟩ => ⟨S2x512, .f32⟩
  | .hbm, ⟨71, _⟩ => ⟨S_, .f32⟩
  | .hbm, ⟨72, _⟩ => ⟨S2x512, .f32⟩
  | .hbm, ⟨73, _⟩ => ⟨S2x512, .f32⟩
  | .hbm, ⟨74, _⟩ => ⟨S2x512, .f32⟩
  | .hbm, ⟨75, _⟩ => ⟨S_, .f32⟩
  | .hbm, ⟨76, _⟩ => ⟨S2x512, .f32⟩
  | .hbm, ⟨77, _⟩ => ⟨S2x512, .f32⟩
  | .hbm, ⟨78, _⟩ => ⟨S_, .f32⟩
  | .hbm, ⟨79, _⟩ => ⟨S2x5632, .f32⟩
  | .hbm, ⟨80, _⟩ => ⟨S2x5632, .f32⟩
  | .hbm, ⟨81, _⟩ => ⟨S_, .f32⟩
  | .hbm, ⟨82, _⟩ => ⟨S2x5632, .f32⟩
  | .hbm, ⟨83, _⟩ => ⟨S2x5632, .f32⟩
  | .hbm, ⟨84, _⟩ => ⟨S2x5632, .f32⟩
  | .hbm, ⟨85, _⟩ => ⟨S_, .f32⟩
  | .hbm, ⟨86, _⟩ => ⟨S2x5632, .f32⟩
  | .hbm, ⟨87, _⟩ => ⟨S2x5632, .f32⟩
  | .hbm, ⟨88, _⟩ => ⟨S2x5632, .f32⟩
  | .hbm, ⟨89, _⟩ => ⟨S_, .f32⟩
  | .hbm, ⟨90, _⟩ => ⟨S2x5632, .f32⟩
  | .hbm, ⟨91, _⟩ => ⟨S2x5632, .f32⟩
  | .hbm, ⟨92, _⟩ => ⟨S2x5632, .f32⟩
  | .hbm, ⟨93, _⟩ => ⟨S_, .f32⟩
  | .hbm, ⟨94, _⟩ => ⟨S2x5632, .f32⟩
  | .hbm, ⟨95, _⟩ => ⟨S2x5632, .f32⟩
  | .hbm, ⟨96, _⟩ => ⟨S_, .f32⟩
  | .hbm, ⟨97, _⟩ => ⟨S2x5632, .f32⟩
  | .hbm, ⟨98, _⟩ => ⟨S2x5632, .f32⟩
  | .hbm, ⟨99, _⟩ => ⟨S2x5632, .f32⟩
  | .hbm, ⟨100, _⟩ => ⟨S_, .f32⟩
  | .hbm, ⟨101, _⟩ => ⟨S2x5632, .f32⟩
  | .hbm, ⟨102, _⟩ => ⟨S2x5632, .f32⟩
  | .hbm, ⟨103, _⟩ => ⟨S2x5632, .f32⟩
  | .hbm, ⟨104, _⟩ => ⟨S_, .f32⟩
  | .hbm, ⟨105, _⟩ => ⟨S2x5632, .f32⟩
  | .hbm, ⟨106, _⟩ => ⟨S2x5632, .f32⟩
  | .hbm, ⟨107, _⟩ => ⟨S2x5632, .f32⟩
  | .hbm, ⟨108, _⟩ => ⟨S_, .f32⟩
  | .hbm, ⟨109, _⟩ => ⟨S2x5632, .f32⟩
  | .hbm, ⟨110, _⟩ => ⟨S2x5632, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamConv.lean ====
abbrev S2x4x320 : Shape := ⟨3, ![2, 4, 320]⟩
abbrev S2x31x128 : Shape := ⟨3, ![2, 31, 128]⟩
abbrev S2x3x128 : Shape := ⟨3, ![2, 3, 128]⟩
abbrev S2x3x1408 : Shape := ⟨3, ![2, 3, 1408]⟩

abbrev nBuf : Space → Nat
  | .hbm => 28
  | .vmem => 28
  | .smem => 0
  | _ => 0

abbrev bufTy : (tb : Table) → Fin (tcTables nBuf tb) → BufTy
  | .hbm, ⟨0, _⟩ => ⟨S2x4x320, .f32⟩
  | .hbm, ⟨1, _⟩ => ⟨S2x31x128, .f32⟩
  | .hbm, ⟨2, _⟩ => ⟨S2x3x128, .f32⟩
  | .hbm, ⟨3, _⟩ => ⟨S2x3x1408, .f32⟩
  | .hbm, ⟨4, _⟩ => ⟨S2x4x320, .f32⟩
  | .hbm, ⟨5, _⟩ => ⟨S2x31x128, .f32⟩
  | .hbm, ⟨6, _⟩ => ⟨S2x3x128, .f32⟩
  | .hbm, ⟨7, _⟩ => ⟨S2x3x1408, .f32⟩
  | .hbm, ⟨8, _⟩ => ⟨S2x4x320, .f32⟩
  | .hbm, ⟨9, _⟩ => ⟨S2x31x128, .f32⟩
  | .hbm, ⟨10, _⟩ => ⟨S2x3x128, .f32⟩
  | .hbm, ⟨11, _⟩ => ⟨S2x3x1408, .f32⟩
  | .hbm, ⟨12, _⟩ => ⟨S2x4x320, .f32⟩
  | .hbm, ⟨13, _⟩ => ⟨S2x31x128, .f32⟩
  | .hbm, ⟨14, _⟩ => ⟨S2x3x128, .f32⟩
  | .hbm, ⟨15, _⟩ => ⟨S2x3x1408, .f32⟩
  | .hbm, ⟨16, _⟩ => ⟨S2x4x320, .f32⟩
  | .hbm, ⟨17, _⟩ => ⟨S2x31x128, .f32⟩
  | .hbm, ⟨18, _⟩ => ⟨S2x3x128, .f32⟩
  | .hbm, ⟨19, _⟩ => ⟨S2x3x1408, .f32⟩
  | .hbm, ⟨20, _⟩ => ⟨S2x4x320, .f32⟩
  | .hbm, ⟨21, _⟩ => ⟨S2x31x128, .f32⟩
  | .hbm, ⟨22, _⟩ => ⟨S2x3x128, .f32⟩
  | .hbm, ⟨23, _⟩ => ⟨S2x3x1408, .f32⟩
  | .hbm, ⟨24, _⟩ => ⟨S2x4x320, .f32⟩
  | .hbm, ⟨25, _⟩ => ⟨S2x31x128, .f32⟩
  | .hbm, ⟨26, _⟩ => ⟨S2x3x128, .f32⟩
  | .hbm, ⟨27, _⟩ => ⟨S2x3x1408, .f32⟩
  | .local _ .vmem, ⟨0, _⟩ => ⟨S2x4x320, .f32⟩
  | .local _ .vmem, ⟨1, _⟩ => ⟨S2x31x128, .f32⟩
  | .local _ .vmem, ⟨2, _⟩ => ⟨S2x3x128, .f32⟩
  | .local _ .vmem, ⟨3, _⟩ => ⟨S2x3x1408, .f32⟩
  | .local _ .vmem, ⟨4, _⟩ => ⟨S2x4x320, .f32⟩
  | .local _ .vmem, ⟨5, _⟩ => ⟨S2x31x128, .f32⟩
  | .local _ .vmem, ⟨6, _⟩ => ⟨S2x3x128, .f32⟩
  | .local _ .vmem, ⟨7, _⟩ => ⟨S2x3x1408, .f32⟩
  | .local _ .vmem, ⟨8, _⟩ => ⟨S2x4x320, .f32⟩
  | .local _ .vmem, ⟨9, _⟩ => ⟨S2x31x128, .f32⟩
  | .local _ .vmem, ⟨10, _⟩ => ⟨S2x3x128, .f32⟩
  | .local _ .vmem, ⟨11, _⟩ => ⟨S2x3x1408, .f32⟩
  | .local _ .vmem, ⟨12, _⟩ => ⟨S2x4x320, .f32⟩
  | .local _ .vmem, ⟨13, _⟩ => ⟨S2x31x128, .f32⟩
  | .local _ .vmem, ⟨14, _⟩ => ⟨S2x3x128, .f32⟩
  | .local _ .vmem, ⟨15, _⟩ => ⟨S2x3x1408, .f32⟩
  | .local _ .vmem, ⟨16, _⟩ => ⟨S2x4x320, .f32⟩
  | .local _ .vmem, ⟨17, _⟩ => ⟨S2x31x128, .f32⟩
  | .local _ .vmem, ⟨18, _⟩ => ⟨S2x3x128, .f32⟩
  | .local _ .vmem, ⟨19, _⟩ => ⟨S2x3x1408, .f32⟩
  | .local _ .vmem, ⟨20, _⟩ => ⟨S2x4x320, .f32⟩
  | .local _ .vmem, ⟨21, _⟩ => ⟨S2x31x128, .f32⟩
  | .local _ .vmem, ⟨22, _⟩ => ⟨S2x3x128, .f32⟩
  | .local _ .vmem, ⟨23, _⟩ => ⟨S2x3x1408, .f32⟩
  | .local _ .vmem, ⟨24, _⟩ => ⟨S2x4x320, .f32⟩
  | .local _ .vmem, ⟨25, _⟩ => ⟨S2x31x128, .f32⟩
  | .local _ .vmem, ⟨26, _⟩ => ⟨S2x3x128, .f32⟩
  | .local _ .vmem, ⟨27, _⟩ => ⟨S2x3x1408, .f32⟩
  | _, _ => ⟨S2x4x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x4x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4x320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x31x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x3x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x3x1408 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x4x320 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x31x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x3x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x3x1408 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x4x320 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x31x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x3x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x3x1408 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x4x320 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x31x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x3x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x3x1408 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x4x320 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x31x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x3x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x3x1408 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamConvIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamConvRefIdeal.lean ====
abbrev S2x4x320 : Shape := ⟨3, ![2, 4, 320]⟩
abbrev S2x31x128 : Shape := ⟨3, ![2, 31, 128]⟩
abbrev S2x3x128 : Shape := ⟨3, ![2, 3, 128]⟩
abbrev S2x3x1408 : Shape := ⟨3, ![2, 3, 1408]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x4x320, .f32⟩
  | 1 => ⟨S2x31x128, .f32⟩
  | 2 => ⟨S2x3x128, .f32⟩
  | 3 => ⟨S2x3x1408, .f32⟩
  | 4 => ⟨S2x4x320, .f32⟩
  | 5 => ⟨S2x31x128, .f32⟩
  | 6 => ⟨S2x3x128, .f32⟩
  | 7 => ⟨S2x3x1408, .f32⟩
  | 8 => ⟨S2x4x320, .f32⟩
  | 9 => ⟨S2x31x128, .f32⟩
  | 10 => ⟨S2x3x128, .f32⟩
  | 11 => ⟨S2x3x1408, .f32⟩
  | 12 => ⟨S2x4x320, .f32⟩
  | 13 => ⟨S2x31x128, .f32⟩
  | 14 => ⟨S2x3x128, .f32⟩
  | 15 => ⟨S2x3x1408, .f32⟩
  | 16 => ⟨S_, .f32⟩
  | 17 => ⟨S2x4x320, .f32⟩
  | 18 => ⟨S2x4x320, .f32⟩
  | 19 => ⟨S_, .f32⟩
  | 20 => ⟨S2x4x320, .f32⟩
  | 21 => ⟨S2x4x320, .f32⟩
  | 22 => ⟨S2x4x320, .f32⟩
  | 23 => ⟨S_, .f32⟩
  | 24 => ⟨S2x4x320, .f32⟩
  | 25 => ⟨S2x4x320, .f32⟩
  | 26 => ⟨S2x4x320, .f32⟩
  | 27 => ⟨S_, .f32⟩
  | 28 => ⟨S2x4x320, .f32⟩
  | 29 => ⟨S2x4x320, .f32⟩
  | 30 => ⟨S2x4x320, .f32⟩
  | 31 => ⟨S_, .f32⟩
  | 32 => ⟨S2x4x320, .f32⟩
  | 33 => ⟨S2x4x320, .f32⟩
  | 34 => ⟨S_, .f32⟩
  | 35 => ⟨S2x4x320, .f32⟩
  | 36 => ⟨S2x4x320, .f32⟩
  | 37 => ⟨S2x4x320, .f32⟩
  | 38 => ⟨S_, .f32⟩
  | 39 => ⟨S2x4x320, .f32⟩
  | 40 => ⟨S2x4x320, .f32⟩
  | 41 => ⟨S2x4x320, .f32⟩
  | 42 => ⟨S_, .f32⟩
  | 43 => ⟨S2x4x320, .f32⟩
  | 44 => ⟨S2x4x320, .f32⟩
  | 45 => ⟨S2x4x320, .f32⟩
  | 46 => ⟨S_, .f32⟩
  | 47 => ⟨S2x4x320, .f32⟩
  | 48 => ⟨S2x4x320, .f32⟩
  | 49 => ⟨S_, .f32⟩
  | 50 => ⟨S2x31x128, .f32⟩
  | 51 => ⟨S2x31x128, .f32⟩
  | 52 => ⟨S_, .f32⟩
  | 53 => ⟨S2x31x128, .f32⟩
  | 54 => ⟨S2x31x128, .f32⟩
  | 55 => ⟨S2x31x128, .f32⟩
  | 56 => ⟨S_, .f32⟩
  | 57 => ⟨S2x31x128, .f32⟩
  | 58 => ⟨S2x31x128, .f32⟩
  | 59 => ⟨S2x31x128, .f32⟩
  | 60 => ⟨S_, .f32⟩
  | 61 => ⟨S2x31x128, .f32⟩
  | 62 => ⟨S2x31x128, .f32⟩
  | 63 => ⟨S2x31x128, .f32⟩
  | 64 => ⟨S_, .f32⟩
  | 65 => ⟨S2x31x128, .f32⟩
  | 66 => ⟨S2x31x128, .f32⟩
  | 67 => ⟨S_, .f32⟩
  | 68 => ⟨S2x31x128, .f32⟩
  | 69 => ⟨S2x31x128, .f32⟩
  | 70 => ⟨S2x31x128, .f32⟩
  | 71 => ⟨S_, .f32⟩
  | 72 => ⟨S2x31x128, .f32⟩
  | 73 => ⟨S2x31x128, .f32⟩
  | 74 => ⟨S2x31x128, .f32⟩
  | 75 => ⟨S_, .f32⟩
  | 76 => ⟨S2x31x128, .f32⟩
  | 77 => ⟨S2x31x128, .f32⟩
  | 78 => ⟨S2x31x128, .f32⟩
  | 79 => ⟨S_, .f32⟩
  | 80 => ⟨S2x31x128, .f32⟩
  | 81 => ⟨S2x31x128, .f32⟩
  | 82 => ⟨S_, .f32⟩
  | 83 => ⟨S2x3x128, .f32⟩
  | 84 => ⟨S2x3x128, .f32⟩
  | 85 => ⟨S_, .f32⟩
  | 86 => ⟨S2x3x128, .f32⟩
  | 87 => ⟨S2x3x128, .f32⟩
  | 88 => ⟨S2x3x128, .f32⟩
  | 89 => ⟨S_, .f32⟩
  | 90 => ⟨S2x3x128, .f32⟩
  | 91 => ⟨S2x3x128, .f32⟩
  | 92 => ⟨S2x3x128, .f32⟩
  | 93 => ⟨S_, .f32⟩
  | 94 => ⟨S2x3x128, .f32⟩
  | 95 => ⟨S2x3x128, .f32⟩
  | 96 => ⟨S2x3x128, .f32⟩
  | 97 => ⟨S_, .f32⟩
  | 98 => ⟨S2x3x128, .f32⟩
  | 99 => ⟨S2x3x128, .f32⟩
  | 100 => ⟨S_, .f32⟩
  | 101 => ⟨S2x3x128, .f32⟩
  | 102 => ⟨S2x3x128, .f32⟩
  | 103 => ⟨S2x3x128, .f32⟩
  | 104 => ⟨S_, .f32⟩
  | 105 => ⟨S2x3x128, .f32⟩
  | 106 => ⟨S2x3x128, .f32⟩
  | 107 => ⟨S2x3x128, .f32⟩
  | 108 => ⟨S_, .f32⟩
  | 109 => ⟨S2x3x128, .f32⟩
  | 110 => ⟨S2x3x128, .f32⟩
  | 111 => ⟨S2x3x128, .f32⟩
  | 112 => ⟨S_, .f32⟩
  | 113 => ⟨S2x3x128, .f32⟩
  | 114 => ⟨S2x3x128, .f32⟩
  | 115 => ⟨S_, .f32⟩
  | 116 => ⟨S2x3x1408, .f32⟩
  | 117 => ⟨S2x3x1408, .f32⟩
  | 118 => ⟨S_, .f32⟩
  | 119 => ⟨S2x3x1408, .f32⟩
  | 120 => ⟨S2x3x1408, .f32⟩
  | 121 => ⟨S2x3x1408, .f32⟩
  | 122 => ⟨S_, .f32⟩
  | 123 => ⟨S2x3x1408, .f32⟩
  | 124 => ⟨S2x3x1408, .f32⟩
  | 125 => ⟨S2x3x1408, .f32⟩
  | 126 => ⟨S_, .f32⟩
  | 127 => ⟨S2x3x1408, .f32⟩
  | _ => ⟨S2x4x320, .f32⟩

abbrev hbmTy0_1 (i : Nat) : BufTy := match i % 128 with
  | 0 => ⟨S2x3x1408, .f32⟩
  | 1 => ⟨S2x3x1408, .f32⟩
  | 2 => ⟨S_, .f32⟩
  | 3 => ⟨S2x3x1408, .f32⟩
  | 4 => ⟨S2x3x1408, .f32⟩
  | 5 => ⟨S_, .f32⟩
  | 6 => ⟨S2x3x1408, .f32⟩
  | 7 => ⟨S2x3x1408, .f32⟩
  | 8 => ⟨S2x3x1408, .f32⟩
  | 9 => ⟨S_, .f32⟩
  | 10 => ⟨S2x3x1408, .f32⟩
  | 11 => ⟨S2x3x1408, .f32⟩
  | 12 => ⟨S2x3x1408, .f32⟩
  | 13 => ⟨S_, .f32⟩
  | 14 => ⟨S2x3x1408, .f32⟩
  | 15 => ⟨S2x3x1408, .f32⟩
  | 16 => ⟨S2x3x1408, .f32⟩
  | 17 => ⟨S_, .f32⟩
  | 18 => ⟨S2x3x1408, .f32⟩
  | 19 => ⟨S2x3x1408, .f32⟩
  | _ => ⟨S2x4x320, .f32⟩

abbrev hbmTy (i : Nat) : BufTy := match i / 128 with
  | 0 => hbmTy0_0 i
  | 1 => hbmTy0_1 i
  | _ => ⟨S2x4x320, .f32⟩

abbrev bufTy : (tb : Table) → Fin (tcTables nBuf tb) → BufTy
  | .hbm, ⟨i, _⟩ => hbmTy i
  | _, _ => ⟨S2x4x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S3x1024 : Shape := ⟨2, ![3, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S3x1024, .f32⟩
  | .hbm, ⟨5, _⟩ => ⟨S8192x1024, .bf16⟩
  | .hbm, ⟨6, _⟩ => ⟨S1x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S3x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBwdRefIdeal.lean ====
abbrev S8192x1024 : Shape := ⟨2, ![8192, 1024]⟩
abbrev S1024 : Shape := ⟨1, ![1024]⟩
abbrev S3x1024 : Shape := ⟨2, ![3, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S3x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S1x1024, .f32⟩
  | .hbm, ⟨80, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== GateBwd.lean ====
abbrev S8192x1024 : Shape := ⟨2, ![8192, 1024]⟩
abbrev S3x1024 : Shape := ⟨2, ![3, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3x1024, .f32⟩
  | .hbm, ⟨3, _⟩ => ⟨S8192x1024, .bf16⟩
  | .hbm, ⟨4, _⟩ => ⟨S8192x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S3x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateBwdRefIdeal.lean ====
abbrev S8192x1024 : Shape := ⟨2, ![8192, 1024]⟩
abbrev S3x1024 : Shape := ⟨2, ![3, 1024]⟩
abbrev S1x1024 : Shape := ⟨2, ![1, 1024]⟩
abbrev S1024 : Shape := ⟨1, ![1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1024, .f32⟩
  | .hbm, ⟨16, _⟩ => ⟨S8192x1024, .bf16⟩
  | .hbm, ⟨17, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== ScBwd.lean ====
abbrev S8192x1536 : Shape := ⟨2, ![8192, 1536]⟩
abbrev S8192x512 : Shape := ⟨2, ![8192, 512]⟩
abbrev S8192x8192 : Shape := ⟨2, ![8192, 8192]⟩
abbrev S3x512 : Shape := ⟨2, ![3, 512]⟩
abbrev S_ : Shape := ⟨0, ![]⟩
abbrev S8192x3072 : Shape := ⟨2, ![8192, 3072]⟩
abbrev S8192x3584 : Shape := ⟨2, ![8192, 3584]⟩
abbrev S16x1536 : Shape := ⟨2, ![16, 1536]⟩
abbrev S512x1536 : Shape := ⟨2, ![512, 1536]⟩
abbrev S512x512 : Shape := ⟨2, ![512, 512]⟩
abbrev S16x512 : Shape := ⟨2, ![16, 512]⟩
abbrev S528x512 : Shape := ⟨2, ![528, 512]⟩
abbrev S1x512 : Shape := ⟨2, ![1, 512]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x8192, .bf16⟩
  | .hbm, ⟨3, _⟩ => ⟨S3x512, .f32⟩
  | .hbm, ⟨4, _⟩ => ⟨S_, .f32⟩
  | .hbm, ⟨5, _⟩ => ⟨S8192x3072, .f32⟩
  | .hbm, ⟨6, _⟩ => ⟨S_, .f32⟩
  | .hbm, ⟨7, _⟩ => ⟨S8192x3584, .f32⟩
  | .hbm, ⟨8, _⟩ => ⟨S8192x8192, .f32⟩
  | .hbm, ⟨9, _⟩ => ⟨S8192x8192, .bf16⟩
  | .hbm, ⟨10, _⟩ => ⟨S8192x512, .bf16⟩
  | .hbm, ⟨11, _⟩ => ⟨S8192x8192, .bf16⟩
  | .hbm, ⟨12, _⟩ => ⟨S3x512, .f32⟩
  | .local _ .vmem, ⟨0, _⟩ => ⟨S16x1536, .bf16⟩
  | .local _ .vmem, ⟨1, _⟩ => ⟨S16x1536, .bf16⟩
  | .local _ .vmem, ⟨2, _⟩ => ⟨S512x1536, .bf16⟩
  | .local _ .vmem, ⟨3, _⟩ => ⟨S512x1536, .bf16⟩
  | .local _ .vmem, ⟨4, _⟩ => ⟨S16x1536, .bf16⟩
  | .local _ .vmem, ⟨5, _⟩ => ⟨S16x1536, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S3x512, .f32⟩
  | .local _ .vmem, ⟨11, _⟩ => ⟨S512x1536, .bf16⟩
  | .local _ .vmem, ⟨12, _⟩ => ⟨S512x1536, .bf16⟩
  | .local _ .vmem, ⟨13, _⟩ => ⟨S3x512, .f32⟩
  | .local _ .vmem, ⟨14, _⟩ => ⟨S528x512, .f32⟩
  | .local _ .vmem, ⟨15, _⟩ => ⟨S528x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ScBwdRefIdeal.lean ====
abbrev S8192x1536 : Shape := ⟨2, ![8192, 1536]⟩
abbrev S8192x512 : Shape := ⟨2, ![8192, 512]⟩
abbrev S8192x8192 : Shape := ⟨2, ![8192, 8192]⟩
abbrev S3x512 : Shape := ⟨2, ![3, 512]⟩
abbrev S1x512 : Shape := ⟨2, ![1, 512]⟩
abbrev S512 : Shape := ⟨1, ![512]⟩
abbrev S_ : Shape := ⟨0, ![]⟩
abbrev S2x512 : Shape := ⟨2, ![2, 512]⟩
abbrev S8190x512 : Shape := ⟨2, ![8190, 512]⟩
abbrev S8191x512 : Shape := ⟨2, ![8191, 512]⟩
abbrev S8192x3072 : Shape := ⟨2, ![8192, 3072]⟩
abbrev S8192x3584 : Shape := ⟨2, ![8192, 3584]⟩

abbrev nBuf : Space → Nat
  | .hbm => 95
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x8192, .bf16⟩
  | .hbm, ⟨3, _⟩ => ⟨S3x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S1x512, .f32⟩
  | .hbm, ⟨9, _⟩ => ⟨S512, .f32⟩
  | .hbm, ⟨10, _⟩ => ⟨S_, .f32⟩
  | .hbm, ⟨11, _⟩ => ⟨S2x512, .f32⟩
  | .hbm, ⟨12, _⟩ => ⟨S8190x512, .f32⟩
  | .hbm, ⟨13, _⟩ => ⟨S8192x512, .f32⟩
  | .hbm, ⟨14, _⟩ => ⟨S_, .f32⟩
  | .hbm, ⟨15, _⟩ => ⟨S2x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S512, .f32⟩
  | .hbm, ⟨24, _⟩ => ⟨S_, .f32⟩
  | .hbm, ⟨25, _⟩ => ⟨S1x512, .f32⟩
  | .hbm, ⟨26, _⟩ => ⟨S8191x512, .f32⟩
  | .hbm, ⟨27, _⟩ => ⟨S8192x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S512, .f32⟩
  | .hbm, ⟨48, _⟩ => ⟨S1x512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S_, .f32⟩
  | .hbm, ⟨53, _⟩ => ⟨S3x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S8191x512, .f32⟩
  | .hbm, ⟨64, _⟩ => ⟨S_, .f32⟩
  | .hbm, ⟨65, _⟩ => ⟨S8192x512, .f32⟩
  | .hbm, ⟨66, _⟩ => ⟨S8192x512, .f32⟩
  | .hbm, ⟨67, _⟩ => ⟨S1x512, .f32⟩
  | .hbm, ⟨68, _⟩ => ⟨S_, .f32⟩
  | .hbm, ⟨69, _⟩ => ⟨S3x512, .f32⟩
  | .hbm, ⟨70, _⟩ => ⟨S3x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S_, .f32⟩
  | .hbm, ⟨78, _⟩ => ⟨S512, .f32⟩
  | .hbm, ⟨79, _⟩ => ⟨S2x512, .f32⟩
  | .hbm, ⟨80, _⟩ => ⟨S8190x512, .f32⟩
  | .hbm, ⟨81, _⟩ => ⟨S_, .f32⟩
  | .hbm, ⟨82, _⟩ => ⟨S8192x512, .f32⟩
  | .hbm, ⟨83, _⟩ => ⟨S8192x512, .f32⟩
  | .hbm, ⟨84, _⟩ => ⟨S1x512, .f32⟩
  | .hbm, ⟨85, _⟩ => ⟨S_, .f32⟩
  | .hbm, ⟨86, _⟩ => ⟨S3x512, .f32⟩
  | .hbm, ⟨87, _⟩ => ⟨S3x512, .f32⟩
  | .hbm, ⟨88, _⟩ => ⟨S8192x512, .f32⟩
  | .hbm, ⟨89, _⟩ => ⟨S8192x512, .f32⟩
  | .hbm, ⟨90, _⟩ => ⟨S8192x1536, .f32⟩
  | .hbm, ⟨91, _⟩ => ⟨S8192x3072, .bf16⟩
  | .hbm, ⟨92, _⟩ => ⟨S8192x1536, .bf16⟩
  | .hbm, ⟨93, _⟩ => ⟨S8192x3584, .bf16⟩
  | .hbm, ⟨94, _⟩ => ⟨S8192x8192, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== AdaDw.lean ====
abbrev S8x1024 : Shape := ⟨2, ![8, 1024]⟩
abbrev S8x12288 : Shape := ⟨2, ![8, 12288]⟩
abbrev S8x16x768 : Shape := ⟨3, ![8, 16, 768]⟩
abbrev S16x8x768 : Shape := ⟨3, ![16, 8, 768]⟩
abbrev S_ : Shape := ⟨0, ![]⟩
abbrev S1 : Shape := ⟨1, ![1]⟩
abbrev S4x1024x768 : Shape := ⟨3, ![4, 1024, 768]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 6
  | .vmem => 5
  | .smem => 1
  | _ => 0

abbrev bufTy : (tb : Table) → Fin (tcTables nBuf tb) → BufTy
  | .hbm, ⟨0, _⟩ => ⟨S8x1024, .f32⟩
  | .hbm, ⟨1, _⟩ => ⟨S8x12288, .f32⟩
  | .hbm, ⟨2, _⟩ => ⟨S8x16x768, .f32⟩
  | .hbm, ⟨3, _⟩ => ⟨S16x8x768, .f32⟩
  | .hbm, ⟨4, _⟩ => ⟨S_, .i32⟩
  | .hbm, ⟨5, _⟩ => ⟨S4x1024x768, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | .local _ .smem, ⟨0, _⟩ => ⟨S1, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v3 : Ref sig .tc := ⟨.hbm, 5, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaDwRefIdeal.lean ====
abbrev S8x1024 : Shape := ⟨2, ![8, 1024]⟩
abbrev S8x12288 : Shape := ⟨2, ![8, 12288]⟩
abbrev S_ : Shape := ⟨0, ![]⟩
abbrev S1024x3072 : Shape := ⟨2, ![1024, 3072]⟩
abbrev S8x3072 : Shape := ⟨2, ![8, 3072]⟩
abbrev S3072x1024 : Shape := ⟨2, ![3072, 1024]⟩
abbrev S1x1024x3072 : Shape := ⟨3, ![1, 1024, 3072]⟩
abbrev S4x1024x3072 : Shape := ⟨3, ![4, 1024, 3072]⟩
abbrev S4x1024x768 : Shape := ⟨3, ![4, 1024, 768]⟩

abbrev nBuf : Space → Nat
  | .hbm => 26
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x12288, .f32⟩
  | .hbm, ⟨2, _⟩ => ⟨S_, .f32⟩
  | .hbm, ⟨3, _⟩ => ⟨S1024x3072, .f32⟩
  | .hbm, ⟨4, _⟩ => ⟨S8x3072, .f32⟩
  | .hbm, ⟨5, _⟩ => ⟨S8x3072, .f32⟩
  | .hbm, ⟨6, _⟩ => ⟨S8x3072, .f32⟩
  | .hbm, ⟨7, _⟩ => ⟨S8x3072, .f32⟩
  | .hbm, ⟨8, _⟩ => ⟨S8x3072, .f32⟩
  | .hbm, ⟨9, _⟩ => ⟨S3072x1024, .f32⟩
  | .hbm, ⟨10, _⟩ => ⟨S1024x3072, .f32⟩
  | .hbm, ⟨11, _⟩ => ⟨S8x3072, .f32⟩
  | .hbm, ⟨12, _⟩ => ⟨S3072x1024, .f32⟩
  | .hbm, ⟨13, _⟩ => ⟨S1024x3072, .f32⟩
  | .hbm, ⟨14, _⟩ => ⟨S8x3072, .f32⟩
  | .hbm, ⟨15, _⟩ => ⟨S3072x1024, .f32⟩
  | .hbm, ⟨16, _⟩ => ⟨S1024x3072, .f32⟩
  | .hbm, ⟨17, _⟩ => ⟨S8x3072, .f32⟩
  | .hbm, ⟨18, _⟩ => ⟨S3072x1024, .f32⟩
  | .hbm, ⟨19, _⟩ => ⟨S1024x3072, .f32⟩
  | .hbm, ⟨20, _⟩ => ⟨S1x1024x3072, .f32⟩
  | .hbm, ⟨21, _⟩ => ⟨S1x1024x3072, .f32⟩
  | .hbm, ⟨22, _⟩ => ⟨S1x1024x3072, .f32⟩
  | .hbm, ⟨23, _⟩ => ⟨S1x1024x3072, .f32⟩
  | .hbm, ⟨24, _⟩ => ⟨S4x1024x3072, .f32⟩
  | .hbm, ⟨25, _⟩ => ⟨S4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== ConfBwd.lean ====
abbrev S8192x512 : Shape := ⟨2, ![8192, 512]⟩
abbrev S512 : Shape := ⟨1, ![512]⟩
abbrev S8192x8192 : Shape := ⟨2, ![8192, 8192]⟩
abbrev S31x512 : Shape := ⟨2, ![31, 512]⟩
abbrev S1x512 : Shape := ⟨2, ![1, 512]⟩
abbrev S32x1024 : Shape := ⟨2, ![32, 1024]⟩
abbrev S512x1024 : Shape := ⟨2, ![512, 1024]⟩
abbrev S512x512 : Shape := ⟨2, ![512, 512]⟩
abbrev S32x512 : Shape := ⟨2, ![32, 512]⟩
abbrev S544x512 : Shape := ⟨2, ![544, 512]⟩
abbrev S7x544x512 : Shape := ⟨3, ![7, 544, 512]⟩
abbrev S31x8x512 : Shape := ⟨3, ![31, 8, 512]⟩
abbrev S512x1 : Shape := ⟨2, ![512, 1]⟩
abbrev S32 : Shape := ⟨1, ![32]⟩
abbrev S32x1 : Shape := ⟨2, ![32, 1]⟩
abbrev S8x512 : Shape := ⟨2, ![8, 512]⟩
abbrev S1x8x512 : Shape := ⟨3, ![1, 8, 512]⟩
abbrev S8x256 : Shape := ⟨2, ![8, 256]⟩
abbrev S1x8x256 : Shape := ⟨3, ![1, 8, 256]⟩
abbrev S32x256 : Shape := ⟨2, ![32, 256]⟩

abbrev nBuf : Space → Nat
  | .hbm => 20
  | .vmem => 25
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S8192x512, .f32⟩
  | .hbm, ⟨5, _⟩ => ⟨S8192x8192, .bf16⟩
  | .hbm, ⟨6, _⟩ => ⟨S8192x8192, .bf16⟩
  | .hbm, ⟨7, _⟩ => ⟨S31x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S8192x512, .bf16⟩
  | .hbm, ⟨12, _⟩ => ⟨S8192x512, .bf16⟩
  | .hbm, ⟨13, _⟩ => ⟨S1x512, .f32⟩
  | .hbm, ⟨14, _⟩ => ⟨S1x512, .f32⟩
  | .hbm, ⟨15, _⟩ => ⟨S8192x8192, .bf16⟩
  | .hbm, ⟨16, _⟩ => ⟨S31x512, .f32⟩
  | .hbm, ⟨17, _⟩ => ⟨S1x512, .f32⟩
  | .hbm, ⟨18, _⟩ => ⟨S1x512, .f32⟩
  | .hbm, ⟨19, _⟩ => ⟨S1x512, .f32⟩
  | .local _ .vmem, ⟨0, _⟩ => ⟨S32x1024, .bf16⟩
  | .local _ .vmem, ⟨1, _⟩ => ⟨S32x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S32x512, .bf16⟩
  | .local _ .vmem, ⟨7, _⟩ => ⟨S32x512, .bf16⟩
  | .local _ .vmem, ⟨8, _⟩ => ⟨S512x512, .bf16⟩
  | .local _ .vmem, ⟨9, _⟩ => ⟨S512x512, .bf16⟩
  | .local _ .vmem, ⟨10, _⟩ => ⟨S32x512, .bf16⟩
  | .local _ .vmem, ⟨11, _⟩ => ⟨S32x512, .bf16⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S31x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S544x512, .f32⟩
  | .local _ .vmem, ⟨22, _⟩ => ⟨S544x512, .f32⟩
  | .local _ .vmem, ⟨23, _⟩ => ⟨S7x544x512, .f32⟩
  | .local _ .vmem, ⟨24, _⟩ => ⟨S31x8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

@[reducible] def k0_t1_loop : Scf.Loop 32 :=
  let c1_i32_191 : BitVec 32 := 1#32
  let c67_i32 : BitVec 32 := 67#32
  let v365 : BitVec 32 := Scalar.addi c1_i32_191 c67_i32
  let c1_i32_192 : BitVec 32 := 1#32
  ⟨c1_i32_191, v365, c1_i32_192⟩
def k0_mult1 (k0_t1 : Fin k0_t1_loop.trips) : BitVec 32 :=
  let c1_i32_191 : BitVec 32 := 1#32
  let c1_i32_192 : BitVec 32 := 1#32
  let arg20 : BitVec 32 := Scf.iv c1_i32_191 c1_i32_192 k0_t1
  let c8_i32 : BitVec 32 := 8#32
  let v650 : BitVec 32 := Scalar.muli arg20 c8_i32
  v650
def k0_off1 (k0_t1 : Fin k0_t1_loop.trips) : Fin 2 → Nat :=
  let c1_i32_191 : BitVec 32 := 1#32
  let c1_i32_192 : BitVec 32 := 1#32
  let arg20 : BitVec 32 := Scf.iv c1_i32_191 c1_i32_192 k0_t1
  let c8_i32 : BitVec 32 := 8#32
  let v650 : BitVec 32 := Scalar.muli arg20 c8_i32
  let v651 : BitVec 32 := v650
  let v652 : Index := Scalar.indexCast v651
  let c0_446 : Index := 0#32
  ![v652.toNat, 0]
def k0_off2 (k0_t1 : Fin k0_t1_loop.trips) : Fin 3 → Nat :=
  let c0_450 : Index := 0#32
  let c1_i32_191 : BitVec 32 := 1#32
  let c1_i32_192 : BitVec 32 := 1#32
  let arg20 : BitVec 32 := Scf.iv c1_i32_191 c1_i32_192 k0_t1
  let c8_i32 : BitVec 32 := 8#32
  let v650 : BitVec 32 := Scalar.muli arg20 c8_i32
  let v651 : BitVec 32 := v650
  let c8_i32_449 : BitVec 32 := 8#32
  let v658 : BitVec 32 := Scalar.subi v651 c8_i32_449
  let v659 : Index := Scalar.indexCast v658
  let c0_451 : Index := 0#32
  ![0, v659.toNat, 0]
def k0_off3 (k0_t1 : Fin k0_t1_loop.trips) : Fin 3 → Nat :=
  let c1_455 : Index := 1#32
  let c1_i32_191 : BitVec 32 := 1#32
  let c1_i32_192 : BitVec 32 := 1#32
  let arg20 : BitVec 32 := Scf.iv c1_i32_191 c1_i32_192 k0_t1
  let c8_i32 : BitVec 32 := 8#32
  let v650 : BitVec 32 := Scalar.muli arg20 c8_i32
  let v651 : BitVec 32 := v650
  let c8_i32_454 : BitVec 32 := 8#32
  let v667 : BitVec 32 := Scalar.subi v651 c8_i32_454
  let v668 : Index := Scalar.indexCast v667
  let c0_456 : Index := 0#32
  ![1, v668.toNat, 0]
def k0_off4 (k0_t1 : Fin k0_t1_loop.trips) : Fin 3 → Nat :=
  let c2_460 : Index := 2#32
  let c1_i32_191 : BitVec 32 := 1#32
  let c1_i32_192 : BitVec 32 := 1#32
  let arg20 : BitVec 32 := Scf.iv c1_i32_191 c1_i32_192 k0_t1
  let c8_i32 : BitVec 32 := 8#32
  let v650 : BitVec 32 := Scalar.muli arg20 c8_i32
  let v651 : BitVec 32 := v650
  let c8_i32_459 : BitVec 32 := 8#32
  let v676 : BitVec 32 := Scalar.subi v651 c8_i32_459
  let v677 : Index := Scalar.indexCast v676
  let c0_461 : Index := 0#32
  ![2, v677.toNat, 0]
def k0_off5 (k0_t1 : Fin k0_t1_loop.trips) : Fin 3 → Nat :=
  let c3_465 : Index := 3#32
  let c1_i32_191 : BitVec 32 := 1#32
  let c1_i32_192 : BitVec 32 := 1#32
  let arg20 : BitVec 32 := Scf.iv c1_i32_191 c1_i32_192 k0_t1
  let c8_i32 : BitVec 32 := 8#32
  let v650 : BitVec 32 := Scalar.muli arg20 c8_i32
  let v651 : BitVec 32 := v650
  let c8_i32_464 : BitVec 32 := 8#32
  let v685 : BitVec 32 := Scalar.subi v651 c8_i32_464
  let v686 : Index := Scalar.indexCast v685
  let c0_466 : Index := 0#32
  ![3, v686.toNat, 0]
def k0_off6 (k0_t1 : Fin k0_t1_loop.trips) : Fin 3 → Nat :=
  let c4_470 : Index := 4#32
  let c1_i32_191 : BitVec 32 := 1#32
  let c1_i32_192 : BitVec 32 := 1#32
  let arg20 : BitVec 32 := Scf.iv c1_i32_191 c1_i32_192 k0_t1
  let c8_i32 : BitVec 32 := 8#32
  let v650 : BitVec 32 := Scalar.muli arg20 c8_i32
  let v651 : BitVec 32 := v650
  let c8_i32_469 : BitVec 32 := 8#32
  let v694 : BitVec 32 := Scalar.subi v651 c8_i32_469
  let v695 : Index := Scalar.indexCast v694
  let c0_471 : Index := 0#32
  ![4, v695.toNat, 0]
def k0_off7 (k0_t1 : Fin k0_t1_loop.trips) : Fin 3 → Nat :=
  let c5_475 : Index := 5#32
  let c1_i32_191 : BitVec 32 := 1#32
  let c1_i32_192 : BitVec 32 := 1#32
  let arg20 : BitVec 32 := Scf.iv c1_i32_191 c1_i32_192 k0_t1
  let c8_i32 : BitVec 32 := 8#32
  let v650 : BitVec 32 := Scalar.muli arg20 c8_i32
  let v651 : BitVec 32 := v650
  let c8_i32_474 : BitVec 32 := 8#32
  let v703 : BitVec 32 := Scalar.subi v651 c8_i32_474
  let v704 : Index := Scalar.indexCast v703
  let c0_476 : Index := 0#32
  ![5, v704.toNat, 0]
def k0_off8 (k0_t1 : Fin k0_t1_loop.trips) : Fin 3 → Nat :=
  let c6_480 : Index := 6#32
  let c1_i32_191 : BitVec 32 := 1#32
  let c1_i32_192 : BitVec 32 := 1#32
  let arg20 : BitVec 32 := Scf.iv c1_i32_191 c1_i32_192 k0_t1
  let c8_i32 : BitVec 32 := 8#32
  let v650 : BitVec 32 := Scalar.muli arg20 c8_i32
  let v651 : BitVec 32 := v650
  let c8_i32_479 : BitVec 32 := 8#32
  let v712 : BitVec 32 := Scalar.subi v651 c8_i32_479
  let v713 : Index := Scalar.indexCast v712
  let c0_481 : Index := 0#32
  ![6, v713.toNat, 0]
@[reducible] def k0_t2_loop : Scf.Loop 32 :=
  let c1_i32_202 : BitVec 32 := 1#32
  let c67_i32_203 : BitVec 32 := 67#32
  let v376 : BitVec 32 := Scalar.addi c1_i32_202 c67_i32_203
  let c1_i32_204 : BitVec 32 := 1#32
  ⟨c1_i32_202, v376, c1_i32_204⟩
def k0_mult2 (k0_t2 : Fin k0_t2_loop.trips) : BitVec 32 :=
  let c1_i32_202 : BitVec 32 := 1#32
  let c1_i32_204 : BitVec 32 := 1#32
  let arg20 : BitVec 32 := Scf.iv c1_i32_202 c1_i32_204 k0_t2
  let c8_i32 : BitVec 32 := 8#32
  let v650 : BitVec 32 := Scalar.muli arg20 c8_i32
  v650
def k0_off9 (k0_t2 : Fin k0_t2_loop.trips) : Fin 2 → Nat :=
  let c1_i32_202 : BitVec 32 := 1#32
  let c1_i32_204 : BitVec 32 := 1#32
  let arg20 : BitVec 32 := Scf.iv c1_i32_202 c1_i32_204 k0_t2
  let c8_i32 : BitVec 32 := 8#32
  let v650 : BitVec 32 := Scalar.muli arg20 c8_i32
  let v651 : BitVec 32 := v650
  let v652 : Index := Scalar.indexCast v651
  let c256_446 : Index := 256#32
  ![v652.toNat, 256]
def k0_off10 (k0_t2 : Fin k0_t2_loop.trips) : Fin 3 → Nat :=
  let c0_450 : Index := 0#32
  let c1_i32_202 : BitVec 32 := 1#32
  let c1_i32_204 : BitVec 32 := 1#32
  let arg20 : BitVec 32 := Scf.iv c1_i32_202 c1_i32_204 k0_t2
  let c8_i32 : BitVec 32 := 8#32
  let v650 : BitVec 32 := Scalar.muli arg20 c8_i32
  let v651 : BitVec 32 := v650
  let c8_i32_449 : BitVec 32 := 8#32
  let v658 : BitVec 32 := Scalar.subi v651 c8_i32_449
  let v659 : Index := Scalar.indexCast v658
  let c256_451 : Index := 256#32
  ![0, v659.toNat, 256]
def k0_off11 (k0_t2 : Fin k0_t2_loop.trips) : Fin 3 → Nat :=
  let c1_455 : Index := 1#32
  let c1_i32_202 : BitVec 32 := 1#32
  let c1_i32_204 : BitVec 32 := 1#32
  let arg20 : BitVec 32 := Scf.iv c1_i32_202 c1_i32_204 k0_t2
  let c8_i32 : BitVec 32 := 8#32
  let v650 : BitVec 32 := Scalar.muli arg20 c8_i32
  let v651 : BitVec 32 := v650
  let c8_i32_454 : BitVec 32 := 8#32
  let v667 : BitVec 32 := Scalar.subi v651 c8_i32_454
  let v668 : Index := Scalar.indexCast v667
  let c256_456 : Index := 256#32
  ![1, v668.toNat, 256]
def k0_off12 (k0_t2 : Fin k0_t2_loop.trips) : Fin 3 → Nat :=
  let c2_460 : Index := 2#32
  let c1_i32_202 : BitVec 32 := 1#32
  let c1_i32_204 : BitVec 32 := 1#32
  let arg20 : BitVec 32 := Scf.iv c1_i32_202 c1_i32_204 k0_t2
  let c8_i32 : BitVec 32 := 8#32
  let v650 : BitVec 32 := Scalar.muli arg20 c8_i32
  let v651 : BitVec 32 := v650
  let c8_i32_459 : BitVec 32 := 8#32
  let v676 : BitVec 32 := Scalar.subi v651 c8_i32_459
  let v677 : Index := Scalar.indexCast v676
  let c256_461 : Index := 256#32
  ![2, v677.toNat, 256]
def k0_off13 (k0_t2 : Fin k0_t2_loop.trips) : Fin 3 → Nat :=
  let c3_465 : Index := 3#32
  let c1_i32_202 : BitVec 32 := 1#32
  let c1_i32_204 : BitVec 32 := 1#32
  let arg20 : BitVec 32 := Scf.iv c1_i32_202 c1_i32_204 k0_t2
  let c8_i32 : BitVec 32 := 8#32
  let v650 : BitVec 32 := Scalar.muli arg20 c8_i32
  let v651 : BitVec 32 := v650
  let c8_i32_464 : BitVec 32 := 8#32
  let v685 : BitVec 32 := Scalar.subi v651 c8_i32_464
  let v686 : Index := Scalar.indexCast v685
  let c256_466 : Index := 256#32
  ![3, v686.toNat, 256]
def k0_off14 (k0_t2 : Fin k0_t2_loop.trips) : Fin 3 → Nat :=
  let c4_470 : Index := 4#32
  let c1_i32_202 : BitVec 32 := 1#32
  let c1_i32_204 : BitVec 32 := 1#32
  let arg20 : BitVec 32 := Scf.iv c1_i32_202 c1_i32_204 k0_t2
  let c8_i32 : BitVec 32 := 8#32
  let v650 : BitVec 32 := Scalar.muli arg20 c8_i32
  let v651 : BitVec 32 := v650
  let c8_i32_469 : BitVec 32 := 8#32
  let v694 : BitVec 32 := Scalar.subi v651 c8_i32_469
  let v695 : Index := Scalar.indexCast v694
  let c256_471 : Index := 256#32
  ![4, v695.toNat, 256]
def k0_off15 (k0_t2 : Fin k0_t2_loop.trips) : Fin 3 → Nat :=
  let c5_475 : Index := 5#32
  let c1_i32_202 : BitVec 32 := 1#32
  let c1_i32_204 : BitVec 32 := 1#32
  let arg20 : BitVec 32 := Scf.iv c1_i32_202 c1_i32_204 k0_t2
  let c8_i32 : BitVec 32 := 8#32
  let v650 : BitVec 32 := Scalar.muli arg20 c8_i32
  let v651 : BitVec 32 := v650
  let c8_i32_474 : BitVec 32 := 8#32
  let v703 : BitVec 32 := Scalar.subi v651 c8_i32_474
  let v704 : Index := Scalar.indexCast v703
  let c256_476 : Index := 256#32
  ![5, v704.toNat, 256]
def k0_off16 (k0_t2 : Fin k0_t2_loop.trips) : Fin 3 → Nat :=
  let c6_480 : Index := 6#32
  let c1_i32_202 : BitVec 32 := 1#32
  let c1_i32_204 : BitVec 32 := 1#32
  let arg20 : BitVec 32 := Scf.iv c1_i32_202 c1_i32_204 k0_t2
  let c8_i32 : BitVec 32 := 8#32
  let v650 : BitVec 32 := Scalar.muli arg20 c8_i32
  let v651 : BitVec 32 := v650
  let c8_i32_479 : BitVec 32 := 8#32
  let v712 : BitVec 32 := Scalar.subi v651 c8_i32_479
  let v713 : Index := Scalar.indexCast v712
  let c256_481 : Index := 256#32
  ![6, v713.toNat, 256]
@[reducible] def k0_t3_loop : Scf.Loop 32 :=
  let c0_i32_206 : BitVec 32 := 0#32
  let c16_i32 : BitVec 32 := 16#32
  let v378 : BitVec 32 := Scalar.addi c0_i32_206 c16_i32
  let c1_i32_207 : BitVec 32 := 1#32
  ⟨c0_i32_206, v378, c1_i32_207⟩
def k0_mult3 (k0_t3 : Fin k0_t3_loop.trips) : BitVec 32 :=
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  v650
def k0_off17 (k0_t3 : Fin k0_t3_loop.trips) (c0_i32_453 : BitVec 32) (c0_i32_454 : BitVec 32) : Fin 2 → Nat :=
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v658 : BitVec 32 := Scalar.addi v651 c0_i32_453
  let v659 : BitVec 32 := Scalar.addi v658 c0_i32_454
  let v660 : Index := Scalar.indexCast v659
  let c0_455 : Index := 0#32
  ![v660.toNat, 0]
def k0_off18 (k0_t3 : Fin k0_t3_loop.trips) (c0_i32_466 : BitVec 32) (c0_i32_467 : BitVec 32) : Fin 3 → Nat :=
  let c0_468 : Index := 0#32
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v684 : BitVec 32 := Scalar.addi v651 c0_i32_466
  let v685 : BitVec 32 := Scalar.addi v684 c0_i32_467
  let v686 : Index := Scalar.indexCast v685
  let c0_469 : Index := 0#32
  ![0, v686.toNat, 0]
def k0_off19 (k0_t3 : Fin k0_t3_loop.trips) (c0_i32_485 : BitVec 32) (c0_i32_486 : BitVec 32) : Fin 3 → Nat :=
  let c1_487 : Index := 1#32
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v714 : BitVec 32 := Scalar.addi v651 c0_i32_485
  let v715 : BitVec 32 := Scalar.addi v714 c0_i32_486
  let v716 : Index := Scalar.indexCast v715
  let c0_488 : Index := 0#32
  ![1, v716.toNat, 0]
def k0_off20 (k0_t3 : Fin k0_t3_loop.trips) (c0_i32_504 : BitVec 32) (c0_i32_505 : BitVec 32) : Fin 3 → Nat :=
  let c2_506 : Index := 2#32
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v744 : BitVec 32 := Scalar.addi v651 c0_i32_504
  let v745 : BitVec 32 := Scalar.addi v744 c0_i32_505
  let v746 : Index := Scalar.indexCast v745
  let c0_507 : Index := 0#32
  ![2, v746.toNat, 0]
def k0_off21 (k0_t3 : Fin k0_t3_loop.trips) (c0_i32_523 : BitVec 32) (c0_i32_524 : BitVec 32) : Fin 3 → Nat :=
  let c3_525 : Index := 3#32
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v774 : BitVec 32 := Scalar.addi v651 c0_i32_523
  let v775 : BitVec 32 := Scalar.addi v774 c0_i32_524
  let v776 : Index := Scalar.indexCast v775
  let c0_526 : Index := 0#32
  ![3, v776.toNat, 0]
def k0_off22 (k0_t3 : Fin k0_t3_loop.trips) (c0_i32_542 : BitVec 32) (c0_i32_543 : BitVec 32) : Fin 3 → Nat :=
  let c4_544 : Index := 4#32
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v804 : BitVec 32 := Scalar.addi v651 c0_i32_542
  let v805 : BitVec 32 := Scalar.addi v804 c0_i32_543
  let v806 : Index := Scalar.indexCast v805
  let c0_545 : Index := 0#32
  ![4, v806.toNat, 0]
def k0_off23 (k0_t3 : Fin k0_t3_loop.trips) (c0_i32_561 : BitVec 32) (c0_i32_562 : BitVec 32) : Fin 3 → Nat :=
  let c5_563 : Index := 5#32
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v834 : BitVec 32 := Scalar.addi v651 c0_i32_561
  let v835 : BitVec 32 := Scalar.addi v834 c0_i32_562
  let v836 : Index := Scalar.indexCast v835
  let c0_564 : Index := 0#32
  ![5, v836.toNat, 0]
def k0_off24 (k0_t3 : Fin k0_t3_loop.trips) (c0_i32_580 : BitVec 32) (c0_i32_581 : BitVec 32) : Fin 3 → Nat :=
  let c6_582 : Index := 6#32
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v864 : BitVec 32 := Scalar.addi v651 c0_i32_580
  let v865 : BitVec 32 := Scalar.addi v864 c0_i32_581
  let v866 : Index := Scalar.indexCast v865
  let c0_583 : Index := 0#32
  ![6, v866.toNat, 0]
def k0_off25 (k0_t3 : Fin k0_t3_loop.trips) : Fin 2 → Nat :=
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v1571 : Index := Scalar.indexCast v651
  let c0_1021 : Index := 0#32
  ![v1571.toNat, 0]
def k0_off26 (k0_t3 : Fin k0_t3_loop.trips) : Fin 2 → Nat :=
  let c0_i32_206 : BitVec 32 := 0#32
  let c1_i32_207 : BitVec 32 := 1#32
  let arg20 : BitVec 32 := Scf.iv c0_i32_206 c1_i32_207 k0_t3
  let c32_i32 : BitVec 32 := 32#32
  let v650 : BitVec 32 := Scalar.muli arg20 c32_i32
  let v651 : BitVec 32 := v650
  let v1574 : Index := Scalar.indexCast v651
  let c512_1022 : Index := 512#32
  ![v1574.toNat, 512]
@[reducible] def k0_t4_loop : Scf.Loop 32 :=
  let c0_i32_209 : BitVec 32 := 0#32
  let c16_i32_210 : BitVec 32 := 16#32
  let v379 : BitVec 32 := Scalar.addi c0_i32_209 c16_i32_210
  let c1_i32_211 : BitVec 32 := 1#32
  ⟨c0_i32_209, v379, c1_i32_211⟩
def k0_mult4 (k0_t4 : Fin k0_t4_loop.trips) : BitVec 32 :=
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  v650
def k0_off27 (k0_t4 : Fin k0_t4_loop.trips) (c0_i32_453 : BitVec 32) (c0_i32_454 : BitVec 32) : Fin 2 → Nat :=
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v658 : BitVec 32 := Scalar.addi v651 c0_i32_453
  let v659 : BitVec 32 := Scalar.addi v658 c0_i32_454
  let v660 : Index := Scalar.indexCast v659
  let c256_455 : Index := 256#32
  ![v660.toNat, 256]
def k0_off28 (k0_t4 : Fin k0_t4_loop.trips) (c0_i32_466 : BitVec 32) (c0_i32_467 : BitVec 32) : Fin 3 → Nat :=
  let c0_468 : Index := 0#32
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v684 : BitVec 32 := Scalar.addi v651 c0_i32_466
  let v685 : BitVec 32 := Scalar.addi v684 c0_i32_467
  let v686 : Index := Scalar.indexCast v685
  let c256_469 : Index := 256#32
  ![0, v686.toNat, 256]
def k0_off29 (k0_t4 : Fin k0_t4_loop.trips) (c0_i32_485 : BitVec 32) (c0_i32_486 : BitVec 32) : Fin 3 → Nat :=
  let c1_487 : Index := 1#32
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v714 : BitVec 32 := Scalar.addi v651 c0_i32_485
  let v715 : BitVec 32 := Scalar.addi v714 c0_i32_486
  let v716 : Index := Scalar.indexCast v715
  let c256_488 : Index := 256#32
  ![1, v716.toNat, 256]
def k0_off30 (k0_t4 : Fin k0_t4_loop.trips) (c0_i32_504 : BitVec 32) (c0_i32_505 : BitVec 32) : Fin 3 → Nat :=
  let c2_506 : Index := 2#32
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v744 : BitVec 32 := Scalar.addi v651 c0_i32_504
  let v745 : BitVec 32 := Scalar.addi v744 c0_i32_505
  let v746 : Index := Scalar.indexCast v745
  let c256_507 : Index := 256#32
  ![2, v746.toNat, 256]
def k0_off31 (k0_t4 : Fin k0_t4_loop.trips) (c0_i32_523 : BitVec 32) (c0_i32_524 : BitVec 32) : Fin 3 → Nat :=
  let c3_525 : Index := 3#32
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v774 : BitVec 32 := Scalar.addi v651 c0_i32_523
  let v775 : BitVec 32 := Scalar.addi v774 c0_i32_524
  let v776 : Index := Scalar.indexCast v775
  let c256_526 : Index := 256#32
  ![3, v776.toNat, 256]
def k0_off32 (k0_t4 : Fin k0_t4_loop.trips) (c0_i32_542 : BitVec 32) (c0_i32_543 : BitVec 32) : Fin 3 → Nat :=
  let c4_544 : Index := 4#32
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v804 : BitVec 32 := Scalar.addi v651 c0_i32_542
  let v805 : BitVec 32 := Scalar.addi v804 c0_i32_543
  let v806 : Index := Scalar.indexCast v805
  let c256_545 : Index := 256#32
  ![4, v806.toNat, 256]
def k0_off33 (k0_t4 : Fin k0_t4_loop.trips) (c0_i32_561 : BitVec 32) (c0_i32_562 : BitVec 32) : Fin 3 → Nat :=
  let c5_563 : Index := 5#32
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v834 : BitVec 32 := Scalar.addi v651 c0_i32_561
  let v835 : BitVec 32 := Scalar.addi v834 c0_i32_562
  let v836 : Index := Scalar.indexCast v835
  let c256_564 : Index := 256#32
  ![5, v836.toNat, 256]
def k0_off34 (k0_t4 : Fin k0_t4_loop.trips) (c0_i32_580 : BitVec 32) (c0_i32_581 : BitVec 32) : Fin 3 → Nat :=
  let c6_582 : Index := 6#32
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v864 : BitVec 32 := Scalar.addi v651 c0_i32_580
  let v865 : BitVec 32 := Scalar.addi v864 c0_i32_581
  let v866 : Index := Scalar.indexCast v865
  let c256_583 : Index := 256#32
  ![6, v866.toNat, 256]
def k0_off35 (k0_t4 : Fin k0_t4_loop.trips) : Fin 2 → Nat :=
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v1571 : Index := Scalar.indexCast v651
  let c256_1021 : Index := 256#32
  ![v1571.toNat, 256]
def k0_off36 (k0_t4 : Fin k0_t4_loop.trips) : Fin 2 → Nat :=
  let c0_i32_209 : BitVec 32 := 0#32
  let c1_i32_211 : BitVec 32 := 1#32
  let arg20 : BitVec 32 := Scf.iv c0_i32_209 c1_i32_211 k0_t4
  let c32_i32 : BitVec 32 := 32#32
  let v650 : BitVec 32 := Scalar.muli arg20 c32_i32
  let v651 : BitVec 32 := v650
  let v1574 : Index := Scalar.indexCast v651
  let c768 : Index := 768#32
  ![v1574.toNat, 768]
def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConfBwdRefIdeal.lean ====
abbrev S8192x512 : Shape := ⟨2, ![8192, 512]⟩
abbrev S512 : Shape := ⟨1, ![512]⟩
abbrev S8192x8192 : Shape := ⟨2, ![8192, 8192]⟩
abbrev S31x512 : Shape := ⟨2, ![31, 512]⟩
abbrev S1x512 : Shape := ⟨2, ![1, 512]⟩
abbrev S_ : Shape := ⟨0, ![]⟩
abbrev S8192 : Shape := ⟨1, ![8192]⟩
abbrev S8192x1 : Shape := ⟨2, ![8192, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S8192x512, .f32⟩
  | .hbm, ⟨5, _⟩ => ⟨S8192x8192, .bf16⟩
  | .hbm, ⟨6, _⟩ => ⟨S8192x8192, .bf16⟩
  | .hbm, ⟨7, _⟩ => ⟨S31x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S512, .f32⟩
  | .hbm, ⟨64, _⟩ => ⟨S1x512, .f32⟩
  | .hbm, ⟨65, _⟩ => ⟨S_, .f32⟩
  | .hbm, ⟨66, _⟩ => ⟨S512, .f32⟩
  | .hbm, ⟨67, _⟩ => ⟨S8192x512, .f32⟩
  | .hbm, ⟨68, _⟩ => ⟨S_, .f32⟩
  | .hbm, ⟨69, _⟩ => ⟨S512, .f32⟩
  | .hbm, ⟨70, _⟩ => ⟨S1x512, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S512, .f32⟩
  | .hbm, ⟨75, _⟩ => ⟨S8192x512, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x512, .f32⟩
  | .hbm, ⟨80, _⟩ => ⟨S8192x512, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x512, .f32⟩
  | .hbm, ⟨100, _⟩ => ⟨S8192x512, .f32⟩
  | .hbm, ⟨101, _⟩ => ⟨S_, .f32⟩
  | .hbm, ⟨102, _⟩ => ⟨S512, .f32⟩
  | .hbm, ⟨103, _⟩ => ⟨S1x512, .f32⟩
  | .hbm, ⟨104, _⟩ => ⟨S_, .f32⟩
  | .hbm, ⟨105, _⟩ => ⟨S512, .f32⟩
  | .hbm, ⟨106, _⟩ => ⟨S1x512, .f32⟩
  | .hbm, ⟨107, _⟩ => ⟨S1x512, .f32⟩
  | .hbm, ⟨108, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v30_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v30_1 : Ref sig .tc := ⟨.hbm, 56, rfl⟩
abbrev main_v30_0 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_cst_7 : Ref sig .tc := ⟨.hbm, 65, rfl⟩
abbrev main_v34 : Ref sig .tc := ⟨.hbm, 66, rfl⟩
abbrev main_v35 : Ref sig .tc := ⟨.hbm, 67, rfl⟩
abbrev main_cst_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_v40 : Ref sig .tc := ⟨.hbm, 74, rfl⟩
abbrev main_v41 : Ref sig .tc := ⟨.hbm, 75, rfl⟩
abbrev main_cst_10 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_11 : Ref sig .tc := ⟨.hbm, 82, rfl⟩
abbrev main_v47 : Ref sig .tc := ⟨.hbm, 83, rfl⟩
abbrev main_v48 : Ref sig .tc := ⟨.hbm, 84, rfl⟩
abbrev main_cst_12 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_13 : Ref sig .tc := ⟨.hbm, 91, rfl⟩
abbrev main_v54 : Ref sig .tc := ⟨.hbm, 92, rfl⟩
abbrev main_v55 : Ref sig .tc := ⟨.hbm, 93, rfl⟩
abbrev main_cst_14 : Ref sig .tc := ⟨.hbm, 94, rfl⟩
abbrev main_v56 : Ref sig .tc := ⟨.hbm, 95, rfl⟩
abbrev main_v57 : Ref sig .tc := ⟨.hbm, 96, rfl⟩
abbrev main_cst_15 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_16 : Ref sig .tc := ⟨.hbm, 101, rfl⟩
abbrev main_v61 : Ref sig .tc := ⟨.hbm, 102, rfl⟩
abbrev main_v62 : Ref sig .tc := ⟨.hbm, 103, rfl⟩
abbrev main_cst_17 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S3x1024 : Shape := ⟨2, ![3, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdRefIdeal.lean ====
abbrev S8192x1024 : Shape := ⟨2, ![8192, 1024]⟩
abbrev S1024 : Shape := ⟨1, ![1024]⟩
abbrev S3x1024 : Shape := ⟨2, ![3, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== MixFwd.lean ====
abbrev S8192x1024 : Shape := ⟨2, ![8192, 1024]⟩
abbrev S8192x512 : Shape := ⟨2, ![8192, 512]⟩
abbrev S8192x3072 : Shape := ⟨2, ![8192, 3072]⟩
abbrev S3072 : Shape := ⟨1, ![3072]⟩
abbrev S1024x1024 : Shape := ⟨2, ![1024, 1024]⟩
abbrev S512x1024 : Shape := ⟨2, ![512, 1024]⟩
abbrev S3x1024 : Shape := ⟨2, ![3, 1024]⟩
abbrev S_ : Shape := ⟨0, ![]⟩
abbrev S8192x5120 : Shape := ⟨2, ![8192, 5120]⟩
abbrev S8192x8192 : Shape := ⟨2, ![8192, 8192]⟩
abbrev S1x3072 : Shape := ⟨2, ![1, 3072]⟩
abbrev S256x1024 : Shape := ⟨2, ![256, 1024]⟩
abbrev S256x512 : Shape := ⟨2, ![256, 512]⟩
abbrev S256x3072 : Shape := ⟨2, ![256, 3072]⟩
abbrev S1x1024 : Shape := ⟨2, ![1, 1024]⟩

abbrev nBuf : Space → Nat
  | .hbm => 29
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x3072, .f32⟩
  | .hbm, ⟨4, _⟩ => ⟨S3072, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S3x1024, .f32⟩
  | .hbm, ⟨11, _⟩ => ⟨S_, .f32⟩
  | .hbm, ⟨12, _⟩ => ⟨S8192x5120, .f32⟩
  | .hbm, ⟨13, _⟩ => ⟨S8192x8192, .f32⟩
  | .hbm, ⟨14, _⟩ => ⟨S8192x8192, .bf16⟩
  | .hbm, ⟨15, _⟩ => ⟨S8192x1024, .bf16⟩
  | .hbm, ⟨16, _⟩ => ⟨S8192x512, .bf16⟩
  | .hbm, ⟨17, _⟩ => ⟨S8192x512, .bf16⟩
  | .hbm, ⟨18, _⟩ => ⟨S1x3072, .f32⟩
  | .hbm, ⟨19, _⟩ => ⟨S1024x1024, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x3072, .bf16⟩
  | .local _ .vmem, ⟨7, _⟩ => ⟨S256x3072, .bf16⟩
  | .local _ .vmem, ⟨8, _⟩ => ⟨S1x3072, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S3x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .f32⟩
  | .local _ .vmem, ⟨27, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixFwdRefIdeal.lean ====
abbrev S8192x1024 : Shape := ⟨2, ![8192, 1024]⟩
abbrev S8192x512 : Shape := ⟨2, ![8192, 512]⟩
abbrev S8192x3072 : Shape := ⟨2, ![8192, 3072]⟩
abbrev S3072 : Shape := ⟨1, ![3072]⟩
abbrev S1024x1024 : Shape := ⟨2, ![1024, 1024]⟩
abbrev S512x1024 : Shape := ⟨2, ![512, 1024]⟩
abbrev S3x1024 : Shape := ⟨2, ![3, 1024]⟩
abbrev S1x3072 : Shape := ⟨2, ![1, 3072]⟩
abbrev S_ : Shape := ⟨0, ![]⟩
abbrev S1x1024 : Shape := ⟨2, ![1, 1024]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x3072, .f32⟩
  | .hbm, ⟨4, _⟩ => ⟨S3072, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S3x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== ScFwd.lean ====
abbrev S8192x1536 : Shape := ⟨2, ![8192, 1536]⟩
abbrev S3x512 : Shape := ⟨2, ![3, 512]⟩
abbrev S_ : Shape := ⟨0, ![]⟩
abbrev S8192x3072 : Shape := ⟨2, ![8192, 3072]⟩
abbrev S8192x3584 : Shape := ⟨2, ![8192, 3584]⟩
abbrev S8192x8192 : Shape := ⟨2, ![8192, 8192]⟩
abbrev S8192x512 : Shape := ⟨2, ![8192, 512]⟩
abbrev S16x1536 : Shape := ⟨2, ![16, 1536]⟩
abbrev S512x1536 : Shape := ⟨2, ![512, 1536]⟩
abbrev S512x512 : Shape := ⟨2, ![512, 512]⟩
abbrev S528x512 : Shape := ⟨2, ![528, 512]⟩
abbrev S16x512 : Shape := ⟨2, ![16, 512]⟩
abbrev S1x512 : Shape := ⟨2, ![1, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1536, .f32⟩
  | .hbm, ⟨1, _⟩ => ⟨S3x512, .f32⟩
  | .hbm, ⟨2, _⟩ => ⟨S_, .f32⟩
  | .hbm, ⟨3, _⟩ => ⟨S8192x3072, .f32⟩
  | .hbm, ⟨4, _⟩ => ⟨S_, .f32⟩
  | .hbm, ⟨5, _⟩ => ⟨S8192x3584, .f32⟩
  | .hbm, ⟨6, _⟩ => ⟨S8192x8192, .f32⟩
  | .hbm, ⟨7, _⟩ => ⟨S8192x8192, .bf16⟩
  | .hbm, ⟨8, _⟩ => ⟨S8192x512, .bf16⟩
  | .local _ .vmem, ⟨0, _⟩ => ⟨S16x1536, .bf16⟩
  | .local _ .vmem, ⟨1, _⟩ => ⟨S16x1536, .bf16⟩
  | .local _ .vmem, ⟨2, _⟩ => ⟨S512x1536, .bf16⟩
  | .local _ .vmem, ⟨3, _⟩ => ⟨S512x1536, .bf16⟩
  | .local _ .vmem, ⟨4, _⟩ => ⟨S3x512, .f32⟩
  | .local _ .vmem, ⟨5, _⟩ => ⟨S512x512, .bf16⟩
  | .local _ .vmem, ⟨6, _⟩ => ⟨S512x512, .bf16⟩
  | .local _ .vmem, ⟨7, _⟩ => ⟨S528x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ScFwdRefIdeal.lean ====
abbrev S8192x1536 : Shape := ⟨2, ![8192, 1536]⟩
abbrev S3x512 : Shape := ⟨2, ![3, 512]⟩
abbrev S8192x512 : Shape := ⟨2, ![8192, 512]⟩
abbrev S1x512 : Shape := ⟨2, ![1, 512]⟩
abbrev S512 : Shape := ⟨1, ![512]⟩
abbrev S_ : Shape := ⟨0, ![]⟩
abbrev S2x512 : Shape := ⟨2, ![2, 512]⟩
abbrev S8190x512 : Shape := ⟨2, ![8190, 512]⟩
abbrev S8191x512 : Shape := ⟨2, ![8191, 512]⟩

abbrev nBuf : Space → Nat
  | .hbm => 36
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S3x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1x512, .f32⟩
  | .hbm, ⟨7, _⟩ => ⟨S512, .f32⟩
  | .hbm, ⟨8, _⟩ => ⟨S_, .f32⟩
  | .hbm, ⟨9, _⟩ => ⟨S2x512, .f32⟩
  | .hbm, ⟨10, _⟩ => ⟨S8190x512, .f32⟩
  | .hbm, ⟨11, _⟩ => ⟨S8192x512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S512, .f32⟩
  | .hbm, ⟨20, _⟩ => ⟨S_, .f32⟩
  | .hbm, ⟨21, _⟩ => ⟨S1x512, .f32⟩
  | .hbm, ⟨22, _⟩ => ⟨S8191x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== SsdPreFwd.lean ====
abbrev S8192x1280 : Shape := ⟨2, ![8192, 1280]⟩
abbrev S4x1280 : Shape := ⟨2, ![4, 1280]⟩
abbrev S1280 : Shape := ⟨1, ![1280]⟩
abbrev S_ : Shape := ⟨0, ![]⟩
abbrev S8192x4608 : Shape := ⟨2, ![8192, 4608]⟩
abbrev S8192x2304 : Shape := ⟨2, ![8192, 2304]⟩
abbrev S8192x8192 : Shape := ⟨2, ![8192, 8192]⟩
abbrev S1x1280 : Shape := ⟨2, ![1, 1280]⟩
abbrev S16x1536 : Shape := ⟨2, ![16, 1536]⟩
abbrev S512x1536 : Shape := ⟨2, ![512, 1536]⟩
abbrev S512x1280 : Shape := ⟨2, ![512, 1280]⟩
abbrev S528x1280 : Shape := ⟨2, ![528, 1280]⟩
abbrev S16x1280 : Shape := ⟨2, ![16, 1280]⟩

abbrev nBuf : Space → Nat
  | .hbm => 12
  | .vmem => 11
  | .smem => 0
  | _ => 0

abbrev bufTy : (tb : Table) → Fin (tcTables nBuf tb) → BufTy
  | .hbm, ⟨0, _⟩ => ⟨S8192x1280, .f32⟩
  | .hbm, ⟨1, _⟩ => ⟨S4x1280, .f32⟩
  | .hbm, ⟨2, _⟩ => ⟨S1280, .f32⟩
  | .hbm, ⟨3, _⟩ => ⟨S_, .f32⟩
  | .hbm, ⟨4, _⟩ => ⟨S8192x4608, .f32⟩
  | .hbm, ⟨5, _⟩ => ⟨S_, .f32⟩
  | .hbm, ⟨6, _⟩ => ⟨S8192x2304, .f32⟩
  | .hbm, ⟨7, _⟩ => ⟨S8192x8192, .f32⟩
  | .hbm, ⟨8, _⟩ => ⟨S8192x8192, .bf16⟩
  | .hbm, ⟨9, _⟩ => ⟨S1x1280, .f32⟩
  | .hbm, ⟨10, _⟩ => ⟨S8192x1280, .bf16⟩
  | .hbm, ⟨11, _⟩ => ⟨S8192x1280, .bf16⟩
  | .local _ .vmem, ⟨0, _⟩ => ⟨S16x1536, .bf16⟩
  | .local _ .vmem, ⟨1, _⟩ => ⟨S16x1536, .bf16⟩
  | .local _ .vmem, ⟨2, _⟩ => ⟨S512x1536, .bf16⟩
  | .local _ .vmem, ⟨3, _⟩ => ⟨S512x1536, .bf16⟩
  | .local _ .vmem, ⟨4, _⟩ => ⟨S4x1280, .f32⟩
  | .local _ .vmem, ⟨5, _⟩ => ⟨S1x1280, .f32⟩
  | .local _ .vmem, ⟨6, _⟩ => ⟨S512x1280, .bf16⟩
  | .local _ .vmem, ⟨7, _⟩ => ⟨S512x1280, .bf16⟩
  | .local _ .vmem, ⟨8, _⟩ => ⟨S512x1280, .bf16⟩
  | .local _ .vmem, ⟨9, _⟩ => ⟨S512x1280, .bf16⟩
  | .local _ .vmem, ⟨10, _⟩ => ⟨S528x1280, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SsdPreFwdRefIdeal.lean ====
abbrev S8192x1280 : Shape := ⟨2, ![8192, 1280]⟩
abbrev S4x1280 : Shape := ⟨2, ![4, 1280]⟩
abbrev S1280 : Shape := ⟨1, ![1280]⟩
abbrev S1x1280 : Shape := ⟨2, ![1, 1280]⟩
abbrev S_ : Shape := ⟨0, ![]⟩
abbrev S3x1280 : Shape := ⟨2, ![3, 1280]⟩
abbrev S8189x1280 : Shape := ⟨2, ![8189, 1280]⟩
abbrev S2x1280 : Shape := ⟨2, ![2, 1280]⟩
abbrev S8190x1280 : Shape := ⟨2, ![8190, 1280]⟩
abbrev S8191x1280 : Shape := ⟨2, ![8191, 1280]⟩

abbrev nBuf : Space → Nat
  | .hbm => 55
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S4x1280, .f32⟩
  | .hbm, ⟨2, _⟩ => ⟨S1280, .f32⟩
  | .hbm, ⟨3, _⟩ => ⟨S1x1280, .f32⟩
  | .hbm, ⟨4, _⟩ => ⟨S1280, .f32⟩
  | .hbm, ⟨5, _⟩ => ⟨S_, .f32⟩
  | .hbm, ⟨6, _⟩ => ⟨S3x1280, .f32⟩
  | .hbm, ⟨7, _⟩ => ⟨S8189x1280, .f32⟩
  | .hbm, ⟨8, _⟩ => ⟨S8192x1280, .f32⟩
  | .hbm, ⟨9, _⟩ => ⟨S1x1280, .f32⟩
  | .hbm, ⟨10, _⟩ => ⟨S8192x1280, .f32⟩
  | .hbm, ⟨11, _⟩ => ⟨S8192x1280, .f32⟩
  | .hbm, ⟨12, _⟩ => ⟨S_, .f32⟩
  | .hbm, ⟨13, _⟩ => ⟨S8192x1280, .f32⟩
  | .hbm, ⟨14, _⟩ => ⟨S8192x1280, .f32⟩
  | .hbm, ⟨15, _⟩ => ⟨S1x1280, .f32⟩
  | .hbm, ⟨16, _⟩ => ⟨S1280, .f32⟩
  | .hbm, ⟨17, _⟩ => ⟨S_, .f32⟩
  | .hbm, ⟨18, _⟩ => ⟨S2x1280, .f32⟩
  | .hbm, ⟨19, _⟩ => ⟨S8190x1280, .f32⟩
  | .hbm, ⟨20, _⟩ => ⟨S8192x1280, .f32⟩
  | .hbm, ⟨21, _⟩ => ⟨S1x1280, .f32⟩
  | .hbm, ⟨22, _⟩ => ⟨S8192x1280, .f32⟩
  | .hbm, ⟨23, _⟩ => ⟨S8192x1280, .f32⟩
  | .hbm, ⟨24, _⟩ => ⟨S8192x1280, .f32⟩
  | .hbm, ⟨25, _⟩ => ⟨S1x1280, .f32⟩
  | .hbm, ⟨26, _⟩ => ⟨S1280, .f32⟩
  | .hbm, ⟨27, _⟩ => ⟨S_, .f32⟩
  | .hbm, ⟨28, _⟩ => ⟨S1x1280, .f32⟩
  | .hbm, ⟨29, _⟩ => ⟨S8191x1280, .f32⟩
  | .hbm, ⟨30, _⟩ => ⟨S8192x1280, .f32⟩
  | .hbm, ⟨31, _⟩ => ⟨S1x1280, .f32⟩
  | .hbm, ⟨32, _⟩ => ⟨S8192x1280, .f32⟩
  | .hbm, ⟨33, _⟩ => ⟨S8192x1280, .f32⟩
  | .hbm, ⟨34, _⟩ => ⟨S8192x1280, .f32⟩
  | .hbm, ⟨35, _⟩ => ⟨S1x1280, .f32⟩
  | .hbm, ⟨36, _⟩ => ⟨S1280, .f32⟩
  | .hbm, ⟨37, _⟩ => ⟨S1x1280, .f32⟩
  | .hbm, ⟨38, _⟩ => ⟨S8192x1280, .f32⟩
  | .hbm, ⟨39, _⟩ => ⟨S8192x1280, .f32⟩
  | .hbm, ⟨40, _⟩ => ⟨S8192x1280, .f32⟩
  | .hbm, ⟨41, _⟩ => ⟨S1x1280, .f32⟩
  | .hbm, ⟨42, _⟩ => ⟨S8192x1280, .f32⟩
  | .hbm, ⟨43, _⟩ => ⟨S8192x1280, .f32⟩
  | .hbm, ⟨44, _⟩ => ⟨S8192x1280, .f32⟩
  | .hbm, ⟨45, _⟩ => ⟨S8192x1280, .f32⟩
  | .hbm, ⟨46, _⟩ => ⟨S_, .f32⟩
  | .hbm, ⟨47, _⟩ => ⟨S8192x1280, .f32⟩
  | .hbm, ⟨48, _⟩ => ⟨S8192x1280, .f32⟩
  | .hbm, ⟨49, _⟩ => ⟨S_, .f32⟩
  | .hbm, ⟨50, _⟩ => ⟨S8192x1280, .f32⟩
  | .hbm, ⟨51, _⟩ => ⟨S8192x1280, .f32⟩
  | .hbm, ⟨52, _⟩ => ⟨S8192x1280, .f32⟩
  | .hbm, ⟨53, _⟩ => ⟨S8192x1280, .bf16⟩
  | .hbm, ⟨54, _⟩ => ⟨S8192x1280, .bf16⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Reals.lean ====
module

public import Idealize.ShloMosaic.PureOps.Ideal.Laws
public import Idealize.ShloMosaic.Lib.Pointwise

/-! Ideal scalars that are real numbers: how the scalar operations act on them. -/

@[expose] public section

set_option maxRecDepth 16384

noncomputable section

open Idealize.ShloMosaic

namespace Cert.Reals

/-- The logistic function. -/
def sg (z : ℝ) : ℝ := (1 + Real.exp (-z))⁻¹

theorem sg_den (z : ℝ) : (1 + Real.exp (-z)) ≠ 0 := by positivity

theorem exp_coe (r : ℝ) : Ideal.exp (r : EReal) = ((Real.exp r : ℝ) : EReal) := rfl

theorem div_coe (a : ℝ) {b : ℝ} (h : b ≠ 0) : Ideal.div (a : EReal) (b : EReal) = ((a / b : ℝ) : EReal) := by
  rw [Ideal.div_coe h, ← EReal.coe_mul, one_div, div_eq_mul_inv]

theorem rsqrt_coe {r : ℝ} (h : 0 < r) : Ideal.rsqrt (r : EReal) = (((Real.sqrt r)⁻¹ : ℝ) : EReal) := by
  rw [Ideal.rsqrt_coe, if_neg (not_lt.2 h.le), if_neg h.ne']

theorem sum_coe {ι : Type*} [Fintype ι] (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]

theorem sg_coe (z : ℝ) : Ideal.div 1 (1 + Ideal.exp (-(z : EReal))) = ((sg z : ℝ) : EReal) := by
  rw [← EReal.coe_neg, exp_coe, ← EReal.coe_one, ← EReal.coe_add, div_coe _ (sg_den z), one_div, sg]

theorem sg_coe' (z : ℝ) : Ideal.div 1 (1 + Ideal.exp (0 - (z : EReal))) = ((sg z : ℝ) : EReal) := by
  rw [zero_sub, sg_coe]

theorem one_coe : (1 : EReal) = ((1 : ℝ) : EReal) := rfl

theorem zero_coe : (0 : EReal) = ((0 : ℝ) : EReal) := rfl

theorem sub_self_coe (r : ℝ) : (r : EReal) - (r : EReal) = 0 := by
  rw [← EReal.coe_sub, sub_self]; rfl

/-- The small number added to the mean of the squares. -/
def eps : ℝ := 8796093 / 8796093022208

theorem eps_pos : 0 < eps := by unfold eps; norm_num

theorem eps_lit : Ideal.ofBits .f32 0x358637BD#32 = ((eps : ℝ) : EReal) := by
  unfold eps
  simp [Ideal.ofBits, Ideal.ieee, -EReal.coe_mul]; norm_num

theorem lit_512 : Ideal.ofBits .f32 0x44000000#32 = ((512 : ℝ) : EReal) := by
  simp [Ideal.ofBits, Ideal.ieee, -EReal.coe_mul]; norm_num

theorem lit_neg_half : Ideal.ofBits .f32 0xBF000000#32 = ((-1 / 2 : ℝ) : EReal) := by
  simp [Ideal.ofBits, Ideal.ieee, -EReal.coe_mul]; norm_num

theorem lit_neg_inf : Ideal.ofBits .f32 0xFF800000#32 = (⊥ : EReal) := by
  simp [Ideal.ofBits, Ideal.ieee, -EReal.coe_mul]

/-- An ideal scalar that is a real number. -/
def IsR (x : EReal) : Prop := ∃ r : ℝ, x = (r : EReal)

theorem IsR.coe_toReal {x : EReal} (h : IsR x) : x = ((x.toReal : ℝ) : EReal) := by
  obtain ⟨r, rfl⟩ := h; rfl

theorem isR_coe (r : ℝ) : IsR (r : EReal) := ⟨r, rfl⟩
theorem isR_zero : IsR 0 := ⟨0, rfl⟩
theorem IsR.add {x y : EReal} (hx : IsR x) (hy : IsR y) : IsR (x + y) := by
  obtain ⟨a, rfl⟩ := hx; obtain ⟨b, rfl⟩ := hy; exact ⟨a + b, rfl⟩
theorem IsR.sub {x y : EReal} (hx : IsR x) (hy : IsR y) : IsR (x - y) := by
  obtain ⟨a, rfl⟩ := hx; obtain ⟨b, rfl⟩ := hy; exact ⟨a - b, rfl⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, rfl⟩
theorem IsR.max {x y : EReal} (hx : IsR x) (hy : IsR y) : IsR (max x y) := by
  rcases max_choice x y with h | h <;> rw [h] <;> assumption
theorem IsR.sum {ι : Type*} [Fintype ι] {f : ι → EReal} (h : ∀ k, IsR (f k)) : IsR (∑ k, f k) := by
  choose g hg using h
  exact ⟨∑ k, g k, by rw [← sum_coe]; exact Finset.sum_congr rfl fun k _ => hg k⟩
theorem IsR.exp {x : EReal} (hx : IsR x) : IsR (Ideal.exp x) := by
  obtain ⟨a, rfl⟩ := hx; exact ⟨Real.exp a, rfl⟩
theorem isR_exp_bot : IsR (Ideal.exp ⊥) := ⟨0, rfl⟩
theorem IsR.log1p_exp {x : EReal} (hx : IsR x) : IsR (Ideal.log1p (Ideal.exp x)) := by
  obtain ⟨a, rfl⟩ := hx
  have h : 0 < 1 + Real.exp a := by positivity
  refine ⟨Real.log (1 + Real.exp a), ?_⟩
  rw [exp_coe]
  simp only [Ideal.log1p]
  rw [one_coe, ← EReal.coe_add]
  rw [Ideal.log_coe, if_neg (not_le.2 h)]

theorem isR_select {x y : EReal} (c : BitVec 1) (hx : IsR x) (hy : IsR y) :
    IsR (Scalar.select c (x : Ideal .f32) (y : Ideal .f32)) := by
  unfold Scalar.select; split <;> assumption

theorem isR_exp_select {x : EReal} (c : BitVec 1) (hx : IsR x) :
    IsR (Ideal.exp (Scalar.select c (x : Ideal .f32) (⊥ : EReal))) := by
  unfold Scalar.select; split
  · exact hx.exp
  · exact isR_exp_bot

/-- What is no infinity is a real number. -/
theorem isR_of_sub_self {x : EReal} (h : x - x = 0) : IsR x := by
  induction x with
  | bot => simp at h
  | top => simp at h
  | coe r => exact ⟨r, rfl⟩

/-- A host sum over the outer two of three axes, read at the middle one. -/
theorem hostReduceAdd_mid {a b c : ℕ} (h : (⟨3, ![a, b, c]⟩ : Shape).ReducesTo [0, 2] (⟨1, ![b]⟩ : Shape))
    (v : (⟨3, ![a, b, c]⟩ : Shape).Idx → EReal) (init : EReal) (j : Fin b) :
    Ideal.hostReduceAdd h v init (ix1 j) = init + ∑ p : Fin a, ∑ q : Fin c, v (ix3 p j q) := by
  refine congrArg (init + ·) ?_
  have hd : ∀ i : (⟨3, ![a, b, c]⟩ : Shape).Idx, h.drop i = ix1 j ↔ ∃ k : Fin a × Fin c, ix3 k.1 j k.2 = i := by
    intro i
    constructor
    · intro e
      refine ⟨(i 0, i 2), ?_⟩
      funext d; apply Fin.ext
      match d with
      | ⟨0, _⟩ => rfl
      | ⟨1, _⟩ => exact (congrArg Fin.val (congrFun e 0)).symm
      | ⟨2, _⟩ => rfl
    · rintro ⟨k, rfl⟩
      funext d; apply Fin.ext
      match d with
      | ⟨0, _⟩ => rfl
  refine (Finset.sum_filter_eq_sum_of_fiber _ (fun k : Fin a × Fin c => ix3 k.1 j k.2)
    (fun _ _ e => Prod.ext (congrFun e 0) (congrFun e 2)) hd v).trans ?_
  simp only [Fintype.sum_prod_type]

end Cert.Reals
-- ==== Proof.Rows.lean ====
module

public import proofs.«01_k».proof.Proof.Reals

/-! The gated group normalisation of one row, and its derivatives, over the reals. -/

@[expose] public section

set_option backward.proofsInPublic true
set_option maxRecDepth 16384

noncomputable section

namespace Cert.Rows

open Cert.Reals

/-- Lane `k` of group `g`. -/
def lane (g : Fin 2) (k : Fin 512) : Fin 1024 := ⟨g.val * 512 + k.val, by have := g.isLt; have := k.isLt; omega⟩

/-- The group of a lane. -/
def grp (l : Fin 1024) : Fin 2 := ⟨l.val / 512, by have := l.isLt; omega⟩

theorem grp_lane (g : Fin 2) (k : Fin 512) : grp (lane g k) = g := by
  apply Fin.ext; simp only [grp, lane]; have := g.isLt; have := k.isLt; omega

theorem lane_of (l : Fin 1024) (h : l.val / 512 < 2) (h' : l.val % 512 < 512) : lane ⟨l.val / 512, h⟩ ⟨l.val % 512, h'⟩ = l :=
  Fin.ext (by simp only [lane]; omega)

/-- Lane `p` of head `h`. -/
def hlane (h : Fin 16) (p : Fin 64) : Fin 1024 := ⟨h.val * 64 + p.val, by have := h.isLt; have := p.isLt; omega⟩

/-- The sum over the lanes of a group. -/
def gsum (f : Fin 1024 → ℝ) (g : Fin 2) : ℝ := ∑ k : Fin 512, f (lane g k)

def silu (z : ℝ) : ℝ := z * sg z

/-- The derivative of the gate's activation. -/
def dsilu (z : ℝ) : ℝ := sg z * (1 + z * (1 - sg z))

variable (y z dn gm : Fin 1024 → ℝ)

def gv (l : Fin 1024) : ℝ := y l * silu (z l)

def ms (g : Fin 2) : ℝ := gsum (fun l => gv y z l * gv y z l) g / 512 + eps

theorem ms_pos (g : Fin 2) : 0 < ms y z g := by
  have h : 0 ≤ gsum (fun l => gv y z l * gv y z l) g := Finset.sum_nonneg fun k _ => mul_self_nonneg _
  have := eps_pos
  unfold ms; positivity

def rr (g : Fin 2) : ℝ := (Real.sqrt (ms y z g))⁻¹

theorem rr_sq (g : Fin 2) : rr y z g * rr y z g * ms y z g = 1 := by
  have h := ms_pos y z g
  have hs : Real.sqrt (ms y z g) * Real.sqrt (ms y z g) = ms y z g := Real.mul_self_sqrt h.le
  have h0 : Real.sqrt (ms y z g) ≠ 0 := (Real.sqrt_pos.2 h).ne'
  unfold rr
  rw [← mul_inv, hs, inv_mul_cancel₀ h.ne']

/-- The normalised gated row. -/
def vn (l : Fin 1024) : ℝ := gv y z l * rr y z (grp l)

def dvn (l : Fin 1024) : ℝ := dn l * gm l

/-- The derivative at the gated row. -/
def dv (l : Fin 1024) : ℝ :=
  rr y z (grp l) * (dvn dn gm l - vn y z l * (gsum (fun j => dvn dn gm j * vn y z j) (grp l) / 512))

def dy (l : Fin 1024) : ℝ := dv y z dn gm l * silu (z l)

def dz (l : Fin 1024) : ℝ := dv y z dn gm l * y l * dsilu (z l)

def dng (l : Fin 1024) : ℝ := dn l * vn y z l

/-- The same derivative, with the factor of the mean's square taken apart. -/
theorem dv_eq (l : Fin 1024) :
    dvn dn gm l * rr y z (grp l)
      + gv y z l * (gsum (fun j => gv y z j * dvn dn gm j) (grp l) * (-1 / 2 * (rr y z (grp l) / ms y z (grp l))) / 512)
      + gsum (fun j => gv y z j * dvn dn gm j) (grp l) * (-1 / 2 * (rr y z (grp l) / ms y z (grp l))) / 512 * gv y z l
    = dv y z dn gm l := by
  have h := (ms_pos y z (grp l)).ne'
  have hs : gsum (fun j => dvn dn gm j * vn y z j) (grp l)
      = gsum (fun j => gv y z j * dvn dn gm j) (grp l) * rr y z (grp l) := by
    unfold gsum
    rw [Finset.sum_mul]
    refine Finset.sum_congr rfl fun k _ => ?_
    simp only [vn, grp_lane]; ring
  have hr : rr y z (grp l) / ms y z (grp l) = rr y z (grp l) * rr y z (grp l) * rr y z (grp l) := by
    rw [div_eq_iff h]
    have := rr_sq y z (grp l)
    linear_combination (-rr y z (grp l)) * this
  unfold dv
  rw [hs, hr]
  unfold vn
  ring

theorem dsilu_eq (z : ℝ) (a : ℝ) : a * sg z + z * a * (sg z * (1 - sg z)) = a * dsilu z := by
  unfold dsilu; ring

end Cert.Rows
-- ==== Proof.Pay.lean ====
module

public import proofs.«01_k».proof.Proof.Rows
public import proofs.«01_k».proof.Proof.Gen.KernelIdeal.Skeleton
public import Idealize.ShloMosaic.Lib.Pipeline.ValueKit
public import Idealize.ShloMosaic.Lib.Pointwise

/-! What the kernel's body computes from one chunk of rows up to the gate's and the norm's gradients. -/

@[expose] public section

set_option backward.proofsInPublic true
set_option maxRecDepth 16384

noncomputable section

open Idealize.ShloMosaic Idealize.ShloMosaic.TcCoe Idealize.SL.Sem

namespace Cert.KernelIdeal.Pay

open Cert.KernelIdeal Cert.KernelIdeal.Gen Cert.Reals

variable (yb zb db : FVec Ideal S128x1024 .bf16) (g0 g1 : FVec Ideal S1x512 .f32)
  (Y Z DN : Fin 128 → Fin 1024 → ℝ) (GM : Fin 1024 → ℝ)
  (hy : ∀ a l, yb (ix2 a l) = ((Y a l : ℝ) : EReal))
  (hz : ∀ a l, zb (ix2 a l) = ((Z a l : ℝ) : EReal))
  (hd : ∀ a l, db (ix2 a l) = ((DN a l : ℝ) : EReal))
  (hg0 : ∀ k, g0 (ix2 0 k) = ((GM (Rows.lane 0 k) : ℝ) : EReal))
  (hg1 : ∀ k, g1 (ix2 0 k) = ((GM (Rows.lane 1 k) : ℝ) : EReal))

theorem lane0 (k : Fin 512) : Rows.lane 0 k = ⟨k.val, by omega⟩ := Fin.ext (by simp [Rows.lane])

theorem lane1 (k : Fin 512) : Rows.lane 1 k = ⟨512 + k.val, by omega⟩ := Fin.ext (by simp [Rows.lane])

include hz in
theorem sig_at (a : Fin 128) (l : Fin 1024) : k0_pay12 (F := Ideal) zb (ix2 a l) = ((sg (Z a l) : ℝ) : EReal) := by
  pointwise [k0_pay12, k0_pay11, hz]
  exact sg_coe' _

include hz in
theorem silu_at (a : Fin 128) (l : Fin 1024) : k0_pay13 (F := Ideal) zb (ix2 a l) = ((Rows.silu (Z a l) : ℝ) : EReal) := by
  pointwise [k0_pay13, k0_pay11]
  rw [sig_at zb Z hz, hz, ← EReal.coe_mul]; rfl

include hy hz in
theorem gv_at (a : Fin 128) (l : Fin 1024) :
    k0_pay14 (F := Ideal) yb zb (ix2 a l) = ((Rows.gv (Y a) (Z a) l : ℝ) : EReal) := by
  pointwise [k0_pay14, k0_pay10]
  rw [silu_at zb Z hz, hy, ← EReal.coe_mul]; rfl

include hy hz in
theorem gv0_at (a : Fin 128) (k : Fin 512) :
    k0_pay16 (F := Ideal) yb zb (ix2 a k) = ((Rows.gv (Y a) (Z a) (Rows.lane 0 k) : ℝ) : EReal) := by
  pointwise [k0_pay16]
  rw [gv_at yb zb Y Z hy hz, lane0 k]

include hy hz in
theorem rr0_at (a : Fin 128) : k0_pay17 (F := Ideal) yb zb (ix2 a 0) = ((Rows.rr (Y a) (Z a) 0 : ℝ) : EReal) := by
  pointwise [k0_pay17]
  simp only [gv0_at yb zb Y Z hy hz, ← EReal.coe_mul]
  rw [sum_coe, lit_512, eps_lit, div_coe _ (by norm_num), ← EReal.coe_add]
  exact rsqrt_coe (Rows.ms_pos (Y a) (Z a) 0)

include hy hz in
theorem vn0_at (a : Fin 128) (k : Fin 512) :
    k0_pay18 (F := Ideal) yb zb (ix2 a k) = ((Rows.vn (Y a) (Z a) (Rows.lane 0 k) : ℝ) : EReal) := by
  pointwise [k0_pay18]
  rw [gv0_at yb zb Y Z hy hz, rr0_at yb zb Y Z hy hz, ← EReal.coe_mul]
  simp only [Rows.vn, Rows.grp_lane]

include hd hg0 in
theorem dvn0_at (a : Fin 128) (k : Fin 512) :
    k0_pay19 (F := Ideal) db g0 (ix2 a k) = ((Rows.dvn (DN a) GM (Rows.lane 0 k) : ℝ) : EReal) := by
  pointwise [k0_pay19, k0_pay15]
  rw [hd, hg0, ← EReal.coe_mul, lane0 k]; rfl

include hy hz hd in
theorem dng0_at (a : Fin 128) (k : Fin 512) :
    k0_pay20 (F := Ideal) yb zb db (ix2 a k) = ((Rows.dng (Y a) (Z a) (DN a) (Rows.lane 0 k) : ℝ) : EReal) := by
  pointwise [k0_pay20, k0_pay15]
  rw [hd, vn0_at yb zb Y Z hy hz, ← EReal.coe_mul, lane0 k]; rfl

include hy hz hd in
theorem acc0_at (v : FVec Ideal S1x512 .f32) (k : Fin 512) :
    k0_pay21 (F := Ideal) v (k0_pay20 yb zb db) (ix2 0 k)
      = v (ix2 0 k) + ((∑ a, Rows.dng (Y a) (Z a) (DN a) (Rows.lane 0 k) : ℝ) : EReal) := by
  pointwise [k0_pay21]
  simp only [dng0_at yb zb db Y Z DN hy hz hd, sum_coe]

include hy hz hd hg0 in
theorem dv0_at (a : Fin 128) (k : Fin 512) :
    k0_pay22 (F := Ideal) (k0_pay17 yb zb) (k0_pay18 yb zb) (k0_pay19 db g0) (ix2 a k)
      = ((Rows.dv (Y a) (Z a) (DN a) GM (Rows.lane 0 k) : ℝ) : EReal) := by
  pointwise [k0_pay22]
  simp only [rr0_at yb zb Y Z hy hz, vn0_at yb zb Y Z hy hz, dvn0_at db g0 DN GM hd hg0, ← EReal.coe_mul]
  rw [sum_coe, lit_512, div_coe _ (by norm_num), ← EReal.coe_mul, ← EReal.coe_sub, ← EReal.coe_mul]
  simp only [Rows.dv, Rows.grp_lane]; rfl

include hy hz in
theorem gv1_at (a : Fin 128) (k : Fin 512) :
    k0_pay23 (F := Ideal) (k0_pay14 yb zb) (ix2 a k) = ((Rows.gv (Y a) (Z a) (Rows.lane 1 k) : ℝ) : EReal) := by
  pointwise [k0_pay23]
  rw [gv_at yb zb Y Z hy hz, lane1 k]

include hy hz in
theorem rr1_at (a : Fin 128) :
    k0_pay24 (F := Ideal) (k0_pay14 yb zb) (ix2 a 0) = ((Rows.rr (Y a) (Z a) 1 : ℝ) : EReal) := by
  pointwise [k0_pay24]
  simp only [gv1_at yb zb Y Z hy hz, ← EReal.coe_mul]
  rw [sum_coe, lit_512, eps_lit, div_coe _ (by norm_num), ← EReal.coe_add]
  exact rsqrt_coe (Rows.ms_pos (Y a) (Z a) 1)

include hy hz in
theorem vn1_at (a : Fin 128) (k : Fin 512) :
    k0_pay25 (F := Ideal) (k0_pay14 yb zb) (ix2 a k) = ((Rows.vn (Y a) (Z a) (Rows.lane 1 k) : ℝ) : EReal) := by
  pointwise [k0_pay25]
  rw [gv1_at yb zb Y Z hy hz, rr1_at yb zb Y Z hy hz, ← EReal.coe_mul]
  simp only [Rows.vn, Rows.grp_lane]

include hd hg1 in
theorem dvn1_at (a : Fin 128) (k : Fin 512) :
    k0_pay26 (F := Ideal) (k0_pay15 db) g1 (ix2 a k) = ((Rows.dvn (DN a) GM (Rows.lane 1 k) : ℝ) : EReal) := by
  pointwise [k0_pay26, k0_pay15]
  rw [hd, hg1, ← EReal.coe_mul, lane1 k]; rfl

include hy hz hd in
theorem acc1_at (v : FVec Ideal S1x512 .f32) (k : Fin 512) :
    k0_pay27 (F := Ideal) (k0_pay14 yb zb) (k0_pay15 db) v (ix2 0 k)
      = v (ix2 0 k) + ((∑ a, Rows.dng (Y a) (Z a) (DN a) (Rows.lane 1 k) : ℝ) : EReal) := by
  pointwise [k0_pay27, k0_pay15]
  simp only [vn1_at yb zb Y Z hy hz]
  simp only [hd, ← EReal.coe_mul, sum_coe, lane1 k]; rfl

/-- The gradient at the gated rows, as the body has it: both groups side by side. -/
def DV : FVec Ideal S128x1024 .f32 :=
  k0_pay29 (F := Ideal) (k0_pay22 (k0_pay17 yb zb) (k0_pay18 yb zb) (k0_pay19 db g0)) (k0_pay24 (k0_pay14 yb zb))
    (k0_pay25 (k0_pay14 yb zb)) (k0_pay26 (k0_pay15 db) g1) (k0_pay28 (k0_pay14 yb zb) (k0_pay15 db) g1)

include hy hz hd hg0 hg1 in
theorem dv_at (a : Fin 128) (l : Fin 1024) :
    DV yb zb db g0 g1 (ix2 a l) = ((Rows.dv (Y a) (Z a) (DN a) GM l : ℝ) : EReal) := by
  pointwise [DV, k0_pay29, k0_pay28]
  split
  · next h =>
    rw [dv0_at yb zb db g0 Y Z DN GM hy hz hd hg0]
    have e : Rows.lane 0 ⟨l.val, by omega⟩ = l := Fin.ext (by simp [Rows.lane])
    rw [e]
  · next h =>
    simp only [rr1_at yb zb Y Z hy hz, vn1_at yb zb Y Z hy hz, dvn1_at db g1 DN GM hd hg1, ← EReal.coe_mul]
    rw [sum_coe, lit_512, div_coe _ (by norm_num), ← EReal.coe_mul, ← EReal.coe_sub, ← EReal.coe_mul]
    have e : Rows.lane 1 ⟨l.val - 512, by omega⟩ = l := Fin.ext (by simp [Rows.lane]; omega)
    have eg : Rows.grp l = 1 := Fin.ext (by simp [Rows.grp]; omega)
    simp only [Rows.dv, e, eg]; rfl

include hy hz hd hg0 hg1 in
theorem dy_at (a : Fin 128) (l : Fin 1024) :
    k0_pay30 (F := Ideal) (k0_pay13 zb) (k0_pay22 (k0_pay17 yb zb) (k0_pay18 yb zb) (k0_pay19 db g0)) (k0_pay24 (k0_pay14 yb zb))
      (k0_pay25 (k0_pay14 yb zb)) (k0_pay26 (k0_pay15 db) g1) (k0_pay28 (k0_pay14 yb zb) (k0_pay15 db) g1) (ix2 a l)
      = ((Rows.dy (Y a) (Z a) (DN a) GM l : ℝ) : EReal) := by
  have h := dv_at yb zb db g0 g1 Y Z DN GM hy hz hd hg0 hg1 a l
  unfold DV at h
  pointwise [k0_pay30]
  rw [h, silu_at zb Z hz, ← EReal.coe_mul]; rfl

include hy hz hd hg0 hg1 in
theorem dz_at (a : Fin 128) (l : Fin 1024) :
    k0_pay31 (F := Ideal) (k0_pay10 yb) (k0_pay11 zb) (k0_pay12 zb) (k0_pay22 (k0_pay17 yb zb) (k0_pay18 yb zb) (k0_pay19 db g0))
      (k0_pay24 (k0_pay14 yb zb)) (k0_pay25 (k0_pay14 yb zb)) (k0_pay26 (k0_pay15 db) g1)
      (k0_pay28 (k0_pay14 yb zb) (k0_pay15 db) g1) (ix2 a l)
      = ((Rows.dz (Y a) (Z a) (DN a) GM l : ℝ) : EReal) := by
  have h := dv_at yb zb db g0 g1 Y Z DN GM hy hz hd hg0 hg1 a l
  unfold DV at h
  pointwise [k0_pay31, k0_pay10, k0_pay11]
  simp only [h, sig_at zb Z hz, hy, hz, one_coe, ← EReal.coe_mul, ← EReal.coe_sub, ← EReal.coe_add]
  rfl

theorem dd_at (dyv : FVec Ideal S128x1024 .f32) (xb : FVec Ideal S128x1024 .bf16) (v : FVec Ideal S1x1024 .f32)
    (DY X : Fin 128 → Fin 1024 → ℝ) (hdy : ∀ a l, dyv (ix2 a l) = ((DY a l : ℝ) : EReal))
    (hx : ∀ a l, xb (ix2 a l) = ((X a l : ℝ) : EReal)) (l : Fin 1024) :
    k0_pay57 (F := Ideal) dyv xb v (ix2 0 l) = v (ix2 0 l) + ((∑ a, X a l * DY a l : ℝ) : EReal) := by
  pointwise [k0_pay57, k0_pay55]
  simp only [hdy, hx, ← EReal.coe_mul, sum_coe]
  simp only [mul_comm]

theorem heads_at (sel : FVec Ideal S1024x128 .bf16) (acc : FVec Ideal S1x1024 .f32) (A : Fin 1024 → ℝ)
    (hs : ∀ l k, sel (ix2 l k) = if l.val / 64 = k.val then 1 else 0)
    (ha : ∀ l, acc (ix2 0 l) = ((A l : ℝ) : EReal)) (k : Fin 128) :
    k0_pay4 (F := Ideal) sel acc (ix2 0 k)
      = if h : k.val < 16 then ((∑ p, A (Rows.hlane ⟨k.val, h⟩ p) : ℝ) : EReal) else 0 := by
  pointwise [k0_pay4]
  simp only [hs, ha]
  have e : ∀ (x : Fin 1024) (b : ℝ), ((b : EReal) * if x.val / 64 = k.val then 1 else 0)
      = ((if x.val / 64 = k.val then b else 0 : ℝ) : EReal) := by
    intro x b; split <;> simp
  have z : ∀ x : Fin 1024, ((A x : EReal) - (A x : EReal)) = 0 := fun x => by
    rw [← EReal.coe_sub, sub_self, EReal.coe_zero]
  simp only [z, zero_mul, e, sum_coe, Finset.sum_const_zero, add_zero]
  rw [Fin.sum_univ_tiles 16 64 rfl (fun x : Fin 1024 => if x.val / 64 = k.val then A x else 0)]
  have c : ∀ (j : Fin 16) (t : Fin 64), (j.val * 64 + t.val) / 64 = j.val := by
    intro j t; have := t.isLt; omega
  simp only [c]
  by_cases h : k.val < 16
  · rw [dif_pos h]
    congr 1
    refine (Finset.sum_eq_single (⟨k.val, h⟩ : Fin 16) ?_ ?_).trans ?_
    · intro b _ hb
      exact Finset.sum_eq_zero fun p _ => if_neg fun hh => hb (Fin.ext hh)
    · intro hh; exact absurd (Finset.mem_univ _) hh
    · exact Finset.sum_congr rfl fun p _ => if_pos rfl
  · rw [dif_neg h, ← EReal.coe_zero]
    congr 1
    refine Finset.sum_eq_zero fun b _ => ?_
    refine Finset.sum_eq_zero fun p _ => if_neg ?_
    have := b.isLt; omega

end Cert.KernelIdeal.Pay
-- ==== Proof.Points.lean ====
module

public import proofs.«01_k».proof.Proof.Pay
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option backward.proofsInPublic true
set_option maxRecDepth 16384

noncomputable section

open Idealize.ShloMosaic Idealize.ShloMosaic.TcCoe Idealize.SL.Sem
open Idealize.ShloMosaic.Pipeline (Dat)

namespace Cert.KernelIdeal.Points

open Cert.KernelIdeal Cert.KernelIdeal.Gen Cert.Reals

variable (m : (ℓ : Loc nD τ sig) → Buf (Elt Ideal) ℓ)

theorem idx : ∀ t : Fin cfg0.N, win0_0.index t = ![63 - t.val, 0] ∧ win0_3.index t = ![63 - t.val, 6]
    ∧ win0_4.index t = ![63 - t.val, 0] ∧ win0_5.index t = ![63 - t.val, 0] ∧ win0_10.index t = ![0, 0]
    ∧ win0_12.index t = ![0, 0] ∧ win0_13.index t = ![63 - t.val, 6] ∧ win0_16.index t = ![0, 0]
    ∧ win0_19.index t = ![0, 0] :=
  (by decide +kernel : ∀ t : Fin grid0.N, _)

/-- Row `a` of the chunk that point `t` works on. -/
def row (t : Fin cfg0.N) (a : Fin 128) : Fin 8192 := ⟨(63 - t.val) * 128 + a.val, by have := a.isLt; omega⟩

abbrev lo : Rect S1x1024 := Rect.unit ![0, 0] ![1, 512] inb_S1x1024_S1x512_0_0
abbrev hi : Rect S1x1024 := Rect.unit ![0, 512] ![1, 512] inb_S1x1024_S1x512_0_512

/-- Two stores of one half each, read back in the lower half. -/
theorem canon_lo (W0 W1 : FVec Ideal S1x512 .f32) (L : List (View.Piece (Elt Ideal) S1x1024 .f32)) (k : Fin 512) :
    View.canon ((⟨hi, W1⟩ : View.Piece (Elt Ideal) S1x1024 .f32) :: ⟨lo, W0⟩ :: L) (ix2 0 (Rows.lane 0 k)) = W0 (ix2 0 k) := by
  have e : (ix2 0 (Rows.lane 0 k) : S1x1024.Idx) = lo.emb (ix2 0 k) := by
    blk_ext [Rows.lane]
  rw [View.canon_cons_of_not_mem _ _ (by mem_blk; simp [Rows.lane]), e, View.canon_cons_emb]

theorem canon_hi (W1 : FVec Ideal S1x512 .f32) (L : List (View.Piece (Elt Ideal) S1x1024 .f32)) (k : Fin 512) :
    View.canon ((⟨hi, W1⟩ : View.Piece (Elt Ideal) S1x1024 .f32) :: L) (ix2 0 (Rows.lane 1 k)) = W1 (ix2 0 k) := by
  have e : (ix2 0 (Rows.lane 1 k) : S1x1024.Idx) = hi.emb (ix2 0 k) := by
    blk_ext [Rows.lane]
  rw [e, View.canon_cons_emb]

theorem read_hi (v : View sig .tc .vmem S1x1024 .f32) (W0 : FVec Ideal S1x512 .f32) (L : List (View.Piece (Elt Ideal) S1x1024 .f32)) (k : Fin 512) :
    v.readCov ((⟨lo, W0⟩ : View.Piece (Elt Ideal) S1x1024 .f32) :: L) hi.toLoadRect (ix2 0 k) = View.canon L (ix2 0 (Rows.lane 1 k)) := by
  have e : (ix2 0 (Rows.lane 1 k) : S1x1024.Idx) = hi.emb (ix2 0 k) := by
    blk_ext [Rows.lane]
  rw [View.readCov_eq_canon']
  show View.canon _ (hi.emb (ix2 0 k)) = _
  rw [← e]
  exact View.canon_cons_of_not_mem _ _ (by mem_blk; simp [Rows.lane])

theorem ld_lo (X : FVec Ideal S1x1024 .f32) (k : Fin 512) :
    View.ld (Val := Elt Ideal) (e' := .f32) X lo (ix2 0 k) = X (ix2 0 (Rows.lane 0 k)) := by
  have e : lo.emb (ix2 0 k) = (ix2 0 (Rows.lane 0 k) : S1x1024.Idx) := by blk_ext [Rows.lane]
  exact congrArg X e

theorem ld_hi (X : FVec Ideal S1x1024 .f32) (k : Fin 512) :
    View.ld (Val := Elt Ideal) (e' := .f32) X hi (ix2 0 k) = X (ix2 0 (Rows.lane 1 k)) := by
  have e : hi.emb (ix2 0 k) = (ix2 0 (Rows.lane 1 k) : S1x1024.Idx) := by blk_ext [Rows.lane]
  exact congrArg X e

/-- A lane is a lane of the first or of the second group. -/
theorem lane_cases (P : Fin 1024 → Prop) (h0 : ∀ k, P (Rows.lane 0 k)) (h1 : ∀ k, P (Rows.lane 1 k)) (l : Fin 1024) : P l := by
  by_cases h : l.val < 512
  · have := h0 ⟨l.val, h⟩; rwa [show Rows.lane 0 ⟨l.val, h⟩ = l from Fin.ext (by simp [Rows.lane])] at this
  · have := h1 ⟨l.val - 512, by omega⟩
    rwa [show Rows.lane 1 ⟨l.val - 512, by omega⟩ = l from Fin.ext (by simp [Rows.lane]; omega)] at this

variable (c : Dev nD) (Y Z DN X : Fin 8192 → Fin 1024 → ℝ) (GM : Fin 1024 → ℝ)
  (hY : ∀ i l, (V m c main_v84 : FVec Ideal S8192x1024 .bf16) (ix2 i l) = ((Y i l : ℝ) : EReal))
  (hZ : ∀ i (l : Fin 1024), (V m c main_v83 : FVec Ideal S8192x8192 .bf16) (ix2 i ⟨6144 + l.val, by have := l.isLt; omega⟩)
    = ((Z i l : ℝ) : EReal))
  (hD : ∀ i l, (V m c main_v85 : FVec Ideal S8192x1024 .bf16) (ix2 i l) = ((DN i l : ℝ) : EReal))
  (hX : ∀ i (l : Fin 1024), (V m c main_v82 : FVec Ideal S8192x1280 .bf16) (ix2 i ⟨l.val, by have := l.isLt; omega⟩)
    = ((X i l : ℝ) : EReal))
  (hG : ∀ l, (V m c main_v93 : FVec Ideal S1x1024 .f32) (ix2 0 l) = ((GM l : ℝ) : EReal))
  (hS : ∀ (l : Fin 1024) (k : Fin 128), (V m c main_v103 : FVec Ideal S1024x128 .bf16) (ix2 l k) = if l.val / 64 = k.val then (1 : EReal) else 0)

include hY in
theorem yb_at (t : Fin cfg0.N) (a : Fin 128) (l : Fin 1024) :
    (iblk m c 4 t : FVec Ideal S128x1024 .bf16) (ix2 a l) = ((Y (row t a) l : ℝ) : EReal) := by
  rw [← hY]
  refine congrArg (V m c main_v84) ?_
  blk_ext [idx t, row]

include hZ in
theorem zb_at (t : Fin cfg0.N) (a : Fin 128) (l : Fin 1024) :
    (iblk m c 3 t : FVec Ideal S128x1024 .bf16) (ix2 a l) = ((Z (row t a) l : ℝ) : EReal) := by
  rw [← hZ]
  refine congrArg (V m c main_v83) ?_
  blk_ext [idx t, row]

include hD in
theorem db_at (t : Fin cfg0.N) (a : Fin 128) (l : Fin 1024) :
    (iblk m c 5 t : FVec Ideal S128x1024 .bf16) (ix2 a l) = ((DN (row t a) l : ℝ) : EReal) := by
  rw [← hD]
  refine congrArg (V m c main_v85) ?_
  blk_ext [idx t, row]

include hX in
theorem xb_at (t : Fin cfg0.N) (a : Fin 128) (l : Fin 1024) :
    (X0_0 m c t : FVec Ideal S128x1024 .bf16) (ix2 a l) = ((X (row t a) l : ℝ) : EReal) := by
  rw [← hX]
  unfold X0_0 Pipeline.Window.fill
  rw [dif_pos (moved0_0 t _)]
  refine congrArg (V m c main_v82) ?_
  blk_ext [idx t, row]

include hG in
theorem gb_at (t : Fin cfg0.N) (l : Fin 1024) : (iblk m c 10 t : FVec Ideal S1x1024 .f32) (ix2 0 l) = ((GM l : ℝ) : EReal) := by
  rw [← hG]
  refine congrArg (V m c main_v93) ?_
  blk_ext [idx t]

include hS in
theorem sb_at (t : Fin cfg0.N) (l : Fin 1024) (k : Fin 128) :
    (k0_pay252 (iblk m c 12 t) : FVec Ideal S1024x128 .bf16) (ix2 l k) = if l.val / 64 = k.val then (1 : EReal) else 0 := by
  rw [← hS]
  pointwise [k0_pay252]
  refine congrArg (V m c main_v103) ?_
  blk_ext [idx t]

include hG in
theorem g0_at (t : Fin cfg0.N) (k : Fin 512) :
    View.ld (iblk m c 10 t : FVec Ideal S1x1024 .f32) lo (ix2 0 k) = ((GM (Rows.lane 0 k) : ℝ) : EReal) := by
  rw [ld_lo]; exact gb_at m c GM hG t _

include hG in
theorem g1_at (t : Fin cfg0.N) (k : Fin 512) :
    View.ld (iblk m c 10 t : FVec Ideal S1x1024 .f32) hi (ix2 0 k) = ((GM (Rows.lane 1 k) : ℝ) : EReal) := by
  rw [ld_hi]; exact gb_at m c GM hG t _

/-! ## The gradient of the gate, point by point -/

include hY hZ hD hG in
theorem dz_A (t : Fin cfg0.N) (h0 : t.val % 64 = 0) (h1 : ¬t.val % 64 = 63) (a : Fin 128) (l : Fin 1024) :
    ((outsAt0 m c t.val t.isLt).1 : FVec Ideal S128x1024 .bf16) (ix2 a l)
      = ((Rows.dz (Y (row t a)) (Z (row t a)) (DN (row t a)) GM l : ℝ) : EReal) := by
  rw [outsAt0_A m c t h0 h1]
  frame_out
  exact Pay.dz_at _ _ _ _ _ (fun a => Y (row t a)) (fun a => Z (row t a)) (fun a => DN (row t a)) GM (yb_at m c Y hY t) (zb_at m c Z hZ t)
    (db_at m c DN hD t) (g0_at m c GM hG t) (g1_at m c GM hG t) a l

include hY hZ hD hG in
theorem dz_B (t : Fin cfg0.N) (h0 : ¬t.val % 64 = 0) (h1 : ¬t.val % 64 = 63) (a : Fin 128) (l : Fin 1024) :
    ((outsAt0 m c t.val t.isLt).1 : FVec Ideal S128x1024 .bf16) (ix2 a l)
      = ((Rows.dz (Y (row t a)) (Z (row t a)) (DN (row t a)) GM l : ℝ) : EReal) := by
  rw [outsAt0_B m c t h0 h1]
  frame_out
  exact Pay.dz_at _ _ _ _ _ (fun a => Y (row t a)) (fun a => Z (row t a)) (fun a => DN (row t a)) GM (yb_at m c Y hY t) (zb_at m c Z hZ t)
    (db_at m c DN hD t) (g0_at m c GM hG t) (g1_at m c GM hG t) a l

include hY hZ hD hG in
theorem dz_C (t : Fin cfg0.N) (h0 : ¬t.val % 64 = 0) (h1 : t.val % 64 = 63) (a : Fin 128) (l : Fin 1024) :
    ((outsAt0 m c t.val t.isLt).1 : FVec Ideal S128x1024 .bf16) (ix2 a l)
      = ((Rows.dz (Y (row t a)) (Z (row t a)) (DN (row t a)) GM l : ℝ) : EReal) := by
  rw [outsAt0_C m c t h0 h1]
  frame_out
  exact Pay.dz_at _ _ _ _ _ (fun a => Y (row t a)) (fun a => Z (row t a)) (fun a => DN (row t a)) GM (yb_at m c Y hY t) (zb_at m c Z hZ t)
    (db_at m c DN hD t) (g0_at m c GM hG t) (g1_at m c GM hG t) a l

include hY hZ hD hG in
theorem dz_at (t : Fin cfg0.N) (a : Fin 128) (l : Fin 1024) :
    ((outsAt0 m c t.val t.isLt).1 : FVec Ideal S128x1024 .bf16) (ix2 a l)
      = ((Rows.dz (Y (row t a)) (Z (row t a)) (DN (row t a)) GM l : ℝ) : EReal) := by
  by_cases h0 : t.val % 64 = 0
  · exact dz_A m c Y Z DN GM hY hZ hD hG t h0 (by omega) a l
  · by_cases h1 : t.val % 64 = 63
    · exact dz_C m c Y Z DN GM hY hZ hD hG t h0 h1 a l
    · exact dz_B m c Y Z DN GM hY hZ hD hG t h0 h1 a l

/-! ## The sums over the chunks -/

/-- What point `t` adds to the gain's gradient. -/
def dngT (t : Fin cfg0.N) (l : Fin 1024) : EReal :=
  ((∑ a, Rows.dng (Y (row t a)) (Z (row t a)) (DN (row t a)) l : ℝ) : EReal)

/-- What point `t` adds to the skip's gradient, lane by lane. -/
def ddT (t : Fin cfg0.N) (l : Fin 1024) : EReal :=
  ((∑ a, X (row t a) l * Rows.dy (Y (row t a)) (Z (row t a)) (DN (row t a)) GM l : ℝ) : EReal)

/-- The gain's running gradient after a point. -/
def accG (n : ℕ) (h : n < cfg0.N) (l : Fin 1024) : EReal :=
  ((outsAt0 m c n h).2.2.2.2.2.2.2.2.1 : FVec Ideal S1x1024 .f32) (ix2 0 l)

/-- The skip's running gradient after a point. -/
def accD (n : ℕ) (h : n < cfg0.N) (l : Fin 1024) : EReal :=
  ((outsAt0 m c n h).2.2.2.2.2.2.2.2.2.2.2 : FVec Ideal S1x1024 .f32) (ix2 0 l)

theorem zero6 (l : Fin 1024) : k0_pay6 (F := Ideal) (ix2 0 l) = 0 := by pointwise [k0_pay6]
theorem zero9 (l : Fin 1024) : k0_pay9 (F := Ideal) (ix2 0 l) = 0 := by pointwise [k0_pay9]

theorem read_fill (v : View sig .tc .vmem S1x1024 .f32) (W : FVec Ideal S1x1024 .f32) (k : Fin 512) :
    v.readCov [(⟨Rect.unit ![0, 0] ![1, 1024] inb_S1x1024_S1x1024_0_0, W⟩ : View.Piece (Elt Ideal) S1x1024 .f32)] lo.toLoadRect (ix2 0 k)
      = W (ix2 0 (Rows.lane 0 k)) := by
  rw [View.readCov_eq_canon']
  show View.canon _ (lo.emb (ix2 0 k)) = _
  rw [View.canon_cons_unit_lit _ _ _ (by decide)]
  exact ld_lo W k

include hY hZ hD in
theorem accG_A (t : Fin cfg0.N) (h0 : t.val % 64 = 0) (l : Fin 1024) :
    accG m c t.val t.isLt l = 0 + dngT Y Z DN t l := by
  unfold accG dngT
  rw [outsAt0_A m c t h0 (by omega)]
  frame_out
  refine lane_cases (fun l => View.canon (Val := Elt Ideal) (s := S1x1024) (e := .f32) _ (ix2 0 l) = 0 + ((∑ a, Rows.dng (Y (row t a)) (Z (row t a)) (DN (row t a)) l : ℝ) : EReal)) ?_ ?_ l
  · intro k
    refine (canon_lo _ _ _ k).trans ?_
    rw [Pay.acc0_at _ _ _ (fun a => Y (row t a)) (fun a => Z (row t a)) (fun a => DN (row t a)) (yb_at m c Y hY t) (zb_at m c Z hZ t)
      (db_at m c DN hD t), read_fill, zero6]
  · intro k
    refine (canon_hi _ _ k).trans ?_
    rw [Pay.acc1_at _ _ _ (fun a => Y (row t a)) (fun a => Z (row t a)) (fun a => DN (row t a)) (yb_at m c Y hY t) (zb_at m c Z hZ t)
      (db_at m c DN hD t), read_hi, View.canon_cons_unit_lit _ _ _ (by decide), zero6]

include hY hZ hD in
theorem accG_B (t : Fin cfg0.N) (h0 : ¬t.val % 64 = 0) (h1 : ¬t.val % 64 = 63) (l : Fin 1024) :
    accG m c t.val t.isLt l = accG m c (t.val - 1) (Nat.lt_of_le_of_lt (Nat.sub_le _ _) t.isLt) l + dngT Y Z DN t l := by
  unfold accG dngT
  rw [outsAt0_B m c t h0 h1]
  frame_out
  refine lane_cases (fun l => View.canon (Val := Elt Ideal) (s := S1x1024) (e := .f32) _ (ix2 0 l) = (outsAt0 m c (t.val - 1) _).2.2.2.2.2.2.2.2.1 (ix2 0 l)
    + ((∑ a, Rows.dng (Y (row t a)) (Z (row t a)) (DN (row t a)) l : ℝ) : EReal)) ?_ ?_ l
  · intro k
    refine (canon_lo _ _ _ k).trans ?_
    rw [Pay.acc0_at _ _ _ (fun a => Y (row t a)) (fun a => Z (row t a)) (fun a => DN (row t a)) (yb_at m c Y hY t) (zb_at m c Z hZ t)
      (db_at m c DN hD t), ld_lo, read_unread_whole]
  · intro k
    refine (canon_hi _ _ k).trans ?_
    rw [Pay.acc1_at _ _ _ (fun a => Y (row t a)) (fun a => Z (row t a)) (fun a => DN (row t a)) (yb_at m c Y hY t) (zb_at m c Z hZ t)
      (db_at m c DN hD t), ld_hi, read_unread_whole]

include hY hZ hD in
theorem accG_C (t : Fin cfg0.N) (h0 : ¬t.val % 64 = 0) (h1 : t.val % 64 = 63) (l : Fin 1024) :
    accG m c t.val t.isLt l = accG m c (t.val - 1) (Nat.lt_of_le_of_lt (Nat.sub_le _ _) t.isLt) l + dngT Y Z DN t l := by
  unfold accG dngT
  rw [outsAt0_C m c t h0 h1]
  frame_out
  refine lane_cases (fun l => View.canon (Val := Elt Ideal) (s := S1x1024) (e := .f32) _ (ix2 0 l) = (outsAt0 m c (t.val - 1) _).2.2.2.2.2.2.2.2.1 (ix2 0 l)
    + ((∑ a, Rows.dng (Y (row t a)) (Z (row t a)) (DN (row t a)) l : ℝ) : EReal)) ?_ ?_ l
  · intro k
    refine (canon_lo _ _ _ k).trans ?_
    rw [Pay.acc0_at _ _ _ (fun a => Y (row t a)) (fun a => Z (row t a)) (fun a => DN (row t a)) (yb_at m c Y hY t) (zb_at m c Z hZ t)
      (db_at m c DN hD t), ld_lo, read_unread_whole]
  · intro k
    refine (canon_hi _ _ k).trans ?_
    rw [Pay.acc1_at _ _ _ (fun a => Y (row t a)) (fun a => Z (row t a)) (fun a => DN (row t a)) (yb_at m c Y hY t) (zb_at m c Z hZ t)
      (db_at m c DN hD t), ld_hi, read_unread_whole]

include hY hZ hD hG hX in
theorem accD_A (t : Fin cfg0.N) (h0 : t.val % 64 = 0) (l : Fin 1024) :
    accD m c t.val t.isLt l = 0 + ddT Y Z DN X GM t l := by
  unfold accD ddT
  rw [outsAt0_A m c t h0 (by omega)]
  frame_out
  refine (Pay.dd_at _ _ _ _ _ (Pay.dy_at _ _ _ _ _ (fun a => Y (row t a)) (fun a => Z (row t a)) (fun a => DN (row t a)) GM (yb_at m c Y hY t)
    (zb_at m c Z hZ t) (db_at m c DN hD t) (g0_at m c GM hG t) (g1_at m c GM hG t)) (xb_at m c X hX t) l).trans ?_
  rw [zero9]

include hY hZ hD hG hX in
theorem accD_B (t : Fin cfg0.N) (h0 : ¬t.val % 64 = 0) (h1 : ¬t.val % 64 = 63) (l : Fin 1024) :
    accD m c t.val t.isLt l = accD m c (t.val - 1) (Nat.lt_of_le_of_lt (Nat.sub_le _ _) t.isLt) l + ddT Y Z DN X GM t l := by
  unfold accD ddT
  rw [outsAt0_B m c t h0 h1]
  frame_out
  refine (Pay.dd_at _ _ _ _ _ (Pay.dy_at _ _ _ _ _ (fun a => Y (row t a)) (fun a => Z (row t a)) (fun a => DN (row t a)) GM (yb_at m c Y hY t)
    (zb_at m c Z hZ t) (db_at m c DN hD t) (g0_at m c GM hG t) (g1_at m c GM hG t)) (xb_at m c X hX t) l).trans ?_
  rw [read_unread_whole]

include hY hZ hD hG hX in
theorem accD_C (t : Fin cfg0.N) (h0 : ¬t.val % 64 = 0) (h1 : t.val % 64 = 63) (l : Fin 1024) :
    accD m c t.val t.isLt l = accD m c (t.val - 1) (Nat.lt_of_le_of_lt (Nat.sub_le _ _) t.isLt) l + ddT Y Z DN X GM t l := by
  unfold accD ddT
  rw [outsAt0_C m c t h0 h1]
  frame_out
  refine (Pay.dd_at _ _ _ _ _ (Pay.dy_at _ _ _ _ _ (fun a => Y (row t a)) (fun a => Z (row t a)) (fun a => DN (row t a)) GM (yb_at m c Y hY t)
    (zb_at m c Z hZ t) (db_at m c DN hD t) (g0_at m c GM hG t) (g1_at m c GM hG t)) (xb_at m c X hX t) l).trans ?_
  rw [read_unread_whole]

/-- The rows of all chunks, walked from the last chunk to the first, are all rows. -/
theorem sum_rows (f : Fin 8192 → ℝ) : ∑ t : Fin cfg0.N, ∑ a, f (row t a) = ∑ i, f i := by
  rw [Fin.sum_univ_tiles 64 128 rfl f, ← Equiv.sum_comp Fin.revPerm]
  refine Fintype.sum_equiv (finCongr N_0) _ _ fun t => Finset.sum_congr rfl fun a _ => congrArg f (Fin.ext ?_)
  have ht : t.val < 64 := lt_of_lt_of_eq t.isLt N_0
  have hN : cfg0.N = 64 := N_0
  have hG : grid0.N = 64 := N_0
  show (63 - (cfg0.N - (t.val + 1))) * 128 + a.val = t.val * 128 + a.val
  omega

theorem coe_sums (f : Fin cfg0.N → Fin 128 → ℝ) :
    ∑ t, ((∑ a, f t a : ℝ) : EReal) = ((∑ t, ∑ a, f t a : ℝ) : EReal) := by
  induction (Finset.univ : Finset (Fin cfg0.N)) using Finset.induction_on with
  | empty => simp
  | insert a s ha ih => rw [Finset.sum_insert ha, Finset.sum_insert ha, EReal.coe_add, ih]

include hY hZ hD in
theorem accG_last (t : Fin cfg0.N) (h : t.val % 64 = 63) (l : Fin 1024) :
    accG m c t.val t.isLt l = ((∑ i, Rows.dng (Y i) (Z i) (DN i) l : ℝ) : EReal) := by
  have hN : cfg0.N = 64 := N_0
  rw [Pipeline.eq_sum_fin_of_reset_step_apply_last (accG m c) 64 (fun _ => 0) (dngT Y Z DN)
    (fun t h0 l => accG_A m c Y Z DN hY hZ hD t h0 l)
    (fun t h0 l => by
      by_cases h1 : t.val % 64 = 63
      · exact accG_C m c Y Z DN hY hZ hD t h0 h1 l
      · exact accG_B m c Y Z DN hY hZ hD t h0 h1 l) (le_of_eq N_0) t (by have := t.isLt; omega) l,
    zero_add, ← sum_rows]
  exact coe_sums fun t a => Rows.dng (Y (row t a)) (Z (row t a)) (DN (row t a)) l

include hY hZ hD hG hX in
theorem accD_last (t : Fin cfg0.N) (h : t.val % 64 = 63) (l : Fin 1024) :
    accD m c t.val t.isLt l = ((∑ i, X i l * Rows.dy (Y i) (Z i) (DN i) GM l : ℝ) : EReal) := by
  have hN : cfg0.N = 64 := N_0
  rw [Pipeline.eq_sum_fin_of_reset_step_apply_last (accD m c) 64 (fun _ => 0) (ddT Y Z DN X GM)
    (fun t h0 l => accD_A m c Y Z DN X GM hY hZ hD hX hG t h0 l)
    (fun t h0 l => by
      by_cases h1 : t.val % 64 = 63
      · exact accD_C m c Y Z DN X GM hY hZ hD hX hG t h0 h1 l
      · exact accD_B m c Y Z DN X GM hY hZ hD hX hG t h0 h1 l) (le_of_eq N_0) t (by have := t.isLt; omega) l,
    zero_add, ← sum_rows]
  exact coe_sums fun t a => X (row t a) l * Rows.dy (Y (row t a)) (Z (row t a)) (DN (row t a)) GM l

theorem o16_C (t : Fin cfg0.N) (h0 : ¬t.val % 64 = 0) (h1 : t.val % 64 = 63) (l : Fin 1024) :
    ((outsAt0 m c t.val t.isLt).2.2.2.1 : FVec Ideal S1x1024 .f32) (ix2 0 l) = accG m c t.val t.isLt l := by
  unfold accG
  rw [outsAt0_C m c t h0 h1]
  frame_out
  rw [View.readCov_eq_canon']
  exact congrFun (View.ld_unit_lit _ _ (by decide)) _

include hY hZ hD in
/-- What the last point stores as the gain's gradient. -/
theorem dng_out (t : Fin cfg0.N) (h : t.val % 64 = 63) (l : Fin 1024) :
    ((outsAt0 m c t.val t.isLt).2.2.2.1 : FVec Ideal S1x1024 .f32) (ix2 0 l)
      = ((∑ i, Rows.dng (Y i) (Z i) (DN i) l : ℝ) : EReal) := by
  rw [o16_C m c t (by omega) h l, accG_last m c Y Z DN hY hZ hD t h l]

theorem o19_C (t : Fin cfg0.N) (h0 : ¬t.val % 64 = 0) (h1 : t.val % 64 = 63) (k : Fin 128) :
    ((outsAt0 m c t.val t.isLt).2.2.2.2.2.2.1 : FVec Ideal S1x128 .f32) (ix2 0 k)
      = k0_pay4 (k0_pay252 (iblk m c 12 t)) ((outsAt0 m c t.val t.isLt).2.2.2.2.2.2.2.2.2.2.2) (ix2 0 k) := by
  rw [outsAt0_C m c t h0 h1]
  frame_out

include hY hZ hD hG hX hS in
/-- What the last point stores as the skip's gradient. -/
theorem dd_out (t : Fin cfg0.N) (h : t.val % 64 = 63) (k : Fin 128) :
    ((outsAt0 m c t.val t.isLt).2.2.2.2.2.2.1 : FVec Ideal S1x128 .f32) (ix2 0 k)
      = if h : k.val < 16 then ((∑ p, ∑ i, X i (Rows.hlane ⟨k.val, h⟩ p)
          * Rows.dy (Y i) (Z i) (DN i) GM (Rows.hlane ⟨k.val, h⟩ p) : ℝ) : EReal) else 0 := by
  rw [o19_C m c t (by omega) h k]
  exact Pay.heads_at _ _ (fun l => ∑ i, X i l * Rows.dy (Y i) (Z i) (DN i) GM l) (sb_at m c hS t)
    (fun l => accD_last m c Y Z DN X GM hY hZ hD hX hG t h l) k

end Cert.KernelIdeal.Points
-- ==== Proof.RefRows.lean ====
module

public import proofs.«01_k».proof.Proof.Rows
public import proofs.«01_k».proof.Proof.Gen.ReferenceIdeal.Read
public import Idealize.ShloMosaic.Lib.Pipeline.ValueKit
public import Idealize.ShloMosaic.Lib.Pointwise

/-! The reference's intermediate arrays from the scan's output on, row by row. -/

@[expose] public section

set_option backward.proofsInPublic true
set_option maxRecDepth 16384

noncomputable section

open Idealize.ShloMosaic Idealize.ShloMosaic.TcCoe Idealize.SL.Sem

namespace Cert.ReferenceIdeal.Rows

open Cert.ReferenceIdeal Cert.ReferenceIdeal.Read Cert.Reals

variable (x0 : FVec Ideal S8192x1280 .f32) (x1 : FVec Ideal S8192x1024 .f32) (x2 : FVec Ideal S8192x16 .f32)
  (x3 : FVec Ideal S8192x1024 .f32) (x5 x6 x7 : FVec Ideal S16 .f32) (x8 : FVec Ideal S1024 .f32)
  (X Y Z DN : Fin 8192 → Fin 1024 → ℝ) (GM : Fin 1024 → ℝ)
  (hy : ∀ i l, val_main_v49 (F := Ideal) x0 x2 x5 x6 x7 (ix2 i l) = ((Y i l : ℝ) : EReal))
  (hz : ∀ i l, x1 (ix2 i l) = ((Z i l : ℝ) : EReal))
  (hdn : ∀ i l, x3 (ix2 i l) = ((DN i l : ℝ) : EReal))
  (hgm : ∀ l, x8 (ix1 l) = ((GM l : ℝ) : EReal))

include hz in
theorem sig_at (i : Fin 8192) (l : Fin 1024) : val_main_v50_2 (F := Ideal) x1 (ix2 i l) = ((sg (Z i l) : ℝ) : EReal) := by
  pointwise [val_main_v50_2, val_main_call3_v4, val_main_call3_v3, val_main_call3_v2, val_main_call3_v1,
    val_main_call3_v0, val_main_call3_cst, val_main_call3_cst_0, hz]
  exact sg_coe _

include hz in
theorem dsig_at (i : Fin 8192) (l : Fin 1024) :
    val_main_v50_1 (F := Ideal) x1 (ix2 i l) = ((sg (Z i l) * (1 - sg (Z i l)) : ℝ) : EReal) := by
  pointwise [val_main_v50_1, val_main_call3_v7, val_main_call3_v6, val_main_call3_cst_1]
  rw [sig_at x1 Z hz, one_coe, ← EReal.coe_sub, ← EReal.coe_mul]

include hz in
theorem silu_at (i : Fin 8192) (l : Fin 1024) :
    val_main_v50_0 (F := Ideal) x1 (ix2 i l) = ((Rows.silu (Z i l) : ℝ) : EReal) := by
  pointwise [val_main_v50_0]
  rw [sig_at x1 Z hz, hz, ← EReal.coe_mul]; rfl

include hy hz in
theorem gv_at (i : Fin 8192) (g : Fin 2) (k : Fin 512) :
    val_main_v52 (F := Ideal) x0 x1 x2 x5 x6 x7 (ix3 i g k) = ((Rows.gv (Y i) (Z i) (Rows.lane g k) : ℝ) : EReal) := by
  pointwise [val_main_v52, val_main_v51]
  rw [hy, silu_at x1 Z hz, ← EReal.coe_mul]; rfl

include hy hz in
theorem ms_at (i : Fin 8192) (g : Fin 2) :
    val_main_v59 (F := Ideal) x0 x1 x2 x5 x6 x7 (ix3 i g 0) = ((Rows.ms (Y i) (Z i) g : ℝ) : EReal) := by
  pointwise [val_main_v59, val_main_v58, val_main_v57, val_main_v56, val_main_v55, val_main_v54, val_main_v53,
    val_main_cst_2, val_main_cst_3, val_main_cst_4]
  simp only [gv_at x0 x1 x2 x5 x6 x7 Y Z hy hz, ← EReal.coe_mul]
  rw [sum_coe, lit_512, eps_lit, div_coe _ (by norm_num), ← EReal.coe_add]; rfl

include hy hz in
theorem rr_at (i : Fin 8192) (g : Fin 2) :
    val_main_v60 (F := Ideal) x0 x1 x2 x5 x6 x7 (ix3 i g 0) = ((Rows.rr (Y i) (Z i) g : ℝ) : EReal) := by
  pointwise [val_main_v60]
  rw [ms_at x0 x1 x2 x5 x6 x7 Y Z hy hz, rsqrt_coe (Rows.ms_pos _ _ _)]; rfl

include hy hz in
theorem fac_at (i : Fin 8192) (g : Fin 2) :
    val_main_v63 (F := Ideal) x0 x1 x2 x5 x6 x7 (ix3 i g 0)
      = ((-1 / 2 * (Rows.rr (Y i) (Z i) g / Rows.ms (Y i) (Z i) g) : ℝ) : EReal) := by
  pointwise [val_main_v63, val_main_v62, val_main_v61, val_main_cst_5]
  rw [ms_at x0 x1 x2 x5 x6 x7 Y Z hy hz, rr_at x0 x1 x2 x5 x6 x7 Y Z hy hz, lit_neg_half,
    div_coe _ (Rows.ms_pos _ _ _).ne', ← EReal.coe_mul]

include hdn hgm in
theorem dvn_at (i : Fin 8192) (g : Fin 2) (k : Fin 512) :
    val_main_v76 (F := Ideal) x3 x8 (ix3 i g k) = ((Rows.dvn (DN i) GM (Rows.lane g k) : ℝ) : EReal) := by
  pointwise [val_main_v76, val_main_v74, val_main_v73, val_main_v67]
  rw [hdn, hgm, ← EReal.coe_mul]; rfl

include hy hz in
theorem vn_at (i : Fin 8192) (l : Fin 1024) :
    val_main_v66 (F := Ideal) x0 x1 x2 x5 x6 x7 (ix2 i l) = ((Rows.vn (Y i) (Z i) l : ℝ) : EReal) := by
  pointwise [val_main_v66, val_main_v65, val_main_v64]
  rw [gv_at x0 x1 x2 x5 x6 x7 Y Z hy hz, rr_at x0 x1 x2 x5 x6 x7 Y Z hy hz, Rows.lane_of, ← EReal.coe_mul]; rfl

include hy hz hdn hgm in
theorem back_at (i : Fin 8192) (g : Fin 2) :
    val_main_v85 (F := Ideal) x0 x1 x2 x3 x5 x6 x7 x8 (ix2 i g)
      = ((Rows.gsum (fun j => Rows.gv (Y i) (Z i) j * Rows.dvn (DN i) GM j) g
          * (-1 / 2 * (Rows.rr (Y i) (Z i) g / Rows.ms (Y i) (Z i) g)) / 512 : ℝ) : EReal) := by
  pointwise [val_main_v85, val_main_v84, val_main_v83, val_main_v82, val_main_v79, val_main_v78, val_main_v77,
    val_main_cst_8, val_main_cst_9, val_main_cst_10]
  simp only [gv_at x0 x1 x2 x5 x6 x7 Y Z hy hz, dvn_at x3 x8 DN GM hdn hgm, ← EReal.coe_mul, sum_coe]
  rw [Fintype.sum_unique]
  show Ideal.div (_ * val_main_v63 (F := Ideal) x0 x1 x2 x5 x6 x7 (ix3 i g 0)) _ = _
  rw [fac_at x0 x1 x2 x5 x6 x7 Y Z hy hz, ← EReal.coe_mul, lit_512, div_coe _ (by norm_num)]; rfl

include hy hz hdn hgm in
theorem dv_at (i : Fin 8192) (l : Fin 1024) :
    val_main_v91 (F := Ideal) x0 x1 x2 x3 x5 x6 x7 x8 (ix2 i l) = ((Rows.dv (Y i) (Z i) (DN i) GM l : ℝ) : EReal) := by
  pointwise [val_main_v91, val_main_v90, val_main_v89, val_main_v88, val_main_v87, val_main_v86, val_main_v81,
    val_main_v80]
  rw [gv_at x0 x1 x2 x5 x6 x7 Y Z hy hz, rr_at x0 x1 x2 x5 x6 x7 Y Z hy hz, dvn_at x3 x8 DN GM hdn hgm,
    back_at x0 x1 x2 x3 x5 x6 x7 x8 Y Z DN GM hy hz hdn hgm, Rows.lane_of, ← EReal.coe_mul, ← EReal.coe_mul,
    ← EReal.coe_mul, ← EReal.coe_add, ← EReal.coe_add, ← Rows.dv_eq]; rfl

include hy hz hdn hgm in
theorem dz_at (i : Fin 8192) (l : Fin 1024) :
    val_main_v94 (F := Ideal) x0 x1 x2 x3 x5 x6 x7 x8 (ix2 i l) = ((Rows.dz (Y i) (Z i) (DN i) GM l : ℝ) : EReal) := by
  pointwise [val_main_v94, val_main_call4_v2, val_main_call4_v1, val_main_call4_v0, val_main_v92]
  simp only [hy, hz, sig_at x1 Z hz, dsig_at x1 Z hz, dv_at x0 x1 x2 x3 x5 x6 x7 x8 Y Z DN GM hy hz hdn hgm,
    ← EReal.coe_mul, ← EReal.coe_add]
  rw [Rows.dsilu_eq, mul_comm (Y i l)]; rfl

include hy hz hdn in
theorem dng_at (l : Fin 1024) :
    val_main_v106 (F := Ideal) x0 x1 x2 x3 x5 x6 x7 (ix2 0 l) = ((∑ i, Rows.dng (Y i) (Z i) (DN i) l : ℝ) : EReal) := by
  pointwise [val_main_v106, val_main_v75, val_main_v72, val_main_v71, val_main_v70, val_main_cst_6, val_main_cst_7]
  simp only [vn_at x0 x1 x2 x5 x6 x7 Y Z hy hz, hdn, ← EReal.coe_mul, sum_coe]
  simp only [Fintype.sum_unique, mul_comm (Rows.vn _ _ l)]; rfl

variable (hx : ∀ i (l : Fin 1024), x0 (ix2 i ⟨l.val, by have := l.isLt; omega⟩) = ((X i l : ℝ) : EReal))

include hx hy hz hdn hgm in
theorem dd_at (h : Fin 16) :
    val_main_v97 (F := Ideal) x0 x1 x2 x3 x5 x6 x7 x8 (ix1 h)
      = ((∑ i, ∑ p, X i (Rows.hlane h p) * Rows.dy (Y i) (Z i) (DN i) GM (Rows.hlane h p) : ℝ) : EReal) := by
  show Ideal.hostReduceAdd _ _ _ (ix1 h) = _
  rw [hostReduceAdd_mid]
  pointwise [val_main_v96, val_main_v95, val_main_v93, val_main_v1, val_main_v0, val_main_cst_11]
  simp only [← sum_coe]
  refine Finset.sum_congr rfl fun i _ => Finset.sum_congr rfl fun p _ => ?_
  rw [dv_at x0 x1 x2 x3 x5 x6 x7 x8 Y Z DN GM hy hz hdn hgm, silu_at x1 Z hz, ← EReal.coe_mul]
  exact (congrArg (· * _) (hx i (Rows.hlane h p))).trans (EReal.coe_mul _ _).symm

include hx hy hz hdn hgm in
theorem dd_pad (l : Fin 128) :
    val_main_v108 (F := Ideal) x0 x1 x2 x3 x5 x6 x7 x8 (ix2 0 l)
      = if h : l.val < 16 then ((∑ i, ∑ p, X i (Rows.hlane ⟨l.val, h⟩ p)
          * Rows.dy (Y i) (Z i) (DN i) GM (Rows.hlane ⟨l.val, h⟩ p) : ℝ) : EReal) else 0 := by
  pointwise [val_main_v108, val_main_v107, val_main_v101, val_main_v100, val_main_v99, val_main_v98,
    val_main_cst_12, val_main_cst_13, val_main_call5_v0, val_main_c]
  by_cases h : l.val < 16
  · rw [dif_pos h, dif_pos h, Fintype.sum_unique, hostReduceAdd_mid, Fintype.sum_unique, Fintype.sum_unique]
    pointwise
    rw [dd_at x0 x1 x2 x3 x5 x6 x7 x8 X Y Z DN GM hy hz hdn hgm hx]
  · rw [dif_neg h, dif_neg h]
    show (((0#32).toInt : ℝ) : EReal) = 0
    simp

end Cert.ReferenceIdeal.Rows
-- ==== Proof.RefScan.lean ====
module

public import proofs.«01_k».proof.Proof.Reals
public import proofs.«01_k».proof.Proof.Gen.ReferenceIdeal.Read
public import Idealize.ShloMosaic.Lib.Pipeline.ValueKit
public import Idealize.ShloMosaic.Lib.Pointwise

/-! The scan's output is real wherever its arguments are. -/

@[expose] public section

set_option backward.proofsInPublic true
set_option maxRecDepth 16384

noncomputable section

open Idealize.ShloMosaic Idealize.ShloMosaic.TcCoe Idealize.SL.Sem

namespace Cert.ReferenceIdeal.Scan

open Cert.ReferenceIdeal Cert.ReferenceIdeal.Read Cert.Reals

variable (x0 : FVec Ideal S8192x1280 .f32) (x2 : FVec Ideal S8192x16 .f32) (x5 x6 x7 : FVec Ideal S16 .f32)
  (h0 : ∀ i, IsR (x0 i)) (h2 : ∀ i, IsR (x2 i)) (h5 : ∀ i, IsR (x5 i)) (h6 : ∀ i, IsR (x6 i)) (h7 : ∀ i, IsR (x7 i))

include h2 h5 in
theorem dt_isR (i : Fin 8192) (h : Fin 16) : IsR (val_main_v9 (F := Ideal) x2 x5 (ix2 i h)) := by
  pointwise [val_main_v9, val_main_call0_v4, val_main_call0_v6, val_main_call0_v11, val_main_call0_v10, val_main_call0_v9,
    val_main_call0_v8, val_main_call0_v7, val_main_call0_v5, val_main_call0_v3, val_main_call0_v2, val_main_call0_v1,
    val_main_call0_v0, val_main_call0_cst, val_main_v8, val_main_v7, val_main_v6]
  have hx : IsR (x2 (ix2 i h) + x5 (ix1 h)) := (h2 _).add (h5 _)
  rw [if_neg (fun hn => hn rfl)]
  exact (hx.max isR_zero).add (IsR.log1p_exp (hx.max hx.neg).neg)

include h2 h5 h6 in
theorem adt_isR (i : Fin 8192) (h : Fin 16) : IsR (val_main_v18 (F := Ideal) x2 x5 x6 (ix2 i h)) := by
  pointwise [val_main_v18, val_main_v17, val_main_v16, val_main_v11, val_main_v10]
  exact (dt_isR x2 x5 h2 h5 i h).mul (h6 _).exp.neg

include h2 h5 h6 in
theorem cum_isR (i : Fin 8192) (h : Fin 16) : IsR (val_main_v21 (F := Ideal) x2 x5 x6 (ix2 i h)) := by
  pointwise [val_main_v21, val_main_cst_0, val_main_v20, val_main_call1_v3, val_main_call1_v2, val_main_call1_v1,
    val_main_call1_v0, val_main_cst, val_main_v19]
  refine IsR.sum fun k => isR_select _ (adt_isR x2 x5 x6 h2 h5 h6 _ _) ?_
  exact ⟨0, Ideal.ofBits_zero_f32⟩

include h2 h5 h6 in
theorem dec_isR (i j : Fin 8192) (g : Fin 2) (h : Fin 8) : IsR (val_main_v34 (F := Ideal) x2 x5 x6 (ix4 i j g h)) := by
  pointwise [val_main_v34, val_main_v33, val_main_call2_v2, val_main_call2_v1, val_main_call2_v0, val_main_cst_1,
    val_main_v30, val_main_v29, val_main_v28, val_main_v27, val_main_v26, val_main_v25]
  have hb : (id (constant (F := Ideal) S_ FTy.f32 4286578688#32) ix0 : EReal) = ⊥ := lit_neg_inf
  rw [hb]
  exact isR_exp_select _ ((cum_isR x2 x5 x6 h2 h5 h6 _ _).sub (cum_isR x2 x5 x6 h2 h5 h6 _ _))

include h0 h2 h5 h6 h7 in
theorem y_isR (i : Fin 8192) (l : Fin 1024) : IsR (val_main_v49 (F := Ideal) x0 x2 x5 x6 x7 (ix2 i l)) := by
  pointwise [val_main_v49, val_main_v48, val_main_v47, val_main_v46, val_main_v45, val_main_v44, val_main_v43,
    val_main_v42, val_main_v41, val_main_v40, val_main_v39, val_main_v38, val_main_v37, val_main_v36, val_main_v35,
    val_main_v24, val_main_v23, val_main_v22, val_main_v5, val_main_v4, val_main_v3, val_main_v2, val_main_v1,
    val_main_v0]
  refine (IsR.sum fun k => ((h0 _).mul (dt_isR x2 x5 h2 h5 _ _)).mul
    ((IsR.sum fun j => (h0 _).mul (h0 _)).mul (dec_isR x2 x5 x6 h2 h5 h6 _ _ _ _))).add ((h0 _).mul (h7 _))

end Cert.ReferenceIdeal.Scan
-- ==== Proof.Entry.lean ====
module

public import proofs.«01_k».proof.Proof.Pay
public import proofs.«01_k».proof.Proof.RefRows
public import proofs.«01_k».proof.Proof.RefScan
public import proofs.«01_k».proof.Proof.Gen.KernelIdeal.Frame
public import Idealize.ShloMosaic.Lib.Pipeline.ValueKit
public import Idealize.ShloMosaic.Lib.Pointwise

@[expose] public section

set_option backward.proofsInPublic true
set_option maxRecDepth 16384

noncomputable section

open Idealize.ShloMosaic Idealize.ShloMosaic.TcCoe Idealize.SL.Sem
open Idealize.ShloMosaic.StableHlo
namespace Cert.KernelIdeal.Entry
open Cert.KernelIdeal Cert.KernelIdeal.Gen Cert.Reals
variable (m : (ℓ : Loc nD τ sig) → Buf (Elt Ideal) ℓ) (c : Dev nD)

set_option maxHeartbeats 1600000 in
/-- The result the call writes in place starts as the argument. -/
theorem p_at : (V m c main_v104_0 : FVec Ideal S8192x8192 .bf16) = m (c.tc.loc main_arg4) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, after_append, after_cons, after_nil,
    TRef.nullary, TRef.ternary, TRef.binary, TRef.unary, TRef.toBuf, TRef.ofBuf, cast_eq]
  after_results_simp
  rfl

set_option maxHeartbeats 1600000 in
/-- The scan's output is the reference's. -/
theorem y_eq : (V m c main_v84 : FVec Ideal S8192x1024 .bf16)
    = ReferenceIdeal.Read.val_main_v49 (F := Ideal) (m (c.tc.loc main_arg0)) (m (c.tc.loc main_arg2)) (m (c.tc.loc main_arg5))
        (m (c.tc.loc main_arg6)) (m (c.tc.loc main_arg7)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, after_append, after_cons, after_nil,
    TRef.nullary, TRef.ternary, TRef.binary, TRef.unary, TRef.toBuf, TRef.ofBuf, cast_eq]
  after_results_simp
  rfl

set_option maxHeartbeats 1600000 in
/-- The cotangent is the argument. -/
theorem d_eq : (V m c main_v85 : FVec Ideal S8192x1024 .bf16) = m (c.tc.loc main_arg3) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, after_append, after_cons, after_nil,
    TRef.nullary, TRef.ternary, TRef.binary, TRef.unary, TRef.toBuf, TRef.ofBuf, cast_eq]
  after_results_simp
  rfl

set_option maxHeartbeats 1600000 in
/-- The projected input is the argument. -/
theorem x_eq : (V m c main_v82 : FVec Ideal S8192x1280 .bf16) = m (c.tc.loc main_arg0) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, after_append, after_cons, after_nil,
    TRef.nullary, TRef.ternary, TRef.binary, TRef.unary, TRef.toBuf, TRef.ofBuf, cast_eq]
  after_results_simp
  rfl

set_option maxHeartbeats 1600000 in
/-- The gain is the argument. -/
theorem g_at (l : Fin 1024) : (V m c main_v93 : FVec Ideal S1x1024 .f32) (ix2 0 l) = m (c.tc.loc main_arg8) (ix1 l) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, after_append, after_cons, after_nil,
    TRef.nullary, TRef.ternary, TRef.binary, TRef.unary, TRef.toBuf, TRef.ofBuf, cast_eq]
  after_results_simp
  pointwise

set_option maxHeartbeats 1600000 in
/-- The gate stands in its columns of the projection. -/
theorem z_at (i : Fin 8192) (l : Fin 1024) :
    (V m c main_v83 : FVec Ideal S8192x8192 .bf16) (ix2 i ⟨6144 + l.val, by have := l.isLt; omega⟩) = m (c.tc.loc main_arg1) (ix2 i l) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, after_append, after_cons, after_nil,
    TRef.nullary, TRef.ternary, TRef.binary, TRef.unary, TRef.toBuf, TRef.ofBuf, cast_eq]
  after_results_simp
  try dsimp only [Matrix.cons_val]
  pointwise
  repeat rw [dif_neg (by omega)]
  rw [dif_pos (by omega)]
  after_results_simp
  exact congrArg (fun q => m (c.tc.loc main_arg1) (ix2 i q)) (Fin.ext (by simp only []; omega))

/-- The lane's head as the rounded-down quotient of words. -/
theorem word : ∀ l : Fin 1024, (Scalar.select
          (IntOp.andi
            (IntOp.cmpi CmpIPredicate.ne
              (if BitVec.ofNat 32 l.val = 0 then (0 : BitVec 32) else if (BitVec.ofNat 32 l.val).msb = true then -1 else 1)
              (if (64#32) = 0 then 0 else if BitVec.msb (64#32) = true then -1 else 1))
            (IntOp.cmpi CmpIPredicate.ne (IntOp.remsi ArithUnit.host (BitVec.ofNat 32 l.val) 64#32) 0#32))
          (IntOp.subi (IntOp.divsi ArithUnit.host (BitVec.ofNat 32 l.val) 64#32) 1#32)
          (IntOp.divsi ArithUnit.host (BitVec.ofNat 32 l.val) 64#32)) = BitVec.ofNat 32 (l.val / 64) := by decide +kernel

theorem hit : ∀ (k : Fin 128) (q : Fin 16),
    IntOp.cmpi CmpIPredicate.eq (BitVec.ofNat 32 k.val) (BitVec.ofNat 32 q.val) = if q.val = k.val then 1#1 else 0#1 := by decide +kernel

set_option maxHeartbeats 1600000 in
/-- The selector has a one where the lane's head is the column. -/
theorem s_at (l : Fin 1024) (k : Fin 128) :
    (V m c main_v103 : FVec Ideal S1024x128 .bf16) (ix2 l k) = if l.val / 64 = k.val then (1 : EReal) else 0 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, after_append, after_cons, after_nil,
    TRef.nullary, TRef.ternary, TRef.binary, TRef.unary, TRef.toBuf, TRef.ofBuf, cast_eq]
  after_results_simp
  pointwise
  refine (congrArg (fun w => FloatOps.uitofp (F := Ideal) FTy.bf16 (IntOp.cmpi CmpIPredicate.eq (BitVec.ofNat 32 k.val) w)) (word l)).trans ?_
  rw [hit k ⟨l.val / 64, by have := l.isLt; omega⟩]
  by_cases h : l.val / 64 = k.val
  · rw [if_pos h, if_pos h]; simp [FloatOps.uitofp]
  · rw [if_neg h, if_neg h]; simp [FloatOps.uitofp]

end Cert.KernelIdeal.Entry
-- ==== Proof.Final.lean ====
module

public import proofs.«01_k».proof.Proof.Points
public import proofs.«01_k».proof.Proof.Entry
public import proofs.«01_k».proof.Proof.RefRows
public import proofs.«01_k».proof.Proof.RefScan
public import proofs.«01_k».proof.Proof.Gen.KernelIdeal.Frame
public import Idealize.ShloMosaic.Lib.Pipeline.ValueKit
public import Idealize.ShloMosaic.Lib.Pointwise

@[expose] public section

set_option backward.proofsInPublic true
set_option maxRecDepth 16384

noncomputable section

open Idealize.ShloMosaic Idealize.ShloMosaic.TcCoe Idealize.SL.Sem
open Idealize.ShloMosaic.Pipeline (Dat)
namespace Cert.KernelIdeal.Final
open Cert.KernelIdeal Cert.KernelIdeal.Gen Cert.Reals Cert.KernelIdeal.Points
open Cert.ReferenceIdeal.Read (val_main_v49 val_main_v94 val_main_v102 val_main_v103 val_main_v104 val_main_v105 val_main_v106 val_main_v108)
variable (m : (ℓ : Loc nD τ sig) → Buf (Elt Ideal) ℓ) (c : Dev nD)

/-! The arguments as arrays, and the real numbers they hold. -/
abbrev a0 : FVec Ideal S8192x1280 .f32 := m (c.tc.loc main_arg0)
abbrev a1 : FVec Ideal S8192x1024 .f32 := m (c.tc.loc main_arg1)
abbrev a2 : FVec Ideal S8192x16 .f32 := m (c.tc.loc main_arg2)
abbrev a3 : FVec Ideal S8192x1024 .f32 := m (c.tc.loc main_arg3)
abbrev a4 : FVec Ideal S8192x8192 .bf16 := m (c.tc.loc main_arg4)
abbrev a5 : FVec Ideal S16 .f32 := m (c.tc.loc main_arg5)
abbrev a6 : FVec Ideal S16 .f32 := m (c.tc.loc main_arg6)
abbrev a7 : FVec Ideal S16 .f32 := m (c.tc.loc main_arg7)
abbrev a8 : FVec Ideal S1024 .f32 := m (c.tc.loc main_arg8)

def Y (i : Fin 8192) (l : Fin 1024) : ℝ := (val_main_v49 (F := Ideal) (a0 m c) (a2 m c) (a5 m c) (a6 m c) (a7 m c) (ix2 i l) : EReal).toReal
def Z (i : Fin 8192) (l : Fin 1024) : ℝ := (a1 m c (ix2 i l) : EReal).toReal
def DN (i : Fin 8192) (l : Fin 1024) : ℝ := (a3 m c (ix2 i l) : EReal).toReal
def X (i : Fin 8192) (l : Fin 1024) : ℝ := (a0 m c (ix2 i ⟨l.val, by have := l.isLt; omega⟩) : EReal).toReal
def GM (l : Fin 1024) : ℝ := (a8 m c (ix1 l) : EReal).toReal

/-- Every element of the arguments the reference reads is a real number. -/
structure Fine : Prop where
  f0 : ∀ i, IsR (a0 m c i)
  f1 : ∀ i, IsR (a1 m c i)
  f2 : ∀ i, IsR (a2 m c i)
  f3 : ∀ i, IsR (a3 m c i)
  f5 : ∀ i, IsR (a5 m c i)
  f6 : ∀ i, IsR (a6 m c i)
  f7 : ∀ i, IsR (a7 m c i)
  f8 : ∀ i, IsR (a8 m c i)

variable (hf : Fine m c)
include hf

theorem hy (i : Fin 8192) (l : Fin 1024) :
    val_main_v49 (F := Ideal) (a0 m c) (a2 m c) (a5 m c) (a6 m c) (a7 m c) (ix2 i l) = ((Y m c i l : ℝ) : EReal) :=
  IsR.coe_toReal (ReferenceIdeal.Scan.y_isR _ _ _ _ _ hf.f0 hf.f2 hf.f5 hf.f6 hf.f7 i l)
theorem hz (i : Fin 8192) (l : Fin 1024) : a1 m c (ix2 i l) = ((Z m c i l : ℝ) : EReal) := IsR.coe_toReal (hf.f1 _)
theorem hd (i : Fin 8192) (l : Fin 1024) : a3 m c (ix2 i l) = ((DN m c i l : ℝ) : EReal) := IsR.coe_toReal (hf.f3 _)
theorem hx (i : Fin 8192) (l : Fin 1024) : a0 m c (ix2 i ⟨l.val, by have := l.isLt; omega⟩) = ((X m c i l : ℝ) : EReal) :=
  IsR.coe_toReal (hf.f0 _)
theorem hg (l : Fin 1024) : a8 m c (ix1 l) = ((GM m c l : ℝ) : EReal) := IsR.coe_toReal (hf.f8 _)

theorem vY (i : Fin 8192) (l : Fin 1024) : (V m c main_v84 : FVec Ideal S8192x1024 .bf16) (ix2 i l) = ((Y m c i l : ℝ) : EReal) := by
  rw [Entry.y_eq]; exact hy m c hf i l
theorem vZ (i : Fin 8192) (l : Fin 1024) :
    (V m c main_v83 : FVec Ideal S8192x8192 .bf16) (ix2 i ⟨6144 + l.val, by have := l.isLt; omega⟩) = ((Z m c i l : ℝ) : EReal) := by
  rw [Entry.z_at]; exact hz m c hf i l
theorem vD (i : Fin 8192) (l : Fin 1024) : (V m c main_v85 : FVec Ideal S8192x1024 .bf16) (ix2 i l) = ((DN m c i l : ℝ) : EReal) := by
  rw [Entry.d_eq]; exact hd m c hf i l
theorem vX (i : Fin 8192) (l : Fin 1024) :
    (V m c main_v82 : FVec Ideal S8192x1280 .bf16) (ix2 i ⟨l.val, by have := l.isLt; omega⟩) = ((X m c i l : ℝ) : EReal) := by
  rw [Entry.x_eq]; exact hx m c hf i l
theorem vG (l : Fin 1024) : (V m c main_v93 : FVec Ideal S1x1024 .f32) (ix2 0 l) = ((GM m c l : ℝ) : EReal) := by
  rw [Entry.g_at]; exact hg m c hf l

/-- The reference's first result in the gate's columns. -/
theorem ref_in (i : Fin 8192) (l : Fin 1024) :
    val_main_v105 (F := Ideal) (a0 m c) (a1 m c) (a2 m c) (a3 m c) (a4 m c) (a5 m c) (a6 m c) (a7 m c) (a8 m c)
        (ix2 i ⟨6144 + l.val, by have := l.isLt; omega⟩)
      = ((Rows.dz (Y m c i) (Z m c i) (DN m c i) (GM m c) l : ℝ) : EReal) := by
  rw [← ReferenceIdeal.Rows.dz_at (a0 m c) (a1 m c) (a2 m c) (a3 m c) (a5 m c) (a6 m c) (a7 m c) (a8 m c) (Y m c) (Z m c) (DN m c) (GM m c)
    (hy m c hf) (hz m c hf) (hd m c hf) (hg m c hf) i l]
  pointwise [val_main_v105, val_main_v103]

omit hf in
/-- The reference's first result outside the gate's columns. -/
theorem ref_out (i : Fin 8192) (k : Fin 8192) (h : k.val < 6144 ∨ 7168 ≤ k.val) :
    val_main_v105 (F := Ideal) (a0 m c) (a1 m c) (a2 m c) (a3 m c) (a4 m c) (a5 m c) (a6 m c) (a7 m c) (a8 m c) (ix2 i k) = a4 m c (ix2 i k) := by
  pointwise [val_main_v105, val_main_v102, val_main_v104]
  rcases h with h | h
  · rw [dif_pos h]
  · rw [dif_neg (by omega), dif_neg (by omega)]
    exact congrArg (fun q => a4 m c (ix2 i q)) (Fin.ext (by simp only []; omega))

/-- The array the call writes the gate's gradient into. -/
theorem final13 : (dats m 0 c).arrAt 13 (cfgs 0).N
    = val_main_v105 (F := Ideal) (a0 m c) (a1 m c) (a2 m c) (a3 m c) (a4 m c) (a5 m c) (a6 m c) (a7 m c) (a8 m c) := by
  refine (dats m 0 c).arrAt_eq_of_coversWhere_of_agree 13 _ (fun β => β 1 = 6) (by decide +kernel) (fun t hf' y => ?_) (fun j hj => ?_)
  · blk_simp
    rw [after0_13]
    idx_vars y
    rw [show ((View.whole main_v104_0).slice (win0_13.rect t)).emb (ix2 y0 y1)
        = (ix2 (row t y0) ⟨6144 + y1.val, by have := y1.isLt; omega⟩ : S8192x8192.Idx) from by blk_ext [idx t, row],
      ref_in m c hf]
    exact Points.dz_at m c (Y m c) (Z m c) (DN m c) (GM m c) (vY m c hf) (vZ m c hf) (vD m c hf) (vG m c hf) t y0 y1
  · blk_simp [Pipeline.Window.cell_apply] at hj
    refine (congrFun (Entry.p_at m c) j).trans ?_
    have hj' : (ix2 (j 0) (j 1) : S8192x8192.Idx) = j := by blk_ext []
    have h := ref_out m c (j 0) (j 1) (by omega)
    rw [hj'] at h
    exact h.symm

theorem final16 : (dats m 0 c).arrAt 16 (cfgs 0).N
    = val_main_v106 (F := Ideal) (a0 m c) (a1 m c) (a2 m c) (a3 m c) (a5 m c) (a6 m c) (a7 m c) := by
  refine (dats m 0 c).arrAt_eq_of_covers 16 _ (by decide +kernel) fun t hf' y => ?_
  have h63 := (flush0_16 t).mp hf'
  blk_simp
  rw [after0_16]
  idx_vars y
  rw [show ((View.whole main_v104_3).slice (win0_16.rect t)).emb (ix2 y0 y1) = (ix2 0 y1 : S1x1024.Idx) from by blk_ext [idx t],
    ReferenceIdeal.Rows.dng_at (a0 m c) (a1 m c) (a2 m c) (a3 m c) (a5 m c) (a6 m c) (a7 m c) (Y m c) (Z m c) (DN m c)
      (hy m c hf) (hz m c hf) (hd m c hf) y1, Subsingleton.elim y0 0]
  exact Points.dng_out m c (Y m c) (Z m c) (DN m c) (vY m c hf) (vZ m c hf) (vD m c hf) t h63 y1

theorem final19 : (dats m 0 c).arrAt 19 (cfgs 0).N
    = val_main_v108 (F := Ideal) (a0 m c) (a1 m c) (a2 m c) (a3 m c) (a5 m c) (a6 m c) (a7 m c) (a8 m c) := by
  refine (dats m 0 c).arrAt_eq_of_covers 19 _ (by decide +kernel) fun t hf' y => ?_
  have h63 := (flush0_19 t).mp hf'
  blk_simp
  rw [after0_19]
  idx_vars y
  rw [show ((View.whole main_v104_6).slice (win0_19.rect t)).emb (ix2 y0 y1) = (ix2 0 y1 : S1x128.Idx) from by blk_ext [idx t],
    ReferenceIdeal.Rows.dd_pad (a0 m c) (a1 m c) (a2 m c) (a3 m c) (a5 m c) (a6 m c) (a7 m c) (a8 m c) (X m c) (Y m c) (Z m c) (DN m c)
      (GM m c) (hy m c hf) (hz m c hf) (hd m c hf) (hg m c hf) (hx m c hf) y1, Subsingleton.elim y0 0]
  refine (Points.dd_out m c (Y m c) (Z m c) (DN m c) (X m c) (GM m c) (vY m c hf) (vZ m c hf) (vD m c hf) (vX m c hf) (vG m c hf)
    (Entry.s_at m c) t h63 y1).trans ?_
  by_cases h : y1.val < 16
  · rw [dif_pos h, dif_pos h, Finset.sum_comm]
  · rw [dif_neg h, dif_neg h]

end Cert.KernelIdeal.Final
-- ==== Proof.ProjFwd.lean ====
module

public import proofs.«01_k».proof.Defs
public import proofs.«01_k».proof.Proof.Gen.ProjFwdIdeal.Value
public import proofs.«01_k».proof.Proof.Gen.ProjFwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The input projection. -/

namespace Cert.ProjFwdIdeal.Final

open Cert.ProjFwdIdeal Cert.ProjFwdIdeal.Gen

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

abbrev x0 : FVec Ideal S8192x1024 .f32 := m (c.tc.loc main_arg0)
abbrev x1 : FVec Ideal S1024x8192 .f32 := m (c.tc.loc main_arg1)

/-- What a point writes: the product of its blocks. -/
theorem pay (A : FVec Ideal S1024x1024 .bf16) (B : FVec Ideal S1024x2048 .bf16) (y : S1024x2048.Idx) :
    (k0_pay1 (F := Ideal) A B y : EReal) = ∑ k : Fin 1024, (A (ix2 (y 0) k) : EReal) * B (ix2 k (y 1)) := by
  idx_vars y
  pointwise [k0_pay1]

theorem out (t : Fin cfg0.N) (y : S1024x2048.Idx) : outsAt0 m c t y = k0_pay1 (iblk m c 0 t) (iblk m c 1 t) y := by
  unfold outsAt0
  frame_out

/-- The array the product ends in. -/
theorem final : (dats m 0 c).arrAt 2 (cfgs 0).N = Cert.ProjFwdRefIdeal.Read.val_main_v1 (F := Ideal) (x0 m c) (x1 m c) := by
  refine (dats m 0 c).arrAt_eq_of_covers 2 _ (by decide +kernel) fun t hf y => ?_
  blk_simp
  rw [after0_2, out, pay]
  idx_vars y
  pointwise [Cert.ProjFwdRefIdeal.Read.val_main_v1, Cert.ProjFwdRefIdeal.Read.val_main_v0]
  refine Finset.sum_congr (M := EReal) rfl fun k _ => ?_
  blk_point [iblk, V, idx t]

theorem ref_congr {a0 b0 a1 b1} (h0 : a0 = b0) (h1 : a1 = b1) :
    Cert.ProjFwdRefIdeal.Read.val_main_v1 (F := Ideal) a0 a1 = Cert.ProjFwdRefIdeal.Read.val_main_v1 b0 b1 := by
  subst h0 h1; rfl

/-- The reference runs to its end and leaves its arguments alone. -/
theorem frame_ref : Cert.quiescent_ProjFwdRefIdeal := fun m g _ =>
  (θ_run Cert.ProjFwdRefIdeal.defs _ _).mono (fun r h => ⟨fun c => (h c).2, sem_eq_zero_of_no_sems (by decide) r.2⟩)
    (Cert.ProjFwdRefIdeal.Value.run m g)

/-- Over the reals the call's result is the reference's. -/
theorem algebraic : Cert.algebraic_ProjFwdIdeal_ProjFwdRefIdeal := by
  intro m g m' g' _ hagree
  refine ⟨fun c => Cert.ProjFwdRefIdeal.Read.val_main_v1 (F := Ideal) (x0 m c) (x1 m c), ?_, ?_⟩
  · refine (θ_run Cert.ProjFwdIdeal.defs _ _).mono (fun r h c => ?_) (Cert.ProjFwdIdeal.Value.run_blocks m g)
    exact ⟨(h c).1.trans (final m c), (h c).2⟩
  · refine (θ_run Cert.ProjFwdRefIdeal.defs _ _).mono (fun r h c => ?_) (Cert.ProjFwdRefIdeal.Value.run m' g')
    obtain ⟨e0, e1⟩ := hagree c
    exact ⟨((h c).1.trans (Cert.ProjFwdRefIdeal.Read.val_main_v1_eq _ _)).trans (ref_congr e0 e1), (h c).2⟩

end Cert.ProjFwdIdeal.Final
-- ==== Proof.ProjDx.lean ====
module

public import proofs.«01_k».proof.Defs
public import proofs.«01_k».proof.Proof.Gen.ProjDxIdeal.Value
public import proofs.«01_k».proof.Proof.Gen.ProjDxRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of the input projection's input. -/

namespace Cert.ProjDxIdeal.Final

open Cert.ProjDxIdeal Cert.ProjDxIdeal.Gen

variable (m : (ℓ : Loc nD τ sig) → Buf (Elt Ideal) ℓ) (c : Dev nD)

theorem idx : ∀ t : Fin cfg0.N, win0_0.index t = ![t.val / 2, t.val % 2] ∧ win0_1.index t = ![0, t.val % 2] ∧ win0_2.index t = ![t.val / 2, 0] :=
  (by decide +kernel : ∀ t : Fin grid0.N, _)

abbrev x0 : FVec Ideal S8192x8192 .f32 := m (c.tc.loc main_arg0)
abbrev x1 : FVec Ideal S1024x8192 .f32 := m (c.tc.loc main_arg1)

/-- One block's part of the product, at a place of the output's block. -/
def part (A : FVec Ideal S1024x4096 .bf16) (B : FVec Ideal S1024x4096 .bf16) (y : S1024x1024.Idx) : EReal :=
  ∑ k : Fin 4096, (A (ix2 (y 0) k) : EReal) * B (ix2 (y 1) k)

theorem pay_first (A : FVec Ideal S1024x4096 .bf16) (B : FVec Ideal S1024x4096 .bf16) (y : S1024x1024.Idx) :
    (k0_pay2 (F := Ideal) A B y : EReal) = part A B y := by
  idx_vars y
  pointwise [k0_pay2, k0_pay1, part]

theorem pay_next (A : FVec Ideal S1024x4096 .bf16) (B : FVec Ideal S1024x4096 .bf16) (C : FVec Ideal S1024x1024 .f32) (y : S1024x1024.Idx) :
    (k0_pay3 (F := Ideal) A B C y : EReal) = C y + part A B y := by
  idx_vars y
  pointwise [k0_pay3, k0_pay1, part]

/-- What the scratch holds after the last point of a run: the parts of the run's points, added. -/
theorem acc (t : Fin cfg0.N) (hr : t.val % 2 = 1) (y : S1024x1024.Idx) :
    (outsAt0 m c t.val t.isLt).2 y
      = ∑ s : Fin 2, part (iblk m c 0 ⟨2 * (t.val / 2) + s.val, Pipeline.run_point_lt_of_flush t hr s⟩)
          (iblk m c 1 ⟨2 * (t.val / 2) + s.val, Pipeline.run_point_lt_of_flush t hr s⟩) y := by
  rw [Pipeline.eq_sum_fin_of_reset_step_apply_of_flush (fun n h => (outsAt0 m c n h).2) 2 (fun _ => (0 : EReal))
    (fun t y => part (iblk m c 0 t) (iblk m c 1 t) y)
    (fun t h j => by
      have := lt_of_lt_of_eq t.isLt (show cfg0.N = 16 from N_0)
      rw [outsAt0_A m c t h (by omega) (by omega)]
      frame_out
      rw [pay_first, zero_add])
    (fun t h j => by
      rw [outsAt0_B m c t h (by omega) (by omega)]
      frame_out
      rw [pay_next, read_unread_whole]) t hr y, zero_add]

/-- What the last point of a run writes back. -/
theorem out_last (t : Fin cfg0.N) (hr : t.val % 2 = 1) (y : S1024x1024.Idx) :
    (outsAt0 m c t.val t.isLt).1 y = (outsAt0 m c t.val t.isLt).2 y := by
  rw [outsAt0_B m c t (by omega) (by omega) hr]
  frame_out
  pointwise [k0_pay4]

/-- The array the product ends in. -/
theorem final : (dats m 0 c).arrAt 2 (cfgs 0).N = Cert.ProjDxRefIdeal.Read.val_main_v3 (F := Ideal) (x0 m c) (x1 m c) := by
  refine (dats m 0 c).arrAt_eq_of_covers 2 _ (by decide +kernel) fun t hf y => ?_
  have hr : t.val % 2 = 1 := (flush0_2 t).mp hf
  blk_simp
  rw [after0_2, out_last m c t hr, acc m c t hr]
  idx_vars y
  pointwise [Cert.ProjDxRefIdeal.Read.val_main_v3, Cert.ProjDxRefIdeal.Read.val_main_v2]
  unfold part
  refine Fin.sum_mul_add_congr fun s k hl => ?_
  blk_point [iblk, V, idx t, idx ⟨_, Pipeline.run_point_lt_of_flush t hr s⟩]

theorem ref_congr {a0 b0 a1 b1} (h0 : a0 = b0) (h1 : a1 = b1) :
    Cert.ProjDxRefIdeal.Read.val_main_v3 (F := Ideal) a0 a1 = Cert.ProjDxRefIdeal.Read.val_main_v3 b0 b1 := by
  subst h0 h1; rfl

/-- The reference runs to its end and leaves its arguments alone. -/
theorem frame_ref : Cert.quiescent_ProjDxRefIdeal := fun m g _ =>
  (θ_run Cert.ProjDxRefIdeal.defs _ _).mono (fun r h => ⟨fun c => (h c).2, sem_eq_zero_of_no_sems (by decide) r.2⟩)
    (Cert.ProjDxRefIdeal.Value.run m g)

/-- Over the reals the call's result is the reference's. -/
theorem algebraic : Cert.algebraic_ProjDxIdeal_ProjDxRefIdeal := by
  intro m g m' g' _ hagree
  refine ⟨fun c => Cert.ProjDxRefIdeal.Read.val_main_v3 (F := Ideal) (x0 m c) (x1 m c), ?_, ?_⟩
  · refine (θ_run Cert.ProjDxIdeal.defs _ _).mono (fun r h c => ?_) (Cert.ProjDxIdeal.Value.run_blocks m g)
    exact ⟨(h c).1.trans (final m c), (h c).2⟩
  · refine (θ_run Cert.ProjDxRefIdeal.defs _ _).mono (fun r h c => ?_) (Cert.ProjDxRefIdeal.Value.run m' g')
    obtain ⟨e0, e1⟩ := hagree c
    exact ⟨((h c).1.trans (Cert.ProjDxRefIdeal.Read.val_main_v3_eq _ _)).trans (ref_congr e0 e1), (h c).2⟩

end Cert.ProjDxIdeal.Final
-- ==== Proof.ProjDw.lean ====
module

public import proofs.«01_k».proof.Defs
public import proofs.«01_k».proof.Proof.Gen.ProjDwIdeal.Value
public import proofs.«01_k».proof.Proof.Gen.ProjDwRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of the input projection's weights. -/

namespace Cert.ProjDwIdeal.Final

open Cert.ProjDwIdeal Cert.ProjDwIdeal.Gen

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

abbrev x0 : FVec Ideal S8192x1024 .f32 := m (c.tc.loc main_arg0)
abbrev x1 : FVec Ideal S8192x8192 .f32 := m (c.tc.loc main_arg1)

/-- One block's part of the product, at a place of the output's block. -/
def part (A : FVec Ideal S2048x1024 .bf16) (B : FVec Ideal S2048x2048 .bf16) (y : S1024x2048.Idx) : EReal :=
  ∑ k : Fin 2048, (A (ix2 k (y 0)) : EReal) * B (ix2 k (y 1))

theorem pay_first (A : FVec Ideal S2048x1024 .bf16) (B : FVec Ideal S2048x2048 .bf16) (y : S1024x2048.Idx) :
    (k0_pay2 (F := Ideal) A B y : EReal) = part A B y := by
  idx_vars y
  pointwise [k0_pay2, k0_pay1, part]

theorem pay_next (A : FVec Ideal S2048x1024 .bf16) (B : FVec Ideal S2048x2048 .bf16) (C : FVec Ideal S1024x2048 .f32) (y : S1024x2048.Idx) :
    (k0_pay3 (F := Ideal) A B C y : EReal) = C y + part A B y := by
  idx_vars y
  pointwise [k0_pay3, k0_pay1, part]

/-- What the scratch holds after the last point of a run: the parts of the run's points, added. -/
theorem acc (t : Fin cfg0.N) (hr : t.val % 4 = 3) (y : S1024x2048.Idx) :
    (outsAt0 m c t.val t.isLt).2 y
      = ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  rw [Pipeline.eq_sum_fin_of_reset_step_apply_of_flush (fun n h => (outsAt0 m c n h).2) 4 (fun _ => (0 : EReal))
    (fun t y => part (iblk m c 0 t) (iblk m c 1 t) y)
    (fun t h j => by
      have := lt_of_lt_of_eq t.isLt (show cfg0.N = 16 from N_0)
      rw [outsAt0_A m c t h (by omega) (by omega)]
      frame_out
      rw [pay_first, zero_add])
    (fun t h j => by
      by_cases h2 : t.val % 4 = 3
      · rw [outsAt0_C m c t h (by omega) h2]
        frame_out
        rw [pay_next, read_unread_whole]
      · rw [outsAt0_B m c t h (by omega) h2]
        frame_out
        rw [pay_next, read_unread_whole]) t hr y, zero_add]

/-- What the last point of a run writes back. -/
theorem out_last (t : Fin cfg0.N) (hr : t.val % 4 = 3) (y : S1024x2048.Idx) :
    (outsAt0 m c t.val t.isLt).1 y = (outsAt0 m c t.val t.isLt).2 y := by
  rw [outsAt0_C m c t (by omega) (by omega) hr]
  frame_out
  pointwise [k0_pay4]

/-- The array the product ends in. -/
theorem final : (dats m 0 c).arrAt 2 (cfgs 0).N = Cert.ProjDwRefIdeal.Read.val_main_v4 (F := Ideal) (x0 m c) (x1 m c) := by
  refine (dats m 0 c).arrAt_eq_of_covers 2 _ (by decide +kernel) fun t hf y => ?_
  have hr : t.val % 4 = 3 := (flush0_2 t).mp hf
  blk_simp
  rw [after0_2, out_last m c t hr, acc m c t hr]
  idx_vars y
  pointwise [Cert.ProjDwRefIdeal.Read.val_main_v4, Cert.ProjDwRefIdeal.Read.val_main_v3, Cert.ProjDwRefIdeal.Read.val_main_v2]
  unfold part
  refine Fin.sum_mul_add_congr fun s k hl => ?_
  refine (mul_comm (_ : EReal) _).trans ?_
  blk_point [iblk, V, idx t, idx ⟨_, Pipeline.run_point_lt_of_flush t hr s⟩]

theorem ref_congr {a0 b0 a1 b1} (h0 : a0 = b0) (h1 : a1 = b1) :
    Cert.ProjDwRefIdeal.Read.val_main_v4 (F := Ideal) a0 a1 = Cert.ProjDwRefIdeal.Read.val_main_v4 b0 b1 := by
  subst h0 h1; rfl

/-- The reference runs to its end and leaves its arguments alone. -/
theorem frame_ref : Cert.quiescent_ProjDwRefIdeal := fun m g _ =>
  (θ_run Cert.ProjDwRefIdeal.defs _ _).mono (fun r h => ⟨fun c => (h c).2, sem_eq_zero_of_no_sems (by decide) r.2⟩)
    (Cert.ProjDwRefIdeal.Value.run m g)

/-- Over the reals the call's result is the reference's. -/
theorem algebraic : Cert.algebraic_ProjDwIdeal_ProjDwRefIdeal := by
  intro m g m' g' _ hagree
  refine ⟨fun c => Cert.ProjDwRefIdeal.Read.val_main_v4 (F := Ideal) (x0 m c) (x1 m c), ?_, ?_⟩
  · refine (θ_run Cert.ProjDwIdeal.defs _ _).mono (fun r h c => ?_) (Cert.ProjDwIdeal.Value.run_blocks m g)
    exact ⟨(h c).1.trans (final m c), (h c).2⟩
  · refine (θ_run Cert.ProjDwRefIdeal.defs _ _).mono (fun r h c => ?_) (Cert.ProjDwRefIdeal.Value.run m' g')
    obtain ⟨e0, e1⟩ := hagree c
    exact ⟨((h c).1.trans (Cert.ProjDwRefIdeal.Read.val_main_v4_eq _ _)).trans (ref_congr e0 e1), (h c).2⟩

end Cert.ProjDwIdeal.Final
-- ==== Proof.UpFwd.lean ====
module

public import proofs.«01_k».proof.Defs
public import proofs.«01_k».proof.Proof.Gen.UpFwdIdeal.Value
public import proofs.«01_k».proof.Proof.Gen.UpFwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The up projection of the feed-forward layer. -/

namespace Cert.UpFwdIdeal.Final

open Cert.UpFwdIdeal Cert.UpFwdIdeal.Gen

variable (m : (ℓ : Loc nD τ sig) → Buf (Elt Ideal) ℓ) (c : Dev nD)

theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

abbrev x0 : FVec Ideal S8192x1024 .f32 := m (c.tc.loc main_arg0)
abbrev x1 : FVec Ideal S1024x5632 .f32 := m (c.tc.loc main_arg1)

/-- What a point writes: the product of its blocks. -/
theorem pay (A : FVec Ideal S1024x1024 .bf16) (B : FVec Ideal S1x1024x1408 .bf16) (y : S1024x1408.Idx) :
    (k0_pay1 (F := Ideal) A B y : EReal) = ∑ k : Fin 1024, (A (ix2 (y 0) k) : EReal) * B (ix3 0 k (y 1)) := by
  idx_vars y
  pointwise [k0_pay1]

theorem out (t : Fin cfg0.N) (y : S1024x1408.Idx) : outsAt0 m c t y = k0_pay1 (iblk m c 0 t) (iblk m c 1 t) y := by
  unfold outsAt0
  frame_out

/-- The array the product ends in. -/
theorem final : (dats m 0 c).arrAt 2 (cfgs 0).N = Cert.UpFwdRefIdeal.Read.val_main_v1 (F := Ideal) (x0 m c) (x1 m c) := by
  refine (dats m 0 c).arrAt_eq_of_covers 2 _ (by decide +kernel) fun t hf y => ?_
  blk_simp
  rw [after0_2, out, pay]
  idx_vars y
  pointwise [Cert.UpFwdRefIdeal.Read.val_main_v1, Cert.UpFwdRefIdeal.Read.val_main_v0]
  refine Finset.sum_congr (M := EReal) rfl fun k _ => ?_
  blk_point [iblk, V, idx t]

theorem ref_congr {a0 b0 a1 b1} (h0 : a0 = b0) (h1 : a1 = b1) :
    Cert.UpFwdRefIdeal.Read.val_main_v1 (F := Ideal) a0 a1 = Cert.UpFwdRefIdeal.Read.val_main_v1 b0 b1 := by
  subst h0 h1; rfl

/-- The reference runs to its end and leaves its arguments alone. -/
theorem frame_ref : Cert.quiescent_UpFwdRefIdeal := fun m g _ =>
  (θ_run Cert.UpFwdRefIdeal.defs _ _).mono (fun r h => ⟨fun c => (h c).2, sem_eq_zero_of_no_sems (by decide) r.2⟩)
    (Cert.UpFwdRefIdeal.Value.run m g)

/-- Over the reals the call's result is the reference's. -/
theorem algebraic : Cert.algebraic_UpFwdIdeal_UpFwdRefIdeal := by
  intro m g m' g' _ hagree
  refine ⟨fun c => Cert.UpFwdRefIdeal.Read.val_main_v1 (F := Ideal) (x0 m c) (x1 m c), ?_, ?_⟩
  · refine (θ_run Cert.UpFwdIdeal.defs _ _).mono (fun r h c => ?_) (Cert.UpFwdIdeal.Value.run_blocks m g)
    exact ⟨(h c).1.trans (final m c), (h c).2⟩
  · refine (θ_run Cert.UpFwdRefIdeal.defs _ _).mono (fun r h c => ?_) (Cert.UpFwdRefIdeal.Value.run m' g')
    obtain ⟨e0, e1⟩ := hagree c
    exact ⟨((h c).1.trans (Cert.UpFwdRefIdeal.Read.val_main_v1_eq _ _)).trans (ref_congr e0 e1), (h c).2⟩

end Cert.UpFwdIdeal.Final
-- ==== Proof.UpDx.lean ====
module

public import proofs.«01_k».proof.Defs
public import proofs.«01_k».proof.Proof.Gen.UpDxIdeal.Value
public import proofs.«01_k».proof.Proof.Gen.UpDxRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of the up projection's input. -/

namespace Cert.UpDxIdeal.Final

open Cert.UpDxIdeal Cert.UpDxIdeal.Gen

variable (m : (ℓ : Loc nD τ sig) → Buf (Elt Ideal) ℓ) (c : Dev nD)

theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

abbrev x0 : FVec Ideal S8192x5632 .f32 := m (c.tc.loc main_arg0)
abbrev x1 : FVec Ideal S1024x5632 .f32 := m (c.tc.loc main_arg1)

/-- One block's part of the product, at a place of the output's block. -/
def part (A : FVec Ideal S1024x1408 .bf16) (B : FVec Ideal S1x1024x1408 .bf16) (y : S1024x1024.Idx) : EReal :=
  ∑ k : Fin 1408, (A (ix2 (y 0) k) : EReal) * B (ix3 0 (y 1) k)

theorem pay_first (A : FVec Ideal S1024x1408 .bf16) (B : FVec Ideal S1x1024x1408 .bf16) (y : S1024x1024.Idx) :
    (k0_pay2 (F := Ideal) A B y : EReal) = part A B y := by
  idx_vars y
  pointwise [k0_pay2, k0_pay1, part]

theorem pay_next (A : FVec Ideal S1024x1408 .bf16) (B : FVec Ideal S1x1024x1408 .bf16) (C : FVec Ideal S1024x1024 .f32) (y : S1024x1024.Idx) :
    (k0_pay3 (F := Ideal) A B C y : EReal) = C y + part A B y := by
  idx_vars y
  pointwise [k0_pay3, k0_pay1, part]

/-- What the scratch holds after the last point of a run: the parts of the run's points, added. -/
theorem acc (t : Fin cfg0.N) (hr : t.val % 4 = 3) (y : S1024x1024.Idx) :
    (outsAt0 m c t.val t.isLt).2 y
      = ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  rw [Pipeline.eq_sum_fin_of_reset_step_apply_of_flush (fun n h => (outsAt0 m c n h).2) 4 (fun _ => (0 : EReal))
    (fun t y => part (iblk m c 0 t) (iblk m c 1 t) y)
    (fun t h j => by
      have := lt_of_lt_of_eq t.isLt (show cfg0.N = 32 from N_0)
      rw [outsAt0_A m c t h (by omega) (by omega)]
      frame_out
      rw [pay_first, zero_add])
    (fun t h j => by
      by_cases h2 : t.val % 4 = 3
      · rw [outsAt0_C m c t h (by omega) h2]
        frame_out
        rw [pay_next, read_unread_whole]
      · rw [outsAt0_B m c t h (by omega) h2]
        frame_out
        rw [pay_next, read_unread_whole]) t hr y, zero_add]

/-- What the last point of a run writes back. -/
theorem out_last (t : Fin cfg0.N) (hr : t.val % 4 = 3) (y : S1024x1024.Idx) :
    (outsAt0 m c t.val t.isLt).1 y = (outsAt0 m c t.val t.isLt).2 y := by
  rw [outsAt0_C m c t (by omega) (by omega) hr]
  frame_out
  pointwise [k0_pay4]

/-- The array the product ends in. -/
theorem final : (dats m 0 c).arrAt 2 (cfgs 0).N = Cert.UpDxRefIdeal.Read.val_main_v3 (F := Ideal) (x0 m c) (x1 m c) := by
  refine (dats m 0 c).arrAt_eq_of_covers 2 _ (by decide +kernel) fun t hf y => ?_
  have hr : t.val % 4 = 3 := (flush0_2 t).mp hf
  blk_simp
  rw [after0_2, out_last m c t hr, acc m c t hr]
  idx_vars y
  pointwise [Cert.UpDxRefIdeal.Read.val_main_v3, Cert.UpDxRefIdeal.Read.val_main_v2]
  unfold part
  refine Fin.sum_mul_add_congr fun s k hl => ?_
  blk_point [iblk, V, idx t, idx ⟨_, Pipeline.run_point_lt_of_flush t hr s⟩]

theorem ref_congr {a0 b0 a1 b1} (h0 : a0 = b0) (h1 : a1 = b1) :
    Cert.UpDxRefIdeal.Read.val_main_v3 (F := Ideal) a0 a1 = Cert.UpDxRefIdeal.Read.val_main_v3 b0 b1 := by
  subst h0 h1; rfl

/-- The reference runs to its end and leaves its arguments alone. -/
theorem frame_ref : Cert.quiescent_UpDxRefIdeal := fun m g _ =>
  (θ_run Cert.UpDxRefIdeal.defs _ _).mono (fun r h => ⟨fun c => (h c).2, sem_eq_zero_of_no_sems (by decide) r.2⟩)
    (Cert.UpDxRefIdeal.Value.run m g)

/-- Over the reals the call's result is the reference's. -/
theorem algebraic : Cert.algebraic_UpDxIdeal_UpDxRefIdeal := by
  intro m g m' g' _ hagree
  refine ⟨fun c => Cert.UpDxRefIdeal.Read.val_main_v3 (F := Ideal) (x0 m c) (x1 m c), ?_, ?_⟩
  · refine (θ_run Cert.UpDxIdeal.defs _ _).mono (fun r h c => ?_) (Cert.UpDxIdeal.Value.run_blocks m g)
    exact ⟨(h c).1.trans (final m c), (h c).2⟩
  · refine (θ_run Cert.UpDxRefIdeal.defs _ _).mono (fun r h c => ?_) (Cert.UpDxRefIdeal.Value.run m' g')
    obtain ⟨e0, e1⟩ := hagree c
    exact ⟨((h c).1.trans (Cert.UpDxRefIdeal.Read.val_main_v3_eq _ _)).trans (ref_congr e0 e1), (h c).2⟩

end Cert.UpDxIdeal.Final
-- ==== Proof.UpDw.lean ====
module

public import proofs.«01_k».proof.Defs
public import proofs.«01_k».proof.Proof.Gen.UpDwIdeal.Value
public import proofs.«01_k».proof.Proof.Gen.UpDwRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of the feed-forward layer's up projection's weights, by chip. -/

namespace Cert.UpDwIdeal.Final

open Cert.UpDwIdeal Cert.UpDwIdeal.Gen

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

abbrev x0 : FVec Ideal S8192x1024 .f32 := m (c.tc.loc main_arg0)
abbrev x1 : FVec Ideal S8192x5632 .f32 := m (c.tc.loc main_arg1)

/-- One block's part of the product, at a place of the output's block. -/
def part (A : FVec Ideal S2048x1024 .bf16) (B : FVec Ideal S2048x1408 .bf16) (y : S1024x1408.Idx) : EReal :=
  ∑ k : Fin 2048, (A (ix2 k (y 0)) : EReal) * B (ix2 k (y 1))

theorem pay_first (A : FVec Ideal S2048x1024 .bf16) (B : FVec Ideal S2048x1408 .bf16) (y : S1024x1408.Idx) :
    (k0_pay2 (F := Ideal) A B y : EReal) = part A B y := by
  idx_vars y
  pointwise [k0_pay2, k0_pay1, part]

theorem pay_next (A : FVec Ideal S2048x1024 .bf16) (B : FVec Ideal S2048x1408 .bf16) (C : FVec Ideal S1024x1408 .f32) (y : S1024x1408.Idx) :
    (k0_pay3 (F := Ideal) A B C y : EReal) = C y + part A B y := by
  idx_vars y
  pointwise [k0_pay3, k0_pay1, part]

/-- What the scratch holds after the last point of a run: the parts of the run's points, added. -/
theorem acc (t : Fin cfg0.N) (hr : t.val % 4 = 3) (y : S1024x1408.Idx) :
    (outsAt0 m c t.val t.isLt).2 y
      = ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  rw [Pipeline.eq_sum_fin_of_reset_step_apply_of_flush (fun n h => (outsAt0 m c n h).2) 4 (fun _ => (0 : EReal))
    (fun t y => part (iblk m c 0 t) (iblk m c 1 t) y)
    (fun t h j => by
      have := lt_of_lt_of_eq t.isLt (show cfg0.N = 16 from N_0)
      rw [outsAt0_A m c t h (by omega) (by omega)]
      frame_out
      rw [pay_first, zero_add])
    (fun t h j => by
      by_cases h2 : t.val % 4 = 3
      · rw [outsAt0_C m c t h (by omega) h2]
        frame_out
        rw [pay_next, read_unread_whole]
      · rw [outsAt0_B m c t h (by omega) h2]
        frame_out
        rw [pay_next, read_unread_whole]) t hr y, zero_add]

/-- What the last point of a run writes back. -/
theorem out_last (t : Fin cfg0.N) (hr : t.val % 4 = 3) (a : Fin 1024) (b : Fin 1408) :
    (outsAt0 m c t.val t.isLt).1 (ix3 0 a b) = (outsAt0 m c t.val t.isLt).2 (ix2 a b) := by
  rw [outsAt0_C m c t (by omega) (by omega) hr]
  frame_out
  pointwise [k0_pay4]

/-- The array the product ends in. -/
theorem final : (dats m 0 c).arrAt 2 (cfgs 0).N = Cert.UpDwRefIdeal.Read.val_main_v6 (F := Ideal) (x0 m c) (x1 m c) := by
  refine (dats m 0 c).arrAt_eq_of_covers 2 _ (by decide +kernel) fun t hf y => ?_
  have hr : t.val % 4 = 3 := (flush0_2 t).mp hf
  blk_simp
  idx_vars y
  obtain rfl : y0 = 0 := Subsingleton.elim _ _
  rw [after0_2, out_last m c t hr, acc m c t hr]
  pointwise [Cert.UpDwRefIdeal.Read.val_main_v6, Cert.UpDwRefIdeal.Read.val_main_v5, Cert.UpDwRefIdeal.Read.val_main_v4, Cert.UpDwRefIdeal.Read.val_main_v3, Cert.UpDwRefIdeal.Read.val_main_v2]
  unfold part
  refine Fin.sum_mul_add_congr fun s k hl => ?_
  refine (mul_comm (_ : EReal) _).trans ?_
  blk_point [iblk, V, idx t, idx ⟨_, Pipeline.run_point_lt_of_flush t hr s⟩]

theorem ref_congr {a0 b0 a1 b1} (h0 : a0 = b0) (h1 : a1 = b1) :
    Cert.UpDwRefIdeal.Read.val_main_v6 (F := Ideal) a0 a1 = Cert.UpDwRefIdeal.Read.val_main_v6 b0 b1 := by
  subst h0 h1; rfl

/-- The reference runs to its end and leaves its arguments alone. -/
theorem frame_ref : Cert.quiescent_UpDwRefIdeal := fun m g _ =>
  (θ_run Cert.UpDwRefIdeal.defs _ _).mono (fun r h => ⟨fun c => (h c).2, sem_eq_zero_of_no_sems (by decide) r.2⟩)
    (Cert.UpDwRefIdeal.Value.run m g)

/-- Over the reals the call's result is the reference's. -/
theorem algebraic : Cert.algebraic_UpDwIdeal_UpDwRefIdeal := by
  intro m g m' g' _ hagree
  refine ⟨fun c => Cert.UpDwRefIdeal.Read.val_main_v6 (F := Ideal) (x0 m c) (x1 m c), ?_, ?_⟩
  · refine (θ_run Cert.UpDwIdeal.defs _ _).mono (fun r h c => ?_) (Cert.UpDwIdeal.Value.run_blocks m g)
    exact ⟨(h c).1.trans (final m c), (h c).2⟩
  · refine (θ_run Cert.UpDwRefIdeal.defs _ _).mono (fun r h c => ?_) (Cert.UpDwRefIdeal.Value.run m' g')
    obtain ⟨e0, e1⟩ := hagree c
    exact ⟨((h c).1.trans (Cert.UpDwRefIdeal.Read.val_main_v6_eq _ _)).trans (ref_congr e0 e1), (h c).2⟩

end Cert.UpDwIdeal.Final
-- ==== Proof.DownFwd.lean ====
module

public import proofs.«01_k».proof.Defs
public import proofs.«01_k».proof.Proof.Gen.DownFwdIdeal.Value
public import proofs.«01_k».proof.Proof.Gen.DownFwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The down projection of the feed-forward layer, with its gated residual. -/

namespace Cert.DownFwdIdeal.Final

open Cert.DownFwdIdeal Cert.DownFwdIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

abbrev x0 : FVec Ideal S8192x2816 .f32 := m (c.tc.loc main_arg0)
abbrev x1 : FVec Ideal S2816x1024 .f32 := m (c.tc.loc main_arg1)
abbrev x2 : FVec Ideal S8192x1024 .f32 := m (c.tc.loc main_arg2)
abbrev x3 : FVec Ideal S3x1024 .f32 := m (c.tc.loc main_arg3)

/-- One element of a block's product. -/
def part (A : FVec Ideal S512x2816 .bf16) (B : FVec Ideal S2816x1024 .bf16) (y : S512x1024.Idx) : EReal :=
  ∑ k : Fin 2816, (A (ix2 (y 0) k) : EReal) * B (ix2 k (y 1))

theorem pay_out (A : FVec Ideal S512x2816 .bf16) (B : FVec Ideal S2816x1024 .bf16) (y : S512x1024.Idx) :
    (k0_pay2 (F := Ideal) A B y : EReal) = part A B y := by
  idx_vars y
  pointwise [k0_pay2, k0_pay1, part]

theorem pay_resid (A : FVec Ideal S512x2816 .bf16) (B : FVec Ideal S2816x1024 .bf16) (X : FVec Ideal S512x1024 .f32)
    (G : FVec Ideal S1x1024 .f32) (y : S512x1024.Idx) :
    (k0_pay3 (F := Ideal) A B X G y : EReal) = X y + G (ix2 0 (y 1)) * part A B y := by
  idx_vars y
  pointwise [k0_pay3, k0_pay1, part]

/-- The product of the blocks is the rows of the whole product. -/
theorem part_eq (t : Fin cfg0.N) (p : Fin 512) (q : Fin 1024) :
    part (iblk m c 0 t) (iblk m c 1 t) (ix2 p q)
      = (Cert.DownFwdRefIdeal.Read.val_main_v0 (F := Ideal) (x0 m c) (x1 m c)
          (ix2 ⟨512 * t.val + p.val, by have := t.isLt; have : cfg0.N = 16 := N_0; omega⟩ q) : EReal) := by
  pointwise [Cert.DownFwdRefIdeal.Read.val_main_v0, part]
  refine Finset.sum_congr rfl fun k _ => ?_
  blk_point [iblk, V, idx t]

/-- The array the product ends in. -/
theorem final_out : (dats m 0 c).arrAt 4 (cfgs 0).N = Cert.DownFwdRefIdeal.Read.val_main_v1 (F := Ideal) (x0 m c) (x1 m c) := by
  refine (dats m 0 c).arrAt_eq_of_covers 4 _ (by decide +kernel) fun t hf y => ?_
  blk_simp
  rw [after0_4]
  unfold out0_4
  frame_out
  rw [pay_out]
  idx_vars y
  rw [part_eq]
  pointwise [Cert.DownFwdRefIdeal.Read.val_main_v1]
  blk_point [iblk, V, idx t]

/-- The array the residual sum ends in. -/
theorem final_resid : (dats m 0 c).arrAt 5 (cfgs 0).N
    = Cert.DownFwdRefIdeal.Read.val_main_v7 (F := Ideal) (x0 m c) (x1 m c) (x2 m c) (x3 m c) := by
  refine (dats m 0 c).arrAt_eq_of_covers 5 _ (by decide +kernel) fun t hf y => ?_
  blk_simp
  rw [after0_5]
  unfold out0_5
  frame_out
  rw [pay_resid]
  idx_vars y
  rw [part_eq]
  pointwise [Cert.DownFwdRefIdeal.Read.val_main_v7, Cert.DownFwdRefIdeal.Read.val_main_v6, Cert.DownFwdRefIdeal.Read.val_main_v5, Cert.DownFwdRefIdeal.Read.val_main_v4, Cert.DownFwdRefIdeal.Read.val_main_v3, Cert.DownFwdRefIdeal.Read.val_main_v2]
  blk_point [iblk, V, idx t]

theorem out_congr {a0 b0 a1 b1} (h0 : a0 = b0) (h1 : a1 = b1) :
    Cert.DownFwdRefIdeal.Read.val_main_v1 (F := Ideal) a0 a1 = Cert.DownFwdRefIdeal.Read.val_main_v1 b0 b1 := by
  subst h0 h1; rfl

theorem resid_congr {a0 b0 a1 b1 a2 b2 a3 b3} (h0 : a0 = b0) (h1 : a1 = b1) (h2 : a2 = b2) (h3 : a3 = b3) :
    Cert.DownFwdRefIdeal.Read.val_main_v7 (F := Ideal) a0 a1 a2 a3 = Cert.DownFwdRefIdeal.Read.val_main_v7 b0 b1 b2 b3 := by
  subst h0 h1 h2 h3; rfl

/-- The reference runs to its end and leaves its arguments alone. -/
theorem frame_ref : Cert.quiescent_DownFwdRefIdeal := fun m g _ =>
  (θ_run Cert.DownFwdRefIdeal.defs _ _).mono (fun r h => ⟨fun c => (h c).2.2, sem_eq_zero_of_no_sems (by decide) r.2⟩)
    (Cert.DownFwdRefIdeal.Value.run m g)

/-- Over the reals the call's two results are the reference's. -/
theorem algebraic : Cert.algebraic_DownFwdIdeal_DownFwdRefIdeal := by
  intro m g m' g' _ hagree
  refine ⟨fun c => Cert.DownFwdRefIdeal.Read.val_main_v1 (F := Ideal) (x0 m c) (x1 m c),
    fun c => Cert.DownFwdRefIdeal.Read.val_main_v7 (F := Ideal) (x0 m c) (x1 m c) (x2 m c) (x3 m c), ?_, ?_⟩
  · refine (θ_run Cert.DownFwdIdeal.defs _ _).mono (fun r h c => ?_) (Cert.DownFwdIdeal.Value.run_blocks m g)
    exact ⟨(h c).1.trans (final_out m c), (h c).2.1.trans (final_resid m c), (h c).2.2⟩
  · refine (θ_run Cert.DownFwdRefIdeal.defs _ _).mono (fun r h c => ?_) (Cert.DownFwdRefIdeal.Value.run m' g')
    obtain ⟨e0, e1, e2, e3⟩ := hagree c
    exact ⟨((h c).1.trans (Cert.DownFwdRefIdeal.Read.val_main_v1_eq _ _)).trans (out_congr e0 e1),
      ((h c).2.1.trans (Cert.DownFwdRefIdeal.Read.val_main_v7_eq _ _ _ _)).trans (resid_congr e0 e1 e2 e3), (h c).2.2⟩

end Cert.DownFwdIdeal.Final
-- ==== Proof.DownDx.lean ====
module

public import proofs.«01_k».proof.Defs
public import proofs.«01_k».proof.Proof.Gen.DownDxIdeal.Value
public import proofs.«01_k».proof.Proof.Gen.DownDxRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of the down projection's input. -/

namespace Cert.DownDxIdeal.Final

open Cert.DownDxIdeal Cert.DownDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev x0 : FVec Ideal S8192x1024 .f32 := m (c.tc.loc main_arg0)
abbrev x1 : FVec Ideal S2816x1024 .f32 := m (c.tc.loc main_arg1)

/-- What a point writes: the product of its blocks. -/
theorem pay (A : FVec Ideal S1024x1024 .bf16) (B : FVec Ideal S2816x1024 .bf16) (y : S1024x2816.Idx) :
    (k0_pay1 (F := Ideal) A B y : EReal) = ∑ k : Fin 1024, (A (ix2 (y 0) k) : EReal) * B (ix2 (y 1) k) := by
  idx_vars y
  pointwise [k0_pay1]

theorem out (t : Fin cfg0.N) (y : S1024x2816.Idx) : outsAt0 m c t y = k0_pay1 (iblk m c 0 t) (iblk m c 1 t) y := by
  unfold outsAt0
  frame_out

/-- The array the product ends in. -/
theorem final : (dats m 0 c).arrAt 2 (cfgs 0).N = Cert.DownDxRefIdeal.Read.val_main_v3 (F := Ideal) (x0 m c) (x1 m c) := by
  refine (dats m 0 c).arrAt_eq_of_covers 2 _ (by decide +kernel) fun t hf y => ?_
  blk_simp
  rw [after0_2, out, pay]
  idx_vars y
  pointwise [Cert.DownDxRefIdeal.Read.val_main_v3, Cert.DownDxRefIdeal.Read.val_main_v2]
  refine Finset.sum_congr (M := EReal) rfl fun k _ => ?_
  blk_point [iblk, V, idx t]

theorem ref_congr {a0 b0 a1 b1} (h0 : a0 = b0) (h1 : a1 = b1) :
    Cert.DownDxRefIdeal.Read.val_main_v3 (F := Ideal) a0 a1 = Cert.DownDxRefIdeal.Read.val_main_v3 b0 b1 := by
  subst h0 h1; rfl

/-- The reference runs to its end and leaves its arguments alone. -/
theorem frame_ref : Cert.quiescent_DownDxRefIdeal := fun m g _ =>
  (θ_run Cert.DownDxRefIdeal.defs _ _).mono (fun r h => ⟨fun c => (h c).2, sem_eq_zero_of_no_sems (by decide) r.2⟩)
    (Cert.DownDxRefIdeal.Value.run m g)

/-- Over the reals the call's result is the reference's. -/
theorem algebraic : Cert.algebraic_DownDxIdeal_DownDxRefIdeal := by
  intro m g m' g' _ hagree
  refine ⟨fun c => Cert.DownDxRefIdeal.Read.val_main_v3 (F := Ideal) (x0 m c) (x1 m c), ?_, ?_⟩
  · refine (θ_run Cert.DownDxIdeal.defs _ _).mono (fun r h c => ?_) (Cert.DownDxIdeal.Value.run_blocks m g)
    exact ⟨(h c).1.trans (final m c), (h c).2⟩
  · refine (θ_run Cert.DownDxRefIdeal.defs _ _).mono (fun r h c => ?_) (Cert.DownDxRefIdeal.Value.run m' g')
    obtain ⟨e0, e1⟩ := hagree c
    exact ⟨((h c).1.trans (Cert.DownDxRefIdeal.Read.val_main_v3_eq _ _)).trans (ref_congr e0 e1), (h c).2⟩

end Cert.DownDxIdeal.Final
-- ==== Proof.DownDw.lean ====
module

public import proofs.«01_k».proof.Defs
public import proofs.«01_k».proof.Proof.Gen.DownDwIdeal.Value
public import proofs.«01_k».proof.Proof.Gen.DownDwRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of the feed-forward layer's down projection's weights. -/

namespace Cert.DownDwIdeal.Final

open Cert.DownDwIdeal Cert.DownDwIdeal.Gen

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

abbrev x0 : FVec Ideal S8192x2816 .f32 := m (c.tc.loc main_arg0)
abbrev x1 : FVec Ideal S8192x1024 .f32 := m (c.tc.loc main_arg1)

/-- One block's part of the product, at a place of the output's block. -/
def part (A : FVec Ideal S1024x2816 .bf16) (B : FVec Ideal S1024x1024 .bf16) (y : S2816x1024.Idx) : EReal :=
  ∑ k : Fin 1024, (A (ix2 k (y 0)) : EReal) * B (ix2 k (y 1))

theorem pay_first (A : FVec Ideal S1024x2816 .bf16) (B : FVec Ideal S1024x1024 .bf16) (y : S2816x1024.Idx) :
    (k0_pay2 (F := Ideal) A B y : EReal) = part A B y := by
  idx_vars y
  pointwise [k0_pay2, k0_pay1, part]

theorem pay_next (A : FVec Ideal S1024x2816 .bf16) (B : FVec Ideal S1024x1024 .bf16) (C : FVec Ideal S2816x1024 .f32) (y : S2816x1024.Idx) :
    (k0_pay3 (F := Ideal) A B C y : EReal) = C y + part A B y := by
  idx_vars y
  pointwise [k0_pay3, k0_pay1, part]

/-- What the scratch holds after the last point of a run: the parts of the run's points, added. -/
theorem acc (t : Fin cfg0.N) (hr : t.val % 8 = 7) (y : S2816x1024.Idx) :
    (outsAt0 m c t.val t.isLt).2 y
      = ∑ s : Fin 8, part (iblk m c 0 ⟨8 * (t.val / 8) + s.val, Pipeline.run_point_lt_of_flush t hr s⟩)
          (iblk m c 1 ⟨8 * (t.val / 8) + s.val, Pipeline.run_point_lt_of_flush t hr s⟩) y := by
  rw [Pipeline.eq_sum_fin_of_reset_step_apply_of_flush (fun n h => (outsAt0 m c n h).2) 8 (fun _ => (0 : EReal))
    (fun t y => part (iblk m c 0 t) (iblk m c 1 t) y)
    (fun t h j => by
      have := lt_of_lt_of_eq t.isLt (show cfg0.N = 8 from N_0)
      rw [outsAt0_A m c t h (by omega) (by omega)]
      frame_out
      rw [pay_first, zero_add])
    (fun t h j => by
      by_cases h2 : t.val % 8 = 7
      · rw [outsAt0_C m c t h (by omega) h2]
        frame_out
        rw [pay_next, read_unread_whole]
      · rw [outsAt0_B m c t h (by omega) h2]
        frame_out
        rw [pay_next, read_unread_whole]) t hr y, zero_add]

/-- What the last point of a run writes back. -/
theorem out_last (t : Fin cfg0.N) (hr : t.val % 8 = 7) (y : S2816x1024.Idx) :
    (outsAt0 m c t.val t.isLt).1 y = (outsAt0 m c t.val t.isLt).2 y := by
  rw [outsAt0_C m c t (by omega) (by omega) hr]
  frame_out
  pointwise [k0_pay4]

/-- The array the product ends in. -/
theorem final : (dats m 0 c).arrAt 2 (cfgs 0).N = Cert.DownDwRefIdeal.Read.val_main_v4 (F := Ideal) (x0 m c) (x1 m c) := by
  refine (dats m 0 c).arrAt_eq_of_covers 2 _ (by decide +kernel) fun t hf y => ?_
  have hr : t.val % 8 = 7 := (flush0_2 t).mp hf
  blk_simp
  rw [after0_2, out_last m c t hr, acc m c t hr]
  idx_vars y
  pointwise [Cert.DownDwRefIdeal.Read.val_main_v4, Cert.DownDwRefIdeal.Read.val_main_v3, Cert.DownDwRefIdeal.Read.val_main_v2]
  unfold part
  refine Fin.sum_mul_add_congr fun s k hl => ?_
  refine (mul_comm (_ : EReal) _).trans ?_
  blk_point [iblk, V, idx t, idx ⟨_, Pipeline.run_point_lt_of_flush t hr s⟩]

theorem ref_congr {a0 b0 a1 b1} (h0 : a0 = b0) (h1 : a1 = b1) :
    Cert.DownDwRefIdeal.Read.val_main_v4 (F := Ideal) a0 a1 = Cert.DownDwRefIdeal.Read.val_main_v4 b0 b1 := by
  subst h0 h1; rfl

/-- The reference runs to its end and leaves its arguments alone. -/
theorem frame_ref : Cert.quiescent_DownDwRefIdeal := fun m g _ =>
  (θ_run Cert.DownDwRefIdeal.defs _ _).mono (fun r h => ⟨fun c => (h c).2, sem_eq_zero_of_no_sems (by decide) r.2⟩)
    (Cert.DownDwRefIdeal.Value.run m g)

/-- Over the reals the call's result is the reference's. -/
theorem algebraic : Cert.algebraic_DownDwIdeal_DownDwRefIdeal := by
  intro m g m' g' _ hagree
  refine ⟨fun c => Cert.DownDwRefIdeal.Read.val_main_v4 (F := Ideal) (x0 m c) (x1 m c), ?_, ?_⟩
  · refine (θ_run Cert.DownDwIdeal.defs _ _).mono (fun r h c => ?_) (Cert.DownDwIdeal.Value.run_blocks m g)
    exact ⟨(h c).1.trans (final m c), (h c).2⟩
  · refine (θ_run Cert.DownDwRefIdeal.defs _ _).mono (fun r h c => ?_) (Cert.DownDwRefIdeal.Value.run m' g')
    obtain ⟨e0, e1⟩ := hagree c
    exact ⟨((h c).1.trans (Cert.DownDwRefIdeal.Read.val_main_v4_eq _ _)).trans (ref_congr e0 e1), (h c).2⟩

end Cert.DownDwIdeal.Final
-- ==== Proof.OutDw.lean ====
module

public import proofs.«01_k».proof.Defs
public import proofs.«01_k».proof.Proof.Gen.OutDwIdeal.Value
public import proofs.«01_k».proof.Proof.Gen.OutDwRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of an output projection's weights. -/

namespace Cert.OutDwIdeal.Final

open Cert.OutDwIdeal Cert.OutDwIdeal.Gen

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

abbrev x0 : FVec Ideal S8192x1024 .f32 := m (c.tc.loc main_arg0)
abbrev x1 : FVec Ideal S8192x1024 .f32 := m (c.tc.loc main_arg1)

/-- One block's part of the product, at a place of the output's block. -/
def part (A : FVec Ideal S2048x1024 .bf16) (B : FVec Ideal S2048x1024 .bf16) (y : S1024x1024.Idx) : EReal :=
  ∑ k : Fin 2048, (A (ix2 k (y 0)) : EReal) * B (ix2 k (y 1))

theorem pay_first (A : FVec Ideal S2048x1024 .bf16) (B : FVec Ideal S2048x1024 .bf16) (y : S1024x1024.Idx) :
    (k0_pay2 (F := Ideal) A B y : EReal) = part A B y := by
  idx_vars y
  pointwise [k0_pay2, k0_pay1, part]

theorem pay_next (A : FVec Ideal S2048x1024 .bf16) (B : FVec Ideal S2048x1024 .bf16) (C : FVec Ideal S1024x1024 .f32) (y : S1024x1024.Idx) :
    (k0_pay3 (F := Ideal) A B C y : EReal) = C y + part A B y := by
  idx_vars y
  pointwise [k0_pay3, k0_pay1, part]

/-- What the scratch holds after the last point of a run: the parts of the run's points, added. -/
theorem acc (t : Fin cfg0.N) (hr : t.val % 4 = 3) (y : S1024x1024.Idx) :
    (outsAt0 m c t.val t.isLt).2 y
      = ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  rw [Pipeline.eq_sum_fin_of_reset_step_apply_of_flush (fun n h => (outsAt0 m c n h).2) 4 (fun _ => (0 : EReal))
    (fun t y => part (iblk m c 0 t) (iblk m c 1 t) y)
    (fun t h j => by
      have := lt_of_lt_of_eq t.isLt (show cfg0.N = 4 from N_0)
      rw [outsAt0_A m c t h (by omega) (by omega)]
      frame_out
      rw [pay_first, zero_add])
    (fun t h j => by
      by_cases h2 : t.val % 4 = 3
      · rw [outsAt0_C m c t h (by omega) h2]
        frame_out
        rw [pay_next, read_unread_whole]
      · rw [outsAt0_B m c t h (by omega) h2]
        frame_out
        rw [pay_next, read_unread_whole]) t hr y, zero_add]

/-- What the last point of a run writes back. -/
theorem out_last (t : Fin cfg0.N) (hr : t.val % 4 = 3) (y : S1024x1024.Idx) :
    (outsAt0 m c t.val t.isLt).1 y = (outsAt0 m c t.val t.isLt).2 y := by
  rw [outsAt0_C m c t (by omega) (by omega) hr]
  frame_out
  pointwise [k0_pay4]

/-- The array the product ends in. -/
theorem final : (dats m 0 c).arrAt 2 (cfgs 0).N = Cert.OutDwRefIdeal.Read.val_main_v4 (F := Ideal) (x0 m c) (x1 m c) := by
  refine (dats m 0 c).arrAt_eq_of_covers 2 _ (by decide +kernel) fun t hf y => ?_
  have hr : t.val % 4 = 3 := (flush0_2 t).mp hf
  blk_simp
  rw [after0_2, out_last m c t hr, acc m c t hr]
  idx_vars y
  pointwise [Cert.OutDwRefIdeal.Read.val_main_v4, Cert.OutDwRefIdeal.Read.val_main_v3, Cert.OutDwRefIdeal.Read.val_main_v2]
  unfold part
  refine Fin.sum_mul_add_congr fun s k hl => ?_
  refine (mul_comm (_ : EReal) _).trans ?_
  blk_point [iblk, V, idx t, idx ⟨_, Pipeline.run_point_lt_of_flush t hr s⟩]

theorem ref_congr {a0 b0 a1 b1} (h0 : a0 = b0) (h1 : a1 = b1) :
    Cert.OutDwRefIdeal.Read.val_main_v4 (F := Ideal) a0 a1 = Cert.OutDwRefIdeal.Read.val_main_v4 b0 b1 := by
  subst h0 h1; rfl

/-- The reference runs to its end and leaves its arguments alone. -/
theorem frame_ref : Cert.quiescent_OutDwRefIdeal := fun m g _ =>
  (θ_run Cert.OutDwRefIdeal.defs _ _).mono (fun r h => ⟨fun c => (h c).2, sem_eq_zero_of_no_sems (by decide) r.2⟩)
    (Cert.OutDwRefIdeal.Value.run m g)

/-- Over the reals the call's result is the reference's. -/
theorem algebraic : Cert.algebraic_OutDwIdeal_OutDwRefIdeal := by
  intro m g m' g' _ hagree
  refine ⟨fun c => Cert.OutDwRefIdeal.Read.val_main_v4 (F := Ideal) (x0 m c) (x1 m c), ?_, ?_⟩
  · refine (θ_run Cert.OutDwIdeal.defs _ _).mono (fun r h c => ?_) (Cert.OutDwIdeal.Value.run_blocks m g)
    exact ⟨(h c).1.trans (final m c), (h c).2⟩
  · refine (θ_run Cert.OutDwRefIdeal.defs _ _).mono (fun r h c => ?_) (Cert.OutDwRefIdeal.Value.run m' g')
    obtain ⟨e0, e1⟩ := hagree c
    exact ⟨((h c).1.trans (Cert.OutDwRefIdeal.Read.val_main_v4_eq _ _)).trans (ref_congr e0 e1), (h c).2⟩

end Cert.OutDwIdeal.Final
-- ==== Proof.BranchDw.lean ====
module

public import proofs.«01_k».proof.Defs
public import proofs.«01_k».proof.Proof.Gen.BranchDwIdeal.Value
public import proofs.«01_k».proof.Proof.Gen.BranchDwRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of a branch's output projection's weights. -/

namespace Cert.BranchDwIdeal.Final

open Cert.BranchDwIdeal Cert.BranchDwIdeal.Gen

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

abbrev x0 : FVec Ideal S8192x512 .f32 := m (c.tc.loc main_arg0)
abbrev x1 : FVec Ideal S8192x1024 .f32 := m (c.tc.loc main_arg1)

/-- One block's part of the product, at a place of the output's block. -/
def part (A : FVec Ideal S2048x512 .bf16) (B : FVec Ideal S2048x1024 .bf16) (y : S512x1024.Idx) : EReal :=
  ∑ k : Fin 2048, (A (ix2 k (y 0)) : EReal) * B (ix2 k (y 1))

theorem pay_first (A : FVec Ideal S2048x512 .bf16) (B : FVec Ideal S2048x1024 .bf16) (y : S512x1024.Idx) :
    (k0_pay2 (F := Ideal) A B y : EReal) = part A B y := by
  idx_vars y
  pointwise [k0_pay2, k0_pay1, part]

theorem pay_next (A : FVec Ideal S2048x512 .bf16) (B : FVec Ideal S2048x1024 .bf16) (C : FVec Ideal S512x1024 .f32) (y : S512x1024.Idx) :
    (k0_pay3 (F := Ideal) A B C y : EReal) = C y + part A B y := by
  idx_vars y
  pointwise [k0_pay3, k0_pay1, part]

/-- What the scratch holds after the last point of a run: the parts of the run's points, added. -/
theorem acc (t : Fin cfg0.N) (hr : t.val % 4 = 3) (y : S512x1024.Idx) :
    (outsAt0 m c t.val t.isLt).2 y
      = ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  rw [Pipeline.eq_sum_fin_of_reset_step_apply_of_flush (fun n h => (outsAt0 m c n h).2) 4 (fun _ => (0 : EReal))
    (fun t y => part (iblk m c 0 t) (iblk m c 1 t) y)
    (fun t h j => by
      have := lt_of_lt_of_eq t.isLt (show cfg0.N = 4 from N_0)
      rw [outsAt0_A m c t h (by omega) (by omega)]
      frame_out
      rw [pay_first, zero_add])
    (fun t h j => by
      by_cases h2 : t.val % 4 = 3
      · rw [outsAt0_C m c t h (by omega) h2]
        frame_out
        rw [pay_next, read_unread_whole]
      · rw [outsAt0_B m c t h (by omega) h2]
        frame_out
        rw [pay_next, read_unread_whole]) t hr y, zero_add]

/-- What the last point of a run writes back. -/
theorem out_last (t : Fin cfg0.N) (hr : t.val % 4 = 3) (y : S512x1024.Idx) :
    (outsAt0 m c t.val t.isLt).1 y = (outsAt0 m c t.val t.isLt).2 y := by
  rw [outsAt0_C m c t (by omega) (by omega) hr]
  frame_out
  pointwise [k0_pay4]

/-- The array the product ends in. -/
theorem final : (dats m 0 c).arrAt 2 (cfgs 0).N = Cert.BranchDwRefIdeal.Read.val_main_v4 (F := Ideal) (x0 m c) (x1 m c) := by
  refine (dats m 0 c).arrAt_eq_of_covers 2 _ (by decide +kernel) fun t hf y => ?_
  have hr : t.val % 4 = 3 := (flush0_2 t).mp hf
  blk_simp
  rw [after0_2, out_last m c t hr, acc m c t hr]
  idx_vars y
  pointwise [Cert.BranchDwRefIdeal.Read.val_main_v4, Cert.BranchDwRefIdeal.Read.val_main_v3, Cert.BranchDwRefIdeal.Read.val_main_v2]
  unfold part
  refine Fin.sum_mul_add_congr fun s k hl => ?_
  refine (mul_comm (_ : EReal) _).trans ?_
  blk_point [iblk, V, idx t, idx ⟨_, Pipeline.run_point_lt_of_flush t hr s⟩]

theorem ref_congr {a0 b0 a1 b1} (h0 : a0 = b0) (h1 : a1 = b1) :
    Cert.BranchDwRefIdeal.Read.val_main_v4 (F := Ideal) a0 a1 = Cert.BranchDwRefIdeal.Read.val_main_v4 b0 b1 := by
  subst h0 h1; rfl

/-- The reference runs to its end and leaves its arguments alone. -/
theorem frame_ref : Cert.quiescent_BranchDwRefIdeal := fun m g _ =>
  (θ_run Cert.BranchDwRefIdeal.defs _ _).mono (fun r h => ⟨fun c => (h c).2, sem_eq_zero_of_no_sems (by decide) r.2⟩)
    (Cert.BranchDwRefIdeal.Value.run m g)

/-- Over the reals the call's result is the reference's. -/
theorem algebraic : Cert.algebraic_BranchDwIdeal_BranchDwRefIdeal := by
  intro m g m' g' _ hagree
  refine ⟨fun c => Cert.BranchDwRefIdeal.Read.val_main_v4 (F := Ideal) (x0 m c) (x1 m c), ?_, ?_⟩
  · refine (θ_run Cert.BranchDwIdeal.defs _ _).mono (fun r h c => ?_) (Cert.BranchDwIdeal.Value.run_blocks m g)
    exact ⟨(h c).1.trans (final m c), (h c).2⟩
  · refine (θ_run Cert.BranchDwRefIdeal.defs _ _).mono (fun r h c => ?_) (Cert.BranchDwRefIdeal.Value.run m' g')
    obtain ⟨e0, e1⟩ := hagree c
    exact ⟨((h c).1.trans (Cert.BranchDwRefIdeal.Read.val_main_v4_eq _ _)).trans (ref_congr e0 e1), (h c).2⟩

end Cert.BranchDwIdeal.Final
-- ==== Proof.Adam.lean ====
module

public import Idealize.ShloMosaic.PureOps.Ideal
public import Idealize.ShloMosaic.PureOps.Ideal.Laws
public import Idealize.ShloMosaic.PureOps.IdealRules

@[expose] public section

noncomputable section

open Idealize.ShloMosaic

/-! One AdamW step of one element, on the extended reals. -/

namespace Cert.Adam

/-- The first moment: a weighted mean of the old one and the gradient. -/
def newM (g m : EReal) : EReal := Ideal.ofBits .f32 0x3F666666#32 * m + Ideal.ofBits .f32 0x3DCCCCCD#32 * g

/-- The second moment: a weighted mean of the old one and the gradient's square. -/
def newV (g v : EReal) : EReal := Ideal.ofBits .f32 0x3F7FBE77#32 * v + Ideal.ofBits .f32 0x3A83126F#32 * (g * g)

/-- The step: both moments divided by their constants, the quotient by the root, and the decay. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

theorem bias1 : Ideal.ofBits .f32 0x3F26BD02#32 = ((5463681 / 8388608 : ℝ) : EReal) := by
  simp [Ideal.ofBits, Ideal.ieee, -EReal.coe_mul]; norm_num

theorem bias2 : Ideal.ofBits .f32 0x3C231ACC#32 = ((2672307 / 268435456 : ℝ) : EReal) := by
  simp [Ideal.ofBits, Ideal.ieee, -EReal.coe_mul]; norm_num

/-- Times the reciprocal is divided by the constant, on every extended real. -/
theorem div_bias1 (x : EReal) : Ideal.div x (Ideal.ofBits .f32 0x3F26BD02#32) = x * ((8388608 / 5463681 : ℝ) : EReal) := by
  rw [bias1, Ideal.div_coe (by norm_num)]
  norm_num

theorem div_bias2 (x : EReal) : Ideal.div x (Ideal.ofBits .f32 0x3C231ACC#32) = x * ((268435456 / 2672307 : ℝ) : EReal) := by
  rw [bias2, Ideal.div_coe (by norm_num)]
  norm_num

theorem congr2 {α β : Type _} (f : α → α → β) {a a' b b' : α} (h0 : a = a') (h1 : b = b') : f a b = f a' b' := by
  subst h0 h1; rfl

theorem congr4 {α β : Type _} (f : α → α → α → α → β) {a a' b b' c c' d d' : α} (h0 : a = a') (h1 : b = b') (h2 : c = c')
    (h3 : d = d') : f a b c d = f a' b' c' d' := by
  subst h0 h1 h2 h3; rfl

end Cert.Adam
-- ==== Proof.AdamAda.lean ====
module

public import proofs.«01_k».proof.Defs
public import proofs.«01_k».proof.Proof.Gen.AdamAda.Frame
public import proofs.«01_k».proof.Proof.Gen.AdamAdaIdeal.Value
public import proofs.«01_k».proof.Proof.Gen.AdamAdaRefIdeal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The step of the modulation weights (each of the two). -/

namespace Cert.AdamAdaIdeal.Final

open Cert.AdamAdaIdeal Cert.AdamAdaIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

abbrev x0 : FVec Ideal S2x1024x768 .f32 := m (c.tc.loc main_arg0)
abbrev x1 : FVec Ideal S2x1024x768 .f32 := m (c.tc.loc main_arg1)
abbrev x2 : FVec Ideal S2x1024x768 .f32 := m (c.tc.loc main_arg2)
abbrev x3 : FVec Ideal S2x1024x768 .f32 := m (c.tc.loc main_arg3)

theorem named1 : Named.named (F := Ideal) Cert.AdamAdaIdeal.κ "c1" (φ := .f32) 0x3FC48605#32 = ((8388608 / 5463681 : ℝ) : EReal) :=
  IdealRules.named_const.ideal_named_scalar _ _ _ _ rfl

theorem named2 : Named.named (F := Ideal) Cert.AdamAdaIdeal.κ "c2" (φ := .f32) 0x42C8E6D3#32 = ((268435456 / 2672307 : ℝ) : EReal) :=
  IdealRules.named_const.ideal_named_scalar _ _ _ _ rfl

theorem preserves : Cert.preserves_AdamAda_AdamAdaIdeal :=
  ⟨IdealRules.named_const.statement Cert.AdamAdaIdeal.κ "c1" .f32 0x3FC48605#32 ((8388608 / 5463681 : ℝ) : EReal) rfl,
    IdealRules.named_const.statement Cert.AdamAdaIdeal.κ "c2" .f32 0x42C8E6D3#32 ((268435456 / 2672307 : ℝ) : EReal) rfl⟩

theorem pay_m (g w : FVec Ideal S512x768 .f32) (y : S512x768.Idx) : (k0_pay2 (F := Ideal) g w y : EReal) = Adam.newM (g y) (w y) := by
  idx_vars y
  pointwise [k0_pay2, k0_pay1, Adam.newM]

theorem pay_v (g w : FVec Ideal S512x768 .f32) (y : S512x768.Idx) : (k0_pay3 (F := Ideal) g w y : EReal) = Adam.newV (g y) (w y) := by
  idx_vars y
  pointwise [k0_pay3, k0_pay1, Adam.newV]

theorem pay_d (g mm v w : FVec Ideal S512x768 .f32) (y : S512x768.Idx) :
    (k0_pay4 (F := Ideal) g mm v w y : EReal) = Adam.delta (w y) (g y) (mm y) (v y) := by
  unfold Adam.delta
  rw [Adam.div_bias1, Adam.div_bias2, ← pay_m, ← pay_v, ← named1, ← named2]
  idx_vars y
  pointwise [k0_pay4]

theorem ref_m (g w : FVec Ideal S2x1024x768 .f32) (y : S2x1024x768.Idx) :
    (Cert.AdamAdaRefIdeal.Read.val_main_v4 (F := Ideal) g w y : EReal) = Adam.newM (g y) (w y) := by
  idx_vars y
  pointwise [Cert.AdamAdaRefIdeal.Read.val_main_v4, Cert.AdamAdaRefIdeal.Read.val_main_v3, Cert.AdamAdaRefIdeal.Read.val_main_v2, Cert.AdamAdaRefIdeal.Read.val_main_v1, Cert.AdamAdaRefIdeal.Read.val_main_v0, Cert.AdamAdaRefIdeal.Read.val_main_cst, Cert.AdamAdaRefIdeal.Read.val_main_cst_0, Adam.newM]

theorem ref_v (g w : FVec Ideal S2x1024x768 .f32) (y : S2x1024x768.Idx) :
    (Cert.AdamAdaRefIdeal.Read.val_main_v10 (F := Ideal) g w y : EReal) = Adam.newV (g y) (w y) := by
  idx_vars y
  pointwise [Cert.AdamAdaRefIdeal.Read.val_main_v10, Cert.AdamAdaRefIdeal.Read.val_main_v9, Cert.AdamAdaRefIdeal.Read.val_main_v8, Cert.AdamAdaRefIdeal.Read.val_main_v7, Cert.AdamAdaRefIdeal.Read.val_main_v6, Cert.AdamAdaRefIdeal.Read.val_main_v5, Cert.AdamAdaRefIdeal.Read.val_main_cst_1, Cert.AdamAdaRefIdeal.Read.val_main_cst_2, Adam.newV]

theorem ref_d (w g mm v : FVec Ideal S2x1024x768 .f32) (y : S2x1024x768.Idx) :
    (Cert.AdamAdaRefIdeal.Read.val_main_v23 (F := Ideal) w g mm v y : EReal) = Adam.delta (w y) (g y) (mm y) (v y) := by
  unfold Adam.delta
  rw [← ref_m, ← ref_v]
  idx_vars y
  pointwise [Cert.AdamAdaRefIdeal.Read.val_main_v23, Cert.AdamAdaRefIdeal.Read.val_main_v22, Cert.AdamAdaRefIdeal.Read.val_main_v21, Cert.AdamAdaRefIdeal.Read.val_main_v20, Cert.AdamAdaRefIdeal.Read.val_main_v19, Cert.AdamAdaRefIdeal.Read.val_main_v18, Cert.AdamAdaRefIdeal.Read.val_main_v17, Cert.AdamAdaRefIdeal.Read.val_main_v16, Cert.AdamAdaRefIdeal.Read.val_main_v15, Cert.AdamAdaRefIdeal.Read.val_main_v14, Cert.AdamAdaRefIdeal.Read.val_main_v13, Cert.AdamAdaRefIdeal.Read.val_main_v12, Cert.AdamAdaRefIdeal.Read.val_main_v11, Cert.AdamAdaRefIdeal.Read.val_main_cst_3, Cert.AdamAdaRefIdeal.Read.val_main_cst_4, Cert.AdamAdaRefIdeal.Read.val_main_cst_5, Cert.AdamAdaRefIdeal.Read.val_main_cst_6, Cert.AdamAdaRefIdeal.Read.val_main_cst_7]

theorem flat_d (w g mm v : FVec Ideal S2x1024x768 .f32) (i : S2048x768.Idx) :
    (Cert.AdamAdaRefIdeal.Read.val_main_v24 (F := Ideal) w g mm v i : EReal) = Adam.delta (shapeCast S2048x768 w shapeCasts_S2x1024x768_S2048x768 i) (shapeCast S2048x768 g shapeCasts_S2x1024x768_S2048x768 i) (shapeCast S2048x768 mm shapeCasts_S2x1024x768_S2048x768 i) (shapeCast S2048x768 v shapeCasts_S2x1024x768_S2048x768 i) :=
  ref_d _ _ _ _ _

theorem flat_m (g w : FVec Ideal S2x1024x768 .f32) (i : S2048x768.Idx) :
    (Cert.AdamAdaRefIdeal.Read.val_main_v25 (F := Ideal) g w i : EReal) = Adam.newM (shapeCast S2048x768 g shapeCasts_S2x1024x768_S2048x768 i) (shapeCast S2048x768 w shapeCasts_S2x1024x768_S2048x768 i) :=
  ref_m _ _ _

theorem flat_v (g w : FVec Ideal S2x1024x768 .f32) (i : S2048x768.Idx) :
    (Cert.AdamAdaRefIdeal.Read.val_main_v26 (F := Ideal) g w i : EReal) = Adam.newV (shapeCast S2048x768 g shapeCasts_S2x1024x768_S2048x768 i) (shapeCast S2048x768 w shapeCasts_S2x1024x768_S2048x768 i) :=
  ref_v _ _ _

theorem final_d : (dats m 0 c).arrAt 4 (cfgs 0).N = Cert.AdamAdaRefIdeal.Read.val_main_v24 (F := Ideal) (x0 m c) (x1 m c) (x2 m c) (x3 m c) := by
  refine (dats m 0 c).arrAt_eq_of_covers 4 _ (by decide +kernel) fun t hf y => ?_
  blk_simp
  rw [after0_4]
  unfold out0_4
  frame_out
  rw [pay_d, flat_d]
  rfl

theorem final_m : (dats m 0 c).arrAt 5 (cfgs 0).N = Cert.AdamAdaRefIdeal.Read.val_main_v25 (F := Ideal) (x1 m c) (x2 m c) := by
  refine (dats m 0 c).arrAt_eq_of_covers 5 _ (by decide +kernel) fun t hf y => ?_
  blk_simp
  rw [after0_5]
  unfold out0_5
  frame_out
  rw [pay_m, flat_m]
  rfl

theorem final_v : (dats m 0 c).arrAt 6 (cfgs 0).N = Cert.AdamAdaRefIdeal.Read.val_main_v26 (F := Ideal) (x1 m c) (x3 m c) := by
  refine (dats m 0 c).arrAt_eq_of_covers 6 _ (by decide +kernel) fun t hf y => ?_
  blk_simp
  rw [after0_6]
  unfold out0_6
  frame_out
  rw [pay_v, flat_v]
  rfl

/-- The reference runs to its end and leaves its arguments alone. -/
theorem frame_ref : Cert.quiescent_AdamAdaRefIdeal := fun m g _ =>
  (θ_run Cert.AdamAdaRefIdeal.defs _ _).mono (fun r h => ⟨fun c => (h c).2.2.2, sem_eq_zero_of_no_sems (by decide) r.2⟩)
    (Cert.AdamAdaRefIdeal.Value.run m g)

theorem ref_congr {a0 b0 a1 b1 a2 b2 a3 b3} (h0 : a0 = b0) (h1 : a1 = b1) (h2 : a2 = b2) (h3 : a3 = b3) :
    Cert.AdamAdaRefIdeal.Read.val_main_v24 (F := Ideal) a0 a1 a2 a3 = Cert.AdamAdaRefIdeal.Read.val_main_v24 b0 b1 b2 b3
      ∧ Cert.AdamAdaRefIdeal.Read.val_main_v25 (F := Ideal) a1 a2 = Cert.AdamAdaRefIdeal.Read.val_main_v25 b1 b2
      ∧ Cert.AdamAdaRefIdeal.Read.val_main_v26 (F := Ideal) a1 a3 = Cert.AdamAdaRefIdeal.Read.val_main_v26 b1 b3 := by
  subst h0 h1 h2 h3; exact ⟨rfl, rfl, rfl⟩

/-- Over the reals the step's three results are the reference's. -/
theorem algebraic : Cert.algebraic_AdamAdaIdeal_AdamAdaRefIdeal := by
  intro m g m' g' _ hagree
  refine ⟨fun c => Cert.AdamAdaRefIdeal.Read.val_main_v24 (F := Ideal) (x0 m c) (x1 m c) (x2 m c) (x3 m c),
    fun c => Cert.AdamAdaRefIdeal.Read.val_main_v25 (F := Ideal) (x1 m c) (x2 m c),
    fun c => Cert.AdamAdaRefIdeal.Read.val_main_v26 (F := Ideal) (x1 m c) (x3 m c), ?_, ?_⟩
  · refine (θ_run Cert.AdamAdaIdeal.defs _ _).mono (fun r h c => ?_) (Cert.AdamAdaIdeal.Value.run_blocks m g)
    exact ⟨(h c).1.trans (final_d m c), (h c).2.1.trans (final_m m c), (h c).2.2.1.trans (final_v m c), (h c).2.2.2⟩
  · refine (θ_run Cert.AdamAdaRefIdeal.defs _ _).mono (fun r h c => ?_) (Cert.AdamAdaRefIdeal.Value.run m' g')
    obtain ⟨e0, e1, e2, e3⟩ := hagree c
    obtain ⟨c0, c1, c2⟩ := ref_congr e0 e1 e2 e3
    exact ⟨((h c).1.trans (Cert.AdamAdaRefIdeal.Read.val_main_v24_eq _ _ _ _)).trans c0,
      ((h c).2.1.trans (Cert.AdamAdaRefIdeal.Read.val_main_v25_eq _ _)).trans c1,
      ((h c).2.2.1.trans (Cert.AdamAdaRefIdeal.Read.val_main_v26_eq _ _)).trans c2, (h c).2.2.2⟩

end Cert.AdamAdaIdeal.Final
-- ==== Proof.AdamUp.lean ====
module

public import proofs.«01_k».proof.Defs
public import proofs.«01_k».proof.Proof.Gen.AdamUp.Frame
public import proofs.«01_k».proof.Proof.Gen.AdamUpIdeal.Value
public import proofs.«01_k».proof.Proof.Gen.AdamUpRefIdeal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The step of the up projection's weights. -/

namespace Cert.AdamUpIdeal.Final

open Cert.AdamUpIdeal Cert.AdamUpIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

abbrev x0 : FVec Ideal S2x1024x1408 .f32 := m (c.tc.loc main_arg0)
abbrev x1 : FVec Ideal S2x1024x1408 .f32 := m (c.tc.loc main_arg1)
abbrev x2 : FVec Ideal S2x1024x1408 .f32 := m (c.tc.loc main_arg2)
abbrev x3 : FVec Ideal S2x1024x1408 .f32 := m (c.tc.loc main_arg3)

theorem named1 : Named.named (F := Ideal) Cert.AdamUpIdeal.κ "c1" (φ := .f32) 0x3FC48605#32 = ((8388608 / 5463681 : ℝ) : EReal) :=
  IdealRules.named_const.ideal_named_scalar _ _ _ _ rfl

theorem named2 : Named.named (F := Ideal) Cert.AdamUpIdeal.κ "c2" (φ := .f32) 0x42C8E6D3#32 = ((268435456 / 2672307 : ℝ) : EReal) :=
  IdealRules.named_const.ideal_named_scalar _ _ _ _ rfl

theorem preserves : Cert.preserves_AdamUp_AdamUpIdeal :=
  ⟨IdealRules.named_const.statement Cert.AdamUpIdeal.κ "c1" .f32 0x3FC48605#32 ((8388608 / 5463681 : ℝ) : EReal) rfl,
    IdealRules.named_const.statement Cert.AdamUpIdeal.κ "c2" .f32 0x42C8E6D3#32 ((268435456 / 2672307 : ℝ) : EReal) rfl⟩

theorem pay_m (g w : FVec Ideal S256x1408 .f32) (y : S256x1408.Idx) : (k0_pay2 (F := Ideal) g w y : EReal) = Adam.newM (g y) (w y) := by
  idx_vars y
  pointwise [k0_pay2, k0_pay1, Adam.newM]

theorem pay_v (g w : FVec Ideal S256x1408 .f32) (y : S256x1408.Idx) : (k0_pay3 (F := Ideal) g w y : EReal) = Adam.newV (g y) (w y) := by
  idx_vars y
  pointwise [k0_pay3, k0_pay1, Adam.newV]

theorem pay_d (g mm v w : FVec Ideal S256x1408 .f32) (y : S256x1408.Idx) :
    (k0_pay4 (F := Ideal) g mm v w y : EReal) = Adam.delta (w y) (g y) (mm y) (v y) := by
  unfold Adam.delta
  rw [Adam.div_bias1, Adam.div_bias2, ← pay_m, ← pay_v, ← named1, ← named2]
  idx_vars y
  pointwise [k0_pay4]

theorem ref_m (g w : FVec Ideal S2x1024x1408 .f32) (y : S2x1024x1408.Idx) :
    (Cert.AdamUpRefIdeal.Read.val_main_v4 (F := Ideal) g w y : EReal) = Adam.newM (g y) (w y) := by
  idx_vars y
  pointwise [Cert.AdamUpRefIdeal.Read.val_main_v4, Cert.AdamUpRefIdeal.Read.val_main_v3, Cert.AdamUpRefIdeal.Read.val_main_v2, Cert.AdamUpRefIdeal.Read.val_main_v1, Cert.AdamUpRefIdeal.Read.val_main_v0, Cert.AdamUpRefIdeal.Read.val_main_cst, Cert.AdamUpRefIdeal.Read.val_main_cst_0, Adam.newM]

theorem ref_v (g w : FVec Ideal S2x1024x1408 .f32) (y : S2x1024x1408.Idx) :
    (Cert.AdamUpRefIdeal.Read.val_main_v10 (F := Ideal) g w y : EReal) = Adam.newV (g y) (w y) := by
  idx_vars y
  pointwise [Cert.AdamUpRefIdeal.Read.val_main_v10, Cert.AdamUpRefIdeal.Read.val_main_v9, Cert.AdamUpRefIdeal.Read.val_main_v8, Cert.AdamUpRefIdeal.Read.val_main_v7, Cert.AdamUpRefIdeal.Read.val_main_v6, Cert.AdamUpRefIdeal.Read.val_main_v5, Cert.AdamUpRefIdeal.Read.val_main_cst_1, Cert.AdamUpRefIdeal.Read.val_main_cst_2, Adam.newV]

theorem ref_d (w g mm v : FVec Ideal S2x1024x1408 .f32) (y : S2x1024x1408.Idx) :
    (Cert.AdamUpRefIdeal.Read.val_main_v23 (F := Ideal) w g mm v y : EReal) = Adam.delta (w y) (g y) (mm y) (v y) := by
  unfold Adam.delta
  rw [← ref_m, ← ref_v]
  idx_vars y
  pointwise [Cert.AdamUpRefIdeal.Read.val_main_v23, Cert.AdamUpRefIdeal.Read.val_main_v22, Cert.AdamUpRefIdeal.Read.val_main_v21, Cert.AdamUpRefIdeal.Read.val_main_v20, Cert.AdamUpRefIdeal.Read.val_main_v19, Cert.AdamUpRefIdeal.Read.val_main_v18, Cert.AdamUpRefIdeal.Read.val_main_v17, Cert.AdamUpRefIdeal.Read.val_main_v16, Cert.AdamUpRefIdeal.Read.val_main_v15, Cert.AdamUpRefIdeal.Read.val_main_v14, Cert.AdamUpRefIdeal.Read.val_main_v13, Cert.AdamUpRefIdeal.Read.val_main_v12, Cert.AdamUpRefIdeal.Read.val_main_v11, Cert.AdamUpRefIdeal.Read.val_main_cst_3, Cert.AdamUpRefIdeal.Read.val_main_cst_4, Cert.AdamUpRefIdeal.Read.val_main_cst_5, Cert.AdamUpRefIdeal.Read.val_main_cst_6, Cert.AdamUpRefIdeal.Read.val_main_cst_7]

theorem flat_d (w g mm v : FVec Ideal S2x1024x1408 .f32) (i : S2048x1408.Idx) :
    (Cert.AdamUpRefIdeal.Read.val_main_v24 (F := Ideal) w g mm v i : EReal) = Adam.delta (shapeCast S2048x1408 w shapeCasts_S2x1024x1408_S2048x1408 i) (shapeCast S2048x1408 g shapeCasts_S2x1024x1408_S2048x1408 i) (shapeCast S2048x1408 mm shapeCasts_S2x1024x1408_S2048x1408 i) (shapeCast S2048x1408 v shapeCasts_S2x1024x1408_S2048x1408 i) :=
  ref_d _ _ _ _ _

theorem flat_m (g w : FVec Ideal S2x1024x1408 .f32) (i : S2048x1408.Idx) :
    (Cert.AdamUpRefIdeal.Read.val_main_v25 (F := Ideal) g w i : EReal) = Adam.newM (shapeCast S2048x1408 g shapeCasts_S2x1024x1408_S2048x1408 i) (shapeCast S2048x1408 w shapeCasts_S2x1024x1408_S2048x1408 i) :=
  ref_m _ _ _

theorem flat_v (g w : FVec Ideal S2x1024x1408 .f32) (i : S2048x1408.Idx) :
    (Cert.AdamUpRefIdeal.Read.val_main_v26 (F := Ideal) g w i : EReal) = Adam.newV (shapeCast S2048x1408 g shapeCasts_S2x1024x1408_S2048x1408 i) (shapeCast S2048x1408 w shapeCasts_S2x1024x1408_S2048x1408 i) :=
  ref_v _ _ _

theorem final_d : (dats m 0 c).arrAt 4 (cfgs 0).N = Cert.AdamUpRefIdeal.Read.val_main_v24 (F := Ideal) (x0 m c) (x1 m c) (x2 m c) (x3 m c) := by
  refine (dats m 0 c).arrAt_eq_of_covers 4 _ (by decide +kernel) fun t hf y => ?_
  blk_simp
  rw [after0_4]
  unfold out0_4
  frame_out
  rw [pay_d, flat_d]
  rfl

theorem final_m : (dats m 0 c).arrAt 5 (cfgs 0).N = Cert.AdamUpRefIdeal.Read.val_main_v25 (F := Ideal) (x1 m c) (x2 m c) := by
  refine (dats m 0 c).arrAt_eq_of_covers 5 _ (by decide +kernel) fun t hf y => ?_
  blk_simp
  rw [after0_5]
  unfold out0_5
  frame_out
  rw [pay_m, flat_m]
  rfl

theorem final_v : (dats m 0 c).arrAt 6 (cfgs 0).N = Cert.AdamUpRefIdeal.Read.val_main_v26 (F := Ideal) (x1 m c) (x3 m c) := by
  refine (dats m 0 c).arrAt_eq_of_covers 6 _ (by decide +kernel) fun t hf y => ?_
  blk_simp
  rw [after0_6]
  unfold out0_6
  frame_out
  rw [pay_v, flat_v]
  rfl

/-- The reference runs to its end and leaves its arguments alone. -/
theorem frame_ref : Cert.quiescent_AdamUpRefIdeal := fun m g _ =>
  (θ_run Cert.AdamUpRefIdeal.defs _ _).mono (fun r h => ⟨fun c => (h c).2.2.2, sem_eq_zero_of_no_sems (by decide) r.2⟩)
    (Cert.AdamUpRefIdeal.Value.run m g)

theorem ref_congr {a0 b0 a1 b1 a2 b2 a3 b3} (h0 : a0 = b0) (h1 : a1 = b1) (h2 : a2 = b2) (h3 : a3 = b3) :
    Cert.AdamUpRefIdeal.Read.val_main_v24 (F := Ideal) a0 a1 a2 a3 = Cert.AdamUpRefIdeal.Read.val_main_v24 b0 b1 b2 b3
      ∧ Cert.AdamUpRefIdeal.Read.val_main_v25 (F := Ideal) a1 a2 = Cert.AdamUpRefIdeal.Read.val_main_v25 b1 b2
      ∧ Cert.AdamUpRefIdeal.Read.val_main_v26 (F := Ideal) a1 a3 = Cert.AdamUpRefIdeal.Read.val_main_v26 b1 b3 := by
  subst h0 h1 h2 h3; exact ⟨rfl, rfl, rfl⟩

/-- Over the reals the step's three results are the reference's. -/
theorem algebraic : Cert.algebraic_AdamUpIdeal_AdamUpRefIdeal := by
  intro m g m' g' _ hagree
  refine ⟨fun c => Cert.AdamUpRefIdeal.Read.val_main_v24 (F := Ideal) (x0 m c) (x1 m c) (x2 m c) (x3 m c),
    fun c => Cert.AdamUpRefIdeal.Read.val_main_v25 (F := Ideal) (x1 m c) (x2 m c),
    fun c => Cert.AdamUpRefIdeal.Read.val_main_v26 (F := Ideal) (x1 m c) (x3 m c), ?_, ?_⟩
  · refine (θ_run Cert.AdamUpIdeal.defs _ _).mono (fun r h c => ?_) (Cert.AdamUpIdeal.Value.run_blocks m g)
    exact ⟨(h c).1.trans (final_d m c), (h c).2.1.trans (final_m m c), (h c).2.2.1.trans (final_v m c), (h c).2.2.2⟩
  · refine (θ_run Cert.AdamUpRefIdeal.defs _ _).mono (fun r h c => ?_) (Cert.AdamUpRefIdeal.Value.run m' g')
    obtain ⟨e0, e1, e2, e3⟩ := hagree c
    obtain ⟨c0, c1, c2⟩ := ref_congr e0 e1 e2 e3
    exact ⟨((h c).1.trans (Cert.AdamUpRefIdeal.Read.val_main_v24_eq _ _ _ _)).trans c0,
      ((h c).2.1.trans (Cert.AdamUpRefIdeal.Read.val_main_v25_eq _ _)).trans c1,
      ((h c).2.2.1.trans (Cert.AdamUpRefIdeal.Read.val_main_v26_eq _ _)).trans c2, (h c).2.2.2⟩

end Cert.AdamUpIdeal.Final
-- ==== Proof.AdamBranch.lean ====
module

public import proofs.«01_k».proof.Defs
public import proofs.«01_k».proof.Proof.Gen.AdamBranch.Frame
public import proofs.«01_k».proof.Proof.Gen.AdamBranchIdeal.Value
public import proofs.«01_k».proof.Proof.Gen.AdamBranchRefIdeal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The step of a branch's output projection's weights (each of the two). -/

namespace Cert.AdamBranchIdeal.Final

open Cert.AdamBranchIdeal Cert.AdamBranchIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

abbrev x0 : FVec Ideal S2x512x256 .f32 := m (c.tc.loc main_arg0)
abbrev x1 : FVec Ideal S2x512x256 .f32 := m (c.tc.loc main_arg1)
abbrev x2 : FVec Ideal S2x512x256 .f32 := m (c.tc.loc main_arg2)
abbrev x3 : FVec Ideal S2x512x256 .f32 := m (c.tc.loc main_arg3)

theorem named1 : Named.named (F := Ideal) Cert.AdamBranchIdeal.κ "c1" (φ := .f32) 0x3FC48605#32 = ((8388608 / 5463681 : ℝ) : EReal) :=
  IdealRules.named_const.ideal_named_scalar _ _ _ _ rfl

theorem named2 : Named.named (F := Ideal) Cert.AdamBranchIdeal.κ "c2" (φ := .f32) 0x42C8E6D3#32 = ((268435456 / 2672307 : ℝ) : EReal) :=
  IdealRules.named_const.ideal_named_scalar _ _ _ _ rfl

theorem preserves : Cert.preserves_AdamBranch_AdamBranchIdeal :=
  ⟨IdealRules.named_const.statement Cert.AdamBranchIdeal.κ "c1" .f32 0x3FC48605#32 ((8388608 / 5463681 : ℝ) : EReal) rfl,
    IdealRules.named_const.statement Cert.AdamBranchIdeal.κ "c2" .f32 0x42C8E6D3#32 ((268435456 / 2672307 : ℝ) : EReal) rfl⟩

theorem pay_m (g w : FVec Ideal S1024x256 .f32) (y : S1024x256.Idx) : (k0_pay2 (F := Ideal) g w y : EReal) = Adam.newM (g y) (w y) := by
  idx_vars y
  pointwise [k0_pay2, k0_pay1, Adam.newM]

theorem pay_v (g w : FVec Ideal S1024x256 .f32) (y : S1024x256.Idx) : (k0_pay3 (F := Ideal) g w y : EReal) = Adam.newV (g y) (w y) := by
  idx_vars y
  pointwise [k0_pay3, k0_pay1, Adam.newV]

theorem pay_d (g mm v w : FVec Ideal S1024x256 .f32) (y : S1024x256.Idx) :
    (k0_pay4 (F := Ideal) g mm v w y : EReal) = Adam.delta (w y) (g y) (mm y) (v y) := by
  unfold Adam.delta
  rw [Adam.div_bias1, Adam.div_bias2, ← pay_m, ← pay_v, ← named1, ← named2]
  idx_vars y
  pointwise [k0_pay4]

theorem ref_m (g w : FVec Ideal S2x512x256 .f32) (y : S2x512x256.Idx) :
    (Cert.AdamBranchRefIdeal.Read.val_main_v4 (F := Ideal) g w y : EReal) = Adam.newM (g y) (w y) := by
  idx_vars y
  pointwise [Cert.AdamBranchRefIdeal.Read.val_main_v4, Cert.AdamBranchRefIdeal.Read.val_main_v3, Cert.AdamBranchRefIdeal.Read.val_main_v2, Cert.AdamBranchRefIdeal.Read.val_main_v1, Cert.AdamBranchRefIdeal.Read.val_main_v0, Cert.AdamBranchRefIdeal.Read.val_main_cst, Cert.AdamBranchRefIdeal.Read.val_main_cst_0, Adam.newM]

theorem ref_v (g w : FVec Ideal S2x512x256 .f32) (y : S2x512x256.Idx) :
    (Cert.AdamBranchRefIdeal.Read.val_main_v10 (F := Ideal) g w y : EReal) = Adam.newV (g y) (w y) := by
  idx_vars y
  pointwise [Cert.AdamBranchRefIdeal.Read.val_main_v10, Cert.AdamBranchRefIdeal.Read.val_main_v9, Cert.AdamBranchRefIdeal.Read.val_main_v8, Cert.AdamBranchRefIdeal.Read.val_main_v7, Cert.AdamBranchRefIdeal.Read.val_main_v6, Cert.AdamBranchRefIdeal.Read.val_main_v5, Cert.AdamBranchRefIdeal.Read.val_main_cst_1, Cert.AdamBranchRefIdeal.Read.val_main_cst_2, Adam.newV]

theorem ref_d (w g mm v : FVec Ideal S2x512x256 .f32) (y : S2x512x256.Idx) :
    (Cert.AdamBranchRefIdeal.Read.val_main_v23 (F := Ideal) w g mm v y : EReal) = Adam.delta (w y) (g y) (mm y) (v y) := by
  unfold Adam.delta
  rw [← ref_m, ← ref_v]
  idx_vars y
  pointwise [Cert.AdamBranchRefIdeal.Read.val_main_v23, Cert.AdamBranchRefIdeal.Read.val_main_v22, Cert.AdamBranchRefIdeal.Read.val_main_v21, Cert.AdamBranchRefIdeal.Read.val_main_v20, Cert.AdamBranchRefIdeal.Read.val_main_v19, Cert.AdamBranchRefIdeal.Read.val_main_v18, Cert.AdamBranchRefIdeal.Read.val_main_v17, Cert.AdamBranchRefIdeal.Read.val_main_v16, Cert.AdamBranchRefIdeal.Read.val_main_v15, Cert.AdamBranchRefIdeal.Read.val_main_v14, Cert.AdamBranchRefIdeal.Read.val_main_v13, Cert.AdamBranchRefIdeal.Read.val_main_v12, Cert.AdamBranchRefIdeal.Read.val_main_v11, Cert.AdamBranchRefIdeal.Read.val_main_cst_3, Cert.AdamBranchRefIdeal.Read.val_main_cst_4, Cert.AdamBranchRefIdeal.Read.val_main_cst_5, Cert.AdamBranchRefIdeal.Read.val_main_cst_6, Cert.AdamBranchRefIdeal.Read.val_main_cst_7]

theorem flat_d (w g mm v : FVec Ideal S2x512x256 .f32) (i : S1024x256.Idx) :
    (Cert.AdamBranchRefIdeal.Read.val_main_v24 (F := Ideal) w g mm v i : EReal) = Adam.delta (shapeCast S1024x256 w shapeCasts_S2x512x256_S1024x256 i) (shapeCast S1024x256 g shapeCasts_S2x512x256_S1024x256 i) (shapeCast S1024x256 mm shapeCasts_S2x512x256_S1024x256 i) (shapeCast S1024x256 v shapeCasts_S2x512x256_S1024x256 i) :=
  ref_d _ _ _ _ _

theorem flat_m (g w : FVec Ideal S2x512x256 .f32) (i : S1024x256.Idx) :
    (Cert.AdamBranchRefIdeal.Read.val_main_v25 (F := Ideal) g w i : EReal) = Adam.newM (shapeCast S1024x256 g shapeCasts_S2x512x256_S1024x256 i) (shapeCast S1024x256 w shapeCasts_S2x512x256_S1024x256 i) :=
  ref_m _ _ _

theorem flat_v (g w : FVec Ideal S2x512x256 .f32) (i : S1024x256.Idx) :
    (Cert.AdamBranchRefIdeal.Read.val_main_v26 (F := Ideal) g w i : EReal) = Adam.newV (shapeCast S1024x256 g shapeCasts_S2x512x256_S1024x256 i) (shapeCast S1024x256 w shapeCasts_S2x512x256_S1024x256 i) :=
  ref_v _ _ _

theorem final_d : (dats m 0 c).arrAt 4 (cfgs 0).N = Cert.AdamBranchRefIdeal.Read.val_main_v24 (F := Ideal) (x0 m c) (x1 m c) (x2 m c) (x3 m c) := by
  refine (dats m 0 c).arrAt_eq_of_covers 4 _ (by decide +kernel) fun t hf y => ?_
  blk_simp
  rw [after0_4]
  unfold out0_4
  frame_out
  rw [pay_d, flat_d]
  rfl

theorem final_m : (dats m 0 c).arrAt 5 (cfgs 0).N = Cert.AdamBranchRefIdeal.Read.val_main_v25 (F := Ideal) (x1 m c) (x2 m c) := by
  refine (dats m 0 c).arrAt_eq_of_covers 5 _ (by decide +kernel) fun t hf y => ?_
  blk_simp
  rw [after0_5]
  unfold out0_5
  frame_out
  rw [pay_m, flat_m]
  rfl

theorem final_v : (dats m 0 c).arrAt 6 (cfgs 0).N = Cert.AdamBranchRefIdeal.Read.val_main_v26 (F := Ideal) (x1 m c) (x3 m c) := by
  refine (dats m 0 c).arrAt_eq_of_covers 6 _ (by decide +kernel) fun t hf y => ?_
  blk_simp
  rw [after0_6]
  unfold out0_6
  frame_out
  rw [pay_v, flat_v]
  rfl

/-- The reference runs to its end and leaves its arguments alone. -/
theorem frame_ref : Cert.quiescent_AdamBranchRefIdeal := fun m g _ =>
  (θ_run Cert.AdamBranchRefIdeal.defs _ _).mono (fun r h => ⟨fun c => (h c).2.2.2, sem_eq_zero_of_no_sems (by decide) r.2⟩)
    (Cert.AdamBranchRefIdeal.Value.run m g)

theorem ref_congr {a0 b0 a1 b1 a2 b2 a3 b3} (h0 : a0 = b0) (h1 : a1 = b1) (h2 : a2 = b2) (h3 : a3 = b3) :
    Cert.AdamBranchRefIdeal.Read.val_main_v24 (F := Ideal) a0 a1 a2 a3 = Cert.AdamBranchRefIdeal.Read.val_main_v24 b0 b1 b2 b3
      ∧ Cert.AdamBranchRefIdeal.Read.val_main_v25 (F := Ideal) a1 a2 = Cert.AdamBranchRefIdeal.Read.val_main_v25 b1 b2
      ∧ Cert.AdamBranchRefIdeal.Read.val_main_v26 (F := Ideal) a1 a3 = Cert.AdamBranchRefIdeal.Read.val_main_v26 b1 b3 := by
  subst h0 h1 h2 h3; exact ⟨rfl, rfl, rfl⟩

/-- Over the reals the step's three results are the reference's. -/
theorem algebraic : Cert.algebraic_AdamBranchIdeal_AdamBranchRefIdeal := by
  intro m g m' g' _ hagree
  refine ⟨fun c => Cert.AdamBranchRefIdeal.Read.val_main_v24 (F := Ideal) (x0 m c) (x1 m c) (x2 m c) (x3 m c),
    fun c => Cert.AdamBranchRefIdeal.Read.val_main_v25 (F := Ideal) (x1 m c) (x2 m c),
    fun c => Cert.AdamBranchRefIdeal.Read.val_main_v26 (F := Ideal) (x1 m c) (x3 m c), ?_, ?_⟩
  · refine (θ_run Cert.AdamBranchIdeal.defs _ _).mono (fun r h c => ?_) (Cert.AdamBranchIdeal.Value.run_blocks m g)
    exact ⟨(h c).1.trans (final_d m c), (h c).2.1.trans (final_m m c), (h c).2.2.1.trans (final_v m c), (h c).2.2.2⟩
  · refine (θ_run Cert.AdamBranchRefIdeal.defs _ _).mono (fun r h c => ?_) (Cert.AdamBranchRefIdeal.Value.run m' g')
    obtain ⟨e0, e1, e2, e3⟩ := hagree c
    obtain ⟨c0, c1, c2⟩ := ref_congr e0 e1 e2 e3
    exact ⟨((h c).1.trans (Cert.AdamBranchRefIdeal.Read.val_main_v24_eq _ _ _ _)).trans c0,
      ((h c).2.1.trans (Cert.AdamBranchRefIdeal.Read.val_main_v25_eq _ _)).trans c1,
      ((h c).2.2.1.trans (Cert.AdamBranchRefIdeal.Read.val_main_v26_eq _ _)).trans c2, (h c).2.2.2⟩

end Cert.AdamBranchIdeal.Final
-- ==== Proof.AdamOut.lean ====
module

public import proofs.«01_k».proof.Defs
public import proofs.«01_k».proof.Proof.Gen.AdamOut.Frame
public import proofs.«01_k».proof.Proof.Gen.AdamOutIdeal.Value
public import proofs.«01_k».proof.Proof.Gen.AdamOutRefIdeal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The step of an output projection's weights (each of the two). -/

namespace Cert.AdamOutIdeal.Final

open Cert.AdamOutIdeal Cert.AdamOutIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

abbrev x0 : FVec Ideal S2x256x1024 .f32 := m (c.tc.loc main_arg0)
abbrev x1 : FVec Ideal S2x256x1024 .f32 := m (c.tc.loc main_arg1)
abbrev x2 : FVec Ideal S2x256x1024 .f32 := m (c.tc.loc main_arg2)
abbrev x3 : FVec Ideal S2x256x1024 .f32 := m (c.tc.loc main_arg3)

theorem named1 : Named.named (F := Ideal) Cert.AdamOutIdeal.κ "c1" (φ := .f32) 0x3FC48605#32 = ((8388608 / 5463681 : ℝ) : EReal) :=
  IdealRules.named_const.ideal_named_scalar _ _ _ _ rfl

theorem named2 : Named.named (F := Ideal) Cert.AdamOutIdeal.κ "c2" (φ := .f32) 0x42C8E6D3#32 = ((268435456 / 2672307 : ℝ) : EReal) :=
  IdealRules.named_const.ideal_named_scalar _ _ _ _ rfl

theorem preserves : Cert.preserves_AdamOut_AdamOutIdeal :=
  ⟨IdealRules.named_const.statement Cert.AdamOutIdeal.κ "c1" .f32 0x3FC48605#32 ((8388608 / 5463681 : ℝ) : EReal) rfl,
    IdealRules.named_const.statement Cert.AdamOutIdeal.κ "c2" .f32 0x42C8E6D3#32 ((268435456 / 2672307 : ℝ) : EReal) rfl⟩

theorem pay_m (g w : FVec Ideal S512x1024 .f32) (y : S512x1024.Idx) : (k0_pay2 (F := Ideal) g w y : EReal) = Adam.newM (g y) (w y) := by
  idx_vars y
  pointwise [k0_pay2, k0_pay1, Adam.newM]

theorem pay_v (g w : FVec Ideal S512x1024 .f32) (y : S512x1024.Idx) : (k0_pay3 (F := Ideal) g w y : EReal) = Adam.newV (g y) (w y) := by
  idx_vars y
  pointwise [k0_pay3, k0_pay1, Adam.newV]

theorem pay_d (g mm v w : FVec Ideal S512x1024 .f32) (y : S512x1024.Idx) :
    (k0_pay4 (F := Ideal) g mm v w y : EReal) = Adam.delta (w y) (g y) (mm y) (v y) := by
  unfold Adam.delta
  rw [Adam.div_bias1, Adam.div_bias2, ← pay_m, ← pay_v, ← named1, ← named2]
  idx_vars y
  pointwise [k0_pay4]

theorem ref_m (g w : FVec Ideal S2x256x1024 .f32) (y : S2x256x1024.Idx) :
    (Cert.AdamOutRefIdeal.Read.val_main_v4 (F := Ideal) g w y : EReal) = Adam.newM (g y) (w y) := by
  idx_vars y
  pointwise [Cert.AdamOutRefIdeal.Read.val_main_v4, Cert.AdamOutRefIdeal.Read.val_main_v3, Cert.AdamOutRefIdeal.Read.val_main_v2, Cert.AdamOutRefIdeal.Read.val_main_v1, Cert.AdamOutRefIdeal.Read.val_main_v0, Cert.AdamOutRefIdeal.Read.val_main_cst, Cert.AdamOutRefIdeal.Read.val_main_cst_0, Adam.newM]

theorem ref_v (g w : FVec Ideal S2x256x1024 .f32) (y : S2x256x1024.Idx) :
    (Cert.AdamOutRefIdeal.Read.val_main_v10 (F := Ideal) g w y : EReal) = Adam.newV (g y) (w y) := by
  idx_vars y
  pointwise [Cert.AdamOutRefIdeal.Read.val_main_v10, Cert.AdamOutRefIdeal.Read.val_main_v9, Cert.AdamOutRefIdeal.Read.val_main_v8, Cert.AdamOutRefIdeal.Read.val_main_v7, Cert.AdamOutRefIdeal.Read.val_main_v6, Cert.AdamOutRefIdeal.Read.val_main_v5, Cert.AdamOutRefIdeal.Read.val_main_cst_1, Cert.AdamOutRefIdeal.Read.val_main_cst_2, Adam.newV]

theorem ref_d (w g mm v : FVec Ideal S2x256x1024 .f32) (y : S2x256x1024.Idx) :
    (Cert.AdamOutRefIdeal.Read.val_main_v23 (F := Ideal) w g mm v y : EReal) = Adam.delta (w y) (g y) (mm y) (v y) := by
  unfold Adam.delta
  rw [← ref_m, ← ref_v]
  idx_vars y
  pointwise [Cert.AdamOutRefIdeal.Read.val_main_v23, Cert.AdamOutRefIdeal.Read.val_main_v22, Cert.AdamOutRefIdeal.Read.val_main_v21, Cert.AdamOutRefIdeal.Read.val_main_v20, Cert.AdamOutRefIdeal.Read.val_main_v19, Cert.AdamOutRefIdeal.Read.val_main_v18, Cert.AdamOutRefIdeal.Read.val_main_v17, Cert.AdamOutRefIdeal.Read.val_main_v16, Cert.AdamOutRefIdeal.Read.val_main_v15, Cert.AdamOutRefIdeal.Read.val_main_v14, Cert.AdamOutRefIdeal.Read.val_main_v13, Cert.AdamOutRefIdeal.Read.val_main_v12, Cert.AdamOutRefIdeal.Read.val_main_v11, Cert.AdamOutRefIdeal.Read.val_main_cst_3, Cert.AdamOutRefIdeal.Read.val_main_cst_4, Cert.AdamOutRefIdeal.Read.val_main_cst_5, Cert.AdamOutRefIdeal.Read.val_main_cst_6, Cert.AdamOutRefIdeal.Read.val_main_cst_7]

theorem flat_d (w g mm v : FVec Ideal S2x256x1024 .f32) (i : S512x1024.Idx) :
    (Cert.AdamOutRefIdeal.Read.val_main_v24 (F := Ideal) w g mm v i : EReal) = Adam.delta (shapeCast S512x1024 w shapeCasts_S2x256x1024_S512x1024 i) (shapeCast S512x1024 g shapeCasts_S2x256x1024_S512x1024 i) (shapeCast S512x1024 mm shapeCasts_S2x256x1024_S512x1024 i) (shapeCast S512x1024 v shapeCasts_S2x256x1024_S512x1024 i) :=
  ref_d _ _ _ _ _

theorem flat_m (g w : FVec Ideal S2x256x1024 .f32) (i : S512x1024.Idx) :
    (Cert.AdamOutRefIdeal.Read.val_main_v25 (F := Ideal) g w i : EReal) = Adam.newM (shapeCast S512x1024 g shapeCasts_S2x256x1024_S512x1024 i) (shapeCast S512x1024 w shapeCasts_S2x256x1024_S512x1024 i) :=
  ref_m _ _ _

theorem flat_v (g w : FVec Ideal S2x256x1024 .f32) (i : S512x1024.Idx) :
    (Cert.AdamOutRefIdeal.Read.val_main_v26 (F := Ideal) g w i : EReal) = Adam.newV (shapeCast S512x1024 g shapeCasts_S2x256x1024_S512x1024 i) (shapeCast S512x1024 w shapeCasts_S2x256x1024_S512x1024 i) :=
  ref_v _ _ _

theorem final_d : (dats m 0 c).arrAt 4 (cfgs 0).N = Cert.AdamOutRefIdeal.Read.val_main_v24 (F := Ideal) (x0 m c) (x1 m c) (x2 m c) (x3 m c) := by
  refine (dats m 0 c).arrAt_eq_of_covers 4 _ (by decide +kernel) fun t hf y => ?_
  blk_simp
  rw [after0_4]
  unfold out0_4
  frame_out
  rw [pay_d, flat_d]
  rfl

theorem final_m : (dats m 0 c).arrAt 5 (cfgs 0).N = Cert.AdamOutRefIdeal.Read.val_main_v25 (F := Ideal) (x1 m c) (x2 m c) := by
  refine (dats m 0 c).arrAt_eq_of_covers 5 _ (by decide +kernel) fun t hf y => ?_
  blk_simp
  rw [after0_5]
  unfold out0_5
  frame_out
  rw [pay_m, flat_m]
  rfl

theorem final_v : (dats m 0 c).arrAt 6 (cfgs 0).N = Cert.AdamOutRefIdeal.Read.val_main_v26 (F := Ideal) (x1 m c) (x3 m c) := by
  refine (dats m 0 c).arrAt_eq_of_covers 6 _ (by decide +kernel) fun t hf y => ?_
  blk_simp
  rw [after0_6]
  unfold out0_6
  frame_out
  rw [pay_v, flat_v]
  rfl

/-- The reference runs to its end and leaves its arguments alone. -/
theorem frame_ref : Cert.quiescent_AdamOutRefIdeal := fun m g _ =>
  (θ_run Cert.AdamOutRefIdeal.defs _ _).mono (fun r h => ⟨fun c => (h c).2.2.2, sem_eq_zero_of_no_sems (by decide) r.2⟩)
    (Cert.AdamOutRefIdeal.Value.run m g)

theorem ref_congr {a0 b0 a1 b1 a2 b2 a3 b3} (h0 : a0 = b0) (h1 : a1 = b1) (h2 : a2 = b2) (h3 : a3 = b3) :
    Cert.AdamOutRefIdeal.Read.val_main_v24 (F := Ideal) a0 a1 a2 a3 = Cert.AdamOutRefIdeal.Read.val_main_v24 b0 b1 b2 b3
      ∧ Cert.AdamOutRefIdeal.Read.val_main_v25 (F := Ideal) a1 a2 = Cert.AdamOutRefIdeal.Read.val_main_v25 b1 b2
      ∧ Cert.AdamOutRefIdeal.Read.val_main_v26 (F := Ideal) a1 a3 = Cert.AdamOutRefIdeal.Read.val_main_v26 b1 b3 := by
  subst h0 h1 h2 h3; exact ⟨rfl, rfl, rfl⟩

/-- Over the reals the step's three results are the reference's. -/
theorem algebraic : Cert.algebraic_AdamOutIdeal_AdamOutRefIdeal := by
  intro m g m' g' _ hagree
  refine ⟨fun c => Cert.AdamOutRefIdeal.Read.val_main_v24 (F := Ideal) (x0 m c) (x1 m c) (x2 m c) (x3 m c),
    fun c => Cert.AdamOutRefIdeal.Read.val_main_v25 (F := Ideal) (x1 m c) (x2 m c),
    fun c => Cert.AdamOutRefIdeal.Read.val_main_v26 (F := Ideal) (x1 m c) (x3 m c), ?_, ?_⟩
  · refine (θ_run Cert.AdamOutIdeal.defs _ _).mono (fun r h c => ?_) (Cert.AdamOutIdeal.Value.run_blocks m g)
    exact ⟨(h c).1.trans (final_d m c), (h c).2.1.trans (final_m m c), (h c).2.2.1.trans (final_v m c), (h c).2.2.2⟩
  · refine (θ_run Cert.AdamOutRefIdeal.defs _ _).mono (fun r h c => ?_) (Cert.AdamOutRefIdeal.Value.run m' g')
    obtain ⟨e0, e1, e2, e3⟩ := hagree c
    obtain ⟨c0, c1, c2⟩ := ref_congr e0 e1 e2 e3
    exact ⟨((h c).1.trans (Cert.AdamOutRefIdeal.Read.val_main_v24_eq _ _ _ _)).trans c0,
      ((h c).2.1.trans (Cert.AdamOutRefIdeal.Read.val_main_v25_eq _ _)).trans c1,
      ((h c).2.2.1.trans (Cert.AdamOutRefIdeal.Read.val_main_v26_eq _ _)).trans c2, (h c).2.2.2⟩

end Cert.AdamOutIdeal.Final
-- ==== Proof.AdamDown.lean ====
module

public import proofs.«01_k».proof.Defs
public import proofs.«01_k».proof.Proof.Gen.AdamDown.Frame
public import proofs.«01_k».proof.Proof.Gen.AdamDownIdeal.Value
public import proofs.«01_k».proof.Proof.Gen.AdamDownRefIdeal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The step of the down projection's weights. -/

namespace Cert.AdamDownIdeal.Final

open Cert.AdamDownIdeal Cert.AdamDownIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

abbrev x0 : FVec Ideal S2x704x1024 .f32 := m (c.tc.loc main_arg0)
abbrev x1 : FVec Ideal S2x704x1024 .f32 := m (c.tc.loc main_arg1)
abbrev x2 : FVec Ideal S2x704x1024 .f32 := m (c.tc.loc main_arg2)
abbrev x3 : FVec Ideal S2x704x1024 .f32 := m (c.tc.loc main_arg3)

theorem named1 : Named.named (F := Ideal) Cert.AdamDownIdeal.κ "c1" (φ := .f32) 0x3FC48605#32 = ((8388608 / 5463681 : ℝ) : EReal) :=
  IdealRules.named_const.ideal_named_scalar _ _ _ _ rfl

theorem named2 : Named.named (F := Ideal) Cert.AdamDownIdeal.κ "c2" (φ := .f32) 0x42C8E6D3#32 = ((268435456 / 2672307 : ℝ) : EReal) :=
  IdealRules.named_const.ideal_named_scalar _ _ _ _ rfl

theorem preserves : Cert.preserves_AdamDown_AdamDownIdeal :=
  ⟨IdealRules.named_const.statement Cert.AdamDownIdeal.κ "c1" .f32 0x3FC48605#32 ((8388608 / 5463681 : ℝ) : EReal) rfl,
    IdealRules.named_const.statement Cert.AdamDownIdeal.κ "c2" .f32 0x42C8E6D3#32 ((268435456 / 2672307 : ℝ) : EReal) rfl⟩

theorem pay_m (g w : FVec Ideal S352x1024 .f32) (y : S352x1024.Idx) : (k0_pay2 (F := Ideal) g w y : EReal) = Adam.newM (g y) (w y) := by
  idx_vars y
  pointwise [k0_pay2, k0_pay1, Adam.newM]

theorem pay_v (g w : FVec Ideal S352x1024 .f32) (y : S352x1024.Idx) : (k0_pay3 (F := Ideal) g w y : EReal) = Adam.newV (g y) (w y) := by
  idx_vars y
  pointwise [k0_pay3, k0_pay1, Adam.newV]

theorem pay_d (g mm v w : FVec Ideal S352x1024 .f32) (y : S352x1024.Idx) :
    (k0_pay4 (F := Ideal) g mm v w y : EReal) = Adam.delta (w y) (g y) (mm y) (v y) := by
  unfold Adam.delta
  rw [Adam.div_bias1, Adam.div_bias2, ← pay_m, ← pay_v, ← named1, ← named2]
  idx_vars y
  pointwise [k0_pay4]

theorem ref_m (g w : FVec Ideal S2x704x1024 .f32) (y : S2x704x1024.Idx) :
    (Cert.AdamDownRefIdeal.Read.val_main_v4 (F := Ideal) g w y : EReal) = Adam.newM (g y) (w y) := by
  idx_vars y
  pointwise [Cert.AdamDownRefIdeal.Read.val_main_v4, Cert.AdamDownRefIdeal.Read.val_main_v3, Cert.AdamDownRefIdeal.Read.val_main_v2, Cert.AdamDownRefIdeal.Read.val_main_v1, Cert.AdamDownRefIdeal.Read.val_main_v0, Cert.AdamDownRefIdeal.Read.val_main_cst, Cert.AdamDownRefIdeal.Read.val_main_cst_0, Adam.newM]

theorem ref_v (g w : FVec Ideal S2x704x1024 .f32) (y : S2x704x1024.Idx) :
    (Cert.AdamDownRefIdeal.Read.val_main_v10 (F := Ideal) g w y : EReal) = Adam.newV (g y) (w y) := by
  idx_vars y
  pointwise [Cert.AdamDownRefIdeal.Read.val_main_v10, Cert.AdamDownRefIdeal.Read.val_main_v9, Cert.AdamDownRefIdeal.Read.val_main_v8, Cert.AdamDownRefIdeal.Read.val_main_v7, Cert.AdamDownRefIdeal.Read.val_main_v6, Cert.AdamDownRefIdeal.Read.val_main_v5, Cert.AdamDownRefIdeal.Read.val_main_cst_1, Cert.AdamDownRefIdeal.Read.val_main_cst_2, Adam.newV]

theorem ref_d (w g mm v : FVec Ideal S2x704x1024 .f32) (y : S2x704x1024.Idx) :
    (Cert.AdamDownRefIdeal.Read.val_main_v23 (F := Ideal) w g mm v y : EReal) = Adam.delta (w y) (g y) (mm y) (v y) := by
  unfold Adam.delta
  rw [← ref_m, ← ref_v]
  idx_vars y
  pointwise [Cert.AdamDownRefIdeal.Read.val_main_v23, Cert.AdamDownRefIdeal.Read.val_main_v22, Cert.AdamDownRefIdeal.Read.val_main_v21, Cert.AdamDownRefIdeal.Read.val_main_v20, Cert.AdamDownRefIdeal.Read.val_main_v19, Cert.AdamDownRefIdeal.Read.val_main_v18, Cert.AdamDownRefIdeal.Read.val_main_v17, Cert.AdamDownRefIdeal.Read.val_main_v16, Cert.AdamDownRefIdeal.Read.val_main_v15, Cert.AdamDownRefIdeal.Read.val_main_v14, Cert.AdamDownRefIdeal.Read.val_main_v13, Cert.AdamDownRefIdeal.Read.val_main_v12, Cert.AdamDownRefIdeal.Read.val_main_v11, Cert.AdamDownRefIdeal.Read.val_main_cst_3, Cert.AdamDownRefIdeal.Read.val_main_cst_4, Cert.AdamDownRefIdeal.Read.val_main_cst_5, Cert.AdamDownRefIdeal.Read.val_main_cst_6, Cert.AdamDownRefIdeal.Read.val_main_cst_7]

theorem flat_d (w g mm v : FVec Ideal S2x704x1024 .f32) (i : S1408x1024.Idx) :
    (Cert.AdamDownRefIdeal.Read.val_main_v24 (F := Ideal) w g mm v i : EReal) = Adam.delta (shapeCast S1408x1024 w shapeCasts_S2x704x1024_S1408x1024 i) (shapeCast S1408x1024 g shapeCasts_S2x704x1024_S1408x1024 i) (shapeCast S1408x1024 mm shapeCasts_S2x704x1024_S1408x1024 i) (shapeCast S1408x1024 v shapeCasts_S2x704x1024_S1408x1024 i) :=
  ref_d _ _ _ _ _

theorem flat_m (g w : FVec Ideal S2x704x1024 .f32) (i : S1408x1024.Idx) :
    (Cert.AdamDownRefIdeal.Read.val_main_v25 (F := Ideal) g w i : EReal) = Adam.newM (shapeCast S1408x1024 g shapeCasts_S2x704x1024_S1408x1024 i) (shapeCast S1408x1024 w shapeCasts_S2x704x1024_S1408x1024 i) :=
  ref_m _ _ _

theorem flat_v (g w : FVec Ideal S2x704x1024 .f32) (i : S1408x1024.Idx) :
    (Cert.AdamDownRefIdeal.Read.val_main_v26 (F := Ideal) g w i : EReal) = Adam.newV (shapeCast S1408x1024 g shapeCasts_S2x704x1024_S1408x1024 i) (shapeCast S1408x1024 w shapeCasts_S2x704x1024_S1408x1024 i) :=
  ref_v _ _ _

theorem final_d : (dats m 0 c).arrAt 4 (cfgs 0).N = Cert.AdamDownRefIdeal.Read.val_main_v24 (F := Ideal) (x0 m c) (x1 m c) (x2 m c) (x3 m c) := by
  refine (dats m 0 c).arrAt_eq_of_covers 4 _ (by decide +kernel) fun t hf y => ?_
  blk_simp
  rw [after0_4]
  unfold out0_4
  frame_out
  rw [pay_d, flat_d]
  rfl

theorem final_m : (dats m 0 c).arrAt 5 (cfgs 0).N = Cert.AdamDownRefIdeal.Read.val_main_v25 (F := Ideal) (x1 m c) (x2 m c) := by
  refine (dats m 0 c).arrAt_eq_of_covers 5 _ (by decide +kernel) fun t hf y => ?_
  blk_simp
  rw [after0_5]
  unfold out0_5
  frame_out
  rw [pay_m, flat_m]
  rfl

theorem final_v : (dats m 0 c).arrAt 6 (cfgs 0).N = Cert.AdamDownRefIdeal.Read.val_main_v26 (F := Ideal) (x1 m c) (x3 m c) := by
  refine (dats m 0 c).arrAt_eq_of_covers 6 _ (by decide +kernel) fun t hf y => ?_
  blk_simp
  rw [after0_6]
  unfold out0_6
  frame_out
  rw [pay_v, flat_v]
  rfl

/-- The reference runs to its end and leaves its arguments alone. -/
theorem frame_ref : Cert.quiescent_AdamDownRefIdeal := fun m g _ =>
  (θ_run Cert.AdamDownRefIdeal.defs _ _).mono (fun r h => ⟨fun c => (h c).2.2.2, sem_eq_zero_of_no_sems (by decide) r.2⟩)
    (Cert.AdamDownRefIdeal.Value.run m g)

theorem ref_congr {a0 b0 a1 b1 a2 b2 a3 b3} (h0 : a0 = b0) (h1 : a1 = b1) (h2 : a2 = b2) (h3 : a3 = b3) :
    Cert.AdamDownRefIdeal.Read.val_main_v24 (F := Ideal) a0 a1 a2 a3 = Cert.AdamDownRefIdeal.Read.val_main_v24 b0 b1 b2 b3
      ∧ Cert.AdamDownRefIdeal.Read.val_main_v25 (F := Ideal) a1 a2 = Cert.AdamDownRefIdeal.Read.val_main_v25 b1 b2
      ∧ Cert.AdamDownRefIdeal.Read.val_main_v26 (F := Ideal) a1 a3 = Cert.AdamDownRefIdeal.Read.val_main_v26 b1 b3 := by
  subst h0 h1 h2 h3; exact ⟨rfl, rfl, rfl⟩

/-- Over the reals the step's three results are the reference's. -/
theorem algebraic : Cert.algebraic_AdamDownIdeal_AdamDownRefIdeal := by
  intro m g m' g' _ hagree
  refine ⟨fun c => Cert.AdamDownRefIdeal.Read.val_main_v24 (F := Ideal) (x0 m c) (x1 m c) (x2 m c) (x3 m c),
    fun c => Cert.AdamDownRefIdeal.Read.val_main_v25 (F := Ideal) (x1 m c) (x2 m c),
    fun c => Cert.AdamDownRefIdeal.Read.val_main_v26 (F := Ideal) (x1 m c) (x3 m c), ?_, ?_⟩
  · refine (θ_run Cert.AdamDownIdeal.defs _ _).mono (fun r h c => ?_) (Cert.AdamDownIdeal.Value.run_blocks m g)
    exact ⟨(h c).1.trans (final_d m c), (h c).2.1.trans (final_m m c), (h c).2.2.1.trans (final_v m c), (h c).2.2.2⟩
  · refine (θ_run Cert.AdamDownRefIdeal.defs _ _).mono (fun r h c => ?_) (Cert.AdamDownRefIdeal.Value.run m' g')
    obtain ⟨e0, e1, e2, e3⟩ := hagree c
    obtain ⟨c0, c1, c2⟩ := ref_congr e0 e1 e2 e3
    exact ⟨((h c).1.trans (Cert.AdamDownRefIdeal.Read.val_main_v24_eq _ _ _ _)).trans c0,
      ((h c).2.1.trans (Cert.AdamDownRefIdeal.Read.val_main_v25_eq _ _)).trans c1,
      ((h c).2.2.1.trans (Cert.AdamDownRefIdeal.Read.val_main_v26_eq _ _)).trans c2, (h c).2.2.2⟩

end Cert.AdamDownIdeal.Final
-- ==== Proof.AdamIn.lean ====
module

public import proofs.«01_k».proof.Defs
public import proofs.«01_k».proof.Proof.Gen.AdamIn.Frame
public import proofs.«01_k».proof.Proof.Gen.AdamInIdeal.Value
public import proofs.«01_k».proof.Proof.Gen.AdamInRefIdeal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The step of the input projection's weights, columns first. -/

namespace Cert.AdamInIdeal.Final

open Cert.AdamInIdeal Cert.AdamInIdeal.Gen

variable (m : (ℓ : Loc nD τ sig) → Buf (Elt Ideal) ℓ) (c : Dev nD)

theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

abbrev x0 : FVec Ideal S2x1024x1988 .f32 := m (c.tc.loc main_arg0)
abbrev x1 : FVec Ideal S2x1024x1988 .f32 := m (c.tc.loc main_arg1)
abbrev x2 : FVec Ideal S2x1024x1988 .f32 := m (c.tc.loc main_arg2)
abbrev x3 : FVec Ideal S2x1024x1988 .f32 := m (c.tc.loc main_arg3)

theorem named1 : Named.named (F := Ideal) Cert.AdamInIdeal.κ "c1" (φ := .f32) 0x3FC48605#32 = ((8388608 / 5463681 : ℝ) : EReal) :=
  IdealRules.named_const.ideal_named_scalar _ _ _ _ rfl

theorem named2 : Named.named (F := Ideal) Cert.AdamInIdeal.κ "c2" (φ := .f32) 0x42C8E6D3#32 = ((268435456 / 2672307 : ℝ) : EReal) :=
  IdealRules.named_const.ideal_named_scalar _ _ _ _ rfl

theorem preserves : Cert.preserves_AdamIn_AdamInIdeal :=
  ⟨IdealRules.named_const.statement Cert.AdamInIdeal.κ "c1" .f32 0x3FC48605#32 ((8388608 / 5463681 : ℝ) : EReal) rfl,
    IdealRules.named_const.statement Cert.AdamInIdeal.κ "c2" .f32 0x42C8E6D3#32 ((268435456 / 2672307 : ℝ) : EReal) rfl⟩

theorem pay_m (g w : FVec Ideal S284x2x1024 .f32) (y : S284x2x1024.Idx) : (k0_pay3 (F := Ideal) g w y : EReal) = Adam.newM (g y) (w y) := by
  idx_vars y
  pointwise [k0_pay3, k0_pay2, Adam.newM]

theorem pay_v (g w : FVec Ideal S284x2x1024 .f32) (y : S284x2x1024.Idx) : (k0_pay4 (F := Ideal) g w y : EReal) = Adam.newV (g y) (w y) := by
  idx_vars y
  pointwise [k0_pay4, k0_pay2, Adam.newV]

theorem pay_d (g mm v w : FVec Ideal S284x2x1024 .f32) (y : S284x2x1024.Idx) :
    (k0_pay1 (F := Ideal) (k0_pay5 g mm v) (k0_pay6 w) y : EReal) = Adam.delta (w y) (g y) (mm y) (v y) := by
  unfold Adam.delta
  rw [Adam.div_bias1, Adam.div_bias2, ← pay_m, ← pay_v, ← named1, ← named2]
  idx_vars y
  pointwise [k0_pay1, k0_pay5, k0_pay6]

theorem ref_m (g w : FVec Ideal S2x1024x1988 .f32) (y : S2x1024x1988.Idx) :
    (Cert.AdamInRefIdeal.Read.val_main_v4 (F := Ideal) g w y : EReal) = Adam.newM (g y) (w y) := by
  idx_vars y
  pointwise [Cert.AdamInRefIdeal.Read.val_main_v4, Cert.AdamInRefIdeal.Read.val_main_v3, Cert.AdamInRefIdeal.Read.val_main_v2, Cert.AdamInRefIdeal.Read.val_main_v1, Cert.AdamInRefIdeal.Read.val_main_v0, Cert.AdamInRefIdeal.Read.val_main_cst, Cert.AdamInRefIdeal.Read.val_main_cst_0, Adam.newM]

theorem ref_v (g w : FVec Ideal S2x1024x1988 .f32) (y : S2x1024x1988.Idx) :
    (Cert.AdamInRefIdeal.Read.val_main_v10 (F := Ideal) g w y : EReal) = Adam.newV (g y) (w y) := by
  idx_vars y
  pointwise [Cert.AdamInRefIdeal.Read.val_main_v10, Cert.AdamInRefIdeal.Read.val_main_v9, Cert.AdamInRefIdeal.Read.val_main_v8, Cert.AdamInRefIdeal.Read.val_main_v7, Cert.AdamInRefIdeal.Read.val_main_v6, Cert.AdamInRefIdeal.Read.val_main_v5, Cert.AdamInRefIdeal.Read.val_main_cst_1, Cert.AdamInRefIdeal.Read.val_main_cst_2, Adam.newV]

theorem ref_d (w g mm v : FVec Ideal S2x1024x1988 .f32) (y : S2x1024x1988.Idx) :
    (Cert.AdamInRefIdeal.Read.val_main_v23 (F := Ideal) w g mm v y : EReal) = Adam.delta (w y) (g y) (mm y) (v y) := by
  unfold Adam.delta
  rw [← ref_m, ← ref_v]
  idx_vars y
  pointwise [Cert.AdamInRefIdeal.Read.val_main_v23, Cert.AdamInRefIdeal.Read.val_main_v22, Cert.AdamInRefIdeal.Read.val_main_v21, Cert.AdamInRefIdeal.Read.val_main_v20, Cert.AdamInRefIdeal.Read.val_main_v19, Cert.AdamInRefIdeal.Read.val_main_v18, Cert.AdamInRefIdeal.Read.val_main_v17, Cert.AdamInRefIdeal.Read.val_main_v16, Cert.AdamInRefIdeal.Read.val_main_v15, Cert.AdamInRefIdeal.Read.val_main_v14, Cert.AdamInRefIdeal.Read.val_main_v13, Cert.AdamInRefIdeal.Read.val_main_v12, Cert.AdamInRefIdeal.Read.val_main_v11, Cert.AdamInRefIdeal.Read.val_main_cst_3, Cert.AdamInRefIdeal.Read.val_main_cst_4, Cert.AdamInRefIdeal.Read.val_main_cst_5, Cert.AdamInRefIdeal.Read.val_main_cst_6, Cert.AdamInRefIdeal.Read.val_main_cst_7]

theorem final_d : (dats m 0 c).arrAt 4 (cfgs 0).N = Cert.AdamInRefIdeal.Read.val_main_v24 (F := Ideal) (x0 m c) (x1 m c) (x2 m c) (x3 m c) := by
  refine (dats m 0 c).arrAt_eq_of_covers 4 _ (by decide +kernel) fun t hf y => ?_
  blk_simp
  rw [after0_4]
  unfold out0_4
  frame_out
  rw [pay_d]
  idx_vars y
  pointwise [Cert.AdamInRefIdeal.Read.val_main_v24]
  rw [ref_d]
  blk_point [iblk, V, idx t]

theorem final_m : (dats m 0 c).arrAt 5 (cfgs 0).N = Cert.AdamInRefIdeal.Read.val_main_v25 (F := Ideal) (x1 m c) (x2 m c) := by
  refine (dats m 0 c).arrAt_eq_of_covers 5 _ (by decide +kernel) fun t hf y => ?_
  blk_simp
  rw [after0_5]
  unfold out0_5
  frame_out
  rw [pay_m]
  idx_vars y
  pointwise [Cert.AdamInRefIdeal.Read.val_main_v25]
  rw [ref_m]
  blk_point [iblk, V, idx t]

theorem final_v : (dats m 0 c).arrAt 6 (cfgs 0).N = Cert.AdamInRefIdeal.Read.val_main_v26 (F := Ideal) (x1 m c) (x3 m c) := by
  refine (dats m 0 c).arrAt_eq_of_covers 6 _ (by decide +kernel) fun t hf y => ?_
  blk_simp
  rw [after0_6]
  unfold out0_6
  frame_out
  rw [pay_v]
  idx_vars y
  pointwise [Cert.AdamInRefIdeal.Read.val_main_v26]
  rw [ref_v]
  blk_point [iblk, V, idx t]

/-- The reference runs to its end and leaves its arguments alone. -/
theorem frame_ref : Cert.quiescent_AdamInRefIdeal := fun m g _ =>
  (θ_run Cert.AdamInRefIdeal.defs _ _).mono (fun r h => ⟨fun c => (h c).2.2.2, sem_eq_zero_of_no_sems (by decide) r.2⟩)
    (Cert.AdamInRefIdeal.Value.run m g)

theorem ref_congr {a0 b0 a1 b1 a2 b2 a3 b3} (h0 : a0 = b0) (h1 : a1 = b1) (h2 : a2 = b2) (h3 : a3 = b3) :
    Cert.AdamInRefIdeal.Read.val_main_v24 (F := Ideal) a0 a1 a2 a3 = Cert.AdamInRefIdeal.Read.val_main_v24 b0 b1 b2 b3
      ∧ Cert.AdamInRefIdeal.Read.val_main_v25 (F := Ideal) a1 a2 = Cert.AdamInRefIdeal.Read.val_main_v25 b1 b2
      ∧ Cert.AdamInRefIdeal.Read.val_main_v26 (F := Ideal) a1 a3 = Cert.AdamInRefIdeal.Read.val_main_v26 b1 b3 := by
  subst h0 h1 h2 h3; exact ⟨rfl, rfl, rfl⟩

/-- Over the reals the step's three results are the reference's. -/
theorem algebraic : Cert.algebraic_AdamInIdeal_AdamInRefIdeal := by
  intro m g m' g' _ hagree
  refine ⟨fun c => Cert.AdamInRefIdeal.Read.val_main_v24 (F := Ideal) (x0 m c) (x1 m c) (x2 m c) (x3 m c),
    fun c => Cert.AdamInRefIdeal.Read.val_main_v25 (F := Ideal) (x1 m c) (x2 m c),
    fun c => Cert.AdamInRefIdeal.Read.val_main_v26 (F := Ideal) (x1 m c) (x3 m c), ?_, ?_⟩
  · refine (θ_run Cert.AdamInIdeal.defs _ _).mono (fun r h c => ?_) (Cert.AdamInIdeal.Value.run_blocks m g)
    exact ⟨(h c).1.trans (final_d m c), (h c).2.1.trans (final_m m c), (h c).2.2.1.trans (final_v m c), (h c).2.2.2⟩
  · refine (θ_run Cert.AdamInRefIdeal.defs _ _).mono (fun r h c => ?_) (Cert.AdamInRefIdeal.Value.run m' g')
    obtain ⟨e0, e1, e2, e3⟩ := hagree c
    obtain ⟨c0, c1, c2⟩ := ref_congr e0 e1 e2 e3
    exact ⟨((h c).1.trans (Cert.AdamInRefIdeal.Read.val_main_v24_eq _ _ _ _)).trans c0,
      ((h c).2.1.trans (Cert.AdamInRefIdeal.Read.val_main_v25_eq _ _)).trans c1,
      ((h c).2.2.1.trans (Cert.AdamInRefIdeal.Read.val_main_v26_eq _ _)).trans c2, (h c).2.2.2⟩

end Cert.AdamInIdeal.Final
-- ==== Proof.AdamVec.lean ====
module

public import proofs.«01_k».proof.Defs
public import proofs.«01_k».proof.Proof.Gen.AdamVec.Frame
public import proofs.«01_k».proof.Proof.Gen.AdamVecIdeal.Value
public import proofs.«01_k».proof.Proof.Gen.AdamVecRefIdeal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The steps of the weights that are vectors, one shape after another. -/

namespace Cert.AdamVecIdeal.Final

open Cert.AdamVecIdeal Cert.AdamVecIdeal.Gen

variable (m : (ℓ : Loc nD τ sig) → Buf (Elt Ideal) ℓ) (c : Dev nD)

abbrev x0 : FVec Ideal S2x3072 .f32 := m (c.tc.loc main_arg0)
abbrev x1 : FVec Ideal S2x1024 .f32 := m (c.tc.loc main_arg1)
abbrev x2 : FVec Ideal S2x1280 .f32 := m (c.tc.loc main_arg2)
abbrev x3 : FVec Ideal S1024 .f32 := m (c.tc.loc main_arg3)
abbrev x4 : FVec Ideal S2x3072 .f32 := m (c.tc.loc main_arg4)
abbrev x5 : FVec Ideal S2x1024 .f32 := m (c.tc.loc main_arg5)
abbrev x6 : FVec Ideal S2x1280 .f32 := m (c.tc.loc main_arg6)
abbrev x7 : FVec Ideal S1024 .f32 := m (c.tc.loc main_arg7)
abbrev x8 : FVec Ideal S2x3072 .f32 := m (c.tc.loc main_arg8)
abbrev x9 : FVec Ideal S2x1024 .f32 := m (c.tc.loc main_arg9)
abbrev x10 : FVec Ideal S2x1280 .f32 := m (c.tc.loc main_arg10)
abbrev x11 : FVec Ideal S1024 .f32 := m (c.tc.loc main_arg11)
abbrev x12 : FVec Ideal S2x3072 .f32 := m (c.tc.loc main_arg12)
abbrev x13 : FVec Ideal S2x1024 .f32 := m (c.tc.loc main_arg13)
abbrev x14 : FVec Ideal S2x1280 .f32 := m (c.tc.loc main_arg14)
abbrev x15 : FVec Ideal S1024 .f32 := m (c.tc.loc main_arg15)

theorem named1 : Named.named (F := Ideal) Cert.AdamVecIdeal.κ "c1" (φ := .f32) 0x3FC48605#32 = ((8388608 / 5463681 : ℝ) : EReal) :=
  IdealRules.named_const.ideal_named_scalar _ _ _ _ rfl

theorem named2 : Named.named (F := Ideal) Cert.AdamVecIdeal.κ "c2" (φ := .f32) 0x42C8E6D3#32 = ((268435456 / 2672307 : ℝ) : EReal) :=
  IdealRules.named_const.ideal_named_scalar _ _ _ _ rfl

theorem preserves : Cert.preserves_AdamVec_AdamVecIdeal :=
  ⟨IdealRules.named_const.statement Cert.AdamVecIdeal.κ "c1" .f32 0x3FC48605#32 ((8388608 / 5463681 : ℝ) : EReal) rfl,
    IdealRules.named_const.statement Cert.AdamVecIdeal.κ "c2" .f32 0x42C8E6D3#32 ((268435456 / 2672307 : ℝ) : EReal) rfl⟩

theorem pay_d0 (w g mm v : FVec Ideal S2x3072 .f32) (y : S2x3072.Idx) :
    (k0_pay6 (F := Ideal) g mm v w y : EReal) = Adam.delta (w y) (g y) (mm y) (v y) := by
  unfold Adam.delta Adam.newM Adam.newV
  rw [Adam.div_bias1, Adam.div_bias2, ← named1, ← named2]
  idx_vars y
  pointwise [k0_pay6, k0_pay5, k0_pay4]

theorem ref_d0 (w g mm v : FVec Ideal S2x3072 .f32) (y : S2x3072.Idx) :
    (Cert.AdamVecRefIdeal.Read.val_main_v23 (F := Ideal) w g mm v y : EReal) = Adam.delta (w y) (g y) (mm y) (v y) := by
  unfold Adam.delta Adam.newM Adam.newV
  idx_vars y
  pointwise [Cert.AdamVecRefIdeal.Read.val_main_v23, Cert.AdamVecRefIdeal.Read.val_main_v21, Cert.AdamVecRefIdeal.Read.val_main_v20, Cert.AdamVecRefIdeal.Read.val_main_v19, Cert.AdamVecRefIdeal.Read.val_main_cst_6, Cert.AdamVecRefIdeal.Read.val_main_v18, Cert.AdamVecRefIdeal.Read.val_main_v17, Cert.AdamVecRefIdeal.Read.val_main_v16, Cert.AdamVecRefIdeal.Read.val_main_cst_5, Cert.AdamVecRefIdeal.Read.val_main_v15, Cert.AdamVecRefIdeal.Read.val_main_v14, Cert.AdamVecRefIdeal.Read.val_main_v13, Cert.AdamVecRefIdeal.Read.val_main_cst_4, Cert.AdamVecRefIdeal.Read.val_main_v10, Cert.AdamVecRefIdeal.Read.val_main_v9, Cert.AdamVecRefIdeal.Read.val_main_v7, Cert.AdamVecRefIdeal.Read.val_main_v8, Cert.AdamVecRefIdeal.Read.val_main_cst_2, Cert.AdamVecRefIdeal.Read.val_main_v6, Cert.AdamVecRefIdeal.Read.val_main_v5, Cert.AdamVecRefIdeal.Read.val_main_cst_1, Cert.AdamVecRefIdeal.Read.val_main_v12, Cert.AdamVecRefIdeal.Read.val_main_v11, Cert.AdamVecRefIdeal.Read.val_main_cst_3, Cert.AdamVecRefIdeal.Read.val_main_v4, Cert.AdamVecRefIdeal.Read.val_main_v3, Cert.AdamVecRefIdeal.Read.val_main_v2, Cert.AdamVecRefIdeal.Read.val_main_cst_0, Cert.AdamVecRefIdeal.Read.val_main_v1, Cert.AdamVecRefIdeal.Read.val_main_v0, Cert.AdamVecRefIdeal.Read.val_main_cst, Cert.AdamVecRefIdeal.Read.val_main_v22, Cert.AdamVecRefIdeal.Read.val_main_cst_7]

theorem final_d0 : (dats m 0 c).arrAt 16 (cfgs 0).N = Cert.AdamVecRefIdeal.Read.val_main_v23 (F := Ideal) (x0 m c) (x4 m c) (x8 m c) (x12 m c) := by
  refine (dats m 0 c).arrAt_eq_of_covers 16 _ (by decide +kernel) fun t hf y => ?_
  blk_simp
  rw [after0_16]
  unfold_out out0_16
  frame_out
  rw [pay_d0, ref_d0]
  rfl

theorem pay_m0 (g mm : FVec Ideal S2x3072 .f32) (y : S2x3072.Idx) :
    (k0_pay4 (F := Ideal) g mm y : EReal) = Adam.newM (g y) (mm y) := by
  idx_vars y
  pointwise [k0_pay4, Adam.newM]

theorem ref_m0 (g mm : FVec Ideal S2x3072 .f32) (y : S2x3072.Idx) :
    (Cert.AdamVecRefIdeal.Read.val_main_v4 (F := Ideal) g mm y : EReal) = Adam.newM (g y) (mm y) := by
  idx_vars y
  pointwise [Cert.AdamVecRefIdeal.Read.val_main_v4, Cert.AdamVecRefIdeal.Read.val_main_v3, Cert.AdamVecRefIdeal.Read.val_main_v2, Cert.AdamVecRefIdeal.Read.val_main_cst_0, Cert.AdamVecRefIdeal.Read.val_main_v1, Cert.AdamVecRefIdeal.Read.val_main_v0, Cert.AdamVecRefIdeal.Read.val_main_cst, Adam.newM]

theorem final_m0 : (dats m 0 c).arrAt 20 (cfgs 0).N = Cert.AdamVecRefIdeal.Read.val_main_v4 (F := Ideal) (x4 m c) (x8 m c) := by
  refine (dats m 0 c).arrAt_eq_of_covers 20 _ (by decide +kernel) fun t hf y => ?_
  blk_simp
  rw [after0_20]
  unfold_out out0_20
  frame_out
  rw [pay_m0, ref_m0]
  rfl

theorem pay_v0 (g v : FVec Ideal S2x3072 .f32) (y : S2x3072.Idx) :
    (k0_pay5 (F := Ideal) g v y : EReal) = Adam.newV (g y) (v y) := by
  idx_vars y
  pointwise [k0_pay5, Adam.newV]

theorem ref_v0 (g v : FVec Ideal S2x3072 .f32) (y : S2x3072.Idx) :
    (Cert.AdamVecRefIdeal.Read.val_main_v10 (F := Ideal) g v y : EReal) = Adam.newV (g y) (v y) := by
  idx_vars y
  pointwise [Cert.AdamVecRefIdeal.Read.val_main_v10, Cert.AdamVecRefIdeal.Read.val_main_v9, Cert.AdamVecRefIdeal.Read.val_main_v7, Cert.AdamVecRefIdeal.Read.val_main_v8, Cert.AdamVecRefIdeal.Read.val_main_cst_2, Cert.AdamVecRefIdeal.Read.val_main_v6, Cert.AdamVecRefIdeal.Read.val_main_v5, Cert.AdamVecRefIdeal.Read.val_main_cst_1, Adam.newV]

theorem final_v0 : (dats m 0 c).arrAt 24 (cfgs 0).N = Cert.AdamVecRefIdeal.Read.val_main_v10 (F := Ideal) (x4 m c) (x12 m c) := by
  refine (dats m 0 c).arrAt_eq_of_covers 24 _ (by decide +kernel) fun t hf y => ?_
  blk_simp
  rw [after0_24]
  unfold_out out0_24
  frame_out
  rw [pay_v0, ref_v0]
  rfl

theorem pay_d1 (w g mm v : FVec Ideal S2x1024 .f32) (y : S2x1024.Idx) :
    (k0_pay9 (F := Ideal) g mm v w y : EReal) = Adam.delta (w y) (g y) (mm y) (v y) := by
  unfold Adam.delta Adam.newM Adam.newV
  rw [Adam.div_bias1, Adam.div_bias2, ← named1, ← named2]
  idx_vars y
  pointwise [k0_pay9, k0_pay8, k0_pay7]

theorem ref_d1 (w g mm v : FVec Ideal S2x1024 .f32) (y : S2x1024.Idx) :
    (Cert.AdamVecRefIdeal.Read.val_main_v47 (F := Ideal) w g mm v y : EReal) = Adam.delta (w y) (g y) (mm y) (v y) := by
  unfold Adam.delta Adam.newM Adam.newV
  idx_vars y
  pointwise [Cert.AdamVecRefIdeal.Read.val_main_v47, Cert.AdamVecRefIdeal.Read.val_main_v45, Cert.AdamVecRefIdeal.Read.val_main_v44, Cert.AdamVecRefIdeal.Read.val_main_v43, Cert.AdamVecRefIdeal.Read.val_main_cst_15, Cert.AdamVecRefIdeal.Read.val_main_v42, Cert.AdamVecRefIdeal.Read.val_main_v41, Cert.AdamVecRefIdeal.Read.val_main_v40, Cert.AdamVecRefIdeal.Read.val_main_cst_14, Cert.AdamVecRefIdeal.Read.val_main_v39, Cert.AdamVecRefIdeal.Read.val_main_v38, Cert.AdamVecRefIdeal.Read.val_main_v37, Cert.AdamVecRefIdeal.Read.val_main_cst_13, Cert.AdamVecRefIdeal.Read.val_main_v34, Cert.AdamVecRefIdeal.Read.val_main_v33, Cert.AdamVecRefIdeal.Read.val_main_v31, Cert.AdamVecRefIdeal.Read.val_main_v32, Cert.AdamVecRefIdeal.Read.val_main_cst_11, Cert.AdamVecRefIdeal.Read.val_main_v30, Cert.AdamVecRefIdeal.Read.val_main_v29, Cert.AdamVecRefIdeal.Read.val_main_cst_10, Cert.AdamVecRefIdeal.Read.val_main_v36, Cert.AdamVecRefIdeal.Read.val_main_v35, Cert.AdamVecRefIdeal.Read.val_main_cst_12, Cert.AdamVecRefIdeal.Read.val_main_v28, Cert.AdamVecRefIdeal.Read.val_main_v27, Cert.AdamVecRefIdeal.Read.val_main_v26, Cert.AdamVecRefIdeal.Read.val_main_cst_9, Cert.AdamVecRefIdeal.Read.val_main_v25, Cert.AdamVecRefIdeal.Read.val_main_v24, Cert.AdamVecRefIdeal.Read.val_main_cst_8, Cert.AdamVecRefIdeal.Read.val_main_v46, Cert.AdamVecRefIdeal.Read.val_main_cst_16]

theorem final_d1 : (dats m 0 c).arrAt 17 (cfgs 0).N = Cert.AdamVecRefIdeal.Read.val_main_v47 (F := Ideal) (x1 m c) (x5 m c) (x9 m c) (x13 m c) := by
  refine (dats m 0 c).arrAt_eq_of_covers 17 _ (by decide +kernel) fun t hf y => ?_
  blk_simp
  rw [after0_17]
  unfold_out out0_17
  frame_out
  rw [pay_d1, ref_d1]
  rfl

theorem pay_m1 (g mm : FVec Ideal S2x1024 .f32) (y : S2x1024.Idx) :
    (k0_pay7 (F := Ideal) g mm y : EReal) = Adam.newM (g y) (mm y) := by
  idx_vars y
  pointwise [k0_pay7, Adam.newM]

theorem ref_m1 (g mm : FVec Ideal S2x1024 .f32) (y : S2x1024.Idx) :
    (Cert.AdamVecRefIdeal.Read.val_main_v28 (F := Ideal) g mm y : EReal) = Adam.newM (g y) (mm y) := by
  idx_vars y
  pointwise [Cert.AdamVecRefIdeal.Read.val_main_v28, Cert.AdamVecRefIdeal.Read.val_main_v27, Cert.AdamVecRefIdeal.Read.val_main_v26, Cert.AdamVecRefIdeal.Read.val_main_cst_9, Cert.AdamVecRefIdeal.Read.val_main_v25, Cert.AdamVecRefIdeal.Read.val_main_v24, Cert.AdamVecRefIdeal.Read.val_main_cst_8, Adam.newM]

theorem final_m1 : (dats m 0 c).arrAt 21 (cfgs 0).N = Cert.AdamVecRefIdeal.Read.val_main_v28 (F := Ideal) (x5 m c) (x9 m c) := by
  refine (dats m 0 c).arrAt_eq_of_covers 21 _ (by decide +kernel) fun t hf y => ?_
  blk_simp
  rw [after0_21]
  unfold_out out0_21
  frame_out
  rw [pay_m1, ref_m1]
  rfl

theorem pay_v1 (g v : FVec Ideal S2x1024 .f32) (y : S2x1024.Idx) :
    (k0_pay8 (F := Ideal) g v y : EReal) = Adam.newV (g y) (v y) := by
  idx_vars y
  pointwise [k0_pay8, Adam.newV]

theorem ref_v1 (g v : FVec Ideal S2x1024 .f32) (y : S2x1024.Idx) :
    (Cert.AdamVecRefIdeal.Read.val_main_v34 (F := Ideal) g v y : EReal) = Adam.newV (g y) (v y) := by
  idx_vars y
  pointwise [Cert.AdamVecRefIdeal.Read.val_main_v34, Cert.AdamVecRefIdeal.Read.val_main_v33, Cert.AdamVecRefIdeal.Read.val_main_v31, Cert.AdamVecRefIdeal.Read.val_main_v32, Cert.AdamVecRefIdeal.Read.val_main_cst_11, Cert.AdamVecRefIdeal.Read.val_main_v30, Cert.AdamVecRefIdeal.Read.val_main_v29, Cert.AdamVecRefIdeal.Read.val_main_cst_10, Adam.newV]

theorem final_v1 : (dats m 0 c).arrAt 25 (cfgs 0).N = Cert.AdamVecRefIdeal.Read.val_main_v34 (F := Ideal) (x5 m c) (x13 m c) := by
  refine (dats m 0 c).arrAt_eq_of_covers 25 _ (by decide +kernel) fun t hf y => ?_
  blk_simp
  rw [after0_25]
  unfold_out out0_25
  frame_out
  rw [pay_v1, ref_v1]
  rfl

theorem pay_d2 (w g mm v : FVec Ideal S2x1280 .f32) (y : S2x1280.Idx) :
    (k0_pay12 (F := Ideal) g mm v w y : EReal) = Adam.delta (w y) (g y) (mm y) (v y) := by
  unfold Adam.delta Adam.newM Adam.newV
  rw [Adam.div_bias1, Adam.div_bias2, ← named1, ← named2]
  idx_vars y
  pointwise [k0_pay12, k0_pay11, k0_pay10]

theorem ref_d2 (w g mm v : FVec Ideal S2x1280 .f32) (y : S2x1280.Idx) :
    (Cert.AdamVecRefIdeal.Read.val_main_v71 (F := Ideal) w g mm v y : EReal) = Adam.delta (w y) (g y) (mm y) (v y) := by
  unfold Adam.delta Adam.newM Adam.newV
  idx_vars y
  pointwise [Cert.AdamVecRefIdeal.Read.val_main_v71, Cert.AdamVecRefIdeal.Read.val_main_v69, Cert.AdamVecRefIdeal.Read.val_main_v68, Cert.AdamVecRefIdeal.Read.val_main_v67, Cert.AdamVecRefIdeal.Read.val_main_cst_24, Cert.AdamVecRefIdeal.Read.val_main_v66, Cert.AdamVecRefIdeal.Read.val_main_v65, Cert.AdamVecRefIdeal.Read.val_main_v64, Cert.AdamVecRefIdeal.Read.val_main_cst_23, Cert.AdamVecRefIdeal.Read.val_main_v63, Cert.AdamVecRefIdeal.Read.val_main_v62, Cert.AdamVecRefIdeal.Read.val_main_v61, Cert.AdamVecRefIdeal.Read.val_main_cst_22, Cert.AdamVecRefIdeal.Read.val_main_v58, Cert.AdamVecRefIdeal.Read.val_main_v57, Cert.AdamVecRefIdeal.Read.val_main_v55, Cert.AdamVecRefIdeal.Read.val_main_v56, Cert.AdamVecRefIdeal.Read.val_main_cst_20, Cert.AdamVecRefIdeal.Read.val_main_v54, Cert.AdamVecRefIdeal.Read.val_main_v53, Cert.AdamVecRefIdeal.Read.val_main_cst_19, Cert.AdamVecRefIdeal.Read.val_main_v60, Cert.AdamVecRefIdeal.Read.val_main_v59, Cert.AdamVecRefIdeal.Read.val_main_cst_21, Cert.AdamVecRefIdeal.Read.val_main_v52, Cert.AdamVecRefIdeal.Read.val_main_v51, Cert.AdamVecRefIdeal.Read.val_main_v50, Cert.AdamVecRefIdeal.Read.val_main_cst_18, Cert.AdamVecRefIdeal.Read.val_main_v49, Cert.AdamVecRefIdeal.Read.val_main_v48, Cert.AdamVecRefIdeal.Read.val_main_cst_17, Cert.AdamVecRefIdeal.Read.val_main_v70, Cert.AdamVecRefIdeal.Read.val_main_cst_25]

theorem final_d2 : (dats m 0 c).arrAt 18 (cfgs 0).N = Cert.AdamVecRefIdeal.Read.val_main_v71 (F := Ideal) (x2 m c) (x6 m c) (x10 m c) (x14 m c) := by
  refine (dats m 0 c).arrAt_eq_of_covers 18 _ (by decide +kernel) fun t hf y => ?_
  blk_simp
  rw [after0_18]
  unfold_out out0_18
  frame_out
  rw [pay_d2, ref_d2]
  rfl

theorem pay_m2 (g mm : FVec Ideal S2x1280 .f32) (y : S2x1280.Idx) :
    (k0_pay10 (F := Ideal) g mm y : EReal) = Adam.newM (g y) (mm y) := by
  idx_vars y
  pointwise [k0_pay10, Adam.newM]

theorem ref_m2 (g mm : FVec Ideal S2x1280 .f32) (y : S2x1280.Idx) :
    (Cert.AdamVecRefIdeal.Read.val_main_v52 (F := Ideal) g mm y : EReal) = Adam.newM (g y) (mm y) := by
  idx_vars y
  pointwise [Cert.AdamVecRefIdeal.Read.val_main_v52, Cert.AdamVecRefIdeal.Read.val_main_v51, Cert.AdamVecRefIdeal.Read.val_main_v50, Cert.AdamVecRefIdeal.Read.val_main_cst_18, Cert.AdamVecRefIdeal.Read.val_main_v49, Cert.AdamVecRefIdeal.Read.val_main_v48, Cert.AdamVecRefIdeal.Read.val_main_cst_17, Adam.newM]

theorem final_m2 : (dats m 0 c).arrAt 22 (cfgs 0).N = Cert.AdamVecRefIdeal.Read.val_main_v52 (F := Ideal) (x6 m c) (x10 m c) := by
  refine (dats m 0 c).arrAt_eq_of_covers 22 _ (by decide +kernel) fun t hf y => ?_
  blk_simp
  rw [after0_22]
  unfold_out out0_22
  frame_out
  rw [pay_m2, ref_m2]
  rfl

theorem pay_v2 (g v : FVec Ideal S2x1280 .f32) (y : S2x1280.Idx) :
    (k0_pay11 (F := Ideal) g v y : EReal) = Adam.newV (g y) (v y) := by
  idx_vars y
  pointwise [k0_pay11, Adam.newV]

theorem ref_v2 (g v : FVec Ideal S2x1280 .f32) (y : S2x1280.Idx) :
    (Cert.AdamVecRefIdeal.Read.val_main_v58 (F := Ideal) g v y : EReal) = Adam.newV (g y) (v y) := by
  idx_vars y
  pointwise [Cert.AdamVecRefIdeal.Read.val_main_v58, Cert.AdamVecRefIdeal.Read.val_main_v57, Cert.AdamVecRefIdeal.Read.val_main_v55, Cert.AdamVecRefIdeal.Read.val_main_v56, Cert.AdamVecRefIdeal.Read.val_main_cst_20, Cert.AdamVecRefIdeal.Read.val_main_v54, Cert.AdamVecRefIdeal.Read.val_main_v53, Cert.AdamVecRefIdeal.Read.val_main_cst_19, Adam.newV]

theorem final_v2 : (dats m 0 c).arrAt 26 (cfgs 0).N = Cert.AdamVecRefIdeal.Read.val_main_v58 (F := Ideal) (x6 m c) (x14 m c) := by
  refine (dats m 0 c).arrAt_eq_of_covers 26 _ (by decide +kernel) fun t hf y => ?_
  blk_simp
  rw [after0_26]
  unfold_out out0_26
  frame_out
  rw [pay_v2, ref_v2]
  rfl

theorem pay_d3 (w g mm v : FVec Ideal S1x1024 .f32) (y : S1x1024.Idx) :
    (k0_pay3 (F := Ideal) (k0_pay13 (F := Ideal) g) (k0_pay14 (F := Ideal) mm) (Scalar.ofBits .f32 0x3F666666#32) v w y : EReal) = Adam.delta (w y) (g y) (mm y) (v y) := by
  unfold Adam.delta Adam.newM Adam.newV
  rw [Adam.div_bias1, Adam.div_bias2, ← named1, ← named2]
  idx_vars y
  pointwise [k0_pay14, k0_pay13, k0_pay3, k0_pay2, k0_pay1]

theorem ref_d3 (w g mm v : FVec Ideal S1024 .f32) (y : S1024.Idx) :
    (Cert.AdamVecRefIdeal.Read.val_main_v95 (F := Ideal) w g mm v y : EReal) = Adam.delta (w y) (g y) (mm y) (v y) := by
  unfold Adam.delta Adam.newM Adam.newV
  idx_vars y
  pointwise [Cert.AdamVecRefIdeal.Read.val_main_v95, Cert.AdamVecRefIdeal.Read.val_main_v93, Cert.AdamVecRefIdeal.Read.val_main_v92, Cert.AdamVecRefIdeal.Read.val_main_v91, Cert.AdamVecRefIdeal.Read.val_main_cst_33, Cert.AdamVecRefIdeal.Read.val_main_v90, Cert.AdamVecRefIdeal.Read.val_main_v89, Cert.AdamVecRefIdeal.Read.val_main_v88, Cert.AdamVecRefIdeal.Read.val_main_cst_32, Cert.AdamVecRefIdeal.Read.val_main_v87, Cert.AdamVecRefIdeal.Read.val_main_v86, Cert.AdamVecRefIdeal.Read.val_main_v85, Cert.AdamVecRefIdeal.Read.val_main_cst_31, Cert.AdamVecRefIdeal.Read.val_main_v82, Cert.AdamVecRefIdeal.Read.val_main_v81, Cert.AdamVecRefIdeal.Read.val_main_v79, Cert.AdamVecRefIdeal.Read.val_main_v80, Cert.AdamVecRefIdeal.Read.val_main_cst_29, Cert.AdamVecRefIdeal.Read.val_main_v78, Cert.AdamVecRefIdeal.Read.val_main_v77, Cert.AdamVecRefIdeal.Read.val_main_cst_28, Cert.AdamVecRefIdeal.Read.val_main_v84, Cert.AdamVecRefIdeal.Read.val_main_v83, Cert.AdamVecRefIdeal.Read.val_main_cst_30, Cert.AdamVecRefIdeal.Read.val_main_v76, Cert.AdamVecRefIdeal.Read.val_main_v75, Cert.AdamVecRefIdeal.Read.val_main_v74, Cert.AdamVecRefIdeal.Read.val_main_cst_27, Cert.AdamVecRefIdeal.Read.val_main_v73, Cert.AdamVecRefIdeal.Read.val_main_v72, Cert.AdamVecRefIdeal.Read.val_main_cst_26, Cert.AdamVecRefIdeal.Read.val_main_v94, Cert.AdamVecRefIdeal.Read.val_main_cst_34]

theorem flat_d3 (w g mm v : FVec Ideal S1024 .f32) (y : S1x1024.Idx) :
    (Cert.AdamVecRefIdeal.Read.val_main_v96 (F := Ideal) w g mm v y : EReal) = Adam.delta (shapeCast S1x1024 w shapeCasts_S1024_S1x1024 y) (shapeCast S1x1024 g shapeCasts_S1024_S1x1024 y) (shapeCast S1x1024 mm shapeCasts_S1024_S1x1024 y) (shapeCast S1x1024 v shapeCasts_S1024_S1x1024 y) :=
  ref_d3 _ _ _ _ _

theorem final_d3 : (dats m 0 c).arrAt 19 (cfgs 0).N = Cert.AdamVecRefIdeal.Read.val_main_v96 (F := Ideal) (x3 m c) (x7 m c) (x11 m c) (x15 m c) := by
  refine (dats m 0 c).arrAt_eq_of_covers 19 _ (by decide +kernel) fun t hf y => ?_
  blk_simp
  rw [after0_19]
  unfold_out out0_19
  frame_out
  rw [pay_d3, flat_d3]
  rfl

theorem pay_m3 (g mm : FVec Ideal S1x1024 .f32) (y : S1x1024.Idx) :
    (k0_pay1 (F := Ideal) (k0_pay13 (F := Ideal) g) (k0_pay14 (F := Ideal) mm) (Scalar.ofBits .f32 0x3F666666#32) y : EReal) = Adam.newM (g y) (mm y) := by
  idx_vars y
  pointwise [k0_pay14, k0_pay13, k0_pay1, Adam.newM]

theorem ref_m3 (g mm : FVec Ideal S1024 .f32) (y : S1024.Idx) :
    (Cert.AdamVecRefIdeal.Read.val_main_v76 (F := Ideal) g mm y : EReal) = Adam.newM (g y) (mm y) := by
  idx_vars y
  pointwise [Cert.AdamVecRefIdeal.Read.val_main_v76, Cert.AdamVecRefIdeal.Read.val_main_v75, Cert.AdamVecRefIdeal.Read.val_main_v74, Cert.AdamVecRefIdeal.Read.val_main_cst_27, Cert.AdamVecRefIdeal.Read.val_main_v73, Cert.AdamVecRefIdeal.Read.val_main_v72, Cert.AdamVecRefIdeal.Read.val_main_cst_26, Adam.newM]

theorem flat_m3 (g mm : FVec Ideal S1024 .f32) (y : S1x1024.Idx) :
    (Cert.AdamVecRefIdeal.Read.val_main_v97 (F := Ideal) g mm y : EReal) = Adam.newM (shapeCast S1x1024 g shapeCasts_S1024_S1x1024 y) (shapeCast S1x1024 mm shapeCasts_S1024_S1x1024 y) :=
  ref_m3 _ _ _

theorem final_m3 : (dats m 0 c).arrAt 23 (cfgs 0).N = Cert.AdamVecRefIdeal.Read.val_main_v97 (F := Ideal) (x7 m c) (x11 m c) := by
  refine (dats m 0 c).arrAt_eq_of_covers 23 _ (by decide +kernel) fun t hf y => ?_
  blk_simp
  rw [after0_23]
  unfold_out out0_23
  frame_out
  rw [pay_m3, flat_m3]
  rfl

theorem pay_v3 (g v : FVec Ideal S1x1024 .f32) (y : S1x1024.Idx) :
    (k0_pay2 (F := Ideal) (k0_pay13 (F := Ideal) g) v y : EReal) = Adam.newV (g y) (v y) := by
  idx_vars y
  pointwise [k0_pay13, k0_pay2, Adam.newV]

theorem ref_v3 (g v : FVec Ideal S1024 .f32) (y : S1024.Idx) :
    (Cert.AdamVecRefIdeal.Read.val_main_v82 (F := Ideal) g v y : EReal) = Adam.newV (g y) (v y) := by
  idx_vars y
  pointwise [Cert.AdamVecRefIdeal.Read.val_main_v82, Cert.AdamVecRefIdeal.Read.val_main_v81, Cert.AdamVecRefIdeal.Read.val_main_v79, Cert.AdamVecRefIdeal.Read.val_main_v80, Cert.AdamVecRefIdeal.Read.val_main_cst_29, Cert.AdamVecRefIdeal.Read.val_main_v78, Cert.AdamVecRefIdeal.Read.val_main_v77, Cert.AdamVecRefIdeal.Read.val_main_cst_28, Adam.newV]

theorem flat_v3 (g v : FVec Ideal S1024 .f32) (y : S1x1024.Idx) :
    (Cert.AdamVecRefIdeal.Read.val_main_v98 (F := Ideal) g v y : EReal) = Adam.newV (shapeCast S1x1024 g shapeCasts_S1024_S1x1024 y) (shapeCast S1x1024 v shapeCasts_S1024_S1x1024 y) :=
  ref_v3 _ _ _

theorem final_v3 : (dats m 0 c).arrAt 27 (cfgs 0).N = Cert.AdamVecRefIdeal.Read.val_main_v98 (F := Ideal) (x7 m c) (x15 m c) := by
  refine (dats m 0 c).arrAt_eq_of_covers 27 _ (by decide +kernel) fun t hf y => ?_
  blk_simp
  rw [after0_27]
  unfold_out out0_27
  frame_out
  rw [pay_v3, flat_v3]
  rfl

/-- The reference runs to its end and leaves its arguments alone. -/
theorem frame_ref : Cert.quiescent_AdamVecRefIdeal := fun m g _ =>
  (θ_run Cert.AdamVecRefIdeal.defs _ _).mono (fun r h => ⟨fun c => (h c).2.2.2.2.2.2.2.2.2.2.2.2, sem_eq_zero_of_no_sems (by decide) r.2⟩)
    (Cert.AdamVecRefIdeal.Value.run m g)

/-- Over the reals every result of the call is the reference's. -/
theorem algebraic : Cert.algebraic_AdamVecIdeal_AdamVecRefIdeal := by
  intro m g m' g' _ hagree
  refine ⟨fun c => Cert.AdamVecRefIdeal.Read.val_main_v23 (F := Ideal) (x0 m c) (x4 m c) (x8 m c) (x12 m c),
    fun c => Cert.AdamVecRefIdeal.Read.val_main_v47 (F := Ideal) (x1 m c) (x5 m c) (x9 m c) (x13 m c),
    fun c => Cert.AdamVecRefIdeal.Read.val_main_v71 (F := Ideal) (x2 m c) (x6 m c) (x10 m c) (x14 m c),
    fun c => Cert.AdamVecRefIdeal.Read.val_main_v96 (F := Ideal) (x3 m c) (x7 m c) (x11 m c) (x15 m c),
    fun c => Cert.AdamVecRefIdeal.Read.val_main_v4 (F := Ideal) (x4 m c) (x8 m c),
    fun c => Cert.AdamVecRefIdeal.Read.val_main_v28 (F := Ideal) (x5 m c) (x9 m c),
    fun c => Cert.AdamVecRefIdeal.Read.val_main_v52 (F := Ideal) (x6 m c) (x10 m c),
    fun c => Cert.AdamVecRefIdeal.Read.val_main_v97 (F := Ideal) (x7 m c) (x11 m c),
    fun c => Cert.AdamVecRefIdeal.Read.val_main_v10 (F := Ideal) (x4 m c) (x12 m c),
    fun c => Cert.AdamVecRefIdeal.Read.val_main_v34 (F := Ideal) (x5 m c) (x13 m c),
    fun c => Cert.AdamVecRefIdeal.Read.val_main_v58 (F := Ideal) (x6 m c) (x14 m c),
    fun c => Cert.AdamVecRefIdeal.Read.val_main_v98 (F := Ideal) (x7 m c) (x15 m c), ?_, ?_⟩
  · refine (θ_run Cert.AdamVecIdeal.defs _ _).mono (fun r h c => ?_) (Cert.AdamVecIdeal.Value.run_blocks m g)
    exact ⟨(h c).1.trans (final_d0 m c),
      (h c).2.1.trans (final_d1 m c),
      (h c).2.2.1.trans (final_d2 m c),
      (h c).2.2.2.1.trans (final_d3 m c),
      (h c).2.2.2.2.1.trans (final_m0 m c),
      (h c).2.2.2.2.2.1.trans (final_m1 m c),
      (h c).2.2.2.2.2.2.1.trans (final_m2 m c),
      (h c).2.2.2.2.2.2.2.1.trans (final_m3 m c),
      (h c).2.2.2.2.2.2.2.2.1.trans (final_v0 m c),
      (h c).2.2.2.2.2.2.2.2.2.1.trans (final_v1 m c),
      (h c).2.2.2.2.2.2.2.2.2.2.1.trans (final_v2 m c),
      (h c).2.2.2.2.2.2.2.2.2.2.2.1.trans (final_v3 m c), (h c).2.2.2.2.2.2.2.2.2.2.2.2⟩
  · refine (θ_run Cert.AdamVecRefIdeal.defs _ _).mono (fun r h c => ?_) (Cert.AdamVecRefIdeal.Value.run m' g')
    obtain ⟨e0, e1, e2, e3, e4, e5, e6, e7, e8, e9, e10, e11, e12, e13, e14, e15⟩ := hagree c
    exact ⟨((h c).1.trans (Cert.AdamVecRefIdeal.Read.val_main_v23_eq _ _ _ _)).trans (Adam.congr4 (α := FVec Ideal S2x3072 .f32) (Cert.AdamVecRefIdeal.Read.val_main_v23 (F := Ideal)) e0 e4 e8 e12),
      ((h c).2.1.trans (Cert.AdamVecRefIdeal.Read.val_main_v47_eq _ _ _ _)).trans (Adam.congr4 (α := FVec Ideal S2x1024 .f32) (Cert.AdamVecRefIdeal.Read.val_main_v47 (F := Ideal)) e1 e5 e9 e13),
      ((h c).2.2.1.trans (Cert.AdamVecRefIdeal.Read.val_main_v71_eq _ _ _ _)).trans (Adam.congr4 (α := FVec Ideal S2x1280 .f32) (Cert.AdamVecRefIdeal.Read.val_main_v71 (F := Ideal)) e2 e6 e10 e14),
      ((h c).2.2.2.1.trans (Cert.AdamVecRefIdeal.Read.val_main_v96_eq _ _ _ _)).trans (Adam.congr4 (α := FVec Ideal S1024 .f32) (Cert.AdamVecRefIdeal.Read.val_main_v96 (F := Ideal)) e3 e7 e11 e15),
      ((h c).2.2.2.2.1.trans (Cert.AdamVecRefIdeal.Read.val_main_v4_eq _ _)).trans (Adam.congr2 (α := FVec Ideal S2x3072 .f32) (Cert.AdamVecRefIdeal.Read.val_main_v4 (F := Ideal)) e4 e8),
      ((h c).2.2.2.2.2.1.trans (Cert.AdamVecRefIdeal.Read.val_main_v28_eq _ _)).trans (Adam.congr2 (α := FVec Ideal S2x1024 .f32) (Cert.AdamVecRefIdeal.Read.val_main_v28 (F := Ideal)) e5 e9),
      ((h c).2.2.2.2.2.2.1.trans (Cert.AdamVecRefIdeal.Read.val_main_v52_eq _ _)).trans (Adam.congr2 (α := FVec Ideal S2x1280 .f32) (Cert.AdamVecRefIdeal.Read.val_main_v52 (F := Ideal)) e6 e10),
      ((h c).2.2.2.2.2.2.2.1.trans (Cert.AdamVecRefIdeal.Read.val_main_v97_eq _ _)).trans (Adam.congr2 (α := FVec Ideal S1024 .f32) (Cert.AdamVecRefIdeal.Read.val_main_v97 (F := Ideal)) e7 e11),
      ((h c).2.2.2.2.2.2.2.2.1.trans (Cert.AdamVecRefIdeal.Read.val_main_v10_eq _ _)).trans (Adam.congr2 (α := FVec Ideal S2x3072 .f32) (Cert.AdamVecRefIdeal.Read.val_main_v10 (F := Ideal)) e4 e12),
      ((h c).2.2.2.2.2.2.2.2.2.1.trans (Cert.AdamVecRefIdeal.Read.val_main_v34_eq _ _)).trans (Adam.congr2 (α := FVec Ideal S2x1024 .f32) (Cert.AdamVecRefIdeal.Read.val_main_v34 (F := Ideal)) e5 e13),
      ((h c).2.2.2.2.2.2.2.2.2.2.1.trans (Cert.AdamVecRefIdeal.Read.val_main_v58_eq _ _)).trans (Adam.congr2 (α := FVec Ideal S2x1280 .f32) (Cert.AdamVecRefIdeal.Read.val_main_v58 (F := Ideal)) e6 e14),
      ((h c).2.2.2.2.2.2.2.2.2.2.2.1.trans (Cert.AdamVecRefIdeal.Read.val_main_v98_eq _ _)).trans (Adam.congr2 (α := FVec Ideal S1024 .f32) (Cert.AdamVecRefIdeal.Read.val_main_v98 (F := Ideal)) e7 e15), (h c).2.2.2.2.2.2.2.2.2.2.2.2⟩

end Cert.AdamVecIdeal.Final
-- ==== Proof.AdamBias.lean ====
module

public import proofs.«01_k».proof.Defs
public import proofs.«01_k».proof.Proof.Gen.AdamBias.Frame
public import proofs.«01_k».proof.Proof.Gen.AdamBiasIdeal.Value
public import proofs.«01_k».proof.Proof.Gen.AdamBiasRefIdeal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The steps of the biases and of the state-space layer's small weights, one shape after another. -/

namespace Cert.AdamBiasIdeal.Final

open Cert.AdamBiasIdeal Cert.AdamBiasIdeal.Gen

variable (m : (ℓ : Loc nD τ sig) → Buf (Elt Ideal) ℓ) (c : Dev nD)

abbrev x0 : FVec Ideal S2x16 .f32 := m (c.tc.loc main_arg0)
abbrev x1 : FVec Ideal S2x512 .f32 := m (c.tc.loc main_arg1)
abbrev x2 : FVec Ideal S2x5632 .f32 := m (c.tc.loc main_arg2)
abbrev x3 : FVec Ideal S2x16 .f32 := m (c.tc.loc main_arg3)
abbrev x4 : FVec Ideal S2x512 .f32 := m (c.tc.loc main_arg4)
abbrev x5 : FVec Ideal S2x5632 .f32 := m (c.tc.loc main_arg5)
abbrev x6 : FVec Ideal S2x16 .f32 := m (c.tc.loc main_arg6)
abbrev x7 : FVec Ideal S2x512 .f32 := m (c.tc.loc main_arg7)
abbrev x8 : FVec Ideal S2x5632 .f32 := m (c.tc.loc main_arg8)
abbrev x9 : FVec Ideal S2x16 .f32 := m (c.tc.loc main_arg9)
abbrev x10 : FVec Ideal S2x512 .f32 := m (c.tc.loc main_arg10)
abbrev x11 : FVec Ideal S2x5632 .f32 := m (c.tc.loc main_arg11)

theorem named1 : Named.named (F := Ideal) Cert.AdamBiasIdeal.κ "c1" (φ := .f32) 0x3FC48605#32 = ((8388608 / 5463681 : ℝ) : EReal) :=
  IdealRules.named_const.ideal_named_scalar _ _ _ _ rfl

theorem named2 : Named.named (F := Ideal) Cert.AdamBiasIdeal.κ "c2" (φ := .f32) 0x42C8E6D3#32 = ((268435456 / 2672307 : ℝ) : EReal) :=
  IdealRules.named_const.ideal_named_scalar _ _ _ _ rfl

theorem preserves : Cert.preserves_AdamBias_AdamBiasIdeal :=
  ⟨IdealRules.named_const.statement Cert.AdamBiasIdeal.κ "c1" .f32 0x3FC48605#32 ((8388608 / 5463681 : ℝ) : EReal) rfl,
    IdealRules.named_const.statement Cert.AdamBiasIdeal.κ "c2" .f32 0x42C8E6D3#32 ((268435456 / 2672307 : ℝ) : EReal) rfl⟩

theorem pay_d0 (w g mm v : FVec Ideal S2x16 .f32) (y : S2x16.Idx) :
    (k0_pay6 (F := Ideal) g mm v w y : EReal) = Adam.delta (w y) (g y) (mm y) (v y) := by
  unfold Adam.delta Adam.newM Adam.newV
  rw [Adam.div_bias1, Adam.div_bias2, ← named1, ← named2]
  idx_vars y
  pointwise [k0_pay6, k0_pay5, k0_pay4]

theorem ref_d0 (w g mm v : FVec Ideal S2x16 .f32) (y : S2x16.Idx) :
    (Cert.AdamBiasRefIdeal.Read.val_main_v23 (F := Ideal) w g mm v y : EReal) = Adam.delta (w y) (g y) (mm y) (v y) := by
  unfold Adam.delta Adam.newM Adam.newV
  idx_vars y
  pointwise [Cert.AdamBiasRefIdeal.Read.val_main_v23, Cert.AdamBiasRefIdeal.Read.val_main_v21, Cert.AdamBiasRefIdeal.Read.val_main_v20, Cert.AdamBiasRefIdeal.Read.val_main_v19, Cert.AdamBiasRefIdeal.Read.val_main_cst_6, Cert.AdamBiasRefIdeal.Read.val_main_v18, Cert.AdamBiasRefIdeal.Read.val_main_v17, Cert.AdamBiasRefIdeal.Read.val_main_v16, Cert.AdamBiasRefIdeal.Read.val_main_cst_5, Cert.AdamBiasRefIdeal.Read.val_main_v15, Cert.AdamBiasRefIdeal.Read.val_main_v14, Cert.AdamBiasRefIdeal.Read.val_main_v13, Cert.AdamBiasRefIdeal.Read.val_main_cst_4, Cert.AdamBiasRefIdeal.Read.val_main_v10, Cert.AdamBiasRefIdeal.Read.val_main_v9, Cert.AdamBiasRefIdeal.Read.val_main_v7, Cert.AdamBiasRefIdeal.Read.val_main_v8, Cert.AdamBiasRefIdeal.Read.val_main_cst_2, Cert.AdamBiasRefIdeal.Read.val_main_v6, Cert.AdamBiasRefIdeal.Read.val_main_v5, Cert.AdamBiasRefIdeal.Read.val_main_cst_1, Cert.AdamBiasRefIdeal.Read.val_main_v12, Cert.AdamBiasRefIdeal.Read.val_main_v11, Cert.AdamBiasRefIdeal.Read.val_main_cst_3, Cert.AdamBiasRefIdeal.Read.val_main_v4, Cert.AdamBiasRefIdeal.Read.val_main_v3, Cert.AdamBiasRefIdeal.Read.val_main_v2, Cert.AdamBiasRefIdeal.Read.val_main_cst_0, Cert.AdamBiasRefIdeal.Read.val_main_v1, Cert.AdamBiasRefIdeal.Read.val_main_v0, Cert.AdamBiasRefIdeal.Read.val_main_cst, Cert.AdamBiasRefIdeal.Read.val_main_v22, Cert.AdamBiasRefIdeal.Read.val_main_cst_7]

theorem final_d0 : (dats m 0 c).arrAt 12 (cfgs 0).N = Cert.AdamBiasRefIdeal.Read.val_main_v23 (F := Ideal) (x0 m c) (x3 m c) (x6 m c) (x9 m c) := by
  refine (dats m 0 c).arrAt_eq_of_covers 12 _ (by decide +kernel) fun t hf y => ?_
  blk_simp
  rw [after0_12]
  unfold out0_12
  frame_out
  rw [pay_d0, ref_d0]
  rfl

theorem pay_m0 (g mm : FVec Ideal S2x16 .f32) (y : S2x16.Idx) :
    (k0_pay4 (F := Ideal) g mm y : EReal) = Adam.newM (g y) (mm y) := by
  idx_vars y
  pointwise [k0_pay4, Adam.newM]

theorem ref_m0 (g mm : FVec Ideal S2x16 .f32) (y : S2x16.Idx) :
    (Cert.AdamBiasRefIdeal.Read.val_main_v4 (F := Ideal) g mm y : EReal) = Adam.newM (g y) (mm y) := by
  idx_vars y
  pointwise [Cert.AdamBiasRefIdeal.Read.val_main_v4, Cert.AdamBiasRefIdeal.Read.val_main_v3, Cert.AdamBiasRefIdeal.Read.val_main_v2, Cert.AdamBiasRefIdeal.Read.val_main_cst_0, Cert.AdamBiasRefIdeal.Read.val_main_v1, Cert.AdamBiasRefIdeal.Read.val_main_v0, Cert.AdamBiasRefIdeal.Read.val_main_cst, Adam.newM]

theorem final_m0 : (dats m 0 c).arrAt 15 (cfgs 0).N = Cert.AdamBiasRefIdeal.Read.val_main_v4 (F := Ideal) (x3 m c) (x6 m c) := by
  refine (dats m 0 c).arrAt_eq_of_covers 15 _ (by decide +kernel) fun t hf y => ?_
  blk_simp
  rw [after0_15]
  unfold out0_15
  frame_out
  rw [pay_m0, ref_m0]
  rfl

theorem pay_v0 (g v : FVec Ideal S2x16 .f32) (y : S2x16.Idx) :
    (k0_pay5 (F := Ideal) g v y : EReal) = Adam.newV (g y) (v y) := by
  idx_vars y
  pointwise [k0_pay5, Adam.newV]

theorem ref_v0 (g v : FVec Ideal S2x16 .f32) (y : S2x16.Idx) :
    (Cert.AdamBiasRefIdeal.Read.val_main_v10 (F := Ideal) g v y : EReal) = Adam.newV (g y) (v y) := by
  idx_vars y
  pointwise [Cert.AdamBiasRefIdeal.Read.val_main_v10, Cert.AdamBiasRefIdeal.Read.val_main_v9, Cert.AdamBiasRefIdeal.Read.val_main_v7, Cert.AdamBiasRefIdeal.Read.val_main_v8, Cert.AdamBiasRefIdeal.Read.val_main_cst_2, Cert.AdamBiasRefIdeal.Read.val_main_v6, Cert.AdamBiasRefIdeal.Read.val_main_v5, Cert.AdamBiasRefIdeal.Read.val_main_cst_1, Adam.newV]

theorem final_v0 : (dats m 0 c).arrAt 18 (cfgs 0).N = Cert.AdamBiasRefIdeal.Read.val_main_v10 (F := Ideal) (x3 m c) (x9 m c) := by
  refine (dats m 0 c).arrAt_eq_of_covers 18 _ (by decide +kernel) fun t hf y => ?_
  blk_simp
  rw [after0_18]
  unfold out0_18
  frame_out
  rw [pay_v0, ref_v0]
  rfl

theorem pay_d1 (w g mm v : FVec Ideal S2x512 .f32) (y : S2x512.Idx) :
    (k0_pay9 (F := Ideal) g mm v w y : EReal) = Adam.delta (w y) (g y) (mm y) (v y) := by
  unfold Adam.delta Adam.newM Adam.newV
  rw [Adam.div_bias1, Adam.div_bias2, ← named1, ← named2]
  idx_vars y
  pointwise [k0_pay9, k0_pay8, k0_pay7]

theorem ref_d1 (w g mm v : FVec Ideal S2x512 .f32) (y : S2x512.Idx) :
    (Cert.AdamBiasRefIdeal.Read.val_main_v47 (F := Ideal) w g mm v y : EReal) = Adam.delta (w y) (g y) (mm y) (v y) := by
  unfold Adam.delta Adam.newM Adam.newV
  idx_vars y
  pointwise [Cert.AdamBiasRefIdeal.Read.val_main_v47, Cert.AdamBiasRefIdeal.Read.val_main_v45, Cert.AdamBiasRefIdeal.Read.val_main_v44, Cert.AdamBiasRefIdeal.Read.val_main_v43, Cert.AdamBiasRefIdeal.Read.val_main_cst_15, Cert.AdamBiasRefIdeal.Read.val_main_v42, Cert.AdamBiasRefIdeal.Read.val_main_v41, Cert.AdamBiasRefIdeal.Read.val_main_v40, Cert.AdamBiasRefIdeal.Read.val_main_cst_14, Cert.AdamBiasRefIdeal.Read.val_main_v39, Cert.AdamBiasRefIdeal.Read.val_main_v38, Cert.AdamBiasRefIdeal.Read.val_main_v37, Cert.AdamBiasRefIdeal.Read.val_main_cst_13, Cert.AdamBiasRefIdeal.Read.val_main_v34, Cert.AdamBiasRefIdeal.Read.val_main_v33, Cert.AdamBiasRefIdeal.Read.val_main_v31, Cert.AdamBiasRefIdeal.Read.val_main_v32, Cert.AdamBiasRefIdeal.Read.val_main_cst_11, Cert.AdamBiasRefIdeal.Read.val_main_v30, Cert.AdamBiasRefIdeal.Read.val_main_v29, Cert.AdamBiasRefIdeal.Read.val_main_cst_10, Cert.AdamBiasRefIdeal.Read.val_main_v36, Cert.AdamBiasRefIdeal.Read.val_main_v35, Cert.AdamBiasRefIdeal.Read.val_main_cst_12, Cert.AdamBiasRefIdeal.Read.val_main_v28, Cert.AdamBiasRefIdeal.Read.val_main_v27, Cert.AdamBiasRefIdeal.Read.val_main_v26, Cert.AdamBiasRefIdeal.Read.val_main_cst_9, Cert.AdamBiasRefIdeal.Read.val_main_v25, Cert.AdamBiasRefIdeal.Read.val_main_v24, Cert.AdamBiasRefIdeal.Read.val_main_cst_8, Cert.AdamBiasRefIdeal.Read.val_main_v46, Cert.AdamBiasRefIdeal.Read.val_main_cst_16]

theorem final_d1 : (dats m 0 c).arrAt 13 (cfgs 0).N = Cert.AdamBiasRefIdeal.Read.val_main_v47 (F := Ideal) (x1 m c) (x4 m c) (x7 m c) (x10 m c) := by
  refine (dats m 0 c).arrAt_eq_of_covers 13 _ (by decide +kernel) fun t hf y => ?_
  blk_simp
  rw [after0_13]
  unfold out0_13
  frame_out
  rw [pay_d1, ref_d1]
  rfl

theorem pay_m1 (g mm : FVec Ideal S2x512 .f32) (y : S2x512.Idx) :
    (k0_pay7 (F := Ideal) g mm y : EReal) = Adam.newM (g y) (mm y) := by
  idx_vars y
  pointwise [k0_pay7, Adam.newM]

theorem ref_m1 (g mm : FVec Ideal S2x512 .f32) (y : S2x512.Idx) :
    (Cert.AdamBiasRefIdeal.Read.val_main_v28 (F := Ideal) g mm y : EReal) = Adam.newM (g y) (mm y) := by
  idx_vars y
  pointwise [Cert.AdamBiasRefIdeal.Read.val_main_v28, Cert.AdamBiasRefIdeal.Read.val_main_v27, Cert.AdamBiasRefIdeal.Read.val_main_v26, Cert.AdamBiasRefIdeal.Read.val_main_cst_9, Cert.AdamBiasRefIdeal.Read.val_main_v25, Cert.AdamBiasRefIdeal.Read.val_main_v24, Cert.AdamBiasRefIdeal.Read.val_main_cst_8, Adam.newM]

theorem final_m1 : (dats m 0 c).arrAt 16 (cfgs 0).N = Cert.AdamBiasRefIdeal.Read.val_main_v28 (F := Ideal) (x4 m c) (x7 m c) := by
  refine (dats m 0 c).arrAt_eq_of_covers 16 _ (by decide +kernel) fun t hf y => ?_
  blk_simp
  rw [after0_16]
  unfold out0_16
  frame_out
  rw [pay_m1, ref_m1]
  rfl

theorem pay_v1 (g v : FVec Ideal S2x512 .f32) (y : S2x512.Idx) :
    (k0_pay8 (F := Ideal) g v y : EReal) = Adam.newV (g y) (v y) := by
  idx_vars y
  pointwise [k0_pay8, Adam.newV]

theorem ref_v1 (g v : FVec Ideal S2x512 .f32) (y : S2x512.Idx) :
    (Cert.AdamBiasRefIdeal.Read.val_main_v34 (F := Ideal) g v y : EReal) = Adam.newV (g y) (v y) := by
  idx_vars y
  pointwise [Cert.AdamBiasRefIdeal.Read.val_main_v34, Cert.AdamBiasRefIdeal.Read.val_main_v33, Cert.AdamBiasRefIdeal.Read.val_main_v31, Cert.AdamBiasRefIdeal.Read.val_main_v32, Cert.AdamBiasRefIdeal.Read.val_main_cst_11, Cert.AdamBiasRefIdeal.Read.val_main_v30, Cert.AdamBiasRefIdeal.Read.val_main_v29, Cert.AdamBiasRefIdeal.Read.val_main_cst_10, Adam.newV]

theorem final_v1 : (dats m 0 c).arrAt 19 (cfgs 0).N = Cert.AdamBiasRefIdeal.Read.val_main_v34 (F := Ideal) (x4 m c) (x10 m c) := by
  refine (dats m 0 c).arrAt_eq_of_covers 19 _ (by decide +kernel) fun t hf y => ?_
  blk_simp
  rw [after0_19]
  unfold out0_19
  frame_out
  rw [pay_v1, ref_v1]
  rfl

theorem pay_d2 (w g mm v : FVec Ideal S2x5632 .f32) (y : S2x5632.Idx) :
    (k0_pay3 (F := Ideal) g mm v w y : EReal) = Adam.delta (w y) (g y) (mm y) (v y) := by
  unfold Adam.delta Adam.newM Adam.newV
  rw [Adam.div_bias1, Adam.div_bias2, ← named1, ← named2]
  idx_vars y
  pointwise [k0_pay3, k0_pay2, k0_pay1]

theorem ref_d2 (w g mm v : FVec Ideal S2x5632 .f32) (y : S2x5632.Idx) :
    (Cert.AdamBiasRefIdeal.Read.val_main_v71 (F := Ideal) w g mm v y : EReal) = Adam.delta (w y) (g y) (mm y) (v y) := by
  unfold Adam.delta Adam.newM Adam.newV
  idx_vars y
  pointwise [Cert.AdamBiasRefIdeal.Read.val_main_v71, Cert.AdamBiasRefIdeal.Read.val_main_v69, Cert.AdamBiasRefIdeal.Read.val_main_v68, Cert.AdamBiasRefIdeal.Read.val_main_v67, Cert.AdamBiasRefIdeal.Read.val_main_cst_24, Cert.AdamBiasRefIdeal.Read.val_main_v66, Cert.AdamBiasRefIdeal.Read.val_main_v65, Cert.AdamBiasRefIdeal.Read.val_main_v64, Cert.AdamBiasRefIdeal.Read.val_main_cst_23, Cert.AdamBiasRefIdeal.Read.val_main_v63, Cert.AdamBiasRefIdeal.Read.val_main_v62, Cert.AdamBiasRefIdeal.Read.val_main_v61, Cert.AdamBiasRefIdeal.Read.val_main_cst_22, Cert.AdamBiasRefIdeal.Read.val_main_v58, Cert.AdamBiasRefIdeal.Read.val_main_v57, Cert.AdamBiasRefIdeal.Read.val_main_v55, Cert.AdamBiasRefIdeal.Read.val_main_v56, Cert.AdamBiasRefIdeal.Read.val_main_cst_20, Cert.AdamBiasRefIdeal.Read.val_main_v54, Cert.AdamBiasRefIdeal.Read.val_main_v53, Cert.AdamBiasRefIdeal.Read.val_main_cst_19, Cert.AdamBiasRefIdeal.Read.val_main_v60, Cert.AdamBiasRefIdeal.Read.val_main_v59, Cert.AdamBiasRefIdeal.Read.val_main_cst_21, Cert.AdamBiasRefIdeal.Read.val_main_v52, Cert.AdamBiasRefIdeal.Read.val_main_v51, Cert.AdamBiasRefIdeal.Read.val_main_v50, Cert.AdamBiasRefIdeal.Read.val_main_cst_18, Cert.AdamBiasRefIdeal.Read.val_main_v49, Cert.AdamBiasRefIdeal.Read.val_main_v48, Cert.AdamBiasRefIdeal.Read.val_main_cst_17, Cert.AdamBiasRefIdeal.Read.val_main_v70, Cert.AdamBiasRefIdeal.Read.val_main_cst_25]

theorem final_d2 : (dats m 0 c).arrAt 14 (cfgs 0).N = Cert.AdamBiasRefIdeal.Read.val_main_v71 (F := Ideal) (x2 m c) (x5 m c) (x8 m c) (x11 m c) := by
  refine (dats m 0 c).arrAt_eq_of_covers 14 _ (by decide +kernel) fun t hf y => ?_
  blk_simp
  rw [after0_14]
  unfold out0_14
  frame_out
  rw [pay_d2, ref_d2]
  rfl

theorem pay_m2 (g mm : FVec Ideal S2x5632 .f32) (y : S2x5632.Idx) :
    (k0_pay1 (F := Ideal) g mm y : EReal) = Adam.newM (g y) (mm y) := by
  idx_vars y
  pointwise [k0_pay1, Adam.newM]

theorem ref_m2 (g mm : FVec Ideal S2x5632 .f32) (y : S2x5632.Idx) :
    (Cert.AdamBiasRefIdeal.Read.val_main_v52 (F := Ideal) g mm y : EReal) = Adam.newM (g y) (mm y) := by
  idx_vars y
  pointwise [Cert.AdamBiasRefIdeal.Read.val_main_v52, Cert.AdamBiasRefIdeal.Read.val_main_v51, Cert.AdamBiasRefIdeal.Read.val_main_v50, Cert.AdamBiasRefIdeal.Read.val_main_cst_18, Cert.AdamBiasRefIdeal.Read.val_main_v49, Cert.AdamBiasRefIdeal.Read.val_main_v48, Cert.AdamBiasRefIdeal.Read.val_main_cst_17, Adam.newM]

theorem final_m2 : (dats m 0 c).arrAt 17 (cfgs 0).N = Cert.AdamBiasRefIdeal.Read.val_main_v52 (F := Ideal) (x5 m c) (x8 m c) := by
  refine (dats m 0 c).arrAt_eq_of_covers 17 _ (by decide +kernel) fun t hf y => ?_
  blk_simp
  rw [after0_17]
  unfold out0_17
  frame_out
  rw [pay_m2, ref_m2]
  rfl

theorem pay_v2 (g v : FVec Ideal S2x5632 .f32) (y : S2x5632.Idx) :
    (k0_pay2 (F := Ideal) g v y : EReal) = Adam.newV (g y) (v y) := by
  idx_vars y
  pointwise [k0_pay2, Adam.newV]

theorem ref_v2 (g v : FVec Ideal S2x5632 .f32) (y : S2x5632.Idx) :
    (Cert.AdamBiasRefIdeal.Read.val_main_v58 (F := Ideal) g v y : EReal) = Adam.newV (g y) (v y) := by
  idx_vars y
  pointwise [Cert.AdamBiasRefIdeal.Read.val_main_v58, Cert.AdamBiasRefIdeal.Read.val_main_v57, Cert.AdamBiasRefIdeal.Read.val_main_v55, Cert.AdamBiasRefIdeal.Read.val_main_v56, Cert.AdamBiasRefIdeal.Read.val_main_cst_20, Cert.AdamBiasRefIdeal.Read.val_main_v54, Cert.AdamBiasRefIdeal.Read.val_main_v53, Cert.AdamBiasRefIdeal.Read.val_main_cst_19, Adam.newV]

theorem final_v2 : (dats m 0 c).arrAt 20 (cfgs 0).N = Cert.AdamBiasRefIdeal.Read.val_main_v58 (F := Ideal) (x5 m c) (x11 m c) := by
  refine (dats m 0 c).arrAt_eq_of_covers 20 _ (by decide +kernel) fun t hf y => ?_
  blk_simp
  rw [after0_20]
  unfold out0_20
  frame_out
  rw [pay_v2, ref_v2]
  rfl

/-- The reference runs to its end and leaves its arguments alone. -/
theorem frame_ref : Cert.quiescent_AdamBiasRefIdeal := fun m g _ =>
  (θ_run Cert.AdamBiasRefIdeal.defs _ _).mono (fun r h => ⟨fun c => (h c).2.2.2.2.2.2.2.2.2, sem_eq_zero_of_no_sems (by decide) r.2⟩)
    (Cert.AdamBiasRefIdeal.Value.run m g)

/-- Over the reals every result of the call is the reference's. -/
theorem algebraic : Cert.algebraic_AdamBiasIdeal_AdamBiasRefIdeal := by
  intro m g m' g' _ hagree
  refine ⟨fun c => Cert.AdamBiasRefIdeal.Read.val_main_v23 (F := Ideal) (x0 m c) (x3 m c) (x6 m c) (x9 m c),
    fun c => Cert.AdamBiasRefIdeal.Read.val_main_v47 (F := Ideal) (x1 m c) (x4 m c) (x7 m c) (x10 m c),
    fun c => Cert.AdamBiasRefIdeal.Read.val_main_v71 (F := Ideal) (x2 m c) (x5 m c) (x8 m c) (x11 m c),
    fun c => Cert.AdamBiasRefIdeal.Read.val_main_v4 (F := Ideal) (x3 m c) (x6 m c),
    fun c => Cert.AdamBiasRefIdeal.Read.val_main_v28 (F := Ideal) (x4 m c) (x7 m c),
    fun c => Cert.AdamBiasRefIdeal.Read.val_main_v52 (F := Ideal) (x5 m c) (x8 m c),
    fun c => Cert.AdamBiasRefIdeal.Read.val_main_v10 (F := Ideal) (x3 m c) (x9 m c),
    fun c => Cert.AdamBiasRefIdeal.Read.val_main_v34 (F := Ideal) (x4 m c) (x10 m c),
    fun c => Cert.AdamBiasRefIdeal.Read.val_main_v58 (F := Ideal) (x5 m c) (x11 m c), ?_, ?_⟩
  · refine (θ_run Cert.AdamBiasIdeal.defs _ _).mono (fun r h c => ?_) (Cert.AdamBiasIdeal.Value.run_blocks m g)
    exact ⟨(h c).1.trans (final_d0 m c),
      (h c).2.1.trans (final_d1 m c),
      (h c).2.2.1.trans (final_d2 m c),
      (h c).2.2.2.1.trans (final_m0 m c),
      (h c).2.2.2.2.1.trans (final_m1 m c),
      (h c).2.2.2.2.2.1.trans (final_m2 m c),
      (h c).2.2.2.2.2.2.1.trans (final_v0 m c),
      (h c).2.2.2.2.2.2.2.1.trans (final_v1 m c),
      (h c).2.2.2.2.2.2.2.2.1.trans (final_v2 m c), (h c).2.2.2.2.2.2.2.2.2⟩
  · refine (θ_run Cert.AdamBiasRefIdeal.defs _ _).mono (fun r h c => ?_) (Cert.AdamBiasRefIdeal.Value.run m' g')
    obtain ⟨e0, e1, e2, e3, e4, e5, e6, e7, e8, e9, e10, e11⟩ := hagree c
    exact ⟨((h c).1.trans (Cert.AdamBiasRefIdeal.Read.val_main_v23_eq _ _ _ _)).trans (Adam.congr4 (α := FVec Ideal S2x16 .f32) (Cert.AdamBiasRefIdeal.Read.val_main_v23 (F := Ideal)) e0 e3 e6 e9),
      ((h c).2.1.trans (Cert.AdamBiasRefIdeal.Read.val_main_v47_eq _ _ _ _)).trans (Adam.congr4 (α := FVec Ideal S2x512 .f32) (Cert.AdamBiasRefIdeal.Read.val_main_v47 (F := Ideal)) e1 e4 e7 e10),
      ((h c).2.2.1.trans (Cert.AdamBiasRefIdeal.Read.val_main_v71_eq _ _ _ _)).trans (Adam.congr4 (α := FVec Ideal S2x5632 .f32) (Cert.AdamBiasRefIdeal.Read.val_main_v71 (F := Ideal)) e2 e5 e8 e11),
      ((h c).2.2.2.1.trans (Cert.AdamBiasRefIdeal.Read.val_main_v4_eq _ _)).trans (Adam.congr2 (α := FVec Ideal S2x16 .f32) (Cert.AdamBiasRefIdeal.Read.val_main_v4 (F := Ideal)) e3 e6),
      ((h c).2.2.2.2.1.trans (Cert.AdamBiasRefIdeal.Read.val_main_v28_eq _ _)).trans (Adam.congr2 (α := FVec Ideal S2x512 .f32) (Cert.AdamBiasRefIdeal.Read.val_main_v28 (F := Ideal)) e4 e7),
      ((h c).2.2.2.2.2.1.trans (Cert.AdamBiasRefIdeal.Read.val_main_v52_eq _ _)).trans (Adam.congr2 (α := FVec Ideal S2x5632 .f32) (Cert.AdamBiasRefIdeal.Read.val_main_v52 (F := Ideal)) e5 e8),
      ((h c).2.2.2.2.2.2.1.trans (Cert.AdamBiasRefIdeal.Read.val_main_v10_eq _ _)).trans (Adam.congr2 (α := FVec Ideal S2x16 .f32) (Cert.AdamBiasRefIdeal.Read.val_main_v10 (F := Ideal)) e3 e9),
      ((h c).2.2.2.2.2.2.2.1.trans (Cert.AdamBiasRefIdeal.Read.val_main_v34_eq _ _)).trans (Adam.congr2 (α := FVec Ideal S2x512 .f32) (Cert.AdamBiasRefIdeal.Read.val_main_v34 (F := Ideal)) e4 e10),
      ((h c).2.2.2.2.2.2.2.2.1.trans (Cert.AdamBiasRefIdeal.Read.val_main_v58_eq _ _)).trans (Adam.congr2 (α := FVec Ideal S2x5632 .f32) (Cert.AdamBiasRefIdeal.Read.val_main_v58 (F := Ideal)) e5 e11), (h c).2.2.2.2.2.2.2.2.2⟩

end Cert.AdamBiasIdeal.Final
-- ==== Proof.AdamConv.lean ====
module

public import proofs.«01_k».proof.Defs
public import proofs.«01_k».proof.Proof.Gen.AdamConv.Frame
public import proofs.«01_k».proof.Proof.Gen.AdamConvIdeal.Value
public import proofs.«01_k».proof.Proof.Gen.AdamConvRefIdeal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The steps of the four convolutions' weights, one shape after another. -/

namespace Cert.AdamConvIdeal.Final

open Cert.AdamConvIdeal Cert.AdamConvIdeal.Gen

variable (m : (ℓ : Loc nD τ sig) → Buf (Elt Ideal) ℓ) (c : Dev nD)

abbrev x0 : FVec Ideal S2x4x320 .f32 := m (c.tc.loc main_arg0)
abbrev x1 : FVec Ideal S2x31x128 .f32 := m (c.tc.loc main_arg1)
abbrev x2 : FVec Ideal S2x3x128 .f32 := m (c.tc.loc main_arg2)
abbrev x3 : FVec Ideal S2x3x1408 .f32 := m (c.tc.loc main_arg3)
abbrev x4 : FVec Ideal S2x4x320 .f32 := m (c.tc.loc main_arg4)
abbrev x5 : FVec Ideal S2x31x128 .f32 := m (c.tc.loc main_arg5)
abbrev x6 : FVec Ideal S2x3x128 .f32 := m (c.tc.loc main_arg6)
abbrev x7 : FVec Ideal S2x3x1408 .f32 := m (c.tc.loc main_arg7)
abbrev x8 : FVec Ideal S2x4x320 .f32 := m (c.tc.loc main_arg8)
abbrev x9 : FVec Ideal S2x31x128 .f32 := m (c.tc.loc main_arg9)
abbrev x10 : FVec Ideal S2x3x128 .f32 := m (c.tc.loc main_arg10)
abbrev x11 : FVec Ideal S2x3x1408 .f32 := m (c.tc.loc main_arg11)
abbrev x12 : FVec Ideal S2x4x320 .f32 := m (c.tc.loc main_arg12)
abbrev x13 : FVec Ideal S2x31x128 .f32 := m (c.tc.loc main_arg13)
abbrev x14 : FVec Ideal S2x3x128 .f32 := m (c.tc.loc main_arg14)
abbrev x15 : FVec Ideal S2x3x1408 .f32 := m (c.tc.loc main_arg15)

theorem named1 : Named.named (F := Ideal) Cert.AdamConvIdeal.κ "c1" (φ := .f32) 0x3FC48605#32 = ((8388608 / 5463681 : ℝ) : EReal) :=
  IdealRules.named_const.ideal_named_scalar _ _ _ _ rfl

theorem named2 : Named.named (F := Ideal) Cert.AdamConvIdeal.κ "c2" (φ := .f32) 0x42C8E6D3#32 = ((268435456 / 2672307 : ℝ) : EReal) :=
  IdealRules.named_const.ideal_named_scalar _ _ _ _ rfl

theorem preserves : Cert.preserves_AdamConv_AdamConvIdeal :=
  ⟨IdealRules.named_const.statement Cert.AdamConvIdeal.κ "c1" .f32 0x3FC48605#32 ((8388608 / 5463681 : ℝ) : EReal) rfl,
    IdealRules.named_const.statement Cert.AdamConvIdeal.κ "c2" .f32 0x42C8E6D3#32 ((268435456 / 2672307 : ℝ) : EReal) rfl⟩

theorem pay_d0 (w g mm v : FVec Ideal S2x4x320 .f32) (y : S2x4x320.Idx) :
    (k0_pay4 (F := Ideal) g mm v w y : EReal) = Adam.delta (w y) (g y) (mm y) (v y) := by
  unfold Adam.delta Adam.newM Adam.newV
  rw [Adam.div_bias1, Adam.div_bias2, ← named1, ← named2]
  idx_vars y
  pointwise [k0_pay4, k0_pay3, k0_pay2]

theorem ref_d0 (w g mm v : FVec Ideal S2x4x320 .f32) (y : S2x4x320.Idx) :
    (Cert.AdamConvRefIdeal.Read.val_main_v23 (F := Ideal) w g mm v y : EReal) = Adam.delta (w y) (g y) (mm y) (v y) := by
  unfold Adam.delta Adam.newM Adam.newV
  idx_vars y
  pointwise [Cert.AdamConvRefIdeal.Read.val_main_v23, Cert.AdamConvRefIdeal.Read.val_main_v21, Cert.AdamConvRefIdeal.Read.val_main_v20, Cert.AdamConvRefIdeal.Read.val_main_v19, Cert.AdamConvRefIdeal.Read.val_main_cst_6, Cert.AdamConvRefIdeal.Read.val_main_v18, Cert.AdamConvRefIdeal.Read.val_main_v17, Cert.AdamConvRefIdeal.Read.val_main_v16, Cert.AdamConvRefIdeal.Read.val_main_cst_5, Cert.AdamConvRefIdeal.Read.val_main_v15, Cert.AdamConvRefIdeal.Read.val_main_v14, Cert.AdamConvRefIdeal.Read.val_main_v13, Cert.AdamConvRefIdeal.Read.val_main_cst_4, Cert.AdamConvRefIdeal.Read.val_main_v10, Cert.AdamConvRefIdeal.Read.val_main_v9, Cert.AdamConvRefIdeal.Read.val_main_v7, Cert.AdamConvRefIdeal.Read.val_main_v8, Cert.AdamConvRefIdeal.Read.val_main_cst_2, Cert.AdamConvRefIdeal.Read.val_main_v6, Cert.AdamConvRefIdeal.Read.val_main_v5, Cert.AdamConvRefIdeal.Read.val_main_cst_1, Cert.AdamConvRefIdeal.Read.val_main_v12, Cert.AdamConvRefIdeal.Read.val_main_v11, Cert.AdamConvRefIdeal.Read.val_main_cst_3, Cert.AdamConvRefIdeal.Read.val_main_v4, Cert.AdamConvRefIdeal.Read.val_main_v3, Cert.AdamConvRefIdeal.Read.val_main_v2, Cert.AdamConvRefIdeal.Read.val_main_cst_0, Cert.AdamConvRefIdeal.Read.val_main_v1, Cert.AdamConvRefIdeal.Read.val_main_v0, Cert.AdamConvRefIdeal.Read.val_main_cst, Cert.AdamConvRefIdeal.Read.val_main_v22, Cert.AdamConvRefIdeal.Read.val_main_cst_7]

theorem final_d0 : (dats m 0 c).arrAt 16 (cfgs 0).N = Cert.AdamConvRefIdeal.Read.val_main_v23 (F := Ideal) (x0 m c) (x4 m c) (x8 m c) (x12 m c) := by
  refine (dats m 0 c).arrAt_eq_of_covers 16 _ (by decide +kernel) fun t hf y => ?_
  blk_simp
  rw [after0_16]
  unfold out0_16
  frame_out
  rw [pay_d0, ref_d0]
  rfl

theorem pay_m0 (g mm : FVec Ideal S2x4x320 .f32) (y : S2x4x320.Idx) :
    (k0_pay2 (F := Ideal) g mm y : EReal) = Adam.newM (g y) (mm y) := by
  idx_vars y
  pointwise [k0_pay2, Adam.newM]

theorem ref_m0 (g mm : FVec Ideal S2x4x320 .f32) (y : S2x4x320.Idx) :
    (Cert.AdamConvRefIdeal.Read.val_main_v4 (F := Ideal) g mm y : EReal) = Adam.newM (g y) (mm y) := by
  idx_vars y
  pointwise [Cert.AdamConvRefIdeal.Read.val_main_v4, Cert.AdamConvRefIdeal.Read.val_main_v3, Cert.AdamConvRefIdeal.Read.val_main_v2, Cert.AdamConvRefIdeal.Read.val_main_cst_0, Cert.AdamConvRefIdeal.Read.val_main_v1, Cert.AdamConvRefIdeal.Read.val_main_v0, Cert.AdamConvRefIdeal.Read.val_main_cst, Adam.newM]

theorem final_m0 : (dats m 0 c).arrAt 20 (cfgs 0).N = Cert.AdamConvRefIdeal.Read.val_main_v4 (F := Ideal) (x4 m c) (x8 m c) := by
  refine (dats m 0 c).arrAt_eq_of_covers 20 _ (by decide +kernel) fun t hf y => ?_
  blk_simp
  rw [after0_20]
  unfold out0_20
  frame_out
  rw [pay_m0, ref_m0]
  rfl

theorem pay_v0 (g v : FVec Ideal S2x4x320 .f32) (y : S2x4x320.Idx) :
    (k0_pay3 (F := Ideal) g v y : EReal) = Adam.newV (g y) (v y) := by
  idx_vars y
  pointwise [k0_pay3, Adam.newV]

theorem ref_v0 (g v : FVec Ideal S2x4x320 .f32) (y : S2x4x320.Idx) :
    (Cert.AdamConvRefIdeal.Read.val_main_v10 (F := Ideal) g v y : EReal) = Adam.newV (g y) (v y) := by
  idx_vars y
  pointwise [Cert.AdamConvRefIdeal.Read.val_main_v10, Cert.AdamConvRefIdeal.Read.val_main_v9, Cert.AdamConvRefIdeal.Read.val_main_v7, Cert.AdamConvRefIdeal.Read.val_main_v8, Cert.AdamConvRefIdeal.Read.val_main_cst_2, Cert.AdamConvRefIdeal.Read.val_main_v6, Cert.AdamConvRefIdeal.Read.val_main_v5, Cert.AdamConvRefIdeal.Read.val_main_cst_1, Adam.newV]

theorem final_v0 : (dats m 0 c).arrAt 24 (cfgs 0).N = Cert.AdamConvRefIdeal.Read.val_main_v10 (F := Ideal) (x4 m c) (x12 m c) := by
  refine (dats m 0 c).arrAt_eq_of_covers 24 _ (by decide +kernel) fun t hf y => ?_
  blk_simp
  rw [after0_24]
  unfold out0_24
  frame_out
  rw [pay_v0, ref_v0]
  rfl

theorem pay_d1 (w g mm v : FVec Ideal S2x31x128 .f32) (y : S2x31x128.Idx) :
    (k0_pay8 (F := Ideal) (k0_pay7 (F := Ideal) g mm v w) y : EReal) = Adam.delta (w y) (g y) (mm y) (v y) := by
  unfold Adam.delta Adam.newM Adam.newV
  rw [Adam.div_bias1, Adam.div_bias2, ← named1, ← named2]
  idx_vars y
  pointwise [k0_pay7, k0_pay6, k0_pay5, k0_pay8]

theorem ref_d1 (w g mm v : FVec Ideal S2x31x128 .f32) (y : S2x31x128.Idx) :
    (Cert.AdamConvRefIdeal.Read.val_main_v47 (F := Ideal) w g mm v y : EReal) = Adam.delta (w y) (g y) (mm y) (v y) := by
  unfold Adam.delta Adam.newM Adam.newV
  idx_vars y
  pointwise [Cert.AdamConvRefIdeal.Read.val_main_v47, Cert.AdamConvRefIdeal.Read.val_main_v45, Cert.AdamConvRefIdeal.Read.val_main_v44, Cert.AdamConvRefIdeal.Read.val_main_v43, Cert.AdamConvRefIdeal.Read.val_main_cst_15, Cert.AdamConvRefIdeal.Read.val_main_v42, Cert.AdamConvRefIdeal.Read.val_main_v41, Cert.AdamConvRefIdeal.Read.val_main_v40, Cert.AdamConvRefIdeal.Read.val_main_cst_14, Cert.AdamConvRefIdeal.Read.val_main_v39, Cert.AdamConvRefIdeal.Read.val_main_v38, Cert.AdamConvRefIdeal.Read.val_main_v37, Cert.AdamConvRefIdeal.Read.val_main_cst_13, Cert.AdamConvRefIdeal.Read.val_main_v34, Cert.AdamConvRefIdeal.Read.val_main_v33, Cert.AdamConvRefIdeal.Read.val_main_v31, Cert.AdamConvRefIdeal.Read.val_main_v32, Cert.AdamConvRefIdeal.Read.val_main_cst_11, Cert.AdamConvRefIdeal.Read.val_main_v30, Cert.AdamConvRefIdeal.Read.val_main_v29, Cert.AdamConvRefIdeal.Read.val_main_cst_10, Cert.AdamConvRefIdeal.Read.val_main_v36, Cert.AdamConvRefIdeal.Read.val_main_v35, Cert.AdamConvRefIdeal.Read.val_main_cst_12, Cert.AdamConvRefIdeal.Read.val_main_v28, Cert.AdamConvRefIdeal.Read.val_main_v27, Cert.AdamConvRefIdeal.Read.val_main_v26, Cert.AdamConvRefIdeal.Read.val_main_cst_9, Cert.AdamConvRefIdeal.Read.val_main_v25, Cert.AdamConvRefIdeal.Read.val_main_v24, Cert.AdamConvRefIdeal.Read.val_main_cst_8, Cert.AdamConvRefIdeal.Read.val_main_v46, Cert.AdamConvRefIdeal.Read.val_main_cst_16]

theorem final_d1 : (dats m 0 c).arrAt 17 (cfgs 0).N = Cert.AdamConvRefIdeal.Read.val_main_v47 (F := Ideal) (x1 m c) (x5 m c) (x9 m c) (x13 m c) := by
  refine (dats m 0 c).arrAt_eq_of_covers 17 _ (by decide +kernel) fun t hf y => ?_
  blk_simp
  rw [after0_17]
  unfold out0_17
  frame_out
  rw [pay_d1, ref_d1]
  rfl

theorem pay_m1 (g mm : FVec Ideal S2x31x128 .f32) (y : S2x31x128.Idx) :
    (k0_pay5 (F := Ideal) g mm y : EReal) = Adam.newM (g y) (mm y) := by
  idx_vars y
  pointwise [k0_pay5, Adam.newM]

theorem ref_m1 (g mm : FVec Ideal S2x31x128 .f32) (y : S2x31x128.Idx) :
    (Cert.AdamConvRefIdeal.Read.val_main_v28 (F := Ideal) g mm y : EReal) = Adam.newM (g y) (mm y) := by
  idx_vars y
  pointwise [Cert.AdamConvRefIdeal.Read.val_main_v28, Cert.AdamConvRefIdeal.Read.val_main_v27, Cert.AdamConvRefIdeal.Read.val_main_v26, Cert.AdamConvRefIdeal.Read.val_main_cst_9, Cert.AdamConvRefIdeal.Read.val_main_v25, Cert.AdamConvRefIdeal.Read.val_main_v24, Cert.AdamConvRefIdeal.Read.val_main_cst_8, Adam.newM]

theorem final_m1 : (dats m 0 c).arrAt 21 (cfgs 0).N = Cert.AdamConvRefIdeal.Read.val_main_v28 (F := Ideal) (x5 m c) (x9 m c) := by
  refine (dats m 0 c).arrAt_eq_of_covers 21 _ (by decide +kernel) fun t hf y => ?_
  blk_simp
  rw [after0_21]
  unfold out0_21
  frame_out
  rw [pay_m1, ref_m1]
  rfl

theorem pay_v1 (g v : FVec Ideal S2x31x128 .f32) (y : S2x31x128.Idx) :
    (k0_pay6 (F := Ideal) g v y : EReal) = Adam.newV (g y) (v y) := by
  idx_vars y
  pointwise [k0_pay6, Adam.newV]

theorem ref_v1 (g v : FVec Ideal S2x31x128 .f32) (y : S2x31x128.Idx) :
    (Cert.AdamConvRefIdeal.Read.val_main_v34 (F := Ideal) g v y : EReal) = Adam.newV (g y) (v y) := by
  idx_vars y
  pointwise [Cert.AdamConvRefIdeal.Read.val_main_v34, Cert.AdamConvRefIdeal.Read.val_main_v33, Cert.AdamConvRefIdeal.Read.val_main_v31, Cert.AdamConvRefIdeal.Read.val_main_v32, Cert.AdamConvRefIdeal.Read.val_main_cst_11, Cert.AdamConvRefIdeal.Read.val_main_v30, Cert.AdamConvRefIdeal.Read.val_main_v29, Cert.AdamConvRefIdeal.Read.val_main_cst_10, Adam.newV]

theorem final_v1 : (dats m 0 c).arrAt 25 (cfgs 0).N = Cert.AdamConvRefIdeal.Read.val_main_v34 (F := Ideal) (x5 m c) (x13 m c) := by
  refine (dats m 0 c).arrAt_eq_of_covers 25 _ (by decide +kernel) fun t hf y => ?_
  blk_simp
  rw [after0_25]
  unfold out0_25
  frame_out
  rw [pay_v1, ref_v1]
  rfl

theorem pay_d2 (w g mm v : FVec Ideal S2x3x128 .f32) (y : S2x3x128.Idx) :
    (k0_pay12 (F := Ideal) (k0_pay11 (F := Ideal) g mm v) w y : EReal) = Adam.delta (w y) (g y) (mm y) (v y) := by
  unfold Adam.delta Adam.newM Adam.newV
  rw [Adam.div_bias1, Adam.div_bias2, ← named1, ← named2]
  idx_vars y
  pointwise [k0_pay11, k0_pay10, k0_pay9, k0_pay12]

theorem ref_d2 (w g mm v : FVec Ideal S2x3x128 .f32) (y : S2x3x128.Idx) :
    (Cert.AdamConvRefIdeal.Read.val_main_v71 (F := Ideal) w g mm v y : EReal) = Adam.delta (w y) (g y) (mm y) (v y) := by
  unfold Adam.delta Adam.newM Adam.newV
  idx_vars y
  pointwise [Cert.AdamConvRefIdeal.Read.val_main_v71, Cert.AdamConvRefIdeal.Read.val_main_v69, Cert.AdamConvRefIdeal.Read.val_main_v68, Cert.AdamConvRefIdeal.Read.val_main_v67, Cert.AdamConvRefIdeal.Read.val_main_cst_24, Cert.AdamConvRefIdeal.Read.val_main_v66, Cert.AdamConvRefIdeal.Read.val_main_v65, Cert.AdamConvRefIdeal.Read.val_main_v64, Cert.AdamConvRefIdeal.Read.val_main_cst_23, Cert.AdamConvRefIdeal.Read.val_main_v63, Cert.AdamConvRefIdeal.Read.val_main_v62, Cert.AdamConvRefIdeal.Read.val_main_v61, Cert.AdamConvRefIdeal.Read.val_main_cst_22, Cert.AdamConvRefIdeal.Read.val_main_v58, Cert.AdamConvRefIdeal.Read.val_main_v57, Cert.AdamConvRefIdeal.Read.val_main_v55, Cert.AdamConvRefIdeal.Read.val_main_v56, Cert.AdamConvRefIdeal.Read.val_main_cst_20, Cert.AdamConvRefIdeal.Read.val_main_v54, Cert.AdamConvRefIdeal.Read.val_main_v53, Cert.AdamConvRefIdeal.Read.val_main_cst_19, Cert.AdamConvRefIdeal.Read.val_main_v60, Cert.AdamConvRefIdeal.Read.val_main_v59, Cert.AdamConvRefIdeal.Read.val_main_cst_21, Cert.AdamConvRefIdeal.Read.val_main_v52, Cert.AdamConvRefIdeal.Read.val_main_v51, Cert.AdamConvRefIdeal.Read.val_main_v50, Cert.AdamConvRefIdeal.Read.val_main_cst_18, Cert.AdamConvRefIdeal.Read.val_main_v49, Cert.AdamConvRefIdeal.Read.val_main_v48, Cert.AdamConvRefIdeal.Read.val_main_cst_17, Cert.AdamConvRefIdeal.Read.val_main_v70, Cert.AdamConvRefIdeal.Read.val_main_cst_25]

theorem final_d2 : (dats m 0 c).arrAt 18 (cfgs 0).N = Cert.AdamConvRefIdeal.Read.val_main_v71 (F := Ideal) (x2 m c) (x6 m c) (x10 m c) (x14 m c) := by
  refine (dats m 0 c).arrAt_eq_of_covers 18 _ (by decide +kernel) fun t hf y => ?_
  blk_simp
  rw [after0_18]
  unfold out0_18
  frame_out
  rw [pay_d2, ref_d2]
  rfl

theorem pay_m2 (g mm : FVec Ideal S2x3x128 .f32) (y : S2x3x128.Idx) :
    (k0_pay9 (F := Ideal) g mm y : EReal) = Adam.newM (g y) (mm y) := by
  idx_vars y
  pointwise [k0_pay9, Adam.newM]

theorem ref_m2 (g mm : FVec Ideal S2x3x128 .f32) (y : S2x3x128.Idx) :
    (Cert.AdamConvRefIdeal.Read.val_main_v52 (F := Ideal) g mm y : EReal) = Adam.newM (g y) (mm y) := by
  idx_vars y
  pointwise [Cert.AdamConvRefIdeal.Read.val_main_v52, Cert.AdamConvRefIdeal.Read.val_main_v51, Cert.AdamConvRefIdeal.Read.val_main_v50, Cert.AdamConvRefIdeal.Read.val_main_cst_18, Cert.AdamConvRefIdeal.Read.val_main_v49, Cert.AdamConvRefIdeal.Read.val_main_v48, Cert.AdamConvRefIdeal.Read.val_main_cst_17, Adam.newM]

theorem final_m2 : (dats m 0 c).arrAt 22 (cfgs 0).N = Cert.AdamConvRefIdeal.Read.val_main_v52 (F := Ideal) (x6 m c) (x10 m c) := by
  refine (dats m 0 c).arrAt_eq_of_covers 22 _ (by decide +kernel) fun t hf y => ?_
  blk_simp
  rw [after0_22]
  unfold out0_22
  frame_out
  rw [pay_m2, ref_m2]
  rfl

theorem pay_v2 (g v : FVec Ideal S2x3x128 .f32) (y : S2x3x128.Idx) :
    (k0_pay10 (F := Ideal) g v y : EReal) = Adam.newV (g y) (v y) := by
  idx_vars y
  pointwise [k0_pay10, Adam.newV]

theorem ref_v2 (g v : FVec Ideal S2x3x128 .f32) (y : S2x3x128.Idx) :
    (Cert.AdamConvRefIdeal.Read.val_main_v58 (F := Ideal) g v y : EReal) = Adam.newV (g y) (v y) := by
  idx_vars y
  pointwise [Cert.AdamConvRefIdeal.Read.val_main_v58, Cert.AdamConvRefIdeal.Read.val_main_v57, Cert.AdamConvRefIdeal.Read.val_main_v55, Cert.AdamConvRefIdeal.Read.val_main_v56, Cert.AdamConvRefIdeal.Read.val_main_cst_20, Cert.AdamConvRefIdeal.Read.val_main_v54, Cert.AdamConvRefIdeal.Read.val_main_v53, Cert.AdamConvRefIdeal.Read.val_main_cst_19, Adam.newV]

theorem final_v2 : (dats m 0 c).arrAt 26 (cfgs 0).N = Cert.AdamConvRefIdeal.Read.val_main_v58 (F := Ideal) (x6 m c) (x14 m c) := by
  refine (dats m 0 c).arrAt_eq_of_covers 26 _ (by decide +kernel) fun t hf y => ?_
  blk_simp
  rw [after0_26]
  unfold out0_26
  frame_out
  rw [pay_v2, ref_v2]
  rfl

theorem pay_d3 (w g mm v : FVec Ideal S2x3x1408 .f32) (y : S2x3x1408.Idx) :
    (k0_pay1 (F := Ideal) (k0_pay15 (F := Ideal) g mm v) w y : EReal) = Adam.delta (w y) (g y) (mm y) (v y) := by
  unfold Adam.delta Adam.newM Adam.newV
  rw [Adam.div_bias1, Adam.div_bias2, ← named1, ← named2]
  idx_vars y
  pointwise [k0_pay15, k0_pay14, k0_pay13, k0_pay1]

theorem ref_d3 (w g mm v : FVec Ideal S2x3x1408 .f32) (y : S2x3x1408.Idx) :
    (Cert.AdamConvRefIdeal.Read.val_main_v95 (F := Ideal) w g mm v y : EReal) = Adam.delta (w y) (g y) (mm y) (v y) := by
  unfold Adam.delta Adam.newM Adam.newV
  idx_vars y
  pointwise [Cert.AdamConvRefIdeal.Read.val_main_v95, Cert.AdamConvRefIdeal.Read.val_main_v93, Cert.AdamConvRefIdeal.Read.val_main_v92, Cert.AdamConvRefIdeal.Read.val_main_v91, Cert.AdamConvRefIdeal.Read.val_main_cst_33, Cert.AdamConvRefIdeal.Read.val_main_v90, Cert.AdamConvRefIdeal.Read.val_main_v89, Cert.AdamConvRefIdeal.Read.val_main_v88, Cert.AdamConvRefIdeal.Read.val_main_cst_32, Cert.AdamConvRefIdeal.Read.val_main_v87, Cert.AdamConvRefIdeal.Read.val_main_v86, Cert.AdamConvRefIdeal.Read.val_main_v85, Cert.AdamConvRefIdeal.Read.val_main_cst_31, Cert.AdamConvRefIdeal.Read.val_main_v82, Cert.AdamConvRefIdeal.Read.val_main_v81, Cert.AdamConvRefIdeal.Read.val_main_v79, Cert.AdamConvRefIdeal.Read.val_main_v80, Cert.AdamConvRefIdeal.Read.val_main_cst_29, Cert.AdamConvRefIdeal.Read.val_main_v78, Cert.AdamConvRefIdeal.Read.val_main_v77, Cert.AdamConvRefIdeal.Read.val_main_cst_28, Cert.AdamConvRefIdeal.Read.val_main_v84, Cert.AdamConvRefIdeal.Read.val_main_v83, Cert.AdamConvRefIdeal.Read.val_main_cst_30, Cert.AdamConvRefIdeal.Read.val_main_v76, Cert.AdamConvRefIdeal.Read.val_main_v75, Cert.AdamConvRefIdeal.Read.val_main_v74, Cert.AdamConvRefIdeal.Read.val_main_cst_27, Cert.AdamConvRefIdeal.Read.val_main_v73, Cert.AdamConvRefIdeal.Read.val_main_v72, Cert.AdamConvRefIdeal.Read.val_main_cst_26, Cert.AdamConvRefIdeal.Read.val_main_v94, Cert.AdamConvRefIdeal.Read.val_main_cst_34]

theorem final_d3 : (dats m 0 c).arrAt 19 (cfgs 0).N = Cert.AdamConvRefIdeal.Read.val_main_v95 (F := Ideal) (x3 m c) (x7 m c) (x11 m c) (x15 m c) := by
  refine (dats m 0 c).arrAt_eq_of_covers 19 _ (by decide +kernel) fun t hf y => ?_
  blk_simp
  rw [after0_19]
  unfold out0_19
  frame_out
  rw [pay_d3, ref_d3]
  rfl

theorem pay_m3 (g mm : FVec Ideal S2x3x1408 .f32) (y : S2x3x1408.Idx) :
    (k0_pay13 (F := Ideal) g mm y : EReal) = Adam.newM (g y) (mm y) := by
  idx_vars y
  pointwise [k0_pay13, Adam.newM]

theorem ref_m3 (g mm : FVec Ideal S2x3x1408 .f32) (y : S2x3x1408.Idx) :
    (Cert.AdamConvRefIdeal.Read.val_main_v76 (F := Ideal) g mm y : EReal) = Adam.newM (g y) (mm y) := by
  idx_vars y
  pointwise [Cert.AdamConvRefIdeal.Read.val_main_v76, Cert.AdamConvRefIdeal.Read.val_main_v75, Cert.AdamConvRefIdeal.Read.val_main_v74, Cert.AdamConvRefIdeal.Read.val_main_cst_27, Cert.AdamConvRefIdeal.Read.val_main_v73, Cert.AdamConvRefIdeal.Read.val_main_v72, Cert.AdamConvRefIdeal.Read.val_main_cst_26, Adam.newM]

theorem final_m3 : (dats m 0 c).arrAt 23 (cfgs 0).N = Cert.AdamConvRefIdeal.Read.val_main_v76 (F := Ideal) (x7 m c) (x11 m c) := by
  refine (dats m 0 c).arrAt_eq_of_covers 23 _ (by decide +kernel) fun t hf y => ?_
  blk_simp
  rw [after0_23]
  unfold out0_23
  frame_out
  rw [pay_m3, ref_m3]
  rfl

theorem pay_v3 (g v : FVec Ideal S2x3x1408 .f32) (y : S2x3x1408.Idx) :
    (k0_pay14 (F := Ideal) g v y : EReal) = Adam.newV (g y) (v y) := by
  idx_vars y
  pointwise [k0_pay14, Adam.newV]

theorem ref_v3 (g v : FVec Ideal S2x3x1408 .f32) (y : S2x3x1408.Idx) :
    (Cert.AdamConvRefIdeal.Read.val_main_v82 (F := Ideal) g v y : EReal) = Adam.newV (g y) (v y) := by
  idx_vars y
  pointwise [Cert.AdamConvRefIdeal.Read.val_main_v82, Cert.AdamConvRefIdeal.Read.val_main_v81, Cert.AdamConvRefIdeal.Read.val_main_v79, Cert.AdamConvRefIdeal.Read.val_main_v80, Cert.AdamConvRefIdeal.Read.val_main_cst_29, Cert.AdamConvRefIdeal.Read.val_main_v78, Cert.AdamConvRefIdeal.Read.val_main_v77, Cert.AdamConvRefIdeal.Read.val_main_cst_28, Adam.newV]

theorem final_v3 : (dats m 0 c).arrAt 27 (cfgs 0).N = Cert.AdamConvRefIdeal.Read.val_main_v82 (F := Ideal) (x7 m c) (x15 m c) := by
  refine (dats m 0 c).arrAt_eq_of_covers 27 _ (by decide +kernel) fun t hf y => ?_
  blk_simp
  rw [after0_27]
  unfold out0_27
  frame_out
  rw [pay_v3, ref_v3]
  rfl

/-- The reference runs to its end and leaves its arguments alone. -/
theorem frame_ref : Cert.quiescent_AdamConvRefIdeal := fun m g _ =>
  (θ_run Cert.AdamConvRefIdeal.defs _ _).mono (fun r h => ⟨fun c => (h c).2.2.2.2.2.2.2.2.2.2.2.2, sem_eq_zero_of_no_sems (by decide) r.2⟩)
    (Cert.AdamConvRefIdeal.Value.run m g)

/-- Over the reals every result of the call is the reference's. -/
theorem algebraic : Cert.algebraic_AdamConvIdeal_AdamConvRefIdeal := by
  intro m g m' g' _ hagree
  refine ⟨fun c => Cert.AdamConvRefIdeal.Read.val_main_v23 (F := Ideal) (x0 m c) (x4 m c) (x8 m c) (x12 m c),
    fun c => Cert.AdamConvRefIdeal.Read.val_main_v47 (F := Ideal) (x1 m c) (x5 m c) (x9 m c) (x13 m c),
    fun c => Cert.AdamConvRefIdeal.Read.val_main_v71 (F := Ideal) (x2 m c) (x6 m c) (x10 m c) (x14 m c),
    fun c => Cert.AdamConvRefIdeal.Read.val_main_v95 (F := Ideal) (x3 m c) (x7 m c) (x11 m c) (x15 m c),
    fun c => Cert.AdamConvRefIdeal.Read.val_main_v4 (F := Ideal) (x4 m c) (x8 m c),
    fun c => Cert.AdamConvRefIdeal.Read.val_main_v28 (F := Ideal) (x5 m c) (x9 m c),
    fun c => Cert.AdamConvRefIdeal.Read.val_main_v52 (F := Ideal) (x6 m c) (x10 m c),
    fun c => Cert.AdamConvRefIdeal.Read.val_main_v76 (F := Ideal) (x7 m c) (x11 m c),
    fun c => Cert.AdamConvRefIdeal.Read.val_main_v10 (F := Ideal) (x4 m c) (x12 m c),
    fun c => Cert.AdamConvRefIdeal.Read.val_main_v34 (F := Ideal) (x5 m c) (x13 m c),
    fun c => Cert.AdamConvRefIdeal.Read.val_main_v58 (F := Ideal) (x6 m c) (x14 m c),
    fun c => Cert.AdamConvRefIdeal.Read.val_main_v82 (F := Ideal) (x7 m c) (x15 m c), ?_, ?_⟩
  · refine (θ_run Cert.AdamConvIdeal.defs _ _).mono (fun r h c => ?_) (Cert.AdamConvIdeal.Value.run_blocks m g)
    exact ⟨(h c).1.trans (final_d0 m c),
      (h c).2.1.trans (final_d1 m c),
      (h c).2.2.1.trans (final_d2 m c),
      (h c).2.2.2.1.trans (final_d3 m c),
      (h c).2.2.2.2.1.trans (final_m0 m c),
      (h c).2.2.2.2.2.1.trans (final_m1 m c),
      (h c).2.2.2.2.2.2.1.trans (final_m2 m c),
      (h c).2.2.2.2.2.2.2.1.trans (final_m3 m c),
      (h c).2.2.2.2.2.2.2.2.1.trans (final_v0 m c),
      (h c).2.2.2.2.2.2.2.2.2.1.trans (final_v1 m c),
      (h c).2.2.2.2.2.2.2.2.2.2.1.trans (final_v2 m c),
      (h c).2.2.2.2.2.2.2.2.2.2.2.1.trans (final_v3 m c), (h c).2.2.2.2.2.2.2.2.2.2.2.2⟩
  · refine (θ_run Cert.AdamConvRefIdeal.defs _ _).mono (fun r h c => ?_) (Cert.AdamConvRefIdeal.Value.run m' g')
    obtain ⟨e0, e1, e2, e3, e4, e5, e6, e7, e8, e9, e10, e11, e12, e13, e14, e15⟩ := hagree c
    exact ⟨((h c).1.trans (Cert.AdamConvRefIdeal.Read.val_main_v23_eq _ _ _ _)).trans (Adam.congr4 (α := FVec Ideal S2x4x320 .f32) (Cert.AdamConvRefIdeal.Read.val_main_v23 (F := Ideal)) e0 e4 e8 e12),
      ((h c).2.1.trans (Cert.AdamConvRefIdeal.Read.val_main_v47_eq _ _ _ _)).trans (Adam.congr4 (α := FVec Ideal S2x31x128 .f32) (Cert.AdamConvRefIdeal.Read.val_main_v47 (F := Ideal)) e1 e5 e9 e13),
      ((h c).2.2.1.trans (Cert.AdamConvRefIdeal.Read.val_main_v71_eq _ _ _ _)).trans (Adam.congr4 (α := FVec Ideal S2x3x128 .f32) (Cert.AdamConvRefIdeal.Read.val_main_v71 (F := Ideal)) e2 e6 e10 e14),
      ((h c).2.2.2.1.trans (Cert.AdamConvRefIdeal.Read.val_main_v95_eq _ _ _ _)).trans (Adam.congr4 (α := FVec Ideal S2x3x1408 .f32) (Cert.AdamConvRefIdeal.Read.val_main_v95 (F := Ideal)) e3 e7 e11 e15),
      ((h c).2.2.2.2.1.trans (Cert.AdamConvRefIdeal.Read.val_main_v4_eq _ _)).trans (Adam.congr2 (α := FVec Ideal S2x4x320 .f32) (Cert.AdamConvRefIdeal.Read.val_main_v4 (F := Ideal)) e4 e8),
      ((h c).2.2.2.2.2.1.trans (Cert.AdamConvRefIdeal.Read.val_main_v28_eq _ _)).trans (Adam.congr2 (α := FVec Ideal S2x31x128 .f32) (Cert.AdamConvRefIdeal.Read.val_main_v28 (F := Ideal)) e5 e9),
      ((h c).2.2.2.2.2.2.1.trans (Cert.AdamConvRefIdeal.Read.val_main_v52_eq _ _)).trans (Adam.congr2 (α := FVec Ideal S2x3x128 .f32) (Cert.AdamConvRefIdeal.Read.val_main_v52 (F := Ideal)) e6 e10),
      ((h c).2.2.2.2.2.2.2.1.trans (Cert.AdamConvRefIdeal.Read.val_main_v76_eq _ _)).trans (Adam.congr2 (α := FVec Ideal S2x3x1408 .f32) (Cert.AdamConvRefIdeal.Read.val_main_v76 (F := Ideal)) e7 e11),
      ((h c).2.2.2.2.2.2.2.2.1.trans (Cert.AdamConvRefIdeal.Read.val_main_v10_eq _ _)).trans (Adam.congr2 (α := FVec Ideal S2x4x320 .f32) (Cert.AdamConvRefIdeal.Read.val_main_v10 (F := Ideal)) e4 e12),
      ((h c).2.2.2.2.2.2.2.2.2.1.trans (Cert.AdamConvRefIdeal.Read.val_main_v34_eq _ _)).trans (Adam.congr2 (α := FVec Ideal S2x31x128 .f32) (Cert.AdamConvRefIdeal.Read.val_main_v34 (F := Ideal)) e5 e13),
      ((h c).2.2.2.2.2.2.2.2.2.2.1.trans (Cert.AdamConvRefIdeal.Read.val_main_v58_eq _ _)).trans (Adam.congr2 (α := FVec Ideal S2x3x128 .f32) (Cert.AdamConvRefIdeal.Read.val_main_v58 (F := Ideal)) e6 e14),
      ((h c).2.2.2.2.2.2.2.2.2.2.2.1.trans (Cert.AdamConvRefIdeal.Read.val_main_v82_eq _ _)).trans (Adam.congr2 (α := FVec Ideal S2x3x1408 .f32) (Cert.AdamConvRefIdeal.Read.val_main_v82 (F := Ideal)) e7 e15), (h c).2.2.2.2.2.2.2.2.2.2.2.2⟩

end Cert.AdamConvIdeal.Final
-- ==== Proof.Norm.lean ====
module

public import proofs.«01_k».proof.Proof.Reals

/-! The gradient of a root-mean-square norm over one row of 1024 entries, in the kernel's form and in the derivative's. -/

@[expose] public section

set_option maxRecDepth 16384

noncomputable section

open Idealize.ShloMosaic

namespace Cert.Norm

open Cert.Reals

theorem lit_1024 : Ideal.ofBits .f32 0x44800000#32 = ((1024 : ℝ) : EReal) := by
  simp [Ideal.ofBits, Ideal.ieee, -EReal.coe_mul]; norm_num

/-- The mean of a row's squares, with the small number added. -/
def mean (x : Fin 1024 → EReal) : EReal :=
  Ideal.div (∑ l, x l * x l) (Ideal.ofBits .f32 0x44800000#32) + Ideal.ofBits .f32 0x358637BD#32

/-- One over the root of the mean. -/
def rt (x : Fin 1024 → EReal) : EReal := Ideal.rsqrt (mean x)

/-- The row's gradient in the kernel's form. -/
def kdx (x a : Fin 1024 → EReal) (l : Fin 1024) : EReal :=
  rt x * (a l - x l * rt x * Ideal.div (∑ k, a k * (x k * rt x)) (Ideal.ofBits .f32 0x44800000#32))

/-- What flows back through the mean. -/
def back (x a : Fin 1024 → EReal) : EReal :=
  Ideal.div ((∑ k, x k * a k) * (Ideal.ofBits .f32 0xBF000000#32 * Ideal.div (rt x) (mean x))) (Ideal.ofBits .f32 0x44800000#32)

variable {x a : Fin 1024 → EReal}

theorem mean_coe (X : Fin 1024 → ℝ) : mean (fun l => (X l : EReal)) = (((∑ l, X l * X l) / 1024 + eps : ℝ) : EReal) := by
  simp only [mean, ← EReal.coe_mul]
  rw [sum_coe, lit_1024, eps_lit, div_coe _ (by norm_num), ← EReal.coe_add]

theorem mean_pos (X : Fin 1024 → ℝ) : 0 < (∑ l, X l * X l) / 1024 + eps :=
  add_pos_of_nonneg_of_pos (div_nonneg (Finset.sum_nonneg fun l _ => mul_self_nonneg (X l)) (by norm_num)) eps_pos

theorem rt_coe (X : Fin 1024 → ℝ) :
    rt (fun l => (X l : EReal)) = (((Real.sqrt ((∑ l, X l * X l) / 1024 + eps))⁻¹ : ℝ) : EReal) := by
  rw [rt, mean_coe, rsqrt_coe (mean_pos X)]

theorem rt_real (hx : ∀ l, IsR (x l)) : IsR (rt x) := by
  choose X hX using hx
  obtain rfl : x = fun l => (X l : EReal) := funext hX
  exact ⟨_, rt_coe X⟩

/-- Both forms of the row's gradient agree on real numbers. -/
theorem dx_eq (hx : ∀ l, IsR (x l)) (ha : ∀ l, IsR (a l)) (l : Fin 1024) :
    kdx x a l = a l * rt x + x l * back x a + back x a * x l := by
  choose X hX using hx
  choose A hA using ha
  obtain rfl : x = fun l => (X l : EReal) := funext hX
  obtain rfl : a = fun l => (A l : EReal) := funext hA
  simp only [kdx, back]
  rw [rt_coe, mean_coe, lit_1024, lit_neg_half, div_coe _ (mean_pos X).ne']
  have hm := mean_pos X
  generalize (∑ l, X l * X l) / 1024 + eps = v at hm ⊢
  have hr : (Real.sqrt v)⁻¹ * (Real.sqrt v)⁻¹ = 1 / v := by
    rw [← mul_inv, Real.mul_self_sqrt hm.le, one_div]
  generalize (Real.sqrt v)⁻¹ = r at hr ⊢
  simp only [← EReal.coe_mul, sum_coe]
  rw [div_coe _ (by norm_num), div_coe _ (by norm_num)]
  simp only [← EReal.coe_mul, ← EReal.coe_sub, ← EReal.coe_add]
  refine congrArg _ ?_
  have hs : ∑ k, A k * (X k * r) = (∑ k, X k * A k) * r := by
    rw [Finset.sum_mul]; exact Finset.sum_congr rfl fun k _ => by ring
  rw [hs]
  have hv : r / v = r * (r * r) := by rw [hr]; ring
  rw [hv]; ring

/-- An argument all of whose elements pass a precondition's test holds real numbers. -/
theorem isR_of_test {s : Shape} (x z : FVec Ideal s .f32) (hz : ∀ i, z i = (0 : EReal))
    (h : cmpf .oeq (subf x x) z = fun _ => 1#1) (i : s.Idx) : IsR (x i) := by
  have h1 := congrFun h i
  refine isR_of_sub_self ?_
  by_contra hne
  rw [← hz i] at hne
  have h0 : cmpf .oeq (subf x x) z i = 0#1 := by
    show FloatOps.cmpf (F := Ideal) .oeq (x i - x i : EReal) (z i) = 0#1
    simp [FloatOps.cmpf, Ideal.cmp, hne]
  rw [h0] at h1
  exact absurd h1 (by decide)

end Cert.Norm
-- ==== Proof.NormBwd.lean ====
module

public import proofs.«01_k».proof.Defs
public import proofs.«01_k».proof.Proof.Gen.NormBwd.Frame
public import proofs.«01_k».proof.Proof.Norm
public import proofs.«01_k».proof.Proof.Gen.NormBwdIdeal.Value
public import proofs.«01_k».proof.Proof.Gen.NormBwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradients of a modulated norm: of its input (with the residual's added), its gain, its shift and its scale. -/

namespace Cert.NormBwdIdeal.Final

open Cert.NormBwdIdeal Cert.NormBwdIdeal.Gen Cert.Norm Cert.Reals

/-- A row of an array. -/
abbrev row {N : ℕ} (A : FVec Ideal (⟨2, ![N, 1024]⟩ : Shape) .f32) (i : Fin N) : Fin 1024 → EReal := fun l => A (ix2 i l)

/-- What flows into the normalised row. -/
abbrev flow {N : ℕ} (D : Fin 1024 → EReal) (M G : Fin 1024 → EReal) : Fin 1024 → EReal := fun l => D l * (1 + M l) * G l

theorem pay_rt (X : FVec Ideal S512x1024 .f32) (i : Fin 512) : (k0_pay7 (F := Ideal) X (ix2 i 0) : EReal) = rt (row X i) := by
  pointwise [k0_pay7, rt, mean]

theorem pay_hat (X : FVec Ideal S512x1024 .f32) (i : Fin 512) (l : Fin 1024) :
    (k0_pay8 (F := Ideal) X (ix2 i l) : EReal) = X (ix2 i l) * rt (row X i) := by
  pointwise [k0_pay8]
  rw [pay_rt]

theorem pay_a (D : FVec Ideal S512x1024 .bf16) (M : FVec Ideal S1x1024 .f32) (i : Fin 512) (l : Fin 1024) :
    (k0_pay11 (F := Ideal) D M (ix2 i l) : EReal) = D (ix2 i l) * (1 + M (ix2 0 l)) := by
  pointwise [k0_pay11, k0_pay9]

/-- What one block of rows adds to the gain's gradient. -/
def part_g (X : FVec Ideal S512x1024 .f32) (D : FVec Ideal S512x1024 .bf16) (M : Fin 1024 → EReal) (y : S1x1024.Idx) : EReal :=
  ∑ k : Fin 512, (D (ix2 k (y 1)) * (1 + M (y 1))) * (X (ix2 k (y 1)) * rt (row X k))

/-- What one block of rows adds to the shift's gradient. -/
def part_h (D : FVec Ideal S512x1024 .bf16) (y : S1x1024.Idx) : EReal :=
  ∑ k : Fin 512, (D (ix2 k (y 1)) : EReal)

/-- What one block of rows adds to the scale's gradient. -/
def part_c (X : FVec Ideal S512x1024 .f32) (D : FVec Ideal S512x1024 .bf16) (G : FVec Ideal S1x1024 .f32) (y : S1x1024.Idx) : EReal :=
  ∑ k : Fin 512, (D (ix2 k (y 1)) * (X (ix2 k (y 1)) * rt (row X k))) * G (ix2 0 (y 1))

theorem pay_g (X : FVec Ideal S512x1024 .f32) (D : FVec Ideal S512x1024 .bf16) (M C : FVec Ideal S1x1024 .f32) (y : S1x1024.Idx) :
    (k0_pay4 (F := Ideal) (k0_pay8 X) (k0_pay11 D M) C y : EReal) = C y + part_g X D (fun l => M (ix2 0 l)) y := by
  idx_vars y
  obtain rfl : y0 = 0 := Subsingleton.elim _ _
  pointwise [k0_pay4, part_g]
  refine congrArg (fun q => (C (ix2 0 y1) : EReal) + q) (Finset.sum_congr (M := EReal) rfl fun k _ => ?_)
  rw [pay_a, pay_hat]

theorem pay_h (D : FVec Ideal S512x1024 .bf16) (C : FVec Ideal S1x1024 .f32) (y : S1x1024.Idx) :
    (k0_pay5 (F := Ideal) (k0_pay9 D) C y : EReal) = C y + part_h D y := by
  idx_vars y
  obtain rfl : y0 = 0 := Subsingleton.elim _ _
  pointwise [k0_pay5, k0_pay9, part_h]

theorem pay_c (X : FVec Ideal S512x1024 .f32) (D : FVec Ideal S512x1024 .bf16) (G C : FVec Ideal S1x1024 .f32) (y : S1x1024.Idx) :
    (k0_pay6 (F := Ideal) (k0_pay8 X) (k0_pay9 D) (k0_pay10 G) C y : EReal) = C y + part_c X D G y := by
  idx_vars y
  obtain rfl : y0 = 0 := Subsingleton.elim _ _
  pointwise [k0_pay6, k0_pay9, k0_pay10, part_c]
  refine congrArg (fun q => (C (ix2 0 y1) : EReal) + q) (Finset.sum_congr (M := EReal) rfl fun k _ => ?_)
  rw [pay_hat]

theorem pay_x (X : FVec Ideal S512x1024 .f32) (D : FVec Ideal S512x1024 .bf16) (G M : FVec Ideal S1x1024 .f32) (E : FVec Ideal S512x1024 .f32)
    (i : Fin 512) (l : Fin 1024) :
    (k0_pay12 (F := Ideal) X D G M E (ix2 i l) : EReal)
      = E (ix2 i l) + kdx (row X i) (flow (N := 512) (fun l => D (ix2 i l)) (fun l => M (ix2 0 l)) (fun l => G (ix2 0 l))) l := by
  pointwise [k0_pay12, k0_pay10, kdx, flow]
  simp only [pay_a, pay_hat, pay_rt]

theorem zero_g (y : S1x1024.Idx) : (k0_pay1 (F := Ideal) y : EReal) = 0 := by
  idx_vars y
  pointwise [k0_pay1]

theorem zero_h (y : S1x1024.Idx) : (k0_pay2 (F := Ideal) y : EReal) = 0 := by
  idx_vars y
  pointwise [k0_pay2]

theorem zero_c (y : S1x1024.Idx) : (k0_pay3 (F := Ideal) y : EReal) = 0 := by
  idx_vars y
  pointwise [k0_pay3]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0] :=
  (by decide +kernel : ∀ t : Fin grid0.N, _)

abbrev x0 : FVec Ideal S8192x1024 .f32 := m (c.tc.loc main_arg0)
abbrev x1 : FVec Ideal S8192x1024 .f32 := m (c.tc.loc main_arg1)
abbrev x2 : FVec Ideal S8192x1024 .f32 := m (c.tc.loc main_arg2)
abbrev x3 : FVec Ideal S1024 .f32 := m (c.tc.loc main_arg3)
abbrev x4 : FVec Ideal S3x1024 .f32 := m (c.tc.loc main_arg4)

/-- A point's blocks. -/
abbrev bd (t : Fin cfg0.N) : FVec Ideal S512x1024 .bf16 := iblk m c 0 t
abbrev bx (t : Fin cfg0.N) : FVec Ideal S512x1024 .f32 := iblk m c 1 t
abbrev be (t : Fin cfg0.N) : FVec Ideal S512x1024 .f32 := iblk m c 2 t
abbrev bg (t : Fin cfg0.N) : FVec Ideal S1x1024 .f32 := iblk m c 3 t
abbrev bm (t : Fin cfg0.N) : FVec Ideal S3x1024 .f32 := iblk m c 4 t

theorem row1 (l : Fin 1024) :
    (Rect.unit (s := S3x1024) ![1, 0] ![1, 1024] inb_S3x1024_S1x1024_1_0).idx (ix2 0 l : S1x1024.Idx) = (ix2 1 l : S3x1024.Idx) := by
  change (Rect.unit (s := S3x1024) ![1, 0] ![1, 1024] inb_S3x1024_S1x1024_1_0).emb (ix2 0 l : S1x1024.Idx) = (ix2 1 l : S3x1024.Idx)
  blk_ext

/-- What a point leaves of the input's gradient. -/
theorem out_x (t : Fin cfg0.N) (i : Fin 512) (l : Fin 1024) :
    (outsAt0 m c t.val t.isLt).1 (ix2 i l) = HAdd.hAdd (α := EReal) (β := EReal) (be m c t (ix2 i l))
      (kdx (row (bx m c t) i) (flow (N := 512) (fun l => bd m c t (ix2 i l)) (fun l => bm m c t (ix2 1 l)) (fun l => bg m c t (ix2 0 l))) l) := by
  by_cases h : t.val % 16 = 0
  · rw [outsAt0_A m c t h]
    frame_out
    rw [pay_x]
    simp only [View.ld, row1]
  · rw [outsAt0_B m c t h]
    frame_out
    rw [pay_x]
    simp only [View.ld, row1]

theorem acc_g (t : Fin cfg0.N) (hr : t.val % 16 = 15) (y : S1x1024.Idx) :
    (outsAt0 m c t.val t.isLt).2.1 y = ∑ s : Fin 16, part_g (bx m c ⟨16 * (t.val / 16) + s.val, Pipeline.run_point_lt_of_flush t hr s⟩) (bd m c ⟨16 * (t.val / 16) + s.val, Pipeline.run_point_lt_of_flush t hr s⟩) (fun l => bm m c ⟨16 * (t.val / 16) + s.val, Pipeline.run_point_lt_of_flush t hr s⟩ (ix2 1 l)) y := by
  rw [Pipeline.eq_sum_fin_of_reset_step_apply_of_flush (fun n h => (outsAt0 m c n h).2.1) 16 (fun _ => (0 : EReal))
    (fun t y => part_g (bx m c t) (bd m c t) (fun l => bm m c t (ix2 1 l)) y)
    (fun t h j => by
      rw [outsAt0_A m c t h]
      frame_out
      rw [pay_g, zero_g]
      simp only [View.ld, row1])
    (fun t h j => by
      rw [outsAt0_B m c t h]
      frame_out
      rw [pay_g]
      simp only [View.ld, row1]) t hr y, zero_add]

theorem acc_h (t : Fin cfg0.N) (hr : t.val % 16 = 15) (y : S1x1024.Idx) :
    (outsAt0 m c t.val t.isLt).2.2.1 y = ∑ s : Fin 16, part_h (bd m c ⟨16 * (t.val / 16) + s.val, Pipeline.run_point_lt_of_flush t hr s⟩) y := by
  rw [Pipeline.eq_sum_fin_of_reset_step_apply_of_flush (fun n h => (outsAt0 m c n h).2.2.1) 16 (fun _ => (0 : EReal))
    (fun t y => part_h (bd m c t) y)
    (fun t h j => by
      rw [outsAt0_A m c t h]
      frame_out
      rw [pay_h, zero_h])
    (fun t h j => by
      rw [outsAt0_B m c t h]
      frame_out
      rw [pay_h]) t hr y, zero_add]

theorem acc_c (t : Fin cfg0.N) (hr : t.val % 16 = 15) (y : S1x1024.Idx) :
    (outsAt0 m c t.val t.isLt).2.2.2 y = ∑ s : Fin 16, part_c (bx m c ⟨16 * (t.val / 16) + s.val, Pipeline.run_point_lt_of_flush t hr s⟩) (bd m c ⟨16 * (t.val / 16) + s.val, Pipeline.run_point_lt_of_flush t hr s⟩) (bg m c ⟨16 * (t.val / 16) + s.val, Pipeline.run_point_lt_of_flush t hr s⟩) y := by
  rw [Pipeline.eq_sum_fin_of_reset_step_apply_of_flush (fun n h => (outsAt0 m c n h).2.2.2) 16 (fun _ => (0 : EReal))
    (fun t y => part_c (bx m c t) (bd m c t) (bg m c t) y)
    (fun t h j => by
      rw [outsAt0_A m c t h]
      frame_out
      rw [pay_c, zero_c])
    (fun t h j => by
      rw [outsAt0_B m c t h]
      frame_out
      rw [pay_c]) t hr y, zero_add]

section
variable (a0 a1 a2 : FVec Ideal S8192x1024 .f32) (a3 : FVec Ideal S1024 .f32) (a4 : FVec Ideal S3x1024 .f32)

theorem ref_rt (i : Fin 8192) : (Cert.NormBwdRefIdeal.Read.val_main_v11 (F := Ideal) a1 (ix2 i 0) : EReal) = rt (row a1 i) := by
  pointwise [Cert.NormBwdRefIdeal.Read.val_main_v11, Cert.NormBwdRefIdeal.Read.val_main_v10, Cert.NormBwdRefIdeal.Read.val_main_v9, Cert.NormBwdRefIdeal.Read.val_main_v8, Cert.NormBwdRefIdeal.Read.val_main_v7, Cert.NormBwdRefIdeal.Read.val_main_v6, Cert.NormBwdRefIdeal.Read.val_main_v5, Cert.NormBwdRefIdeal.Read.val_main_v4, Cert.NormBwdRefIdeal.Read.val_main_cst, Cert.NormBwdRefIdeal.Read.val_main_cst_0, Cert.NormBwdRefIdeal.Read.val_main_cst_1, rt, mean]

theorem ref_half (i : Fin 8192) : (Cert.NormBwdRefIdeal.Read.val_main_v14 (F := Ideal) a1 (ix2 i 0) : EReal)
    = Ideal.ofBits .f32 0xBF000000#32 * Ideal.div (rt (row a1 i)) (mean (row a1 i)) := by
  pointwise [Cert.NormBwdRefIdeal.Read.val_main_v14, Cert.NormBwdRefIdeal.Read.val_main_v13, Cert.NormBwdRefIdeal.Read.val_main_v12, Cert.NormBwdRefIdeal.Read.val_main_cst_2, Cert.NormBwdRefIdeal.Read.val_main_v11, Cert.NormBwdRefIdeal.Read.val_main_v10, Cert.NormBwdRefIdeal.Read.val_main_v9, Cert.NormBwdRefIdeal.Read.val_main_v8, Cert.NormBwdRefIdeal.Read.val_main_v7, Cert.NormBwdRefIdeal.Read.val_main_v6, Cert.NormBwdRefIdeal.Read.val_main_v5, Cert.NormBwdRefIdeal.Read.val_main_v4, Cert.NormBwdRefIdeal.Read.val_main_cst, Cert.NormBwdRefIdeal.Read.val_main_cst_0, Cert.NormBwdRefIdeal.Read.val_main_cst_1, rt, mean]

theorem ref_hat (i : Fin 8192) (l : Fin 1024) : (Cert.NormBwdRefIdeal.Read.val_main_v16 (F := Ideal) a1 (ix2 i l) : EReal) = a1 (ix2 i l) * rt (row a1 i) := by
  pointwise [Cert.NormBwdRefIdeal.Read.val_main_v16, Cert.NormBwdRefIdeal.Read.val_main_v15]
  rw [ref_rt]

theorem ref_a (i : Fin 8192) (l : Fin 1024) :
    (Cert.NormBwdRefIdeal.Read.val_main_v36 (F := Ideal) a0 a4 (ix2 i l) : EReal) = a0 (ix2 i l) * (1 + a4 (ix2 1 l)) := by
  pointwise [Cert.NormBwdRefIdeal.Read.val_main_v36, Cert.NormBwdRefIdeal.Read.val_main_v35, Cert.NormBwdRefIdeal.Read.val_main_v28, Cert.NormBwdRefIdeal.Read.val_main_v22, Cert.NormBwdRefIdeal.Read.val_main_v21, Cert.NormBwdRefIdeal.Read.val_main_v20, Cert.NormBwdRefIdeal.Read.val_main_cst_3, Cert.NormBwdRefIdeal.Read.val_main_v3, Cert.NormBwdRefIdeal.Read.val_main_v2]

theorem ref_flow (i : Fin 8192) (l : Fin 1024) :
    (Cert.NormBwdRefIdeal.Read.val_main_v42 (F := Ideal) a0 a3 a4 (ix2 i l) : EReal)
      = flow (N := 8192) (fun l => a0 (ix2 i l)) (fun l => a4 (ix2 1 l)) (fun l => a3 (ix1 l)) l := by
  pointwise [Cert.NormBwdRefIdeal.Read.val_main_v42, Cert.NormBwdRefIdeal.Read.val_main_v41, Cert.NormBwdRefIdeal.Read.val_main_v17, flow]
  rw [ref_a]

theorem ref_back (i : Fin 8192) :
    (Cert.NormBwdRefIdeal.Read.val_main_v52 (F := Ideal) a0 a1 a3 a4 (ix1 i) : EReal)
      = back (row a1 i) (flow (N := 8192) (fun l => a0 (ix2 i l)) (fun l => a4 (ix2 1 l)) (fun l => a3 (ix1 l))) := by
  pointwise [Cert.NormBwdRefIdeal.Read.val_main_v52, Cert.NormBwdRefIdeal.Read.val_main_v51, Cert.NormBwdRefIdeal.Read.val_main_v50, Cert.NormBwdRefIdeal.Read.val_main_v49, Cert.NormBwdRefIdeal.Read.val_main_v46, Cert.NormBwdRefIdeal.Read.val_main_v45, Cert.NormBwdRefIdeal.Read.val_main_v44, Cert.NormBwdRefIdeal.Read.val_main_cst_10, Cert.NormBwdRefIdeal.Read.val_main_cst_11, Cert.NormBwdRefIdeal.Read.val_main_cst_12, back]
  simp only [Fin.sum_univ_one, ref_half, ref_flow]

theorem ref_x (i : Fin 8192) (l : Fin 1024) (hx : ∀ k, IsR (row a1 i k))
    (ha : ∀ k, IsR (flow (N := 8192) (fun l => a0 (ix2 i l)) (fun l => a4 (ix2 1 l)) (fun l => a3 (ix1 l)) k)) :
    (Cert.NormBwdRefIdeal.Read.val_main_v58 (F := Ideal) a0 a1 a2 a3 a4 (ix2 i l) : EReal)
      = a2 (ix2 i l) + kdx (row a1 i) (flow (N := 8192) (fun l => a0 (ix2 i l)) (fun l => a4 (ix2 1 l)) (fun l => a3 (ix1 l))) l := by
  rw [dx_eq hx ha]
  pointwise [Cert.NormBwdRefIdeal.Read.val_main_v58, Cert.NormBwdRefIdeal.Read.val_main_v57, Cert.NormBwdRefIdeal.Read.val_main_v56, Cert.NormBwdRefIdeal.Read.val_main_v55, Cert.NormBwdRefIdeal.Read.val_main_v54, Cert.NormBwdRefIdeal.Read.val_main_v53, Cert.NormBwdRefIdeal.Read.val_main_v48, Cert.NormBwdRefIdeal.Read.val_main_v47]
  rw [ref_flow, ref_rt, ref_back]

theorem ref_g (l : Fin 1024) : (Cert.NormBwdRefIdeal.Read.val_main_v59 (F := Ideal) a0 a1 a4 (ix2 0 l) : EReal)
    = ∑ i : Fin 8192, (a1 (ix2 i l) * rt (row a1 i)) * (a0 (ix2 i l) * (1 + a4 (ix2 1 l))) := by
  pointwise [Cert.NormBwdRefIdeal.Read.val_main_v59, Cert.NormBwdRefIdeal.Read.val_main_v43, Cert.NormBwdRefIdeal.Read.val_main_v40, Cert.NormBwdRefIdeal.Read.val_main_v39, Cert.NormBwdRefIdeal.Read.val_main_v38, Cert.NormBwdRefIdeal.Read.val_main_cst_8, Cert.NormBwdRefIdeal.Read.val_main_cst_9]
  rw [Fin.sum_univ_one]
  exact Finset.sum_congr (M := EReal) rfl fun i _ => by rw [ref_hat, ref_a]

theorem ref_h (l : Fin 1024) : (Cert.NormBwdRefIdeal.Read.val_main_v60 (F := Ideal) a0 (ix2 0 l) : EReal) = ∑ i : Fin 8192, a0 (ix2 i l) := by
  pointwise [Cert.NormBwdRefIdeal.Read.val_main_v60, Cert.NormBwdRefIdeal.Read.val_main_v31, Cert.NormBwdRefIdeal.Read.val_main_v30, Cert.NormBwdRefIdeal.Read.val_main_v29, Cert.NormBwdRefIdeal.Read.val_main_cst_4, Cert.NormBwdRefIdeal.Read.val_main_cst_5]
  rw [Fin.sum_univ_one]

theorem ref_c (l : Fin 1024) : (Cert.NormBwdRefIdeal.Read.val_main_v61 (F := Ideal) a0 a1 a3 (ix2 0 l) : EReal)
    = ∑ i : Fin 8192, ((a1 (ix2 i l) * rt (row a1 i)) * a3 (ix1 l)) * a0 (ix2 i l) := by
  pointwise [Cert.NormBwdRefIdeal.Read.val_main_v61, Cert.NormBwdRefIdeal.Read.val_main_v37, Cert.NormBwdRefIdeal.Read.val_main_v34, Cert.NormBwdRefIdeal.Read.val_main_v33, Cert.NormBwdRefIdeal.Read.val_main_v32, Cert.NormBwdRefIdeal.Read.val_main_v28, Cert.NormBwdRefIdeal.Read.val_main_v19, Cert.NormBwdRefIdeal.Read.val_main_v18, Cert.NormBwdRefIdeal.Read.val_main_v17, Cert.NormBwdRefIdeal.Read.val_main_cst_6, Cert.NormBwdRefIdeal.Read.val_main_cst_7]
  rw [Fin.sum_univ_one]
  exact Finset.sum_congr (M := EReal) rfl fun i _ => by rw [ref_hat]

end

/-! ## The blocks, as places of the arguments -/

section
variable (t : Fin cfg0.N) (i : Fin 512) (r : Fin 8192) (hr : r.val = 512 * t.val + i.val) (l : Fin 1024)

theorem bd_at (hr : r.val = 512 * t.val + i.val) : bd m c t (ix2 i l) = x0 m c (ix2 r l) := by
  blk_point [iblk, V, idx t]

theorem bx_at (hr : r.val = 512 * t.val + i.val) : bx m c t (ix2 i l) = x1 m c (ix2 r l) := by
  blk_point [iblk, V, idx t]

theorem row_bx (hr : r.val = 512 * t.val + i.val) : row (bx m c t) i = row (x1 m c) r :=
  funext fun l => bx_at m c t i r l hr

theorem be_at (hr : r.val = 512 * t.val + i.val) : be m c t (ix2 i l) = x2 m c (ix2 r l) := by
  blk_point [iblk, V, idx t]

theorem bg_at : bg m c t (ix2 0 l) = x3 m c (ix1 l) := by
  blk_point [iblk, V, idx t]

theorem bm_at (j : Fin 3) : bm m c t (ix2 j l) = x4 m c (ix2 j l) := by
  blk_point [iblk, V, idx t]

end

/-- The arguments' entries are real numbers. -/
structure Fine : Prop where
  h0 : ∀ i, IsR (x0 m c i)
  h1 : ∀ i, IsR (x1 m c i)
  h3 : ∀ i, IsR (x3 m c i)
  h4 : ∀ i, IsR (x4 m c i)

theorem final_x (hf : Fine m c) : (dats m 0 c).arrAt 5 (cfgs 0).N
    = Cert.NormBwdRefIdeal.Read.val_main_v58 (F := Ideal) (x0 m c) (x1 m c) (x2 m c) (x3 m c) (x4 m c) := by
  refine (dats m 0 c).arrAt_eq_of_covers 5 _ (by decide +kernel) fun t hf' y => ?_
  blk_simp
  rw [after0_5]
  idx_vars y
  have ht : t.val < 16 := lt_of_lt_of_eq t.isLt N_0
  have hr : (⟨512 * t.val + y0.val, by omega⟩ : Fin 8192).val = 512 * t.val + y0.val := rfl
  rw [show ((View.whole main_v2_0).slice (win0_5.rect t)).emb (ix2 y0 y1) = (ix2 ⟨512 * t.val + y0.val, by omega⟩ y1 : S8192x1024.Idx)
    from by blk_ext [idx t]]
  rw [ref_x _ _ _ _ _ _ _ (fun k => hf.h1 _) (fun k => ((hf.h0 _).mul ((isR_coe 1).add (hf.h4 _))).mul (hf.h3 _)), out_x]
  rw [row_bx m c t y0 _ hr]
  simp only [bd_at m c t y0 _ _ hr, be_at m c t y0 _ _ hr, bg_at m c t, bm_at m c t]

theorem final_g : (dats m 0 c).arrAt 6 (cfgs 0).N = Cert.NormBwdRefIdeal.Read.val_main_v59 (F := Ideal) (x0 m c) (x1 m c) (x4 m c) := by
  refine (dats m 0 c).arrAt_eq_of_covers 6 _ (by decide +kernel) fun t hf' y => ?_
  have h15 := (flush0_6 t).mp hf'
  blk_simp
  rw [after0_6]
  idx_vars y
  obtain rfl : y0 = 0 := Subsingleton.elim _ _
  rw [show ((View.whole main_v2_1).slice (win0_6.rect t)).emb (ix2 0 y1) = (ix2 0 y1 : S1x1024.Idx) from by blk_ext [idx t], ref_g,
    acc_g m c t h15]
  have ht : t.val < 16 := lt_of_lt_of_eq t.isLt N_0
  unfold part_g
  refine Fin.sum_mul_add_congr fun s k hl => ?_
  have hr : (⟨s.val * 512 + k.val, hl⟩ : Fin 8192).val = 512 * (16 * (t.val / 16) + s.val) + k.val := by
    show s.val * 512 + k.val = _; omega
  refine (mul_comm (_ : EReal) _).trans ?_
  exact congrArg₂ (HMul.hMul (α := EReal) (β := EReal))
    (congrArg₂ (HMul.hMul (α := EReal) (β := EReal)) (bx_at m c ⟨_, Pipeline.run_point_lt_of_flush t h15 s⟩ k _ y1 hr)
      (congrArg rt (row_bx m c ⟨_, Pipeline.run_point_lt_of_flush t h15 s⟩ k _ hr)))
    (congrArg₂ (HMul.hMul (α := EReal) (β := EReal)) (bd_at m c ⟨_, Pipeline.run_point_lt_of_flush t h15 s⟩ k _ y1 hr)
      (congrArg (HAdd.hAdd (α := EReal) (β := EReal) 1) (bm_at m c ⟨_, Pipeline.run_point_lt_of_flush t h15 s⟩ y1 1)))

theorem final_h : (dats m 0 c).arrAt 7 (cfgs 0).N = Cert.NormBwdRefIdeal.Read.val_main_v60 (F := Ideal) (x0 m c) := by
  refine (dats m 0 c).arrAt_eq_of_covers 7 _ (by decide +kernel) fun t hf' y => ?_
  have h15 := (flush0_7 t).mp hf'
  blk_simp
  rw [after0_7]
  idx_vars y
  obtain rfl : y0 = 0 := Subsingleton.elim _ _
  rw [show ((View.whole main_v2_2).slice (win0_7.rect t)).emb (ix2 0 y1) = (ix2 0 y1 : S1x1024.Idx) from by blk_ext [idx t], ref_h,
    acc_h m c t h15]
  have ht : t.val < 16 := lt_of_lt_of_eq t.isLt N_0
  unfold part_h
  refine Fin.sum_mul_add_congr fun s k hl => ?_
  have hr : (⟨s.val * 512 + k.val, hl⟩ : Fin 8192).val = 512 * (16 * (t.val / 16) + s.val) + k.val := by
    show s.val * 512 + k.val = _; omega
  exact bd_at m c ⟨_, Pipeline.run_point_lt_of_flush t h15 s⟩ k _ _ hr

theorem final_c : (dats m 0 c).arrAt 8 (cfgs 0).N = Cert.NormBwdRefIdeal.Read.val_main_v61 (F := Ideal) (x0 m c) (x1 m c) (x3 m c) := by
  refine (dats m 0 c).arrAt_eq_of_covers 8 _ (by decide +kernel) fun t hf' y => ?_
  have h15 := (flush0_8 t).mp hf'
  blk_simp
  rw [after0_8]
  idx_vars y
  obtain rfl : y0 = 0 := Subsingleton.elim _ _
  rw [show ((View.whole main_v2_3).slice (win0_8.rect t)).emb (ix2 0 y1) = (ix2 0 y1 : S1x1024.Idx) from by blk_ext [idx t], ref_c,
    acc_c m c t h15]
  have ht : t.val < 16 := lt_of_lt_of_eq t.isLt N_0
  unfold part_c
  refine Fin.sum_mul_add_congr fun s k hl => ?_
  have hr : (⟨s.val * 512 + k.val, hl⟩ : Fin 8192).val = 512 * (16 * (t.val / 16) + s.val) + k.val := by
    show s.val * 512 + k.val = _; omega
  refine ((mul_assoc (_ : EReal) _ _).trans (mul_comm (_ : EReal) _)).trans ?_
  exact congrArg₂ (HMul.hMul (α := EReal) (β := EReal))
    (congrArg₂ (HMul.hMul (α := EReal) (β := EReal))
      (congrArg₂ (HMul.hMul (α := EReal) (β := EReal)) (bx_at m c ⟨_, Pipeline.run_point_lt_of_flush t h15 s⟩ k _ y1 hr)
        (congrArg rt (row_bx m c ⟨_, Pipeline.run_point_lt_of_flush t h15 s⟩ k _ hr)))
      (bg_at m c ⟨_, Pipeline.run_point_lt_of_flush t h15 s⟩ y1))
    (bd_at m c ⟨_, Pipeline.run_point_lt_of_flush t h15 s⟩ k _ y1 hr)

/-- The shape relations the precondition's operations take. -/
instance preFacts : Cert.Pre_finite_norm.Facts where
  bcast_S_S8192x1024 := by decide
  bcast_S_S1024 := by decide
  bcast_S_S3x1024 := by decide

theorem fine (h : Cert.Pre_NormBwdIdeal_finite_norm m) : Fine m c := by
  obtain ⟨h0, h1, h3, h4⟩ := h c
  refine ⟨isR_of_test _ _ ?_ h0, isR_of_test _ _ ?_ h1, isR_of_test _ _ ?_ h3, isR_of_test _ _ ?_ h4⟩
  all_goals (clear h0 h1 h3 h4; intro i; idx_vars i; pointwise)

/-- The reference runs to its end and leaves its arguments alone. -/
theorem frame_ref : Cert.quiescent_NormBwdRefIdeal := fun m g _ =>
  (θ_run Cert.NormBwdRefIdeal.defs _ _).mono (fun r h => ⟨fun c => (h c).2.2.2.2, sem_eq_zero_of_no_sems (by decide) r.2⟩)
    (Cert.NormBwdRefIdeal.Value.run m g)

theorem frame_ref_pre : Cert.quiescent_NormBwdRefIdeal_pre_finite_norm := fun m g _ => frame_ref m g trivial

theorem ref_congr {a0 b0 a1 b1 a2 b2 a3 b3 a4 b4} (h0 : a0 = b0) (h1 : a1 = b1) (h2 : a2 = b2) (h3 : a3 = b3) (h4 : a4 = b4) :
    Cert.NormBwdRefIdeal.Read.val_main_v58 (F := Ideal) a0 a1 a2 a3 a4 = Cert.NormBwdRefIdeal.Read.val_main_v58 b0 b1 b2 b3 b4
      ∧ Cert.NormBwdRefIdeal.Read.val_main_v59 (F := Ideal) a0 a1 a4 = Cert.NormBwdRefIdeal.Read.val_main_v59 b0 b1 b4
      ∧ Cert.NormBwdRefIdeal.Read.val_main_v60 (F := Ideal) a0 = Cert.NormBwdRefIdeal.Read.val_main_v60 b0
      ∧ Cert.NormBwdRefIdeal.Read.val_main_v61 (F := Ideal) a0 a1 a3 = Cert.NormBwdRefIdeal.Read.val_main_v61 b0 b1 b3 := by
  subst h0 h1 h2 h3 h4; exact ⟨rfl, rfl, rfl, rfl⟩

/-- Over the reals the call's four results are the reference's. -/
theorem algebraic : Cert.algebraic_NormBwdIdeal_NormBwdRefIdeal_pre_finite_norm := by
  intro m g m' g' hpre hagree
  refine ⟨fun c => Cert.NormBwdRefIdeal.Read.val_main_v58 (F := Ideal) (x0 m c) (x1 m c) (x2 m c) (x3 m c) (x4 m c),
    fun c => Cert.NormBwdRefIdeal.Read.val_main_v59 (F := Ideal) (x0 m c) (x1 m c) (x4 m c), fun c => Cert.NormBwdRefIdeal.Read.val_main_v60 (F := Ideal) (x0 m c),
    fun c => Cert.NormBwdRefIdeal.Read.val_main_v61 (F := Ideal) (x0 m c) (x1 m c) (x3 m c), ?_, ?_⟩
  · refine (θ_run Cert.NormBwdIdeal.defs _ _).mono (fun r h c => ?_) (Cert.NormBwdIdeal.Value.run_blocks m g)
    exact ⟨(h c).1.trans (final_x m c (fine m c hpre)), (h c).2.1.trans (final_g m c), (h c).2.2.1.trans (final_h m c),
      (h c).2.2.2.1.trans (final_c m c), (h c).2.2.2.2⟩
  · refine (θ_run Cert.NormBwdRefIdeal.defs _ _).mono (fun r h c => ?_) (Cert.NormBwdRefIdeal.Value.run m' g')
    obtain ⟨e0, e1, e2, e3, e4⟩ := hagree c
    obtain ⟨c0, c1, c2, c3⟩ := ref_congr e0 e1 e2 e3 e4
    obtain ⟨r0, r1, r2, r3, hr⟩ := h c
    exact ⟨(r0.trans (Cert.NormBwdRefIdeal.Read.val_main_v58_eq m' c)).trans c0, (r1.trans (Cert.NormBwdRefIdeal.Read.val_main_v59_eq _ _ _)).trans c1, (r2.trans (Cert.NormBwdRefIdeal.Read.val_main_v60_eq _)).trans c2,
      (r3.trans (Cert.NormBwdRefIdeal.Read.val_main_v61_eq _ _ _)).trans c3, hr⟩

end Cert.NormBwdIdeal.Final
-- ==== Proof.GateBwd.lean ====
module

public import proofs.«01_k».proof.Defs
public import proofs.«01_k».proof.Proof.Gen.GateBwd.Frame
public import proofs.«01_k».proof.Proof.Gen.GateBwdIdeal.Value
public import proofs.«01_k».proof.Proof.Gen.GateBwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradients of a gated branch: of the branch and of the gate. -/

namespace Cert.GateBwdIdeal.Final

open Cert.GateBwdIdeal Cert.GateBwdIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

abbrev x0 : FVec Ideal S8192x1024 .f32 := m (c.tc.loc main_arg0)
abbrev x1 : FVec Ideal S8192x1024 .f32 := m (c.tc.loc main_arg1)
abbrev x2 : FVec Ideal S3x1024 .f32 := m (c.tc.loc main_arg2)

theorem pay_o (A : FVec Ideal S512x1024 .f32) (G : FVec Ideal S1x1024 .f32) (y : S512x1024.Idx) :
    (k0_pay1 (F := Ideal) A G y : EReal) = A y * G (ix2 0 (y 1)) := by
  idx_vars y
  pointwise [k0_pay1]

/-- What one block of rows adds to the gate's gradient. -/
def part (A : FVec Ideal S512x1024 .f32) (B : FVec Ideal S512x1024 .bf16) (y : S1x1024.Idx) : EReal :=
  ∑ k : Fin 512, (A (ix2 k (y 1)) : EReal) * B (ix2 k (y 1))

theorem pay_g (A : FVec Ideal S512x1024 .f32) (C : FVec Ideal S1x1024 .f32) (B : FVec Ideal S512x1024 .bf16) (y : S1x1024.Idx) :
    (k0_pay3 (F := Ideal) A C B y : EReal) = C y + part A B y := by
  idx_vars y
  obtain rfl : y0 = 0 := Subsingleton.elim _ _
  pointwise [k0_pay3, part]

theorem zero (y : S1x1024.Idx) : (k0_pay2 (F := Ideal) y : EReal) = 0 := by
  idx_vars y
  pointwise [k0_pay2]

/-- What a point leaves of the branch's gradient. -/
theorem out (t : Fin cfg0.N) (y : S512x1024.Idx) :
    (outsAt0 m c t.val t.isLt).1 y = HMul.hMul (α := EReal) (β := EReal) ((iblk m c 0 t : FVec Ideal S512x1024 .f32) y) ((iblk m c 2 t : FVec Ideal S3x1024 .f32) (ix2 2 (y 1))) := by
  have e : ∀ h, (Rect.unit (s := S3x1024) ![2, 0] S1x1024.size h).emb (ix2 0 (y 1) : S1x1024.Idx) = (ix2 2 (y 1) : S3x1024.Idx) := by
    intro h; blk_ext
  by_cases h : t.val % 16 = 0
  · rw [outsAt0_A m c t h]
    frame_out
    rw [pay_o]
    exact congrArg (fun q => HMul.hMul (α := EReal) (β := EReal) ((iblk m c 0 t : FVec Ideal S512x1024 .f32) y) ((iblk m c 2 t : FVec Ideal S3x1024 .f32) q)) (e _)
  · rw [outsAt0_B m c t h]
    frame_out
    rw [pay_o]
    exact congrArg (fun q => HMul.hMul (α := EReal) (β := EReal) ((iblk m c 0 t : FVec Ideal S512x1024 .f32) y) ((iblk m c 2 t : FVec Ideal S3x1024 .f32) q)) (e _)

/-- What the gate's gradient holds after the last point: the parts of all points, added. -/
theorem acc (t : Fin cfg0.N) (hr : t.val % 16 = 15) (y : S1x1024.Idx) :
    (outsAt0 m c t.val t.isLt).2 y
      = ∑ s : Fin 16, part (iblk m c 0 ⟨16 * (t.val / 16) + s.val, Pipeline.run_point_lt_of_flush t hr s⟩)
          (iblk m c 1 ⟨16 * (t.val / 16) + s.val, Pipeline.run_point_lt_of_flush t hr s⟩) y := by
  rw [Pipeline.eq_sum_fin_of_reset_step_apply_of_flush (fun n h => (outsAt0 m c n h).2) 16 (fun _ => (0 : EReal))
    (fun t y => part (iblk m c 0 t) (iblk m c 1 t) y)
    (fun t h j => by
      rw [outsAt0_A m c t h]
      frame_out
      rw [pay_g, zero])
    (fun t h j => by
      rw [outsAt0_B m c t h]
      frame_out
      rw [pay_g]) t hr y, zero_add]

theorem final_o : (dats m 0 c).arrAt 3 (cfgs 0).N = Cert.GateBwdRefIdeal.Read.val_main_v11 (F := Ideal) (x0 m c) (x2 m c) := by
  refine (dats m 0 c).arrAt_eq_of_covers 3 _ (by decide +kernel) fun t hf y => ?_
  blk_simp
  rw [after0_3, out]
  idx_vars y
  pointwise [Cert.GateBwdRefIdeal.Read.val_main_v11, Cert.GateBwdRefIdeal.Read.val_main_v6, Cert.GateBwdRefIdeal.Read.val_main_v5, Cert.GateBwdRefIdeal.Read.val_main_v2, Cert.GateBwdRefIdeal.Read.val_main_v1, Cert.GateBwdRefIdeal.Read.val_main_v0]
  refine (mul_comm (_ : EReal) _).trans ?_
  blk_point [iblk, V, idx t]

theorem final_g : (dats m 0 c).arrAt 4 (cfgs 0).N = Cert.GateBwdRefIdeal.Read.val_main_v12 (F := Ideal) (x0 m c) (x1 m c) := by
  refine (dats m 0 c).arrAt_eq_of_covers 4 _ (by decide +kernel) fun t hf y => ?_
  have hr : t.val % 16 = 15 := (flush0_4 t).mp hf
  blk_simp
  rw [after0_4, acc m c t hr]
  idx_vars y
  obtain rfl : y0 = 0 := Subsingleton.elim _ _
  pointwise [Cert.GateBwdRefIdeal.Read.val_main_v12, Cert.GateBwdRefIdeal.Read.val_main_v10, Cert.GateBwdRefIdeal.Read.val_main_v9, Cert.GateBwdRefIdeal.Read.val_main_v8, Cert.GateBwdRefIdeal.Read.val_main_v7, Cert.GateBwdRefIdeal.Read.val_main_cst, Cert.GateBwdRefIdeal.Read.val_main_cst_0]
  rw [Fin.sum_univ_one]
  unfold part
  refine Fin.sum_mul_add_congr fun s k hl => ?_
  blk_point [iblk, V, idx t, idx ⟨_, Pipeline.run_point_lt_of_flush t hr s⟩]

/-- The reference runs to its end and leaves its arguments alone. -/
theorem frame_ref : Cert.quiescent_GateBwdRefIdeal := fun m g _ =>
  (θ_run Cert.GateBwdRefIdeal.defs _ _).mono (fun r h => ⟨fun c => (h c).2.2, sem_eq_zero_of_no_sems (by decide) r.2⟩)
    (Cert.GateBwdRefIdeal.Value.run m g)

theorem ref_congr {a0 b0 a1 b1 a2 b2} (h0 : a0 = b0) (h1 : a1 = b1) (h2 : a2 = b2) :
    Cert.GateBwdRefIdeal.Read.val_main_v11 (F := Ideal) a0 a2 = Cert.GateBwdRefIdeal.Read.val_main_v11 b0 b2
      ∧ Cert.GateBwdRefIdeal.Read.val_main_v12 (F := Ideal) a0 a1 = Cert.GateBwdRefIdeal.Read.val_main_v12 b0 b1 := by
  subst h0 h1 h2; exact ⟨rfl, rfl⟩

/-- Over the reals the call's two results are the reference's. -/
theorem algebraic : Cert.algebraic_GateBwdIdeal_GateBwdRefIdeal := by
  intro m g m' g' _ hagree
  refine ⟨fun c => Cert.GateBwdRefIdeal.Read.val_main_v11 (F := Ideal) (x0 m c) (x2 m c),
    fun c => Cert.GateBwdRefIdeal.Read.val_main_v12 (F := Ideal) (x0 m c) (x1 m c), ?_, ?_⟩
  · refine (θ_run Cert.GateBwdIdeal.defs _ _).mono (fun r h c => ?_) (Cert.GateBwdIdeal.Value.run_blocks m g)
    exact ⟨(h c).1.trans (final_o m c), (h c).2.1.trans (final_g m c), (h c).2.2⟩
  · refine (θ_run Cert.GateBwdRefIdeal.defs _ _).mono (fun r h c => ?_) (Cert.GateBwdRefIdeal.Value.run m' g')
    obtain ⟨e0, e1, e2⟩ := hagree c
    obtain ⟨c0, c1⟩ := ref_congr e0 e1 e2
    exact ⟨((h c).1.trans (Cert.GateBwdRefIdeal.Read.val_main_v11_eq _ _)).trans c0,
      ((h c).2.1.trans (Cert.GateBwdRefIdeal.Read.val_main_v12_eq _ _)).trans c1, (h c).2.2⟩

end Cert.GateBwdIdeal.Final
-- ==== Proof.Loss.lean ====
module

public import proofs.«01_k».proof.Defs
public import proofs.«01_k».proof.Proof.Gen.Loss.Frame
public import proofs.«01_k».proof.Proof.Norm
public import proofs.«01_k».proof.Proof.Gen.LossIdeal.Value
public import proofs.«01_k».proof.Proof.Gen.LossRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The loss of a normed row against its target, with the gradients of the row and of the norm's gain. -/

namespace Cert.LossIdeal.Final

open Cert.LossIdeal Cert.LossIdeal.Gen Cert.Norm Cert.Reals

theorem lit_half : Ideal.ofBits .f32 0x3F000000#32 = ((1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_inv : Ideal.ofBits .f32 0x3A800000#32 = ((1 / 1024 : ℝ) : EReal) := by
  simp [Ideal.ofBits, Ideal.ieee, -EReal.coe_mul]; norm_num

theorem lit_half_inv : Ideal.ofBits .f32 0x3A000000#32 = ((1 / 2048 : ℝ) : EReal) := by
  simp [Ideal.ofBits, Ideal.ieee, -EReal.coe_mul]; norm_num

/-- A row of an array. -/
abbrev row {N : ℕ} (A : FVec Ideal (⟨2, ![N, 1024]⟩ : Shape) .f32) (i : Fin N) : Fin 1024 → EReal := fun l => A (ix2 i l)

/-- What a row's entry misses its target by. -/
abbrev err (X G T : Fin 1024 → EReal) : Fin 1024 → EReal := fun l => X l * rt X * G l - T l

/-- What flows into the row's entry, before the gain. -/
abbrev flow (X G T : Fin 1024 → EReal) : Fin 1024 → EReal := fun l => err X G T l * Ideal.ofBits .f32 0x3A800000#32

/-- The derivative's way of writing it. -/
theorem flow_eq (e : EReal) :
    Ideal.div (Ideal.ofBits .f32 0x3F000000#32) (Ideal.ofBits .f32 0x44800000#32) * (Ideal.ofBits .f32 0x40000000#32 * e)
      = e * Ideal.ofBits .f32 0x3A800000#32 := by
  rw [lit_half, lit_1024, lit_two, lit_inv, div_coe _ (by norm_num), ← mul_assoc, ← EReal.coe_mul, mul_comm]
  norm_num

section
variable (X : FVec Ideal S512x1024 .f32) (G : FVec Ideal S1x1024 .f32) (T : FVec Ideal S512x1024 .f32)

theorem pay_rt (i : Fin 512) : (k0_pay4 (F := Ideal) X (ix2 i 0) : EReal) = rt (row X i) := by
  pointwise [k0_pay4, rt, mean]

theorem pay_hat (i : Fin 512) (l : Fin 1024) :
    (k0_pay5 (F := Ideal) X (ix2 i l) : EReal) = X (ix2 i l) * rt (row X i) := by
  pointwise [k0_pay5]
  rw [pay_rt]

theorem pay_err (i : Fin 512) (l : Fin 1024) :
    (k0_pay6 (F := Ideal) X G T (ix2 i l) : EReal) = err (row X i) (row G 0) (row T i) l := by
  pointwise [k0_pay6, k0_pay3, err]
  rw [pay_hat]

theorem pay_flow (i : Fin 512) (l : Fin 1024) :
    (k0_pay7 (F := Ideal) X G T (ix2 i l) : EReal) = flow (row X i) (row G 0) (row T i) l := by
  pointwise [k0_pay7]
  rw [pay_err]

theorem pay_x (i : Fin 512) (l : Fin 1024) :
    (k0_pay8 (F := Ideal) X G T (ix2 i l) : EReal)
      = kdx (row X i) (fun l => flow (row X i) (row G 0) (row T i) l * G (ix2 0 l)) l := by
  pointwise [k0_pay8, k0_pay3, kdx]
  simp only [pay_flow, pay_hat, pay_rt]

/-- What one block of rows adds to the loss. -/
def part_l (y : S1x128.Idx) : EReal :=
  (∑ k : Fin 512, ∑ l : Fin 1024, err (row X k) (row G 0) (row T k) l * err (row X k) (row G 0) (row T k) l) * Ideal.ofBits .f32 0x3A000000#32

/-- What one block of rows adds to the gain's gradient. -/
def part_g (y : S1x1024.Idx) : EReal :=
  ∑ k : Fin 512, flow (row X k) (row G 0) (row T k) (y 1) * (X (ix2 k (y 1)) * rt (row X k))

theorem pay_l (C : FVec Ideal S1x128 .f32) (y : S1x128.Idx) :
    (k0_pay1 (F := Ideal) (k0_pay11 X G T) C y : EReal) = C y + part_l X G T y := by
  idx_vars y
  obtain rfl : y0 = 0 := Subsingleton.elim _ _
  pointwise [k0_pay1, k0_pay11, part_l]
  simp only [pay_err]

theorem pay_g (C : FVec Ideal S1x1024 .f32) (y : S1x1024.Idx) :
    (k0_pay2 (F := Ideal) (k0_pay5 X) (k0_pay7 X G T) C y : EReal) = C y + part_g X G T y := by
  idx_vars y
  obtain rfl : y0 = 0 := Subsingleton.elim _ _
  pointwise [k0_pay2, part_g]
  simp only [pay_flow, pay_hat]

end

theorem zero_l (y : S1x128.Idx) : (k0_pay9 (F := Ideal) y : EReal) = 0 := by
  idx_vars y
  pointwise [k0_pay9]

theorem zero_g (y : S1x1024.Idx) : (k0_pay10 (F := Ideal) y : EReal) = 0 := by
  idx_vars y
  pointwise [k0_pay10]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

abbrev x0 : FVec Ideal S8192x1024 .f32 := m (c.tc.loc main_arg0)
abbrev x1 : FVec Ideal S1024 .f32 := m (c.tc.loc main_arg1)
abbrev x2 : FVec Ideal S8192x1024 .f32 := m (c.tc.loc main_arg2)

/-- A point's blocks. -/
abbrev bx (t : Fin cfg0.N) : FVec Ideal S512x1024 .f32 := iblk m c 0 t
abbrev bg (t : Fin cfg0.N) : FVec Ideal S1x1024 .f32 := iblk m c 1 t
abbrev bt (t : Fin cfg0.N) : FVec Ideal S512x1024 .f32 := iblk m c 2 t

/-- What a point leaves of the row's gradient. -/
theorem out_x (t : Fin cfg0.N) (i : Fin 512) (l : Fin 1024) :
    (outsAt0 m c t.val t.isLt).1 (ix2 i l)
      = kdx (row (bx m c t) i) (fun l => flow (row (bx m c t) i) (row (bg m c t) 0) (row (bt m c t) i) l * row (bg m c t) 0 l) l := by
  by_cases h : t.val % 16 = 0
  · rw [outsAt0_A m c t h]
    frame_out
    rw [pay_x]
  · rw [outsAt0_B m c t h]
    frame_out
    rw [pay_x]

theorem acc_l (t : Fin cfg0.N) (hr : t.val % 16 = 15) (y : S1x128.Idx) :
    (outsAt0 m c t.val t.isLt).2.1 y = ∑ s : Fin 16, part_l (bx m c ⟨16 * (t.val / 16) + s.val, Pipeline.run_point_lt_of_flush t hr s⟩) (bg m c ⟨16 * (t.val / 16) + s.val, Pipeline.run_point_lt_of_flush t hr s⟩) (bt m c ⟨16 * (t.val / 16) + s.val, Pipeline.run_point_lt_of_flush t hr s⟩) y := by
  rw [Pipeline.eq_sum_fin_of_reset_step_apply_of_flush (fun n h => (outsAt0 m c n h).2.1) 16 (fun _ => (0 : EReal))
    (fun t y => part_l (bx m c t) (bg m c t) (bt m c t) y)
    (fun t h j => by
      rw [outsAt0_A m c t h]
      frame_out
      rw [pay_l, zero_l])
    (fun t h j => by
      rw [outsAt0_B m c t h]
      frame_out
      rw [pay_l]) t hr y, zero_add]

theorem acc_g (t : Fin cfg0.N) (hr : t.val % 16 = 15) (y : S1x1024.Idx) :
    (outsAt0 m c t.val t.isLt).2.2 y = ∑ s : Fin 16, part_g (bx m c ⟨16 * (t.val / 16) + s.val, Pipeline.run_point_lt_of_flush t hr s⟩) (bg m c ⟨16 * (t.val / 16) + s.val, Pipeline.run_point_lt_of_flush t hr s⟩) (bt m c ⟨16 * (t.val / 16) + s.val, Pipeline.run_point_lt_of_flush t hr s⟩) y := by
  rw [Pipeline.eq_sum_fin_of_reset_step_apply_of_flush (fun n h => (outsAt0 m c n h).2.2) 16 (fun _ => (0 : EReal))
    (fun t y => part_g (bx m c t) (bg m c t) (bt m c t) y)
    (fun t h j => by
      rw [outsAt0_A m c t h]
      frame_out
      rw [pay_g, zero_g])
    (fun t h j => by
      rw [outsAt0_B m c t h]
      frame_out
      rw [pay_g]) t hr y, zero_add]

/-! ## The reference, row by row -/

section
variable (a0 : FVec Ideal S8192x1024 .f32) (a1 : FVec Ideal S1024 .f32) (a2 : FVec Ideal S8192x1024 .f32)

/-- The gain. -/
abbrev gain : Fin 1024 → EReal := fun l => a1 (ix1 l)

theorem ref_rt (i : Fin 8192) : (Cert.LossRefIdeal.Read.val_main_v7 (F := Ideal) a0 (ix2 i 0) : EReal) = rt (row a0 i) := by
  pointwise [Cert.LossRefIdeal.Read.val_main_v7, Cert.LossRefIdeal.Read.val_main_v6, Cert.LossRefIdeal.Read.val_main_v5, Cert.LossRefIdeal.Read.val_main_v4, Cert.LossRefIdeal.Read.val_main_v3, Cert.LossRefIdeal.Read.val_main_v2, Cert.LossRefIdeal.Read.val_main_v1, Cert.LossRefIdeal.Read.val_main_v0, Cert.LossRefIdeal.Read.val_main_cst, Cert.LossRefIdeal.Read.val_main_cst_0, Cert.LossRefIdeal.Read.val_main_cst_1, rt, mean]

theorem ref_half (i : Fin 8192) : (Cert.LossRefIdeal.Read.val_main_v10 (F := Ideal) a0 (ix2 i 0) : EReal)
    = Ideal.ofBits .f32 0xBF000000#32 * Ideal.div (rt (row a0 i)) (mean (row a0 i)) := by
  pointwise [Cert.LossRefIdeal.Read.val_main_v10, Cert.LossRefIdeal.Read.val_main_v9, Cert.LossRefIdeal.Read.val_main_v8, Cert.LossRefIdeal.Read.val_main_v7, Cert.LossRefIdeal.Read.val_main_v6, Cert.LossRefIdeal.Read.val_main_v5, Cert.LossRefIdeal.Read.val_main_v4, Cert.LossRefIdeal.Read.val_main_v3, Cert.LossRefIdeal.Read.val_main_v2, Cert.LossRefIdeal.Read.val_main_v1, Cert.LossRefIdeal.Read.val_main_v0, Cert.LossRefIdeal.Read.val_main_cst, Cert.LossRefIdeal.Read.val_main_cst_0, Cert.LossRefIdeal.Read.val_main_cst_1, Cert.LossRefIdeal.Read.val_main_cst_2, rt, mean]

theorem ref_hat (i : Fin 8192) (l : Fin 1024) : (Cert.LossRefIdeal.Read.val_main_v12 (F := Ideal) a0 (ix2 i l) : EReal) = a0 (ix2 i l) * rt (row a0 i) := by
  pointwise [Cert.LossRefIdeal.Read.val_main_v12, Cert.LossRefIdeal.Read.val_main_v11]
  rw [ref_rt]

theorem ref_err (i : Fin 8192) (l : Fin 1024) :
    (Cert.LossRefIdeal.Read.val_main_v16 (F := Ideal) a0 a1 a2 (ix2 i l) : EReal) = err (row a0 i) (gain a1) (row a2 i) l := by
  pointwise [Cert.LossRefIdeal.Read.val_main_v16, Cert.LossRefIdeal.Read.val_main_v15, Cert.LossRefIdeal.Read.val_main_v14, Cert.LossRefIdeal.Read.val_main_v13, err]
  rw [ref_hat]

theorem ref_flow (i : Fin 8192) (l : Fin 1024) :
    (Cert.LossRefIdeal.Read.val_main_v30 (F := Ideal) a0 a1 a2 (ix2 i l) : EReal) = flow (row a0 i) (gain a1) (row a2 i) l := by
  pointwise [Cert.LossRefIdeal.Read.val_main_v30, Cert.LossRefIdeal.Read.val_main_v29, Cert.LossRefIdeal.Read.val_main_v28, Cert.LossRefIdeal.Read.val_main_v27, Cert.LossRefIdeal.Read.val_main_v26, Cert.LossRefIdeal.Read.val_main_v25, Cert.LossRefIdeal.Read.val_main_v19, Cert.LossRefIdeal.Read.val_main_v18, Cert.LossRefIdeal.Read.val_main_cst_3, Cert.LossRefIdeal.Read.val_main_cst_8, Cert.LossRefIdeal.Read.val_main_cst_9, Cert.LossRefIdeal.Read.val_main_cst_10]
  rw [ref_err]
  try rw [mul_one]
  exact flow_eq _

theorem ref_in (i : Fin 8192) (l : Fin 1024) :
    (Cert.LossRefIdeal.Read.val_main_v35 (F := Ideal) a0 a1 a2 (ix2 i l) : EReal) = flow (row a0 i) (gain a1) (row a2 i) l * gain a1 l := by
  pointwise [Cert.LossRefIdeal.Read.val_main_v35, Cert.LossRefIdeal.Read.val_main_v34, Cert.LossRefIdeal.Read.val_main_v13]
  rw [ref_flow]

theorem ref_back (i : Fin 8192) :
    (Cert.LossRefIdeal.Read.val_main_v45 (F := Ideal) a0 a1 a2 (ix1 i) : EReal)
      = back (row a0 i) (fun l => flow (row a0 i) (gain a1) (row a2 i) l * gain a1 l) := by
  pointwise [Cert.LossRefIdeal.Read.val_main_v45, Cert.LossRefIdeal.Read.val_main_v44, Cert.LossRefIdeal.Read.val_main_v43, Cert.LossRefIdeal.Read.val_main_v42, Cert.LossRefIdeal.Read.val_main_v39, Cert.LossRefIdeal.Read.val_main_v38, Cert.LossRefIdeal.Read.val_main_v37, Cert.LossRefIdeal.Read.val_main_cst_13, Cert.LossRefIdeal.Read.val_main_cst_14, Cert.LossRefIdeal.Read.val_main_cst_15, back]
  simp only [Fin.sum_univ_one, ref_half, ref_in]

theorem ref_x (i : Fin 8192) (l : Fin 1024) (hx : ∀ k, IsR (row a0 i k))
    (ha : ∀ k, IsR (flow (row a0 i) (gain a1) (row a2 i) k * gain a1 k)) :
    (Cert.LossRefIdeal.Read.val_main_v50 (F := Ideal) a0 a1 a2 (ix2 i l) : EReal)
      = kdx (row a0 i) (fun l => flow (row a0 i) (gain a1) (row a2 i) l * gain a1 l) l := by
  rw [dx_eq hx ha]
  pointwise [Cert.LossRefIdeal.Read.val_main_v50, Cert.LossRefIdeal.Read.val_main_v49, Cert.LossRefIdeal.Read.val_main_v48, Cert.LossRefIdeal.Read.val_main_v47, Cert.LossRefIdeal.Read.val_main_v46, Cert.LossRefIdeal.Read.val_main_v41, Cert.LossRefIdeal.Read.val_main_v40]
  rw [ref_in, ref_rt, ref_back]

theorem ref_g (l : Fin 1024) : (Cert.LossRefIdeal.Read.val_main_v52 (F := Ideal) a0 a1 a2 (ix2 0 l) : EReal)
    = ∑ i : Fin 8192, (a0 (ix2 i l) * rt (row a0 i)) * flow (row a0 i) (gain a1) (row a2 i) l := by
  pointwise [Cert.LossRefIdeal.Read.val_main_v52, Cert.LossRefIdeal.Read.val_main_v36, Cert.LossRefIdeal.Read.val_main_v33, Cert.LossRefIdeal.Read.val_main_v32, Cert.LossRefIdeal.Read.val_main_v31, Cert.LossRefIdeal.Read.val_main_cst_11, Cert.LossRefIdeal.Read.val_main_cst_12]
  rw [Fin.sum_univ_one]
  exact Finset.sum_congr (M := EReal) rfl fun i _ => by rw [ref_hat, ref_flow]

/-- A row's squared error. -/
def sq (X G T : Fin 1024 → EReal) : EReal := ∑ l, err X G T l * err X G T l

theorem ref_l (l : Fin 128) : (Cert.LossRefIdeal.Read.val_main_v51 (F := Ideal) a0 a1 a2 (ix2 0 l) : EReal)
    = Ideal.ofBits .f32 0x3F000000#32
      * ∑ i : Fin 8192, Ideal.div (sq (row a0 i) (gain a1) (row a2 i)) (Ideal.ofBits .f32 0x44800000#32) := by
  pointwise [Cert.LossRefIdeal.Read.val_main_v51, Cert.LossRefIdeal.Read.val_main_v24, Cert.LossRefIdeal.Read.val_main_v23, Cert.LossRefIdeal.Read.val_main_v22, Cert.LossRefIdeal.Read.val_main_v21, Cert.LossRefIdeal.Read.val_main_v20, Cert.LossRefIdeal.Read.val_main_v17, Cert.LossRefIdeal.Read.val_main_cst_4, Cert.LossRefIdeal.Read.val_main_cst_5, Cert.LossRefIdeal.Read.val_main_cst_6, Cert.LossRefIdeal.Read.val_main_cst_7, sq]
  simp only [ref_err]

end

/-- The blocks' scaled sums of real numbers are the whole's. -/
theorem sum_scale (q : Fin 8192 → EReal) (hq : ∀ i, IsR (q i)) (F : Fin 16 → Fin 512 → EReal)
    (h : ∀ (s : Fin 16) (k : Fin 512) (hl : s.val * 512 + k.val < 8192), F s k = q ⟨s.val * 512 + k.val, hl⟩) :
    ∑ s : Fin 16, (∑ k : Fin 512, F s k) * Ideal.ofBits .f32 0x3A000000#32
      = Ideal.ofBits .f32 0x3F000000#32 * ∑ i : Fin 8192, Ideal.div (q i) (Ideal.ofBits .f32 0x44800000#32) := by
  choose Q hQ using hq
  have hF : ∀ s k, F s k = ((Q ⟨s.val * 512 + k.val, by omega⟩ : ℝ) : EReal) := fun s k => (h s k (by omega)).trans (hQ _)
  simp only [hF, hQ, lit_half, lit_half_inv, lit_1024, div_coe _ (show (1024 : ℝ) ≠ 0 by norm_num), sum_coe, ← EReal.coe_mul]
  refine congrArg _ ?_
  rw [Finset.mul_sum]
  refine Eq.trans (Finset.sum_congr rfl fun s _ => Finset.sum_mul _ _ _) ?_
  exact Fin.sum_mul_add_congr (f := fun i => 1 / 2 * (Q i / 1024)) fun s k hl => by ring

/-! ## The blocks, as places of the arguments -/

section
variable (t : Fin cfg0.N) (i : Fin 512) (r : Fin 8192)

theorem row_x (hr : r.val = 512 * t.val + i.val) : row (bx m c t) i = row (x0 m c) r := by
  funext l
  have : bx m c t (ix2 i l) = x0 m c (ix2 r l) := by
    blk_point [iblk, V, idx t]
  exact this

theorem row_t (hr : r.val = 512 * t.val + i.val) : row (bt m c t) i = row (x2 m c) r := by
  funext l
  have : bt m c t (ix2 i l) = x2 m c (ix2 r l) := by
    blk_point [iblk, V, idx t]
  exact this

theorem row_g : row (bg m c t) 0 = gain (x1 m c) := by
  funext l
  have : bg m c t (ix2 0 l) = x1 m c (ix1 l) := by
    blk_point [iblk, V, idx t]
  exact this

end

/-- The arguments' entries are real numbers. -/
structure Fine : Prop where
  h0 : ∀ i, IsR (x0 m c i)
  h1 : ∀ i, IsR (x1 m c i)
  h2 : ∀ i, IsR (x2 m c i)

variable {m c} in
theorem Fine.err (hf : Fine m c) (i : Fin 8192) (l : Fin 1024) : IsR (Final.err (row (x0 m c) i) (gain (x1 m c)) (row (x2 m c) i) l) :=
  (((hf.h0 _).mul (rt_real fun k => hf.h0 _)).mul (hf.h1 _)).sub (hf.h2 _)

theorem final_x (hf : Fine m c) : (dats m 0 c).arrAt 3 (cfgs 0).N = Cert.LossRefIdeal.Read.val_main_v50 (F := Ideal) (x0 m c) (x1 m c) (x2 m c) := by
  refine (dats m 0 c).arrAt_eq_of_covers 3 _ (by decide +kernel) fun t hf' y => ?_
  blk_simp
  rw [after0_3]
  idx_vars y
  have ht : t.val < 16 := lt_of_lt_of_eq t.isLt N_0
  have hr : (⟨512 * t.val + y0.val, by omega⟩ : Fin 8192).val = 512 * t.val + y0.val := rfl
  rw [show ((View.whole main_v1_0).slice (win0_3.rect t)).emb (ix2 y0 y1) = (ix2 ⟨512 * t.val + y0.val, by omega⟩ y1 : S8192x1024.Idx)
    from by blk_ext [idx t]]
  rw [ref_x _ _ _ _ _ (fun k => hf.h0 _) (fun k => ((hf.err _ k).mul (lit_inv ▸ isR_coe _)).mul (hf.h1 _)), out_x]
  rw [row_x m c t y0 _ hr, row_t m c t y0 _ hr, row_g m c t]

theorem final_l (hf : Fine m c) : (dats m 0 c).arrAt 4 (cfgs 0).N = Cert.LossRefIdeal.Read.val_main_v51 (F := Ideal) (x0 m c) (x1 m c) (x2 m c) := by
  refine (dats m 0 c).arrAt_eq_of_covers 4 _ (by decide +kernel) fun t hf' y => ?_
  have h15 := (flush0_4 t).mp hf'
  blk_simp
  rw [after0_4]
  idx_vars y
  obtain rfl : y0 = 0 := Subsingleton.elim _ _
  rw [show ((View.whole main_v1_1).slice (win0_4.rect t)).emb (ix2 0 y1) = (ix2 0 y1 : S1x128.Idx) from by blk_ext [idx t], ref_l,
    acc_l m c t h15]
  have ht : t.val < 16 := lt_of_lt_of_eq t.isLt N_0
  unfold part_l
  refine sum_scale _ (fun i => IsR.sum fun l => (hf.err i l).mul (hf.err i l)) _ fun s k hl => ?_
  have hr : (⟨s.val * 512 + k.val, hl⟩ : Fin 8192).val = 512 * (16 * (t.val / 16) + s.val) + k.val := by
    show s.val * 512 + k.val = _; omega
  rw [row_x m c ⟨_, Pipeline.run_point_lt_of_flush t h15 s⟩ k _ hr, row_t m c ⟨_, Pipeline.run_point_lt_of_flush t h15 s⟩ k _ hr, row_g m c ⟨_, Pipeline.run_point_lt_of_flush t h15 s⟩]

theorem final_g : (dats m 0 c).arrAt 5 (cfgs 0).N = Cert.LossRefIdeal.Read.val_main_v52 (F := Ideal) (x0 m c) (x1 m c) (x2 m c) := by
  refine (dats m 0 c).arrAt_eq_of_covers 5 _ (by decide +kernel) fun t hf' y => ?_
  have h15 := (flush0_5 t).mp hf'
  blk_simp
  rw [after0_5]
  idx_vars y
  obtain rfl : y0 = 0 := Subsingleton.elim _ _
  rw [show ((View.whole main_v1_2).slice (win0_5.rect t)).emb (ix2 0 y1) = (ix2 0 y1 : S1x1024.Idx) from by blk_ext [idx t], ref_g,
    acc_g m c t h15]
  have ht : t.val < 16 := lt_of_lt_of_eq t.isLt N_0
  unfold part_g
  refine Fin.sum_mul_add_congr fun s k hl => ?_
  have hr : (⟨s.val * 512 + k.val, hl⟩ : Fin 8192).val = 512 * (16 * (t.val / 16) + s.val) + k.val := by
    show s.val * 512 + k.val = _; omega
  refine (mul_comm (_ : EReal) _).trans ?_
  rw [row_x m c ⟨_, Pipeline.run_point_lt_of_flush t h15 s⟩ k _ hr, row_t m c ⟨_, Pipeline.run_point_lt_of_flush t h15 s⟩ k _ hr, row_g m c ⟨_, Pipeline.run_point_lt_of_flush t h15 s⟩]
  exact congrArg (fun q : EReal => q * rt (row (x0 m c) ⟨s.val * 512 + k.val, hl⟩)
    * flow (row (x0 m c) ⟨s.val * 512 + k.val, hl⟩) (gain (x1 m c)) (row (x2 m c) ⟨s.val * 512 + k.val, hl⟩) y1)
    (congrFun (row_x m c ⟨_, Pipeline.run_point_lt_of_flush t h15 s⟩ k _ hr) y1)

/-- The shape relations the precondition's operations take. -/
instance preFacts : Cert.Pre_finite_loss.Facts where
  bcast_S_S8192x1024 := by decide
  bcast_S_S1024 := by decide

theorem fine (h : Cert.Pre_LossIdeal_finite_loss m) : Fine m c := by
  obtain ⟨h0, h1, h2⟩ := h c
  refine ⟨isR_of_test _ _ ?_ h0, isR_of_test _ _ ?_ h1, isR_of_test _ _ ?_ h2⟩
  all_goals (clear h0 h1 h2; intro i; idx_vars i; pointwise)

/-- The reference runs to its end and leaves its arguments alone. -/
theorem frame_ref : Cert.quiescent_LossRefIdeal := fun m g _ =>
  (θ_run Cert.LossRefIdeal.defs _ _).mono (fun r h => ⟨fun c => (h c).2.2.2, sem_eq_zero_of_no_sems (by decide) r.2⟩)
    (Cert.LossRefIdeal.Value.run m g)

theorem frame_ref_pre : Cert.quiescent_LossRefIdeal_pre_finite_loss := fun m g _ => frame_ref m g trivial

theorem ref_congr {a0 b0 a1 b1 a2 b2} (h0 : a0 = b0) (h1 : a1 = b1) (h2 : a2 = b2) :
    Cert.LossRefIdeal.Read.val_main_v50 (F := Ideal) a0 a1 a2 = Cert.LossRefIdeal.Read.val_main_v50 b0 b1 b2
      ∧ Cert.LossRefIdeal.Read.val_main_v51 (F := Ideal) a0 a1 a2 = Cert.LossRefIdeal.Read.val_main_v51 b0 b1 b2
      ∧ Cert.LossRefIdeal.Read.val_main_v52 (F := Ideal) a0 a1 a2 = Cert.LossRefIdeal.Read.val_main_v52 b0 b1 b2 := by
  subst h0 h1 h2; exact ⟨rfl, rfl, rfl⟩

/-- Over the reals the call's three results are the reference's. -/
theorem algebraic : Cert.algebraic_LossIdeal_LossRefIdeal_pre_finite_loss := by
  intro m g m' g' hpre hagree
  refine ⟨fun c => Cert.LossRefIdeal.Read.val_main_v50 (F := Ideal) (x0 m c) (x1 m c) (x2 m c), fun c => Cert.LossRefIdeal.Read.val_main_v51 (F := Ideal) (x0 m c) (x1 m c) (x2 m c),
    fun c => Cert.LossRefIdeal.Read.val_main_v52 (F := Ideal) (x0 m c) (x1 m c) (x2 m c), ?_, ?_⟩
  · refine (θ_run Cert.LossIdeal.defs _ _).mono (fun r h c => ?_) (Cert.LossIdeal.Value.run_blocks m g)
    exact ⟨(h c).1.trans (final_x m c (fine m c hpre)), (h c).2.1.trans (final_l m c (fine m c hpre)), (h c).2.2.1.trans (final_g m c),
      (h c).2.2.2⟩
  · refine (θ_run Cert.LossRefIdeal.defs _ _).mono (fun r h c => ?_) (Cert.LossRefIdeal.Value.run m' g')
    obtain ⟨e0, e1, e2⟩ := hagree c
    obtain ⟨c0, c1, c2⟩ := ref_congr e0 e1 e2
    obtain ⟨r0, r1, r2, hr⟩ := h c
    exact ⟨(r0.trans (Cert.LossRefIdeal.Read.val_main_v50_eq m' c)).trans c0, (r1.trans (Cert.LossRefIdeal.Read.val_main_v51_eq _ _ _)).trans c1, (r2.trans (Cert.LossRefIdeal.Read.val_main_v52_eq _ _ _)).trans c2, hr⟩

end Cert.LossIdeal.Final
-- ==== Proof.ScBwd.lean ====
module

public import proofs.«01_k».proof.Defs
public import proofs.«01_k».proof.Proof.Gen.ScBwd.Frame
public import proofs.«01_k».proof.Proof.Gen.ScBwdIdeal.Value
public import proofs.«01_k».proof.Proof.Gen.ScBwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of the gated short convolution: of its taps and of the projection's columns it reads. -/

namespace Cert.ScBwdIdeal.Final

open Cert.ScBwdIdeal Cert.ScBwdIdeal.Gen

variable (m : (ℓ : Loc nD τ sig) → Buf (Elt Ideal) ℓ) (c : Dev nD)

theorem idx : ∀ t : Fin cfg0.N, win0_0.index t = ![if t.val = 0 then 0 else 32 * t.val - 1, 2] ∧ win0_1.index t = ![t.val, 2]
    ∧ win0_2.index t = ![min (32 * t.val + 32) 511, 2] ∧ win0_3.index t = ![t.val, 0] ∧ win0_4.index t = ![min (32 * t.val + 32) 511, 0]
    ∧ win0_5.index t = ![0, 0] ∧ win0_6.index t = ![t.val, 2] ∧ win0_7.index t = ![0, 0] :=
  (by decide +kernel : ∀ t : Fin grid0.N, _)

abbrev x0 : FVec Ideal S8192x1536 .f32 := m (c.tc.loc main_arg0)
abbrev x1 : FVec Ideal S8192x512 .f32 := m (c.tc.loc main_arg1)
abbrev x2 : FVec Ideal S8192x8192 .bf16 := m (c.tc.loc main_arg2)
abbrev x3 : FVec Ideal S3x512 .f32 := m (c.tc.loc main_arg3)

/-- The pieces of the buffer that holds the rows before a tile and the tile's own. -/
abbrev front (A : FVec Ideal S16x512 .f32) (B : FVec Ideal S512x512 .f32) : List (View.Piece (Elt Ideal) S528x512 .f32) :=
  [⟨Rect.unit ![16, 0] ![512, 512] inb_S528x512_S512x512_16_0, B⟩, ⟨Rect.unit ![0, 0] ![16, 512] inb_S528x512_S16x512_0_0, A⟩]

theorem front_lo (A : FVec Ideal S16x512 .f32) (B : FVec Ideal S512x512 .f32) (j : Fin 16) (l : Fin 512) :
    View.canon (front A B) (ix2 ⟨j.val, by omega⟩ l : S528x512.Idx) = A (ix2 j l) := by
  have e : (ix2 ⟨j.val, by omega⟩ l : S528x512.Idx) = (Rect.unit (s := S528x512) ![0, 0] ![16, 512] inb_S528x512_S16x512_0_0).emb (ix2 j l : S16x512.Idx) := by
    blk_ext
  rw [e]
  exact (View.canon_cons_of_not_mem _ _ (LoadRect.idx_not_mem_of_disj (by dsimp only; decide) _)).trans (View.canon_cons_emb _ _ _ _)

theorem front_hi (A : FVec Ideal S16x512 .f32) (B : FVec Ideal S512x512 .f32) (j : Fin 512) (l : Fin 512) :
    View.canon (front A B) (ix2 ⟨16 + j.val, by omega⟩ l : S528x512.Idx) = B (ix2 j l) := by
  have e : (ix2 ⟨16 + j.val, by omega⟩ l : S528x512.Idx) = (Rect.unit (s := S528x512) ![16, 0] ![512, 512] inb_S528x512_S512x512_16_0).emb (ix2 j l : S512x512.Idx) := by
    blk_ext
  rw [e, View.canon_cons_emb]

theorem front_ld (A : FVec Ideal S16x512 .f32) (B : FVec Ideal S512x512 .f32) (o : ℕ) (ho : o ≤ 16) (inb) (i l : Fin 512) :
    (View.whole cc0_scratch0).readCov (front A B) (Rect.unit (s := S528x512) ![o, 0] ![512, 512] inb).toLoadRect (ix2 i l)
      = View.canon (front A B) (ix2 ⟨o + i.val, by omega⟩ l : S528x512.Idx) := by
  rw [View.readCov_eq_canon']
  refine congrArg (View.canon (front A B)) (funext fun a => Fin.ext ?_)
  fin_cases a <;> simp [LoadRect.idx, Rect.unit, ix2]

/-- The pieces of the buffer that holds a tile's rows and the rows after it. -/
abbrev back (A : FVec Ideal S512x512 .f32) (B : FVec Ideal S16x512 .f32) : List (View.Piece (Elt Ideal) S528x512 .f32) :=
  [⟨Rect.unit ![512, 0] ![16, 512] inb_S528x512_S16x512_512_0, B⟩, ⟨Rect.unit ![0, 0] ![512, 512] inb_S528x512_S512x512_0_0, A⟩]

theorem back_lo (A : FVec Ideal S512x512 .f32) (B : FVec Ideal S16x512 .f32) (j : Fin 512) (l : Fin 512) :
    View.canon (back A B) (ix2 ⟨j.val, by omega⟩ l : S528x512.Idx) = A (ix2 j l) := by
  have e : (ix2 ⟨j.val, by omega⟩ l : S528x512.Idx) = (Rect.unit (s := S528x512) ![0, 0] ![512, 512] inb_S528x512_S512x512_0_0).emb (ix2 j l : S512x512.Idx) := by
    blk_ext
  rw [e]
  exact (View.canon_cons_of_not_mem _ _ (LoadRect.idx_not_mem_of_disj (by dsimp only; decide) _)).trans (View.canon_cons_emb _ _ _ _)

theorem back_hi (A : FVec Ideal S512x512 .f32) (B : FVec Ideal S16x512 .f32) (j : Fin 16) (l : Fin 512) :
    View.canon (back A B) (ix2 ⟨512 + j.val, by omega⟩ l : S528x512.Idx) = B (ix2 j l) := by
  have e : (ix2 ⟨512 + j.val, by omega⟩ l : S528x512.Idx) = (Rect.unit (s := S528x512) ![512, 0] ![16, 512] inb_S528x512_S16x512_512_0).emb (ix2 j l : S16x512.Idx) := by
    blk_ext
  rw [e, View.canon_cons_emb]

theorem back_ld (A : FVec Ideal S512x512 .f32) (B : FVec Ideal S16x512 .f32) (o : ℕ) (ho : o ≤ 16) (inb) (i l : Fin 512) :
    (View.whole cc0_scratch1).readCov (back A B) (Rect.unit (s := S528x512) ![o, 0] ![512, 512] inb).toLoadRect (ix2 i l)
      = View.canon (back A B) (ix2 ⟨o + i.val, by omega⟩ l : S528x512.Idx) := by
  rw [View.readCov_eq_canon']
  refine congrArg (View.canon (back A B)) (funext fun a => Fin.ext ?_)
  fin_cases a <;> simp [LoadRect.idx, Rect.unit, ix2]

section
variable (L : List (View.Piece (Elt Ideal) S3x512 .f32)) (a b d : FVec Ideal S1x512 .f32) (l : Fin 512)

/-- The three rows stored one after another, over anything. -/
abbrev rows : List (View.Piece (Elt Ideal) S3x512 .f32) :=
  ⟨Rect.unit ![2, 0] ![1, 512] inb_S3x512_S1x512_2_0, d⟩ :: ⟨Rect.unit ![1, 0] ![1, 512] inb_S3x512_S1x512_1_0, b⟩
    :: ⟨Rect.unit ![0, 0] ![1, 512] inb_S3x512_S1x512_0_0, a⟩ :: L

theorem emb0 : (ix2 0 l : S3x512.Idx) = (Rect.unit (s := S3x512) ![0, 0] ![1, 512] inb_S3x512_S1x512_0_0).emb (ix2 0 l : S1x512.Idx) := by blk_ext
theorem emb1 : (ix2 1 l : S3x512.Idx) = (Rect.unit (s := S3x512) ![1, 0] ![1, 512] inb_S3x512_S1x512_1_0).emb (ix2 0 l : S1x512.Idx) := by blk_ext
theorem emb2 : (ix2 2 l : S3x512.Idx) = (Rect.unit (s := S3x512) ![2, 0] ![1, 512] inb_S3x512_S1x512_2_0).emb (ix2 0 l : S1x512.Idx) := by blk_ext

theorem rows0 : View.canon (rows L a b d) (ix2 0 l) = a (ix2 0 l) := by
  rw [emb0]
  exact ((View.canon_cons_of_not_mem _ _ (LoadRect.idx_not_mem_of_disj (by dsimp only; decide) _)).trans
    (View.canon_cons_of_not_mem _ _ (LoadRect.idx_not_mem_of_disj (by dsimp only; decide) _))).trans (View.canon_cons_emb _ _ _ _)

theorem rows1 : View.canon (rows L a b d) (ix2 1 l) = b (ix2 0 l) := by
  rw [emb1]
  exact (View.canon_cons_of_not_mem _ _ (LoadRect.idx_not_mem_of_disj (by dsimp only; decide) _)).trans (View.canon_cons_emb _ _ _ _)

theorem rows2 : View.canon (rows L a b d) (ix2 2 l) = d (ix2 0 l) := by
  rw [emb2]
  exact View.canon_cons_emb _ _ _ _

end

theorem pay_w0 (V Q : FVec Ideal S512x512 .f32) (W : FVec Ideal S1x512 .f32) (l : Fin 512) :
    (k0_pay21 (F := Ideal) V W Q (ix2 0 l) : EReal) = W (ix2 0 l) + ∑ i : Fin 512, (V (ix2 i l) : EReal) * Q (ix2 i l) := by
  pointwise [k0_pay21]

theorem pay_w1 (V Q : FVec Ideal S512x512 .f32) (W : FVec Ideal S1x512 .f32) (l : Fin 512) :
    (k0_pay22 (F := Ideal) V W Q (ix2 0 l) : EReal) = W (ix2 0 l) + ∑ i : Fin 512, (V (ix2 i l) : EReal) * Q (ix2 i l) := by
  pointwise [k0_pay22]

theorem pay_w2 (V Q : FVec Ideal S512x512 .f32) (W : FVec Ideal S1x512 .f32) (l : Fin 512) :
    (k0_pay1 (F := Ideal) V W Q (ix2 0 l) : EReal) = W (ix2 0 l) + ∑ i : Fin 512, (V (ix2 i l) : EReal) * Q (ix2 i l) := by
  pointwise [k0_pay1]

theorem first : ∀ t : Fin cfg0.N, Scalar.cmpi .eq (BitVec.ofNat 32 (grid0.coords t 0).val) 0#32 = if t.val = 0 then 1#1 else 0#1 :=
  (by decide +kernel : ∀ t : Fin grid0.N, _)

theorem last : ∀ t : Fin cfg0.N, Scalar.cmpi .eq (BitVec.ofNat 32 (grid0.coords t 0).val) 15#32 = if t.val = 15 then 1#1 else 0#1 :=
  (by decide +kernel : ∀ t : Fin grid0.N, _)

theorem pay_halo (t : Fin cfg0.N) (X : FVec Ideal S16x1536 .bf16) (j : Fin 16) (l : Fin 512) :
    (k0_pay7 (F := Ideal) (grid0.coords t) X (ix2 j l) : EReal)
      = if t.val = 0 then 0 else (X (ix2 j ⟨512 + l.val, by omega⟩) : EReal) * X (ix2 j ⟨1024 + l.val, by omega⟩) := by
  unfold k0_pay7
  dsimp only
  rw [first t]
  split
  · pointwise
  · pointwise

theorem pay_prod (X : FVec Ideal S512x1536 .bf16) (j : Fin 512) (l : Fin 512) :
    (k0_pay8 (F := Ideal) X (ix2 j l) : EReal) = (X (ix2 j ⟨512 + l.val, by omega⟩) : EReal) * X (ix2 j ⟨1024 + l.val, by omega⟩) := by
  pointwise [k0_pay8, k0_pay5, k0_pay6, k0_pay2]

theorem pay_flow (X : FVec Ideal S512x1536 .bf16) (Y : FVec Ideal S512x512 .bf16) (j : Fin 512) (l : Fin 512) :
    (k0_pay12 (F := Ideal) (k0_pay4 X) Y (ix2 j l) : EReal) = (Y (ix2 j l) : EReal) * X (ix2 j ⟨l.val, by omega⟩) := by
  pointwise [k0_pay12, k0_pay11, k0_pay4, k0_pay2]

theorem pay_next (t : Fin cfg0.N) (X : FVec Ideal S16x1536 .bf16) (Y : FVec Ideal S16x512 .bf16) (j : Fin 16) (l : Fin 512) :
    (k0_pay13 (F := Ideal) (BitVec.ofNat 32 (grid0.coords t 0).val) (k0_pay3 X) Y (ix2 j l) : EReal)
      = if t.val = 15 then 0 else (Y (ix2 j l) : EReal) * X (ix2 j ⟨l.val, by omega⟩) := by
  unfold k0_pay13
  dsimp only
  rw [last t]
  split
  · pointwise
  · pointwise [k0_pay3]

theorem V_y : V m c main_v4 = truncf .bf16 (x1 m c) bitsLt_bf16_f32 := by
  rfl

theorem V_z : V m c main_v5_0 = x2 m c := by
  rfl

theorem V_x : V m c main_v3 = truncf .bf16 (concatenate S8192x8192 1 [⟨S8192x3072, (broadcastInDim S8192x3072 ![] bcast_S_S8192x3072 (constant S_ .f32 0x00000000#32) : FVec Ideal S8192x3072 .f32)⟩,
      ⟨S8192x1536, x0 m c⟩, ⟨S8192x3584, (broadcastInDim S8192x3584 ![] bcast_S_S8192x3584 (constant S_ .f32 0x00000000#32) : FVec Ideal S8192x3584 .f32)⟩]
      concatenates_S8192x3072_S8192x1536_S8192x3584_S8192x8192_d1) bitsLt_bf16_f32 := by
  rfl

theorem V_x_at (r : Fin 8192) (j : Fin 1536) : V m c main_v3 (ix2 r ⟨3072 + j.val, by omega⟩ : S8192x8192.Idx) = x0 m c (ix2 r j) := by
  rw [V_x]
  pointwise

theorem bx_at (t : Fin cfg0.N) (i : Fin 512) (j : Fin 1536) (r : Fin 8192) (h : r.val = 512 * t.val + i.val) :
    (X0_1 m c t) (ix2 i j : S512x1536.Idx) = x0 m c (ix2 r j) := by
  unfold X0_1 Pipeline.Window.fill
  rw [dif_pos (moved0_1 t _), ← V_x_at]
  unfold iblk
  refine congrArg (V m c main_v3) ?_
  blk_ext [idx t]

/-- The product the convolution runs over, and the gradient that reaches it, at a row. -/
def pr (a0 : FVec Ideal S8192x1536 .f32) (r : Fin 8192) (l : Fin 512) : EReal :=
  (a0 (ix2 r ⟨512 + l.val, by omega⟩) : EReal) * a0 (ix2 r ⟨1024 + l.val, by omega⟩)

def fl (a0 : FVec Ideal S8192x1536 .f32) (a1 : FVec Ideal S8192x512 .f32) (r : Fin 8192) (l : Fin 512) : EReal :=
  (a1 (ix2 r l) : EReal) * a0 (ix2 r ⟨l.val, by omega⟩)

theorem bp_at (t : Fin cfg0.N) (i : Fin 16) (j : Fin 1536) (r : Fin 8192) (h0 : t.val ≠ 0) (h : r.val + 16 = 512 * t.val + i.val) :
    (X0_0 m c t) (ix2 i j : S16x1536.Idx) = x0 m c (ix2 r j) := by
  unfold X0_0 Pipeline.Window.fill
  rw [dif_pos (moved0_0 t _), ← V_x_at]
  unfold iblk
  refine congrArg (V m c main_v3) ?_
  have e := (idx t).1
  rw [if_neg h0] at e
  blk_ext [e]

theorem bn_at (t : Fin cfg0.N) (i : Fin 16) (j : Fin 1536) (r : Fin 8192) (h0 : t.val ≠ 15) (h : r.val = 512 * t.val + 512 + i.val) :
    (X0_2 m c t) (ix2 i j : S16x1536.Idx) = x0 m c (ix2 r j) := by
  have ht : t.val < 16 := lt_of_lt_of_eq t.isLt N_0
  unfold X0_2 Pipeline.Window.fill
  rw [dif_pos (moved0_2 t _), ← V_x_at]
  unfold iblk
  refine congrArg (V m c main_v3) ?_
  have e := (idx t).2.2.1
  rw [min_eq_left (by omega)] at e
  blk_ext [e]

theorem bd_at (t : Fin cfg0.N) (i l : Fin 512) (r : Fin 8192) (h : r.val = 512 * t.val + i.val) :
    (iblk m c 3 t) (ix2 i l : S512x512.Idx) = x1 m c (ix2 r l) := by
  have e : (iblk m c 3 t) (ix2 i l : S512x512.Idx) = V m c main_v4 (ix2 r l : S8192x512.Idx) := by
    unfold iblk
    refine congrArg (V m c main_v4) ?_
    blk_ext [idx t]
  rw [e, V_y]
  pointwise

theorem be_at (t : Fin cfg0.N) (i : Fin 16) (l : Fin 512) (r : Fin 8192) (h0 : t.val ≠ 15) (h : r.val = 512 * t.val + 512 + i.val) :
    (iblk m c 4 t) (ix2 i l : S16x512.Idx) = x1 m c (ix2 r l) := by
  have ht : t.val < 16 := lt_of_lt_of_eq t.isLt N_0
  have e : (iblk m c 4 t) (ix2 i l : S16x512.Idx) = V m c main_v4 (ix2 r l : S8192x512.Idx) := by
    unfold iblk
    refine congrArg (V m c main_v4) ?_
    have e := (idx t).2.2.2.2.1
    rw [min_eq_left (by omega)] at e
    blk_ext [e]
  rw [e, V_y]
  pointwise

theorem bw_at (t : Fin cfg0.N) (k : Fin 3) (l : Fin 512) : (iblk m c 5 t) (ix2 k l : S3x512.Idx) = x3 m c (ix2 k l) := by
  blk_point [iblk, V, idx t]

/-- The first buffer holds the products of the rows from sixteen before the tile on, zeros before the first row. -/
theorem front_val (t : Fin cfg0.N) (i : Fin 528) (l : Fin 512) :
    View.canon (front (k0_pay7 (F := Ideal) (grid0.coords t) (X0_0 m c t)) (k0_pay8 (X0_1 m c t))) (ix2 i l : S528x512.Idx)
      = if h : 16 ≤ 512 * t.val + i.val then pr (x0 m c) ⟨512 * t.val + i.val - 16, by have := lt_of_lt_of_eq t.isLt N_0; omega⟩ l else (0 : EReal) := by
  have ht : t.val < 16 := lt_of_lt_of_eq t.isLt N_0
  by_cases hi : i.val < 16
  · rw [show (ix2 i l : S528x512.Idx) = ix2 ⟨(⟨i.val, hi⟩ : Fin 16).val, by omega⟩ l from rfl, front_lo, pay_halo]
    by_cases h0 : t.val = 0
    · rw [if_pos h0, dif_neg (by omega)]
    · rw [if_neg h0, dif_pos (by omega)]
      unfold pr
      rw [bp_at m c t _ _ ⟨512 * t.val + i.val - 16, by omega⟩ h0 (by show _ - 16 + 16 = _; simp only []; omega),
        bp_at m c t _ _ ⟨512 * t.val + i.val - 16, by omega⟩ h0 (by show _ - 16 + 16 = _; simp only []; omega)]
  · rw [show (ix2 i l : S528x512.Idx) = ix2 ⟨16 + (⟨i.val - 16, by omega⟩ : Fin 512).val, by simp only []; omega⟩ l from
      congrArg (fun q : Fin 528 => (ix2 q l : S528x512.Idx)) (Fin.ext (by simp only []; omega)), front_hi, pay_prod, dif_pos (by omega)]
    unfold pr
    rw [bx_at m c t _ _ ⟨512 * t.val + i.val - 16, by omega⟩ (by simp only []; omega), bx_at m c t _ _ ⟨512 * t.val + i.val - 16, by omega⟩ (by simp only []; omega)]

/-- The second buffer holds the gradients of the tile's rows and the sixteen after, zeros after the last row. -/
theorem back_val (t : Fin cfg0.N) (i : Fin 528) (l : Fin 512) :
    View.canon (back (k0_pay12 (F := Ideal) (k0_pay4 (X0_1 m c t)) (iblk m c 3 t))
        (k0_pay13 (BitVec.ofNat 32 (grid0.coords t 0).val) (k0_pay3 (X0_2 m c t)) (iblk m c 4 t))) (ix2 i l : S528x512.Idx)
      = if h : 512 * t.val + i.val < 8192 then fl (x0 m c) (x1 m c) ⟨512 * t.val + i.val, h⟩ l else (0 : EReal) := by
  have ht : t.val < 16 := lt_of_lt_of_eq t.isLt N_0
  by_cases hi : i.val < 512
  · rw [show (ix2 i l : S528x512.Idx) = ix2 ⟨(⟨i.val, hi⟩ : Fin 512).val, by omega⟩ l from rfl, back_lo, pay_flow, dif_pos (by omega)]
    unfold fl
    rw [bx_at m c t _ _ ⟨512 * t.val + i.val, by omega⟩ rfl, bd_at m c t _ _ ⟨512 * t.val + i.val, by omega⟩ rfl]
  · rw [show (ix2 i l : S528x512.Idx) = ix2 ⟨512 + (⟨i.val - 512, by omega⟩ : Fin 16).val, by simp only []; omega⟩ l from
      congrArg (fun q : Fin 528 => (ix2 q l : S528x512.Idx)) (Fin.ext (by simp only []; omega)), back_hi, pay_next]
    by_cases h0 : t.val = 15
    · rw [if_pos h0, dif_neg (by omega)]
    · rw [if_neg h0, dif_pos (by omega)]
      unfold fl
      rw [bn_at m c t _ _ ⟨512 * t.val + i.val, by omega⟩ h0 (by simp only []; omega), be_at m c t _ _ ⟨512 * t.val + i.val, by omega⟩ h0 (by simp only []; omega)]

/-- The products `k` rows from two above a row on, and the gradients `k` rows below it. -/
def sh (a0 : FVec Ideal S8192x1536 .f32) (k : Fin 3) (r : Fin 8192) (l : Fin 512) : EReal :=
  if h : 2 ≤ r.val + k.val then pr a0 ⟨r.val + k.val - 2, by omega⟩ l else 0

def up (a0 : FVec Ideal S8192x1536 .f32) (a1 : FVec Ideal S8192x512 .f32) (k : Fin 3) (r : Fin 8192) (l : Fin 512) : EReal :=
  if h : r.val + k.val < 8192 then fl a0 a1 ⟨r.val + k.val, h⟩ l else 0

/-- The buffers of a point. -/
abbrev fr (t : Fin cfg0.N) : List (View.Piece (Elt Ideal) S528x512 .f32) := front (k0_pay7 (F := Ideal) (grid0.coords t) (X0_0 m c t)) (k0_pay8 (X0_1 m c t))

abbrev bk (t : Fin cfg0.N) : List (View.Piece (Elt Ideal) S528x512 .f32) :=
  back (k0_pay12 (F := Ideal) (k0_pay4 (X0_1 m c t)) (iblk m c 3 t)) (k0_pay13 (BitVec.ofNat 32 (grid0.coords t 0).val) (k0_pay3 (X0_2 m c t)) (iblk m c 4 t))

section
variable (t : Fin cfg0.N) (i l : Fin 512) (r : Fin 8192)

theorem fr_at (o : ℕ) (inb) (k : Fin 3) (ho : o = 14 + k.val) (hr : r.val = 512 * t.val + i.val) :
    (View.whole cc0_scratch0).readCov (fr m c t) (Rect.unit (s := S528x512) ![o, 0] ![512, 512] inb).toLoadRect (ix2 i l) = sh (x0 m c) k r l := by
  rw [front_ld _ _ o (by omega), front_val]
  unfold sh
  by_cases h : 2 ≤ r.val + k.val
  · rw [dif_pos h, dif_pos (by simp only []; omega)]
    exact congrArg (fun q => pr (x0 m c) q l) (Fin.ext (by simp only []; omega))
  · rw [dif_neg h, dif_neg (by simp only []; omega)]

theorem bk_at (o : ℕ) (inb) (k : Fin 3) (ho : o = k.val) (hr : r.val = 512 * t.val + i.val) :
    (View.whole cc0_scratch1).readCov (bk m c t) (Rect.unit (s := S528x512) ![o, 0] ![512, 512] inb).toLoadRect (ix2 i l) = up (x0 m c) (x1 m c) k r l := by
  rw [back_ld _ _ o (by omega), back_val]
  unfold up
  by_cases h : r.val + k.val < 8192
  · rw [dif_pos h, dif_pos (by simp only []; omega)]
    exact congrArg (fun q => fl (x0 m c) (x1 m c) q l) (Fin.ext (by simp only []; omega))
  · rw [dif_neg h, dif_neg (by simp only []; omega)]

theorem prod_at (hr : r.val = 512 * t.val + i.val) : (k0_pay8 (F := Ideal) (X0_1 m c t) (ix2 i l) : EReal) = sh (x0 m c) 2 r l := by
  rw [pay_prod]
  unfold sh
  rw [dif_pos (by show 2 ≤ r.val + 2; omega)]
  unfold pr
  rw [bx_at m c t _ _ r hr, bx_at m c t _ _ r hr]
  rfl

theorem flow_at (hr : r.val = 512 * t.val + i.val) : (k0_pay12 (F := Ideal) (k0_pay4 (X0_1 m c t)) (iblk m c 3 t) (ix2 i l) : EReal) = up (x0 m c) (x1 m c) 0 r l := by
  rw [pay_flow]
  unfold up
  rw [dif_pos (by exact r.isLt)]
  unfold fl
  rw [bx_at m c t _ _ r hr, bd_at m c t _ _ r hr]
  rfl

end

/-- What a point adds to a tap's gradient. -/
def part (t : Fin cfg0.N) (k : Fin 3) (l : Fin 512) : EReal :=
  ∑ i : Fin 512, up (x0 m c) (x1 m c) 0 ⟨512 * t.val + i.val, by have := lt_of_lt_of_eq t.isLt N_0; omega⟩ l * sh (x0 m c) k ⟨512 * t.val + i.val, by have := lt_of_lt_of_eq t.isLt N_0; omega⟩ l

theorem zero_w (y : S3x512.Idx) : (k0_pay20 (F := Ideal) y : EReal) = 0 := by
  idx_vars y
  pointwise [k0_pay20]

theorem ld_row (W : FVec Ideal S3x512 .f32) (o : ℕ) (inb) (k : Fin 3) (ho : o = k.val) (l : Fin 512) :
    View.ld (Val := Elt Ideal) (e' := .f32) W (Rect.unit (s := S3x512) ![o, 0] ![1, 512] inb) (ix2 0 l) = W (ix2 k l) := by
  show W ((Rect.unit (s := S3x512) ![o, 0] ![1, 512] inb).idx (ix2 0 l : S1x512.Idx)) = _
  refine congrArg W (funext fun a => Fin.ext ?_)
  fin_cases a <;> simp [LoadRect.idx, Rect.unit, ix2, ho]

theorem step_A7 (t : Fin cfg0.N) (h : t.val % 16 = 0) (k : Fin 3) (l : Fin 512) :
    (outsAt0 m c t.val t.isLt).2 (ix2 k l) = (0 : EReal) + part m c t k l := by
  rw [outsAt0_A m c t h]
  frame_open
  simp (disch := decide) only [↓ View.readCov_skip, ↓ View.readCov_cons_toLoadRect, ↓ View.readCov_fill]
  frame_out
  unfold part
  fin_cases k
  · refine (rows0 _ _ _ _ l).trans ?_
    rw [pay_w0, ld_row _ 0 _ 0 rfl, zero_w]
    exact congrArg (HAdd.hAdd (α := EReal) (β := EReal) 0) (Finset.sum_congr (M := EReal) rfl fun i _ =>
      congrArg₂ (HMul.hMul (α := EReal) (β := EReal)) (flow_at m c t i l _ rfl) (fr_at m c t i l _ 14 _ 0 rfl rfl))
  · refine (rows1 _ _ _ _ l).trans ?_
    rw [pay_w1, ld_row _ 1 _ 1 rfl, zero_w]
    exact congrArg (HAdd.hAdd (α := EReal) (β := EReal) 0) (Finset.sum_congr (M := EReal) rfl fun i _ =>
      congrArg₂ (HMul.hMul (α := EReal) (β := EReal)) (flow_at m c t i l _ rfl) (fr_at m c t i l _ 15 _ 1 rfl rfl))
  · refine (rows2 _ _ _ _ l).trans ?_
    rw [pay_w2, ld_row _ 2 _ 2 rfl, zero_w]
    exact congrArg (HAdd.hAdd (α := EReal) (β := EReal) 0) (Finset.sum_congr (M := EReal) rfl fun i _ =>
      congrArg₂ (HMul.hMul (α := EReal) (β := EReal)) (flow_at m c t i l _ rfl) (prod_at m c t i l _ rfl))

theorem step_B7 (t : Fin cfg0.N) (h : ¬ t.val % 16 = 0) (k : Fin 3) (l : Fin 512) : (outsAt0 m c t.val t.isLt).2 (ix2 k l)
    = HAdd.hAdd (α := EReal) (β := EReal) ((outsAt0 m c (t.val - 1) (Nat.lt_of_le_of_lt (Nat.sub_le _ _) t.isLt)).2 (ix2 k l)) (part m c t k l) := by
  rw [outsAt0_B m c t h]
  frame_open
  simp (disch := decide) only [↓ View.readCov_skip, ↓ View.readCov_cons_toLoadRect, ↓ View.readCov_fill]
  frame_out
  unfold part
  fin_cases k
  · refine (rows0 _ _ _ _ l).trans ?_
    rw [pay_w0, ld_row _ 0 _ 0 rfl]
    exact congrArg (HAdd.hAdd (α := EReal) (β := EReal) _) (Finset.sum_congr (M := EReal) rfl fun i _ =>
      congrArg₂ (HMul.hMul (α := EReal) (β := EReal)) (flow_at m c t i l _ rfl) (fr_at m c t i l _ 14 _ 0 rfl rfl))
  · refine (rows1 _ _ _ _ l).trans ?_
    rw [pay_w1, ld_row _ 1 _ 1 rfl]
    exact congrArg (HAdd.hAdd (α := EReal) (β := EReal) _) (Finset.sum_congr (M := EReal) rfl fun i _ =>
      congrArg₂ (HMul.hMul (α := EReal) (β := EReal)) (flow_at m c t i l _ rfl) (fr_at m c t i l _ 15 _ 1 rfl rfl))
  · refine (rows2 _ _ _ _ l).trans ?_
    rw [pay_w2, ld_row _ 2 _ 2 rfl]
    exact congrArg (HAdd.hAdd (α := EReal) (β := EReal) _) (Finset.sum_congr (M := EReal) rfl fun i _ =>
      congrArg₂ (HMul.hMul (α := EReal) (β := EReal)) (flow_at m c t i l _ rfl) (prod_at m c t i l _ rfl))

theorem acc_w (t : Fin cfg0.N) (hr : t.val % 16 = 15) (y : S3x512.Idx) :
    (outsAt0 m c t.val t.isLt).2 y = ∑ s : Fin 16, part m c ⟨16 * (t.val / 16) + s.val, Pipeline.run_point_lt_of_flush t hr s⟩ (y 0) (y 1) := by
  rw [Pipeline.eq_sum_fin_of_reset_step_apply_of_flush (fun n h => (outsAt0 m c n h).2) 16 (fun _ => (0 : EReal))
    (fun t y => part m c t (y 0) (y 1))
    (fun t h j => by idx_vars j; exact step_A7 m c t h j0 j1)
    (fun t h j => by idx_vars j; exact step_B7 m c t h j0 j1) t hr y, zero_add]

/-! ## What a point stores in the projection's columns -/

theorem pay_q (Q0 Q1 Q2 : FVec Ideal S512x512 .f32) (W0 W1 W2 : FVec Ideal S1x512 .f32) (Y : FVec Ideal S512x512 .bf16) (i l : Fin 512) :
    (k0_pay17 (F := Ideal) (k0_pay10 (k0_pay9 Q0 W0 Q1 W1) Q2 W2) (k0_pay11 Y) (ix2 i l) : EReal)
      = Y (ix2 i l) * (Q0 (ix2 i l) * W0 (ix2 0 l) + Q1 (ix2 i l) * W1 (ix2 0 l) + Q2 (ix2 i l) * W2 (ix2 0 l)) := by
  pointwise [k0_pay17, k0_pay10, k0_pay9, k0_pay11]

theorem pay_u (Q0 Q1 Q2 : FVec Ideal S512x512 .f32) (W0 W1 W2 : FVec Ideal S1x512 .f32) (X : FVec Ideal S512x1536 .bf16) (i l : Fin 512) :
    (k0_pay18 (F := Ideal) (k0_pay6 X) (k0_pay14 Q0 W0 Q1 W1) Q2 (k0_pay15 W2) (ix2 i l) : EReal)
      = (Q0 (ix2 i l) * W0 (ix2 0 l) + Q1 (ix2 i l) * W1 (ix2 0 l) + Q2 (ix2 i l) * W2 (ix2 0 l)) * X (ix2 i ⟨1024 + l.val, by omega⟩) := by
  pointwise [k0_pay18, k0_pay16, k0_pay14, k0_pay15, k0_pay6, k0_pay2]

theorem pay_v (Q0 Q1 Q2 : FVec Ideal S512x512 .f32) (W0 W1 W2 : FVec Ideal S1x512 .f32) (X : FVec Ideal S512x1536 .bf16) (i l : Fin 512) :
    (k0_pay19 (F := Ideal) (k0_pay5 X) (k0_pay14 Q0 W0 Q1 W1) Q2 (k0_pay15 W2) (ix2 i l) : EReal)
      = (Q0 (ix2 i l) * W0 (ix2 0 l) + Q1 (ix2 i l) * W1 (ix2 0 l) + Q2 (ix2 i l) * W2 (ix2 0 l)) * X (ix2 i ⟨512 + l.val, by omega⟩) := by
  pointwise [k0_pay19, k0_pay16, k0_pay14, k0_pay15, k0_pay5, k0_pay2]

section
variable (L : List (View.Piece (Elt Ideal) S512x1536 .bf16)) (a b d : FVec Ideal S512x512 .bf16) (i l : Fin 512)

/-- The three column groups stored one after another. -/
abbrev cols : List (View.Piece (Elt Ideal) S512x1536 .bf16) :=
  [⟨Rect.unit ![0, 1024] ![512, 512] inb_S512x1536_S512x512_0_1024, d⟩, ⟨Rect.unit ![0, 512] ![512, 512] inb_S512x1536_S512x512_0_512, b⟩,
    ⟨Rect.unit ![0, 0] ![512, 512] inb_S512x1536_S512x512_0_0, a⟩]

theorem cols0 : View.canon (cols a b d) (ix2 i ⟨l.val, by omega⟩) = a (ix2 i l) := by
  rw [show (ix2 i ⟨l.val, by omega⟩ : S512x1536.Idx) = (Rect.unit (s := S512x1536) ![0, 0] ![512, 512] inb_S512x1536_S512x512_0_0).emb (ix2 i l : S512x512.Idx) from by blk_ext]
  exact ((View.canon_cons_of_not_mem _ _ (LoadRect.idx_not_mem_of_disj (by dsimp only; decide) _)).trans
    (View.canon_cons_of_not_mem _ _ (LoadRect.idx_not_mem_of_disj (by dsimp only; decide) _))).trans (View.canon_cons_emb _ _ _ _)

theorem cols1 : View.canon (cols a b d) (ix2 i ⟨512 + l.val, by omega⟩) = b (ix2 i l) := by
  rw [show (ix2 i ⟨512 + l.val, by omega⟩ : S512x1536.Idx) = (Rect.unit (s := S512x1536) ![0, 512] ![512, 512] inb_S512x1536_S512x512_0_512).emb (ix2 i l : S512x512.Idx) from by blk_ext]
  exact (View.canon_cons_of_not_mem _ _ (LoadRect.idx_not_mem_of_disj (by dsimp only; decide) _)).trans (View.canon_cons_emb _ _ _ _)

theorem cols2 : View.canon (cols a b d) (ix2 i ⟨1024 + l.val, by omega⟩) = d (ix2 i l) := by
  rw [show (ix2 i ⟨1024 + l.val, by omega⟩ : S512x1536.Idx) = (Rect.unit (s := S512x1536) ![0, 1024] ![512, 512] inb_S512x1536_S512x512_0_1024).emb (ix2 i l : S512x512.Idx) from by blk_ext]
  exact View.canon_cons_emb _ _ _ _

end

section
variable (a0 : FVec Ideal S8192x1536 .f32) (a1 : FVec Ideal S8192x512 .f32) (a2 : FVec Ideal S8192x8192 .bf16) (a3 : FVec Ideal S3x512 .f32)

/-- The convolution, and its transpose, at a row. -/
def cv (r : Fin 8192) (l : Fin 512) : EReal := sh a0 0 r l * a3 (ix2 0 l) + sh a0 1 r l * a3 (ix2 1 l) + sh a0 2 r l * a3 (ix2 2 l)

def ct (r : Fin 8192) (l : Fin 512) : EReal := up a0 a1 2 r l * a3 (ix2 0 l) + up a0 a1 1 r l * a3 (ix2 1 l) + up a0 a1 0 r l * a3 (ix2 2 l)

end

theorem three {a b d a' b' d' u v w : EReal} (ha : a = a') (hb : b = b') (hd : d = d') : a * u + b * v + d * w = a' * u + b' * v + d' * w := by
  rw [ha, hb, hd]

section
variable (t : Fin cfg0.N) (i l : Fin 512) (r : Fin 8192)

theorem kq (hr : r.val = 512 * t.val + i.val) : (outsAt0 m c t.val t.isLt).1 (ix2 i ⟨l.val, by omega⟩) = (x1 m c (ix2 r l) : EReal) * cv (x0 m c) (x3 m c) r l := by
  by_cases h : t.val % 16 = 0
  · rw [outsAt0_A m c t h]
    frame_out
    refine (cols0 _ _ _ i l).trans ?_
    rw [pay_q, ld_row _ 0 _ 0 rfl, ld_row _ 1 _ 1 rfl, ld_row _ 2 _ 2 rfl, bw_at, bw_at, bw_at, bd_at m c t i l r hr]
    unfold cv
    exact congrArg (HMul.hMul (α := EReal) (β := EReal) (x1 m c (ix2 r l)))
      (three (fr_at m c t i l r 14 _ 0 rfl hr) (fr_at m c t i l r 15 _ 1 rfl hr) (fr_at m c t i l r 16 _ 2 rfl hr))
  · rw [outsAt0_B m c t h]
    frame_out
    refine (cols0 _ _ _ i l).trans ?_
    rw [pay_q, ld_row _ 0 _ 0 rfl, ld_row _ 1 _ 1 rfl, ld_row _ 2 _ 2 rfl, bw_at, bw_at, bw_at, bd_at m c t i l r hr]
    unfold cv
    exact congrArg (HMul.hMul (α := EReal) (β := EReal) (x1 m c (ix2 r l)))
      (three (fr_at m c t i l r 14 _ 0 rfl hr) (fr_at m c t i l r 15 _ 1 rfl hr) (fr_at m c t i l r 16 _ 2 rfl hr))

theorem ku (hr : r.val = 512 * t.val + i.val) : (outsAt0 m c t.val t.isLt).1 (ix2 i ⟨512 + l.val, by omega⟩)
    = ct (x0 m c) (x1 m c) (x3 m c) r l * (x0 m c (ix2 r ⟨1024 + l.val, by omega⟩) : EReal) := by
  by_cases h : t.val % 16 = 0
  · rw [outsAt0_A m c t h]
    frame_out
    refine (cols1 _ _ _ i l).trans ?_
    rw [pay_u, ld_row _ 0 _ 0 rfl, ld_row _ 1 _ 1 rfl, ld_row _ 2 _ 2 rfl, bw_at, bw_at, bw_at, bx_at m c t i _ r hr]
    unfold ct
    exact congrArg₂ (HMul.hMul (α := EReal) (β := EReal))
      (three (bk_at m c t i l r 2 _ 2 rfl hr) (bk_at m c t i l r 1 _ 1 rfl hr) (bk_at m c t i l r 0 _ 0 rfl hr)) rfl
  · rw [outsAt0_B m c t h]
    frame_out
    refine (cols1 _ _ _ i l).trans ?_
    rw [pay_u, ld_row _ 0 _ 0 rfl, ld_row _ 1 _ 1 rfl, ld_row _ 2 _ 2 rfl, bw_at, bw_at, bw_at, bx_at m c t i _ r hr]
    unfold ct
    exact congrArg₂ (HMul.hMul (α := EReal) (β := EReal))
      (three (bk_at m c t i l r 2 _ 2 rfl hr) (bk_at m c t i l r 1 _ 1 rfl hr) (bk_at m c t i l r 0 _ 0 rfl hr)) rfl

theorem kv (hr : r.val = 512 * t.val + i.val) : (outsAt0 m c t.val t.isLt).1 (ix2 i ⟨1024 + l.val, by omega⟩)
    = ct (x0 m c) (x1 m c) (x3 m c) r l * (x0 m c (ix2 r ⟨512 + l.val, by omega⟩) : EReal) := by
  by_cases h : t.val % 16 = 0
  · rw [outsAt0_A m c t h]
    frame_out
    refine (cols2 _ _ _ i l).trans ?_
    rw [pay_v, ld_row _ 0 _ 0 rfl, ld_row _ 1 _ 1 rfl, ld_row _ 2 _ 2 rfl, bw_at, bw_at, bw_at, bx_at m c t i _ r hr]
    unfold ct
    exact congrArg₂ (HMul.hMul (α := EReal) (β := EReal))
      (three (bk_at m c t i l r 2 _ 2 rfl hr) (bk_at m c t i l r 1 _ 1 rfl hr) (bk_at m c t i l r 0 _ 0 rfl hr)) rfl
  · rw [outsAt0_B m c t h]
    frame_out
    refine (cols2 _ _ _ i l).trans ?_
    rw [pay_v, ld_row _ 0 _ 0 rfl, ld_row _ 1 _ 1 rfl, ld_row _ 2 _ 2 rfl, bw_at, bw_at, bw_at, bx_at m c t i _ r hr]
    unfold ct
    exact congrArg₂ (HMul.hMul (α := EReal) (β := EReal))
      (three (bk_at m c t i l r 2 _ 2 rfl hr) (bk_at m c t i l r 1 _ 1 rfl hr) (bk_at m c t i l r 0 _ 0 rfl hr)) rfl

end

/-! ## The reference -/

section
open Cert.ScBwdRefIdeal.Read
variable (a0 : FVec Ideal S8192x1536 .f32) (a1 : FVec Ideal S8192x512 .f32) (a2 : FVec Ideal S8192x8192 .bf16) (a3 : FVec Ideal S3x512 .f32)

theorem ref_p (r : Fin 8192) (l : Fin 512) : (val_main_v3 (F := Ideal) a0 (ix2 r l) : EReal) = sh a0 2 r l := by
  unfold sh
  rw [dif_pos (by show 2 ≤ r.val + 2; omega)]
  pointwise [val_main_v3, val_main_v1, val_main_v2, pr]
  rfl

theorem ref_s0 (r : Fin 8192) (l : Fin 512) : (val_main_v8 (F := Ideal) a0 (ix2 r l) : EReal) = sh a0 0 r l := by
  pointwise [val_main_v8, val_main_v7, val_main_v6, val_main_cst, val_main_v3, val_main_v1, val_main_v2]
  unfold sh pr
  by_cases h : r.val < 2
  · rw [dif_pos h, dif_neg (by show ¬ 2 ≤ r.val + 0; omega)]
  · rw [dif_neg h, dif_pos (by show 2 ≤ r.val + 0; omega)]
    rfl

theorem ref_s1 (r : Fin 8192) (l : Fin 512) : (val_main_v19 (F := Ideal) a0 (ix2 r l) : EReal) = sh a0 1 r l := by
  pointwise [val_main_v19, val_main_v18, val_main_v17, val_main_cst_2, val_main_v3, val_main_v1, val_main_v2]
  unfold sh pr
  have e : ∀ h h', (⟨r.val - 1, h⟩ : Fin 8192) = ⟨r.val + (1 : Fin 3).val - 2, h'⟩ := fun h h' => Fin.ext (by show r.val - 1 = r.val + 1 - 2; omega)
  by_cases h : r.val < 1
  · rw [dif_pos h, dif_neg (by show ¬ 2 ≤ r.val + 1; omega)]
  · rw [dif_neg h, dif_pos (by show 2 ≤ r.val + 1; omega), e]

theorem ref_f (r : Fin 8192) (l : Fin 512) : (val_main_v32 (F := Ideal) a0 a1 (ix2 r l) : EReal) = up a0 a1 0 r l := by
  unfold up
  rw [dif_pos (by exact r.isLt)]
  pointwise [val_main_v32, val_main_v0, fl]
  exact mul_comm (_ : EReal) _

theorem ref_w2 (l : Fin 512) : (val_main_v39 (F := Ideal) a0 a1 (ix1 l) : EReal) = ∑ r : Fin 8192, up a0 a1 0 r l * sh a0 2 r l := by
  pointwise [val_main_v39, val_main_v38, val_main_v37, val_main_v36, val_main_cst_4, val_main_cst_5]
  simp only [Fin.sum_univ_one, ref_f, ref_p]

theorem ref_w1 (l : Fin 512) : (val_main_v47 (F := Ideal) a0 a1 (ix1 l) : EReal) = ∑ r : Fin 8192, up a0 a1 0 r l * sh a0 1 r l := by
  pointwise [val_main_v47, val_main_v46, val_main_v45, val_main_v44, val_main_cst_7, val_main_cst_8]
  simp only [Fin.sum_univ_one, ref_f, ref_s1]

theorem ref_w0 (l : Fin 512) : (val_main_v60 (F := Ideal) a0 a1 (ix1 l) : EReal) = ∑ r : Fin 8192, up a0 a1 0 r l * sh a0 0 r l := by
  pointwise [val_main_v60, val_main_v59, val_main_v58, val_main_v57, val_main_cst_11, val_main_cst_12]
  simp only [Fin.sum_univ_one, ref_f, ref_s0]

theorem ref_w (k : Fin 3) (l : Fin 512) : (val_main_v67 (F := Ideal) a0 a1 (ix2 k l) : EReal) = ∑ r : Fin 8192, up a0 a1 0 r l * sh a0 k r l := by
  pointwise [val_main_v67, val_main_v54, val_main_v41, val_main_v53, val_main_v66, val_main_v40, val_main_v52, val_main_v65, val_main_cst_6, val_main_cst_10, val_main_cst_14]
  rw [ref_w0, ref_w1, ref_w2]
  fin_cases k <;> simp

theorem ref_q (r : Fin 8192) (l : Fin 512) : (val_main_v33 (F := Ideal) a0 a1 a3 (ix2 r l) : EReal) = a1 (ix2 r l) * cv a0 a3 r l := by
  pointwise [val_main_v33, val_main_v30, val_main_v29, val_main_v28, val_main_v27, val_main_v26, val_main_v25, val_main_v24, val_main_v23, val_main_v22, val_main_v21, val_main_v16, val_main_v15, val_main_v14, val_main_v13, val_main_v12, val_main_v11, val_main_v10, val_main_v5, val_main_v4, val_main_cst_1]
  rw [ref_p, ref_s0, ref_s1]
  unfold cv
  rw [mul_comm (a3 (ix2 0 l) : EReal), mul_comm (a3 (ix2 1 l) : EReal), mul_comm (a3 (ix2 2 l) : EReal)]

theorem ref_ct (r : Fin 8192) (l : Fin 512) : (val_main_v64 (F := Ideal) a0 a1 a3 (ix2 r l) : EReal) = ct a0 a1 a3 r l := by
  pointwise [val_main_v64, val_main_v51, val_main_v63, val_main_v62, val_main_v56, val_main_v55, val_main_v35, val_main_v34, val_main_v50, val_main_v49, val_main_v43, val_main_v42, val_main_v27, val_main_v21, val_main_v10, val_main_v26, val_main_v25, val_main_v16, val_main_v15, val_main_v5, val_main_v4, val_main_cst_9, val_main_cst_13]
  simp only [ref_f]
  unfold ct up
  have e0 : ∀ h, fl a0 a1 ⟨r.val + (0 : Fin 3).val, h⟩ l = fl a0 a1 r l := fun h => rfl
  have e1 : ∀ h h', fl a0 a1 ⟨1 + r.val + (0 : Fin 3).val, h⟩ l = fl a0 a1 ⟨r.val + (1 : Fin 3).val, h'⟩ l := fun h h' =>
    congrArg (fun q => fl a0 a1 q l) (Fin.ext (by show 1 + r.val + 0 = r.val + 1; omega))
  have e2 : ∀ h h', fl a0 a1 ⟨2 + r.val + (0 : Fin 3).val, h⟩ l = fl a0 a1 ⟨r.val + (2 : Fin 3).val, h'⟩ l := fun h h' =>
    congrArg (fun q => fl a0 a1 q l) (Fin.ext (by show 2 + r.val + 0 = r.val + 2; omega))
  rw [dif_pos (show r.val + (0 : Fin 3).val < 8192 from r.isLt)]
  refine (add_right_comm (_ : EReal) _ _).trans ?_
  refine ((add_assoc (_ : EReal) _ _).trans (add_comm (_ : EReal) _)).trans ?_
  refine congrArg₂ (HAdd.hAdd (α := EReal) (β := EReal)) (congrArg₂ (HAdd.hAdd (α := EReal) (β := EReal)) ?_ ?_) (mul_comm (_ : EReal) _)
  · by_cases h : r.val < 8190
    · have h2 : r.val + (2 : Fin 3).val < 8192 := by show r.val + 2 < 8192; omega
      have h0 : 2 + r.val + (0 : Fin 3).val < 8192 := by show 2 + r.val + 0 < 8192; omega
      rw [dif_pos h, dif_pos h2, dif_pos h0, ← e2 h0 h2]
      exact mul_comm (_ : EReal) _
    · rw [dif_neg h, dif_neg (by show ¬ r.val + 2 < 8192; omega), zero_mul]
  · by_cases h : r.val < 8191
    · have h2 : r.val + (1 : Fin 3).val < 8192 := by show r.val + 1 < 8192; omega
      have h0 : 1 + r.val + (0 : Fin 3).val < 8192 := by show 1 + r.val + 0 < 8192; omega
      rw [dif_pos h, dif_pos h2, dif_pos h0, ← e1 h0 h2]
      exact mul_comm (_ : EReal) _
    · rw [dif_neg h, dif_neg (by show ¬ r.val + 1 < 8192; omega), zero_mul]

theorem ref_x (r : Fin 8192) (l : Fin 8192) : (val_main_v74 (F := Ideal) a0 a1 a2 a3 (ix2 r l) : EReal)
    = if h : l.val < 3072 then a2 (ix2 r l) else if h : l.val - 3072 < 1536 then
        if h' : l.val - 3072 < 512 then (a1 (ix2 r ⟨l.val - 3072, h'⟩) : EReal) * cv a0 a3 r ⟨l.val - 3072, h'⟩
        else if h2 : l.val - 3072 - 512 < 512 then ct a0 a1 a3 r ⟨l.val - 3072 - 512, h2⟩ * (a0 (ix2 r ⟨1024 + (l.val - 3072 - 512), by omega⟩) : EReal)
        else ct a0 a1 a3 r ⟨l.val - 3072 - 512 - 512, by omega⟩ * (a0 (ix2 r ⟨512 + (l.val - 3072 - 512 - 512), by omega⟩) : EReal)
      else a2 (ix2 r l) := by
  pointwise [val_main_v74, val_main_v71, val_main_v72, val_main_v73, val_main_v70, val_main_v68, val_main_v69, val_main_v1, val_main_v2]
  simp only [ref_q, ref_ct]
  split
  · rfl
  · split
    · split
      · rfl
      · split
        · rfl
        · exact mul_comm (_ : EReal) _
    · exact congrArg (fun q : Fin 8192 => a2 (ix2 r q)) (Fin.ext (by simp only []; omega))

end

theorem final_w : (dats m 0 c).arrAt 7 (cfgs 0).N = Cert.ScBwdRefIdeal.Read.val_main_v67 (F := Ideal) (x0 m c) (x1 m c) := by
  refine (dats m 0 c).arrAt_eq_of_covers 7 _ (by decide +kernel) fun t hf' y => ?_
  have h15 := (flush0_7 t).mp hf'
  blk_simp
  rw [after0_7]
  idx_vars y
  rw [show ((View.whole main_v5_1).slice (win0_7.rect t)).emb (ix2 y0 y1) = (ix2 y0 y1 : S3x512.Idx) from by blk_ext [idx t], ref_w,
    acc_w m c t h15]
  have ht : t.val < 16 := lt_of_lt_of_eq t.isLt N_0
  unfold part
  refine Fin.sum_mul_add_congr fun s k hl => ?_
  have e : ∀ h, (⟨512 * (16 * (t.val / 16) + s.val) + k.val, h⟩ : Fin 8192) = ⟨s.val * 512 + k.val, hl⟩ := fun h =>
    Fin.ext (by simp only []; omega)
  simp only [e]
  rfl

theorem final_x : (dats m 0 c).arrAt 6 (cfgs 0).N = Cert.ScBwdRefIdeal.Read.val_main_v74 (F := Ideal) (x0 m c) (x1 m c) (x2 m c) (x3 m c) := by
  funext y
  idx_vars y
  rw [ref_x]
  by_cases hy : 3072 ≤ y1.val ∧ y1.val < 4608
  · rw [dif_neg (by omega), dif_pos (by omega)]
    have hN : y0.val / 512 < cfg0.N := by rw [show cfg0.N = 16 from N_0]; omega
    have hf : ∀ t, (cfg0.win 6).flush t = true := by decide +kernel
    obtain ⟨t, ht⟩ : ∃ t : Fin cfg0.N, t = ⟨y0.val / 512, hN⟩ := ⟨_, rfl⟩
    have hr : y0.val = 512 * t.val + (⟨y0.val % 512, by omega⟩ : Fin 512).val := by rw [ht]; simp only []; omega
    have hx : ∀ t a, win0_6.xsize (grid0.coords t) a = ![512, 1536] a := by decide +kernel
    have e := congrFun (Cert.ScBwdIdeal.Value.blocks6 m c t (hf t))
      (fun a => ⟨((ix2 ⟨y0.val % 512, by omega⟩ ⟨y1.val - 3072, by omega⟩ : S512x1536.Idx) a).val, by
        show _ < win0_6.xsize (grid0.coords t) a
        rw [hx]; exact ((ix2 _ _ : S512x1536.Idx) a).isLt⟩)
    rw [Cert.ScBwdIdeal.Value.flushed6] at e
    blk_simp at e
    rw [show (win0_6.blk t).view.emb _ = (ix2 y0 y1 : S8192x8192.Idx) from by blk_ext [idx t]] at e
    refine e.trans ?_
    by_cases h1 : y1.val - 3072 < 512
    · rw [dif_pos h1]
      exact kq m c t ⟨y0.val % 512, by omega⟩ ⟨y1.val - 3072, h1⟩ y0 hr
    · rw [dif_neg h1]
      by_cases h2 : y1.val - 3072 - 512 < 512
      · rw [dif_pos h2, ← ku m c t ⟨y0.val % 512, by omega⟩ ⟨y1.val - 3072 - 512, h2⟩ y0 hr]
        exact congrArg (fun q : Fin 1536 => (outsAt0 m c t.val t.isLt).1 (ix2 _ q : S512x1536.Idx)) (Fin.ext (by simp only []; omega))
      · rw [dif_neg h2, ← kv m c t ⟨y0.val % 512, by omega⟩ ⟨y1.val - 3072 - 512 - 512, by omega⟩ y0 hr]
        exact congrArg (fun q : Fin 1536 => (outsAt0 m c t.val t.isLt).1 (ix2 _ q : S512x1536.Idx)) (Fin.ext (by simp only []; omega))
  · refine (Cert.ScBwdIdeal.Value.entry6 m c (ix2 y0 y1) fun t hf => ?_).trans ?_
    · mem_blk [idx t]
      rintro ⟨-, h1, h2⟩
      exact hy ⟨h1, h2⟩
    · refine (congrFun (V_z m c) (ix2 y0 y1)).trans ?_
      by_cases h1 : y1.val < 3072
      · rw [dif_pos h1]
      · rw [dif_neg h1, dif_neg (by omega)]

/-- The reference runs to its end and leaves its arguments alone. -/
theorem frame_ref : Cert.quiescent_ScBwdRefIdeal := fun m g _ =>
  (θ_run Cert.ScBwdRefIdeal.defs _ _).mono (fun r h => ⟨fun c => (h c).2.2, sem_eq_zero_of_no_sems (by decide) r.2⟩)
    (Cert.ScBwdRefIdeal.Value.run m g)

theorem ref_congr {a0 b0 a1 b1 a2 b2 a3 b3} (h0 : a0 = b0) (h1 : a1 = b1) (h2 : a2 = b2) (h3 : a3 = b3) :
    Cert.ScBwdRefIdeal.Read.val_main_v74 (F := Ideal) a0 a1 a2 a3 = Cert.ScBwdRefIdeal.Read.val_main_v74 b0 b1 b2 b3
      ∧ Cert.ScBwdRefIdeal.Read.val_main_v67 (F := Ideal) a0 a1 = Cert.ScBwdRefIdeal.Read.val_main_v67 b0 b1 := by
  subst h0 h1 h2 h3; exact ⟨rfl, rfl⟩

/-- Over the reals the call's two results are the reference's. -/
theorem algebraic : Cert.algebraic_ScBwdIdeal_ScBwdRefIdeal := by
  intro m g m' g' hpre hagree
  refine ⟨fun c => Cert.ScBwdRefIdeal.Read.val_main_v74 (F := Ideal) (x0 m c) (x1 m c) (x2 m c) (x3 m c),
    fun c => Cert.ScBwdRefIdeal.Read.val_main_v67 (F := Ideal) (x0 m c) (x1 m c), ?_, ?_⟩
  · refine (θ_run Cert.ScBwdIdeal.defs _ _).mono (fun r h c => ?_) (Cert.ScBwdIdeal.Value.run_blocks m g)
    exact ⟨(h c).1.trans (final_x m c), (h c).2.1.trans (final_w m c), (h c).2.2⟩
  · refine (θ_run Cert.ScBwdRefIdeal.defs _ _).mono (fun r h c => ?_) (Cert.ScBwdRefIdeal.Value.run m' g')
    obtain ⟨e0, e1, e2, e3⟩ := hagree c
    obtain ⟨c0, c1⟩ := ref_congr e0 e1 e2 e3
    obtain ⟨r0, r1, hr⟩ := h c
    exact ⟨(r0.trans (Cert.ScBwdRefIdeal.Read.val_main_v74_eq m' c)).trans c0, (r1.trans (Cert.ScBwdRefIdeal.Read.val_main_v67_eq _ _)).trans c1, hr⟩

end Cert.ScBwdIdeal.Final
-- ==== Proof.AdaDw.lean ====
module

public import proofs.«01_k».proof.Defs
public import proofs.«01_k».proof.Proof.Gen.AdaDw.Frame
public import proofs.«01_k».proof.Proof.Gen.AdaDwIdeal.Frame
public import proofs.«01_k».proof.Proof.Gen.AdaDwRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradient of the modulation weights: the chip's columns of the outer sum over the batch. -/

namespace Cert.AdaDw.Final

open Cert.AdaDw Cert.AdaDw.Gen

variable {F : FTy → Type} [FloatOps F] (m : (ℓ : Loc nD τ sig) → Buf (Elt F) ℓ)

/-- The prefetched table holds chip 0. -/
theorem table : tbl m 0 = fun _ => (0#32 : BitVec 32) := by
  show StableHlo.after hostOps0 _ (Proc.devRef .tc main_v2) = _
  unfold hostOps0
  after_results
  rfl

theorem block (i : grid0.Coords) : cc0_transform_1 (F := F) inb_S1_S1_0 numel1_S1 (tbl m) i = ![4 * (i 0).val, 0, 0] := by
  have h : (tbl m).at 0 (Rect.unit (s := S1) ![0] S1.size inb_S1_S1_0) numel1_S1 = 0#32 :=
    congrFun (table m) _
  show ![(Scalar.addi (Scalar.muli 4#32 (BitVec.ofNat 32 (i 0).val)) ((tbl m).at 0 (Rect.unit (s := S1) ![0] S1.size inb_S1_S1_0) numel1_S1)).toNat, _, _] = _
  rw [h]
  generalize i 0 = k
  revert k
  decide +kernel

theorem ok : Ok m := by
  intro i
  refine ⟨?_, Or.inl rfl⟩
  rw [block m i]
  generalize i 0 = k
  revert k
  decide +kernel

theorem frame : Cert.quiescent_AdaDw := fun m g _ => Gen.frame m g (ok m)

end Cert.AdaDw.Final

namespace Cert.AdaDwIdeal.Final

open Cert.AdaDwIdeal Cert.AdaDwIdeal.Gen

section
variable {F : FTy → Type} [FloatOps F] (m : (ℓ : Loc nD τ sig) → Buf (Elt F) ℓ)

/-- The prefetched table holds chip 0. -/
theorem table : tbl m 0 = fun _ => (0#32 : BitVec 32) := by
  show StableHlo.after hostOps0 _ (Proc.devRef .tc main_v2) = _
  unfold hostOps0
  after_results
  rfl

theorem block (i : grid0.Coords) : cc0_transform_1 (F := F) inb_S1_S1_0 numel1_S1 (tbl m) i = ![4 * (i 0).val, 0, 0] := by
  have h : (tbl m).at 0 (Rect.unit (s := S1) ![0] S1.size inb_S1_S1_0) numel1_S1 = 0#32 :=
    congrFun (table m) _
  show ![(Scalar.addi (Scalar.muli 4#32 (BitVec.ofNat 32 (i 0).val)) ((tbl m).at 0 (Rect.unit (s := S1) ![0] S1.size inb_S1_S1_0) numel1_S1)).toNat, _, _] = _
  rw [h]
  generalize i 0 = k
  revert k
  decide +kernel

theorem ok : Ok m := by
  intro i
  refine ⟨?_, Or.inl rfl⟩
  rw [block m i]
  generalize i 0 = k
  revert k
  decide +kernel

end

variable (m : (ℓ : Loc nD τ sig) → Buf (Elt Ideal) ℓ) (c : Dev nD)

abbrev x0 : FVec Ideal S8x1024 .f32 := m (c.tc.loc main_arg0)
abbrev x1 : FVec Ideal S8x12288 .f32 := m (c.tc.loc main_arg1)

theorem V_v1 : V m c main_v1 = transpose S16x8x768 [1, 0, 2] (shapeCast S8x16x768 (x1 m c) shapeCasts_S8x12288_S8x16x768) transposes_S8x16x768_S16x8x768_1_0_2 := by
  show StableHlo.after hostOps0 _ (Proc.devRef .tc main_v1) = _
  unfold hostOps0
  after_results
  rfl

theorem coord : ∀ t : Fin grid0.N, (grid0.coords t 0).val = t.val := by decide +kernel

theorem idx0 (t : Fin (cfgM m (ok m)).N) : (win0 (adm m (ok m)) 0).index t = ![0, 0] := rfl

theorem idx1 (t : Fin (cfgM m (ok m)).N) : (win0 (adm m (ok m)) 1).index t = ![4 * t.val, 0, 0] :=
  (block m (grid0.coords t)).trans (by rw [coord t])

theorem idx2 (t : Fin (cfgM m (ok m)).N) : (win0 (adm m (ok m)) 2).index t = ![t.val, 0, 0] :=
  (by decide +kernel : ∀ t : Fin grid0.N, cc0_transform_2 (grid0.coords t) = ![t.val, 0, 0]) t

theorem pay (A : FVec Ideal S8x1024 .f32) (B : FVec Ideal S1x8x768 .f32) (y : S1x1024x768.Idx) :
    (k0_pay1 (F := Ideal) A B y : EReal) = ∑ k : Fin 8, (A (ix2 k (y 1)) : EReal) * B (ix3 0 k (y 2)) := by
  idx_vars y
  pointwise [k0_pay1]

theorem blk0 (t : Fin (cfgM m (ok m)).N) (k : Fin 8) (i : Fin 1024) :
    (iblk m (ok m) c 0 t : FVec Ideal S8x1024 .f32) (ix2 k i) = x0 m c (ix2 k i) := by
  show V m c main_arg0 (((win0 (adm m (ok m)) 0).blk t).view.emb (ix2 k i)) = _
  rw [V_main_arg0]
  refine congrArg (x0 m c) ?_
  blk_ext [idx0 m t]

theorem blk1 (t : Fin (cfgM m (ok m)).N) (k : Fin 8) (j : Fin 768) (h : 4 * t.val < 16) :
    (iblk m (ok m) c 1 t : FVec Ideal S1x8x768 .f32) (ix3 0 k j) = V m c main_v1 (ix3 ⟨4 * t.val, h⟩ k j) := by
  show V m c main_v1 (((win0 (adm m (ok m)) 1).blk t).view.emb (ix3 0 k j)) = _
  refine congrArg (V m c main_v1) ?_
  blk_ext [idx1 m t]

theorem emb2 (t : Fin (cfgM m (ok m)).N) (i : Fin 1024) (j : Fin 768) (h : t.val < 4) :
    ((win0 (adm m (ok m)) 2).blk t).view.emb (ix3 0 i j) = ix3 ⟨t.val, h⟩ i j := by
  blk_ext [idx2 m t]

theorem out (t : Fin (cfgM m (ok m)).N) (i : Fin 1024) (j : Fin 768) (h : 4 * t.val < 16) :
    (outsAt0 m (ok m) c t (ix3 0 i j) : EReal) = ∑ k : Fin 8, (x0 m c (ix2 k i) : EReal) * V m c main_v1 (ix3 ⟨4 * t.val, h⟩ k j) := by
  unfold outsAt0
  frame_out
  refine (pay _ _ _).trans (Finset.sum_congr rfl fun k _ => congrArg₂ (· * ·) ?_ ?_)
  · exact (congrFun ((hs0_0 m (ok m) t).read_unread _) _).trans (blk0 m c t k i)
  · exact (congrFun ((hs0_1 m (ok m) t).read_unread _) _).trans (blk1 m c t k j h)

theorem arr (k : Fin 8) (j : Fin 768) (q : Fin 4) : V m c main_v1 (ix3 ⟨4 * q.val, by omega⟩ k j) = x1 m c (ix2 k ⟨3072 * q.val + j.val, by omega⟩) := by
  rw [V_v1]
  pointwise []
  refine congrArg (x1 m c) (congrArg (ix2 k) (Fin.ext ?_))
  show 4 * q.val * 768 + j.val = 3072 * q.val + j.val
  omega

theorem ref (a0 : FVec Ideal S8x1024 .f32) (a1 : FVec Ideal S8x12288 .f32) (q : Fin 4) (i : Fin 1024) (j : Fin 768) :
    (Cert.AdaDwRefIdeal.Read.val_main_v22 (F := Ideal) a0 a1 (ix3 q i j) : EReal) = ∑ k : Fin 8, (a0 (ix2 k i) : EReal) * a1 (ix2 k ⟨3072 * q.val + j.val, by omega⟩) := by
  pointwise [Cert.AdaDwRefIdeal.Read.val_main_v22, Cert.AdaDwRefIdeal.Read.val_main_v21]
  fin_vals q with hq
  all_goals
    simp only [hq, Nat.reduceSub, Nat.reduceLT, ↓reduceDIte]
    pointwise [Cert.AdaDwRefIdeal.Read.val_main_v17, Cert.AdaDwRefIdeal.Read.val_main_v18, Cert.AdaDwRefIdeal.Read.val_main_v19, Cert.AdaDwRefIdeal.Read.val_main_v20, Cert.AdaDwRefIdeal.Read.val_main_v7, Cert.AdaDwRefIdeal.Read.val_main_v10, Cert.AdaDwRefIdeal.Read.val_main_v13, Cert.AdaDwRefIdeal.Read.val_main_v16, Cert.AdaDwRefIdeal.Read.val_main_v6, Cert.AdaDwRefIdeal.Read.val_main_v9, Cert.AdaDwRefIdeal.Read.val_main_v12, Cert.AdaDwRefIdeal.Read.val_main_v15, Cert.AdaDwRefIdeal.Read.val_main_v1, Cert.AdaDwRefIdeal.Read.val_main_v2, Cert.AdaDwRefIdeal.Read.val_main_v3, Cert.AdaDwRefIdeal.Read.val_main_v4]
  all_goals exact Finset.sum_congr rfl fun x _ => mul_comm _ _

theorem point (t : Fin (cfgM m (ok m)).N) (y : S1x1024x768.Idx) :
    outsAt0 m (ok m) c t y = Cert.AdaDwRefIdeal.Read.val_main_v22 (F := Ideal) (x0 m c) (x1 m c) (((win0 (adm m (ok m)) 2).blk t).view.emb y) := by
  have ht : t.val < 4 := lt_of_lt_of_eq t.isLt N_0
  idx_vars y
  obtain rfl : y0 = 0 := Subsingleton.elim _ _
  refine ((out m c t y1 y2 (by omega)).trans (Finset.sum_congr rfl fun k _ => congrArg _ (arr m c k y2 ⟨t.val, ht⟩))).trans ?_
  exact (ref _ _ ⟨t.val, ht⟩ y1 y2).symm.trans (congrArg (Cert.AdaDwRefIdeal.Read.val_main_v22 (F := Ideal) (x0 m c) (x1 m c)) (emb2 m t y1 y2 ht).symm)

theorem covers : ((cfgM m (ok m)).win 2).Covers := by
  refine ⟨fun a => ?_, fun β => ⟨⟨(β (0 : Fin 3)).val, ?_⟩, flush0_2 _ _, fun a => ⟨?_, Or.inl rfl⟩⟩⟩
  · exact (by decide : ∀ a, 0 < S1x1024x768.size a) a
  · have h := (β (0 : Fin 3)).isLt
    have h4 : ((cfgM m (ok m)).win 2).nblk (0 : Fin 3) = 4 := by
      show (S4x1024x768.size 0 + S1x1024x768.size 0 - 1) / S1x1024x768.size 0 = 4
      decide
    have hN := N_0
    exact lt_of_lt_of_eq (h4 ▸ h) hN.symm
  · refine (congrFun (idx2 m _) a).trans ?_
    have h := (β a).isLt
    match a with
    | ⟨0, _⟩ => rfl
    | ⟨1, _⟩ => exact (Nat.lt_one_iff.mp (lt_of_lt_of_eq h (show (S4x1024x768.size 1 + S1x1024x768.size 1 - 1) / S1x1024x768.size 1 = 1 by decide))).symm
    | ⟨2, _⟩ => exact (Nat.lt_one_iff.mp (lt_of_lt_of_eq h (show (S4x1024x768.size 2 + S1x1024x768.size 2 - 1) / S1x1024x768.size 2 = 1 by decide))).symm

theorem final : (dats m (ok m) 0 c).arrAt 2 (cfgM m (ok m)).N = Cert.AdaDwRefIdeal.Read.val_main_v22 (F := Ideal) (x0 m c) (x1 m c) := by
  refine (dats m (ok m) 0 c).arrAt_eq_of_covers 2 _ (covers m) fun t hf y => ?_
  blk_simp
  rw [after0_2]
  exact point m c t y

theorem ref_congr {a0 b0 a1 b1} (h0 : a0 = b0) (h1 : a1 = b1) :
    Cert.AdaDwRefIdeal.Read.val_main_v22 (F := Ideal) a0 a1 = Cert.AdaDwRefIdeal.Read.val_main_v22 b0 b1 := by
  subst h0 h1; rfl

theorem frame : Cert.quiescent_AdaDwIdeal := fun m g _ => Gen.frame m g (ok m)

/-- The reference runs to its end and leaves its arguments alone. -/
theorem frame_ref : Cert.quiescent_AdaDwRefIdeal := fun m g _ =>
  (θ_run Cert.AdaDwRefIdeal.defs _ _).mono (fun r h => ⟨fun c => (h c).2, sem_eq_zero_of_no_sems (by decide) r.2⟩)
    (Cert.AdaDwRefIdeal.Value.run m g)

/-- Over the reals the call's result is the reference's. -/
theorem algebraic : Cert.algebraic_AdaDwIdeal_AdaDwRefIdeal := by
  intro m g m' g' _ hagree
  refine ⟨fun c => Cert.AdaDwRefIdeal.Read.val_main_v22 (F := Ideal) (x0 m c) (x1 m c), ?_, ?_⟩
  · refine (θ_run Cert.AdaDwIdeal.defs _ _).mono (fun r h c => ?_) (θ_run_and (run_main m g (ok m)) (unchanged m g (ok m)))
    exact ⟨((h.1 c).1 2).trans (final m c), h.2 c⟩
  · refine (θ_run Cert.AdaDwRefIdeal.defs _ _).mono (fun r h c => ?_) (Cert.AdaDwRefIdeal.Value.run m' g')
    obtain ⟨e0, e1⟩ := hagree c
    exact ⟨((h c).1.trans (Cert.AdaDwRefIdeal.Read.val_main_v22_eq _ _)).trans (ref_congr e0 e1), (h c).2⟩

end Cert.AdaDwIdeal.Final
-- ==== Proof.ConfBwdIdealBody.lean ====
module

public import proofs.«01_k».proof.Proof.Gen.ConfBwdIdeal.Skeleton
public import proofs.«01_k».proof.Proof.Gen.ConfBwdIdeal.Loops
public import proofs.«01_k».proof.Proof.Gen.ConfBwdIdeal.Launch
public import proofs.«01_k».proof.Proof.Gen.ConfBwdIdeal.Points
public import proofs.«01_k».proof.Proof.Gen.ConfBwdIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! One point of the gradient call of the convolution branch, run on any staging buffers: what its body leaves of the three row sums.
The first point (`A`) clears them, the others (`B`) add to what they find. The other outputs and the scratch are left with some contents. -/

namespace Cert.ConfBwdIdeal.Run

open Cert.ConfBwdIdeal Cert.ConfBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

abbrev VO0_11 : View sig .tc .vmem S1x512 .f32 := (Memref.whole cc0_stg11_0 : Memref sig .tc .vmem S1x512 .f32).view
abbrev VO0_12 : View sig .tc .vmem S1x512 .f32 := (Memref.whole cc0_stg12_0 : Memref sig .tc .vmem S1x512 .f32).view
abbrev VO0_13 : View sig .tc .vmem S1x512 .f32 := (Memref.whole cc0_stg13_0 : Memref sig .tc .vmem S1x512 .f32).view
abbrev ms0_0 (t : Fin cfg0.N) : Memref sig .tc .vmem S32x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S31x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S31x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512 .f32 := win0_13.stage (cfg0.slots t 13)
abbrev hs0_13 (t : Fin cfg0.N) : (ms0_13 t).IsWhole := hstage0_13 ((cfg0.slots t 13).cast nbuf0_13)
abbrev scM0_0 : Memref sig .tc .vmem S544x512 .f32 := Memref.whole cc0_scratch0
abbrev scM0_1 : Memref sig .tc .vmem S544x512 .f32 := Memref.whole cc0_scratch1
abbrev scM0_2 : Memref sig .tc .vmem S7x544x512 .f32 := Memref.whole cc0_scratch2
abbrev scM0_3 : Memref sig .tc .vmem S31x8x512 .f32 := Memref.whole cc0_scratch3

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

section
variable (c : Dev nD) (i : grid0.Coords) (arg1 : Memref sig .tc .vmem S32x1024 .bf16) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S32x512 .bf16) (harg4 : arg4.IsWhole) (arg5 : Memref sig .tc .vmem S512x512 .bf16) (harg5 : arg5.IsWhole) (arg6 : Memref sig .tc .vmem S32x512 .bf16) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg11 : Memref sig .tc .vmem S512x1024 .bf16) (harg11 : arg11.IsWhole) (arg12 : Memref sig .tc .vmem S31x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S544x512 .f32) (harg16 : arg16.IsWhole) (arg17 : Memref sig .tc .vmem S544x512 .f32) (harg17 : arg17.IsWhole) (arg18 : Memref sig .tc .vmem S7x544x512 .f32) (harg18 : arg18.IsWhole) (arg19 : Memref sig .tc .vmem S31x8x512 .f32) (harg19 : arg19.IsWhole)

set_option maxHeartbeats 1824000 in
noncomputable def kernelRun0_A (hc0 : cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) :
    Σ' (L11 : List (View.Piece (Elt F) S1x512 .f32)), Σ' (L12 : List (View.Piece (Elt F) S1x512 .f32)), { L13 : List (View.Piece (Elt F) S1x512 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_conf_bwd i arg1 harg1 arg2 harg2 arg3 harg3 arg4 harg4 arg5 harg5 arg6 harg6 arg7 harg7 arg8 harg8 arg9 harg9 (Memref.whole main_arg6) (Memref.isWhole_whole _) arg11 harg11 arg12 harg12 arg13 harg13 arg14 harg14 arg15 harg15 arg16 harg16 arg17 harg17 arg18 harg18 arg19 harg19) K } := by
  refine ⟨?_, ?_, ?_, fun E K => ?run⟩
  case run =>
    simp only [cc0_conf_bwd_eq_skeleton]; unfold cc0_conf_bwd_skel
    simp only [k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]; · iexists _; iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

set_option maxHeartbeats 1792000 in
noncomputable def kernelRun0_B (hc0 : ¬cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (xo11 : Vec F S1x512 .f32) (xo12 : Vec F S1x512 .f32) (xo13 : Vec F S1x512 .f32) :
    Σ' (L11 : List (View.Piece (Elt F) S1x512 .f32)), Σ' (L12 : List (View.Piece (Elt F) S1x512 .f32)), { L13 : List (View.Piece (Elt F) S1x512 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg11 fullShare d) ∗ (∃ d, owns (c : Thread nD τ) arg12 fullShare d) ∗ owns (c : Thread nD τ) arg13 fullShare xo11 ∗ owns (c : Thread nD τ) arg14 fullShare xo12 ∗ owns (c : Thread nD τ) arg15 fullShare xo13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_conf_bwd i arg1 harg1 arg2 harg2 arg3 harg3 arg4 harg4 arg5 harg5 arg6 harg6 arg7 harg7 arg8 harg8 arg9 harg9 (Memref.whole main_arg6) (Memref.isWhole_whole _) arg11 harg11 arg12 harg12 arg13 harg13 arg14 harg14 arg15 harg15 arg16 harg16 arg17 harg17 arg18 harg18 arg19 harg19) K } := by
  refine ⟨?_, ?_, ?_, fun E K => ?run⟩
  case run =>
    simp only [cc0_conf_bwd_eq_skeleton]; unfold cc0_conf_bwd_skel
    simp only [k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf11; obtain rfl := harg14.eq_unread hf12; obtain rfl := harg15.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]; · iexists _; iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end

end Cert.ConfBwdIdeal.Run

end
-- ==== Proof.ConfBwdIdealRun.lean ====
module

public import proofs.«01_k».proof.Proof.Gen.ConfBwdIdeal.Skeleton
public import proofs.«01_k».proof.Proof.Gen.ConfBwdIdeal.Loops
public import proofs.«01_k».proof.Proof.Gen.ConfBwdIdeal.Launch
public import proofs.«01_k».proof.Proof.Gen.ConfBwdIdeal.Points
public import proofs.«01_k».proof.Proof.Gen.ConfBwdIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.ConfBwdIdealBody

@[expose] public section

set_option maxRecDepth 16384

noncomputable section

/-! What the three row sums hold after each point, and the run of the whole call. -/

namespace Cert.ConfBwdIdeal.Run

open Cert.ConfBwdIdeal Cert.ConfBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (c : Dev nD) (i : grid0.Coords) (arg1 : Memref sig .tc .vmem S32x1024 .bf16) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S32x512 .bf16) (harg4 : arg4.IsWhole) (arg5 : Memref sig .tc .vmem S512x512 .bf16) (harg5 : arg5.IsWhole) (arg6 : Memref sig .tc .vmem S32x512 .bf16) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg11 : Memref sig .tc .vmem S512x1024 .bf16) (harg11 : arg11.IsWhole) (arg12 : Memref sig .tc .vmem S31x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S544x512 .f32) (harg16 : arg16.IsWhole) (arg17 : Memref sig .tc .vmem S544x512 .f32) (harg17 : arg17.IsWhole) (arg18 : Memref sig .tc .vmem S7x544x512 .f32) (harg18 : arg18.IsWhole) (arg19 : Memref sig .tc .vmem S31x8x512 .f32) (harg19 : arg19.IsWhole)
theorem cover0_A_11 (hc0 : cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (y : S1x512.Idx) :
    ∃ pc ∈ (kernelRun0_A c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8).1 S1x512.size (by sl_kernel_rfl) y

def out0_A_11 (hc0 : cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) : Vec F S1x512 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8).1)

theorem cover0_A_12 (hc0 : cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (y : S1x512.Idx) :
    ∃ pc ∈ (kernelRun0_A c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8).2.1 S1x512.size (by sl_kernel_rfl) y

def out0_A_12 (hc0 : cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) : Vec F S1x512 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8).2.1)

theorem cover0_A_13 (hc0 : cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (y : S1x512.Idx) :
    ∃ pc ∈ (kernelRun0_A c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8).2.2.1 S1x512.size (by sl_kernel_rfl) y

def out0_A_13 (hc0 : cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) : Vec F S1x512 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8).2.2.1)

theorem cover0_B_11 (hc0 : ¬cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (xo11 : Vec F S1x512 .f32) (xo12 : Vec F S1x512 .f32) (xo13 : Vec F S1x512 .f32) (y : S1x512.Idx) :
    ∃ pc ∈ (kernelRun0_B c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8 xo11 xo12 xo13).1, y ∈ pc.1.set :=
  View.cover_of_tiledL (kernelRun0_B c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8 xo11 xo12 xo13).1 S1x512.size (by sl_kernel_rfl) y

def out0_B_11 (hc0 : ¬cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (xo11 : Vec F S1x512 .f32) (xo12 : Vec F S1x512 .f32) (xo13 : Vec F S1x512 .f32) : Vec F S1x512 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8 xo11 xo12 xo13).1)

theorem cover0_B_12 (hc0 : ¬cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (xo11 : Vec F S1x512 .f32) (xo12 : Vec F S1x512 .f32) (xo13 : Vec F S1x512 .f32) (y : S1x512.Idx) :
    ∃ pc ∈ (kernelRun0_B c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8 xo11 xo12 xo13).2.1, y ∈ pc.1.set :=
  View.cover_of_tiledL (kernelRun0_B c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8 xo11 xo12 xo13).2.1 S1x512.size (by sl_kernel_rfl) y

def out0_B_12 (hc0 : ¬cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (xo11 : Vec F S1x512 .f32) (xo12 : Vec F S1x512 .f32) (xo13 : Vec F S1x512 .f32) : Vec F S1x512 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8 xo11 xo12 xo13).2.1)

theorem cover0_B_13 (hc0 : ¬cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (xo11 : Vec F S1x512 .f32) (xo12 : Vec F S1x512 .f32) (xo13 : Vec F S1x512 .f32) (y : S1x512.Idx) :
    ∃ pc ∈ (kernelRun0_B c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8 xo11 xo12 xo13).2.2.1, y ∈ pc.1.set :=
  View.cover_of_tiledL (kernelRun0_B c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8 xo11 xo12 xo13).2.2.1 S1x512.size (by sl_kernel_rfl) y

def out0_B_13 (hc0 : ¬cond0_0 i)
    (x0 : Vec F S32x1024 .bf16) (x1 : Vec F S512x1024 .bf16) (x2 : Vec F S512x512 .bf16) (x3 : Vec F S32x512 .bf16) (x4 : Vec F S512x512 .bf16) (x5 : Vec F S32x512 .bf16) (x6 : Vec F S31x512 .f32) (x7 : Vec F S1x512 .f32) (x8 : Vec F S1x512 .f32) (xo11 : Vec F S1x512 .f32) (xo12 : Vec F S1x512 .f32) (xo13 : Vec F S1x512 .f32) : Vec F S1x512 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 hc0 x0 x1 x2 x3 x4 x5 x6 x7 x8 xo11 xo12 xo13).2.2.1)

end

variable (m : (ℓ : Loc nD τ sig) → Buf (Elt F) ℓ) (ρ : Dev nD → PrngReg)

/-! ## What the outputs hold after each point -/

def outsAt0 (c : Dev nD) : (n : ℕ) → n < cfg0.N → Vec F S1x512 .f32 × Vec F S1x512 .f32 × Vec F S1x512 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 16 = 0 then
      (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2.1 (outsAt0 c n (Nat.lt_of_succ_lt hn)).2.2)

theorem outsAt0_A (c : Dev nD) (t : Fin cfg0.N) (h0 : t.val % 16 = 0) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

def forgets0 : Fin 14 → Bool := fun w => w.val == 9 || w.val == 10
theorem forgets0_11 : forgets0 (11 : Fin 14) = false := by decide
theorem forgets0_12 : forgets0 (12 : Fin 14) = false := by decide
theorem forgets0_13 : forgets0 (13 : Fin 14) = false := by decide

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, _⟩ => (outsAt0 m c t.val t.isLt).1
    | ⟨12, _⟩ => (outsAt0 m c t.val t.isLt).2.1
    | ⟨13, _⟩ => (outsAt0 m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_11_B (c : Dev nD) (t : Fin cfg0.N) (h0 : ¬t.val % 16 = 0) (d) :
    (dats m 0 c).before 11 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]
theorem before0_12_B (c : Dev nD) (t : Fin cfg0.N) (h0 : ¬t.val % 16 = 0) (d) :
    (dats m 0 c).before 12 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
theorem before0_13_B (c : Dev nD) (t : Fin cfg0.N) (h0 : ¬t.val % 16 = 0) (d) :
    (dats m 0 c).before 13 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation, at a generic point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_11, after0_12, after0_13]
  rw [show (dats m 0 c).Φ t.castSucc = Pipeline.ΦA spec0 c from rfl, PhiA0_eq]
  have hN : t.val < 16 := lt_of_lt_of_eq t.isLt (show cfg0.N = 16 from N_0)
  by_cases h0 : t.val % 16 = 0
  · rw [outsAt0_A m c t h0]
    unfold out0_A_11 out0_A_12 out0_A_13; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, ⟨%e11, H11⟩, ⟨%e12, H12⟩, ⟨%e13, H13⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _)
    unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _)
  · rw [outsAt0_B m c t h0]
    simp only [before0_11_B m c t h0, before0_12_B m c t h0, before0_13_B m c t h0]
    unfold out0_B_11 out0_B_12 out0_B_13; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    iintro ⟨H0, H1, H2, H3, H4, H5, H6, H7, H8, H9, H10, ⟨%e11, H11⟩, ⟨%e12, H12⟩, ⟨%e13, H13⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H13
    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 1 rfl).trans ((hA c 1).trans (V_main_arg5 m c)),
      ((h c).2 main_arg6 (Pipeline.mem_restRefs_of main_arg6 (by decide) (by decide))).trans (V_main_arg6 m c),
      (Pipeline.RDat.FramePost.arr_in h c 6 rfl).trans ((hA c 6).trans (V_main_arg7 m c))⟩) h

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rel m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ConfBwdIdeal.Run

end
-- ==== Proof.ConfRows.lean ====
module

public import proofs.«01_k».proof.Proof.Rows

/-! One row of the conformer branch behind its convolution, over the reals: the layer norm, its activation and their derivatives. -/

@[expose] public section

set_option maxRecDepth 16384

noncomputable section

open Cert.Reals

namespace Cert.ConfRows

variable (u a g be : Fin 512 → ℝ)

def mu : ℝ := (∑ k, u k) / 512

def xc (l : Fin 512) : ℝ := u l - mu u

def ms : ℝ := (∑ k, xc u k * xc u k) / 512 + eps

theorem ms_pos : 0 < ms u :=
  add_pos_of_nonneg_of_pos (div_nonneg (Finset.sum_nonneg fun k _ => mul_self_nonneg _) (by norm_num)) eps_pos

def rr : ℝ := (Real.sqrt (ms u))⁻¹

theorem rr_sq : rr u * rr u * ms u = 1 := by
  have h : Real.sqrt (ms u) * Real.sqrt (ms u) = ms u := Real.mul_self_sqrt (ms_pos u).le
  have h0 : Real.sqrt (ms u) ≠ 0 := (Real.sqrt_pos.2 (ms_pos u)).ne'
  unfold rr
  nth_rw 3 [← h]
  field_simp

/-- The normalised row. -/
def xh (l : Fin 512) : ℝ := xc u l * rr u

/-- The layer norm's row. -/
def nv (l : Fin 512) : ℝ := xh u l * g l + be l

/-- What flows into the layer norm's row. -/
def dv (l : Fin 512) : ℝ := a l * Rows.dsilu (nv u g be l)

/-- What flows into the normalised row. -/
def dh (l : Fin 512) : ℝ := dv u a g be l * g l

/-- What flows into the row itself. -/
def du (l : Fin 512) : ℝ :=
  rr u * ((dh u a g be l - (∑ k, dh u a g be k) / 512) - xh u l * ((∑ k, dh u a g be k * xh u k) / 512))

/-- The factor of the row that the mean of the squares sends back. -/
def qq : ℝ := (∑ k, xc u k * dh u a g be k) * (-1 / 2 * (rr u / ms u)) / 512

/-- What flows into the centred row. -/
def dc (l : Fin 512) : ℝ := dh u a g be l * rr u + qq u a g be * (2 * xc u l)

theorem sum_xc : ∑ k, xc u k = 0 := by
  simp only [xc, mu, Finset.sum_sub_distrib, Finset.sum_const, Finset.card_univ, Fintype.card_fin, nsmul_eq_mul]
  push_cast
  ring

theorem sum_dc : ∑ k, -dc u a g be k = -(rr u * ∑ k, dh u a g be k) := by
  have h : ∀ k, -dc u a g be k = -(dh u a g be k * rr u) - xc u k * (2 * qq u a g be) := fun k => by unfold dc; ring
  simp only [h, Finset.sum_sub_distrib, Finset.sum_neg_distrib, ← Finset.sum_mul, sum_xc]
  ring

theorem qq_eq : 2 * qq u a g be = -(rr u * rr u * rr u * (∑ k, xc u k * dh u a g be k) / 512) := by
  have h : rr u / ms u = rr u * rr u * rr u := by
    rw [div_eq_iff (ms_pos u).ne']
    linear_combination -(rr u) * rr_sq u
  unfold qq
  rw [h]; ring

/-- The same derivative, with the row's mean and the mean of its squares taken apart. -/
theorem du_eq (l : Fin 512) : dc u a g be l + (∑ k, -dc u a g be k) / 512 = du u a g be l := by
  have hs : ∑ k, dh u a g be k * xh u k = rr u * ∑ k, xc u k * dh u a g be k := by
    rw [Finset.mul_sum]; exact Finset.sum_congr rfl fun k _ => by unfold xh; ring
  rw [sum_dc, du, hs]
  have hq := qq_eq u a g be
  unfold dc xh
  linear_combination (xc u l) * hq

end Cert.ConfRows
-- ==== Proof.ConfBwdPay.lean ====
module

public import proofs.«01_k».proof.Proof.ConfRows
public import proofs.«01_k».proof.Proof.Gen.ConfBwdIdeal.Skeleton
public import Idealize.ShloMosaic.Lib.Pipeline.ValueKit
public import Idealize.ShloMosaic.Lib.Pointwise

/-! What the body computes of a block of rows, row by row, and what it adds to the three row sums. -/

@[expose] public section

set_option backward.proofsInPublic true
set_option maxRecDepth 16384

noncomputable section

open Idealize.ShloMosaic Idealize.ShloMosaic.TcCoe Idealize.SL.Sem

namespace Cert.ConfBwdIdeal.Pay

open Cert.ConfBwdIdeal Cert.ConfBwdIdeal.Gen Cert.Reals

variable (ub db : FVec Ideal S512x512 .bf16) (gb bb : FVec Ideal S1x512 .f32)
  (U D : Fin 512 → Fin 512 → ℝ) (G B : Fin 512 → ℝ)
  (hu : ∀ i l, ub (ix2 i l) = ((U i l : ℝ) : EReal))
  (hd : ∀ i l, db (ix2 i l) = ((D i l : ℝ) : EReal))
  (hg : ∀ l, gb (ix2 0 l) = ((G l : ℝ) : EReal))
  (hb : ∀ l, bb (ix2 0 l) = ((B l : ℝ) : EReal))

include hu in
theorem u_at (i l : Fin 512) : k0_pay284 (F := Ideal) ub (ix2 i l) = ((U i l : ℝ) : EReal) := by
  pointwise [k0_pay284]
  exact hu i l

include hu in
theorem xc_at (i l : Fin 512) : k0_pay285 (F := Ideal) (k0_pay284 ub) (ix2 i l) = ((ConfRows.xc (U i) l : ℝ) : EReal) := by
  pointwise [k0_pay285]
  simp only [u_at ub U hu]
  rw [sum_coe, lit_512, div_coe _ (by norm_num), ← EReal.coe_sub]; rfl

include hu in
theorem rr_at (i : Fin 512) : k0_pay286 (F := Ideal) (k0_pay284 ub) (ix2 i 0) = ((ConfRows.rr (U i) : ℝ) : EReal) := by
  pointwise [k0_pay286]
  simp only [xc_at ub U hu, ← EReal.coe_mul]
  rw [sum_coe, lit_512, eps_lit, div_coe _ (by norm_num), ← EReal.coe_add]
  exact rsqrt_coe (ConfRows.ms_pos (U i))

include hu in
theorem xh_at (i l : Fin 512) : k0_pay287 (F := Ideal) (k0_pay284 ub) (ix2 i l) = ((ConfRows.xh (U i) l : ℝ) : EReal) := by
  pointwise [k0_pay287]
  rw [xc_at ub U hu, rr_at ub U hu, ← EReal.coe_mul]; rfl

include hu hd hg hb in
theorem dv_at (i l : Fin 512) :
    k0_pay288 (F := Ideal) (k0_pay284 ub) db gb bb (ix2 i l) = ((ConfRows.dv (U i) (D i) G B l : ℝ) : EReal) := by
  pointwise [k0_pay288]
  rw [xh_at ub U hu, hd, hg, hb, ← EReal.coe_mul, ← EReal.coe_add, sg_coe', one_coe, ← EReal.coe_sub, ← EReal.coe_mul,
    ← EReal.coe_add, ← EReal.coe_mul, ← EReal.coe_mul]; rfl

include hu hd hg hb in
theorem dh_at (i l : Fin 512) :
    k0_pay289 (F := Ideal) (k0_pay284 ub) db gb bb gb (ix2 i l) = ((ConfRows.dh (U i) (D i) G B l : ℝ) : EReal) := by
  pointwise [k0_pay289]
  rw [dv_at ub db gb bb U D G B hu hd hg hb, hg, ← EReal.coe_mul]; rfl

include hu hd hg hb in
theorem du_at (i l : Fin 512) :
    k0_pay290 (F := Ideal) (k0_pay286 (k0_pay284 ub)) (k0_pay287 (k0_pay284 ub)) (k0_pay289 (k0_pay284 ub) db gb bb gb) (ix2 i l)
      = ((ConfRows.du (U i) (D i) G B l : ℝ) : EReal) := by
  pointwise [k0_pay290]
  simp only [dh_at ub db gb bb U D G B hu hd hg hb, xh_at ub U hu, rr_at ub U hu, ← EReal.coe_mul, sum_coe]
  rw [lit_512, div_coe _ (by norm_num), div_coe _ (by norm_num), ← EReal.coe_sub, ← EReal.coe_mul, ← EReal.coe_sub, ← EReal.coe_mul]
  rfl

/-- What one block of rows adds to the three sums. -/
def part_g (l : Fin 512) : ℝ := ∑ k : Fin 512, ConfRows.dv (U k) (D k) G B l * ConfRows.xh (U k) l
def part_be (l : Fin 512) : ℝ := ∑ k : Fin 512, ConfRows.dv (U k) (D k) G B l
def part_b (l : Fin 512) : ℝ := ∑ k : Fin 512, ConfRows.du (U k) (D k) G B l

include hu hd hg hb in
theorem pay_g (C : FVec Ideal S1x512 .f32) (l : Fin 512) :
    (k0_pay367 (F := Ideal) (k0_pay287 (k0_pay284 ub)) (k0_pay288 (k0_pay284 ub) db gb bb) C (ix2 0 l) : EReal)
      = C (ix2 0 l) + ((part_g U D G B l : ℝ) : EReal) := by
  pointwise [k0_pay367]
  simp only [dv_at ub db gb bb U D G B hu hd hg hb, xh_at ub U hu, ← EReal.coe_mul, sum_coe]; rfl

include hu hd hg hb in
theorem pay_be (C : FVec Ideal S1x512 .f32) (l : Fin 512) :
    (k0_pay368 (F := Ideal) (k0_pay288 (k0_pay284 ub) db gb bb) C (ix2 0 l) : EReal)
      = C (ix2 0 l) + ((part_be U D G B l : ℝ) : EReal) := by
  pointwise [k0_pay368]
  simp only [dv_at ub db gb bb U D G B hu hd hg hb, sum_coe]; rfl

include hu hd hg hb in
theorem pay_b (C : FVec Ideal S1x512 .f32) (l : Fin 512) :
    (k0_pay369 (F := Ideal) (k0_pay290 (k0_pay286 (k0_pay284 ub)) (k0_pay287 (k0_pay284 ub))
        (k0_pay289 (k0_pay284 ub) db gb bb gb)) C (ix2 0 l) : EReal)
      = C (ix2 0 l) + ((part_b U D G B l : ℝ) : EReal) := by
  pointwise [k0_pay369]
  simp only [du_at ub db gb bb U D G B hu hd hg hb, sum_coe]; rfl

theorem zero_b (l : Fin 512) : (k0_pay364 (F := Ideal) (ix2 0 l) : EReal) = 0 := by
  pointwise [k0_pay364]

theorem zero_g (l : Fin 512) : (k0_pay365 (F := Ideal) (ix2 0 l) : EReal) = 0 := by
  pointwise [k0_pay365]

theorem zero_be (l : Fin 512) : (k0_pay366 (F := Ideal) (ix2 0 l) : EReal) = 0 := by
  pointwise [k0_pay366]

end Cert.ConfBwdIdeal.Pay
-- ==== Proof.ConfBwdRef.lean ====
module

public import proofs.«01_k».proof.Proof.ConfRows
public import proofs.«01_k».proof.Proof.Gen.ConfBwdRefIdeal.Read
public import Idealize.ShloMosaic.Lib.Pipeline.ValueKit
public import Idealize.ShloMosaic.Lib.Pointwise

/-! The reference's intermediate arrays, row by row, and its three results. -/

@[expose] public section

set_option backward.proofsInPublic true
set_option maxRecDepth 16384

noncomputable section

open Idealize.ShloMosaic Idealize.ShloMosaic.TcCoe Idealize.SL.Sem

namespace Cert.ConfBwdRefIdeal.Rows

open Cert.ConfBwdRefIdeal Cert.ConfBwdRefIdeal.Read Cert.Reals

variable (x0 : FVec Ideal S8192x512 .f32) (x1 x2 x3 : FVec Ideal S512 .f32) (x4 : FVec Ideal S8192x512 .f32)
  (U D : Fin 8192 → Fin 512 → ℝ) (G B : Fin 512 → ℝ)
  (hu : ∀ i l, HAdd.hAdd (α := EReal) (β := EReal) (x0 (ix2 i l)) (x1 (ix1 l)) = ((U i l : ℝ) : EReal))
  (hd : ∀ i l, x4 (ix2 i l) = ((D i l : ℝ) : EReal))
  (hg : ∀ l, x2 (ix1 l) = ((G l : ℝ) : EReal))
  (hb : ∀ l, x3 (ix1 l) = ((B l : ℝ) : EReal))

theorem lit_two : Ideal.ofBits .f32 0x40000000#32 = ((2 : ℝ) : EReal) := by
  simp [Ideal.ofBits, Ideal.ieee, -EReal.coe_mul]; norm_num

include hu in
theorem u_at (i : Fin 8192) (l : Fin 512) : val_main_v2 (F := Ideal) x0 x1 (ix2 i l) = ((U i l : ℝ) : EReal) := by
  pointwise [val_main_v2, val_main_v1, val_main_v0]
  exact hu i l

include hu in
theorem xc_at (i : Fin 8192) (l : Fin 512) : val_main_v8 (F := Ideal) x0 x1 (ix2 i l) = ((ConfRows.xc (U i) l : ℝ) : EReal) := by
  pointwise [val_main_v8, val_main_v7, val_main_v6, val_main_v5, val_main_v4, val_main_v3, val_main_cst, val_main_cst_0]
  simp only [u_at x0 x1 U hu]
  rw [sum_coe, lit_512, div_coe _ (by norm_num), ← EReal.coe_sub]; rfl

include hu in
theorem ms_at (i : Fin 8192) : val_main_v17 (F := Ideal) x0 x1 (ix2 i 0) = ((ConfRows.ms (U i) : ℝ) : EReal) := by
  pointwise [val_main_v17, val_main_v16, val_main_v15, val_main_v14, val_main_v13, val_main_v12, val_main_v9, val_main_cst_2,
    val_main_cst_3, val_main_cst_4]
  simp only [xc_at x0 x1 U hu, ← EReal.coe_mul]
  rw [sum_coe, lit_512, eps_lit, div_coe _ (by norm_num), ← EReal.coe_add]; rfl

include hu in
theorem rr_at (i : Fin 8192) : val_main_v18 (F := Ideal) x0 x1 (ix2 i 0) = ((ConfRows.rr (U i) : ℝ) : EReal) := by
  pointwise [val_main_v18]
  rw [ms_at x0 x1 U hu]
  exact rsqrt_coe (ConfRows.ms_pos (U i))

include hu in
theorem fac_at (i : Fin 8192) : val_main_v21 (F := Ideal) x0 x1 (ix2 i 0)
    = ((-1 / 2 * (ConfRows.rr (U i) / ConfRows.ms (U i)) : ℝ) : EReal) := by
  pointwise [val_main_v21, val_main_v20, val_main_v19, val_main_cst_5]
  rw [ms_at x0 x1 U hu, rr_at x0 x1 U hu, lit_neg_half, div_coe _ (ConfRows.ms_pos _).ne', ← EReal.coe_mul]

include hu in
theorem twice_at (i : Fin 8192) (l : Fin 512) :
    val_main_v11 (F := Ideal) x0 x1 (ix2 i l) = ((2 * ConfRows.xc (U i) l : ℝ) : EReal) := by
  pointwise [val_main_v11, val_main_v10, val_main_cst_1]
  rw [xc_at x0 x1 U hu, lit_two, ← EReal.coe_mul]

include hu in
theorem xh_at (i : Fin 8192) (l : Fin 512) : val_main_v23 (F := Ideal) x0 x1 (ix2 i l) = ((ConfRows.xh (U i) l : ℝ) : EReal) := by
  pointwise [val_main_v23, val_main_v22]
  rw [xc_at x0 x1 U hu, rr_at x0 x1 U hu, ← EReal.coe_mul]; rfl

include hu hg hb in
theorem nv_at (i : Fin 8192) (l : Fin 512) :
    val_main_v29 (F := Ideal) x0 x1 x2 x3 (ix2 i l) = ((ConfRows.nv (U i) G B l : ℝ) : EReal) := by
  pointwise [val_main_v29, val_main_v28, val_main_v27, val_main_v26, val_main_v25, val_main_v24]
  rw [xh_at x0 x1 U hu, hg, hb, ← EReal.coe_mul, ← EReal.coe_add]; rfl

include hu hg hb in
theorem sig_at (i : Fin 8192) (l : Fin 512) :
    val_main_v30_2 (F := Ideal) x0 x1 x2 x3 (ix2 i l) = ((sg (ConfRows.nv (U i) G B l) : ℝ) : EReal) := by
  pointwise [val_main_v30_2, val_main_call0_v4, val_main_call0_v3, val_main_call0_v2, val_main_call0_v1,
    val_main_call0_v0, val_main_call0_cst, val_main_call0_cst_0]
  rw [nv_at x0 x1 x2 x3 U G B hu hg hb]
  exact sg_coe _

include hu hg hb in
theorem dsig_at (i : Fin 8192) (l : Fin 512) :
    val_main_v30_1 (F := Ideal) x0 x1 x2 x3 (ix2 i l)
      = ((sg (ConfRows.nv (U i) G B l) * (1 - sg (ConfRows.nv (U i) G B l)) : ℝ) : EReal) := by
  pointwise [val_main_v30_1, val_main_call0_v7, val_main_call0_v6, val_main_call0_cst_1]
  rw [sig_at x0 x1 x2 x3 U G B hu hg hb, one_coe, ← EReal.coe_sub, ← EReal.coe_mul]

include hu hd hg hb in
theorem dv_at (i : Fin 8192) (l : Fin 512) :
    val_main_v31 (F := Ideal) x0 x1 x2 x3 x4 (ix2 i l) = ((ConfRows.dv (U i) (D i) G B l : ℝ) : EReal) := by
  pointwise [val_main_v31, val_main_call1_v2, val_main_call1_v1, val_main_call1_v0]
  rw [sig_at x0 x1 x2 x3 U G B hu hg hb, dsig_at x0 x1 x2 x3 U G B hu hg hb, nv_at x0 x1 x2 x3 U G B hu hg hb, hd,
    ← EReal.coe_mul, ← EReal.coe_mul, ← EReal.coe_mul, ← EReal.coe_add, Rows.dsilu_eq]; rfl

include hu hd hg hb in
theorem dh_at (i : Fin 8192) (l : Fin 512) :
    val_main_v39 (F := Ideal) x0 x1 x2 x3 x4 (ix2 i l) = ((ConfRows.dh (U i) (D i) G B l : ℝ) : EReal) := by
  pointwise [val_main_v39, val_main_v38, val_main_v24]
  rw [dv_at x0 x1 x2 x3 x4 U D G B hu hd hg hb, hg, ← EReal.coe_mul]; rfl

include hu hd hg hb in
theorem qq_at (i : Fin 8192) :
    val_main_v49 (F := Ideal) x0 x1 x2 x3 x4 (ix1 i) = ((ConfRows.qq (U i) (D i) G B : ℝ) : EReal) := by
  pointwise [val_main_v49, val_main_v48, val_main_v47, val_main_v46, val_main_v43, val_main_v42, val_main_v41, val_main_cst_10,
    val_main_cst_11, val_main_cst_12]
  simp only [xc_at x0 x1 U hu, dh_at x0 x1 x2 x3 x4 U D G B hu hd hg hb, ← EReal.coe_mul, sum_coe]
  rw [Fintype.sum_unique]
  show Ideal.div (_ * val_main_v21 (F := Ideal) x0 x1 (ix2 i 0)) _ = _
  rw [fac_at x0 x1 U hu, ← EReal.coe_mul, lit_512, div_coe _ (by norm_num)]; rfl

include hu hd hg hb in
theorem dc_at (i : Fin 8192) (l : Fin 512) :
    val_main_v52 (F := Ideal) x0 x1 x2 x3 x4 (ix2 i l) = ((ConfRows.dc (U i) (D i) G B l : ℝ) : EReal) := by
  pointwise [val_main_v52, val_main_v51, val_main_v50, val_main_v45, val_main_v44]
  rw [twice_at x0 x1 U hu, rr_at x0 x1 U hu, dh_at x0 x1 x2 x3 x4 U D G B hu hd hg hb, qq_at x0 x1 x2 x3 x4 U D G B hu hd hg hb,
    ← EReal.coe_mul, ← EReal.coe_mul, ← EReal.coe_add]; rfl

include hu hd hg hb in
theorem du_at (i : Fin 8192) (l : Fin 512) :
    val_main_v60 (F := Ideal) x0 x1 x2 x3 x4 (ix2 i l) = ((ConfRows.du (U i) (D i) G B l : ℝ) : EReal) := by
  pointwise [val_main_v60, val_main_v59, val_main_v58, val_main_v57, val_main_v56, val_main_v55, val_main_v54, val_main_v53,
    val_main_cst_13, val_main_cst_14, val_main_cst_15]
  simp only [dc_at x0 x1 x2 x3 x4 U D G B hu hd hg hb, ← EReal.coe_neg, sum_coe]
  rw [Fintype.sum_unique, lit_512, div_coe _ (by norm_num), ← EReal.coe_add, ConfRows.du_eq]

include hu hd hg hb in
theorem res_b (l : Fin 512) : val_main_v64 (F := Ideal) x0 x1 x2 x3 x4 (ix2 0 l)
    = ((∑ i : Fin 8192, ConfRows.du (U i) (D i) G B l : ℝ) : EReal) := by
  pointwise [val_main_v64, val_main_v63, val_main_v62, val_main_v61, val_main_cst_16, val_main_cst_17]
  simp only [du_at x0 x1 x2 x3 x4 U D G B hu hd hg hb, sum_coe]
  rw [Fintype.sum_unique]

include hu hd hg hb in
theorem res_g (l : Fin 512) : val_main_v65 (F := Ideal) x0 x1 x2 x3 x4 (ix2 0 l)
    = ((∑ i : Fin 8192, ConfRows.dv (U i) (D i) G B l * ConfRows.xh (U i) l : ℝ) : EReal) := by
  pointwise [val_main_v65, val_main_v40, val_main_v37, val_main_v36, val_main_v35, val_main_cst_8, val_main_cst_9]
  simp only [dv_at x0 x1 x2 x3 x4 U D G B hu hd hg hb, xh_at x0 x1 U hu, ← EReal.coe_mul, sum_coe]
  rw [Fintype.sum_unique]
  simp only [mul_comm]

include hu hd hg hb in
theorem res_be (l : Fin 512) : val_main_v66 (F := Ideal) x0 x1 x2 x3 x4 (ix2 0 l)
    = ((∑ i : Fin 8192, ConfRows.dv (U i) (D i) G B l : ℝ) : EReal) := by
  pointwise [val_main_v66, val_main_v34, val_main_v33, val_main_v32, val_main_cst_6, val_main_cst_7]
  simp only [dv_at x0 x1 x2 x3 x4 U D G B hu hd hg hb, sum_coe]
  rw [Fintype.sum_unique]

end Cert.ConfBwdRefIdeal.Rows
-- ==== Proof.ConfBwd.lean ====
module

public import proofs.«01_k».proof.Defs
public import proofs.«01_k».proof.Proof.Norm
public import proofs.«01_k».proof.Proof.ConfBwdIdealRun
public import proofs.«01_k».proof.Proof.ConfBwdPay
public import proofs.«01_k».proof.Proof.ConfBwdRef
public import proofs.«01_k».proof.Proof.Gen.ConfBwdRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gradients of the conformer branch's convolution bias and of its layer norm's gain and shift. -/

namespace Cert.ConfBwdIdeal.Final

open Cert.ConfBwdIdeal Cert.ConfBwdIdeal.Gen Cert.ConfBwdIdeal.Run Cert.ConfBwdIdeal.Pay Cert.Norm Cert.Reals

variable (m : (ℓ : Loc nD τ sig) → Buf (Elt Ideal) ℓ) (c : Dev nD)

theorem idx : ∀ t : Fin cfg0.N, win0_2.index t = ![t.val, 0] ∧ win0_4.index t = ![t.val, 0] ∧ win0_7.index t = ![0, 0]
    ∧ win0_8.index t = ![0, 0] ∧ win0_11.index t = ![0, 0] ∧ win0_12.index t = ![0, 0] ∧ win0_13.index t = ![0, 0] :=
  (by decide +kernel : ∀ t : Fin grid0.N, _)

abbrev x0 : FVec Ideal S8192x512 .f32 := m (c.tc.loc main_arg0)
abbrev x1 : FVec Ideal S512 .f32 := m (c.tc.loc main_arg1)
abbrev x2 : FVec Ideal S512 .f32 := m (c.tc.loc main_arg2)
abbrev x3 : FVec Ideal S512 .f32 := m (c.tc.loc main_arg3)
abbrev x4 : FVec Ideal S8192x512 .f32 := m (c.tc.loc main_arg4)

/-- A point's blocks. -/
abbrev ub (t : Fin cfg0.N) : FVec Ideal S512x512 .bf16 := iblk m c 2 t
abbrev db (t : Fin cfg0.N) : FVec Ideal S512x512 .bf16 := iblk m c 4 t
abbrev gb (t : Fin cfg0.N) : FVec Ideal S1x512 .f32 := iblk m c 7 t
abbrev bb (t : Fin cfg0.N) : FVec Ideal S1x512 .f32 := iblk m c 8 t

section
variable (t : Fin cfg0.N) (i : Fin 512) (r : Fin 8192) (l : Fin 512)

theorem ub_at (hr : r.val = 512 * t.val + i.val) :
    ub m c t (ix2 i l) = HAdd.hAdd (α := EReal) (β := EReal) (x0 m c (ix2 r l)) (x1 m c (ix1 l)) := by
  have e : (win0_2.blk t).view.emb (ix2 i l) = (ix2 r l : S8192x512.Idx) := by blk_ext [idx t]
  refine congrArg₂ (HAdd.hAdd (α := EReal) (β := EReal) (γ := EReal)) (congrArg (x0 m c) e) (congrArg (x1 m c) (funext fun a => ?_))
  obtain rfl : a = 0 := Subsingleton.elim _ _
  exact Fin.ext (congrArg Fin.val (congrFun e 1))

theorem db_at (hr : r.val = 512 * t.val + i.val) : (db m c t (ix2 i l) : EReal) = x4 m c (ix2 r l) := by
  blk_point [iblk, V, idx t]

theorem gb_at : gb m c t (ix2 0 l) = x2 m c (ix1 l) := by
  blk_point [iblk, V, idx t]

theorem bb_at : bb m c t (ix2 0 l) = x3 m c (ix1 l) := by
  blk_point [iblk, V, idx t]

end

/-- The arguments' entries that the gradients read are real numbers. -/
structure Fine : Prop where
  h0 : ∀ i, IsR (x0 m c i)
  h1 : ∀ i, IsR (x1 m c i)
  h2 : ∀ i, IsR (x2 m c i)
  h3 : ∀ i, IsR (x3 m c i)
  h4 : ∀ i, IsR (x4 m c i)

/-- The rows of the branch and what flows into its output, as real numbers. -/
def U (i : Fin 8192) (l : Fin 512) : ℝ := (HAdd.hAdd (α := EReal) (β := EReal) (x0 m c (ix2 i l)) (x1 m c (ix1 l))).toReal
def D (i : Fin 8192) (l : Fin 512) : ℝ := EReal.toReal (x4 m c (ix2 i l))
def G (l : Fin 512) : ℝ := EReal.toReal (x2 m c (ix1 l))
def B (l : Fin 512) : ℝ := EReal.toReal (x3 m c (ix1 l))

section
variable (hf : Fine m c)

include hf
theorem hu (i : Fin 8192) (l : Fin 512) :
    HAdd.hAdd (α := EReal) (β := EReal) (x0 m c (ix2 i l)) (x1 m c (ix1 l)) = ((U m c i l : ℝ) : EReal) :=
  ((hf.h0 _).add (hf.h1 _)).coe_toReal
theorem hd (i : Fin 8192) (l : Fin 512) : x4 m c (ix2 i l) = ((D m c i l : ℝ) : EReal) := (hf.h4 _).coe_toReal
theorem hg (l : Fin 512) : x2 m c (ix1 l) = ((G m c l : ℝ) : EReal) := (hf.h2 _).coe_toReal
theorem hb (l : Fin 512) : x3 m c (ix1 l) = ((B m c l : ℝ) : EReal) := (hf.h3 _).coe_toReal
end

/-- The row of the whole array that a block's row is. -/
def rowOf (t : Fin cfg0.N) (k : Fin 512) : Fin 8192 :=
  ⟨512 * t.val + k.val, by have := lt_of_lt_of_eq t.isLt N_0; omega⟩

abbrev Ub (t : Fin cfg0.N) (k : Fin 512) : Fin 512 → ℝ := U m c (rowOf t k)
abbrev Db (t : Fin cfg0.N) (k : Fin 512) : Fin 512 → ℝ := D m c (rowOf t k)

section
variable (hf : Fine m c) (t : Fin cfg0.N)
include hf
theorem hub (i l : Fin 512) : ub m c t (ix2 i l) = ((Ub m c t i l : ℝ) : EReal) :=
  (ub_at m c t i (rowOf t i) l rfl).trans (hu m c hf _ _)
theorem hdb (i l : Fin 512) : db m c t (ix2 i l) = ((Db m c t i l : ℝ) : EReal) :=
  (db_at m c t i (rowOf t i) l rfl).trans (hd m c hf _ _)
theorem hgb (l : Fin 512) : gb m c t (ix2 0 l) = ((G m c l : ℝ) : EReal) := (gb_at m c t l).trans (hg m c hf _)
theorem hbb (l : Fin 512) : bb m c t (ix2 0 l) = ((B m c l : ℝ) : EReal) := (bb_at m c t l).trans (hb m c hf _)
end

theorem acc_b (hf : Fine m c) (t : Fin cfg0.N) (hr : t.val % 16 = 15) (l : Fin 512) :
    (outsAt0 m c t.val t.isLt).1 (ix2 0 l) = ∑ s : Fin 16,
      ((part_b (Ub m c ⟨16 * (t.val / 16) + s.val, Pipeline.run_point_lt_of_flush t hr s⟩) (Db m c ⟨16 * (t.val / 16) + s.val, Pipeline.run_point_lt_of_flush t hr s⟩) (G m c) (B m c) l : ℝ) : EReal) := by
  refine (Pipeline.eq_sum_fin_of_reset_step_apply_of_flush (fun n h => (outsAt0 m c n h).1) 16 (fun _ => (0 : EReal))
    (fun t y => ((part_b (Ub m c t) (Db m c t) (G m c) (B m c) (y 1) : ℝ) : EReal))
    (fun t h j => by
      idx_vars j
      obtain rfl : j0 = 0 := Subsingleton.elim _ _
      rw [outsAt0_A m c t h]
      frame_out
      refine (pay_b (ub m c t) (db m c t) (gb m c t) (bb m c t) _ _ _ _ (hub m c hf t) (hdb m c hf t) (hgb m c hf t) (hbb m c hf t) _ j1).trans ?_
      rw [zero_b])
    (fun t h j => by
      idx_vars j
      obtain rfl : j0 = 0 := Subsingleton.elim _ _
      rw [outsAt0_B m c t h]
      frame_out
      refine (pay_b (ub m c t) (db m c t) (gb m c t) (bb m c t) _ _ _ _ (hub m c hf t) (hdb m c hf t) (hgb m c hf t) (hbb m c hf t) _ j1).trans ?_
      rfl) t hr (ix2 0 l)).trans ?_
  rw [zero_add]
  rfl

theorem acc_g (hf : Fine m c) (t : Fin cfg0.N) (hr : t.val % 16 = 15) (l : Fin 512) :
    (outsAt0 m c t.val t.isLt).2.1 (ix2 0 l) = ∑ s : Fin 16,
      ((part_g (Ub m c ⟨16 * (t.val / 16) + s.val, Pipeline.run_point_lt_of_flush t hr s⟩) (Db m c ⟨16 * (t.val / 16) + s.val, Pipeline.run_point_lt_of_flush t hr s⟩) (G m c) (B m c) l : ℝ) : EReal) := by
  refine (Pipeline.eq_sum_fin_of_reset_step_apply_of_flush (fun n h => (outsAt0 m c n h).2.1) 16 (fun _ => (0 : EReal))
    (fun t y => ((part_g (Ub m c t) (Db m c t) (G m c) (B m c) (y 1) : ℝ) : EReal))
    (fun t h j => by
      idx_vars j
      obtain rfl : j0 = 0 := Subsingleton.elim _ _
      rw [outsAt0_A m c t h]
      frame_out
      refine (pay_g (ub m c t) (db m c t) (gb m c t) (bb m c t) _ _ _ _ (hub m c hf t) (hdb m c hf t) (hgb m c hf t) (hbb m c hf t) _ j1).trans ?_
      rw [zero_g])
    (fun t h j => by
      idx_vars j
      obtain rfl : j0 = 0 := Subsingleton.elim _ _
      rw [outsAt0_B m c t h]
      frame_out
      refine (pay_g (ub m c t) (db m c t) (gb m c t) (bb m c t) _ _ _ _ (hub m c hf t) (hdb m c hf t) (hgb m c hf t) (hbb m c hf t) _ j1).trans ?_
      rfl) t hr (ix2 0 l)).trans ?_
  rw [zero_add]
  rfl

theorem acc_be (hf : Fine m c) (t : Fin cfg0.N) (hr : t.val % 16 = 15) (l : Fin 512) :
    (outsAt0 m c t.val t.isLt).2.2 (ix2 0 l) = ∑ s : Fin 16,
      ((part_be (Ub m c ⟨16 * (t.val / 16) + s.val, Pipeline.run_point_lt_of_flush t hr s⟩) (Db m c ⟨16 * (t.val / 16) + s.val, Pipeline.run_point_lt_of_flush t hr s⟩) (G m c) (B m c) l : ℝ) : EReal) := by
  refine (Pipeline.eq_sum_fin_of_reset_step_apply_of_flush (fun n h => (outsAt0 m c n h).2.2) 16 (fun _ => (0 : EReal))
    (fun t y => ((part_be (Ub m c t) (Db m c t) (G m c) (B m c) (y 1) : ℝ) : EReal))
    (fun t h j => by
      idx_vars j
      obtain rfl : j0 = 0 := Subsingleton.elim _ _
      rw [outsAt0_A m c t h]
      frame_out
      refine (pay_be (ub m c t) (db m c t) (gb m c t) (bb m c t) _ _ _ _ (hub m c hf t) (hdb m c hf t) (hgb m c hf t) (hbb m c hf t) _ j1).trans ?_
      rw [zero_be])
    (fun t h j => by
      idx_vars j
      obtain rfl : j0 = 0 := Subsingleton.elim _ _
      rw [outsAt0_B m c t h]
      frame_out
      refine (pay_be (ub m c t) (db m c t) (gb m c t) (bb m c t) _ _ _ _ (hub m c hf t) (hdb m c hf t) (hgb m c hf t) (hbb m c hf t) _ j1).trans ?_
      rfl) t hr (ix2 0 l)).trans ?_
  rw [zero_add]
  rfl

theorem row_run (t : Fin cfg0.N) (hr : t.val % 16 = 15) (s : Fin 16) (k : Fin 512) (h : s.val * 512 + k.val < 8192) :
    rowOf ⟨16 * (t.val / 16) + s.val, Pipeline.run_point_lt_of_flush t hr s⟩ k = ⟨s.val * 512 + k.val, h⟩ :=
  Fin.ext (by
    have ht : t.val < 16 := lt_of_lt_of_eq t.isLt N_0
    show 512 * (16 * (t.val / 16) + s.val) + k.val = s.val * 512 + k.val; omega)

theorem final_b (hf : Fine m c) : (dats m 0 c).arrAt 11 (cfgs 0).N
    = Cert.ConfBwdRefIdeal.Read.val_main_v64 (F := Ideal) (x0 m c) (x1 m c) (x2 m c) (x3 m c) (x4 m c) := by
  refine (dats m 0 c).arrAt_eq_of_covers 11 _ (by decide +kernel) fun t hf' y => ?_
  have h15 := (flush0_11 t).mp hf'
  blk_simp
  rw [after0_11]
  idx_vars y
  obtain rfl : y0 = 0 := Subsingleton.elim _ _
  rw [show ((View.whole main_v7_2).slice (win0_11.rect t)).emb (ix2 0 y1) = (ix2 0 y1 : S1x512.Idx) from by blk_ext [idx t],
    Cert.ConfBwdRefIdeal.Rows.res_b _ _ _ _ _ _ _ _ _ (hu m c hf) (hd m c hf) (hg m c hf) (hb m c hf), acc_b m c hf t h15, sum_coe]
  refine congrArg (fun q : ℝ => (q : EReal)) ?_
  unfold part_b
  refine Fin.sum_mul_add_congr fun s k hl => ?_
  rw [Ub, Db, row_run t h15 s k hl]

theorem final_g (hf : Fine m c) : (dats m 0 c).arrAt 12 (cfgs 0).N
    = Cert.ConfBwdRefIdeal.Read.val_main_v65 (F := Ideal) (x0 m c) (x1 m c) (x2 m c) (x3 m c) (x4 m c) := by
  refine (dats m 0 c).arrAt_eq_of_covers 12 _ (by decide +kernel) fun t hf' y => ?_
  have h15 := (flush0_12 t).mp hf'
  blk_simp
  rw [after0_12]
  idx_vars y
  obtain rfl : y0 = 0 := Subsingleton.elim _ _
  rw [show ((View.whole main_v7_3).slice (win0_12.rect t)).emb (ix2 0 y1) = (ix2 0 y1 : S1x512.Idx) from by blk_ext [idx t],
    Cert.ConfBwdRefIdeal.Rows.res_g _ _ _ _ _ _ _ _ _ (hu m c hf) (hd m c hf) (hg m c hf) (hb m c hf), acc_g m c hf t h15, sum_coe]
  refine congrArg (fun q : ℝ => (q : EReal)) ?_
  unfold part_g
  refine Fin.sum_mul_add_congr fun s k hl => ?_
  rw [Ub, Db, row_run t h15 s k hl]

theorem final_be (hf : Fine m c) : (dats m 0 c).arrAt 13 (cfgs 0).N
    = Cert.ConfBwdRefIdeal.Read.val_main_v66 (F := Ideal) (x0 m c) (x1 m c) (x2 m c) (x3 m c) (x4 m c) := by
  refine (dats m 0 c).arrAt_eq_of_covers 13 _ (by decide +kernel) fun t hf' y => ?_
  have h15 := (flush0_13 t).mp hf'
  blk_simp
  rw [after0_13]
  idx_vars y
  obtain rfl : y0 = 0 := Subsingleton.elim _ _
  rw [show ((View.whole main_v7_4).slice (win0_13.rect t)).emb (ix2 0 y1) = (ix2 0 y1 : S1x512.Idx) from by blk_ext [idx t],
    Cert.ConfBwdRefIdeal.Rows.res_be _ _ _ _ _ _ _ _ _ (hu m c hf) (hd m c hf) (hg m c hf) (hb m c hf), acc_be m c hf t h15, sum_coe]
  refine congrArg (fun q : ℝ => (q : EReal)) ?_
  unfold part_be
  refine Fin.sum_mul_add_congr fun s k hl => ?_
  rw [Ub, Db, row_run t h15 s k hl]

/-- The shape relations the precondition's operations take. -/
instance preFacts : Cert.Pre_finite_conf.Facts where
  bcast_S_S8192x512 := by decide
  bcast_S_S512 := by decide

theorem fine (h : Cert.Pre_ConfBwdIdeal_finite_conf m) : Fine m c := by
  obtain ⟨h0, h1, h2, h3, h4⟩ := h c
  refine ⟨isR_of_test _ _ ?_ h0, isR_of_test _ _ ?_ h1, isR_of_test _ _ ?_ h2, isR_of_test _ _ ?_ h3, isR_of_test _ _ ?_ h4⟩
  all_goals (clear h0 h1 h2 h3 h4; intro i; idx_vars i; pointwise)

/-- The reference runs to its end and leaves its arguments alone. -/
theorem frame_ref : Cert.quiescent_ConfBwdRefIdeal := fun m g _ =>
  (θ_run Cert.ConfBwdRefIdeal.defs _ _).mono (fun r h => ⟨fun c => (h c).2.2.2, sem_eq_zero_of_no_sems (by decide) r.2⟩)
    (Cert.ConfBwdRefIdeal.Value.run m g)

theorem frame_ref_pre : Cert.quiescent_ConfBwdRefIdeal_pre_finite_conf := fun m g _ => frame_ref m g trivial

theorem ref_congr {a0 b0 a1 b1 a2 b2 a3 b3 a4 b4} (h0 : a0 = b0) (h1 : a1 = b1) (h2 : a2 = b2) (h3 : a3 = b3) (h4 : a4 = b4) :
    Cert.ConfBwdRefIdeal.Read.val_main_v64 (F := Ideal) a0 a1 a2 a3 a4 = Cert.ConfBwdRefIdeal.Read.val_main_v64 b0 b1 b2 b3 b4
      ∧ Cert.ConfBwdRefIdeal.Read.val_main_v65 (F := Ideal) a0 a1 a2 a3 a4 = Cert.ConfBwdRefIdeal.Read.val_main_v65 b0 b1 b2 b3 b4
      ∧ Cert.ConfBwdRefIdeal.Read.val_main_v66 (F := Ideal) a0 a1 a2 a3 a4 = Cert.ConfBwdRefIdeal.Read.val_main_v66 b0 b1 b2 b3 b4 := by
  subst h0 h1 h2 h3 h4; exact ⟨rfl, rfl, rfl⟩

/-- What a run leaves in a result array whose window the body always fills. -/
theorem finalR_out (r) (h : Pipeline.RDat.FramePost (cfgs 0) (fun c => (dats m 0 c).toRForget forgets0) (V m) r) (c : Dev nD) (w : Fin 14)
    (hw : forgets0 w = false) :
    r.2.mem ((cfg0.spec w).arr.view.loc (c : Thread nD τ)) = (dats m 0 c).arrAt w cfg0.N :=
  ((dats m 0 c).toRForget_arrAt_iff hw _ _).mp ((h c).1 w)

/-- Over the reals the call's three sums are the reference's gradients. -/
theorem algebraic : Cert.algebraic_ConfBwdIdeal_ConfBwdRefIdeal_pre_finite_conf := by
  intro m g m' g' hpre hagree
  refine ⟨fun c => Cert.ConfBwdRefIdeal.Read.val_main_v64 (F := Ideal) (x0 m c) (x1 m c) (x2 m c) (x3 m c) (x4 m c),
    fun c => Cert.ConfBwdRefIdeal.Read.val_main_v65 (F := Ideal) (x0 m c) (x1 m c) (x2 m c) (x3 m c) (x4 m c),
    fun c => Cert.ConfBwdRefIdeal.Read.val_main_v66 (F := Ideal) (x0 m c) (x1 m c) (x2 m c) (x3 m c) (x4 m c), ?_, ?_⟩
  · refine (θ_run Cert.ConfBwdIdeal.defs _ _).mono (fun r h c => ?_) (θ_run_and (run_main m g) (unchanged m g))
    have hf := fine m c hpre
    exact ⟨(finalR_out m r h.1 c 11 forgets0_11).trans (final_b m c hf), (finalR_out m r h.1 c 12 forgets0_12).trans (final_g m c hf),
      (finalR_out m r h.1 c 13 forgets0_13).trans (final_be m c hf), h.2 c⟩
  · refine (θ_run Cert.ConfBwdRefIdeal.defs _ _).mono (fun r h c => ?_) (Cert.ConfBwdRefIdeal.Value.run m' g')
    obtain ⟨e0, e1, e2, e3, e4, -⟩ := hagree c
    obtain ⟨c0, c1, c2⟩ := ref_congr e0 e1 e2 e3 e4
    obtain ⟨r0, r1, r2, hr⟩ := h c
    exact ⟨(r0.trans (Cert.ConfBwdRefIdeal.Read.val_main_v64_eq m' c)).trans c0,
      (r1.trans (Cert.ConfBwdRefIdeal.Read.val_main_v65_eq m' c)).trans c1,
      (r2.trans (Cert.ConfBwdRefIdeal.Read.val_main_v66_eq m' c)).trans c2, hr⟩

end Cert.ConfBwdIdeal.Final
-- ==== Proof.NormFwd.lean ====
module

public import proofs.«01_k».proof.Defs
public import proofs.«01_k».proof.Proof.Gen.NormFwd.Frame
public import proofs.«01_k».proof.Proof.Norm
public import proofs.«01_k».proof.Proof.Gen.NormFwdIdeal.Value
public import proofs.«01_k».proof.Proof.Gen.NormFwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The modulated norm that a layer starts with. -/

namespace Cert.NormFwdIdeal.Final

open Cert.NormFwdIdeal Cert.NormFwdIdeal.Gen Cert.Norm Cert.Reals

/-- A row of an array. -/
abbrev row {N : ℕ} (A : FVec Ideal (⟨2, ![N, 1024]⟩ : Shape) .f32) (i : Fin N) : Fin 1024 → EReal := fun l => A (ix2 i l)

theorem pay_out (X : FVec Ideal S512x1024 .f32) (G M H : FVec Ideal S1x1024 .f32) (i : Fin 512) (l : Fin 1024) :
    (k0_pay1 (F := Ideal) X G M H (ix2 i l) : EReal)
      = X (ix2 i l) * rt (row X i) * G (ix2 0 l) * (1 + M (ix2 0 l)) + H (ix2 0 l) := by
  pointwise [k0_pay1, rt, mean]

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

abbrev x0 : FVec Ideal S8192x1024 .f32 := m (c.tc.loc main_arg0)
abbrev x1 : FVec Ideal S1024 .f32 := m (c.tc.loc main_arg1)
abbrev x2 : FVec Ideal S3x1024 .f32 := m (c.tc.loc main_arg2)

theorem row1 (l : Fin 1024) :
    (Rect.unit (s := S3x1024) ![1, 0] ![1, 1024] inb_S3x1024_S1x1024_1_0).idx (ix2 0 l : S1x1024.Idx) = (ix2 1 l : S3x1024.Idx) := by
  change (Rect.unit (s := S3x1024) ![1, 0] ![1, 1024] inb_S3x1024_S1x1024_1_0).emb (ix2 0 l : S1x1024.Idx) = (ix2 1 l : S3x1024.Idx)
  blk_ext

theorem row0 (l : Fin 1024) :
    (Rect.unit (s := S3x1024) ![0, 0] ![1, 1024] inb_S3x1024_S1x1024_0_0).idx (ix2 0 l : S1x1024.Idx) = (ix2 0 l : S3x1024.Idx) := by
  change (Rect.unit (s := S3x1024) ![0, 0] ![1, 1024] inb_S3x1024_S1x1024_0_0).emb (ix2 0 l : S1x1024.Idx) = (ix2 0 l : S3x1024.Idx)
  blk_ext

theorem ref_rt (a0 : FVec Ideal S8192x1024 .f32) (i : Fin 8192) :
    (Cert.NormFwdRefIdeal.Read.val_main_v11 (F := Ideal) a0 (ix2 i 0) : EReal) = rt (row a0 i) := by
  pointwise [Cert.NormFwdRefIdeal.Read.val_main_v11, Cert.NormFwdRefIdeal.Read.val_main_v10, Cert.NormFwdRefIdeal.Read.val_main_v9, Cert.NormFwdRefIdeal.Read.val_main_v8, Cert.NormFwdRefIdeal.Read.val_main_v7, Cert.NormFwdRefIdeal.Read.val_main_v6, Cert.NormFwdRefIdeal.Read.val_main_v5, Cert.NormFwdRefIdeal.Read.val_main_v4, Cert.NormFwdRefIdeal.Read.val_main_cst, Cert.NormFwdRefIdeal.Read.val_main_cst_0, Cert.NormFwdRefIdeal.Read.val_main_cst_1, rt, mean]

theorem ref_out (a0 : FVec Ideal S8192x1024 .f32) (a1 : FVec Ideal S1024 .f32) (a2 : FVec Ideal S3x1024 .f32) (i : Fin 8192) (l : Fin 1024) :
    (Cert.NormFwdRefIdeal.Read.val_main_v25 (F := Ideal) a0 a1 a2 (ix2 i l) : EReal)
      = a0 (ix2 i l) * rt (row a0 i) * a1 (ix1 l) * (1 + a2 (ix2 1 l)) + a2 (ix2 0 l) := by
  pointwise [Cert.NormFwdRefIdeal.Read.val_main_v25, Cert.NormFwdRefIdeal.Read.val_main_v24, Cert.NormFwdRefIdeal.Read.val_main_v23, Cert.NormFwdRefIdeal.Read.val_main_v22, Cert.NormFwdRefIdeal.Read.val_main_v21, Cert.NormFwdRefIdeal.Read.val_main_v20, Cert.NormFwdRefIdeal.Read.val_main_v19, Cert.NormFwdRefIdeal.Read.val_main_v18, Cert.NormFwdRefIdeal.Read.val_main_v17, Cert.NormFwdRefIdeal.Read.val_main_v16, Cert.NormFwdRefIdeal.Read.val_main_v15, Cert.NormFwdRefIdeal.Read.val_main_v14, Cert.NormFwdRefIdeal.Read.val_main_v13, Cert.NormFwdRefIdeal.Read.val_main_v12, Cert.NormFwdRefIdeal.Read.val_main_v3, Cert.NormFwdRefIdeal.Read.val_main_v2, Cert.NormFwdRefIdeal.Read.val_main_v1, Cert.NormFwdRefIdeal.Read.val_main_v0, Cert.NormFwdRefIdeal.Read.val_main_cst_2]
  rw [ref_rt]

theorem bx_at (t : Fin cfg0.N) (i : Fin 512) (l : Fin 1024) (r : Fin 8192) (h : r.val = 512 * t.val + i.val) :
    (iblk m c 0 t) (ix2 i l : S512x1024.Idx) = x0 m c (ix2 r l) := by
  unfold iblk
  refine congrArg (x0 m c) ?_
  blk_ext [idx t]

theorem bg_at (t : Fin cfg0.N) (l : Fin 1024) : (iblk m c 1 t) (ix2 0 l : S1x1024.Idx) = x1 m c (ix1 l) := by
  blk_point [iblk, V, idx t]

theorem bm_at (t : Fin cfg0.N) (k : Fin 3) (l : Fin 1024) : (iblk m c 2 t) (ix2 k l : S3x1024.Idx) = x2 m c (ix2 k l) := by
  blk_point [iblk, V, idx t]

/-- The array the norm ends in. -/
theorem final_out : (dats m 0 c).arrAt 3 (cfgs 0).N = Cert.NormFwdRefIdeal.Read.val_main_v25 (F := Ideal) (x0 m c) (x1 m c) (x2 m c) := by
  refine (dats m 0 c).arrAt_eq_of_covers 3 _ (by decide +kernel) fun t hf y => ?_
  blk_simp
  rw [after0_3]
  unfold out0_3
  frame_out
  idx_vars y
  have ht : t.val < 16 := lt_of_lt_of_eq t.isLt N_0
  have e : ((cfg0.win 3).blk t).view.emb (ix2 y0 y1) = (ix2 ⟨512 * t.val + y0.val, by omega⟩ y1 : S8192x1024.Idx) := by
    blk_ext [idx t]
  rw [pay_out]
  simp only [View.ld, row1, row0]
  refine Eq.trans ?_ (congrArg _ e).symm
  rw [ref_out]
  have hr : row (iblk m c 0 t : FVec Ideal S512x1024 .f32) y0 = row (x0 m c) ⟨512 * t.val + y0.val, by omega⟩ :=
    funext fun l => bx_at m c t y0 l ⟨512 * t.val + y0.val, by omega⟩ rfl
  have e1 : r0_2.idx (ix2 0 y1 : S1x1024.Idx) = (ix2 1 y1 : S3x1024.Idx) := row1 y1
  have e0 : r0_3.idx (ix2 0 y1 : S1x1024.Idx) = (ix2 0 y1 : S3x1024.Idx) := row0 y1
  rw [hr, e1, e0, bg_at, bm_at, bm_at, bx_at m c t y0 y1 ⟨512 * t.val + y0.val, by omega⟩ rfl]

theorem out_congr {a0 b0 a1 b1 a2 b2} (h0 : a0 = b0) (h1 : a1 = b1) (h2 : a2 = b2) :
    Cert.NormFwdRefIdeal.Read.val_main_v25 (F := Ideal) a0 a1 a2 = Cert.NormFwdRefIdeal.Read.val_main_v25 b0 b1 b2 := by
  subst h0 h1 h2; rfl

/-- The reference runs to its end and leaves its arguments alone. -/
theorem frame_ref : Cert.quiescent_NormFwdRefIdeal := fun m g _ =>
  (θ_run Cert.NormFwdRefIdeal.defs _ _).mono (fun r h => ⟨fun c => (h c).2, sem_eq_zero_of_no_sems (by decide) r.2⟩)
    (Cert.NormFwdRefIdeal.Value.run m g)

/-- Over the reals the call's result is the reference's. -/
theorem algebraic : Cert.algebraic_NormFwdIdeal_NormFwdRefIdeal := by
  intro m g m' g' _ hagree
  refine ⟨fun c => Cert.NormFwdRefIdeal.Read.val_main_v25 (F := Ideal) (x0 m c) (x1 m c) (x2 m c), ?_, ?_⟩
  · refine (θ_run Cert.NormFwdIdeal.defs _ _).mono (fun r h c => ?_) (Cert.NormFwdIdeal.Value.run_blocks m g)
    exact ⟨(h c).1.trans (final_out m c), (h c).2⟩
  · refine (θ_run Cert.NormFwdRefIdeal.defs _ _).mono (fun r h c => ?_) (Cert.NormFwdRefIdeal.Value.run m' g')
    obtain ⟨e0, e1, e2⟩ := hagree c
    exact ⟨((h c).1.trans (Cert.NormFwdRefIdeal.Read.val_main_v25_eq _ _ _)).trans (out_congr e0 e1 e2), (h c).2⟩

end Cert.NormFwdIdeal.Final
-- ==== Proof.MixFwd.lean ====
module

public import proofs.«01_k».proof.Defs
public import proofs.«01_k».proof.Proof.Gen.MixFwd.Frame
public import proofs.«01_k».proof.Proof.Gen.MixFwdIdeal.Value
public import proofs.«01_k».proof.Proof.Gen.MixFwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The merge of the three branches by their gates, through the output weights, onto the residual. -/

namespace Cert.MixFwdIdeal.Final

open Cert.MixFwdIdeal Cert.MixFwdIdeal.Gen

/-- One element of a product. -/
def part {N K : ℕ} (A : (⟨2, ![N, K]⟩ : Shape).Idx → EReal) (B : (⟨2, ![K, 1024]⟩ : Shape).Idx → EReal) (i : Fin N) (l : Fin 1024) : EReal :=
  ∑ k : Fin K, A (ix2 i k) * B (ix2 k l)

theorem part_congr {N N' K : ℕ} {A : (⟨2, ![N, K]⟩ : Shape).Idx → EReal} {A' : (⟨2, ![N', K]⟩ : Shape).Idx → EReal}
    {B B' : (⟨2, ![K, 1024]⟩ : Shape).Idx → EReal} {i : Fin N} {i' : Fin N'} (l : Fin 1024)
    (hA : ∀ k, A (ix2 i k) = A' (ix2 i' k)) (hB : ∀ k, B (ix2 k l) = B' (ix2 k l)) : part A B i l = part A' B' i' l :=
  Finset.sum_congr rfl fun k _ => by rw [hA, hB]

/-- The gate at an entry. -/
def gate (g b : EReal) : EReal := Ideal.div 1 (1 + Ideal.exp (-(g + b)))

/-- The merged branches at an entry. -/
def merged (g : Fin 3072 → EReal) (ya yb yc : EReal) (l : Fin 1024) : EReal :=
  g ⟨l.val, by omega⟩ * ya + g ⟨1024 + l.val, by omega⟩ * yb + g ⟨2048 + l.val, by omega⟩ * yc

theorem pay_a (A : FVec Ideal S256x1024 .bf16) (B : FVec Ideal S1024x1024 .bf16) (i : Fin 256) (l : Fin 1024) :
    (k0_pay5 (F := Ideal) A B (ix2 i l) : EReal) = part A B i l := by
  pointwise [k0_pay5, part]

theorem pay_b (A : FVec Ideal S256x512 .bf16) (B : FVec Ideal S512x1024 .bf16) (i : Fin 256) (l : Fin 1024) :
    (k0_pay6 (F := Ideal) A B (ix2 i l) : EReal) = part A B i l := by
  pointwise [k0_pay6, part]

theorem pay_c (A : FVec Ideal S256x512 .bf16) (B : FVec Ideal S512x1024 .bf16) (i : Fin 256) (l : Fin 1024) :
    (k0_pay7 (F := Ideal) A B (ix2 i l) : EReal) = part A B i l := by
  pointwise [k0_pay7, part]

theorem pay_g (G : FVec Ideal S256x3072 .bf16) (B : FVec Ideal S1x3072 .f32) (i : Fin 256) (j : Fin 3072) :
    (k0_pay11 (F := Ideal) G B (ix2 i j) : EReal) = -(G (ix2 i j) + B (ix2 0 j)) := by
  pointwise [k0_pay11]
  exact zero_sub (_ : EReal)

theorem pay_m (P Q S : FVec Ideal S256x1024 .f32) (Z : FVec Ideal S256x3072 .f32) (i : Fin 256) (l : Fin 1024) :
    (k0_pay1 (F := Ideal) P Q S Z (ix2 i l) : EReal)
      = merged (fun j => Ideal.div 1 (1 + Ideal.exp (Z (ix2 i j)))) (P (ix2 i l)) (Q (ix2 i l)) (S (ix2 i l)) l := by
  pointwise [k0_pay1, merged]

theorem pay_o (P Q S : FVec Ideal S256x1024 .f32) (Z : FVec Ideal S256x3072 .f32) (B : FVec Ideal S1024x1024 .bf16) (i : Fin 256) (l : Fin 1024) :
    (k0_pay2 (F := Ideal) P Q S Z B (ix2 i l) : EReal) = part (k0_pay1 (F := Ideal) P Q S Z) B i l := by
  pointwise [k0_pay2, part]

theorem pay_r (P Q S : FVec Ideal S256x1024 .f32) (Z : FVec Ideal S256x3072 .f32) (B : FVec Ideal S1024x1024 .bf16)
    (X : FVec Ideal S256x1024 .f32) (M : FVec Ideal S1x1024 .f32) (i : Fin 256) (l : Fin 1024) :
    (k0_pay4 (F := Ideal) P Q S Z B X M (ix2 i l) : EReal) = X (ix2 i l) + M (ix2 0 l) * part (k0_pay1 (F := Ideal) P Q S Z) B i l := by
  pointwise [k0_pay4]
  rw [pay_o]

/-! ## The reference -/

section
open Cert.MixFwdRefIdeal.Read
variable (a0 : FVec Ideal S8192x1024 .f32) (a1 a2 : FVec Ideal S8192x512 .f32) (a3 : FVec Ideal S8192x3072 .f32) (a4 : FVec Ideal S3072 .f32)
  (a5 : FVec Ideal S1024x1024 .f32) (a6 a7 : FVec Ideal S512x1024 .f32) (a8 : FVec Ideal S1024x1024 .f32) (a9 : FVec Ideal S8192x1024 .f32)
  (a10 : FVec Ideal S3x1024 .f32) (i : Fin 8192) (l : Fin 1024)

theorem ref_a : (val_main_v0 (F := Ideal) a0 a5 (ix2 i l) : EReal) = part a0 a5 i l := by
  pointwise [val_main_v0, part]

theorem ref_b : (val_main_v1 (F := Ideal) a1 a6 (ix2 i l) : EReal) = part a1 a6 i l := by
  pointwise [val_main_v1, part]

theorem ref_c : (val_main_v2 (F := Ideal) a2 a7 (ix2 i l) : EReal) = part a2 a7 i l := by
  pointwise [val_main_v2, part]

theorem ref_g (j : Fin 3072) : (val_main_v11 (F := Ideal) a3 a4 (ix2 i j) : EReal) = gate (a3 (ix2 i j)) (a4 (ix1 j)) := by
  pointwise [val_main_v11, val_main_v10, val_main_v9, val_main_v8, val_main_v7, val_main_v6, val_main_v5, val_main_v4, val_main_v3, val_main_cst, val_main_cst_0, gate]

/-- The merged branches, in the reference. -/
theorem ref_m : (val_main_v19 (F := Ideal) a0 a1 a2 a3 a4 a5 a6 a7 (ix2 i l) : EReal)
    = merged (fun j => gate (a3 (ix2 i j)) (a4 (ix1 j))) (part a0 a5 i l) (part a1 a6 i l) (part a2 a7 i l) l := by
  pointwise [val_main_v19, val_main_v18, val_main_v17, val_main_v16, val_main_v15, val_main_v14, val_main_v13, val_main_v12]
  simp only [ref_a, ref_b, ref_c, ref_g]
  rfl

theorem ref_o : (val_main_v20 (F := Ideal) a0 a1 a2 a3 a4 a5 a6 a7 a8 (ix2 i l) : EReal)
    = part (val_main_v19 (F := Ideal) a0 a1 a2 a3 a4 a5 a6 a7) a8 i l := by
  pointwise [val_main_v20, part]

theorem ref_r : (val_main_v31 (F := Ideal) a0 a1 a2 a3 a4 a5 a6 a7 a8 a9 a10 (ix2 i l) : EReal)
    = a9 (ix2 i l) + a10 (ix2 2 l) * part (val_main_v19 (F := Ideal) a0 a1 a2 a3 a4 a5 a6 a7) a8 i l := by
  pointwise [val_main_v31, val_main_v30, val_main_v29, val_main_v28, val_main_v27, val_main_v26]
  rw [ref_o]

end

/-! ## The blocks -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![0, 0] :=
  (by decide +kernel : ∀ t : Fin grid0.N, _)

theorem idx' : ∀ t : Fin cfg0.N, win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

abbrev x0 : FVec Ideal S8192x1024 .f32 := m (c.tc.loc main_arg0)
abbrev x1 : FVec Ideal S8192x512 .f32 := m (c.tc.loc main_arg1)
abbrev x2 : FVec Ideal S8192x512 .f32 := m (c.tc.loc main_arg2)
abbrev x3 : FVec Ideal S8192x3072 .f32 := m (c.tc.loc main_arg3)
abbrev x4 : FVec Ideal S3072 .f32 := m (c.tc.loc main_arg4)
abbrev x5 : FVec Ideal S1024x1024 .f32 := m (c.tc.loc main_arg5)
abbrev x6 : FVec Ideal S512x1024 .f32 := m (c.tc.loc main_arg6)
abbrev x7 : FVec Ideal S512x1024 .f32 := m (c.tc.loc main_arg7)
abbrev x8 : FVec Ideal S1024x1024 .f32 := m (c.tc.loc main_arg8)
abbrev x9 : FVec Ideal S8192x1024 .f32 := m (c.tc.loc main_arg9)
abbrev x10 : FVec Ideal S3x1024 .f32 := m (c.tc.loc main_arg10)

theorem V_x : V m c main_v2 = truncf .bf16 (concatenate S8192x8192 1 [⟨S8192x3072, x3 m c⟩,
      ⟨S8192x5120, (broadcastInDim S8192x5120 ![] bcast_S_S8192x5120 (constant S_ .f32 0x00000000#32) : FVec Ideal S8192x5120 .f32)⟩]
      concatenates_S8192x3072_S8192x5120_S8192x8192_d1) bitsLt_bf16_f32 := by
  rfl

theorem V_x_at (r : Fin 8192) (j : Fin 3072) : V m c main_v2 (ix2 r ⟨j.val, by omega⟩ : S8192x8192.Idx) = x3 m c (ix2 r j) := by
  rw [V_x]
  pointwise

section
variable (t : Fin cfg0.N) (i : Fin 256) (r : Fin 8192) (hr : r.val = 256 * t.val + i.val)
include hr

theorem b3_at (j : Fin 3072) : (X0_3 m c t) (ix2 i j : S256x3072.Idx) = x3 m c (ix2 r j) := by
  unfold X0_3 Pipeline.Window.fill
  rw [dif_pos (moved0_3 t _), ← V_x_at]
  unfold iblk
  refine congrArg (V m c main_v2) ?_
  blk_ext [idx t]

theorem b0_at (j : Fin 1024) : (iblk m c 0 t) (ix2 i j : S256x1024.Idx) = x0 m c (ix2 r j) := by
  obtain ⟨r, h⟩ := r
  obtain rfl : r = 256 * t.val + i.val := hr
  blk_point [iblk, V, idx t]

theorem b1_at (j : Fin 512) : (iblk m c 1 t) (ix2 i j : S256x512.Idx) = x1 m c (ix2 r j) := by
  obtain ⟨r, h⟩ := r
  obtain rfl : r = 256 * t.val + i.val := hr
  blk_point [iblk, V, idx t]

theorem b2_at (j : Fin 512) : (iblk m c 2 t) (ix2 i j : S256x512.Idx) = x2 m c (ix2 r j) := by
  obtain ⟨r, h⟩ := r
  obtain rfl : r = 256 * t.val + i.val := hr
  blk_point [iblk, V, idx t]

theorem b9_at (j : Fin 1024) : (iblk m c 9 t) (ix2 i j : S256x1024.Idx) = x9 m c (ix2 r j) := by
  obtain ⟨r, h⟩ := r
  obtain rfl : r = 256 * t.val + i.val := hr
  blk_point [iblk, V, idx t]

end

section
variable (t : Fin cfg0.N)

theorem b4_at (j : Fin 3072) : (iblk m c 4 t) (ix2 0 j : S1x3072.Idx) = x4 m c (ix1 j) := by
  blk_point [iblk, V, idx t]

theorem b5_at (k : Fin 1024) (l : Fin 1024) : (iblk m c 5 t) (ix2 k l : S1024x1024.Idx) = x5 m c (ix2 k l) := by
  blk_point [iblk, V, idx t]

theorem b6_at (k : Fin 512) (l : Fin 1024) : (iblk m c 6 t) (ix2 k l : S512x1024.Idx) = x6 m c (ix2 k l) := by
  blk_point [iblk, V, idx t]

theorem b7_at (k : Fin 512) (l : Fin 1024) : (iblk m c 7 t) (ix2 k l : S512x1024.Idx) = x7 m c (ix2 k l) := by
  blk_point [iblk, V, idx t]

theorem b8_at (k : Fin 1024) (l : Fin 1024) : (iblk m c 8 t) (ix2 k l : S1024x1024.Idx) = x8 m c (ix2 k l) := by
  blk_point [iblk, V, idx t]

theorem b10_at (k : Fin 3) (l : Fin 1024) : (iblk m c 10 t) (ix2 k l : S3x1024.Idx) = x10 m c (ix2 k l) := by
  blk_point [iblk, V, idx t]

end

/-- The branches' products, the gates and the merged branches of a point's rows. -/
abbrev kp (t : Fin cfg0.N) : FVec Ideal S256x1024 .f32 := k0_pay5 (F := Ideal) (iblk m c 0 t) (iblk m c 5 t)
abbrev kq (t : Fin cfg0.N) : FVec Ideal S256x1024 .f32 := k0_pay6 (F := Ideal) (iblk m c 1 t) (iblk m c 6 t)
abbrev ks (t : Fin cfg0.N) : FVec Ideal S256x1024 .f32 := k0_pay7 (F := Ideal) (iblk m c 2 t) (iblk m c 7 t)
abbrev kz (t : Fin cfg0.N) : FVec Ideal S256x3072 .f32 := k0_pay11 (F := Ideal) (X0_3 m c t) (iblk m c 4 t)
abbrev km (t : Fin cfg0.N) : FVec Ideal S256x1024 .bf16 := k0_pay1 (F := Ideal) (kp m c t) (kq m c t) (ks m c t) (kz m c t)

/-- The reference's merged branches. -/
abbrev rm : FVec Ideal S8192x1024 .f32 :=
  Cert.MixFwdRefIdeal.Read.val_main_v19 (F := Ideal) (x0 m c) (x1 m c) (x2 m c) (x3 m c) (x4 m c) (x5 m c) (x6 m c) (x7 m c)

section
variable (t : Fin cfg0.N) (i : Fin 256) (r : Fin 8192) (hr : r.val = 256 * t.val + i.val) (l : Fin 1024)
include hr

theorem kp_at : (kp m c t (ix2 i l) : EReal) = part (x0 m c) (x5 m c) r l := by
  refine (pay_a _ _ _ _).trans ?_
  exact part_congr l (fun k => b0_at m c t i r hr k) (fun k => b5_at m c t k l)

theorem kq_at : (kq m c t (ix2 i l) : EReal) = part (x1 m c) (x6 m c) r l := by
  refine (pay_b _ _ _ _).trans ?_
  exact part_congr l (fun k => b1_at m c t i r hr k) (fun k => b6_at m c t k l)

theorem ks_at : (ks m c t (ix2 i l) : EReal) = part (x2 m c) (x7 m c) r l := by
  refine (pay_c _ _ _ _).trans ?_
  exact part_congr l (fun k => b2_at m c t i r hr k) (fun k => b7_at m c t k l)

theorem km_at : (km m c t (ix2 i l) : EReal) = rm m c (ix2 r l) := by
  refine (pay_m _ _ _ _ _ _).trans (Eq.trans ?_ (ref_m _ _ _ _ _ _ _ _ _ _).symm)
  rw [kp_at m c t i r hr, kq_at m c t i r hr, ks_at m c t i r hr]
  refine congrArg (fun g => merged g _ _ _ l) (funext fun j => ?_)
  have e : (kz m c t (ix2 i j) : EReal) = -(x3 m c (ix2 r j) + x4 m c (ix1 j)) := by
    refine (pay_g _ _ _ _).trans ?_
    rw [b3_at m c t i r hr, b4_at]
  exact congrArg (fun z : EReal => Ideal.div 1 (1 + Ideal.exp z)) e

theorem ko_at : part (km m c t) (iblk m c 8 t : FVec Ideal S1024x1024 .bf16) i l = part (rm m c) (x8 m c) r l :=
  part_congr l (fun k => km_at m c t i r hr k) (fun k => b8_at m c t k l)

end

theorem ld_row (W : FVec Ideal S3x1024 .f32) (l : Fin 1024) :
    View.ld (Val := Elt Ideal) (e' := .f32) W (Rect.unit (s := S3x1024) ![2, 0] ![1, 1024] inb_S3x1024_S1x1024_2_0) (ix2 0 l) = W (ix2 2 l) := by
  show W ((Rect.unit (s := S3x1024) ![2, 0] ![1, 1024] inb_S3x1024_S1x1024_2_0).idx (ix2 0 l : S1x1024.Idx)) = _
  refine congrArg W (funext fun a => Fin.ext ?_)
  fin_cases a <;> simp [LoadRect.idx, Rect.unit, ix2]

/-! ## The arrays the call ends in -/

theorem final_a : (dats m 0 c).arrAt 11 (cfgs 0).N = Cert.MixFwdRefIdeal.Read.val_main_v21 (F := Ideal) (x0 m c) (x5 m c) := by
  refine (dats m 0 c).arrAt_eq_of_covers 11 _ (by decide +kernel) fun t hf y => ?_
  blk_simp
  rw [after0_11]
  unfold outsAt0 out0_A_11
  frame_out
  idx_vars y
  have ht : t.val < 32 := lt_of_lt_of_eq t.isLt N_0
  have e : ((cfg0.win 11).blk t).view.emb (ix2 y0 y1) = (ix2 ⟨256 * t.val + y0.val, by omega⟩ y1 : S8192x1024.Idx) := by
    blk_ext [idx' t]
  refine Eq.trans ?_ (congrArg _ e).symm
  refine (show _ = (kp m c t (ix2 y0 y1) : EReal) from rfl).trans ?_
  exact (kp_at m c t y0 ⟨256 * t.val + y0.val, by omega⟩ rfl y1).trans (ref_a _ _ _ _).symm

theorem final_b : (dats m 0 c).arrAt 12 (cfgs 0).N = Cert.MixFwdRefIdeal.Read.val_main_v22 (F := Ideal) (x1 m c) (x6 m c) := by
  refine (dats m 0 c).arrAt_eq_of_covers 12 _ (by decide +kernel) fun t hf y => ?_
  blk_simp
  rw [after0_12]
  unfold outsAt0 out0_A_12
  frame_out
  idx_vars y
  have ht : t.val < 32 := lt_of_lt_of_eq t.isLt N_0
  have e : ((cfg0.win 12).blk t).view.emb (ix2 y0 y1) = (ix2 ⟨256 * t.val + y0.val, by omega⟩ y1 : S8192x1024.Idx) := by
    blk_ext [idx' t]
  refine Eq.trans ?_ (congrArg _ e).symm
  refine (show _ = (kq m c t (ix2 y0 y1) : EReal) from rfl).trans ?_
  exact (kq_at m c t y0 ⟨256 * t.val + y0.val, by omega⟩ rfl y1).trans (ref_b _ _ _ _).symm

theorem final_c : (dats m 0 c).arrAt 13 (cfgs 0).N = Cert.MixFwdRefIdeal.Read.val_main_v23 (F := Ideal) (x2 m c) (x7 m c) := by
  refine (dats m 0 c).arrAt_eq_of_covers 13 _ (by decide +kernel) fun t hf y => ?_
  blk_simp
  rw [after0_13]
  unfold outsAt0 out0_A_13
  frame_out
  idx_vars y
  have ht : t.val < 32 := lt_of_lt_of_eq t.isLt N_0
  have e : ((cfg0.win 13).blk t).view.emb (ix2 y0 y1) = (ix2 ⟨256 * t.val + y0.val, by omega⟩ y1 : S8192x1024.Idx) := by
    blk_ext [idx' t]
  refine Eq.trans ?_ (congrArg _ e).symm
  refine (show _ = (ks m c t (ix2 y0 y1) : EReal) from rfl).trans ?_
  exact (ks_at m c t y0 ⟨256 * t.val + y0.val, by omega⟩ rfl y1).trans (ref_c _ _ _ _).symm

theorem final_m : (dats m 0 c).arrAt 14 (cfgs 0).N = Cert.MixFwdRefIdeal.Read.val_main_v24 (F := Ideal) (x0 m c) (x1 m c) (x2 m c) (x3 m c) (x4 m c) (x5 m c) (x6 m c) (x7 m c) := by
  refine (dats m 0 c).arrAt_eq_of_covers 14 _ (by decide +kernel) fun t hf y => ?_
  blk_simp
  rw [after0_14]
  unfold outsAt0 out0_A_14
  frame_out
  idx_vars y
  have ht : t.val < 32 := lt_of_lt_of_eq t.isLt N_0
  have e : ((cfg0.win 14).blk t).view.emb (ix2 y0 y1) = (ix2 ⟨256 * t.val + y0.val, by omega⟩ y1 : S8192x1024.Idx) := by
    blk_ext [idx' t]
  refine Eq.trans ?_ (congrArg _ e).symm
  refine (show _ = (km m c t (ix2 y0 y1) : EReal) from rfl).trans ?_
  exact km_at m c t y0 ⟨256 * t.val + y0.val, by omega⟩ rfl y1

theorem final_o : (dats m 0 c).arrAt 15 (cfgs 0).N = Cert.MixFwdRefIdeal.Read.val_main_v25 (F := Ideal) (x0 m c) (x1 m c) (x2 m c) (x3 m c) (x4 m c) (x5 m c) (x6 m c) (x7 m c) (x8 m c) := by
  refine (dats m 0 c).arrAt_eq_of_covers 15 _ (by decide +kernel) fun t hf y => ?_
  blk_simp
  rw [after0_15]
  unfold outsAt0 out0_A_15
  frame_out
  idx_vars y
  have ht : t.val < 32 := lt_of_lt_of_eq t.isLt N_0
  have e : ((cfg0.win 15).blk t).view.emb (ix2 y0 y1) = (ix2 ⟨256 * t.val + y0.val, by omega⟩ y1 : S8192x1024.Idx) := by
    blk_ext [idx' t]
  refine Eq.trans ?_ (congrArg _ e).symm
  refine (show _ = (k0_pay2 (F := Ideal) (kp m c t) (kq m c t) (ks m c t) (kz m c t) (iblk m c 8 t) (ix2 y0 y1) : EReal) from rfl).trans ?_
  rw [pay_o]
  exact (ko_at m c t y0 ⟨256 * t.val + y0.val, by omega⟩ rfl y1).trans (ref_o _ _ _ _ _ _ _ _ _ _ _).symm

theorem final_r : (dats m 0 c).arrAt 16 (cfgs 0).N = Cert.MixFwdRefIdeal.Read.val_main_v31 (F := Ideal) (x0 m c) (x1 m c) (x2 m c) (x3 m c) (x4 m c) (x5 m c) (x6 m c) (x7 m c) (x8 m c) (x9 m c) (x10 m c) := by
  refine (dats m 0 c).arrAt_eq_of_covers 16 _ (by decide +kernel) fun t hf y => ?_
  blk_simp
  rw [after0_16]
  unfold outsAt0 out0_A_16
  frame_out
  idx_vars y
  have ht : t.val < 32 := lt_of_lt_of_eq t.isLt N_0
  have e : ((cfg0.win 16).blk t).view.emb (ix2 y0 y1) = (ix2 ⟨256 * t.val + y0.val, by omega⟩ y1 : S8192x1024.Idx) := by
    blk_ext [idx' t]
  refine Eq.trans ?_ (congrArg _ e).symm
  refine (pay_r (kp m c t) (kq m c t) (ks m c t) (kz m c t) (iblk m c 8 t) (iblk m c 9 t) _ y0 y1).trans ?_
  rw [ld_row, b10_at, b9_at m c t y0 ⟨256 * t.val + y0.val, by omega⟩ rfl, ko_at m c t y0 ⟨256 * t.val + y0.val, by omega⟩ rfl]
  exact (ref_r _ _ _ _ _ _ _ _ _ _ _ _ _).symm

theorem congr_a {a0 b0 a5 b5} (h0 : a0 = b0) (h5 : a5 = b5) :
    Cert.MixFwdRefIdeal.Read.val_main_v21 (F := Ideal) a0 a5 = Cert.MixFwdRefIdeal.Read.val_main_v21 b0 b5 := by
  subst h0 h5; rfl

theorem congr_b {a1 b1 a6 b6} (h1 : a1 = b1) (h6 : a6 = b6) :
    Cert.MixFwdRefIdeal.Read.val_main_v22 (F := Ideal) a1 a6 = Cert.MixFwdRefIdeal.Read.val_main_v22 b1 b6 := by
  subst h1 h6; rfl

theorem congr_c {a2 b2 a7 b7} (h2 : a2 = b2) (h7 : a7 = b7) :
    Cert.MixFwdRefIdeal.Read.val_main_v23 (F := Ideal) a2 a7 = Cert.MixFwdRefIdeal.Read.val_main_v23 b2 b7 := by
  subst h2 h7; rfl

theorem congr_m {a0 b0 a1 b1 a2 b2 a3 b3 a4 b4 a5 b5 a6 b6 a7 b7} (h0 : a0 = b0) (h1 : a1 = b1) (h2 : a2 = b2) (h3 : a3 = b3) (h4 : a4 = b4) (h5 : a5 = b5) (h6 : a6 = b6) (h7 : a7 = b7) :
    Cert.MixFwdRefIdeal.Read.val_main_v24 (F := Ideal) a0 a1 a2 a3 a4 a5 a6 a7 = Cert.MixFwdRefIdeal.Read.val_main_v24 b0 b1 b2 b3 b4 b5 b6 b7 := by
  subst h0 h1 h2 h3 h4 h5 h6 h7; rfl

theorem congr_o {a0 b0 a1 b1 a2 b2 a3 b3 a4 b4 a5 b5 a6 b6 a7 b7 a8 b8} (h0 : a0 = b0) (h1 : a1 = b1) (h2 : a2 = b2) (h3 : a3 = b3) (h4 : a4 = b4) (h5 : a5 = b5) (h6 : a6 = b6) (h7 : a7 = b7) (h8 : a8 = b8) :
    Cert.MixFwdRefIdeal.Read.val_main_v25 (F := Ideal) a0 a1 a2 a3 a4 a5 a6 a7 a8 = Cert.MixFwdRefIdeal.Read.val_main_v25 b0 b1 b2 b3 b4 b5 b6 b7 b8 := by
  subst h0 h1 h2 h3 h4 h5 h6 h7 h8; rfl

theorem congr_r {a0 b0 a1 b1 a2 b2 a3 b3 a4 b4 a5 b5 a6 b6 a7 b7 a8 b8 a9 b9 a10 b10} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    Cert.MixFwdRefIdeal.Read.val_main_v31 (F := Ideal) a0 a1 a2 a3 a4 a5 a6 a7 a8 a9 a10 = Cert.MixFwdRefIdeal.Read.val_main_v31 b0 b1 b2 b3 b4 b5 b6 b7 b8 b9 b10 := by
  subst h0 h1 h2 h3 h4 h5 h6 h7 h8 h9 h10; rfl

/-- The reference runs to its end and leaves its arguments alone. -/
theorem frame_ref : Cert.quiescent_MixFwdRefIdeal := fun m g _ =>
  (θ_run Cert.MixFwdRefIdeal.defs _ _).mono (fun r h => ⟨fun c => (h c).2.2.2.2.2.2, sem_eq_zero_of_no_sems (by decide) r.2⟩)
    (Cert.MixFwdRefIdeal.Value.run m g)

/-- Over the reals the call's six results are the reference's. -/
theorem algebraic : Cert.algebraic_MixFwdIdeal_MixFwdRefIdeal := by
  intro m g m' g' _ hagree
  refine ⟨fun c => Cert.MixFwdRefIdeal.Read.val_main_v21 (F := Ideal) (x0 m c) (x5 m c),
    fun c => Cert.MixFwdRefIdeal.Read.val_main_v22 (F := Ideal) (x1 m c) (x6 m c),
    fun c => Cert.MixFwdRefIdeal.Read.val_main_v23 (F := Ideal) (x2 m c) (x7 m c),
    fun c => Cert.MixFwdRefIdeal.Read.val_main_v24 (F := Ideal) (x0 m c) (x1 m c) (x2 m c) (x3 m c) (x4 m c) (x5 m c) (x6 m c) (x7 m c),
    fun c => Cert.MixFwdRefIdeal.Read.val_main_v25 (F := Ideal) (x0 m c) (x1 m c) (x2 m c) (x3 m c) (x4 m c) (x5 m c) (x6 m c) (x7 m c) (x8 m c),
    fun c => Cert.MixFwdRefIdeal.Read.val_main_v31 (F := Ideal) (x0 m c) (x1 m c) (x2 m c) (x3 m c) (x4 m c) (x5 m c) (x6 m c) (x7 m c) (x8 m c) (x9 m c) (x10 m c), ?_, ?_⟩
  · refine (θ_run Cert.MixFwdIdeal.defs _ _).mono (fun r h c => ?_) (Cert.MixFwdIdeal.Value.run_blocks m g)
    exact ⟨(h c).1.trans (final_a m c), (h c).2.1.trans (final_b m c), (h c).2.2.1.trans (final_c m c), (h c).2.2.2.1.trans (final_m m c), (h c).2.2.2.2.1.trans (final_o m c), (h c).2.2.2.2.2.1.trans (final_r m c), (h c).2.2.2.2.2.2⟩
  · refine (θ_run Cert.MixFwdRefIdeal.defs _ _).mono (fun r h c => ?_) (Cert.MixFwdRefIdeal.Value.run m' g')
    obtain ⟨e0, e1, e2, e3, e4, e5, e6, e7, e8, e9, e10⟩ := hagree c
    exact ⟨((h c).1.trans (Cert.MixFwdRefIdeal.Read.val_main_v21_eq _ _)).trans (congr_a e0 e5),
      ((h c).2.1.trans (Cert.MixFwdRefIdeal.Read.val_main_v22_eq _ _)).trans (congr_b e1 e6),
      ((h c).2.2.1.trans (Cert.MixFwdRefIdeal.Read.val_main_v23_eq _ _)).trans (congr_c e2 e7),
      ((h c).2.2.2.1.trans (Cert.MixFwdRefIdeal.Read.val_main_v24_eq _ _ _ _ _ _ _ _)).trans (congr_m e0 e1 e2 e3 e4 e5 e6 e7),
      ((h c).2.2.2.2.1.trans (Cert.MixFwdRefIdeal.Read.val_main_v25_eq _ _ _ _ _ _ _ _ _)).trans (congr_o e0 e1 e2 e3 e4 e5 e6 e7 e8),
      ((h c).2.2.2.2.2.1.trans (Cert.MixFwdRefIdeal.Read.val_main_v31_eq _ _ _ _ _ _ _ _ _ _ _)).trans (congr_r e0 e1 e2 e3 e4 e5 e6 e7 e8 e9 e10),
      (h c).2.2.2.2.2.2⟩

end Cert.MixFwdIdeal.Final
-- ==== Proof.ScFwd.lean ====
module

public import proofs.«01_k».proof.Defs
public import proofs.«01_k».proof.Proof.Gen.ScFwd.Frame
public import proofs.«01_k».proof.Proof.Gen.ScFwdIdeal.Value
public import proofs.«01_k».proof.Proof.Gen.ScFwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The gated short convolution. -/

namespace Cert.ScFwdIdeal.Final

open Cert.ScFwdIdeal Cert.ScFwdIdeal.Gen

variable (m : (ℓ : Loc nD τ sig) → Buf (Elt Ideal) ℓ) (c : Dev nD)

theorem idx : ∀ t : Fin cfg0.N, win0_0.index t = ![if t.val = 0 then 0 else 32 * t.val - 1, 2] ∧ win0_1.index t = ![t.val, 2]
    ∧ win0_2.index t = ![0, 0] ∧ win0_3.index t = ![t.val, 0] :=
  (by decide +kernel : ∀ t : Fin grid0.N, _)

abbrev x0 : FVec Ideal S8192x1536 .f32 := m (c.tc.loc main_arg0)
abbrev x1 : FVec Ideal S3x512 .f32 := m (c.tc.loc main_arg1)

/-- The pieces of the buffer that holds the rows before a tile and the tile's own. -/
abbrev front (A : FVec Ideal S16x512 .f32) (B : FVec Ideal S512x512 .f32) : List (View.Piece (Elt Ideal) S528x512 .f32) :=
  [⟨Rect.unit ![16, 0] ![512, 512] inb_S528x512_S512x512_16_0, B⟩, ⟨Rect.unit ![0, 0] ![16, 512] inb_S528x512_S16x512_0_0, A⟩]

theorem front_lo (A : FVec Ideal S16x512 .f32) (B : FVec Ideal S512x512 .f32) (j : Fin 16) (l : Fin 512) :
    View.canon (front A B) (ix2 ⟨j.val, by omega⟩ l : S528x512.Idx) = A (ix2 j l) := by
  have e : (ix2 ⟨j.val, by omega⟩ l : S528x512.Idx) = (Rect.unit (s := S528x512) ![0, 0] ![16, 512] inb_S528x512_S16x512_0_0).emb (ix2 j l : S16x512.Idx) := by
    blk_ext
  rw [e]
  exact (View.canon_cons_of_not_mem _ _ (LoadRect.idx_not_mem_of_disj (by dsimp only; decide) _)).trans (View.canon_cons_emb _ _ _ _)

theorem front_hi (A : FVec Ideal S16x512 .f32) (B : FVec Ideal S512x512 .f32) (j : Fin 512) (l : Fin 512) :
    View.canon (front A B) (ix2 ⟨16 + j.val, by omega⟩ l : S528x512.Idx) = B (ix2 j l) := by
  have e : (ix2 ⟨16 + j.val, by omega⟩ l : S528x512.Idx) = (Rect.unit (s := S528x512) ![16, 0] ![512, 512] inb_S528x512_S512x512_16_0).emb (ix2 j l : S512x512.Idx) := by
    blk_ext
  rw [e, View.canon_cons_emb]

theorem front_ld (A : FVec Ideal S16x512 .f32) (B : FVec Ideal S512x512 .f32) (o : ℕ) (ho : o ≤ 16) (inb) (i l : Fin 512) :
    (View.whole cc0_scratch0).readCov (front A B) (Rect.unit (s := S528x512) ![o, 0] ![512, 512] inb).toLoadRect (ix2 i l)
      = View.canon (front A B) (ix2 ⟨o + i.val, by omega⟩ l : S528x512.Idx) := by
  rw [View.readCov_eq_canon']
  refine congrArg (View.canon (front A B)) (funext fun a => Fin.ext ?_)
  fin_cases a <;> simp [LoadRect.idx, Rect.unit, ix2]

theorem first : ∀ t : Fin cfg0.N, Scalar.cmpi .eq (BitVec.ofNat 32 (grid0.coords t 0).val) 0#32 = if t.val = 0 then 1#1 else 0#1 :=
  (by decide +kernel : ∀ t : Fin grid0.N, _)

theorem pay_halo (t : Fin cfg0.N) (X : FVec Ideal S16x1536 .bf16) (j : Fin 16) (l : Fin 512) :
    (k0_pay3 (F := Ideal) (grid0.coords t) X (ix2 j l) : EReal)
      = if t.val = 0 then 0 else (X (ix2 j ⟨512 + l.val, by omega⟩) : EReal) * X (ix2 j ⟨1024 + l.val, by omega⟩) := by
  unfold k0_pay3
  dsimp only
  rw [first t]
  split
  · pointwise
  · pointwise

theorem pay_prod (X : FVec Ideal S512x1536 .bf16) (j : Fin 512) (l : Fin 512) :
    (k0_pay4 (F := Ideal) X (ix2 j l) : EReal) = (X (ix2 j ⟨512 + l.val, by omega⟩) : EReal) * X (ix2 j ⟨1024 + l.val, by omega⟩) := by
  pointwise [k0_pay4, k0_pay2]

theorem pay_out (Q0 Q1 Q2 : FVec Ideal S512x512 .f32) (W0 W1 W2 : FVec Ideal S1x512 .f32) (X : FVec Ideal S512x1536 .bf16) (i l : Fin 512) :
    (k0_pay1 (F := Ideal) (k0_pay2 X) (k0_pay5 Q0 W0 Q1 W1 Q2 W2) (ix2 i l) : EReal)
      = X (ix2 i ⟨l.val, by omega⟩) * (Q0 (ix2 i l) * W0 (ix2 0 l) + Q1 (ix2 i l) * W1 (ix2 0 l) + Q2 (ix2 i l) * W2 (ix2 0 l)) := by
  pointwise [k0_pay1, k0_pay5, k0_pay2]

theorem V_x : V m c main_v3 = truncf .bf16 (concatenate S8192x8192 1 [⟨S8192x3072, (broadcastInDim S8192x3072 ![] bcast_S_S8192x3072 (constant S_ .f32 0x00000000#32) : FVec Ideal S8192x3072 .f32)⟩,
      ⟨S8192x1536, x0 m c⟩, ⟨S8192x3584, (broadcastInDim S8192x3584 ![] bcast_S_S8192x3584 (constant S_ .f32 0x00000000#32) : FVec Ideal S8192x3584 .f32)⟩]
      concatenates_S8192x3072_S8192x1536_S8192x3584_S8192x8192_d1) bitsLt_bf16_f32 := by
  rfl

theorem V_x_at (r : Fin 8192) (j : Fin 1536) : V m c main_v3 (ix2 r ⟨3072 + j.val, by omega⟩ : S8192x8192.Idx) = x0 m c (ix2 r j) := by
  rw [V_x]
  pointwise

theorem bx_at (t : Fin cfg0.N) (i : Fin 512) (j : Fin 1536) (r : Fin 8192) (h : r.val = 512 * t.val + i.val) :
    (X0_1 m c t) (ix2 i j : S512x1536.Idx) = x0 m c (ix2 r j) := by
  unfold X0_1 Pipeline.Window.fill
  rw [dif_pos (moved0_1 t _), ← V_x_at]
  unfold iblk
  refine congrArg (V m c main_v3) ?_
  blk_ext [idx t]

/-- The product the convolution runs over, at a row. -/
def pr (a0 : FVec Ideal S8192x1536 .f32) (r : Fin 8192) (l : Fin 512) : EReal :=
  (a0 (ix2 r ⟨512 + l.val, by omega⟩) : EReal) * a0 (ix2 r ⟨1024 + l.val, by omega⟩)

theorem bp_at (t : Fin cfg0.N) (i : Fin 16) (j : Fin 1536) (r : Fin 8192) (h0 : t.val ≠ 0) (h : r.val + 16 = 512 * t.val + i.val) :
    (X0_0 m c t) (ix2 i j : S16x1536.Idx) = x0 m c (ix2 r j) := by
  unfold X0_0 Pipeline.Window.fill
  rw [dif_pos (moved0_0 t _), ← V_x_at]
  unfold iblk
  refine congrArg (V m c main_v3) ?_
  have e := (idx t).1
  rw [if_neg h0] at e
  blk_ext [e]

theorem bw_at (t : Fin cfg0.N) (k : Fin 3) (l : Fin 512) : (iblk m c 2 t) (ix2 k l : S3x512.Idx) = x1 m c (ix2 k l) := by
  blk_point [iblk, V, idx t]

/-- The buffer holds the products of the rows from sixteen before the tile on, zeros before the first row. -/
theorem front_val (t : Fin cfg0.N) (i : Fin 528) (l : Fin 512) :
    View.canon (front (k0_pay3 (F := Ideal) (grid0.coords t) (X0_0 m c t)) (k0_pay4 (X0_1 m c t))) (ix2 i l : S528x512.Idx)
      = if h : 16 ≤ 512 * t.val + i.val then pr (x0 m c) ⟨512 * t.val + i.val - 16, by have := lt_of_lt_of_eq t.isLt N_0; omega⟩ l else (0 : EReal) := by
  have ht : t.val < 16 := lt_of_lt_of_eq t.isLt N_0
  by_cases hi : i.val < 16
  · rw [show (ix2 i l : S528x512.Idx) = ix2 ⟨(⟨i.val, hi⟩ : Fin 16).val, by omega⟩ l from rfl, front_lo, pay_halo]
    by_cases h0 : t.val = 0
    · rw [if_pos h0, dif_neg (by omega)]
    · rw [if_neg h0, dif_pos (by omega)]
      unfold pr
      rw [bp_at m c t _ _ ⟨512 * t.val + i.val - 16, by omega⟩ h0 (by show _ - 16 + 16 = _; simp only []; omega),
        bp_at m c t _ _ ⟨512 * t.val + i.val - 16, by omega⟩ h0 (by show _ - 16 + 16 = _; simp only []; omega)]
  · rw [show (ix2 i l : S528x512.Idx) = ix2 ⟨16 + (⟨i.val - 16, by omega⟩ : Fin 512).val, by simp only []; omega⟩ l from
      congrArg (fun q : Fin 528 => (ix2 q l : S528x512.Idx)) (Fin.ext (by simp only []; omega)), front_hi, pay_prod, dif_pos (by omega)]
    unfold pr
    rw [bx_at m c t _ _ ⟨512 * t.val + i.val - 16, by omega⟩ (by simp only []; omega), bx_at m c t _ _ ⟨512 * t.val + i.val - 16, by omega⟩ (by simp only []; omega)]

/-- The products `k` rows from two above a row on. -/
def sh (a0 : FVec Ideal S8192x1536 .f32) (k : Fin 3) (r : Fin 8192) (l : Fin 512) : EReal :=
  if h : 2 ≤ r.val + k.val then pr a0 ⟨r.val + k.val - 2, by omega⟩ l else 0

/-- The buffer of a point. -/
abbrev fr (t : Fin cfg0.N) : List (View.Piece (Elt Ideal) S528x512 .f32) := front (k0_pay3 (F := Ideal) (grid0.coords t) (X0_0 m c t)) (k0_pay4 (X0_1 m c t))

section
variable (t : Fin cfg0.N) (i l : Fin 512) (r : Fin 8192)

theorem fr_at (o : ℕ) (inb) (k : Fin 3) (ho : o = 14 + k.val) (hr : r.val = 512 * t.val + i.val) :
    (View.whole cc0_scratch0).readCov (fr m c t) (Rect.unit (s := S528x512) ![o, 0] ![512, 512] inb).toLoadRect (ix2 i l) = sh (x0 m c) k r l := by
  rw [front_ld _ _ o (by omega), front_val]
  unfold sh
  by_cases h : 2 ≤ r.val + k.val
  · rw [dif_pos h, dif_pos (by simp only []; omega)]
    exact congrArg (fun q => pr (x0 m c) q l) (Fin.ext (by simp only []; omega))
  · rw [dif_neg h, dif_neg (by simp only []; omega)]

end

theorem ld_row (W : FVec Ideal S3x512 .f32) (o : ℕ) (inb) (k : Fin 3) (ho : o = k.val) (l : Fin 512) :
    View.ld (Val := Elt Ideal) (e' := .f32) W (Rect.unit (s := S3x512) ![o, 0] ![1, 512] inb) (ix2 0 l) = W (ix2 k l) := by
  show W ((Rect.unit (s := S3x512) ![o, 0] ![1, 512] inb).idx (ix2 0 l : S1x512.Idx)) = _
  refine congrArg W (funext fun a => Fin.ext ?_)
  fin_cases a <;> simp [LoadRect.idx, Rect.unit, ix2, ho]

theorem three {a b d a' b' d' u v w : EReal} (ha : a = a') (hb : b = b') (hd : d = d') : a * u + b * v + d * w = a' * u + b' * v + d' * w := by
  rw [ha, hb, hd]

/-- The convolution at a row. -/
def cv (a0 : FVec Ideal S8192x1536 .f32) (a1 : FVec Ideal S3x512 .f32) (r : Fin 8192) (l : Fin 512) : EReal :=
  sh a0 0 r l * a1 (ix2 0 l) + sh a0 1 r l * a1 (ix2 1 l) + sh a0 2 r l * a1 (ix2 2 l)

/-- What a point leaves in its rows. -/
theorem kq (t : Fin cfg0.N) (i l : Fin 512) (r : Fin 8192) (hr : r.val = 512 * t.val + i.val) :
    outsAt0 m c t (ix2 i l) = (x0 m c (ix2 r ⟨l.val, by omega⟩) : EReal) * cv (x0 m c) (x1 m c) r l := by
  unfold outsAt0 out0_A_3
  frame_out
  rw [pay_out, ld_row _ 0 _ 0 rfl, ld_row _ 1 _ 1 rfl, ld_row _ 2 _ 2 rfl, bw_at, bw_at, bw_at, bx_at m c t i _ r hr]
  unfold cv
  exact congrArg (HMul.hMul (α := EReal) (β := EReal) (x0 m c (ix2 r ⟨l.val, by omega⟩)))
    (three (fr_at m c t i l r 14 _ 0 rfl hr) (fr_at m c t i l r 15 _ 1 rfl hr) (fr_at m c t i l r 16 _ 2 rfl hr))

/-! ## The reference -/

section
open Cert.ScFwdRefIdeal.Read
variable (a0 : FVec Ideal S8192x1536 .f32) (a1 : FVec Ideal S3x512 .f32)

theorem ref_p (r : Fin 8192) (l : Fin 512) : (val_main_v3 (F := Ideal) a0 (ix2 r l) : EReal) = sh a0 2 r l := by
  unfold sh
  rw [dif_pos (by show 2 ≤ r.val + 2; omega)]
  pointwise [val_main_v3, val_main_v1, val_main_v2, pr]
  rfl

theorem ref_s0 (r : Fin 8192) (l : Fin 512) : (val_main_v8 (F := Ideal) a0 (ix2 r l) : EReal) = sh a0 0 r l := by
  pointwise [val_main_v8, val_main_v7, val_main_v6, val_main_cst, val_main_v3, val_main_v1, val_main_v2]
  unfold sh pr
  by_cases h : r.val < 2
  · rw [dif_pos h, dif_neg (by show ¬ 2 ≤ r.val + 0; omega)]
  · rw [dif_neg h, dif_pos (by show 2 ≤ r.val + 0; omega)]
    rfl

theorem ref_s1 (r : Fin 8192) (l : Fin 512) : (val_main_v18 (F := Ideal) a0 (ix2 r l) : EReal) = sh a0 1 r l := by
  pointwise [val_main_v18, val_main_v17, val_main_v16, val_main_cst_1, val_main_v3, val_main_v1, val_main_v2]
  unfold sh pr
  have e : ∀ h h', (⟨r.val - 1, h⟩ : Fin 8192) = ⟨r.val + (1 : Fin 3).val - 2, h'⟩ := fun h h' => Fin.ext (by show r.val - 1 = r.val + 1 - 2; omega)
  by_cases h : r.val < 1
  · rw [dif_pos h, dif_neg (by show ¬ 2 ≤ r.val + 1; omega)]
  · rw [dif_neg h, dif_pos (by show 2 ≤ r.val + 1; omega), e]

theorem ref_out (r : Fin 8192) (l : Fin 512) :
    (val_main_v30 (F := Ideal) a0 a1 (ix2 r l) : EReal) = a0 (ix2 r ⟨l.val, by omega⟩) * cv a0 a1 r l := by
  pointwise [val_main_v30, val_main_v29, val_main_v28, val_main_v27, val_main_v26, val_main_v25, val_main_v24, val_main_v23, val_main_v22, val_main_v21, val_main_v20, val_main_v19, val_main_v15, val_main_v14, val_main_v13, val_main_v12, val_main_v11, val_main_v10, val_main_v9, val_main_v5, val_main_v4, val_main_v0, val_main_cst_0]
  rw [ref_p, ref_s0, ref_s1]
  unfold cv
  rw [mul_comm (a1 (ix2 0 l) : EReal), mul_comm (a1 (ix2 1 l) : EReal), mul_comm (a1 (ix2 2 l) : EReal)]

end

/-- The array the convolution ends in. -/
theorem final_out : (dats m 0 c).arrAt 3 (cfgs 0).N = Cert.ScFwdRefIdeal.Read.val_main_v30 (F := Ideal) (x0 m c) (x1 m c) := by
  refine (dats m 0 c).arrAt_eq_of_covers 3 _ (by decide +kernel) fun t hf y => ?_
  blk_simp
  rw [after0_3]
  idx_vars y
  have ht : t.val < 16 := lt_of_lt_of_eq t.isLt N_0
  have e : ((cfg0.win 3).blk t).view.emb (ix2 y0 y1) = (ix2 ⟨512 * t.val + y0.val, by omega⟩ y1 : S8192x512.Idx) := by
    blk_ext [idx t]
  refine Eq.trans ?_ (congrArg _ e).symm
  rw [ref_out]
  exact kq m c t y0 y1 ⟨512 * t.val + y0.val, by omega⟩ rfl

theorem out_congr {a0 b0 a1 b1} (h0 : a0 = b0) (h1 : a1 = b1) :
    Cert.ScFwdRefIdeal.Read.val_main_v30 (F := Ideal) a0 a1 = Cert.ScFwdRefIdeal.Read.val_main_v30 b0 b1 := by
  subst h0 h1; rfl

/-- The reference runs to its end and leaves its arguments alone. -/
theorem frame_ref : Cert.quiescent_ScFwdRefIdeal := fun m g _ =>
  (θ_run Cert.ScFwdRefIdeal.defs _ _).mono (fun r h => ⟨fun c => (h c).2, sem_eq_zero_of_no_sems (by decide) r.2⟩)
    (Cert.ScFwdRefIdeal.Value.run m g)

/-- Over the reals the call's result is the reference's. -/
theorem algebraic : Cert.algebraic_ScFwdIdeal_ScFwdRefIdeal := by
  intro m g m' g' _ hagree
  refine ⟨fun c => Cert.ScFwdRefIdeal.Read.val_main_v30 (F := Ideal) (x0 m c) (x1 m c), ?_, ?_⟩
  · refine (θ_run Cert.ScFwdIdeal.defs _ _).mono (fun r h c => ?_) (Cert.ScFwdIdeal.Value.run_blocks m g)
    exact ⟨(h c).1.trans (final_out m c), (h c).2⟩
  · refine (θ_run Cert.ScFwdRefIdeal.defs _ _).mono (fun r h c => ?_) (Cert.ScFwdRefIdeal.Value.run m' g')
    obtain ⟨e0, e1⟩ := hagree c
    exact ⟨((h c).1.trans (Cert.ScFwdRefIdeal.Read.val_main_v30_eq _ _)).trans (out_congr e0 e1), (h c).2⟩

end Cert.ScFwdIdeal.Final
-- ==== Proof.SsdPreFwd.lean ====
module

public import proofs.«01_k».proof.Defs
public import proofs.«01_k».proof.Proof.Gen.SsdPreFwd.Frame
public import proofs.«01_k».proof.Proof.Gen.SsdPreFwdIdeal.Value
public import proofs.«01_k».proof.Proof.Gen.SsdPreFwdRefIdeal.Read
public import Idealize.ShloMosaic.Lib.Pipeline.ValueKit
public import Idealize.ShloMosaic.Lib.Pipeline.ReadBack
public import Idealize.ShloMosaic.Lib.Pointwise
public import Idealize.ShloMosaic.Adequacy

@[expose] public section

set_option backward.proofsInPublic true
set_option maxRecDepth 16384

noncomputable section

open Idealize.ShloMosaic Idealize.ShloMosaic.TcCoe Idealize.SL.Sem
open Idealize.ShloMosaic.Pipeline (Dat)

/-! The convolution before the scan and its gate. -/

namespace Cert.SsdPreFwdIdeal.Final

open Cert.SsdPreFwdIdeal Cert.SsdPreFwdIdeal.Gen

variable (m : (ℓ : Loc nD τ sig) → Buf (Elt Ideal) ℓ) (c : Dev nD)

theorem idx : ∀ t : Fin cfg0.N, win0_0.index t = ![if t.val = 0 then 0 else 32 * t.val - 1, 3] ∧ win0_1.index t = ![t.val, 3]
    ∧ win0_2.index t = ![0, 0] ∧ win0_3.index t = ![0, 0] ∧ win0_4.index t = ![t.val, 0] ∧ win0_5.index t = ![t.val, 0] :=
  (by decide +kernel : ∀ t : Fin grid0.N, _)

abbrev x0 : FVec Ideal S8192x1280 .f32 := m (c.tc.loc main_arg0)
abbrev x1 : FVec Ideal S4x1280 .f32 := m (c.tc.loc main_arg1)
abbrev x2 : FVec Ideal S1280 .f32 := m (c.tc.loc main_arg2)

/-- The pieces of the buffer that holds the rows before a tile and the tile's own. -/
abbrev front (A : FVec Ideal S16x1280 .f32) (B : FVec Ideal S512x1280 .f32) : List (View.Piece (Elt Ideal) S528x1280 .f32) :=
  [⟨Rect.unit ![16, 0] ![512, 1280] inb_S528x1280_S512x1280_16_0, B⟩, ⟨Rect.unit ![0, 0] ![16, 1280] inb_S528x1280_S16x1280_0_0, A⟩]

theorem front_lo (A : FVec Ideal S16x1280 .f32) (B : FVec Ideal S512x1280 .f32) (j : Fin 16) (l : Fin 1280) :
    View.canon (front A B) (ix2 ⟨j.val, by omega⟩ l : S528x1280.Idx) = A (ix2 j l) := by
  have e : (ix2 ⟨j.val, by omega⟩ l : S528x1280.Idx) = (Rect.unit (s := S528x1280) ![0, 0] ![16, 1280] inb_S528x1280_S16x1280_0_0).emb (ix2 j l : S16x1280.Idx) := by
    blk_ext
  rw [e]
  exact (View.canon_cons_of_not_mem _ _ (LoadRect.idx_not_mem_of_disj (by dsimp only; decide) _)).trans (View.canon_cons_emb _ _ _ _)

theorem front_hi (A : FVec Ideal S16x1280 .f32) (B : FVec Ideal S512x1280 .f32) (j : Fin 512) (l : Fin 1280) :
    View.canon (front A B) (ix2 ⟨16 + j.val, by omega⟩ l : S528x1280.Idx) = B (ix2 j l) := by
  have e : (ix2 ⟨16 + j.val, by omega⟩ l : S528x1280.Idx) = (Rect.unit (s := S528x1280) ![16, 0] ![512, 1280] inb_S528x1280_S512x1280_16_0).emb (ix2 j l : S512x1280.Idx) := by
    blk_ext
  rw [e, View.canon_cons_emb]

theorem front_ld (A : FVec Ideal S16x1280 .f32) (B : FVec Ideal S512x1280 .f32) (o : ℕ) (ho : o ≤ 16) (inb) (i : Fin 512) (l : Fin 1280) :
    (View.whole cc0_scratch0).readCov (front A B) (Rect.unit (s := S528x1280) ![o, 0] ![512, 1280] inb).toLoadRect (ix2 i l)
      = View.canon (front A B) (ix2 ⟨o + i.val, by omega⟩ l : S528x1280.Idx) := by
  rw [View.readCov_eq_canon']
  refine congrArg (View.canon (front A B)) (funext fun a => Fin.ext ?_)
  fin_cases a <;> simp [LoadRect.idx, Rect.unit, ix2]

theorem first : ∀ t : Fin cfg0.N, Scalar.cmpi .eq (BitVec.ofNat 32 (grid0.coords t 0).val) 0#32 = if t.val = 0 then 1#1 else 0#1 :=
  (by decide +kernel : ∀ t : Fin grid0.N, _)

theorem pay_halo (t : Fin cfg0.N) (X : FVec Ideal S16x1280 .bf16) (j : Fin 16) (l : Fin 1280) :
    (k0_pay4 (F := Ideal) (grid0.coords t) X (ix2 j l) : EReal) = if t.val = 0 then 0 else X (ix2 j l) := by
  unfold k0_pay4
  dsimp only
  rw [first t]
  split
  · pointwise
  · pointwise

theorem pay_in (X : FVec Ideal S512x1280 .bf16) (j : Fin 512) (l : Fin 1280) : (k0_pay5 (F := Ideal) X (ix2 j l) : EReal) = X (ix2 j l) := by
  pointwise [k0_pay5]

/-- The convolution with its bias. -/
def cv (q0 q1 q2 q3 w0 w1 w2 w3 b : EReal) : EReal := q0 * w0 + q1 * w1 + q2 * w2 + q3 * w3 + b

/-- A value gated by its own sigmoid. -/
def silu (u : EReal) : EReal := u * Ideal.div 1 (1 + Ideal.exp (-u))

section
variable (Q0 Q1 Q2 Q3 : FVec Ideal S512x1280 .f32) (W0 W1 W2 W3 B : FVec Ideal S1x1280 .f32) (i : Fin 512) (l : Fin 1280)

theorem pay_c : (k0_pay1 (F := Ideal) (k0_pay6 Q0 W0 Q1 W1 Q2 W2) Q3 W3 B (ix2 i l) : EReal)
      = cv (Q0 (ix2 i l)) (Q1 (ix2 i l)) (Q2 (ix2 i l)) (Q3 (ix2 i l)) (W0 (ix2 0 l)) (W1 (ix2 0 l)) (W2 (ix2 0 l)) (W3 (ix2 0 l)) (B (ix2 0 l)) := by
  pointwise [k0_pay1, k0_pay6, cv]

theorem pay_u : (k0_pay2 (F := Ideal) (k0_pay6 Q0 W0 Q1 W1 Q2 W2) Q3 W3 B (ix2 i l) : EReal)
      = k0_pay1 (F := Ideal) (k0_pay6 Q0 W0 Q1 W1 Q2 W2) Q3 W3 B (ix2 i l) := by
  pointwise [k0_pay2]

theorem pay_o : (k0_pay3 (F := Ideal) (k0_pay6 Q0 W0 Q1 W1 Q2 W2) Q3 W3 B (ix2 i l) : EReal)
      = silu (k0_pay1 (F := Ideal) (k0_pay6 Q0 W0 Q1 W1 Q2 W2) Q3 W3 B (ix2 i l)) := by
  pointwise [k0_pay3, silu]
  rw [zero_sub (_ : EReal)]

end

theorem V_x_at (r : Fin 8192) (j : Fin 1280) : V m c main_v3 (ix2 r ⟨4608 + j.val, by omega⟩ : S8192x8192.Idx) = x0 m c (ix2 r j) := by
  rw [show V m c main_v3 = truncf .bf16 (concatenate S8192x8192 1 [⟨S8192x4608, (broadcastInDim S8192x4608 ![] bcast_S_S8192x4608 (constant S_ .f32 0x00000000#32) : FVec Ideal S8192x4608 .f32)⟩,
      ⟨S8192x1280, x0 m c⟩, ⟨S8192x2304, (broadcastInDim S8192x2304 ![] bcast_S_S8192x2304 (constant S_ .f32 0x00000000#32) : FVec Ideal S8192x2304 .f32)⟩]
      concatenates_S8192x4608_S8192x1280_S8192x2304_S8192x8192_d1) bitsLt_bf16_f32 from rfl]
  pointwise

/-- The columns of a block that the convolution reads. -/
abbrev kx (t : Fin cfg0.N) : FVec Ideal S512x1280 .bf16 :=
  View.ld (Val := Elt Ideal) (e' := .bf16) (X0_1 m c t) (Rect.unit (s := S512x1536) ![0, 0] ![512, 1280] inb_S512x1536_S512x1280_0_0)
abbrev kh (t : Fin cfg0.N) : FVec Ideal S16x1280 .bf16 :=
  View.ld (Val := Elt Ideal) (e' := .bf16) (X0_0 m c t) (Rect.unit (s := S16x1536) ![0, 0] ![16, 1280] inb_S16x1536_S16x1280_0_0)

theorem kx_at (t : Fin cfg0.N) (i : Fin 512) (j : Fin 1280) (r : Fin 8192) (h : r.val = 512 * t.val + i.val) :
    kx m c t (ix2 i j) = x0 m c (ix2 r j) := by
  have e : (Rect.unit (s := S512x1536) ![0, 0] ![512, 1280] inb_S512x1536_S512x1280_0_0).idx (ix2 i j : S512x1280.Idx) = (ix2 i ⟨j.val, by omega⟩ : S512x1536.Idx) := by
    funext a; refine Fin.ext ?_; fin_cases a <;> simp [LoadRect.idx, Rect.unit, ix2]
  show X0_1 m c t _ = _
  rw [e]
  unfold X0_1 Pipeline.Window.fill
  rw [dif_pos (moved0_1 t _), ← V_x_at]
  unfold iblk
  refine congrArg (V m c main_v3) ?_
  blk_ext [idx t]

theorem kh_at (t : Fin cfg0.N) (i : Fin 16) (j : Fin 1280) (r : Fin 8192) (h0 : t.val ≠ 0) (h : r.val + 16 = 512 * t.val + i.val) :
    kh m c t (ix2 i j) = x0 m c (ix2 r j) := by
  have e : (Rect.unit (s := S16x1536) ![0, 0] ![16, 1280] inb_S16x1536_S16x1280_0_0).idx (ix2 i j : S16x1280.Idx) = (ix2 i ⟨j.val, by omega⟩ : S16x1536.Idx) := by
    funext a; refine Fin.ext ?_; fin_cases a <;> simp [LoadRect.idx, Rect.unit, ix2]
  show X0_0 m c t _ = _
  rw [e]
  unfold X0_0 Pipeline.Window.fill
  rw [dif_pos (moved0_0 t _), ← V_x_at]
  unfold iblk
  refine congrArg (V m c main_v3) ?_
  have e := (idx t).1
  rw [if_neg h0] at e
  blk_ext [e]

theorem bw_at (t : Fin cfg0.N) (k : Fin 4) (l : Fin 1280) : (iblk m c 2 t) (ix2 k l : S4x1280.Idx) = x1 m c (ix2 k l) := by
  blk_point [iblk, V, idx t]

theorem bb_at (t : Fin cfg0.N) (l : Fin 1280) : (iblk m c 3 t) (ix2 0 l : S1x1280.Idx) = x2 m c (ix1 l) := by
  blk_point [iblk, V, idx t]

/-- The buffer of a point. -/
abbrev fr (t : Fin cfg0.N) : List (View.Piece (Elt Ideal) S528x1280 .f32) := front (k0_pay4 (F := Ideal) (grid0.coords t) (kh m c t)) (k0_pay5 (kx m c t))

/-- The buffer holds the rows from sixteen before the tile on, zeros before the first row. -/
theorem front_val (t : Fin cfg0.N) (i : Fin 528) (l : Fin 1280) :
    View.canon (fr m c t) (ix2 i l : S528x1280.Idx)
      = if h : 16 ≤ 512 * t.val + i.val then x0 m c (ix2 ⟨512 * t.val + i.val - 16, by have := lt_of_lt_of_eq t.isLt N_0; omega⟩ l) else (0 : EReal) := by
  have ht : t.val < 16 := lt_of_lt_of_eq t.isLt N_0
  by_cases hi : i.val < 16
  · rw [show (ix2 i l : S528x1280.Idx) = ix2 ⟨(⟨i.val, hi⟩ : Fin 16).val, by omega⟩ l from rfl, front_lo, pay_halo]
    by_cases h0 : t.val = 0
    · rw [if_pos h0, dif_neg (by omega)]
    · rw [if_neg h0, dif_pos (by omega)]
      exact kh_at m c t _ _ ⟨512 * t.val + i.val - 16, by omega⟩ h0 (by show _ - 16 + 16 = _; simp only []; omega)
  · rw [show (ix2 i l : S528x1280.Idx) = ix2 ⟨16 + (⟨i.val - 16, by omega⟩ : Fin 512).val, by simp only []; omega⟩ l from
      congrArg (fun q : Fin 528 => (ix2 q l : S528x1280.Idx)) (Fin.ext (by simp only []; omega)), front_hi, pay_in, dif_pos (by omega)]
    exact kx_at m c t _ _ ⟨512 * t.val + i.val - 16, by omega⟩ (by simp only []; omega)

/-- The rows from three above a row on. -/
def sh (a0 : FVec Ideal S8192x1280 .f32) (k : Fin 4) (r : Fin 8192) (l : Fin 1280) : EReal :=
  if h : 3 ≤ r.val + k.val then a0 (ix2 ⟨r.val + k.val - 3, by omega⟩ l) else 0

theorem fr_at (t : Fin cfg0.N) (i : Fin 512) (l : Fin 1280) (r : Fin 8192) (o : ℕ) (inb) (k : Fin 4) (ho : o = 13 + k.val) (hr : r.val = 512 * t.val + i.val) :
    (View.whole cc0_scratch0).readCov (fr m c t) (Rect.unit (s := S528x1280) ![o, 0] ![512, 1280] inb).toLoadRect (ix2 i l) = sh (x0 m c) k r l := by
  rw [front_ld _ _ o (by omega), front_val]
  unfold sh
  by_cases h : 3 ≤ r.val + k.val
  · rw [dif_pos h, dif_pos (by simp only []; omega)]
    exact congrArg (fun q => x0 m c (ix2 q l)) (Fin.ext (by simp only []; omega))
  · rw [dif_neg h, dif_neg (by simp only []; omega)]

theorem ld_row (W : FVec Ideal S4x1280 .f32) (o : ℕ) (inb) (k : Fin 4) (ho : o = k.val) (l : Fin 1280) :
    View.ld (Val := Elt Ideal) (e' := .f32) W (Rect.unit (s := S4x1280) ![o, 0] ![1, 1280] inb) (ix2 0 l) = W (ix2 k l) := by
  show W ((Rect.unit (s := S4x1280) ![o, 0] ![1, 1280] inb).idx (ix2 0 l : S1x1280.Idx)) = _
  refine congrArg W (funext fun a => Fin.ext ?_)
  fin_cases a <;> simp [LoadRect.idx, Rect.unit, ix2, ho]

theorem four {a b d e a' b' d' e' u v w x y : EReal} (ha : a = a') (hb : b = b') (hd : d = d') (he : e = e') : cv a b d e u v w x y = cv a' b' d' e' u v w x y := by
  rw [ha, hb, hd, he]

/-- The convolution with its bias at a row. -/
def cr (a0 : FVec Ideal S8192x1280 .f32) (a1 : FVec Ideal S4x1280 .f32) (a2 : FVec Ideal S1280 .f32) (r : Fin 8192) (l : Fin 1280) : EReal :=
  cv (sh a0 0 r l) (sh a0 1 r l) (sh a0 2 r l) (sh a0 3 r l) (a1 (ix2 0 l)) (a1 (ix2 1 l)) (a1 (ix2 2 l)) (a1 (ix2 3 l)) (a2 (ix1 l))

/-- What a point leaves in its rows. -/
theorem ku (t : Fin cfg0.N) (i : Fin 512) (l : Fin 1280) (r : Fin 8192) (hr : r.val = 512 * t.val + i.val) :
    (outsAt0 m c t).2 (ix2 i l) = cr (x0 m c) (x1 m c) (x2 m c) r l := by
  unfold outsAt0 out0_A_5
  frame_out
  rw [pay_u, pay_c, ld_row _ 0 _ 0 rfl, ld_row _ 1 _ 1 rfl, ld_row _ 2 _ 2 rfl, ld_row _ 3 _ 3 rfl, bw_at, bw_at, bw_at, bw_at, bb_at]
  exact four (fr_at m c t i l r 13 _ 0 rfl hr) (fr_at m c t i l r 14 _ 1 rfl hr) (fr_at m c t i l r 15 _ 2 rfl hr) (fr_at m c t i l r 16 _ 3 rfl hr)

theorem ko (t : Fin cfg0.N) (i : Fin 512) (l : Fin 1280) (r : Fin 8192) (hr : r.val = 512 * t.val + i.val) :
    (outsAt0 m c t).1 (ix2 i l) = silu (cr (x0 m c) (x1 m c) (x2 m c) r l) := by
  unfold outsAt0 out0_A_4
  frame_out
  rw [pay_o, pay_c, ld_row _ 0 _ 0 rfl, ld_row _ 1 _ 1 rfl, ld_row _ 2 _ 2 rfl, ld_row _ 3 _ 3 rfl, bw_at, bw_at, bw_at, bw_at, bb_at]
  exact congrArg silu (four (fr_at m c t i l r 13 _ 0 rfl hr) (fr_at m c t i l r 14 _ 1 rfl hr) (fr_at m c t i l r 15 _ 2 rfl hr) (fr_at m c t i l r 16 _ 3 rfl hr))

/-! ## The reference -/

section
open Cert.SsdPreFwdRefIdeal.Read
variable (a0 : FVec Ideal S8192x1280 .f32) (a1 : FVec Ideal S4x1280 .f32) (a2 : FVec Ideal S1280 .f32) (r : Fin 8192) (l : Fin 1280)

theorem ref_s3 : (a0 (ix2 r l) : EReal) = sh a0 3 r l := by
  unfold sh
  rw [dif_pos (by show 3 ≤ r.val + 3; omega)]
  rfl

theorem ref_s0 : (val_main_v4 (F := Ideal) a0 (ix2 r l) : EReal) = sh a0 0 r l := by
  pointwise [val_main_v4, val_main_v3, val_main_v2, val_main_cst]
  unfold sh
  by_cases h : r.val < 3
  · rw [dif_pos h, dif_neg (by show ¬ 3 ≤ r.val + 0; omega)]
  · rw [dif_neg h, dif_pos (by show 3 ≤ r.val + 0; omega)]
    rfl

theorem ref_s1 : (val_main_v14 (F := Ideal) a0 (ix2 r l) : EReal) = sh a0 1 r l := by
  pointwise [val_main_v14, val_main_v13, val_main_v12, val_main_cst_1]
  unfold sh
  have e : ∀ h h', (⟨r.val - 2, h⟩ : Fin 8192) = ⟨r.val + (1 : Fin 4).val - 3, h'⟩ := fun h h' => Fin.ext (by show r.val - 2 = r.val + 1 - 3; omega)
  by_cases h : r.val < 2
  · rw [dif_pos h, dif_neg (by show ¬ 3 ≤ r.val + 1; omega)]
  · rw [dif_neg h, dif_pos (by show 3 ≤ r.val + 1; omega), e]

theorem ref_s2 : (val_main_v23 (F := Ideal) a0 (ix2 r l) : EReal) = sh a0 2 r l := by
  pointwise [val_main_v23, val_main_v22, val_main_v21, val_main_cst_2]
  unfold sh
  have e : ∀ h h', (⟨r.val - 1, h⟩ : Fin 8192) = ⟨r.val + (2 : Fin 4).val - 3, h'⟩ := fun h h' => Fin.ext (by show r.val - 1 = r.val + 2 - 3; omega)
  by_cases h : r.val < 1
  · rw [dif_pos h, dif_neg (by show ¬ 3 ≤ r.val + 2; omega)]
  · rw [dif_neg h, dif_pos (by show 3 ≤ r.val + 2; omega), e]

theorem ref_c : (val_main_v36 (F := Ideal) a0 a1 a2 (ix2 r l) : EReal) = cr a0 a1 a2 r l := by
  pointwise [val_main_v36, val_main_v35, val_main_v34, val_main_v33, val_main_v32, val_main_v31, val_main_v30, val_main_v29, val_main_v28, val_main_v27, val_main_v26, val_main_v25, val_main_v24, val_main_v20, val_main_v19, val_main_v18, val_main_v17, val_main_v16, val_main_v15, val_main_v11, val_main_v10, val_main_v9, val_main_v8, val_main_v7, val_main_v6, val_main_v5, val_main_v1, val_main_v0, val_main_cst_0]
  rw [ref_s0, ref_s1, ref_s2, ref_s3 a0 r l]
  unfold cr cv
  rw [mul_comm (a1 (ix2 0 l) : EReal), mul_comm (a1 (ix2 1 l) : EReal), mul_comm (a1 (ix2 2 l) : EReal), mul_comm (a1 (ix2 3 l) : EReal)]

theorem ref_u : (val_main_v39 (F := Ideal) a0 a1 a2 (ix2 r l) : EReal) = cr a0 a1 a2 r l := by
  rw [← ref_c]
  pointwise [val_main_v39]

theorem ref_o : (val_main_v38 (F := Ideal) a0 a1 a2 (ix2 r l) : EReal) = silu (cr a0 a1 a2 r l) := by
  rw [← ref_c]
  pointwise [val_main_v38, val_main_v37, val_main_call0_v5, val_main_call0_v4, val_main_call0_cst_0, val_main_call0_v3, val_main_call0_v2, val_main_call0_cst, val_main_call0_v1, val_main_call0_v0, silu]

end

/-! ## The arrays the call ends in -/

theorem final_o : (dats m 0 c).arrAt 4 (cfgs 0).N = Cert.SsdPreFwdRefIdeal.Read.val_main_v38 (F := Ideal) (x0 m c) (x1 m c) (x2 m c) := by
  refine (dats m 0 c).arrAt_eq_of_covers 4 _ (by decide +kernel) fun t hf y => ?_
  blk_simp
  rw [after0_4]
  idx_vars y
  have ht : t.val < 16 := lt_of_lt_of_eq t.isLt N_0
  have e : ((cfg0.win 4).blk t).view.emb (ix2 y0 y1) = (ix2 ⟨512 * t.val + y0.val, by omega⟩ y1 : S8192x1280.Idx) := by
    blk_ext [idx t]
  refine Eq.trans ?_ (congrArg _ e).symm
  exact (ko m c t y0 y1 ⟨512 * t.val + y0.val, by omega⟩ rfl).trans (ref_o _ _ _ _ _).symm

theorem final_u : (dats m 0 c).arrAt 5 (cfgs 0).N = Cert.SsdPreFwdRefIdeal.Read.val_main_v39 (F := Ideal) (x0 m c) (x1 m c) (x2 m c) := by
  refine (dats m 0 c).arrAt_eq_of_covers 5 _ (by decide +kernel) fun t hf y => ?_
  blk_simp
  rw [after0_5]
  idx_vars y
  have ht : t.val < 16 := lt_of_lt_of_eq t.isLt N_0
  have e : ((cfg0.win 5).blk t).view.emb (ix2 y0 y1) = (ix2 ⟨512 * t.val + y0.val, by omega⟩ y1 : S8192x1280.Idx) := by
    blk_ext [idx t]
  refine Eq.trans ?_ (congrArg _ e).symm
  exact (ku m c t y0 y1 ⟨512 * t.val + y0.val, by omega⟩ rfl).trans (ref_u _ _ _ _ _).symm

theorem congr_o {a0 b0 a1 b1 a2 b2} (h0 : a0 = b0) (h1 : a1 = b1) (h2 : a2 = b2) :
    Cert.SsdPreFwdRefIdeal.Read.val_main_v38 (F := Ideal) a0 a1 a2 = Cert.SsdPreFwdRefIdeal.Read.val_main_v38 b0 b1 b2 := by
  subst h0 h1 h2; rfl

theorem congr_u {a0 b0 a1 b1 a2 b2} (h0 : a0 = b0) (h1 : a1 = b1) (h2 : a2 = b2) :
    Cert.SsdPreFwdRefIdeal.Read.val_main_v39 (F := Ideal) a0 a1 a2 = Cert.SsdPreFwdRefIdeal.Read.val_main_v39 b0 b1 b2 := by
  subst h0 h1 h2; rfl

/-- The reference runs to its end and leaves its arguments alone. -/
theorem frame_ref : Cert.quiescent_SsdPreFwdRefIdeal := fun m g _ =>
  (θ_run Cert.SsdPreFwdRefIdeal.defs _ _).mono (fun r h => ⟨fun c => (h c).2.2, sem_eq_zero_of_no_sems (by decide) r.2⟩)
    (Cert.SsdPreFwdRefIdeal.Value.run m g)

/-- Over the reals the call's results are the reference's. -/
theorem algebraic : Cert.algebraic_SsdPreFwdIdeal_SsdPreFwdRefIdeal := by
  intro m g m' g' _ hagree
  refine ⟨fun c => Cert.SsdPreFwdRefIdeal.Read.val_main_v38 (F := Ideal) (x0 m c) (x1 m c) (x2 m c),
    fun c => Cert.SsdPreFwdRefIdeal.Read.val_main_v39 (F := Ideal) (x0 m c) (x1 m c) (x2 m c), ?_, ?_⟩
  · refine (θ_run Cert.SsdPreFwdIdeal.defs _ _).mono (fun r h c => ?_) (Cert.SsdPreFwdIdeal.Value.run_blocks m g)
    exact ⟨(h c).1.trans (final_o m c), (h c).2.1.trans (final_u m c), (h c).2.2⟩
  · refine (θ_run Cert.SsdPreFwdRefIdeal.defs _ _).mono (fun r h c => ?_) (Cert.SsdPreFwdRefIdeal.Value.run m' g')
    obtain ⟨e0, e1, e2⟩ := hagree c
    exact ⟨((h c).1.trans (Cert.SsdPreFwdRefIdeal.Read.val_main_v38_eq _ _)).trans (congr_o e0 e1 e2),
      ((h c).2.1.trans (Cert.SsdPreFwdRefIdeal.Read.val_main_v39_eq _ _ _)).trans (congr_u e0 e1 e2), (h c).2.2⟩

end Cert.SsdPreFwdIdeal.Final
-- ==== Proof.lean ====
/- The claims of the step's calls: frames, and the values over the reals. -/
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Final
public import proofs.«01_k».proof.Proof.Gen.ProjFwd.Frame
public import proofs.«01_k».proof.Proof.Gen.ProjFwdIdeal.Value
public import proofs.«01_k».proof.Proof.Gen.ProjFwdRefIdeal.Read
public import proofs.«01_k».proof.Proof.Gen.ProjDx.Frame
public import proofs.«01_k».proof.Proof.Gen.ProjDxIdeal.Value
public import proofs.«01_k».proof.Proof.Gen.ProjDxRefIdeal.Read
public import proofs.«01_k».proof.Proof.Gen.ProjDw.Frame
public import proofs.«01_k».proof.Proof.Gen.ProjDwIdeal.Value
public import proofs.«01_k».proof.Proof.Gen.ProjDwRefIdeal.Read
public import proofs.«01_k».proof.Proof.Gen.UpFwd.Frame
public import proofs.«01_k».proof.Proof.Gen.UpFwdIdeal.Value
public import proofs.«01_k».proof.Proof.Gen.UpFwdRefIdeal.Read
public import proofs.«01_k».proof.Proof.Gen.UpDx.Frame
public import proofs.«01_k».proof.Proof.Gen.UpDxIdeal.Value
public import proofs.«01_k».proof.Proof.Gen.UpDxRefIdeal.Read
public import proofs.«01_k».proof.Proof.Gen.UpDw.Frame
public import proofs.«01_k».proof.Proof.Gen.UpDwIdeal.Value
public import proofs.«01_k».proof.Proof.Gen.UpDwRefIdeal.Read
public import proofs.«01_k».proof.Proof.Gen.DownFwd.Frame
public import proofs.«01_k».proof.Proof.Gen.DownFwdIdeal.Value
public import proofs.«01_k».proof.Proof.Gen.DownFwdRefIdeal.Read
public import proofs.«01_k».proof.Proof.Gen.DownDx.Frame
public import proofs.«01_k».proof.Proof.Gen.DownDxIdeal.Value
public import proofs.«01_k».proof.Proof.Gen.DownDxRefIdeal.Read
public import proofs.«01_k».proof.Proof.Gen.DownDw.Frame
public import proofs.«01_k».proof.Proof.Gen.DownDwIdeal.Value
public import proofs.«01_k».proof.Proof.Gen.DownDwRefIdeal.Read
public import proofs.«01_k».proof.Proof.Gen.OutDw.Frame
public import proofs.«01_k».proof.Proof.Gen.OutDwIdeal.Value
public import proofs.«01_k».proof.Proof.Gen.OutDwRefIdeal.Read
public import proofs.«01_k».proof.Proof.Gen.BranchDw.Frame
public import proofs.«01_k».proof.Proof.Gen.BranchDwIdeal.Value
public import proofs.«01_k».proof.Proof.Gen.BranchDwRefIdeal.Read
public import proofs.«01_k».proof.Proof.ProjFwd
public import proofs.«01_k».proof.Proof.ProjDx
public import proofs.«01_k».proof.Proof.ProjDw
public import proofs.«01_k».proof.Proof.UpFwd
public import proofs.«01_k».proof.Proof.UpDx
public import proofs.«01_k».proof.Proof.UpDw
public import proofs.«01_k».proof.Proof.DownFwd
public import proofs.«01_k».proof.Proof.DownDx
public import proofs.«01_k».proof.Proof.DownDw
public import proofs.«01_k».proof.Proof.OutDw
public import proofs.«01_k».proof.Proof.BranchDw
public import proofs.«01_k».proof.Proof.Gen.AdamAda.Frame
public import proofs.«01_k».proof.Proof.Gen.AdamAdaIdeal.Value
public import proofs.«01_k».proof.Proof.Gen.AdamAdaRefIdeal.Read
public import proofs.«01_k».proof.Proof.AdamAda
public import proofs.«01_k».proof.Proof.Gen.AdamUp.Frame
public import proofs.«01_k».proof.Proof.Gen.AdamUpIdeal.Value
public import proofs.«01_k».proof.Proof.Gen.AdamUpRefIdeal.Read
public import proofs.«01_k».proof.Proof.AdamUp
public import proofs.«01_k».proof.Proof.Gen.AdamBranch.Frame
public import proofs.«01_k».proof.Proof.Gen.AdamBranchIdeal.Value
public import proofs.«01_k».proof.Proof.Gen.AdamBranchRefIdeal.Read
public import proofs.«01_k».proof.Proof.AdamBranch
public import proofs.«01_k».proof.Proof.Gen.AdamOut.Frame
public import proofs.«01_k».proof.Proof.Gen.AdamOutIdeal.Value
public import proofs.«01_k».proof.Proof.Gen.AdamOutRefIdeal.Read
public import proofs.«01_k».proof.Proof.AdamOut
public import proofs.«01_k».proof.Proof.Gen.AdamDown.Frame
public import proofs.«01_k».proof.Proof.Gen.AdamDownIdeal.Value
public import proofs.«01_k».proof.Proof.Gen.AdamDownRefIdeal.Read
public import proofs.«01_k».proof.Proof.AdamDown
public import proofs.«01_k».proof.Proof.Gen.AdamIn.Frame
public import proofs.«01_k».proof.Proof.Gen.AdamInIdeal.Value
public import proofs.«01_k».proof.Proof.Gen.AdamInRefIdeal.Read
public import proofs.«01_k».proof.Proof.AdamIn
public import proofs.«01_k».proof.Proof.Gen.AdamVec.Frame
public import proofs.«01_k».proof.Proof.Gen.AdamVecIdeal.Value
public import proofs.«01_k».proof.Proof.Gen.AdamVecRefIdeal.Read
public import proofs.«01_k».proof.Proof.AdamVec
public import proofs.«01_k».proof.Proof.Gen.AdamBias.Frame
public import proofs.«01_k».proof.Proof.Gen.AdamBiasIdeal.Value
public import proofs.«01_k».proof.Proof.Gen.AdamBiasRefIdeal.Read
public import proofs.«01_k».proof.Proof.AdamBias
public import proofs.«01_k».proof.Proof.Gen.AdamConv.Frame
public import proofs.«01_k».proof.Proof.Gen.AdamConvIdeal.Value
public import proofs.«01_k».proof.Proof.Gen.AdamConvRefIdeal.Read
public import proofs.«01_k».proof.Proof.AdamConv
public import proofs.«01_k».proof.Proof.Gen.NormBwd.Frame
public import proofs.«01_k».proof.Proof.Gen.NormBwdIdeal.Value
public import proofs.«01_k».proof.Proof.Gen.NormBwdRefIdeal.Read
public import proofs.«01_k».proof.Proof.NormBwd
public import proofs.«01_k».proof.Proof.Gen.GateBwd.Frame
public import proofs.«01_k».proof.Proof.Gen.GateBwdIdeal.Value
public import proofs.«01_k».proof.Proof.Gen.GateBwdRefIdeal.Read
public import proofs.«01_k».proof.Proof.GateBwd
public import proofs.«01_k».proof.Proof.Gen.Loss.Frame
public import proofs.«01_k».proof.Proof.Gen.LossIdeal.Value
public import proofs.«01_k».proof.Proof.Gen.LossRefIdeal.Read
public import proofs.«01_k».proof.Proof.Loss
public import proofs.«01_k».proof.Proof.Gen.ScBwd.Frame
public import proofs.«01_k».proof.Proof.Gen.ScBwdIdeal.Value
public import proofs.«01_k».proof.Proof.Gen.ScBwdRefIdeal.Read
public import proofs.«01_k».proof.Proof.ScBwd
public import proofs.«01_k».proof.Proof.Gen.AdaDw.Frame
public import proofs.«01_k».proof.Proof.Gen.AdaDwIdeal.Frame
public import proofs.«01_k».proof.Proof.Gen.AdaDwRefIdeal.Read
public import proofs.«01_k».proof.Proof.AdaDw
public import proofs.«01_k».proof.Proof.Gen.ConfBwd.Skeleton
public import proofs.«01_k».proof.Proof.Gen.ConfBwd.Loops
public import proofs.«01_k».proof.Proof.Gen.ConfBwd.Launch
public import proofs.«01_k».proof.Proof.Gen.ConfBwd.Points
public import proofs.«01_k».proof.Proof.Gen.ConfBwd.Frame
public import proofs.«01_k».proof.Proof.Gen.ConfBwdIdeal.Skeleton
public import proofs.«01_k».proof.Proof.Gen.ConfBwdIdeal.Loops
public import proofs.«01_k».proof.Proof.Gen.ConfBwdIdeal.Launch
public import proofs.«01_k».proof.Proof.Gen.ConfBwdIdeal.Points
public import proofs.«01_k».proof.Proof.Gen.ConfBwdIdeal.Frame
public import proofs.«01_k».proof.Proof.Gen.ConfBwdRefIdeal.Read
public import proofs.«01_k».proof.Proof.ConfBwdRun
public import proofs.«01_k».proof.Proof.ConfBwdIdealRun
public import proofs.«01_k».proof.Proof.ConfBwd
public import proofs.«01_k».proof.Proof.Gen.NormFwd.Frame
public import proofs.«01_k».proof.Proof.Gen.NormFwdIdeal.Value
public import proofs.«01_k».proof.Proof.Gen.NormFwdRefIdeal.Read
public import proofs.«01_k».proof.Proof.NormFwd
public import proofs.«01_k».proof.Proof.Gen.MixFwd.Frame
public import proofs.«01_k».proof.Proof.Gen.MixFwdIdeal.Value
public import proofs.«01_k».proof.Proof.Gen.MixFwdRefIdeal.Read
public import proofs.«01_k».proof.Proof.MixFwd
public import proofs.«01_k».proof.Proof.Gen.ScFwd.Frame
public import proofs.«01_k».proof.Proof.Gen.ScFwdIdeal.Value
public import proofs.«01_k».proof.Proof.Gen.ScFwdRefIdeal.Read
public import proofs.«01_k».proof.Proof.ScFwd
public import proofs.«01_k».proof.Proof.Gen.SsdPreFwd.Frame
public import proofs.«01_k».proof.Proof.Gen.SsdPreFwdIdeal.Value
public import proofs.«01_k».proof.Proof.Gen.SsdPreFwdRefIdeal.Read
public import proofs.«01_k».proof.Proof.SsdPreFwd
public import Idealize.ShloMosaic.Adequacy
public import Idealize.ShloMosaic.Init
public import Idealize.ShloMosaic.Lib.Claim
public import Idealize.ShloMosaic.Lib.Pointwise

@[expose] public section

set_option maxRecDepth 16384

noncomputable section

namespace Cert.Proof

open Idealize.ShloMosaic Idealize.ShloMosaic.TcCoe Idealize.SL.Sem Cert.KernelIdeal.Final

/-- The shape relations the precondition's operations take. -/
instance preFacts : Cert.Pre_finite.Facts where
  bcast_S_S8192x1280 := by decide
  bcast_S_S8192x1024 := by decide
  bcast_S_S8192x16 := by decide
  bcast_S_S16 := by decide
  bcast_S_S1024 := by decide

/-- An argument all of whose elements pass the precondition's test holds real numbers. -/
theorem isR_of_test {s : Shape} (x z : FVec Ideal s .f32) (hz : ∀ i, z i = (0 : EReal))
    (h : cmpf .oeq (subf x x) z = fun _ => 1#1) (i : s.Idx) : Reals.IsR (x i) := by
  have h1 := congrFun h i
  refine Reals.isR_of_sub_self ?_
  by_contra hne
  rw [← hz i] at hne
  have h0 : cmpf .oeq (subf x x) z i = 0#1 := by
    show FloatOps.cmpf (F := Ideal) .oeq (x i - x i : EReal) (z i) = 0#1
    simp [FloatOps.cmpf, Ideal.cmp, hne]
  rw [h0] at h1
  exact absurd h1 (by decide)

theorem fine (m : (ℓ : Loc Cert.KernelIdeal.nD Cert.KernelIdeal.τ Cert.KernelIdeal.sig) → Buf (Elt Ideal) ℓ)
    (h : Pre_KernelIdeal_finite m) (c : Dev Cert.KernelIdeal.nD) : KernelIdeal.Final.Fine m c := by
  obtain ⟨h0, h1, h2, h3, h5, h6, h7, h8⟩ := h c
  refine ⟨isR_of_test _ _ ?_ h0, isR_of_test _ _ ?_ h1, isR_of_test _ _ ?_ h2, isR_of_test _ _ ?_ h3, isR_of_test _ _ ?_ h5,
    isR_of_test _ _ ?_ h6, isR_of_test _ _ ?_ h7, isR_of_test _ _ ?_ h8⟩
  all_goals (clear h0 h1 h2 h3 h5 h6 h7 h8; intro i; idx_vars i; pointwise)

theorem frame_ref : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

theorem frame_ref_pre : Cert.quiescent_ReferenceIdeal_pre_finite := fun m g _ => frame_ref m g trivial

/-- The kernel's run on one device, its three results by the reference's terms of its arguments. -/
theorem kernel_run (m : (ℓ : Loc Cert.KernelIdeal.nD Cert.KernelIdeal.τ Cert.KernelIdeal.sig) → Buf (Elt Ideal) ℓ)
    (g : Dev Cert.KernelIdeal.nD → PrngReg) (hpre : Pre_KernelIdeal_finite m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        (r.2.mem (c.tc.loc Cert.KernelIdeal.main_v104_0)
            = ReferenceIdeal.Read.val_main_v105 (F := Ideal) (a0 m c) (a1 m c) (a2 m c) (a3 m c) (a4 m c) (a5 m c) (a6 m c) (a7 m c) (a8 m c)
          ∧ r.2.mem (c.tc.loc Cert.KernelIdeal.main_v104_3)
            = ReferenceIdeal.Read.val_main_v106 (F := Ideal) (a0 m c) (a1 m c) (a2 m c) (a3 m c) (a5 m c) (a6 m c) (a7 m c)
          ∧ r.2.mem (c.tc.loc Cert.KernelIdeal.main_v104_6)
            = ReferenceIdeal.Read.val_main_v108 (F := Ideal) (a0 m c) (a1 m c) (a2 m c) (a3 m c) (a5 m c) (a6 m c) (a7 m c) (a8 m c))) := by
  refine (θ_run Cert.KernelIdeal.defs _ _).mono (fun r h c => ?_) (Cert.KernelIdeal.Gen.run_main m g)
  have hw := (h c).1
  exact ⟨(hw 13).trans (KernelIdeal.Final.final13 m c (fine m hpre c)), (hw 16).trans (KernelIdeal.Final.final16 m c (fine m hpre c)),
    (hw 19).trans (KernelIdeal.Final.final19 m c (fine m hpre c))⟩

theorem v105_congr {x0 y0 x1 y1 x2 y2 x3 y3 x4 y4 x5 y5 x6 y6 x7 y7 x8 y8} (h0 : x0 = y0) (h1 : x1 = y1) (h2 : x2 = y2) (h3 : x3 = y3)
    (h4 : x4 = y4) (h5 : x5 = y5) (h6 : x6 = y6) (h7 : x7 = y7) (h8 : x8 = y8) :
    ReferenceIdeal.Read.val_main_v105 (F := Ideal) x0 x1 x2 x3 x4 x5 x6 x7 x8 = ReferenceIdeal.Read.val_main_v105 y0 y1 y2 y3 y4 y5 y6 y7 y8 := by
  subst h0 h1 h2 h3 h4 h5 h6 h7 h8; rfl

theorem v106_congr {x0 y0 x1 y1 x2 y2 x3 y3 x5 y5 x6 y6 x7 y7} (h0 : x0 = y0) (h1 : x1 = y1) (h2 : x2 = y2) (h3 : x3 = y3)
    (h5 : x5 = y5) (h6 : x6 = y6) (h7 : x7 = y7) :
    ReferenceIdeal.Read.val_main_v106 (F := Ideal) x0 x1 x2 x3 x5 x6 x7 = ReferenceIdeal.Read.val_main_v106 y0 y1 y2 y3 y5 y6 y7 := by
  subst h0 h1 h2 h3 h5 h6 h7; rfl

theorem v108_congr {x0 y0 x1 y1 x2 y2 x3 y3 x5 y5 x6 y6 x7 y7 x8 y8} (h0 : x0 = y0) (h1 : x1 = y1) (h2 : x2 = y2) (h3 : x3 = y3)
    (h5 : x5 = y5) (h6 : x6 = y6) (h7 : x7 = y7) (h8 : x8 = y8) :
    ReferenceIdeal.Read.val_main_v108 (F := Ideal) x0 x1 x2 x3 x5 x6 x7 x8 = ReferenceIdeal.Read.val_main_v108 y0 y1 y2 y3 y5 y6 y7 y8 := by
  subst h0 h1 h2 h3 h5 h6 h7 h8; rfl

/-- Over the reals the kernel's three results are the reference's. -/
theorem algebraic : Cert.algebraic_KernelIdeal_ReferenceIdeal_pre_finite := by
  intro m g m' g' hpre hagree
  refine ⟨fun c => ReferenceIdeal.Read.val_main_v105 (F := Ideal) (a0 m c) (a1 m c) (a2 m c) (a3 m c) (a4 m c) (a5 m c) (a6 m c) (a7 m c) (a8 m c),
    fun c => ReferenceIdeal.Read.val_main_v106 (F := Ideal) (a0 m c) (a1 m c) (a2 m c) (a3 m c) (a5 m c) (a6 m c) (a7 m c),
    fun c => ReferenceIdeal.Read.val_main_v108 (F := Ideal) (a0 m c) (a1 m c) (a2 m c) (a3 m c) (a5 m c) (a6 m c) (a7 m c) (a8 m c), ?_, ?_⟩
  · refine (θ_run Cert.KernelIdeal.defs _ _).mono (fun r h c => ⟨(h.1 c).1, (h.1 c).2.1, (h.1 c).2.2, h.2 c⟩)
      (θ_run_and (kernel_run m g hpre) (Cert.KernelIdeal.Gen.unchanged m g))
  · refine (θ_run Cert.ReferenceIdeal.defs _ _).mono (fun r h c => ?_) (Cert.ReferenceIdeal.Value.run m' g')
    obtain ⟨e0, e1, e2, e3, e4, e5, e6, e7, e8⟩ := hagree c
    obtain ⟨h0, h1, h2, hr⟩ := h c
    exact ⟨(h0.trans (ReferenceIdeal.Read.val_main_v105_eq _)).trans (v105_congr e0 e1 e2 e3 e4 e5 e6 e7 e8),
      (h1.trans (ReferenceIdeal.Read.val_main_v106_eq _)).trans (v106_congr e0 e1 e2 e3 e5 e6 e7),
      (h2.trans (ReferenceIdeal.Read.val_main_v108_eq _)).trans (v108_congr e0 e1 e2 e3 e5 e6 e7 e8), hr⟩

theorem claim : Cert.Claim :=
  ⟨Cert.Kernel.Gen.facts, Cert.KernelIdeal.Gen.facts, Cert.ReferenceIdeal.Gen.facts, Cert.ProjFwd.Gen.facts, Cert.ProjFwdIdeal.Gen.facts,
    Cert.ProjFwdRefIdeal.Gen.facts, Cert.ProjDx.Gen.facts, Cert.ProjDxIdeal.Gen.facts, Cert.ProjDxRefIdeal.Gen.facts, Cert.ProjDw.Gen.facts,
    Cert.ProjDwIdeal.Gen.facts, Cert.ProjDwRefIdeal.Gen.facts, Cert.UpFwd.Gen.facts, Cert.UpFwdIdeal.Gen.facts, Cert.UpFwdRefIdeal.Gen.facts,
    Cert.UpDx.Gen.facts, Cert.UpDxIdeal.Gen.facts, Cert.UpDxRefIdeal.Gen.facts, Cert.UpDw.Gen.facts, Cert.UpDwIdeal.Gen.facts,
    Cert.UpDwRefIdeal.Gen.facts, Cert.DownFwd.Gen.facts, Cert.DownFwdIdeal.Gen.facts, Cert.DownFwdRefIdeal.Gen.facts, Cert.DownDx.Gen.facts,
    Cert.DownDxIdeal.Gen.facts, Cert.DownDxRefIdeal.Gen.facts, Cert.DownDw.Gen.facts, Cert.DownDwIdeal.Gen.facts, Cert.DownDwRefIdeal.Gen.facts,
    Cert.OutDw.Gen.facts, Cert.OutDwIdeal.Gen.facts, Cert.OutDwRefIdeal.Gen.facts, Cert.BranchDw.Gen.facts, Cert.BranchDwIdeal.Gen.facts,
    Cert.BranchDwRefIdeal.Gen.facts, Cert.AdamAda.Gen.facts, Cert.AdamAdaIdeal.Gen.facts, Cert.AdamAdaRefIdeal.Gen.facts, Cert.AdamUp.Gen.facts,
    Cert.AdamUpIdeal.Gen.facts, Cert.AdamUpRefIdeal.Gen.facts, Cert.AdamBranch.Gen.facts, Cert.AdamBranchIdeal.Gen.facts,
    Cert.AdamBranchRefIdeal.Gen.facts, Cert.AdamOut.Gen.facts, Cert.AdamOutIdeal.Gen.facts, Cert.AdamOutRefIdeal.Gen.facts, Cert.AdamDown.Gen.facts,
    Cert.AdamDownIdeal.Gen.facts, Cert.AdamDownRefIdeal.Gen.facts, Cert.AdamIn.Gen.facts, Cert.AdamInIdeal.Gen.facts, Cert.AdamInRefIdeal.Gen.facts,
    Cert.AdamVec.Gen.facts, Cert.AdamVecIdeal.Gen.facts, Cert.AdamVecRefIdeal.Gen.facts, Cert.AdamBias.Gen.facts, Cert.AdamBiasIdeal.Gen.facts,
    Cert.AdamBiasRefIdeal.Gen.facts, Cert.AdamConv.Gen.facts, Cert.AdamConvIdeal.Gen.facts, Cert.AdamConvRefIdeal.Gen.facts, Cert.NormBwd.Gen.facts,
    Cert.NormBwdIdeal.Gen.facts, Cert.NormBwdRefIdeal.Gen.facts, Cert.GateBwd.Gen.facts, Cert.GateBwdIdeal.Gen.facts, Cert.GateBwdRefIdeal.Gen.facts,
    Cert.Loss.Gen.facts, Cert.LossIdeal.Gen.facts, Cert.LossRefIdeal.Gen.facts, Cert.ScBwd.Gen.facts, Cert.ScBwdIdeal.Gen.facts,
    Cert.ScBwdRefIdeal.Gen.facts, Cert.AdaDw.Gen.facts, Cert.AdaDwIdeal.Gen.facts, Cert.AdaDwRefIdeal.Gen.facts, Cert.ConfBwd.Gen.facts,
    Cert.ConfBwdIdeal.Gen.facts, Cert.ConfBwdRefIdeal.Gen.facts, Cert.NormFwd.Gen.facts, Cert.NormFwdIdeal.Gen.facts, Cert.NormFwdRefIdeal.Gen.facts,
    Cert.MixFwd.Gen.facts, Cert.MixFwdIdeal.Gen.facts, Cert.MixFwdRefIdeal.Gen.facts, Cert.ScFwd.Gen.facts, Cert.ScFwdIdeal.Gen.facts,
    Cert.ScFwdRefIdeal.Gen.facts, Cert.SsdPreFwd.Gen.facts, Cert.SsdPreFwdIdeal.Gen.facts, Cert.SsdPreFwdRefIdeal.Gen.facts, preFacts,
    Cert.NormBwdIdeal.Final.preFacts, Cert.LossIdeal.Final.preFacts, Cert.ConfBwdIdeal.Final.preFacts,
    fun m ρ _ => Cert.Kernel.Gen.frame m ρ, fun m ρ _ => Cert.KernelIdeal.Gen.frame m ρ, fun m ρ _ => Cert.KernelIdeal.Gen.frame m ρ, frame_ref,
    frame_ref_pre, fun m ρ _ => Cert.ProjFwd.Gen.frame m ρ, fun m ρ _ => Cert.ProjFwdIdeal.Gen.frame m ρ, Cert.ProjFwdIdeal.Final.frame_ref,
    fun m ρ _ => Cert.ProjDx.Gen.frame m ρ, fun m ρ _ => Cert.ProjDxIdeal.Gen.frame m ρ, Cert.ProjDxIdeal.Final.frame_ref,
    fun m ρ _ => Cert.ProjDw.Gen.frame m ρ, fun m ρ _ => Cert.ProjDwIdeal.Gen.frame m ρ, Cert.ProjDwIdeal.Final.frame_ref,
    fun m ρ _ => Cert.UpFwd.Gen.frame m ρ, fun m ρ _ => Cert.UpFwdIdeal.Gen.frame m ρ, Cert.UpFwdIdeal.Final.frame_ref,
    fun m ρ _ => Cert.UpDx.Gen.frame m ρ, fun m ρ _ => Cert.UpDxIdeal.Gen.frame m ρ, Cert.UpDxIdeal.Final.frame_ref,
    fun m ρ _ => Cert.UpDw.Gen.frame m ρ, fun m ρ _ => Cert.UpDwIdeal.Gen.frame m ρ, Cert.UpDwIdeal.Final.frame_ref,
    fun m ρ _ => Cert.DownFwd.Gen.frame m ρ, fun m ρ _ => Cert.DownFwdIdeal.Gen.frame m ρ, Cert.DownFwdIdeal.Final.frame_ref,
    fun m ρ _ => Cert.DownDx.Gen.frame m ρ, fun m ρ _ => Cert.DownDxIdeal.Gen.frame m ρ, Cert.DownDxIdeal.Final.frame_ref,
    fun m ρ _ => Cert.DownDw.Gen.frame m ρ, fun m ρ _ => Cert.DownDwIdeal.Gen.frame m ρ, Cert.DownDwIdeal.Final.frame_ref,
    fun m ρ _ => Cert.OutDw.Gen.frame m ρ, fun m ρ _ => Cert.OutDwIdeal.Gen.frame m ρ, Cert.OutDwIdeal.Final.frame_ref,
    fun m ρ _ => Cert.BranchDw.Gen.frame m ρ, fun m ρ _ => Cert.BranchDwIdeal.Gen.frame m ρ, Cert.BranchDwIdeal.Final.frame_ref,
    fun m ρ _ => Cert.AdamAda.Gen.frame m ρ, fun m ρ _ => Cert.AdamAdaIdeal.Gen.frame m ρ, Cert.AdamAdaIdeal.Final.frame_ref,
    fun m ρ _ => Cert.AdamUp.Gen.frame m ρ, fun m ρ _ => Cert.AdamUpIdeal.Gen.frame m ρ, Cert.AdamUpIdeal.Final.frame_ref,
    fun m ρ _ => Cert.AdamBranch.Gen.frame m ρ, fun m ρ _ => Cert.AdamBranchIdeal.Gen.frame m ρ, Cert.AdamBranchIdeal.Final.frame_ref,
    fun m ρ _ => Cert.AdamOut.Gen.frame m ρ, fun m ρ _ => Cert.AdamOutIdeal.Gen.frame m ρ, Cert.AdamOutIdeal.Final.frame_ref,
    fun m ρ _ => Cert.AdamDown.Gen.frame m ρ, fun m ρ _ => Cert.AdamDownIdeal.Gen.frame m ρ, Cert.AdamDownIdeal.Final.frame_ref,
    fun m ρ _ => Cert.AdamIn.Gen.frame m ρ, fun m ρ _ => Cert.AdamInIdeal.Gen.frame m ρ, Cert.AdamInIdeal.Final.frame_ref,
    fun m ρ _ => Cert.AdamVec.Gen.frame m ρ, fun m ρ _ => Cert.AdamVecIdeal.Gen.frame m ρ, Cert.AdamVecIdeal.Final.frame_ref,
    fun m ρ _ => Cert.AdamBias.Gen.frame m ρ, fun m ρ _ => Cert.AdamBiasIdeal.Gen.frame m ρ, Cert.AdamBiasIdeal.Final.frame_ref,
    fun m ρ _ => Cert.AdamConv.Gen.frame m ρ, fun m ρ _ => Cert.AdamConvIdeal.Gen.frame m ρ, Cert.AdamConvIdeal.Final.frame_ref,
    fun m ρ _ => Cert.NormBwd.Gen.frame m ρ, fun m ρ _ => Cert.NormBwdIdeal.Gen.frame m ρ, fun m ρ _ => Cert.NormBwdIdeal.Gen.frame m ρ,
    Cert.NormBwdIdeal.Final.frame_ref, Cert.NormBwdIdeal.Final.frame_ref_pre, fun m ρ _ => Cert.GateBwd.Gen.frame m ρ,
    fun m ρ _ => Cert.GateBwdIdeal.Gen.frame m ρ, Cert.GateBwdIdeal.Final.frame_ref, fun m ρ _ => Cert.Loss.Gen.frame m ρ,
    fun m ρ _ => Cert.LossIdeal.Gen.frame m ρ, fun m ρ _ => Cert.LossIdeal.Gen.frame m ρ, Cert.LossIdeal.Final.frame_ref,
    Cert.LossIdeal.Final.frame_ref_pre, fun m ρ _ => Cert.ScBwd.Gen.frame m ρ, fun m ρ _ => Cert.ScBwdIdeal.Gen.frame m ρ,
    Cert.ScBwdIdeal.Final.frame_ref, Cert.AdaDw.Final.frame, Cert.AdaDwIdeal.Final.frame, Cert.AdaDwIdeal.Final.frame_ref,
    fun m ρ _ => Cert.ConfBwd.Run.frame m ρ, fun m ρ _ => Cert.ConfBwdIdeal.Run.frame m ρ, fun m ρ _ => Cert.ConfBwdIdeal.Run.frame m ρ,
    Cert.ConfBwdIdeal.Final.frame_ref, Cert.ConfBwdIdeal.Final.frame_ref_pre, fun m ρ _ => Cert.NormFwd.Gen.frame m ρ,
    fun m ρ _ => Cert.NormFwdIdeal.Gen.frame m ρ, Cert.NormFwdIdeal.Final.frame_ref, fun m ρ _ => Cert.MixFwd.Gen.frame m ρ,
    fun m ρ _ => Cert.MixFwdIdeal.Gen.frame m ρ, Cert.MixFwdIdeal.Final.frame_ref, fun m ρ _ => Cert.ScFwd.Gen.frame m ρ,
    fun m ρ _ => Cert.ScFwdIdeal.Gen.frame m ρ, Cert.ScFwdIdeal.Final.frame_ref, fun m ρ _ => Cert.SsdPreFwd.Gen.frame m ρ,
    fun m ρ _ => Cert.SsdPreFwdIdeal.Gen.frame m ρ, Cert.SsdPreFwdIdeal.Final.frame_ref, trivial, algebraic, trivial, Cert.ProjFwdIdeal.Final.algebraic,
    trivial, Cert.ProjDxIdeal.Final.algebraic, trivial, Cert.ProjDwIdeal.Final.algebraic, trivial, Cert.UpFwdIdeal.Final.algebraic, trivial,
    Cert.UpDxIdeal.Final.algebraic, trivial, Cert.UpDwIdeal.Final.algebraic, trivial, Cert.DownFwdIdeal.Final.algebraic, trivial,
    Cert.DownDxIdeal.Final.algebraic, trivial, Cert.DownDwIdeal.Final.algebraic, trivial, Cert.OutDwIdeal.Final.algebraic, trivial,
    Cert.BranchDwIdeal.Final.algebraic, Cert.AdamAdaIdeal.Final.preserves, Cert.AdamAdaIdeal.Final.algebraic, Cert.AdamUpIdeal.Final.preserves,
    Cert.AdamUpIdeal.Final.algebraic, Cert.AdamBranchIdeal.Final.preserves, Cert.AdamBranchIdeal.Final.algebraic, Cert.AdamOutIdeal.Final.preserves,
    Cert.AdamOutIdeal.Final.algebraic, Cert.AdamDownIdeal.Final.preserves, Cert.AdamDownIdeal.Final.algebraic, Cert.AdamInIdeal.Final.preserves,
    Cert.AdamInIdeal.Final.algebraic, Cert.AdamVecIdeal.Final.preserves, Cert.AdamVecIdeal.Final.algebraic, Cert.AdamBiasIdeal.Final.preserves,
    Cert.AdamBiasIdeal.Final.algebraic, Cert.AdamConvIdeal.Final.preserves, Cert.AdamConvIdeal.Final.algebraic, trivial,
    Cert.NormBwdIdeal.Final.algebraic, trivial, Cert.GateBwdIdeal.Final.algebraic, trivial, Cert.LossIdeal.Final.algebraic, trivial,
    Cert.ScBwdIdeal.Final.algebraic, trivial, Cert.AdaDwIdeal.Final.algebraic, trivial, Cert.ConfBwdIdeal.Final.algebraic, trivial,
    Cert.NormFwdIdeal.Final.algebraic, trivial, Cert.MixFwdIdeal.Final.algebraic, trivial, Cert.ScFwdIdeal.Final.algebraic, trivial,
    Cert.SsdPreFwdIdeal.Final.algebraic⟩

end Cert.Proof

end
